-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def Pre_Experts [hPre_in_range : Cert.Pre_in_range.Facts] (m : (ℓ : Loc Cert.Experts.nD Cert.Experts.τ Cert.Experts.sig) → Buf (Elt Bits) ℓ) : Prop :=
  ∀ c : Dev Cert.Experts.nD,
    (Cert.Pre_in_range.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6))) = (fun _ => 1#1)

def Pre_ExpertsIdeal [hPre_in_range : Cert.Pre_in_range.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_in_range.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))) = (fun _ => 1#1)

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_ExpertsReferenceIdeal_in_range [hPre_in_range : Cert.Pre_in_range.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_in_range.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5)) (m ((c.tc : Thread Cert.ExpertsReferenceIdeal.nD Cert.ExpertsReferenceIdeal.τ).loc Cert.ExpertsReferenceIdeal.main_arg6))) = (fun _ => 1#1)

def Pre_QProj (m : (ℓ : Loc Cert.QProj.nD Cert.QProj.τ Cert.QProj.sig) → Buf (Elt Bits) ℓ) : Prop :=
  True

def Pre_QProjIdeal (m : (ℓ : Loc Cert.QProjIdeal.nD Cert.QProjIdeal.τ Cert.QProjIdeal.sig) → Buf (Elt Ideal) ℓ) : Prop :=
  True

def Pre_QProjIdeal_finite_queries [hPre_finite_queries : Cert.Pre_finite_queries.Facts] (m : (ℓ : Loc Cert.QProjIdeal.nD Cert.QProjIdeal.τ Cert.QProjIdeal.sig) → Buf (Elt Ideal) ℓ) : Prop :=
  ∀ c : Dev Cert.QProjIdeal.nD,
    (Cert.Pre_finite_queries.fn (F := Ideal) (m ((c.tc : Thread Cert.QProjIdeal.nD Cert.QProjIdeal.τ).loc Cert.QProjIdeal.main_arg0)) (m ((c.tc : Thread Cert.QProjIdeal.nD Cert.QProjIdeal.τ).loc Cert.QProjIdeal.main_arg1)) (m ((c.tc : Thread Cert.QProjIdeal.nD Cert.QProjIdeal.τ).loc Cert.QProjIdeal.main_arg2)) (m ((c.tc : Thread Cert.QProjIdeal.nD Cert.QProjIdeal.τ).loc Cert.QProjIdeal.main_arg3))) = (fun _ => 1#1)

def Pre_QProjReferenceIdeal (m : (ℓ : Loc Cert.QProjReferenceIdeal.nD Cert.QProjReferenceIdeal.τ Cert.QProjReferenceIdeal.sig) → Buf (Elt Ideal) ℓ) : Prop :=
  True

def Pre_QProjReferenceIdeal_finite_queries [hPre_finite_queries : Cert.Pre_finite_queries.Facts] (m : (ℓ : Loc Cert.QProjReferenceIdeal.nD Cert.QProjReferenceIdeal.τ Cert.QProjReferenceIdeal.sig) → Buf (Elt Ideal) ℓ) : Prop :=
  ∀ c : Dev Cert.QProjReferenceIdeal.nD,
    (Cert.Pre_finite_queries.fn (F := Ideal) (m ((c.tc : Thread Cert.QProjReferenceIdeal.nD Cert.QProjReferenceIdeal.τ).loc Cert.QProjReferenceIdeal.main_arg0)) (m ((c.tc : Thread Cert.QProjReferenceIdeal.nD Cert.QProjReferenceIdeal.τ).loc Cert.QProjReferenceIdeal.main_arg1)) (m ((c.tc : Thread Cert.QProjReferenceIdeal.nD Cert.QProjReferenceIdeal.τ).loc Cert.QProjReferenceIdeal.main_arg2)) (m ((c.tc : Thread Cert.QProjReferenceIdeal.nD Cert.QProjReferenceIdeal.τ).loc Cert.QProjReferenceIdeal.main_arg3))) = (fun _ => 1#1)

def Pre_KvProj (m : (ℓ : Loc Cert.KvProj.nD Cert.KvProj.τ Cert.KvProj.sig) → Buf (Elt Bits) ℓ) : Prop :=
  True

def Pre_KvProjIdeal (m : (ℓ : Loc Cert.KvProjIdeal.nD Cert.KvProjIdeal.τ Cert.KvProjIdeal.sig) → Buf (Elt Ideal) ℓ) : Prop :=
  True

def Pre_KvProjReferenceIdeal (m : (ℓ : Loc Cert.KvProjReferenceIdeal.nD Cert.KvProjReferenceIdeal.τ Cert.KvProjReferenceIdeal.sig) → Buf (Elt Ideal) ℓ) : Prop :=
  True

def Pre_ChunkMix (m : (ℓ : Loc Cert.ChunkMix.nD Cert.ChunkMix.τ Cert.ChunkMix.sig) → Buf (Elt Bits) ℓ) : Prop :=
  True

def Pre_ChunkMixIdeal (m : (ℓ : Loc Cert.ChunkMixIdeal.nD Cert.ChunkMixIdeal.τ Cert.ChunkMixIdeal.sig) → Buf (Elt Ideal) ℓ) : Prop :=
  True

def Pre_ChunkMixReferenceIdeal (m : (ℓ : Loc Cert.ChunkMixReferenceIdeal.nD Cert.ChunkMixReferenceIdeal.τ Cert.ChunkMixReferenceIdeal.sig) → Buf (Elt Ideal) ℓ) : Prop :=
  True

def Pre_Adaln (m : (ℓ : Loc Cert.Adaln.nD Cert.Adaln.τ Cert.Adaln.sig) → Buf (Elt Bits) ℓ) : Prop :=
  True

def Pre_AdalnIdeal (m : (ℓ : Loc Cert.AdalnIdeal.nD Cert.AdalnIdeal.τ Cert.AdalnIdeal.sig) → Buf (Elt Ideal) ℓ) : Prop :=
  True

def Pre_AdalnReferenceIdeal (m : (ℓ : Loc Cert.AdalnReferenceIdeal.nD Cert.AdalnReferenceIdeal.τ Cert.AdalnReferenceIdeal.sig) → Buf (Elt Ideal) ℓ) : Prop :=
  True

def Pre_DftCh (m : (ℓ : Loc Cert.DftCh.nD Cert.DftCh.τ Cert.DftCh.sig) → Buf (Elt Bits) ℓ) : Prop :=
  True

def Pre_DftChIdeal (m : (ℓ : Loc Cert.DftChIdeal.nD Cert.DftChIdeal.τ Cert.DftChIdeal.sig) → Buf (Elt Ideal) ℓ) : Prop :=
  True

def Pre_DftChReferenceIdeal (m : (ℓ : Loc Cert.DftChReferenceIdeal.nD Cert.DftChReferenceIdeal.τ Cert.DftChReferenceIdeal.sig) → Buf (Elt Ideal) ℓ) : Prop :=
  True

def Pre_DftPos (m : (ℓ : Loc Cert.DftPos.nD Cert.DftPos.τ Cert.DftPos.sig) → Buf (Elt Bits) ℓ) : Prop :=
  True

def Pre_DftPosIdeal (m : (ℓ : Loc Cert.DftPosIdeal.nD Cert.DftPosIdeal.τ Cert.DftPosIdeal.sig) → Buf (Elt Ideal) ℓ) : Prop :=
  True

def Pre_DftPosReferenceIdeal (m : (ℓ : Loc Cert.DftPosReferenceIdeal.nD Cert.DftPosReferenceIdeal.τ Cert.DftPosReferenceIdeal.sig) → Buf (Elt Ideal) ℓ) : Prop :=
  True

def Pre_DftCtx (m : (ℓ : Loc Cert.DftCtx.nD Cert.DftCtx.τ Cert.DftCtx.sig) → Buf (Elt Bits) ℓ) : Prop :=
  True

def Pre_DftCtxIdeal (m : (ℓ : Loc Cert.DftCtxIdeal.nD Cert.DftCtxIdeal.τ Cert.DftCtxIdeal.sig) → Buf (Elt Ideal) ℓ) : Prop :=
  True

def Pre_DftCtxReferenceIdeal (m : (ℓ : Loc Cert.DftCtxReferenceIdeal.nD Cert.DftCtxReferenceIdeal.τ Cert.DftCtxReferenceIdeal.sig) → Buf (Elt Ideal) ℓ) : Prop :=
  True

def Pre_Modulate (m : (ℓ : Loc Cert.Modulate.nD Cert.Modulate.τ Cert.Modulate.sig) → Buf (Elt Bits) ℓ) : Prop :=
  True

def Pre_ModulateIdeal (m : (ℓ : Loc Cert.ModulateIdeal.nD Cert.ModulateIdeal.τ Cert.ModulateIdeal.sig) → Buf (Elt Ideal) ℓ) : Prop :=
  True

def Pre_ModulateReferenceIdeal (m : (ℓ : Loc Cert.ModulateReferenceIdeal.nD Cert.ModulateReferenceIdeal.τ Cert.ModulateReferenceIdeal.sig) → Buf (Elt Ideal) ℓ) : Prop :=
  True

def Pre_ResidLn (m : (ℓ : Loc Cert.ResidLn.nD Cert.ResidLn.τ Cert.ResidLn.sig) → Buf (Elt Bits) ℓ) : Prop :=
  True

def Pre_ResidLnIdeal (m : (ℓ : Loc Cert.ResidLnIdeal.nD Cert.ResidLnIdeal.τ Cert.ResidLnIdeal.sig) → Buf (Elt Ideal) ℓ) : Prop :=
  True

def Pre_ResidLnReferenceIdeal (m : (ℓ : Loc Cert.ResidLnReferenceIdeal.nD Cert.ResidLnReferenceIdeal.τ Cert.ResidLnReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1)
      ∧ r.2.mem ((c.tc : Thread Cert.OutProjReferenceIdeal.nD Cert.OutProjReferenceIdeal.τ).loc Cert.OutProjReferenceIdeal.main_arg2) = m ((c.tc : Thread Cert.OutProjReferenceIdeal.nD Cert.OutProjReferenceIdeal.τ).loc Cert.OutProjReferenceIdeal.main_arg2)
      ∧ r.2.mem ((c.tc : Thread Cert.OutProjReferenceIdeal.nD Cert.OutProjReferenceIdeal.τ).loc Cert.OutProjReferenceIdeal.main_arg3) = m ((c.tc : Thread Cert.OutProjReferenceIdeal.nD Cert.OutProjReferenceIdeal.τ).loc Cert.OutProjReferenceIdeal.main_arg3))
      ∧ r.2.sem = fun _ => 0)

def quiescent_Experts [hExperts : Cert.Experts.Facts] [hPre_in_range : Cert.Pre_in_range.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6))
      ∧ r.2.sem = fun _ => 0)

def quiescent_ExpertsIdeal [hExpertsIdeal : Cert.ExpertsIdeal.Facts] [hPre_in_range : Cert.Pre_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6))
      ∧ r.2.sem = fun _ => 0)

def quiescent_ExpertsReferenceIdeal_pre_in_range [hExpertsReferenceIdeal : Cert.ExpertsReferenceIdeal.Facts] [hPre_in_range : Cert.Pre_in_range.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal_in_range m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6))
      ∧ r.2.sem = fun _ => 0)

def quiescent_QProj [hQProj : Cert.QProj.Facts] : Prop :=
  ∀ (m : (ℓ : Loc Cert.QProj.nD Cert.QProj.τ Cert.QProj.sig) → Buf (Elt Bits) ℓ) (g : Dev Cert.QProj.nD → PrngReg), Pre_QProj m →
    θ_run (Cert.QProj.defs (F := Bits)) (onTc (τ := Cert.QProj.τ) (Cert.QProj.main (F := Bits))) ⟨m, fun _ => 0, g⟩ (fun r => (∀ c : Dev Cert.QProj.nD,
      r.2.mem ((c.tc : Thread Cert.QProj.nD Cert.QProj.τ).loc Cert.QProj.main_arg0) = m ((c.tc : Thread Cert.QProj.nD Cert.QProj.τ).loc Cert.QProj.main_arg0)
      ∧ r.2.mem ((c.tc : Thread Cert.QProj.nD Cert.QProj.τ).loc Cert.QProj.main_arg1) = m ((c.tc : Thread Cert.QProj.nD Cert.QProj.τ).loc Cert.QProj.main_arg1)
      ∧ r.2.mem ((c.tc : Thread Cert.QProj.nD Cert.QProj.τ).loc Cert.QProj.main_arg2) = m ((c.tc : Thread Cert.QProj.nD Cert.QProj.τ).loc Cert.QProj.main_arg2)
      ∧ r.2.mem ((c.tc : Thread Cert.QProj.nD Cert.QProj.τ).loc Cert.QProj.main_arg3) = m ((c.tc : Thread Cert.QProj.nD Cert.QProj.τ).loc Cert.QProj.main_arg3))
      ∧ r.2.sem = fun _ => 0)

def quiescent_QProjIdeal [hQProjIdeal : Cert.QProjIdeal.Facts] : Prop :=
  ∀ (m : (ℓ : Loc Cert.QProjIdeal.nD Cert.QProjIdeal.τ Cert.QProjIdeal.sig) → Buf (Elt Ideal) ℓ) (g : Dev Cert.QProjIdeal.nD → PrngReg), Pre_QProjIdeal m →
    θ_run (Cert.QProjIdeal.defs (F := Ideal)) (onTc (τ := Cert.QProjIdeal.τ) (Cert.QProjIdeal.main (F := Ideal))) ⟨m, fun _ => 0, g⟩ (fun r => (∀ c : Dev Cert.QProjIdeal.nD,
      r.2.mem ((c.tc : Thread Cert.QProjIdeal.nD Cert.QProjIdeal.τ).loc Cert.QProjIdeal.main_arg0) = m ((c.tc : Thread Cert.QProjIdeal.nD Cert.QProjIdeal.τ).loc Cert.QProjIdeal.main_arg0)
      ∧ r.2.mem ((c.tc : Thread Cert.QProjIdeal.nD Cert.QProjIdeal.τ).loc Cert.QProjIdeal.main_arg1) = m ((c.tc : Thread Cert.QProjIdeal.nD Cert.QProjIdeal.τ).loc Cert.QProjIdeal.main_arg1)
      ∧ r.2.mem ((c.tc : Thread Cert.QProjIdeal.nD Cert.QProjIdeal.τ).loc Cert.QProjIdeal.main_arg2) = m ((c.tc : Thread Cert.QProjIdeal.nD Cert.QProjIdeal.τ).loc Cert.QProjIdeal.main_arg2)
      ∧ r.2.mem ((c.tc : Thread Cert.QProjIdeal.nD Cert.QProjIdeal.τ).loc Cert.QProjIdeal.main_arg3) = m ((c.tc : Thread Cert.QProjIdeal.nD Cert.QProjIdeal.τ).loc Cert.QProjIdeal.main_arg3))
      ∧ r.2.sem = fun _ => 0)

def quiescent_QProjIdeal_pre_finite_queries [hQProjIdeal : Cert.QProjIdeal.Facts] [hPre_finite_queries : Cert.Pre_finite_queries.Facts] : Prop :=
  ∀ (m : (ℓ : Loc Cert.QProjIdeal.nD Cert.QProjIdeal.τ Cert.QProjIdeal.sig) → Buf (Elt Ideal) ℓ) (g : Dev Cert.QProjIdeal.nD → PrngReg), Pre_QProjIdeal_finite_queries m →
    θ_run (Cert.QProjIdeal.defs (F := Ideal)) (onTc (τ := Cert.QProjIdeal.τ) (Cert.QProjIdeal.main (F := Ideal))) ⟨m, fun _ => 0, g⟩ (fun r => (∀ c : Dev Cert.QProjIdeal.nD,
      r.2.mem ((c.tc : Thread Cert.QProjIdeal.nD Cert.QProjIdeal.τ).loc Cert.QProjIdeal.main_arg0) = m ((c.tc : Thread Cert.QProjIdeal.nD Cert.QProjIdeal.τ).loc Cert.QProjIdeal.main_arg0)
      ∧ r.2.mem ((c.tc : Thread Cert.QProjIdeal.nD Cert.QProjIdeal.τ).loc Cert.QProjIdeal.main_arg1) = m ((c.tc : Thread Cert.QProjIdeal.nD Cert.QProjIdeal.τ).loc Cert.QProjIdeal.main_arg1)
      ∧ r.2.mem ((c.tc : Thread Cert.QProjIdeal.nD Cert.QProjIdeal.τ).loc Cert.QProjIdeal.main_arg2) = m ((c.tc : Thread Cert.QProjIdeal.nD Cert.QProjIdeal.τ).loc Cert.QProjIdeal.main_arg2)
      ∧ r.2.mem ((c.tc : Thread Cert.QProjIdeal.nD Cert.QProjIdeal.τ).loc Cert.QProjIdeal.main_arg3) = m ((c.tc : Thread Cert.QProjIdeal.nD Cert.QProjIdeal.τ).loc Cert.QProjIdeal.main_arg3))
      ∧ r.2.sem = fun _ => 0)

def quiescent_QProjReferenceIdeal [hQProjReferenceIdeal : Cert.QProjReferenceIdeal.Facts] : Prop :=
  ∀ (m : (ℓ : Loc Cert.QProjReferenceIdeal.nD Cert.QProjReferenceIdeal.τ Cert.QProjReferenceIdeal.sig) → Buf (Elt Ideal) ℓ) (g : Dev Cert.QProjReferenceIdeal.nD → PrngReg), Pre_QProjReferenceIdeal m →
    θ_run (Cert.QProjReferenceIdeal.defs (F := Ideal)) (onTc (τ := Cert.QProjReferenceIdeal.τ) (Cert.QProjReferenceIdeal.main (F := Ideal))) ⟨m, fun _ => 0, g⟩ (fun r => (∀ c : Dev Cert.QProjReferenceIdeal.nD,
      r.2.mem ((c.tc : Thread Cert.QProjReferenceIdeal.nD Cert.QProjReferenceIdeal.τ).loc Cert.QProjReferenceIdeal.main_arg0) = m ((c.tc : Thread Cert.QProjReferenceIdeal.nD Cert.QProjReferenceIdeal.τ).loc Cert.QProjReferenceIdeal.main_arg0)
      ∧ r.2.mem ((c.tc : Thread Cert.QProjReferenceIdeal.nD Cert.QProjReferenceIdeal.τ).loc Cert.QProjReferenceIdeal.main_arg1) = m ((c.tc : Thread Cert.QProjReferenceIdeal.nD Cert.QProjReferenceIdeal.τ).loc Cert.QProjReferenceIdeal.main_arg1)
      ∧ r.2.mem ((c.tc : Thread Cert.QProjReferenceIdeal.nD Cert.QProjReferenceIdeal.τ).loc Cert.QProjReferenceIdeal.main_arg2) = m ((c.tc : Thread Cert.QProjReferenceIdeal.nD Cert.QProjReferenceIdeal.τ).loc Cert.QProjReferenceIdeal.main_arg2)
      ∧ r.2.mem ((c.tc : Thread Cert.QProjReferenceIdeal.nD Cert.QProjReferenceIdeal.τ).loc Cert.QProjReferenceIdeal.main_arg3) = m ((c.tc : Thread Cert.QProjReferenceIdeal.nD Cert.QProjReferenceIdeal.τ).loc Cert.QProjReferenceIdeal.main_arg3))
      ∧ r.2.sem = fun _ => 0)

def quiescent_QProjReferenceIdeal_pre_finite_queries [hQProjReferenceIdeal : Cert.QProjReferenceIdeal.Facts] [hPre_finite_queries : Cert.Pre_finite_queries.Facts] : Prop :=
  ∀ (m : (ℓ : Loc Cert.QProjReferenceIdeal.nD Cert.QProjReferenceIdeal.τ Cert.QProjReferenceIdeal.sig) → Buf (Elt Ideal) ℓ) (g : Dev Cert.QProjReferenceIdeal.nD → PrngReg), Pre_QProjReferenceIdeal_finite_queries m →
    θ_run (Cert.QProjReferenceIdeal.defs (F := Ideal)) (onTc (τ := Cert.QProjReferenceIdeal.τ) (Cert.QProjReferenceIdeal.main (F := Ideal))) ⟨m, fun _ => 0, g⟩ (fun r => (∀ c : Dev Cert.QProjReferenceIdeal.nD,
      r.2.mem ((c.tc : Thread Cert.QProjReferenceIdeal.nD Cert.QProjReferenceIdeal.τ).loc Cert.QProjReferenceIdeal.main_arg0) = m ((c.tc : Thread Cert.QProjReferenceIdeal.nD Cert.QProjReferenceIdeal.τ).loc Cert.QProjReferenceIdeal.main_arg0)
      ∧ r.2.mem ((c.tc : Thread Cert.QProjReferenceIdeal.nD Cert.QProjReferenceIdeal.τ).loc Cert.QProjReferenceIdeal.main_arg1) = m ((c.tc : Thread Cert.QProjReferenceIdeal.nD Cert.QProjReferenceIdeal.τ).loc Cert.QProjReferenceIdeal.main_arg1)
      ∧ r.2.mem ((c.tc : Thread Cert.QProjReferenceIdeal.nD Cert.QProjReferenceIdeal.τ).loc Cert.QProjReferenceIdeal.main_arg2) = m ((c.tc : Thread Cert.QProjReferenceIdeal.nD Cert.QProjReferenceIdeal.τ).loc Cert.QProjReferenceIdeal.main_arg2)
      ∧ r.2.mem ((c.tc : Thread Cert.QProjReferenceIdeal.nD Cert.QProjReferenceIdeal.τ).loc Cert.QProjReferenceIdeal.main_arg3) = m ((c.tc : Thread Cert.QProjReferenceIdeal.nD Cert.QProjReferenceIdeal.τ).loc Cert.QProjReferenceIdeal.main_arg3))
      ∧ r.2.sem = fun _ => 0)

def quiescent_KvProj [hKvProj : Cert.KvProj.Facts] : Prop :=
  ∀ (m : (ℓ : Loc Cert.KvProj.nD Cert.KvProj.τ Cert.KvProj.sig) → Buf (Elt Bits) ℓ) (g : Dev Cert.KvProj.nD → PrngReg), Pre_KvProj m →
    θ_run (Cert.KvProj.defs (F := Bits)) (onTc (τ := Cert.KvProj.τ) (Cert.KvProj.main (F := Bits))) ⟨m, fun _ => 0, g⟩ (fun r => (∀ c : Dev Cert.KvProj.nD,
      r.2.mem ((c.tc : Thread Cert.KvProj.nD Cert.KvProj.τ).loc Cert.KvProj.main_arg0) = m ((c.tc : Thread Cert.KvProj.nD Cert.KvProj.τ).loc Cert.KvProj.main_arg0)
      ∧ r.2.mem ((c.tc : Thread Cert.KvProj.nD Cert.KvProj.τ).loc Cert.KvProj.main_arg1) = m ((c.tc : Thread Cert.KvProj.nD Cert.KvProj.τ).loc Cert.KvProj.main_arg1)
      ∧ r.2.mem ((c.tc : Thread Cert.KvProj.nD Cert.KvProj.τ).loc Cert.KvProj.main_arg2) = m ((c.tc : Thread Cert.KvProj.nD Cert.KvProj.τ).loc Cert.KvProj.main_arg2)
      ∧ r.2.mem ((c.tc : Thread Cert.KvProj.nD Cert.KvProj.τ).loc Cert.KvProj.main_arg3) = m ((c.tc : Thread Cert.KvProj.nD Cert.KvProj.τ).loc Cert.KvProj.main_arg3))
      ∧ r.2.sem = fun _ => 0)

def quiescent_KvProjIdeal [hKvProjIdeal : Cert.KvProjIdeal.Facts] : Prop :=
  ∀ (m : (ℓ : Loc Cert.KvProjIdeal.nD Cert.KvProjIdeal.τ Cert.KvProjIdeal.sig) → Buf (Elt Ideal) ℓ) (g : Dev Cert.KvProjIdeal.nD → PrngReg), Pre_KvProjIdeal m →
    θ_run (Cert.KvProjIdeal.defs (F := Ideal)) (onTc (τ := Cert.KvProjIdeal.τ) (Cert.KvProjIdeal.main (F := Ideal))) ⟨m, fun _ => 0, g⟩ (fun r => (∀ c : Dev Cert.KvProjIdeal.nD,
      r.2.mem ((c.tc : Thread Cert.KvProjIdeal.nD Cert.KvProjIdeal.τ).loc Cert.KvProjIdeal.main_arg0) = m ((c.tc : Thread Cert.KvProjIdeal.nD Cert.KvProjIdeal.τ).loc Cert.KvProjIdeal.main_arg0)
      ∧ r.2.mem ((c.tc : Thread Cert.KvProjIdeal.nD Cert.KvProjIdeal.τ).loc Cert.KvProjIdeal.main_arg1) = m ((c.tc : Thread Cert.KvProjIdeal.nD Cert.KvProjIdeal.τ).loc Cert.KvProjIdeal.main_arg1)
      ∧ r.2.mem ((c.tc : Thread Cert.KvProjIdeal.nD Cert.KvProjIdeal.τ).loc Cert.KvProjIdeal.main_arg2) = m ((c.tc : Thread Cert.KvProjIdeal.nD Cert.KvProjIdeal.τ).loc Cert.KvProjIdeal.main_arg2)
      ∧ r.2.mem ((c.tc : Thread Cert.KvProjIdeal.nD Cert.KvProjIdeal.τ).loc Cert.KvProjIdeal.main_arg3) = m ((c.tc : Thread Cert.KvProjIdeal.nD Cert.KvProjIdeal.τ).loc Cert.KvProjIdeal.main_arg3))
      ∧ r.2.sem = fun _ => 0)

def quiescent_KvProjReferenceIdeal [hKvProjReferenceIdeal : Cert.KvProjReferenceIdeal.Facts] : Prop :=
  ∀ (m : (ℓ : Loc Cert.KvProjReferenceIdeal.nD Cert.KvProjReferenceIdeal.τ Cert.KvProjReferenceIdeal.sig) → Buf (Elt Ideal) ℓ) (g : Dev Cert.KvProjReferenceIdeal.nD → PrngReg), Pre_KvProjReferenceIdeal m →
    θ_run (Cert.KvProjReferenceIdeal.defs (F := Ideal)) (onTc (τ := Cert.KvProjReferenceIdeal.τ) (Cert.KvProjReferenceIdeal.main (F := Ideal))) ⟨m, fun _ => 0, g⟩ (fun r => (∀ c : Dev Cert.KvProjReferenceIdeal.nD,
      r.2.mem ((c.tc : Thread Cert.KvProjReferenceIdeal.nD Cert.KvProjReferenceIdeal.τ).loc Cert.KvProjReferenceIdeal.main_arg0) = m ((c.tc : Thread Cert.KvProjReferenceIdeal.nD Cert.KvProjReferenceIdeal.τ).loc Cert.KvProjReferenceIdeal.main_arg0)
      ∧ r.2.mem ((c.tc : Thread Cert.KvProjReferenceIdeal.nD Cert.KvProjReferenceIdeal.τ).loc Cert.KvProjReferenceIdeal.main_arg1) = m ((c.tc : Thread Cert.KvProjReferenceIdeal.nD Cert.KvProjReferenceIdeal.τ).loc Cert.KvProjReferenceIdeal.main_arg1)
      ∧ r.2.mem ((c.tc : Thread Cert.KvProjReferenceIdeal.nD Cert.KvProjReferenceIdeal.τ).loc Cert.KvProjReferenceIdeal.main_arg2) = m ((c.tc : Thread Cert.KvProjReferenceIdeal.nD Cert.KvProjReferenceIdeal.τ).loc Cert.KvProjReferenceIdeal.main_arg2)
      ∧ r.2.mem ((c.tc : Thread Cert.KvProjReferenceIdeal.nD Cert.KvProjReferenceIdeal.τ).loc Cert.KvProjReferenceIdeal.main_arg3) = m ((c.tc : Thread Cert.KvProjReferenceIdeal.nD Cert.KvProjReferenceIdeal.τ).loc Cert.KvProjReferenceIdeal.main_arg3))
      ∧ r.2.sem = fun _ => 0)

def quiescent_ChunkMix [hChunkMix : Cert.ChunkMix.Facts] : Prop :=
  ∀ (m : (ℓ : Loc Cert.ChunkMix.nD Cert.ChunkMix.τ Cert.ChunkMix.sig) → Buf (Elt Bits) ℓ) (g : Dev Cert.ChunkMix.nD → PrngReg), Pre_ChunkMix m →
    θ_run (Cert.ChunkMix.defs (F := Bits)) (onTc (τ := Cert.ChunkMix.τ) (Cert.ChunkMix.main (F := Bits))) ⟨m, fun _ => 0, g⟩ (fun r => (∀ c : Dev Cert.ChunkMix.nD,
      r.2.mem ((c.tc : Thread Cert.ChunkMix.nD Cert.ChunkMix.τ).loc Cert.ChunkMix.main_arg0) = m ((c.tc : Thread Cert.ChunkMix.nD Cert.ChunkMix.τ).loc Cert.ChunkMix.main_arg0)
      ∧ r.2.mem ((c.tc : Thread Cert.ChunkMix.nD Cert.ChunkMix.τ).loc Cert.ChunkMix.main_arg1) = m ((c.tc : Thread Cert.ChunkMix.nD Cert.ChunkMix.τ).loc Cert.ChunkMix.main_arg1)
      ∧ r.2.mem ((c.tc : Thread Cert.ChunkMix.nD Cert.ChunkMix.τ).loc Cert.ChunkMix.main_arg2) = m ((c.tc : Thread Cert.ChunkMix.nD Cert.ChunkMix.τ).loc Cert.ChunkMix.main_arg2))
      ∧ r.2.sem = fun _ => 0)

def quiescent_ChunkMixIdeal [hChunkMixIdeal : Cert.ChunkMixIdeal.Facts] : Prop :=
  ∀ (m : (ℓ : Loc Cert.ChunkMixIdeal.nD Cert.ChunkMixIdeal.τ Cert.ChunkMixIdeal.sig) → Buf (Elt Ideal) ℓ) (g : Dev Cert.ChunkMixIdeal.nD → PrngReg), Pre_ChunkMixIdeal m →
    θ_run (Cert.ChunkMixIdeal.defs (F := Ideal)) (onTc (τ := Cert.ChunkMixIdeal.τ) (Cert.ChunkMixIdeal.main (F := Ideal))) ⟨m, fun _ => 0, g⟩ (fun r => (∀ c : Dev Cert.ChunkMixIdeal.nD,
      r.2.mem ((c.tc : Thread Cert.ChunkMixIdeal.nD Cert.ChunkMixIdeal.τ).loc Cert.ChunkMixIdeal.main_arg0) = m ((c.tc : Thread Cert.ChunkMixIdeal.nD Cert.ChunkMixIdeal.τ).loc Cert.ChunkMixIdeal.main_arg0)
      ∧ r.2.mem ((c.tc : Thread Cert.ChunkMixIdeal.nD Cert.ChunkMixIdeal.τ).loc Cert.ChunkMixIdeal.main_arg1) = m ((c.tc : Thread Cert.ChunkMixIdeal.nD Cert.ChunkMixIdeal.τ).loc Cert.ChunkMixIdeal.main_arg1)
      ∧ r.2.mem ((c.tc : Thread Cert.ChunkMixIdeal.nD Cert.ChunkMixIdeal.τ).loc Cert.ChunkMixIdeal.main_arg2) = m ((c.tc : Thread Cert.ChunkMixIdeal.nD Cert.ChunkMixIdeal.τ).loc Cert.ChunkMixIdeal.main_arg2))
      ∧ r.2.sem = fun _ => 0)

def quiescent_ChunkMixReferenceIdeal [hChunkMixReferenceIdeal : Cert.ChunkMixReferenceIdeal.Facts] : Prop :=
  ∀ (m : (ℓ : Loc Cert.ChunkMixReferenceIdeal.nD Cert.ChunkMixReferenceIdeal.τ Cert.ChunkMixReferenceIdeal.sig) → Buf (Elt Ideal) ℓ) (g : Dev Cert.ChunkMixReferenceIdeal.nD → PrngReg), Pre_ChunkMixReferenceIdeal m →
    θ_run (Cert.ChunkMixReferenceIdeal.defs (F := Ideal)) (onTc (τ := Cert.ChunkMixReferenceIdeal.τ) (Cert.ChunkMixReferenceIdeal.main (F := Ideal))) ⟨m, fun _ => 0, g⟩ (fun r => (∀ c : Dev Cert.ChunkMixReferenceIdeal.nD,
      r.2.mem ((c.tc : Thread Cert.ChunkMixReferenceIdeal.nD Cert.ChunkMixReferenceIdeal.τ).loc Cert.ChunkMixReferenceIdeal.main_arg0) = m ((c.tc : Thread Cert.ChunkMixReferenceIdeal.nD Cert.ChunkMixReferenceIdeal.τ).loc Cert.ChunkMixReferenceIdeal.main_arg0)
      ∧ r.2.mem ((c.tc : Thread Cert.ChunkMixReferenceIdeal.nD Cert.ChunkMixReferenceIdeal.τ).loc Cert.ChunkMixReferenceIdeal.main_arg1) = m ((c.tc : Thread Cert.ChunkMixReferenceIdeal.nD Cert.ChunkMixReferenceIdeal.τ).loc Cert.ChunkMixReferenceIdeal.main_arg1)
      ∧ r.2.mem ((c.tc : Thread Cert.ChunkMixReferenceIdeal.nD Cert.ChunkMixReferenceIdeal.τ).loc Cert.ChunkMixReferenceIdeal.main_arg2) = m ((c.tc : Thread Cert.ChunkMixReferenceIdeal.nD Cert.ChunkMixReferenceIdeal.τ).loc Cert.ChunkMixReferenceIdeal.main_arg2))
      ∧ r.2.sem = fun _ => 0)

def quiescent_Adaln [hAdaln : Cert.Adaln.Facts] : Prop :=
  ∀ (m : (ℓ : Loc Cert.Adaln.nD Cert.Adaln.τ Cert.Adaln.sig) → Buf (Elt Bits) ℓ) (g : Dev Cert.Adaln.nD → PrngReg), Pre_Adaln m →
    θ_run (Cert.Adaln.defs (F := Bits)) (onTc (τ := Cert.Adaln.τ) (Cert.Adaln.main (F := Bits))) ⟨m, fun _ => 0, g⟩ (fun r => (∀ c : Dev Cert.Adaln.nD,
      r.2.mem ((c.tc : Thread Cert.Adaln.nD Cert.Adaln.τ).loc Cert.Adaln.main_arg0) = m ((c.tc : Thread Cert.Adaln.nD Cert.Adaln.τ).loc Cert.Adaln.main_arg0)
      ∧ r.2.mem ((c.tc : Thread Cert.Adaln.nD Cert.Adaln.τ).loc Cert.Adaln.main_arg1) = m ((c.tc : Thread Cert.Adaln.nD Cert.Adaln.τ).loc Cert.Adaln.main_arg1)
      ∧ r.2.mem ((c.tc : Thread Cert.Adaln.nD Cert.Adaln.τ).loc Cert.Adaln.main_arg2) = m ((c.tc : Thread Cert.Adaln.nD Cert.Adaln.τ).loc Cert.Adaln.main_arg2))
      ∧ r.2.sem = fun _ => 0)

def quiescent_AdalnIdeal [hAdalnIdeal : Cert.AdalnIdeal.Facts] : Prop :=
  ∀ (m : (ℓ : Loc Cert.AdalnIdeal.nD Cert.AdalnIdeal.τ Cert.AdalnIdeal.sig) → Buf (Elt Ideal) ℓ) (g : Dev Cert.AdalnIdeal.nD → PrngReg), Pre_AdalnIdeal m →
    θ_run (Cert.AdalnIdeal.defs (F := Ideal)) (onTc (τ := Cert.AdalnIdeal.τ) (Cert.AdalnIdeal.main (F := Ideal))) ⟨m, fun _ => 0, g⟩ (fun r => (∀ c : Dev Cert.AdalnIdeal.nD,
      r.2.mem ((c.tc : Thread Cert.AdalnIdeal.nD Cert.AdalnIdeal.τ).loc Cert.AdalnIdeal.main_arg0) = m ((c.tc : Thread Cert.AdalnIdeal.nD Cert.AdalnIdeal.τ).loc Cert.AdalnIdeal.main_arg0)
      ∧ r.2.mem ((c.tc : Thread Cert.AdalnIdeal.nD Cert.AdalnIdeal.τ).loc Cert.AdalnIdeal.main_arg1) = m ((c.tc : Thread Cert.AdalnIdeal.nD Cert.AdalnIdeal.τ).loc Cert.AdalnIdeal.main_arg1)
      ∧ r.2.mem ((c.tc : Thread Cert.AdalnIdeal.nD Cert.AdalnIdeal.τ).loc Cert.AdalnIdeal.main_arg2) = m ((c.tc : Thread Cert.AdalnIdeal.nD Cert.AdalnIdeal.τ).loc Cert.AdalnIdeal.main_arg2))
      ∧ r.2.sem = fun _ => 0)

def quiescent_AdalnReferenceIdeal [hAdalnReferenceIdeal : Cert.AdalnReferenceIdeal.Facts] : Prop :=
  ∀ (m : (ℓ : Loc Cert.AdalnReferenceIdeal.nD Cert.AdalnReferenceIdeal.τ Cert.AdalnReferenceIdeal.sig) → Buf (Elt Ideal) ℓ) (g : Dev Cert.AdalnReferenceIdeal.nD → PrngReg), Pre_AdalnReferenceIdeal m →
    θ_run (Cert.AdalnReferenceIdeal.defs (F := Ideal)) (onTc (τ := Cert.AdalnReferenceIdeal.τ) (Cert.AdalnReferenceIdeal.main (F := Ideal))) ⟨m, fun _ => 0, g⟩ (fun r => (∀ c : Dev Cert.AdalnReferenceIdeal.nD,
      r.2.mem ((c.tc : Thread Cert.AdalnReferenceIdeal.nD Cert.AdalnReferenceIdeal.τ).loc Cert.AdalnReferenceIdeal.main_arg0) = m ((c.tc : Thread Cert.AdalnReferenceIdeal.nD Cert.AdalnReferenceIdeal.τ).loc Cert.AdalnReferenceIdeal.main_arg0)
      ∧ r.2.mem ((c.tc : Thread Cert.AdalnReferenceIdeal.nD Cert.AdalnReferenceIdeal.τ).loc Cert.AdalnReferenceIdeal.main_arg1) = m ((c.tc : Thread Cert.AdalnReferenceIdeal.nD Cert.AdalnReferenceIdeal.τ).loc Cert.AdalnReferenceIdeal.main_arg1)
      ∧ r.2.mem ((c.tc : Thread Cert.AdalnReferenceIdeal.nD Cert.AdalnReferenceIdeal.τ).loc Cert.AdalnReferenceIdeal.main_arg2) = m ((c.tc : Thread Cert.AdalnReferenceIdeal.nD Cert.AdalnReferenceIdeal.τ).loc Cert.AdalnReferenceIdeal.main_arg2))
      ∧ r.2.sem = fun _ => 0)

def quiescent_DftCh [hDftCh : Cert.DftCh.Facts] : Prop :=
  ∀ (m : (ℓ : Loc Cert.DftCh.nD Cert.DftCh.τ Cert.DftCh.sig) → Buf (Elt Bits) ℓ) (g : Dev Cert.DftCh.nD → PrngReg), Pre_DftCh m →
    θ_run (Cert.DftCh.defs (F := Bits)) (onTc (τ := Cert.DftCh.τ) (Cert.DftCh.main (F := Bits))) ⟨m, fun _ => 0, g⟩ (fun r => (∀ c : Dev Cert.DftCh.nD,
      r.2.mem ((c.tc : Thread Cert.DftCh.nD Cert.DftCh.τ).loc Cert.DftCh.main_arg0) = m ((c.tc : Thread Cert.DftCh.nD Cert.DftCh.τ).loc Cert.DftCh.main_arg0)
      ∧ r.2.mem ((c.tc : Thread Cert.DftCh.nD Cert.DftCh.τ).loc Cert.DftCh.main_arg1) = m ((c.tc : Thread Cert.DftCh.nD Cert.DftCh.τ).loc Cert.DftCh.main_arg1))
      ∧ r.2.sem = fun _ => 0)

def quiescent_DftChIdeal [hDftChIdeal : Cert.DftChIdeal.Facts] : Prop :=
  ∀ (m : (ℓ : Loc Cert.DftChIdeal.nD Cert.DftChIdeal.τ Cert.DftChIdeal.sig) → Buf (Elt Ideal) ℓ) (g : Dev Cert.DftChIdeal.nD → PrngReg), Pre_DftChIdeal m →
    θ_run (Cert.DftChIdeal.defs (F := Ideal)) (onTc (τ := Cert.DftChIdeal.τ) (Cert.DftChIdeal.main (F := Ideal))) ⟨m, fun _ => 0, g⟩ (fun r => (∀ c : Dev Cert.DftChIdeal.nD,
      r.2.mem ((c.tc : Thread Cert.DftChIdeal.nD Cert.DftChIdeal.τ).loc Cert.DftChIdeal.main_arg0) = m ((c.tc : Thread Cert.DftChIdeal.nD Cert.DftChIdeal.τ).loc Cert.DftChIdeal.main_arg0)
      ∧ r.2.mem ((c.tc : Thread Cert.DftChIdeal.nD Cert.DftChIdeal.τ).loc Cert.DftChIdeal.main_arg1) = m ((c.tc : Thread Cert.DftChIdeal.nD Cert.DftChIdeal.τ).loc Cert.DftChIdeal.main_arg1))
      ∧ r.2.sem = fun _ => 0)

def quiescent_DftChReferenceIdeal [hDftChReferenceIdeal : Cert.DftChReferenceIdeal.Facts] : Prop :=
  ∀ (m : (ℓ : Loc Cert.DftChReferenceIdeal.nD Cert.DftChReferenceIdeal.τ Cert.DftChReferenceIdeal.sig) → Buf (Elt Ideal) ℓ) (g : Dev Cert.DftChReferenceIdeal.nD → PrngReg), Pre_DftChReferenceIdeal m →
    θ_run (Cert.DftChReferenceIdeal.defs (F := Ideal)) (onTc (τ := Cert.DftChReferenceIdeal.τ) (Cert.DftChReferenceIdeal.main (F := Ideal))) ⟨m, fun _ => 0, g⟩ (fun r => (∀ c : Dev Cert.DftChReferenceIdeal.nD,
      r.2.mem ((c.tc : Thread Cert.DftChReferenceIdeal.nD Cert.DftChReferenceIdeal.τ).loc Cert.DftChReferenceIdeal.main_arg0) = m ((c.tc : Thread Cert.DftChReferenceIdeal.nD Cert.DftChReferenceIdeal.τ).loc Cert.DftChReferenceIdeal.main_arg0)
      ∧ r.2.mem ((c.tc : Thread Cert.DftChReferenceIdeal.nD Cert.DftChReferenceIdeal.τ).loc Cert.DftChReferenceIdeal.main_arg1) = m ((c.tc : Thread Cert.DftChReferenceIdeal.nD Cert.DftChReferenceIdeal.τ).loc Cert.DftChReferenceIdeal.main_arg1))
      ∧ r.2.sem = fun _ => 0)

def quiescent_DftPos [hDftPos : Cert.DftPos.Facts] : Prop :=
  ∀ (m : (ℓ : Loc Cert.DftPos.nD Cert.DftPos.τ Cert.DftPos.sig) → Buf (Elt Bits) ℓ) (g : Dev Cert.DftPos.nD → PrngReg), Pre_DftPos m →
    θ_run (Cert.DftPos.defs (F := Bits)) (onTc (τ := Cert.DftPos.τ) (Cert.DftPos.main (F := Bits))) ⟨m, fun _ => 0, g⟩ (fun r => (∀ c : Dev Cert.DftPos.nD,
      r.2.mem ((c.tc : Thread Cert.DftPos.nD Cert.DftPos.τ).loc Cert.DftPos.main_arg0) = m ((c.tc : Thread Cert.DftPos.nD Cert.DftPos.τ).loc Cert.DftPos.main_arg0)
      ∧ r.2.mem ((c.tc : Thread Cert.DftPos.nD Cert.DftPos.τ).loc Cert.DftPos.main_arg1) = m ((c.tc : Thread Cert.DftPos.nD Cert.DftPos.τ).loc Cert.DftPos.main_arg1)
      ∧ r.2.mem ((c.tc : Thread Cert.DftPos.nD Cert.DftPos.τ).loc Cert.DftPos.main_arg2) = m ((c.tc : Thread Cert.DftPos.nD Cert.DftPos.τ).loc Cert.DftPos.main_arg2)
      ∧ r.2.mem ((c.tc : Thread Cert.DftPos.nD Cert.DftPos.τ).loc Cert.DftPos.main_arg3) = m ((c.tc : Thread Cert.DftPos.nD Cert.DftPos.τ).loc Cert.DftPos.main_arg3)
      ∧ r.2.mem ((c.tc : Thread Cert.DftPos.nD Cert.DftPos.τ).loc Cert.DftPos.main_arg4) = m ((c.tc : Thread Cert.DftPos.nD Cert.DftPos.τ).loc Cert.DftPos.main_arg4))
      ∧ r.2.sem = fun _ => 0)

def quiescent_DftPosIdeal [hDftPosIdeal : Cert.DftPosIdeal.Facts] : Prop :=
  ∀ (m : (ℓ : Loc Cert.DftPosIdeal.nD Cert.DftPosIdeal.τ Cert.DftPosIdeal.sig) → Buf (Elt Ideal) ℓ) (g : Dev Cert.DftPosIdeal.nD → PrngReg), Pre_DftPosIdeal m →
    θ_run (Cert.DftPosIdeal.defs (F := Ideal)) (onTc (τ := Cert.DftPosIdeal.τ) (Cert.DftPosIdeal.main (F := Ideal))) ⟨m, fun _ => 0, g⟩ (fun r => (∀ c : Dev Cert.DftPosIdeal.nD,
      r.2.mem ((c.tc : Thread Cert.DftPosIdeal.nD Cert.DftPosIdeal.τ).loc Cert.DftPosIdeal.main_arg0) = m ((c.tc : Thread Cert.DftPosIdeal.nD Cert.DftPosIdeal.τ).loc Cert.DftPosIdeal.main_arg0)
      ∧ r.2.mem ((c.tc : Thread Cert.DftPosIdeal.nD Cert.DftPosIdeal.τ).loc Cert.DftPosIdeal.main_arg1) = m ((c.tc : Thread Cert.DftPosIdeal.nD Cert.DftPosIdeal.τ).loc Cert.DftPosIdeal.main_arg1)
      ∧ r.2.mem ((c.tc : Thread Cert.DftPosIdeal.nD Cert.DftPosIdeal.τ).loc Cert.DftPosIdeal.main_arg2) = m ((c.tc : Thread Cert.DftPosIdeal.nD Cert.DftPosIdeal.τ).loc Cert.DftPosIdeal.main_arg2)
      ∧ r.2.mem ((c.tc : Thread Cert.DftPosIdeal.nD Cert.DftPosIdeal.τ).loc Cert.DftPosIdeal.main_arg3) = m ((c.tc : Thread Cert.DftPosIdeal.nD Cert.DftPosIdeal.τ).loc Cert.DftPosIdeal.main_arg3)
      ∧ r.2.mem ((c.tc : Thread Cert.DftPosIdeal.nD Cert.DftPosIdeal.τ).loc Cert.DftPosIdeal.main_arg4) = m ((c.tc : Thread Cert.DftPosIdeal.nD Cert.DftPosIdeal.τ).loc Cert.DftPosIdeal.main_arg4))
      ∧ r.2.sem = fun _ => 0)

def quiescent_DftPosReferenceIdeal [hDftPosReferenceIdeal : Cert.DftPosReferenceIdeal.Facts] : Prop :=
  ∀ (m : (ℓ : Loc Cert.DftPosReferenceIdeal.nD Cert.DftPosReferenceIdeal.τ Cert.DftPosReferenceIdeal.sig) → Buf (Elt Ideal) ℓ) (g : Dev Cert.DftPosReferenceIdeal.nD → PrngReg), Pre_DftPosReferenceIdeal m →
    θ_run (Cert.DftPosReferenceIdeal.defs (F := Ideal)) (onTc (τ := Cert.DftPosReferenceIdeal.τ) (Cert.DftPosReferenceIdeal.main (F := Ideal))) ⟨m, fun _ => 0, g⟩ (fun r => (∀ c : Dev Cert.DftPosReferenceIdeal.nD,
      r.2.mem ((c.tc : Thread Cert.DftPosReferenceIdeal.nD Cert.DftPosReferenceIdeal.τ).loc Cert.DftPosReferenceIdeal.main_arg0) = m ((c.tc : Thread Cert.DftPosReferenceIdeal.nD Cert.DftPosReferenceIdeal.τ).loc Cert.DftPosReferenceIdeal.main_arg0)
      ∧ r.2.mem ((c.tc : Thread Cert.DftPosReferenceIdeal.nD Cert.DftPosReferenceIdeal.τ).loc Cert.DftPosReferenceIdeal.main_arg1) = m ((c.tc : Thread Cert.DftPosReferenceIdeal.nD Cert.DftPosReferenceIdeal.τ).loc Cert.DftPosReferenceIdeal.main_arg1)
      ∧ r.2.mem ((c.tc : Thread Cert.DftPosReferenceIdeal.nD Cert.DftPosReferenceIdeal.τ).loc Cert.DftPosReferenceIdeal.main_arg2) = m ((c.tc : Thread Cert.DftPosReferenceIdeal.nD Cert.DftPosReferenceIdeal.τ).loc Cert.DftPosReferenceIdeal.main_arg2)
      ∧ r.2.mem ((c.tc : Thread Cert.DftPosReferenceIdeal.nD Cert.DftPosReferenceIdeal.τ).loc Cert.DftPosReferenceIdeal.main_arg3) = m ((c.tc : Thread Cert.DftPosReferenceIdeal.nD Cert.DftPosReferenceIdeal.τ).loc Cert.DftPosReferenceIdeal.main_arg3)
      ∧ r.2.mem ((c.tc : Thread Cert.DftPosReferenceIdeal.nD Cert.DftPosReferenceIdeal.τ).loc Cert.DftPosReferenceIdeal.main_arg4) = m ((c.tc : Thread Cert.DftPosReferenceIdeal.nD Cert.DftPosReferenceIdeal.τ).loc Cert.DftPosReferenceIdeal.main_arg4))
      ∧ r.2.sem = fun _ => 0)

def quiescent_DftCtx [hDftCtx : Cert.DftCtx.Facts] : Prop :=
  ∀ (m : (ℓ : Loc Cert.DftCtx.nD Cert.DftCtx.τ Cert.DftCtx.sig) → Buf (Elt Bits) ℓ) (g : Dev Cert.DftCtx.nD → PrngReg), Pre_DftCtx m →
    θ_run (Cert.DftCtx.defs (F := Bits)) (onTc (τ := Cert.DftCtx.τ) (Cert.DftCtx.main (F := Bits))) ⟨m, fun _ => 0, g⟩ (fun r => (∀ c : Dev Cert.DftCtx.nD,
      r.2.mem ((c.tc : Thread Cert.DftCtx.nD Cert.DftCtx.τ).loc Cert.DftCtx.main_arg0) = m ((c.tc : Thread Cert.DftCtx.nD Cert.DftCtx.τ).loc Cert.DftCtx.main_arg0)
      ∧ r.2.mem ((c.tc : Thread Cert.DftCtx.nD Cert.DftCtx.τ).loc Cert.DftCtx.main_arg1) = m ((c.tc : Thread Cert.DftCtx.nD Cert.DftCtx.τ).loc Cert.DftCtx.main_arg1)
      ∧ r.2.mem ((c.tc : Thread Cert.DftCtx.nD Cert.DftCtx.τ).loc Cert.DftCtx.main_arg2) = m ((c.tc : Thread Cert.DftCtx.nD Cert.DftCtx.τ).loc Cert.DftCtx.main_arg2)
      ∧ r.2.mem ((c.tc : Thread Cert.DftCtx.nD Cert.DftCtx.τ).loc Cert.DftCtx.main_arg3) = m ((c.tc : Thread Cert.DftCtx.nD Cert.DftCtx.τ).loc Cert.DftCtx.main_arg3)
      ∧ r.2.mem ((c.tc : Thread Cert.DftCtx.nD Cert.DftCtx.τ).loc Cert.DftCtx.main_arg4) = m ((c.tc : Thread Cert.DftCtx.nD Cert.DftCtx.τ).loc Cert.DftCtx.main_arg4))
      ∧ r.2.sem = fun _ => 0)

def quiescent_DftCtxIdeal [hDftCtxIdeal : Cert.DftCtxIdeal.Facts] : Prop :=
  ∀ (m : (ℓ : Loc Cert.DftCtxIdeal.nD Cert.DftCtxIdeal.τ Cert.DftCtxIdeal.sig) → Buf (Elt Ideal) ℓ) (g : Dev Cert.DftCtxIdeal.nD → PrngReg), Pre_DftCtxIdeal m →
    θ_run (Cert.DftCtxIdeal.defs (F := Ideal)) (onTc (τ := Cert.DftCtxIdeal.τ) (Cert.DftCtxIdeal.main (F := Ideal))) ⟨m, fun _ => 0, g⟩ (fun r => (∀ c : Dev Cert.DftCtxIdeal.nD,
      r.2.mem ((c.tc : Thread Cert.DftCtxIdeal.nD Cert.DftCtxIdeal.τ).loc Cert.DftCtxIdeal.main_arg0) = m ((c.tc : Thread Cert.DftCtxIdeal.nD Cert.DftCtxIdeal.τ).loc Cert.DftCtxIdeal.main_arg0)
      ∧ r.2.mem ((c.tc : Thread Cert.DftCtxIdeal.nD Cert.DftCtxIdeal.τ).loc Cert.DftCtxIdeal.main_arg1) = m ((c.tc : Thread Cert.DftCtxIdeal.nD Cert.DftCtxIdeal.τ).loc Cert.DftCtxIdeal.main_arg1)
      ∧ r.2.mem ((c.tc : Thread Cert.DftCtxIdeal.nD Cert.DftCtxIdeal.τ).loc Cert.DftCtxIdeal.main_arg2) = m ((c.tc : Thread Cert.DftCtxIdeal.nD Cert.DftCtxIdeal.τ).loc Cert.DftCtxIdeal.main_arg2)
      ∧ r.2.mem ((c.tc : Thread Cert.DftCtxIdeal.nD Cert.DftCtxIdeal.τ).loc Cert.DftCtxIdeal.main_arg3) = m ((c.tc : Thread Cert.DftCtxIdeal.nD Cert.DftCtxIdeal.τ).loc Cert.DftCtxIdeal.main_arg3)
      ∧ r.2.mem ((c.tc : Thread Cert.DftCtxIdeal.nD Cert.DftCtxIdeal.τ).loc Cert.DftCtxIdeal.main_arg4) = m ((c.tc : Thread Cert.DftCtxIdeal.nD Cert.DftCtxIdeal.τ).loc Cert.DftCtxIdeal.main_arg4))
      ∧ r.2.sem = fun _ => 0)

def quiescent_DftCtxReferenceIdeal [hDftCtxReferenceIdeal : Cert.DftCtxReferenceIdeal.Facts] : Prop :=
  ∀ (m : (ℓ : Loc Cert.DftCtxReferenceIdeal.nD Cert.DftCtxReferenceIdeal.τ Cert.DftCtxReferenceIdeal.sig) → Buf (Elt Ideal) ℓ) (g : Dev Cert.DftCtxReferenceIdeal.nD → PrngReg), Pre_DftCtxReferenceIdeal m →
    θ_run (Cert.DftCtxReferenceIdeal.defs (F := Ideal)) (onTc (τ := Cert.DftCtxReferenceIdeal.τ) (Cert.DftCtxReferenceIdeal.main (F := Ideal))) ⟨m, fun _ => 0, g⟩ (fun r => (∀ c : Dev Cert.DftCtxReferenceIdeal.nD,
      r.2.mem ((c.tc : Thread Cert.DftCtxReferenceIdeal.nD Cert.DftCtxReferenceIdeal.τ).loc Cert.DftCtxReferenceIdeal.main_arg0) = m ((c.tc : Thread Cert.DftCtxReferenceIdeal.nD Cert.DftCtxReferenceIdeal.τ).loc Cert.DftCtxReferenceIdeal.main_arg0)
      ∧ r.2.mem ((c.tc : Thread Cert.DftCtxReferenceIdeal.nD Cert.DftCtxReferenceIdeal.τ).loc Cert.DftCtxReferenceIdeal.main_arg1) = m ((c.tc : Thread Cert.DftCtxReferenceIdeal.nD Cert.DftCtxReferenceIdeal.τ).loc Cert.DftCtxReferenceIdeal.main_arg1)
      ∧ r.2.mem ((c.tc : Thread Cert.DftCtxReferenceIdeal.nD Cert.DftCtxReferenceIdeal.τ).loc Cert.DftCtxReferenceIdeal.main_arg2) = m ((c.tc : Thread Cert.DftCtxReferenceIdeal.nD Cert.DftCtxReferenceIdeal.τ).loc Cert.DftCtxReferenceIdeal.main_arg2)
      ∧ r.2.mem ((c.tc : Thread Cert.DftCtxReferenceIdeal.nD Cert.DftCtxReferenceIdeal.τ).loc Cert.DftCtxReferenceIdeal.main_arg3) = m ((c.tc : Thread Cert.DftCtxReferenceIdeal.nD Cert.DftCtxReferenceIdeal.τ).loc Cert.DftCtxReferenceIdeal.main_arg3)
      ∧ r.2.mem ((c.tc : Thread Cert.DftCtxReferenceIdeal.nD Cert.DftCtxReferenceIdeal.τ).loc Cert.DftCtxReferenceIdeal.main_arg4) = m ((c.tc : Thread Cert.DftCtxReferenceIdeal.nD Cert.DftCtxReferenceIdeal.τ).loc Cert.DftCtxReferenceIdeal.main_arg4))
      ∧ r.2.sem = fun _ => 0)

def quiescent_Modulate [hModulate : Cert.Modulate.Facts] : Prop :=
  ∀ (m : (ℓ : Loc Cert.Modulate.nD Cert.Modulate.τ Cert.Modulate.sig) → Buf (Elt Bits) ℓ) (g : Dev Cert.Modulate.nD → PrngReg), Pre_Modulate m →
    θ_run (Cert.Modulate.defs (F := Bits)) (onTc (τ := Cert.Modulate.τ) (Cert.Modulate.main (F := Bits))) ⟨m, fun _ => 0, g⟩ (fun r => (∀ c : Dev Cert.Modulate.nD,
      r.2.mem ((c.tc : Thread Cert.Modulate.nD Cert.Modulate.τ).loc Cert.Modulate.main_arg0) = m ((c.tc : Thread Cert.Modulate.nD Cert.Modulate.τ).loc Cert.Modulate.main_arg0)
      ∧ r.2.mem ((c.tc : Thread Cert.Modulate.nD Cert.Modulate.τ).loc Cert.Modulate.main_arg1) = m ((c.tc : Thread Cert.Modulate.nD Cert.Modulate.τ).loc Cert.Modulate.main_arg1))
      ∧ r.2.sem = fun _ => 0)

def quiescent_ModulateIdeal [hModulateIdeal : Cert.ModulateIdeal.Facts] : Prop :=
  ∀ (m : (ℓ : Loc Cert.ModulateIdeal.nD Cert.ModulateIdeal.τ Cert.ModulateIdeal.sig) → Buf (Elt Ideal) ℓ) (g : Dev Cert.ModulateIdeal.nD → PrngReg), Pre_ModulateIdeal m →
    θ_run (Cert.ModulateIdeal.defs (F := Ideal)) (onTc (τ := Cert.ModulateIdeal.τ) (Cert.ModulateIdeal.main (F := Ideal))) ⟨m, fun _ => 0, g⟩ (fun r => (∀ c : Dev Cert.ModulateIdeal.nD,
      r.2.mem ((c.tc : Thread Cert.ModulateIdeal.nD Cert.ModulateIdeal.τ).loc Cert.ModulateIdeal.main_arg0) = m ((c.tc : Thread Cert.ModulateIdeal.nD Cert.ModulateIdeal.τ).loc Cert.ModulateIdeal.main_arg0)
      ∧ r.2.mem ((c.tc : Thread Cert.ModulateIdeal.nD Cert.ModulateIdeal.τ).loc Cert.ModulateIdeal.main_arg1) = m ((c.tc : Thread Cert.ModulateIdeal.nD Cert.ModulateIdeal.τ).loc Cert.ModulateIdeal.main_arg1))
      ∧ r.2.sem = fun _ => 0)

def quiescent_ModulateReferenceIdeal [hModulateReferenceIdeal : Cert.ModulateReferenceIdeal.Facts] : Prop :=
  ∀ (m : (ℓ : Loc Cert.ModulateReferenceIdeal.nD Cert.ModulateReferenceIdeal.τ Cert.ModulateReferenceIdeal.sig) → Buf (Elt Ideal) ℓ) (g : Dev Cert.ModulateReferenceIdeal.nD → PrngReg), Pre_ModulateReferenceIdeal m →
    θ_run (Cert.ModulateReferenceIdeal.defs (F := Ideal)) (onTc (τ := Cert.ModulateReferenceIdeal.τ) (Cert.ModulateReferenceIdeal.main (F := Ideal))) ⟨m, fun _ => 0, g⟩ (fun r => (∀ c : Dev Cert.ModulateReferenceIdeal.nD,
      r.2.mem ((c.tc : Thread Cert.ModulateReferenceIdeal.nD Cert.ModulateReferenceIdeal.τ).loc Cert.ModulateReferenceIdeal.main_arg0) = m ((c.tc : Thread Cert.ModulateReferenceIdeal.nD Cert.ModulateReferenceIdeal.τ).loc Cert.ModulateReferenceIdeal.main_arg0)
      ∧ r.2.mem ((c.tc : Thread Cert.ModulateReferenceIdeal.nD Cert.ModulateReferenceIdeal.τ).loc Cert.ModulateReferenceIdeal.main_arg1) = m ((c.tc : Thread Cert.ModulateReferenceIdeal.nD Cert.ModulateReferenceIdeal.τ).loc Cert.ModulateReferenceIdeal.main_arg1))
      ∧ r.2.sem = fun _ => 0)

def quiescent_ResidLn [hResidLn : Cert.ResidLn.Facts] : Prop :=
  ∀ (m : (ℓ : Loc Cert.ResidLn.nD Cert.ResidLn.τ Cert.ResidLn.sig) → Buf (Elt Bits) ℓ) (g : Dev Cert.ResidLn.nD → PrngReg), Pre_ResidLn m →
    θ_run (Cert.ResidLn.defs (F := Bits)) (onTc (τ := Cert.ResidLn.τ) (Cert.ResidLn.main (F := Bits))) ⟨m, fun _ => 0, g⟩ (fun r => (∀ c : Dev Cert.ResidLn.nD,
      r.2.mem ((c.tc : Thread Cert.ResidLn.nD Cert.ResidLn.τ).loc Cert.ResidLn.main_arg0) = m ((c.tc : Thread Cert.ResidLn.nD Cert.ResidLn.τ).loc Cert.ResidLn.main_arg0)
      ∧ r.2.mem ((c.tc : Thread Cert.ResidLn.nD Cert.ResidLn.τ).loc Cert.ResidLn.main_arg1) = m ((c.tc : Thread Cert.ResidLn.nD Cert.ResidLn.τ).loc Cert.ResidLn.main_arg1)
      ∧ r.2.mem ((c.tc : Thread Cert.ResidLn.nD Cert.ResidLn.τ).loc Cert.ResidLn.main_arg2) = m ((c.tc : Thread Cert.ResidLn.nD Cert.ResidLn.τ).loc Cert.ResidLn.main_arg2)
      ∧ r.2.mem ((c.tc : Thread Cert.ResidLn.nD Cert.ResidLn.τ).loc Cert.ResidLn.main_arg3) = m ((c.tc : Thread Cert.ResidLn.nD Cert.ResidLn.τ).loc Cert.ResidLn.main_arg3)
      ∧ r.2.mem ((c.tc : Thread Cert.ResidLn.nD Cert.ResidLn.τ).loc Cert.ResidLn.main_arg4) = m ((c.tc : Thread Cert.ResidLn.nD Cert.ResidLn.τ).loc Cert.ResidLn.main_arg4))
      ∧ r.2.sem = fun _ => 0)

def quiescent_ResidLnIdeal [hResidLnIdeal : Cert.ResidLnIdeal.Facts] : Prop :=
  ∀ (m : (ℓ : Loc Cert.ResidLnIdeal.nD Cert.ResidLnIdeal.τ Cert.ResidLnIdeal.sig) → Buf (Elt Ideal) ℓ) (g : Dev Cert.ResidLnIdeal.nD → PrngReg), Pre_ResidLnIdeal m →
    θ_run (Cert.ResidLnIdeal.defs (F := Ideal)) (onTc (τ := Cert.ResidLnIdeal.τ) (Cert.ResidLnIdeal.main (F := Ideal))) ⟨m, fun _ => 0, g⟩ (fun r => (∀ c : Dev Cert.ResidLnIdeal.nD,
      r.2.mem ((c.tc : Thread Cert.ResidLnIdeal.nD Cert.ResidLnIdeal.τ).loc Cert.ResidLnIdeal.main_arg0) = m ((c.tc : Thread Cert.ResidLnIdeal.nD Cert.ResidLnIdeal.τ).loc Cert.ResidLnIdeal.main_arg0)
      ∧ r.2.mem ((c.tc : Thread Cert.ResidLnIdeal.nD Cert.ResidLnIdeal.τ).loc Cert.ResidLnIdeal.main_arg1) = m ((c.tc : Thread Cert.ResidLnIdeal.nD Cert.ResidLnIdeal.τ).loc Cert.ResidLnIdeal.main_arg1)
      ∧ r.2.mem ((c.tc : Thread Cert.ResidLnIdeal.nD Cert.ResidLnIdeal.τ).loc Cert.ResidLnIdeal.main_arg2) = m ((c.tc : Thread Cert.ResidLnIdeal.nD Cert.ResidLnIdeal.τ).loc Cert.ResidLnIdeal.main_arg2)
      ∧ r.2.mem ((c.tc : Thread Cert.ResidLnIdeal.nD Cert.ResidLnIdeal.τ).loc Cert.ResidLnIdeal.main_arg3) = m ((c.tc : Thread Cert.ResidLnIdeal.nD Cert.ResidLnIdeal.τ).loc Cert.ResidLnIdeal.main_arg3)
      ∧ r.2.mem ((c.tc : Thread Cert.ResidLnIdeal.nD Cert.ResidLnIdeal.τ).loc Cert.ResidLnIdeal.main_arg4) = m ((c.tc : Thread Cert.ResidLnIdeal.nD Cert.ResidLnIdeal.τ).loc Cert.ResidLnIdeal.main_arg4))
      ∧ r.2.sem = fun _ => 0)

def quiescent_ResidLnReferenceIdeal [hResidLnReferenceIdeal : Cert.ResidLnReferenceIdeal.Facts] : Prop :=
  ∀ (m : (ℓ : Loc Cert.ResidLnReferenceIdeal.nD Cert.ResidLnReferenceIdeal.τ Cert.ResidLnReferenceIdeal.sig) → Buf (Elt Ideal) ℓ) (g : Dev Cert.ResidLnReferenceIdeal.nD → PrngReg), Pre_ResidLnReferenceIdeal m →
    θ_run (Cert.ResidLnReferenceIdeal.defs (F := Ideal)) (onTc (τ := Cert.ResidLnReferenceIdeal.τ) (Cert.ResidLnReferenceIdeal.main (F := Ideal))) ⟨m, fun _ => 0, g⟩ (fun r => (∀ c : Dev Cert.ResidLnReferenceIdeal.nD,
      r.2.mem ((c.tc : Thread Cert.ResidLnReferenceIdeal.nD Cert.ResidLnReferenceIdeal.τ).loc Cert.ResidLnReferenceIdeal.main_arg0) = m ((c.tc : Thread Cert.ResidLnReferenceIdeal.nD Cert.ResidLnReferenceIdeal.τ).loc Cert.ResidLnReferenceIdeal.main_arg0)
      ∧ r.2.mem ((c.tc : Thread Cert.ResidLnReferenceIdeal.nD Cert.ResidLnReferenceIdeal.τ).loc Cert.ResidLnReferenceIdeal.main_arg1) = m ((c.tc : Thread Cert.ResidLnReferenceIdeal.nD Cert.ResidLnReferenceIdeal.τ).loc Cert.ResidLnReferenceIdeal.main_arg1)
      ∧ r.2.mem ((c.tc : Thread Cert.ResidLnReferenceIdeal.nD Cert.ResidLnReferenceIdeal.τ).loc Cert.ResidLnReferenceIdeal.main_arg2) = m ((c.tc : Thread Cert.ResidLnReferenceIdeal.nD Cert.ResidLnReferenceIdeal.τ).loc Cert.ResidLnReferenceIdeal.main_arg2)
      ∧ r.2.mem ((c.tc : Thread Cert.ResidLnReferenceIdeal.nD Cert.ResidLnReferenceIdeal.τ).loc Cert.ResidLnReferenceIdeal.main_arg3) = m ((c.tc : Thread Cert.ResidLnReferenceIdeal.nD Cert.ResidLnReferenceIdeal.τ).loc Cert.ResidLnReferenceIdeal.main_arg3)
      ∧ r.2.mem ((c.tc : Thread Cert.ResidLnReferenceIdeal.nD Cert.ResidLnReferenceIdeal.τ).loc Cert.ResidLnReferenceIdeal.main_arg4) = m ((c.tc : Thread Cert.ResidLnReferenceIdeal.nD Cert.ResidLnReferenceIdeal.τ).loc Cert.ResidLnReferenceIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v0) = v0 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)
      ∧ m' ((c.tc : Thread Cert.OutProjReferenceIdeal.nD Cert.OutProjReferenceIdeal.τ).loc Cert.OutProjReferenceIdeal.main_arg2) = m ((c.tc : Thread Cert.OutProjIdeal.nD Cert.OutProjIdeal.τ).loc Cert.OutProjIdeal.main_arg2)
      ∧ m' ((c.tc : Thread Cert.OutProjReferenceIdeal.nD Cert.OutProjReferenceIdeal.τ).loc Cert.OutProjReferenceIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v1) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v2) = v0 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1)
          ∧ r.2.mem ((c.tc : Thread Cert.OutProjReferenceIdeal.nD Cert.OutProjReferenceIdeal.τ).loc Cert.OutProjReferenceIdeal.main_arg2) = m' ((c.tc : Thread Cert.OutProjReferenceIdeal.nD Cert.OutProjReferenceIdeal.τ).loc Cert.OutProjReferenceIdeal.main_arg2)
          ∧ r.2.mem ((c.tc : Thread Cert.OutProjReferenceIdeal.nD Cert.OutProjReferenceIdeal.τ).loc Cert.OutProjReferenceIdeal.main_arg3) = m' ((c.tc : Thread Cert.OutProjReferenceIdeal.nD Cert.OutProjReferenceIdeal.τ).loc Cert.OutProjReferenceIdeal.main_arg3))

def preserves_Experts_ExpertsIdeal : Prop :=
  True

def algebraic_ExpertsIdeal_ExpertsReferenceIdeal [hExpertsIdeal : Cert.ExpertsIdeal.Facts] [hExpertsReferenceIdeal : Cert.ExpertsReferenceIdeal.Facts] [hPre_in_range : Cert.Pre_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)
      ∧ m' ((c.tc : Thread Cert.ExpertsReferenceIdeal.nD Cert.ExpertsReferenceIdeal.τ).loc Cert.ExpertsReferenceIdeal.main_arg6) = m ((c.tc : Thread Cert.ExpertsIdeal.nD Cert.ExpertsIdeal.τ).loc Cert.ExpertsIdeal.main_arg6)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v35) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5)
          ∧ r.2.mem ((c.tc : Thread Cert.ExpertsReferenceIdeal.nD Cert.ExpertsReferenceIdeal.τ).loc Cert.ExpertsReferenceIdeal.main_arg6) = m' ((c.tc : Thread Cert.ExpertsReferenceIdeal.nD Cert.ExpertsReferenceIdeal.τ).loc Cert.ExpertsReferenceIdeal.main_arg6))

def preserves_QProj_QProjIdeal : Prop :=
  True

def algebraic_QProjIdeal_QProjReferenceIdeal_pre_finite_queries [hQProjIdeal : Cert.QProjIdeal.Facts] [hQProjReferenceIdeal : Cert.QProjReferenceIdeal.Facts] [hPre_finite_queries : Cert.Pre_finite_queries.Facts] : Prop :=
  ∀ (m : (ℓ : Loc Cert.QProjIdeal.nD Cert.QProjIdeal.τ Cert.QProjIdeal.sig) → Buf (Elt Ideal) ℓ) (g : Dev Cert.QProjIdeal.nD → PrngReg)
    (m' : (ℓ : Loc Cert.QProjReferenceIdeal.nD Cert.QProjReferenceIdeal.τ Cert.QProjReferenceIdeal.sig) → Buf (Elt Ideal) ℓ) (g' : Dev Cert.QProjReferenceIdeal.nD → PrngReg), Pre_QProjIdeal_finite_queries m →
    (∀ c : Dev Cert.QProjIdeal.nD,
      m' ((c.tc : Thread Cert.QProjReferenceIdeal.nD Cert.QProjReferenceIdeal.τ).loc Cert.QProjReferenceIdeal.main_arg0) = m ((c.tc : Thread Cert.QProjIdeal.nD Cert.QProjIdeal.τ).loc Cert.QProjIdeal.main_arg0)
      ∧ m' ((c.tc : Thread Cert.QProjReferenceIdeal.nD Cert.QProjReferenceIdeal.τ).loc Cert.QProjReferenceIdeal.main_arg1) = m ((c.tc : Thread Cert.QProjIdeal.nD Cert.QProjIdeal.τ).loc Cert.QProjIdeal.main_arg1)
      ∧ m' ((c.tc : Thread Cert.QProjReferenceIdeal.nD Cert.QProjReferenceIdeal.τ).loc Cert.QProjReferenceIdeal.main_arg2) = m ((c.tc : Thread Cert.QProjIdeal.nD Cert.QProjIdeal.τ).loc Cert.QProjIdeal.main_arg2)
      ∧ m' ((c.tc : Thread Cert.QProjReferenceIdeal.nD Cert.QProjReferenceIdeal.τ).loc Cert.QProjReferenceIdeal.main_arg3) = m ((c.tc : Thread Cert.QProjIdeal.nD Cert.QProjIdeal.τ).loc Cert.QProjIdeal.main_arg3)) →
    ∃ (v0 : (c : Dev Cert.QProjIdeal.nD) → Buf (Elt Ideal) ((c.tc : Thread Cert.QProjIdeal.nD Cert.QProjIdeal.τ).loc Cert.QProjIdeal.main_v16)),
      θ_run (Cert.QProjIdeal.defs (F := Ideal)) (onTc (τ := Cert.QProjIdeal.τ) (Cert.QProjIdeal.main (F := Ideal))) ⟨m, fun _ => 0, g⟩ (fun r => ∀ c : Dev Cert.QProjIdeal.nD,
          r.2.mem ((c.tc : Thread Cert.QProjIdeal.nD Cert.QProjIdeal.τ).loc Cert.QProjIdeal.main_v16) = v0 c
          ∧ r.2.mem ((c.tc : Thread Cert.QProjIdeal.nD Cert.QProjIdeal.τ).loc Cert.QProjIdeal.main_arg0) = m ((c.tc : Thread Cert.QProjIdeal.nD Cert.QProjIdeal.τ).loc Cert.QProjIdeal.main_arg0)
          ∧ r.2.mem ((c.tc : Thread Cert.QProjIdeal.nD Cert.QProjIdeal.τ).loc Cert.QProjIdeal.main_arg1) = m ((c.tc : Thread Cert.QProjIdeal.nD Cert.QProjIdeal.τ).loc Cert.QProjIdeal.main_arg1)
          ∧ r.2.mem ((c.tc : Thread Cert.QProjIdeal.nD Cert.QProjIdeal.τ).loc Cert.QProjIdeal.main_arg2) = m ((c.tc : Thread Cert.QProjIdeal.nD Cert.QProjIdeal.τ).loc Cert.QProjIdeal.main_arg2)
          ∧ r.2.mem ((c.tc : Thread Cert.QProjIdeal.nD Cert.QProjIdeal.τ).loc Cert.QProjIdeal.main_arg3) = m ((c.tc : Thread Cert.QProjIdeal.nD Cert.QProjIdeal.τ).loc Cert.QProjIdeal.main_arg3))
      ∧ θ_run (Cert.QProjReferenceIdeal.defs (F := Ideal)) (onTc (τ := Cert.QProjReferenceIdeal.τ) (Cert.QProjReferenceIdeal.main (F := Ideal))) ⟨m', fun _ => 0, g'⟩ (fun r => ∀ c : Dev Cert.QProjReferenceIdeal.nD,
          r.2.mem ((c.tc : Thread Cert.QProjReferenceIdeal.nD Cert.QProjReferenceIdeal.τ).loc Cert.QProjReferenceIdeal.main_v42) = v0 c
          ∧ r.2.mem ((c.tc : Thread Cert.QProjReferenceIdeal.nD Cert.QProjReferenceIdeal.τ).loc Cert.QProjReferenceIdeal.main_arg0) = m' ((c.tc : Thread Cert.QProjReferenceIdeal.nD Cert.QProjReferenceIdeal.τ).loc Cert.QProjReferenceIdeal.main_arg0)
          ∧ r.2.mem ((c.tc : Thread Cert.QProjReferenceIdeal.nD Cert.QProjReferenceIdeal.τ).loc Cert.QProjReferenceIdeal.main_arg1) = m' ((c.tc : Thread Cert.QProjReferenceIdeal.nD Cert.QProjReferenceIdeal.τ).loc Cert.QProjReferenceIdeal.main_arg1)
          ∧ r.2.mem ((c.tc : Thread Cert.QProjReferenceIdeal.nD Cert.QProjReferenceIdeal.τ).loc Cert.QProjReferenceIdeal.main_arg2) = m' ((c.tc : Thread Cert.QProjReferenceIdeal.nD Cert.QProjReferenceIdeal.τ).loc Cert.QProjReferenceIdeal.main_arg2)
          ∧ r.2.mem ((c.tc : Thread Cert.QProjReferenceIdeal.nD Cert.QProjReferenceIdeal.τ).loc Cert.QProjReferenceIdeal.main_arg3) = m' ((c.tc : Thread Cert.QProjReferenceIdeal.nD Cert.QProjReferenceIdeal.τ).loc Cert.QProjReferenceIdeal.main_arg3))

def preserves_KvProj_KvProjIdeal : Prop :=
  True

def algebraic_KvProjIdeal_KvProjReferenceIdeal [hKvProjIdeal : Cert.KvProjIdeal.Facts] [hKvProjReferenceIdeal : Cert.KvProjReferenceIdeal.Facts] : Prop :=
  ∀ (m : (ℓ : Loc Cert.KvProjIdeal.nD Cert.KvProjIdeal.τ Cert.KvProjIdeal.sig) → Buf (Elt Ideal) ℓ) (g : Dev Cert.KvProjIdeal.nD → PrngReg)
    (m' : (ℓ : Loc Cert.KvProjReferenceIdeal.nD Cert.KvProjReferenceIdeal.τ Cert.KvProjReferenceIdeal.sig) → Buf (Elt Ideal) ℓ) (g' : Dev Cert.KvProjReferenceIdeal.nD → PrngReg), Pre_KvProjIdeal m →
    (∀ c : Dev Cert.KvProjIdeal.nD,
      m' ((c.tc : Thread Cert.KvProjReferenceIdeal.nD Cert.KvProjReferenceIdeal.τ).loc Cert.KvProjReferenceIdeal.main_arg0) = m ((c.tc : Thread Cert.KvProjIdeal.nD Cert.KvProjIdeal.τ).loc Cert.KvProjIdeal.main_arg0)
      ∧ m' ((c.tc : Thread Cert.KvProjReferenceIdeal.nD Cert.KvProjReferenceIdeal.τ).loc Cert.KvProjReferenceIdeal.main_arg1) = m ((c.tc : Thread Cert.KvProjIdeal.nD Cert.KvProjIdeal.τ).loc Cert.KvProjIdeal.main_arg1)
      ∧ m' ((c.tc : Thread Cert.KvProjReferenceIdeal.nD Cert.KvProjReferenceIdeal.τ).loc Cert.KvProjReferenceIdeal.main_arg2) = m ((c.tc : Thread Cert.KvProjIdeal.nD Cert.KvProjIdeal.τ).loc Cert.KvProjIdeal.main_arg2)
      ∧ m' ((c.tc : Thread Cert.KvProjReferenceIdeal.nD Cert.KvProjReferenceIdeal.τ).loc Cert.KvProjReferenceIdeal.main_arg3) = m ((c.tc : Thread Cert.KvProjIdeal.nD Cert.KvProjIdeal.τ).loc Cert.KvProjIdeal.main_arg3)) →
    ∃ (v0 : (c : Dev Cert.KvProjIdeal.nD) → Buf (Elt Ideal) ((c.tc : Thread Cert.KvProjIdeal.nD Cert.KvProjIdeal.τ).loc Cert.KvProjIdeal.main_v10_0)) (v1 : (c : Dev Cert.KvProjIdeal.nD) → Buf (Elt Ideal) ((c.tc : Thread Cert.KvProjIdeal.nD Cert.KvProjIdeal.τ).loc Cert.KvProjIdeal.main_v10_1)),
      θ_run (Cert.KvProjIdeal.defs (F := Ideal)) (onTc (τ := Cert.KvProjIdeal.τ) (Cert.KvProjIdeal.main (F := Ideal))) ⟨m, fun _ => 0, g⟩ (fun r => ∀ c : Dev Cert.KvProjIdeal.nD,
          r.2.mem ((c.tc : Thread Cert.KvProjIdeal.nD Cert.KvProjIdeal.τ).loc Cert.KvProjIdeal.main_v10_0) = v0 c
          ∧ r.2.mem ((c.tc : Thread Cert.KvProjIdeal.nD Cert.KvProjIdeal.τ).loc Cert.KvProjIdeal.main_v10_1) = v1 c
          ∧ r.2.mem ((c.tc : Thread Cert.KvProjIdeal.nD Cert.KvProjIdeal.τ).loc Cert.KvProjIdeal.main_arg0) = m ((c.tc : Thread Cert.KvProjIdeal.nD Cert.KvProjIdeal.τ).loc Cert.KvProjIdeal.main_arg0)
          ∧ r.2.mem ((c.tc : Thread Cert.KvProjIdeal.nD Cert.KvProjIdeal.τ).loc Cert.KvProjIdeal.main_arg1) = m ((c.tc : Thread Cert.KvProjIdeal.nD Cert.KvProjIdeal.τ).loc Cert.KvProjIdeal.main_arg1)
          ∧ r.2.mem ((c.tc : Thread Cert.KvProjIdeal.nD Cert.KvProjIdeal.τ).loc Cert.KvProjIdeal.main_arg2) = m ((c.tc : Thread Cert.KvProjIdeal.nD Cert.KvProjIdeal.τ).loc Cert.KvProjIdeal.main_arg2)
          ∧ r.2.mem ((c.tc : Thread Cert.KvProjIdeal.nD Cert.KvProjIdeal.τ).loc Cert.KvProjIdeal.main_arg3) = m ((c.tc : Thread Cert.KvProjIdeal.nD Cert.KvProjIdeal.τ).loc Cert.KvProjIdeal.main_arg3))
      ∧ θ_run (Cert.KvProjReferenceIdeal.defs (F := Ideal)) (onTc (τ := Cert.KvProjReferenceIdeal.τ) (Cert.KvProjReferenceIdeal.main (F := Ideal))) ⟨m', fun _ => 0, g'⟩ (fun r => ∀ c : Dev Cert.KvProjReferenceIdeal.nD,
          r.2.mem ((c.tc : Thread Cert.KvProjReferenceIdeal.nD Cert.KvProjReferenceIdeal.τ).loc Cert.KvProjReferenceIdeal.main_v29) = v0 c
          ∧ r.2.mem ((c.tc : Thread Cert.KvProjReferenceIdeal.nD Cert.KvProjReferenceIdeal.τ).loc Cert.KvProjReferenceIdeal.main_v32) = v1 c
          ∧ r.2.mem ((c.tc : Thread Cert.KvProjReferenceIdeal.nD Cert.KvProjReferenceIdeal.τ).loc Cert.KvProjReferenceIdeal.main_arg0) = m' ((c.tc : Thread Cert.KvProjReferenceIdeal.nD Cert.KvProjReferenceIdeal.τ).loc Cert.KvProjReferenceIdeal.main_arg0)
          ∧ r.2.mem ((c.tc : Thread Cert.KvProjReferenceIdeal.nD Cert.KvProjReferenceIdeal.τ).loc Cert.KvProjReferenceIdeal.main_arg1) = m' ((c.tc : Thread Cert.KvProjReferenceIdeal.nD Cert.KvProjReferenceIdeal.τ).loc Cert.KvProjReferenceIdeal.main_arg1)
          ∧ r.2.mem ((c.tc : Thread Cert.KvProjReferenceIdeal.nD Cert.KvProjReferenceIdeal.τ).loc Cert.KvProjReferenceIdeal.main_arg2) = m' ((c.tc : Thread Cert.KvProjReferenceIdeal.nD Cert.KvProjReferenceIdeal.τ).loc Cert.KvProjReferenceIdeal.main_arg2)
          ∧ r.2.mem ((c.tc : Thread Cert.KvProjReferenceIdeal.nD Cert.KvProjReferenceIdeal.τ).loc Cert.KvProjReferenceIdeal.main_arg3) = m' ((c.tc : Thread Cert.KvProjReferenceIdeal.nD Cert.KvProjReferenceIdeal.τ).loc Cert.KvProjReferenceIdeal.main_arg3))

def preserves_ChunkMix_ChunkMixIdeal : Prop :=
  True

def algebraic_ChunkMixIdeal_ChunkMixReferenceIdeal [hChunkMixIdeal : Cert.ChunkMixIdeal.Facts] [hChunkMixReferenceIdeal : Cert.ChunkMixReferenceIdeal.Facts] : Prop :=
  ∀ (m : (ℓ : Loc Cert.ChunkMixIdeal.nD Cert.ChunkMixIdeal.τ Cert.ChunkMixIdeal.sig) → Buf (Elt Ideal) ℓ) (g : Dev Cert.ChunkMixIdeal.nD → PrngReg)
    (m' : (ℓ : Loc Cert.ChunkMixReferenceIdeal.nD Cert.ChunkMixReferenceIdeal.τ Cert.ChunkMixReferenceIdeal.sig) → Buf (Elt Ideal) ℓ) (g' : Dev Cert.ChunkMixReferenceIdeal.nD → PrngReg), Pre_ChunkMixIdeal m →
    (∀ c : Dev Cert.ChunkMixIdeal.nD,
      m' ((c.tc : Thread Cert.ChunkMixReferenceIdeal.nD Cert.ChunkMixReferenceIdeal.τ).loc Cert.ChunkMixReferenceIdeal.main_arg0) = m ((c.tc : Thread Cert.ChunkMixIdeal.nD Cert.ChunkMixIdeal.τ).loc Cert.ChunkMixIdeal.main_arg0)
      ∧ m' ((c.tc : Thread Cert.ChunkMixReferenceIdeal.nD Cert.ChunkMixReferenceIdeal.τ).loc Cert.ChunkMixReferenceIdeal.main_arg1) = m ((c.tc : Thread Cert.ChunkMixIdeal.nD Cert.ChunkMixIdeal.τ).loc Cert.ChunkMixIdeal.main_arg1)
      ∧ m' ((c.tc : Thread Cert.ChunkMixReferenceIdeal.nD Cert.ChunkMixReferenceIdeal.τ).loc Cert.ChunkMixReferenceIdeal.main_arg2) = m ((c.tc : Thread Cert.ChunkMixIdeal.nD Cert.ChunkMixIdeal.τ).loc Cert.ChunkMixIdeal.main_arg2)) →
    ∃ (v0 : (c : Dev Cert.ChunkMixIdeal.nD) → Buf (Elt Ideal) ((c.tc : Thread Cert.ChunkMixIdeal.nD Cert.ChunkMixIdeal.τ).loc Cert.ChunkMixIdeal.main_v2)),
      θ_run (Cert.ChunkMixIdeal.defs (F := Ideal)) (onTc (τ := Cert.ChunkMixIdeal.τ) (Cert.ChunkMixIdeal.main (F := Ideal))) ⟨m, fun _ => 0, g⟩ (fun r => ∀ c : Dev Cert.ChunkMixIdeal.nD,
          r.2.mem ((c.tc : Thread Cert.ChunkMixIdeal.nD Cert.ChunkMixIdeal.τ).loc Cert.ChunkMixIdeal.main_v2) = v0 c
          ∧ r.2.mem ((c.tc : Thread Cert.ChunkMixIdeal.nD Cert.ChunkMixIdeal.τ).loc Cert.ChunkMixIdeal.main_arg0) = m ((c.tc : Thread Cert.ChunkMixIdeal.nD Cert.ChunkMixIdeal.τ).loc Cert.ChunkMixIdeal.main_arg0)
          ∧ r.2.mem ((c.tc : Thread Cert.ChunkMixIdeal.nD Cert.ChunkMixIdeal.τ).loc Cert.ChunkMixIdeal.main_arg1) = m ((c.tc : Thread Cert.ChunkMixIdeal.nD Cert.ChunkMixIdeal.τ).loc Cert.ChunkMixIdeal.main_arg1)
          ∧ r.2.mem ((c.tc : Thread Cert.ChunkMixIdeal.nD Cert.ChunkMixIdeal.τ).loc Cert.ChunkMixIdeal.main_arg2) = m ((c.tc : Thread Cert.ChunkMixIdeal.nD Cert.ChunkMixIdeal.τ).loc Cert.ChunkMixIdeal.main_arg2))
      ∧ θ_run (Cert.ChunkMixReferenceIdeal.defs (F := Ideal)) (onTc (τ := Cert.ChunkMixReferenceIdeal.τ) (Cert.ChunkMixReferenceIdeal.main (F := Ideal))) ⟨m', fun _ => 0, g'⟩ (fun r => ∀ c : Dev Cert.ChunkMixReferenceIdeal.nD,
          r.2.mem ((c.tc : Thread Cert.ChunkMixReferenceIdeal.nD Cert.ChunkMixReferenceIdeal.τ).loc Cert.ChunkMixReferenceIdeal.main_v45) = v0 c
          ∧ r.2.mem ((c.tc : Thread Cert.ChunkMixReferenceIdeal.nD Cert.ChunkMixReferenceIdeal.τ).loc Cert.ChunkMixReferenceIdeal.main_arg0) = m' ((c.tc : Thread Cert.ChunkMixReferenceIdeal.nD Cert.ChunkMixReferenceIdeal.τ).loc Cert.ChunkMixReferenceIdeal.main_arg0)
          ∧ r.2.mem ((c.tc : Thread Cert.ChunkMixReferenceIdeal.nD Cert.ChunkMixReferenceIdeal.τ).loc Cert.ChunkMixReferenceIdeal.main_arg1) = m' ((c.tc : Thread Cert.ChunkMixReferenceIdeal.nD Cert.ChunkMixReferenceIdeal.τ).loc Cert.ChunkMixReferenceIdeal.main_arg1)
          ∧ r.2.mem ((c.tc : Thread Cert.ChunkMixReferenceIdeal.nD Cert.ChunkMixReferenceIdeal.τ).loc Cert.ChunkMixReferenceIdeal.main_arg2) = m' ((c.tc : Thread Cert.ChunkMixReferenceIdeal.nD Cert.ChunkMixReferenceIdeal.τ).loc Cert.ChunkMixReferenceIdeal.main_arg2))

def preserves_Adaln_AdalnIdeal : Prop :=
  True

def algebraic_AdalnIdeal_AdalnReferenceIdeal [hAdalnIdeal : Cert.AdalnIdeal.Facts] [hAdalnReferenceIdeal : Cert.AdalnReferenceIdeal.Facts] : Prop :=
  ∀ (m : (ℓ : Loc Cert.AdalnIdeal.nD Cert.AdalnIdeal.τ Cert.AdalnIdeal.sig) → Buf (Elt Ideal) ℓ) (g : Dev Cert.AdalnIdeal.nD → PrngReg)
    (m' : (ℓ : Loc Cert.AdalnReferenceIdeal.nD Cert.AdalnReferenceIdeal.τ Cert.AdalnReferenceIdeal.sig) → Buf (Elt Ideal) ℓ) (g' : Dev Cert.AdalnReferenceIdeal.nD → PrngReg), Pre_AdalnIdeal m →
    (∀ c : Dev Cert.AdalnIdeal.nD,
      m' ((c.tc : Thread Cert.AdalnReferenceIdeal.nD Cert.AdalnReferenceIdeal.τ).loc Cert.AdalnReferenceIdeal.main_arg0) = m ((c.tc : Thread Cert.AdalnIdeal.nD Cert.AdalnIdeal.τ).loc Cert.AdalnIdeal.main_arg0)
      ∧ m' ((c.tc : Thread Cert.AdalnReferenceIdeal.nD Cert.AdalnReferenceIdeal.τ).loc Cert.AdalnReferenceIdeal.main_arg1) = m ((c.tc : Thread Cert.AdalnIdeal.nD Cert.AdalnIdeal.τ).loc Cert.AdalnIdeal.main_arg1)
      ∧ m' ((c.tc : Thread Cert.AdalnReferenceIdeal.nD Cert.AdalnReferenceIdeal.τ).loc Cert.AdalnReferenceIdeal.main_arg2) = m ((c.tc : Thread Cert.AdalnIdeal.nD Cert.AdalnIdeal.τ).loc Cert.AdalnIdeal.main_arg2)) →
    ∃ (v0 : (c : Dev Cert.AdalnIdeal.nD) → Buf (Elt Ideal) ((c.tc : Thread Cert.AdalnIdeal.nD Cert.AdalnIdeal.τ).loc Cert.AdalnIdeal.main_v1)),
      θ_run (Cert.AdalnIdeal.defs (F := Ideal)) (onTc (τ := Cert.AdalnIdeal.τ) (Cert.AdalnIdeal.main (F := Ideal))) ⟨m, fun _ => 0, g⟩ (fun r => ∀ c : Dev Cert.AdalnIdeal.nD,
          r.2.mem ((c.tc : Thread Cert.AdalnIdeal.nD Cert.AdalnIdeal.τ).loc Cert.AdalnIdeal.main_v1) = v0 c
          ∧ r.2.mem ((c.tc : Thread Cert.AdalnIdeal.nD Cert.AdalnIdeal.τ).loc Cert.AdalnIdeal.main_arg0) = m ((c.tc : Thread Cert.AdalnIdeal.nD Cert.AdalnIdeal.τ).loc Cert.AdalnIdeal.main_arg0)
          ∧ r.2.mem ((c.tc : Thread Cert.AdalnIdeal.nD Cert.AdalnIdeal.τ).loc Cert.AdalnIdeal.main_arg1) = m ((c.tc : Thread Cert.AdalnIdeal.nD Cert.AdalnIdeal.τ).loc Cert.AdalnIdeal.main_arg1)
          ∧ r.2.mem ((c.tc : Thread Cert.AdalnIdeal.nD Cert.AdalnIdeal.τ).loc Cert.AdalnIdeal.main_arg2) = m ((c.tc : Thread Cert.AdalnIdeal.nD Cert.AdalnIdeal.τ).loc Cert.AdalnIdeal.main_arg2))
      ∧ θ_run (Cert.AdalnReferenceIdeal.defs (F := Ideal)) (onTc (τ := Cert.AdalnReferenceIdeal.τ) (Cert.AdalnReferenceIdeal.main (F := Ideal))) ⟨m', fun _ => 0, g'⟩ (fun r => ∀ c : Dev Cert.AdalnReferenceIdeal.nD,
          r.2.mem ((c.tc : Thread Cert.AdalnReferenceIdeal.nD Cert.AdalnReferenceIdeal.τ).loc Cert.AdalnReferenceIdeal.main_v5) = v0 c
          ∧ r.2.mem ((c.tc : Thread Cert.AdalnReferenceIdeal.nD Cert.AdalnReferenceIdeal.τ).loc Cert.AdalnReferenceIdeal.main_arg0) = m' ((c.tc : Thread Cert.AdalnReferenceIdeal.nD Cert.AdalnReferenceIdeal.τ).loc Cert.AdalnReferenceIdeal.main_arg0)
          ∧ r.2.mem ((c.tc : Thread Cert.AdalnReferenceIdeal.nD Cert.AdalnReferenceIdeal.τ).loc Cert.AdalnReferenceIdeal.main_arg1) = m' ((c.tc : Thread Cert.AdalnReferenceIdeal.nD Cert.AdalnReferenceIdeal.τ).loc Cert.AdalnReferenceIdeal.main_arg1)
          ∧ r.2.mem ((c.tc : Thread Cert.AdalnReferenceIdeal.nD Cert.AdalnReferenceIdeal.τ).loc Cert.AdalnReferenceIdeal.main_arg2) = m' ((c.tc : Thread Cert.AdalnReferenceIdeal.nD Cert.AdalnReferenceIdeal.τ).loc Cert.AdalnReferenceIdeal.main_arg2))

def preserves_DftCh_DftChIdeal : Prop :=
  True

def algebraic_DftChIdeal_DftChReferenceIdeal [hDftChIdeal : Cert.DftChIdeal.Facts] [hDftChReferenceIdeal : Cert.DftChReferenceIdeal.Facts] : Prop :=
  ∀ (m : (ℓ : Loc Cert.DftChIdeal.nD Cert.DftChIdeal.τ Cert.DftChIdeal.sig) → Buf (Elt Ideal) ℓ) (g : Dev Cert.DftChIdeal.nD → PrngReg)
    (m' : (ℓ : Loc Cert.DftChReferenceIdeal.nD Cert.DftChReferenceIdeal.τ Cert.DftChReferenceIdeal.sig) → Buf (Elt Ideal) ℓ) (g' : Dev Cert.DftChReferenceIdeal.nD → PrngReg), Pre_DftChIdeal m →
    (∀ c : Dev Cert.DftChIdeal.nD,
      m' ((c.tc : Thread Cert.DftChReferenceIdeal.nD Cert.DftChReferenceIdeal.τ).loc Cert.DftChReferenceIdeal.main_arg0) = m ((c.tc : Thread Cert.DftChIdeal.nD Cert.DftChIdeal.τ).loc Cert.DftChIdeal.main_arg0)
      ∧ m' ((c.tc : Thread Cert.DftChReferenceIdeal.nD Cert.DftChReferenceIdeal.τ).loc Cert.DftChReferenceIdeal.main_arg1) = m ((c.tc : Thread Cert.DftChIdeal.nD Cert.DftChIdeal.τ).loc Cert.DftChIdeal.main_arg1)) →
    ∃ (v0 : (c : Dev Cert.DftChIdeal.nD) → Buf (Elt Ideal) ((c.tc : Thread Cert.DftChIdeal.nD Cert.DftChIdeal.τ).loc Cert.DftChIdeal.main_v0_0)) (v1 : (c : Dev Cert.DftChIdeal.nD) → Buf (Elt Ideal) ((c.tc : Thread Cert.DftChIdeal.nD Cert.DftChIdeal.τ).loc Cert.DftChIdeal.main_v0_1)),
      θ_run (Cert.DftChIdeal.defs (F := Ideal)) (onTc (τ := Cert.DftChIdeal.τ) (Cert.DftChIdeal.main (F := Ideal))) ⟨m, fun _ => 0, g⟩ (fun r => ∀ c : Dev Cert.DftChIdeal.nD,
          r.2.mem ((c.tc : Thread Cert.DftChIdeal.nD Cert.DftChIdeal.τ).loc Cert.DftChIdeal.main_v0_0) = v0 c
          ∧ r.2.mem ((c.tc : Thread Cert.DftChIdeal.nD Cert.DftChIdeal.τ).loc Cert.DftChIdeal.main_v0_1) = v1 c
          ∧ r.2.mem ((c.tc : Thread Cert.DftChIdeal.nD Cert.DftChIdeal.τ).loc Cert.DftChIdeal.main_arg0) = m ((c.tc : Thread Cert.DftChIdeal.nD Cert.DftChIdeal.τ).loc Cert.DftChIdeal.main_arg0)
          ∧ r.2.mem ((c.tc : Thread Cert.DftChIdeal.nD Cert.DftChIdeal.τ).loc Cert.DftChIdeal.main_arg1) = m ((c.tc : Thread Cert.DftChIdeal.nD Cert.DftChIdeal.τ).loc Cert.DftChIdeal.main_arg1))
      ∧ θ_run (Cert.DftChReferenceIdeal.defs (F := Ideal)) (onTc (τ := Cert.DftChReferenceIdeal.τ) (Cert.DftChReferenceIdeal.main (F := Ideal))) ⟨m', fun _ => 0, g'⟩ (fun r => ∀ c : Dev Cert.DftChReferenceIdeal.nD,
          r.2.mem ((c.tc : Thread Cert.DftChReferenceIdeal.nD Cert.DftChReferenceIdeal.τ).loc Cert.DftChReferenceIdeal.main_v9) = v0 c
          ∧ r.2.mem ((c.tc : Thread Cert.DftChReferenceIdeal.nD Cert.DftChReferenceIdeal.τ).loc Cert.DftChReferenceIdeal.main_v11) = v1 c
          ∧ r.2.mem ((c.tc : Thread Cert.DftChReferenceIdeal.nD Cert.DftChReferenceIdeal.τ).loc Cert.DftChReferenceIdeal.main_arg0) = m' ((c.tc : Thread Cert.DftChReferenceIdeal.nD Cert.DftChReferenceIdeal.τ).loc Cert.DftChReferenceIdeal.main_arg0)
          ∧ r.2.mem ((c.tc : Thread Cert.DftChReferenceIdeal.nD Cert.DftChReferenceIdeal.τ).loc Cert.DftChReferenceIdeal.main_arg1) = m' ((c.tc : Thread Cert.DftChReferenceIdeal.nD Cert.DftChReferenceIdeal.τ).loc Cert.DftChReferenceIdeal.main_arg1))

def preserves_DftPos_DftPosIdeal : Prop :=
  True

def algebraic_DftPosIdeal_DftPosReferenceIdeal [hDftPosIdeal : Cert.DftPosIdeal.Facts] [hDftPosReferenceIdeal : Cert.DftPosReferenceIdeal.Facts] : Prop :=
  ∀ (m : (ℓ : Loc Cert.DftPosIdeal.nD Cert.DftPosIdeal.τ Cert.DftPosIdeal.sig) → Buf (Elt Ideal) ℓ) (g : Dev Cert.DftPosIdeal.nD → PrngReg)
    (m' : (ℓ : Loc Cert.DftPosReferenceIdeal.nD Cert.DftPosReferenceIdeal.τ Cert.DftPosReferenceIdeal.sig) → Buf (Elt Ideal) ℓ) (g' : Dev Cert.DftPosReferenceIdeal.nD → PrngReg), Pre_DftPosIdeal m →
    (∀ c : Dev Cert.DftPosIdeal.nD,
      m' ((c.tc : Thread Cert.DftPosReferenceIdeal.nD Cert.DftPosReferenceIdeal.τ).loc Cert.DftPosReferenceIdeal.main_arg0) = m ((c.tc : Thread Cert.DftPosIdeal.nD Cert.DftPosIdeal.τ).loc Cert.DftPosIdeal.main_arg0)
      ∧ m' ((c.tc : Thread Cert.DftPosReferenceIdeal.nD Cert.DftPosReferenceIdeal.τ).loc Cert.DftPosReferenceIdeal.main_arg1) = m ((c.tc : Thread Cert.DftPosIdeal.nD Cert.DftPosIdeal.τ).loc Cert.DftPosIdeal.main_arg1)
      ∧ m' ((c.tc : Thread Cert.DftPosReferenceIdeal.nD Cert.DftPosReferenceIdeal.τ).loc Cert.DftPosReferenceIdeal.main_arg2) = m ((c.tc : Thread Cert.DftPosIdeal.nD Cert.DftPosIdeal.τ).loc Cert.DftPosIdeal.main_arg2)
      ∧ m' ((c.tc : Thread Cert.DftPosReferenceIdeal.nD Cert.DftPosReferenceIdeal.τ).loc Cert.DftPosReferenceIdeal.main_arg3) = m ((c.tc : Thread Cert.DftPosIdeal.nD Cert.DftPosIdeal.τ).loc Cert.DftPosIdeal.main_arg3)
      ∧ m' ((c.tc : Thread Cert.DftPosReferenceIdeal.nD Cert.DftPosReferenceIdeal.τ).loc Cert.DftPosReferenceIdeal.main_arg4) = m ((c.tc : Thread Cert.DftPosIdeal.nD Cert.DftPosIdeal.τ).loc Cert.DftPosIdeal.main_arg4)) →
    ∃ (v0 : (c : Dev Cert.DftPosIdeal.nD) → Buf (Elt Ideal) ((c.tc : Thread Cert.DftPosIdeal.nD Cert.DftPosIdeal.τ).loc Cert.DftPosIdeal.main_v1)),
      θ_run (Cert.DftPosIdeal.defs (F := Ideal)) (onTc (τ := Cert.DftPosIdeal.τ) (Cert.DftPosIdeal.main (F := Ideal))) ⟨m, fun _ => 0, g⟩ (fun r => ∀ c : Dev Cert.DftPosIdeal.nD,
          r.2.mem ((c.tc : Thread Cert.DftPosIdeal.nD Cert.DftPosIdeal.τ).loc Cert.DftPosIdeal.main_v1) = v0 c
          ∧ r.2.mem ((c.tc : Thread Cert.DftPosIdeal.nD Cert.DftPosIdeal.τ).loc Cert.DftPosIdeal.main_arg0) = m ((c.tc : Thread Cert.DftPosIdeal.nD Cert.DftPosIdeal.τ).loc Cert.DftPosIdeal.main_arg0)
          ∧ r.2.mem ((c.tc : Thread Cert.DftPosIdeal.nD Cert.DftPosIdeal.τ).loc Cert.DftPosIdeal.main_arg1) = m ((c.tc : Thread Cert.DftPosIdeal.nD Cert.DftPosIdeal.τ).loc Cert.DftPosIdeal.main_arg1)
          ∧ r.2.mem ((c.tc : Thread Cert.DftPosIdeal.nD Cert.DftPosIdeal.τ).loc Cert.DftPosIdeal.main_arg2) = m ((c.tc : Thread Cert.DftPosIdeal.nD Cert.DftPosIdeal.τ).loc Cert.DftPosIdeal.main_arg2)
          ∧ r.2.mem ((c.tc : Thread Cert.DftPosIdeal.nD Cert.DftPosIdeal.τ).loc Cert.DftPosIdeal.main_arg3) = m ((c.tc : Thread Cert.DftPosIdeal.nD Cert.DftPosIdeal.τ).loc Cert.DftPosIdeal.main_arg3)
          ∧ r.2.mem ((c.tc : Thread Cert.DftPosIdeal.nD Cert.DftPosIdeal.τ).loc Cert.DftPosIdeal.main_arg4) = m ((c.tc : Thread Cert.DftPosIdeal.nD Cert.DftPosIdeal.τ).loc Cert.DftPosIdeal.main_arg4))
      ∧ θ_run (Cert.DftPosReferenceIdeal.defs (F := Ideal)) (onTc (τ := Cert.DftPosReferenceIdeal.τ) (Cert.DftPosReferenceIdeal.main (F := Ideal))) ⟨m', fun _ => 0, g'⟩ (fun r => ∀ c : Dev Cert.DftPosReferenceIdeal.nD,
          r.2.mem ((c.tc : Thread Cert.DftPosReferenceIdeal.nD Cert.DftPosReferenceIdeal.τ).loc Cert.DftPosReferenceIdeal.main_v18) = v0 c
          ∧ r.2.mem ((c.tc : Thread Cert.DftPosReferenceIdeal.nD Cert.DftPosReferenceIdeal.τ).loc Cert.DftPosReferenceIdeal.main_arg0) = m' ((c.tc : Thread Cert.DftPosReferenceIdeal.nD Cert.DftPosReferenceIdeal.τ).loc Cert.DftPosReferenceIdeal.main_arg0)
          ∧ r.2.mem ((c.tc : Thread Cert.DftPosReferenceIdeal.nD Cert.DftPosReferenceIdeal.τ).loc Cert.DftPosReferenceIdeal.main_arg1) = m' ((c.tc : Thread Cert.DftPosReferenceIdeal.nD Cert.DftPosReferenceIdeal.τ).loc Cert.DftPosReferenceIdeal.main_arg1)
          ∧ r.2.mem ((c.tc : Thread Cert.DftPosReferenceIdeal.nD Cert.DftPosReferenceIdeal.τ).loc Cert.DftPosReferenceIdeal.main_arg2) = m' ((c.tc : Thread Cert.DftPosReferenceIdeal.nD Cert.DftPosReferenceIdeal.τ).loc Cert.DftPosReferenceIdeal.main_arg2)
          ∧ r.2.mem ((c.tc : Thread Cert.DftPosReferenceIdeal.nD Cert.DftPosReferenceIdeal.τ).loc Cert.DftPosReferenceIdeal.main_arg3) = m' ((c.tc : Thread Cert.DftPosReferenceIdeal.nD Cert.DftPosReferenceIdeal.τ).loc Cert.DftPosReferenceIdeal.main_arg3)
          ∧ r.2.mem ((c.tc : Thread Cert.DftPosReferenceIdeal.nD Cert.DftPosReferenceIdeal.τ).loc Cert.DftPosReferenceIdeal.main_arg4) = m' ((c.tc : Thread Cert.DftPosReferenceIdeal.nD Cert.DftPosReferenceIdeal.τ).loc Cert.DftPosReferenceIdeal.main_arg4))

def preserves_DftCtx_DftCtxIdeal : Prop :=
  True

def algebraic_DftCtxIdeal_DftCtxReferenceIdeal [hDftCtxIdeal : Cert.DftCtxIdeal.Facts] [hDftCtxReferenceIdeal : Cert.DftCtxReferenceIdeal.Facts] : Prop :=
  ∀ (m : (ℓ : Loc Cert.DftCtxIdeal.nD Cert.DftCtxIdeal.τ Cert.DftCtxIdeal.sig) → Buf (Elt Ideal) ℓ) (g : Dev Cert.DftCtxIdeal.nD → PrngReg)
    (m' : (ℓ : Loc Cert.DftCtxReferenceIdeal.nD Cert.DftCtxReferenceIdeal.τ Cert.DftCtxReferenceIdeal.sig) → Buf (Elt Ideal) ℓ) (g' : Dev Cert.DftCtxReferenceIdeal.nD → PrngReg), Pre_DftCtxIdeal m →
    (∀ c : Dev Cert.DftCtxIdeal.nD,
      m' ((c.tc : Thread Cert.DftCtxReferenceIdeal.nD Cert.DftCtxReferenceIdeal.τ).loc Cert.DftCtxReferenceIdeal.main_arg0) = m ((c.tc : Thread Cert.DftCtxIdeal.nD Cert.DftCtxIdeal.τ).loc Cert.DftCtxIdeal.main_arg0)
      ∧ m' ((c.tc : Thread Cert.DftCtxReferenceIdeal.nD Cert.DftCtxReferenceIdeal.τ).loc Cert.DftCtxReferenceIdeal.main_arg1) = m ((c.tc : Thread Cert.DftCtxIdeal.nD Cert.DftCtxIdeal.τ).loc Cert.DftCtxIdeal.main_arg1)
      ∧ m' ((c.tc : Thread Cert.DftCtxReferenceIdeal.nD Cert.DftCtxReferenceIdeal.τ).loc Cert.DftCtxReferenceIdeal.main_arg2) = m ((c.tc : Thread Cert.DftCtxIdeal.nD Cert.DftCtxIdeal.τ).loc Cert.DftCtxIdeal.main_arg2)
      ∧ m' ((c.tc : Thread Cert.DftCtxReferenceIdeal.nD Cert.DftCtxReferenceIdeal.τ).loc Cert.DftCtxReferenceIdeal.main_arg3) = m ((c.tc : Thread Cert.DftCtxIdeal.nD Cert.DftCtxIdeal.τ).loc Cert.DftCtxIdeal.main_arg3)
      ∧ m' ((c.tc : Thread Cert.DftCtxReferenceIdeal.nD Cert.DftCtxReferenceIdeal.τ).loc Cert.DftCtxReferenceIdeal.main_arg4) = m ((c.tc : Thread Cert.DftCtxIdeal.nD Cert.DftCtxIdeal.τ).loc Cert.DftCtxIdeal.main_arg4)) →
    ∃ (v0 : (c : Dev Cert.DftCtxIdeal.nD) → Buf (Elt Ideal) ((c.tc : Thread Cert.DftCtxIdeal.nD Cert.DftCtxIdeal.τ).loc Cert.DftCtxIdeal.main_v1)),
      θ_run (Cert.DftCtxIdeal.defs (F := Ideal)) (onTc (τ := Cert.DftCtxIdeal.τ) (Cert.DftCtxIdeal.main (F := Ideal))) ⟨m, fun _ => 0, g⟩ (fun r => ∀ c : Dev Cert.DftCtxIdeal.nD,
          r.2.mem ((c.tc : Thread Cert.DftCtxIdeal.nD Cert.DftCtxIdeal.τ).loc Cert.DftCtxIdeal.main_v1) = v0 c
          ∧ r.2.mem ((c.tc : Thread Cert.DftCtxIdeal.nD Cert.DftCtxIdeal.τ).loc Cert.DftCtxIdeal.main_arg0) = m ((c.tc : Thread Cert.DftCtxIdeal.nD Cert.DftCtxIdeal.τ).loc Cert.DftCtxIdeal.main_arg0)
          ∧ r.2.mem ((c.tc : Thread Cert.DftCtxIdeal.nD Cert.DftCtxIdeal.τ).loc Cert.DftCtxIdeal.main_arg1) = m ((c.tc : Thread Cert.DftCtxIdeal.nD Cert.DftCtxIdeal.τ).loc Cert.DftCtxIdeal.main_arg1)
          ∧ r.2.mem ((c.tc : Thread Cert.DftCtxIdeal.nD Cert.DftCtxIdeal.τ).loc Cert.DftCtxIdeal.main_arg2) = m ((c.tc : Thread Cert.DftCtxIdeal.nD Cert.DftCtxIdeal.τ).loc Cert.DftCtxIdeal.main_arg2)
          ∧ r.2.mem ((c.tc : Thread Cert.DftCtxIdeal.nD Cert.DftCtxIdeal.τ).loc Cert.DftCtxIdeal.main_arg3) = m ((c.tc : Thread Cert.DftCtxIdeal.nD Cert.DftCtxIdeal.τ).loc Cert.DftCtxIdeal.main_arg3)
          ∧ r.2.mem ((c.tc : Thread Cert.DftCtxIdeal.nD Cert.DftCtxIdeal.τ).loc Cert.DftCtxIdeal.main_arg4) = m ((c.tc : Thread Cert.DftCtxIdeal.nD Cert.DftCtxIdeal.τ).loc Cert.DftCtxIdeal.main_arg4))
      ∧ θ_run (Cert.DftCtxReferenceIdeal.defs (F := Ideal)) (onTc (τ := Cert.DftCtxReferenceIdeal.τ) (Cert.DftCtxReferenceIdeal.main (F := Ideal))) ⟨m', fun _ => 0, g'⟩ (fun r => ∀ c : Dev Cert.DftCtxReferenceIdeal.nD,
          r.2.mem ((c.tc : Thread Cert.DftCtxReferenceIdeal.nD Cert.DftCtxReferenceIdeal.τ).loc Cert.DftCtxReferenceIdeal.main_v18) = v0 c
          ∧ r.2.mem ((c.tc : Thread Cert.DftCtxReferenceIdeal.nD Cert.DftCtxReferenceIdeal.τ).loc Cert.DftCtxReferenceIdeal.main_arg0) = m' ((c.tc : Thread Cert.DftCtxReferenceIdeal.nD Cert.DftCtxReferenceIdeal.τ).loc Cert.DftCtxReferenceIdeal.main_arg0)
          ∧ r.2.mem ((c.tc : Thread Cert.DftCtxReferenceIdeal.nD Cert.DftCtxReferenceIdeal.τ).loc Cert.DftCtxReferenceIdeal.main_arg1) = m' ((c.tc : Thread Cert.DftCtxReferenceIdeal.nD Cert.DftCtxReferenceIdeal.τ).loc Cert.DftCtxReferenceIdeal.main_arg1)
          ∧ r.2.mem ((c.tc : Thread Cert.DftCtxReferenceIdeal.nD Cert.DftCtxReferenceIdeal.τ).loc Cert.DftCtxReferenceIdeal.main_arg2) = m' ((c.tc : Thread Cert.DftCtxReferenceIdeal.nD Cert.DftCtxReferenceIdeal.τ).loc Cert.DftCtxReferenceIdeal.main_arg2)
          ∧ r.2.mem ((c.tc : Thread Cert.DftCtxReferenceIdeal.nD Cert.DftCtxReferenceIdeal.τ).loc Cert.DftCtxReferenceIdeal.main_arg3) = m' ((c.tc : Thread Cert.DftCtxReferenceIdeal.nD Cert.DftCtxReferenceIdeal.τ).loc Cert.DftCtxReferenceIdeal.main_arg3)
          ∧ r.2.mem ((c.tc : Thread Cert.DftCtxReferenceIdeal.nD Cert.DftCtxReferenceIdeal.τ).loc Cert.DftCtxReferenceIdeal.main_arg4) = m' ((c.tc : Thread Cert.DftCtxReferenceIdeal.nD Cert.DftCtxReferenceIdeal.τ).loc Cert.DftCtxReferenceIdeal.main_arg4))

def preserves_Modulate_ModulateIdeal : Prop :=
  True

def algebraic_ModulateIdeal_ModulateReferenceIdeal [hModulateIdeal : Cert.ModulateIdeal.Facts] [hModulateReferenceIdeal : Cert.ModulateReferenceIdeal.Facts] : Prop :=
  ∀ (m : (ℓ : Loc Cert.ModulateIdeal.nD Cert.ModulateIdeal.τ Cert.ModulateIdeal.sig) → Buf (Elt Ideal) ℓ) (g : Dev Cert.ModulateIdeal.nD → PrngReg)
    (m' : (ℓ : Loc Cert.ModulateReferenceIdeal.nD Cert.ModulateReferenceIdeal.τ Cert.ModulateReferenceIdeal.sig) → Buf (Elt Ideal) ℓ) (g' : Dev Cert.ModulateReferenceIdeal.nD → PrngReg), Pre_ModulateIdeal m →
    (∀ c : Dev Cert.ModulateIdeal.nD,
      m' ((c.tc : Thread Cert.ModulateReferenceIdeal.nD Cert.ModulateReferenceIdeal.τ).loc Cert.ModulateReferenceIdeal.main_arg0) = m ((c.tc : Thread Cert.ModulateIdeal.nD Cert.ModulateIdeal.τ).loc Cert.ModulateIdeal.main_arg0)
      ∧ m' ((c.tc : Thread Cert.ModulateReferenceIdeal.nD Cert.ModulateReferenceIdeal.τ).loc Cert.ModulateReferenceIdeal.main_arg1) = m ((c.tc : Thread Cert.ModulateIdeal.nD Cert.ModulateIdeal.τ).loc Cert.ModulateIdeal.main_arg1)) →
    ∃ (v0 : (c : Dev Cert.ModulateIdeal.nD) → Buf (Elt Ideal) ((c.tc : Thread Cert.ModulateIdeal.nD Cert.ModulateIdeal.τ).loc Cert.ModulateIdeal.main_v1)),
      θ_run (Cert.ModulateIdeal.defs (F := Ideal)) (onTc (τ := Cert.ModulateIdeal.τ) (Cert.ModulateIdeal.main (F := Ideal))) ⟨m, fun _ => 0, g⟩ (fun r => ∀ c : Dev Cert.ModulateIdeal.nD,
          r.2.mem ((c.tc : Thread Cert.ModulateIdeal.nD Cert.ModulateIdeal.τ).loc Cert.ModulateIdeal.main_v1) = v0 c
          ∧ r.2.mem ((c.tc : Thread Cert.ModulateIdeal.nD Cert.ModulateIdeal.τ).loc Cert.ModulateIdeal.main_arg0) = m ((c.tc : Thread Cert.ModulateIdeal.nD Cert.ModulateIdeal.τ).loc Cert.ModulateIdeal.main_arg0)
          ∧ r.2.mem ((c.tc : Thread Cert.ModulateIdeal.nD Cert.ModulateIdeal.τ).loc Cert.ModulateIdeal.main_arg1) = m ((c.tc : Thread Cert.ModulateIdeal.nD Cert.ModulateIdeal.τ).loc Cert.ModulateIdeal.main_arg1))
      ∧ θ_run (Cert.ModulateReferenceIdeal.defs (F := Ideal)) (onTc (τ := Cert.ModulateReferenceIdeal.τ) (Cert.ModulateReferenceIdeal.main (F := Ideal))) ⟨m', fun _ => 0, g'⟩ (fun r => ∀ c : Dev Cert.ModulateReferenceIdeal.nD,
          r.2.mem ((c.tc : Thread Cert.ModulateReferenceIdeal.nD Cert.ModulateReferenceIdeal.τ).loc Cert.ModulateReferenceIdeal.main_v20) = v0 c
          ∧ r.2.mem ((c.tc : Thread Cert.ModulateReferenceIdeal.nD Cert.ModulateReferenceIdeal.τ).loc Cert.ModulateReferenceIdeal.main_arg0) = m' ((c.tc : Thread Cert.ModulateReferenceIdeal.nD Cert.ModulateReferenceIdeal.τ).loc Cert.ModulateReferenceIdeal.main_arg0)
          ∧ r.2.mem ((c.tc : Thread Cert.ModulateReferenceIdeal.nD Cert.ModulateReferenceIdeal.τ).loc Cert.ModulateReferenceIdeal.main_arg1) = m' ((c.tc : Thread Cert.ModulateReferenceIdeal.nD Cert.ModulateReferenceIdeal.τ).loc Cert.ModulateReferenceIdeal.main_arg1))

def preserves_ResidLn_ResidLnIdeal : Prop :=
  True

def algebraic_ResidLnIdeal_ResidLnReferenceIdeal [hResidLnIdeal : Cert.ResidLnIdeal.Facts] [hResidLnReferenceIdeal : Cert.ResidLnReferenceIdeal.Facts] : Prop :=
  ∀ (m : (ℓ : Loc Cert.ResidLnIdeal.nD Cert.ResidLnIdeal.τ Cert.ResidLnIdeal.sig) → Buf (Elt Ideal) ℓ) (g : Dev Cert.ResidLnIdeal.nD → PrngReg)
    (m' : (ℓ : Loc Cert.ResidLnReferenceIdeal.nD Cert.ResidLnReferenceIdeal.τ Cert.ResidLnReferenceIdeal.sig) → Buf (Elt Ideal) ℓ) (g' : Dev Cert.ResidLnReferenceIdeal.nD → PrngReg), Pre_ResidLnIdeal m →
    (∀ c : Dev Cert.ResidLnIdeal.nD,
      m' ((c.tc : Thread Cert.ResidLnReferenceIdeal.nD Cert.ResidLnReferenceIdeal.τ).loc Cert.ResidLnReferenceIdeal.main_arg0) = m ((c.tc : Thread Cert.ResidLnIdeal.nD Cert.ResidLnIdeal.τ).loc Cert.ResidLnIdeal.main_arg0)
      ∧ m' ((c.tc : Thread Cert.ResidLnReferenceIdeal.nD Cert.ResidLnReferenceIdeal.τ).loc Cert.ResidLnReferenceIdeal.main_arg1) = m ((c.tc : Thread Cert.ResidLnIdeal.nD Cert.ResidLnIdeal.τ).loc Cert.ResidLnIdeal.main_arg1)
      ∧ m' ((c.tc : Thread Cert.ResidLnReferenceIdeal.nD Cert.ResidLnReferenceIdeal.τ).loc Cert.ResidLnReferenceIdeal.main_arg2) = m ((c.tc : Thread Cert.ResidLnIdeal.nD Cert.ResidLnIdeal.τ).loc Cert.ResidLnIdeal.main_arg2)
      ∧ m' ((c.tc : Thread Cert.ResidLnReferenceIdeal.nD Cert.ResidLnReferenceIdeal.τ).loc Cert.ResidLnReferenceIdeal.main_arg3) = m ((c.tc : Thread Cert.ResidLnIdeal.nD Cert.ResidLnIdeal.τ).loc Cert.ResidLnIdeal.main_arg3)
      ∧ m' ((c.tc : Thread Cert.ResidLnReferenceIdeal.nD Cert.ResidLnReferenceIdeal.τ).loc Cert.ResidLnReferenceIdeal.main_arg4) = m ((c.tc : Thread Cert.ResidLnIdeal.nD Cert.ResidLnIdeal.τ).loc Cert.ResidLnIdeal.main_arg4)) →
    ∃ (v0 : (c : Dev Cert.ResidLnIdeal.nD) → Buf (Elt Ideal) ((c.tc : Thread Cert.ResidLnIdeal.nD Cert.ResidLnIdeal.τ).loc Cert.ResidLnIdeal.main_v3_0)) (v1 : (c : Dev Cert.ResidLnIdeal.nD) → Buf (Elt Ideal) ((c.tc : Thread Cert.ResidLnIdeal.nD Cert.ResidLnIdeal.τ).loc Cert.ResidLnIdeal.main_v3_1)),
      θ_run (Cert.ResidLnIdeal.defs (F := Ideal)) (onTc (τ := Cert.ResidLnIdeal.τ) (Cert.ResidLnIdeal.main (F := Ideal))) ⟨m, fun _ => 0, g⟩ (fun r => ∀ c : Dev Cert.ResidLnIdeal.nD,
          r.2.mem ((c.tc : Thread Cert.ResidLnIdeal.nD Cert.ResidLnIdeal.τ).loc Cert.ResidLnIdeal.main_v3_0) = v0 c
          ∧ r.2.mem ((c.tc : Thread Cert.ResidLnIdeal.nD Cert.ResidLnIdeal.τ).loc Cert.ResidLnIdeal.main_v3_1) = v1 c
          ∧ r.2.mem ((c.tc : Thread Cert.ResidLnIdeal.nD Cert.ResidLnIdeal.τ).loc Cert.ResidLnIdeal.main_arg0) = m ((c.tc : Thread Cert.ResidLnIdeal.nD Cert.ResidLnIdeal.τ).loc Cert.ResidLnIdeal.main_arg0)
          ∧ r.2.mem ((c.tc : Thread Cert.ResidLnIdeal.nD Cert.ResidLnIdeal.τ).loc Cert.ResidLnIdeal.main_arg1) = m ((c.tc : Thread Cert.ResidLnIdeal.nD Cert.ResidLnIdeal.τ).loc Cert.ResidLnIdeal.main_arg1)
          ∧ r.2.mem ((c.tc : Thread Cert.ResidLnIdeal.nD Cert.ResidLnIdeal.τ).loc Cert.ResidLnIdeal.main_arg2) = m ((c.tc : Thread Cert.ResidLnIdeal.nD Cert.ResidLnIdeal.τ).loc Cert.ResidLnIdeal.main_arg2)
          ∧ r.2.mem ((c.tc : Thread Cert.ResidLnIdeal.nD Cert.ResidLnIdeal.τ).loc Cert.ResidLnIdeal.main_arg3) = m ((c.tc : Thread Cert.ResidLnIdeal.nD Cert.ResidLnIdeal.τ).loc Cert.ResidLnIdeal.main_arg3)
          ∧ r.2.mem ((c.tc : Thread Cert.ResidLnIdeal.nD Cert.ResidLnIdeal.τ).loc Cert.ResidLnIdeal.main_arg4) = m ((c.tc : Thread Cert.ResidLnIdeal.nD Cert.ResidLnIdeal.τ).loc Cert.ResidLnIdeal.main_arg4))
      ∧ θ_run (Cert.ResidLnReferenceIdeal.defs (F := Ideal)) (onTc (τ := Cert.ResidLnReferenceIdeal.τ) (Cert.ResidLnReferenceIdeal.main (F := Ideal))) ⟨m', fun _ => 0, g'⟩ (fun r => ∀ c : Dev Cert.ResidLnReferenceIdeal.nD,
          r.2.mem ((c.tc : Thread Cert.ResidLnReferenceIdeal.nD Cert.ResidLnReferenceIdeal.τ).loc Cert.ResidLnReferenceIdeal.main_v51) = v0 c
          ∧ r.2.mem ((c.tc : Thread Cert.ResidLnReferenceIdeal.nD Cert.ResidLnReferenceIdeal.τ).loc Cert.ResidLnReferenceIdeal.main_v56) = v1 c
          ∧ r.2.mem ((c.tc : Thread Cert.ResidLnReferenceIdeal.nD Cert.ResidLnReferenceIdeal.τ).loc Cert.ResidLnReferenceIdeal.main_arg0) = m' ((c.tc : Thread Cert.ResidLnReferenceIdeal.nD Cert.ResidLnReferenceIdeal.τ).loc Cert.ResidLnReferenceIdeal.main_arg0)
          ∧ r.2.mem ((c.tc : Thread Cert.ResidLnReferenceIdeal.nD Cert.ResidLnReferenceIdeal.τ).loc Cert.ResidLnReferenceIdeal.main_arg1) = m' ((c.tc : Thread Cert.ResidLnReferenceIdeal.nD Cert.ResidLnReferenceIdeal.τ).loc Cert.ResidLnReferenceIdeal.main_arg1)
          ∧ r.2.mem ((c.tc : Thread Cert.ResidLnReferenceIdeal.nD Cert.ResidLnReferenceIdeal.τ).loc Cert.ResidLnReferenceIdeal.main_arg2) = m' ((c.tc : Thread Cert.ResidLnReferenceIdeal.nD Cert.ResidLnReferenceIdeal.τ).loc Cert.ResidLnReferenceIdeal.main_arg2)
          ∧ r.2.mem ((c.tc : Thread Cert.ResidLnReferenceIdeal.nD Cert.ResidLnReferenceIdeal.τ).loc Cert.ResidLnReferenceIdeal.main_arg3) = m' ((c.tc : Thread Cert.ResidLnReferenceIdeal.nD Cert.ResidLnReferenceIdeal.τ).loc Cert.ResidLnReferenceIdeal.main_arg3)
          ∧ r.2.mem ((c.tc : Thread Cert.ResidLnReferenceIdeal.nD Cert.ResidLnReferenceIdeal.τ).loc Cert.ResidLnReferenceIdeal.main_arg4) = m' ((c.tc : Thread Cert.ResidLnReferenceIdeal.nD Cert.ResidLnReferenceIdeal.τ).loc Cert.ResidLnReferenceIdeal.main_arg4))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjReferenceIdeal : Cert.InProjReferenceIdeal.Facts) (hOutProj : Cert.OutProj.Facts) (hOutProjIdeal : Cert.OutProjIdeal.Facts) (hOutProjReferenceIdeal : Cert.OutProjReferenceIdeal.Facts) (hExperts : Cert.Experts.Facts) (hExpertsIdeal : Cert.ExpertsIdeal.Facts) (hExpertsReferenceIdeal : Cert.ExpertsReferenceIdeal.Facts) (hQProj : Cert.QProj.Facts) (hQProjIdeal : Cert.QProjIdeal.Facts) (hQProjReferenceIdeal : Cert.QProjReferenceIdeal.Facts) (hKvProj : Cert.KvProj.Facts) (hKvProjIdeal : Cert.KvProjIdeal.Facts) (hKvProjReferenceIdeal : Cert.KvProjReferenceIdeal.Facts) (hChunkMix : Cert.ChunkMix.Facts) (hChunkMixIdeal : Cert.ChunkMixIdeal.Facts) (hChunkMixReferenceIdeal : Cert.ChunkMixReferenceIdeal.Facts) (hAdaln : Cert.Adaln.Facts) (hAdalnIdeal : Cert.AdalnIdeal.Facts) (hAdalnReferenceIdeal : Cert.AdalnReferenceIdeal.Facts) (hDftCh : Cert.DftCh.Facts) (hDftChIdeal : Cert.DftChIdeal.Facts) (hDftChReferenceIdeal : Cert.DftChReferenceIdeal.Facts) (hDftPos : Cert.DftPos.Facts) (hDftPosIdeal : Cert.DftPosIdeal.Facts) (hDftPosReferenceIdeal : Cert.DftPosReferenceIdeal.Facts) (hDftCtx : Cert.DftCtx.Facts) (hDftCtxIdeal : Cert.DftCtxIdeal.Facts) (hDftCtxReferenceIdeal : Cert.DftCtxReferenceIdeal.Facts) (hModulate : Cert.Modulate.Facts) (hModulateIdeal : Cert.ModulateIdeal.Facts) (hModulateReferenceIdeal : Cert.ModulateReferenceIdeal.Facts) (hResidLn : Cert.ResidLn.Facts) (hResidLnIdeal : Cert.ResidLnIdeal.Facts) (hResidLnReferenceIdeal : Cert.ResidLnReferenceIdeal.Facts) (hPre_finite : Cert.Pre_finite.Facts) (hPre_in_range : Cert.Pre_in_range.Facts) (hPre_finite_queries : Cert.Pre_finite_queries.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_InProj (hInProj := hInProj)
    ∧ quiescent_InProjIdeal (hInProjIdeal := hInProjIdeal)
    ∧ quiescent_InProjReferenceIdeal (hInProjReferenceIdeal := hInProjReferenceIdeal)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ quiescent_Experts (hExperts := hExperts) (hPre_in_range := hPre_in_range)
    ∧ quiescent_ExpertsIdeal (hExpertsIdeal := hExpertsIdeal) (hPre_in_range := hPre_in_range)
    ∧ quiescent_ExpertsReferenceIdeal (hExpertsReferenceIdeal := hExpertsReferenceIdeal)
    ∧ quiescent_ExpertsReferenceIdeal_pre_in_range (hExpertsReferenceIdeal := hExpertsReferenceIdeal) (hPre_in_range := hPre_in_range)
    ∧ quiescent_QProj (hQProj := hQProj)
    ∧ quiescent_QProjIdeal (hQProjIdeal := hQProjIdeal)
    ∧ quiescent_QProjIdeal_pre_finite_queries (hQProjIdeal := hQProjIdeal) (hPre_finite_queries := hPre_finite_queries)
    ∧ quiescent_QProjReferenceIdeal (hQProjReferenceIdeal := hQProjReferenceIdeal)
    ∧ quiescent_QProjReferenceIdeal_pre_finite_queries (hQProjReferenceIdeal := hQProjReferenceIdeal) (hPre_finite_queries := hPre_finite_queries)
    ∧ quiescent_KvProj (hKvProj := hKvProj)
    ∧ quiescent_KvProjIdeal (hKvProjIdeal := hKvProjIdeal)
    ∧ quiescent_KvProjReferenceIdeal (hKvProjReferenceIdeal := hKvProjReferenceIdeal)
    ∧ quiescent_ChunkMix (hChunkMix := hChunkMix)
    ∧ quiescent_ChunkMixIdeal (hChunkMixIdeal := hChunkMixIdeal)
    ∧ quiescent_ChunkMixReferenceIdeal (hChunkMixReferenceIdeal := hChunkMixReferenceIdeal)
    ∧ quiescent_Adaln (hAdaln := hAdaln)
    ∧ quiescent_AdalnIdeal (hAdalnIdeal := hAdalnIdeal)
    ∧ quiescent_AdalnReferenceIdeal (hAdalnReferenceIdeal := hAdalnReferenceIdeal)
    ∧ quiescent_DftCh (hDftCh := hDftCh)
    ∧ quiescent_DftChIdeal (hDftChIdeal := hDftChIdeal)
    ∧ quiescent_DftChReferenceIdeal (hDftChReferenceIdeal := hDftChReferenceIdeal)
    ∧ quiescent_DftPos (hDftPos := hDftPos)
    ∧ quiescent_DftPosIdeal (hDftPosIdeal := hDftPosIdeal)
    ∧ quiescent_DftPosReferenceIdeal (hDftPosReferenceIdeal := hDftPosReferenceIdeal)
    ∧ quiescent_DftCtx (hDftCtx := hDftCtx)
    ∧ quiescent_DftCtxIdeal (hDftCtxIdeal := hDftCtxIdeal)
    ∧ quiescent_DftCtxReferenceIdeal (hDftCtxReferenceIdeal := hDftCtxReferenceIdeal)
    ∧ quiescent_Modulate (hModulate := hModulate)
    ∧ quiescent_ModulateIdeal (hModulateIdeal := hModulateIdeal)
    ∧ quiescent_ModulateReferenceIdeal (hModulateReferenceIdeal := hModulateReferenceIdeal)
    ∧ quiescent_ResidLn (hResidLn := hResidLn)
    ∧ quiescent_ResidLnIdeal (hResidLnIdeal := hResidLnIdeal)
    ∧ quiescent_ResidLnReferenceIdeal (hResidLnReferenceIdeal := hResidLnReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_InProj_InProjIdeal
    ∧ algebraic_InProjIdeal_InProjReferenceIdeal (hInProjIdeal := hInProjIdeal) (hInProjReferenceIdeal := hInProjReferenceIdeal)
    ∧ preserves_OutProj_OutProjIdeal
    ∧ algebraic_OutProjIdeal_OutProjReferenceIdeal (hOutProjIdeal := hOutProjIdeal) (hOutProjReferenceIdeal := hOutProjReferenceIdeal)
    ∧ preserves_Experts_ExpertsIdeal
    ∧ algebraic_ExpertsIdeal_ExpertsReferenceIdeal (hExpertsIdeal := hExpertsIdeal) (hExpertsReferenceIdeal := hExpertsReferenceIdeal) (hPre_in_range := hPre_in_range)
    ∧ preserves_QProj_QProjIdeal
    ∧ algebraic_QProjIdeal_QProjReferenceIdeal_pre_finite_queries (hQProjIdeal := hQProjIdeal) (hQProjReferenceIdeal := hQProjReferenceIdeal) (hPre_finite_queries := hPre_finite_queries)
    ∧ preserves_KvProj_KvProjIdeal
    ∧ algebraic_KvProjIdeal_KvProjReferenceIdeal (hKvProjIdeal := hKvProjIdeal) (hKvProjReferenceIdeal := hKvProjReferenceIdeal)
    ∧ preserves_ChunkMix_ChunkMixIdeal
    ∧ algebraic_ChunkMixIdeal_ChunkMixReferenceIdeal (hChunkMixIdeal := hChunkMixIdeal) (hChunkMixReferenceIdeal := hChunkMixReferenceIdeal)
    ∧ preserves_Adaln_AdalnIdeal
    ∧ algebraic_AdalnIdeal_AdalnReferenceIdeal (hAdalnIdeal := hAdalnIdeal) (hAdalnReferenceIdeal := hAdalnReferenceIdeal)
    ∧ preserves_DftCh_DftChIdeal
    ∧ algebraic_DftChIdeal_DftChReferenceIdeal (hDftChIdeal := hDftChIdeal) (hDftChReferenceIdeal := hDftChReferenceIdeal)
    ∧ preserves_DftPos_DftPosIdeal
    ∧ algebraic_DftPosIdeal_DftPosReferenceIdeal (hDftPosIdeal := hDftPosIdeal) (hDftPosReferenceIdeal := hDftPosReferenceIdeal)
    ∧ preserves_DftCtx_DftCtxIdeal
    ∧ algebraic_DftCtxIdeal_DftCtxReferenceIdeal (hDftCtxIdeal := hDftCtxIdeal) (hDftCtxReferenceIdeal := hDftCtxReferenceIdeal)
    ∧ preserves_Modulate_ModulateIdeal
    ∧ algebraic_ModulateIdeal_ModulateReferenceIdeal (hModulateIdeal := hModulateIdeal) (hModulateReferenceIdeal := hModulateReferenceIdeal)
    ∧ preserves_ResidLn_ResidLnIdeal
    ∧ algebraic_ResidLnIdeal_ResidLnReferenceIdeal (hResidLnIdeal := hResidLnIdeal) (hResidLnReferenceIdeal := hResidLnReferenceIdeal)
-- ==== Pre_finite.lean ====
abbrev S8704x4096 : Shape := ⟨2, ![8704, 4096]⟩
abbrev S8704x2048 : Shape := ⟨2, ![8704, 2048]⟩
abbrev S_ : Shape := ⟨0, ![]⟩

class Facts : Prop where
  bcast_S_S8704x4096 : S_.BroadcastsInDim S8704x4096 (![] : Fin 0 → Fin S8704x4096.rank)
  reducesTo_S8704x4096_S_d0_1 : S8704x4096.ReducesTo [0, 1] S_
  h_S_ : 0 < S_.numel

variable [Facts]

def fn {F : FTy → Type} [FloatOps F] (main_arg0 : FVec F S8704x4096 .bf16) (main_arg1 : FVec F S8704x4096 .bf16) (main_arg2 : FVec F S8704x2048 .bf16) : IVec S_ 1 :=
  let main_v0 : FVec F S8704x4096 .bf16 := Host.absf main_arg0
  let main_cst : FVec F S_ .bf16 := constant S_ .bf16 0x7F80#16
  let main_v1 : FVec F S8704x4096 .bf16 := broadcastInDim S8704x4096 ![] bcast_S_S8704x4096 main_cst
  let main_v2 : IVec S8704x4096 1 := cmpf .olt main_v0 main_v1
  let main_c : IVec S_ 1 := constantI S_ 1 1#1
  let main_v3 : IVec S_ 1 := (fun x v => Host.reduce IntOp.andi x v reducesTo_S8704x4096_S_d0_1 h_S_) main_v2 main_c
  let main_v4 : FVec F S8704x4096 .bf16 := Host.absf main_arg1
  let main_cst_0 : FVec F S_ .bf16 := constant S_ .bf16 0x7F80#16
  let main_v5 : FVec F S8704x4096 .bf16 := broadcastInDim S8704x4096 ![] bcast_S_S8704x4096 main_cst_0
  let main_v6 : IVec S8704x4096 1 := cmpf .olt main_v4 main_v5
  let main_c_1 : IVec S_ 1 := constantI S_ 1 1#1
  let main_v7 : IVec S_ 1 := (fun x v => Host.reduce IntOp.andi x v reducesTo_S8704x4096_S_d0_1 h_S_) main_v6 main_c_1
  let main_v8 : IVec S_ 1 := andi main_v3 main_v7
  main_v8
-- ==== Pre_finite_queries.lean ====
abbrev S8704x5120 : Shape := ⟨2, ![8704, 5120]⟩
abbrev S1024 : Shape := ⟨1, ![1024]⟩
abbrev S1024x3072 : Shape := ⟨2, ![1024, 3072]⟩
abbrev S8704x128 : Shape := ⟨2, ![8704, 128]⟩
abbrev S1024x16x192 : Shape := ⟨3, ![1024, 16, 192]⟩
abbrev S1024x16x64 : Shape := ⟨3, ![1024, 16, 64]⟩
abbrev S_ : Shape := ⟨0, ![]⟩

class Facts : Prop where
  shapeCasts_S1024x3072_S1024x16x192 : S1024x3072.ShapeCasts S1024x16x192
  slices_S1024x16x192_S1024x16x64_0_0_128 : S1024x16x192.Slices ![0, 0, 128] S1024x16x64
  bcast_S_S1024 : S_.BroadcastsInDim S1024 (![] : Fin 0 → Fin S1024.rank)
  reducesTo_S1024_S_d0 : S1024.ReducesTo [0] S_
  h_S_ : 0 < S_.numel
  bcast_S_S1024x16x64 : S_.BroadcastsInDim S1024x16x64 (![] : Fin 0 → Fin S1024x16x64.rank)
  reducesTo_S1024x16x64_S_d0_1_2 : S1024x16x64.ReducesTo [0, 1, 2] S_

variable [Facts]

def fn {F : FTy → Type} [FloatOps F] (main_arg0 : FVec F S8704x5120 .f32) (main_arg1 : FVec F S1024 .f32) (main_arg2 : FVec F S1024x3072 .f32) (main_arg3 : FVec F S8704x128 .f32) : IVec S_ 1 :=
  let main_v0 : FVec F S1024x16x192 .f32 := shapeCast S1024x16x192 main_arg2 shapeCasts_S1024x3072_S1024x16x192
  let main_v1 : FVec F S1024x16x64 .f32 := (extractStridedSlice S1024x16x64 ![0, 0, 128] · slices_S1024x16x192_S1024x16x64_0_0_128) main_v0
  let main_v2 : FVec F S1024 .f32 := Host.absf main_arg1
  let main_cst : FVec F S_ .f32 := constant S_ .f32 0x7F800000#32
  let main_v3 : FVec F S1024 .f32 := broadcastInDim S1024 ![] bcast_S_S1024 main_cst
  let main_v4 : IVec S1024 1 := cmpf .olt main_v2 main_v3
  let main_c : IVec S_ 1 := constantI S_ 1 1#1
  let main_v5 : IVec S_ 1 := (fun x v => Host.reduce IntOp.andi x v reducesTo_S1024_S_d0 h_S_) main_v4 main_c
  let main_v6 : FVec F S1024x16x64 .f32 := Host.absf main_v1
  let main_cst_0 : FVec F S_ .f32 := constant S_ .f32 0x7F800000#32
  let main_v7 : FVec F S1024x16x64 .f32 := broadcastInDim S1024x16x64 ![] bcast_S_S1024x16x64 main_cst_0
  let main_v8 : IVec S1024x16x64 1 := cmpf .olt main_v6 main_v7
  let main_c_1 : IVec S_ 1 := constantI S_ 1 1#1
  let main_v9 : IVec S_ 1 := (fun x v => Host.reduce IntOp.andi x v reducesTo_S1024x16x64_S_d0_1_2 h_S_) main_v8 main_c_1
  let main_v10 : IVec S_ 1 := andi main_v5 main_v9
  main_v10
-- ==== Pre_in_range.lean ====
abbrev S21 : Shape := ⟨1, ![21]⟩
abbrev S10752x4096 : Shape := ⟨2, ![10752, 4096]⟩
abbrev S10752x128 : Shape := ⟨2, ![10752, 128]⟩
abbrev S4x4096x1536 : Shape := ⟨3, ![4, 4096, 1536]⟩
abbrev S4x1536x4096 : Shape := ⟨3, ![4, 1536, 4096]⟩
abbrev S_ : Shape := ⟨0, ![]⟩

class Facts : Prop where
  bcast_S_S21 : S_.BroadcastsInDim S21 (![] : Fin 0 → Fin S21.rank)
  reducesTo_S21_S_d0 : S21.ReducesTo [0] S_
  h_S_ : 0 < S_.numel

variable [Facts]

def fn {F : FTy → Type} [FloatOps F] (main_arg0 : IVec S21 32) (main_arg1 : IVec S21 32) (main_arg2 : FVec F S10752x4096 .bf16) (main_arg3 : FVec F S10752x128 .f32) (main_arg4 : FVec F S4x4096x1536 .bf16) (main_arg5 : FVec F S4x4096x1536 .bf16) (main_arg6 : FVec F S4x1536x4096 .bf16) : IVec S_ 1 :=
  let main_c : IVec S_ 32 := constantI S_ 32 0#32
  let main_v0 : IVec S21 32 := broadcastInDim S21 ![] bcast_S_S21 main_c
  let main_v1 : IVec S21 1 := cmpi .sge main_arg0 main_v0
  let main_c_0 : IVec S_ 32 := constantI S_ 32 4#32
  let main_v2 : IVec S21 32 := broadcastInDim S21 ![] bcast_S_S21 main_c_0
  let main_v3 : IVec S21 1 := cmpi .slt main_arg0 main_v2
  let main_v4 : IVec S21 1 := andi main_v1 main_v3
  let main_c_1 : IVec S_ 1 := constantI S_ 1 1#1
  let main_v5 : IVec S_ 1 := (fun x v => Host.reduce IntOp.andi x v reducesTo_S21_S_d0 h_S_) main_v4 main_c_1
  let main_c_2 : IVec S_ 32 := constantI S_ 32 0#32
  let main_v6 : IVec S21 32 := broadcastInDim S21 ![] bcast_S_S21 main_c_2
  let main_v7 : IVec S21 1 := cmpi .eq main_arg1 main_v6
  let main_c_3 : IVec S_ 32 := constantI S_ 32 1#32
  let main_v8 : IVec S21 32 := broadcastInDim S21 ![] bcast_S_S21 main_c_3
  let main_v9 : IVec S21 1 := cmpi .eq main_arg1 main_v8
  let main_v10 : IVec S21 1 := ori main_v7 main_v9
  let main_c_4 : IVec S_ 1 := constantI S_ 1 1#1
  let main_v11 : IVec S_ 1 := (fun x v => Host.reduce IntOp.andi x v reducesTo_S21_S_d0 h_S_) main_v10 main_c_4
  let main_v12 : IVec S_ 1 := andi main_v5 main_v11
  main_v12
-- ==== Kernel.lean ====
abbrev S8704x4096 : Shape := ⟨2, ![8704, 4096]⟩
abbrev S8704x2048 : Shape := ⟨2, ![8704, 2048]⟩
abbrev S256x256 : Shape := ⟨2, ![256, 256]⟩
abbrev S4096x256 : Shape := ⟨2, ![4096, 256]⟩
abbrev S4096x128 : Shape := ⟨2, ![4096, 128]⟩
abbrev S256x128 : Shape := ⟨2, ![256, 128]⟩
abbrev S256 : Shape := ⟨1, ![256]⟩
abbrev S256x1 : Shape := ⟨2, ![256, 1]⟩
abbrev S256x4096 : Shape := ⟨2, ![256, 4096]⟩

abbrev nBuf : Space → Nat
  | .hbm => 4
  | .vmem => 12
  | .smem => 0
  | _ => 0

abbrev bufTy : (tb : Table) → Fin (tcTables nBuf tb) → BufTy
  | .hbm, ⟨0, _⟩ => ⟨S8704x4096, .bf16⟩
  | .hbm, ⟨1, _⟩ => ⟨S8704x4096, .bf16⟩
  | .hbm, ⟨2, _⟩ => ⟨S8704x2048, .bf16⟩
  | .hbm, ⟨3, _⟩ => ⟨S8704x2048, .bf16⟩
  | .local _ .vmem, ⟨0, _⟩ => ⟨S256x256, .bf16⟩
  | .local _ .vmem, ⟨1, _⟩ => ⟨S256x256, .bf16⟩
  | .local _ .vmem, ⟨2, _⟩ => ⟨S4096x256, .bf16⟩
  | .local _ .vmem, ⟨3, _⟩ => ⟨S4096x256, .bf16⟩
  | .local _ .vmem, ⟨4, _⟩ => ⟨S4096x128, .bf16⟩
  | .local _ .vmem, ⟨5, _⟩ => ⟨S4096x128, .bf16⟩
  | .local _ .vmem, ⟨6, _⟩ => ⟨S256x256, .bf16⟩
  | .local _ .vmem, ⟨7, _⟩ => ⟨S256x256, .bf16⟩
  | .local _ .vmem, ⟨8, _⟩ => ⟨S256x128, .bf16⟩
  | .local _ .vmem, ⟨9, _⟩ => ⟨S256x128, .bf16⟩
  | .local _ .vmem, ⟨10, _⟩ => ⟨S256x128, .bf16⟩
  | .local _ .vmem, ⟨11, _⟩ => ⟨S256x128, .bf16⟩
  | _, _ => ⟨S8704x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 16, 17], ![false, false, false]⟩

def k0_cond1 (i : grid0.Coords) : BitVec 1 :=
  let arg2 : BitVec 32 := BitVec.ofNat 32 (i 2).val
  let c16_i32 : BitVec 32 := 16#32
  let v5 : BitVec 1 := Scalar.cmpi .slt arg2 c16_i32
  let v6 : BitVec 32 := Scalar.extui v5
  let c0_i32 : BitVec 32 := 0#32
  let v7 : BitVec 1 := Scalar.cmpi .ne v6 c0_i32
  v7

def k0_cond2 (i : grid0.Coords) : BitVec 1 :=
  let arg2 : BitVec 32 := BitVec.ofNat 32 (i 2).val
  let c16_i32_4 : BitVec 32 := 16#32
  let v8 : BitVec 1 := Scalar.cmpi .sge arg2 c16_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 1 := Scalar.cmpi .slt arg2 c16_i32
  let c16_i32_0 : BitVec 32 := 16#32
  let v1 : BitVec 32 := Scalar.muli arg0 c16_i32_0
  let v2 : BitVec 32 := Scalar.addi v1 arg2
  let c1_i32 : BitVec 32 := 1#32
  let v3 : BitVec 32 := Scalar.muli arg0 c1_i32
  let c32_i32 : BitVec 32 := 32#32
  let v4 : BitVec 32 := Scalar.addi c32_i32 v3
  let c16_i32_1 : BitVec 32 := 16#32
  let v5 : BitVec 32 := Scalar.subi arg2 c16_i32_1
  let v6 : BitVec 32 := Scalar.addi v4 v5
  let v7 : BitVec 32 := Scalar.select v0 v2 v6
  let c0_i32 : BitVec 32 := 0#32
  ![v7.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg0
  let c0_i32 : BitVec 32 := 0#32
  ![v0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg0
  let c0_i32 : BitVec 32 := 0#32
  ![v0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 1 := Scalar.cmpi .slt arg2 c16_i32
  let c16_i32_0 : BitVec 32 := 16#32
  let v1 : BitVec 32 := Scalar.muli arg0 c16_i32_0
  let v2 : BitVec 32 := Scalar.addi v1 arg2
  let c1_i32 : BitVec 32 := 1#32
  let v3 : BitVec 32 := Scalar.muli arg0 c1_i32
  let c32_i32 : BitVec 32 := 32#32
  let v4 : BitVec 32 := Scalar.addi c32_i32 v3
  let c16_i32_1 : BitVec 32 := 16#32
  let v5 : BitVec 32 := Scalar.subi arg2 c16_i32_1
  let v6 : BitVec 32 := Scalar.addi v4 v5
  let v7 : BitVec 32 := Scalar.select v0 v2 v6
  let c0_i32 : BitVec 32 := 0#32
  ![v7.toNat, arg1.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S8704x4096 : Shape := ⟨2, ![8704, 4096]⟩
abbrev S8704x2048 : Shape := ⟨2, ![8704, 2048]⟩
abbrev S8192x4096 : Shape := ⟨2, ![8192, 4096]⟩
abbrev S2x4096x16x256 : Shape := ⟨4, ![2, 4096, 16, 256]⟩
abbrev S512x4096 : Shape := ⟨2, ![512, 4096]⟩
abbrev S2x256x16x256 : Shape := ⟨4, ![2, 256, 16, 256]⟩
abbrev S2x4352x16x256 : Shape := ⟨4, ![2, 4352, 16, 256]⟩
abbrev S512x2048 : Shape := ⟨2, ![512, 2048]⟩
abbrev S2x256x16x128 : Shape := ⟨4, ![2, 256, 16, 128]⟩
abbrev S8192x2048 : Shape := ⟨2, ![8192, 2048]⟩
abbrev S2x4096x16x128 : Shape := ⟨4, ![2, 4096, 16, 128]⟩
abbrev S2x4352x16x128 : Shape := ⟨4, ![2, 4352, 16, 128]⟩
abbrev S2x16x4096x4352 : Shape := ⟨4, ![2, 16, 4096, 4352]⟩
abbrev S_ : Shape := ⟨0, ![]⟩
abbrev S2x16x4096 : Shape := ⟨3, ![2, 16, 4096]⟩
abbrev S2x16x4096x1 : Shape := ⟨4, ![2, 16, 4096, 1]⟩
abbrev S2x16x128x4096 : Shape := ⟨4, ![2, 16, 128, 4096]⟩
abbrev S2x16x256x256 : Shape := ⟨4, ![2, 16, 256, 256]⟩
abbrev S2x16x256 : Shape := ⟨3, ![2, 16, 256]⟩
abbrev S2x16x256x1 : Shape := ⟨4, ![2, 16, 256, 1]⟩
abbrev S2x16x128x256 : Shape := ⟨4, ![2, 16, 128, 256]⟩

abbrev nBuf : Space → Nat
  | .hbm => 62
  | .vmem => 0
  | .smem => 0
  | _ => 0

abbrev bufTy : (tb : Table) → Fin (tcTables nBuf tb) → BufTy
  | .hbm, ⟨0, _⟩ => ⟨S8704x4096, .bf16⟩
  | .hbm, ⟨1, _⟩ => ⟨S8704x4096, .bf16⟩
  | .hbm, ⟨2, _⟩ => ⟨S8704x2048, .bf16⟩
  | .hbm, ⟨3, _⟩ => ⟨S8192x4096, .bf16⟩
  | .hbm, ⟨4, _⟩ => ⟨S2x4096x16x256, .bf16⟩
  | .hbm, ⟨5, _⟩ => ⟨S512x4096, .bf16⟩
  | .hbm, ⟨6, _⟩ => ⟨S2x256x16x256, .bf16⟩
  | .hbm, ⟨7, _⟩ => ⟨S8192x4096, .bf16⟩
  | .hbm, ⟨8, _⟩ => ⟨S2x4096x16x256, .bf16⟩
  | .hbm, ⟨9, _⟩ => ⟨S2x4352x16x256, .bf16⟩
  | .hbm, ⟨10, _⟩ => ⟨S512x2048, .bf16⟩
  | .hbm, ⟨11, _⟩ => ⟨S2x256x16x128, .bf16⟩
  | .hbm, ⟨12, _⟩ => ⟨S8192x2048, .bf16⟩
  | .hbm, ⟨13, _⟩ => ⟨S2x4096x16x128, .bf16⟩
  | .hbm, ⟨14, _⟩ => ⟨S2x4352x16x128, .bf16⟩
  | .hbm, ⟨15, _⟩ => ⟨S2x16x4096x4352, .f32⟩
  | .hbm, ⟨16, _⟩ => ⟨S_, .f32⟩
  | .hbm, ⟨17, _⟩ => ⟨S2x16x4096, .f32⟩
  | .hbm, ⟨18, _⟩ => ⟨S_, .f32⟩
  | .hbm, ⟨19, _⟩ => ⟨S2x16x4096, .f32⟩
  | .hbm, ⟨20, _⟩ => ⟨S2x16x4096, .f32⟩
  | .hbm, ⟨21, _⟩ => ⟨S2x16x4096x1, .f32⟩
  | .hbm, ⟨22, _⟩ => ⟨S2x16x4096x4352, .f32⟩
  | .hbm, ⟨23, _⟩ => ⟨S2x16x4096x4352, .f32⟩
  | .hbm, ⟨24, _⟩ => ⟨S2x16x4096x4352, .f32⟩
  | .hbm, ⟨25, _⟩ => ⟨S_, .f32⟩
  | .hbm, ⟨26, _⟩ => ⟨S2x16x4096, .f32⟩
  | .hbm, ⟨27, _⟩ => ⟨S2x16x4096x1, .f32⟩
  | .hbm, ⟨28, _⟩ => ⟨S2x16x4096x4352, .f32⟩
  | .hbm, ⟨29, _⟩ => ⟨S2x16x4096x4352, .f32⟩
  | .hbm, ⟨30, _⟩ => ⟨S2x16x4096x4352, .bf16⟩
  | .hbm, ⟨31, _⟩ => ⟨S2x16x128x4096, .f32⟩
  | .hbm, ⟨32, _⟩ => ⟨S2x4096x16x128, .f32⟩
  | .hbm, ⟨33, _⟩ => ⟨S2x4096x16x128, .bf16⟩
  | .hbm, ⟨34, _⟩ => ⟨S8192x2048, .bf16⟩
  | .hbm, ⟨35, _⟩ => ⟨S512x4096, .bf16⟩
  | .hbm, ⟨36, _⟩ => ⟨S2x256x16x256, .bf16⟩
  | .hbm, ⟨37, _⟩ => ⟨S512x4096, .bf16⟩
  | .hbm, ⟨38, _⟩ => ⟨S2x256x16x256, .bf16⟩
  | .hbm, ⟨39, _⟩ => ⟨S512x2048, .bf16⟩
  | .hbm, ⟨40, _⟩ => ⟨S2x256x16x128, .bf16⟩
  | .hbm, ⟨41, _⟩ => ⟨S2x16x256x256, .f32⟩
  | .hbm, ⟨42, _⟩ => ⟨S_, .f32⟩
  | .hbm, ⟨43, _⟩ => ⟨S2x16x256, .f32⟩
  | .hbm, ⟨44, _⟩ => ⟨S_, .f32⟩
  | .hbm, ⟨45, _⟩ => ⟨S2x16x256, .f32⟩
  | .hbm, ⟨46, _⟩ => ⟨S2x16x256, .f32⟩
  | .hbm, ⟨47, _⟩ => ⟨S2x16x256x1, .f32⟩
  | .hbm, ⟨48, _⟩ => ⟨S2x16x256x256, .f32⟩
  | .hbm, ⟨49, _⟩ => ⟨S2x16x256x256, .f32⟩
  | .hbm, ⟨50, _⟩ => ⟨S2x16x256x256, .f32⟩
  | .hbm, ⟨51, _⟩ => ⟨S_, .f32⟩
  | .hbm, ⟨52, _⟩ => ⟨S2x16x256, .f32⟩
  | .hbm, ⟨53, _⟩ => ⟨S2x16x256x1, .f32⟩
  | .hbm, ⟨54, _⟩ => ⟨S2x16x256x256, .f32⟩
  | .hbm, ⟨55, _⟩ => ⟨S2x16x256x256, .f32⟩
  | .hbm, ⟨56, _⟩ => ⟨S2x16x256x256, .bf16⟩
  | .hbm, ⟨57, _⟩ => ⟨S2x16x128x256, .f32⟩
  | .hbm, ⟨58, _⟩ => ⟨S2x256x16x128, .f32⟩
  | .hbm, ⟨59, _⟩ => ⟨S2x256x16x128, .bf16⟩
  | .hbm, ⟨60, _⟩ => ⟨S512x2048, .bf16⟩
  | .hbm, ⟨61, _⟩ => ⟨S8704x2048, .bf16⟩
  | _, _ => ⟨S8704x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_1 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_cst_2 : Ref sig .tc := ⟨.hbm, 42, rfl⟩
abbrev main_v36 : Ref sig .tc := ⟨.hbm, 43, rfl⟩
abbrev main_cst_3 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_cst_4 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩

abbrev nD : Nat := 1
abbrev τ : Topo := Topo.v7x

variable {F : FTy → Type} [FloatOps F]
-- ==== InProj.lean ====
abbrev S8704x4096 : Shape := ⟨2, ![8704, 4096]⟩
abbrev S4096x5120 : Shape := ⟨2, ![4096, 5120]⟩
abbrev S8704x5120 : Shape := ⟨2, ![8704, 5120]⟩
abbrev S1088x4096 : Shape := ⟨2, ![1088, 4096]⟩
abbrev S4096x512 : Shape := ⟨2, ![4096, 512]⟩
abbrev S1088x512 : Shape := ⟨2, ![1088, 512]⟩

abbrev nBuf : Space → Nat
  | .hbm => 3
  | .vmem => 6
  | .smem => 0
  | _ => 0

abbrev bufTy : (tb : Table) → Fin (tcTables nBuf tb) → BufTy
  | .hbm, ⟨0, _⟩ => ⟨S8704x4096, .bf16⟩
  | .hbm, ⟨1, _⟩ => ⟨S4096x5120, .bf16⟩
  | .hbm, ⟨2, _⟩ => ⟨S8704x5120, .f32⟩
  | .local _ .vmem, ⟨0, _⟩ => ⟨S1088x4096, .bf16⟩
  | .local _ .vmem, ⟨1, _⟩ => ⟨S1088x4096, .bf16⟩
  | .local _ .vmem, ⟨2, _⟩ => ⟨S4096x512, .bf16⟩
  | .local _ .vmem, ⟨3, _⟩ => ⟨S4096x512, .bf16⟩
  | .local _ .vmem, ⟨4, _⟩ => ⟨S1088x512, .f32⟩
  | .local _ .vmem, ⟨5, _⟩ => ⟨S1088x512, .f32⟩
  | _, _ => ⟨S8704x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1088x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjReferenceIdeal.lean ====
abbrev S8704x4096 : Shape := ⟨2, ![8704, 4096]⟩
abbrev S4096x5120 : Shape := ⟨2, ![4096, 5120]⟩
abbrev S8704x5120 : Shape := ⟨2, ![8704, 5120]⟩

abbrev nBuf : Space → Nat
  | .hbm => 3
  | .vmem => 0
  | .smem => 0
  | _ => 0

abbrev bufTy : (tb : Table) → Fin (tcTables nBuf tb) → BufTy
  | .hbm, ⟨0, _⟩ => ⟨S8704x4096, .bf16⟩
  | .hbm, ⟨1, _⟩ => ⟨S4096x5120, .bf16⟩
  | .hbm, ⟨2, _⟩ => ⟨S8704x5120, .f32⟩
  | _, _ => ⟨S8704x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== OutProj.lean ====
abbrev S8704x2048 : Shape := ⟨2, ![8704, 2048]⟩
abbrev S8704x1024 : Shape := ⟨2, ![8704, 1024]⟩
abbrev S4096x4096 : Shape := ⟨2, ![4096, 4096]⟩
abbrev S8704x4096 : Shape := ⟨2, ![8704, 4096]⟩
abbrev S1088x2048 : Shape := ⟨2, ![1088, 2048]⟩
abbrev S1088x1024 : Shape := ⟨2, ![1088, 1024]⟩
abbrev S2048x512 : Shape := ⟨2, ![2048, 512]⟩
abbrev S1024x512 : Shape := ⟨2, ![1024, 512]⟩
abbrev S1088x512 : Shape := ⟨2, ![1088, 512]⟩

abbrev nBuf : Space → Nat
  | .hbm => 6
  | .vmem => 14
  | .smem => 0
  | _ => 0

abbrev bufTy : (tb : Table) → Fin (tcTables nBuf tb) → BufTy
  | .hbm, ⟨0, _⟩ => ⟨S8704x2048, .bf16⟩
  | .hbm, ⟨1, _⟩ => ⟨S8704x1024, .bf16⟩
  | .hbm, ⟨2, _⟩ => ⟨S8704x1024, .bf16⟩
  | .hbm, ⟨3, _⟩ => ⟨S4096x4096, .f32⟩
  | .hbm, ⟨4, _⟩ => ⟨S4096x4096, .bf16⟩
  | .hbm, ⟨5, _⟩ => ⟨S8704x4096, .f32⟩
  | .local _ .vmem, ⟨0, _⟩ => ⟨S1088x2048, .bf16⟩
  | .local _ .vmem, ⟨1, _⟩ => ⟨S1088x2048, .bf16⟩
  | .local _ .vmem, ⟨2, _⟩ => ⟨S1088x1024, .bf16⟩
  | .local _ .vmem, ⟨3, _⟩ => ⟨S1088x1024, .bf16⟩
  | .local _ .vmem, ⟨4, _⟩ => ⟨S1088x1024, .bf16⟩
  | .local _ .vmem, ⟨5, _⟩ => ⟨S1088x1024, .bf16⟩
  | .local _ .vmem, ⟨6, _⟩ => ⟨S2048x512, .bf16⟩
  | .local _ .vmem, ⟨7, _⟩ => ⟨S2048x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1088x512, .f32⟩
  | .local _ .vmem, ⟨13, _⟩ => ⟨S1088x512, .f32⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![c2_i32.toNat, arg1.toNat]

def cc0_transform_5 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![c3_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1088x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1088x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1088x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== OutProjReferenceIdeal.lean ====
abbrev S8704x2048 : Shape := ⟨2, ![8704, 2048]⟩
abbrev S8704x1024 : Shape := ⟨2, ![8704, 1024]⟩
abbrev S4096x4096 : Shape := ⟨2, ![4096, 4096]⟩
abbrev S8704x4096 : Shape := ⟨2, ![8704, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S8704x1024, .bf16⟩
  | .hbm, ⟨2, _⟩ => ⟨S8704x1024, .bf16⟩
  | .hbm, ⟨3, _⟩ => ⟨S4096x4096, .f32⟩
  | .hbm, ⟨4, _⟩ => ⟨S8704x4096, .bf16⟩
  | .hbm, ⟨5, _⟩ => ⟨S4096x4096, .bf16⟩
  | .hbm, ⟨6, _⟩ => ⟨S8704x4096, .f32⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Experts.lean ====
abbrev S21 : Shape := ⟨1, ![21]⟩
abbrev S10752x4096 : Shape := ⟨2, ![10752, 4096]⟩
abbrev S10752x128 : Shape := ⟨2, ![10752, 128]⟩
abbrev S4x4096x1536 : Shape := ⟨3, ![4, 4096, 1536]⟩
abbrev S4x1536x4096 : Shape := ⟨3, ![4, 1536, 4096]⟩
abbrev S512x4096 : Shape := ⟨2, ![512, 4096]⟩
abbrev S512x128 : Shape := ⟨2, ![512, 128]⟩
abbrev S1x4096x256 : Shape := ⟨3, ![1, 4096, 256]⟩
abbrev S1 : Shape := ⟨1, ![1]⟩
abbrev S1x256x4096 : Shape := ⟨3, ![1, 256, 4096]⟩
abbrev S4096x256 : Shape := ⟨2, ![4096, 256]⟩
abbrev S512x256 : Shape := ⟨2, ![512, 256]⟩
abbrev S1x256 : Shape := ⟨2, ![1, 256]⟩
abbrev S512x1 : Shape := ⟨2, ![512, 1]⟩
abbrev S256x4096 : Shape := ⟨2, ![256, 4096]⟩

abbrev nBuf : Space → Nat
  | .hbm => 6
  | .vmem => 12
  | .smem => 2
  | _ => 0

abbrev bufTy : (tb : Table) → Fin (tcTables nBuf tb) → BufTy
  | .hbm, ⟨0, _⟩ => ⟨S10752x4096, .bf16⟩
  | .hbm, ⟨1, _⟩ => ⟨S10752x128, .f32⟩
  | .hbm, ⟨2, _⟩ => ⟨S4x4096x1536, .bf16⟩
  | .hbm, ⟨3, _⟩ => ⟨S4x4096x1536, .bf16⟩
  | .hbm, ⟨4, _⟩ => ⟨S4x1536x4096, .bf16⟩
  | .hbm, ⟨5, _⟩ => ⟨S10752x4096, .f32⟩
  | .local _ .vmem, ⟨0, _⟩ => ⟨S512x4096, .bf16⟩
  | .local _ .vmem, ⟨1, _⟩ => ⟨S512x4096, .bf16⟩
  | .local _ .vmem, ⟨2, _⟩ => ⟨S512x128, .f32⟩
  | .local _ .vmem, ⟨3, _⟩ => ⟨S512x128, .f32⟩
  | .local _ .vmem, ⟨4, _⟩ => ⟨S1x4096x256, .bf16⟩
  | .local _ .vmem, ⟨5, _⟩ => ⟨S1x4096x256, .bf16⟩
  | .local _ .vmem, ⟨6, _⟩ => ⟨S1x4096x256, .bf16⟩
  | .local _ .vmem, ⟨7, _⟩ => ⟨S1x4096x256, .bf16⟩
  | .local _ .vmem, ⟨8, _⟩ => ⟨S1x256x4096, .bf16⟩
  | .local _ .vmem, ⟨9, _⟩ => ⟨S1x256x4096, .bf16⟩
  | .local _ .vmem, ⟨10, _⟩ => ⟨S512x4096, .f32⟩
  | .local _ .vmem, ⟨11, _⟩ => ⟨S512x4096, .f32⟩
  | .local _ .smem, ⟨0, _⟩ => ⟨S21, .i32⟩
  | .local _ .smem, ⟨1, _⟩ => ⟨S21, .i32⟩
  | _, _ => ⟨S10752x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![21, 6], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v5 : Index := Scalar.indexCast arg0
  ![v5.toNat]
def k0_cond1 (v1 : BitVec 32) : BitVec 1 :=
  let c1_i32 : BitVec 32 := 1#32
  let v2 : BitVec 1 := Scalar.cmpi .eq v1 c1_i32
  let v3 : BitVec 32 := Scalar.extui v2
  let c0_i32 : BitVec 32 := 0#32
  let v4 : BitVec 1 := Scalar.cmpi .ne v3 c0_i32
  v4

def k0_cond2 (i : grid0.Coords) : BitVec 1 :=
  let arg1 : BitVec 32 := BitVec.ofNat 32 (i 1).val
  let c0_i32_22 : BitVec 32 := 0#32
  let v77 : BitVec 1 := Scalar.cmpi .eq arg1 c0_i32_22
  let v78 : BitVec 32 := Scalar.extui v77
  let c0_i32_23 : BitVec 32 := 0#32
  let v79 : BitVec 1 := Scalar.cmpi .ne v78 c0_i32_23
  v79

def k0_cond3 (i : grid0.Coords) : BitVec 1 :=
  let arg1 : BitVec 32 := BitVec.ofNat 32 (i 1).val
  let c0_i32_24 : BitVec 32 := 0#32
  let v80 : BitVec 1 := Scalar.cmpi .sgt arg1 c0_i32_24
  let v81 : BitVec 32 := Scalar.extui v80
  let c0_i32_25 : BitVec 32 := 0#32
  let v82 : BitVec 1 := Scalar.cmpi .ne v81 c0_i32_25
  v82

def k0_cond4 (i : grid0.Coords) (v6 : BitVec 32) : BitVec 1 :=
  let c0_i32_0 : BitVec 32 := 0#32
  let v7 : BitVec 1 := Scalar.cmpi .eq v6 c0_i32_0
  let arg1 : BitVec 32 := BitVec.ofNat 32 (i 1).val
  let c0_i32_1 : BitVec 32 := 0#32
  let v8 : BitVec 1 := Scalar.cmpi .eq arg1 c0_i32_1
  let v9 : BitVec 1 := Scalar.andi v7 v8
  let v10 : BitVec 32 := Scalar.extui v9
  let c0_i32_2 : BitVec 32 := 0#32
  let v11 : BitVec 1 := Scalar.cmpi .ne v10 c0_i32_2
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (k0_off1_inb : ∀ i : grid0.Coords, ∀ a, (k0_off1 i) a + S1.size a ≤ S21.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S21) ![v0.toNat] S1.size (k0_off1_inb i)) numel1_S1
  let c0_i32 : BitVec 32 := 0#32
  let c0_i32_0 : BitVec 32 := 0#32
  ![v1.toNat, c0_i32.toNat, arg1.toNat]

def cc0_transform_3 (k0_off1_inb : ∀ i : grid0.Coords, ∀ a, (k0_off1 i) a + S1.size a ≤ S21.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S21) ![v0.toNat] S1.size (k0_off1_inb i)) numel1_S1
  let c0_i32 : BitVec 32 := 0#32
  let c0_i32_0 : BitVec 32 := 0#32
  ![v1.toNat, c0_i32.toNat, arg1.toNat]

def cc0_transform_4 (k0_off1_inb : ∀ i : grid0.Coords, ∀ a, (k0_off1 i) a + S1.size a ≤ S21.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S21) ![v0.toNat] S1.size (k0_off1_inb i)) numel1_S1
  let c0_i32 : BitVec 32 := 0#32
  let c0_i32_0 : BitVec 32 := 0#32
  ![v1.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ExpertsReferenceIdeal.lean ====
abbrev S21 : Shape := ⟨1, ![21]⟩
abbrev S10752x4096 : Shape := ⟨2, ![10752, 4096]⟩
abbrev S10752x128 : Shape := ⟨2, ![10752, 128]⟩
abbrev S4x4096x1536 : Shape := ⟨3, ![4, 4096, 1536]⟩
abbrev S4x1536x4096 : Shape := ⟨3, ![4, 1536, 4096]⟩
abbrev S4x4096x4x384 : Shape := ⟨4, ![4, 4096, 4, 384]⟩
abbrev S4x4x4096x384 : Shape := ⟨4, ![4, 4, 4096, 384]⟩
abbrev S16x4096x384 : Shape := ⟨3, ![16, 4096, 384]⟩
abbrev S16x384x4096 : Shape := ⟨3, ![16, 384, 4096]⟩
abbrev S21x512 : Shape := ⟨2, ![21, 512]⟩
abbrev S10752 : Shape := ⟨1, ![10752]⟩
abbrev S16 : Shape := ⟨1, ![16]⟩
abbrev S10752x1 : Shape := ⟨2, ![10752, 1]⟩
abbrev S1x16 : Shape := ⟨2, ![1, 16]⟩
abbrev S_ : Shape := ⟨0, ![]⟩
abbrev S10752x16 : Shape := ⟨2, ![10752, 16]⟩
abbrev S10752x4 : Shape := ⟨2, ![10752, 4]⟩
abbrev S1x10752x1x4 : Shape := ⟨4, ![1, 10752, 1, 4]⟩
abbrev S1x10752x4x4 : Shape := ⟨4, ![1, 10752, 4, 4]⟩
abbrev S10752x16x384 : Shape := ⟨3, ![10752, 16, 384]⟩
abbrev S10752x16x1 : Shape := ⟨3, ![10752, 16, 1]⟩

abbrev nBuf : Space → Nat
  | .hbm => 72
  | .vmem => 0
  | .smem => 0
  | _ => 0

abbrev bufTy : (tb : Table) → Fin (tcTables nBuf tb) → BufTy
  | .hbm, ⟨0, _⟩ => ⟨S21, .i32⟩
  | .hbm, ⟨1, _⟩ => ⟨S21, .i32⟩
  | .hbm, ⟨2, _⟩ => ⟨S10752x4096, .bf16⟩
  | .hbm, ⟨3, _⟩ => ⟨S10752x128, .f32⟩
  | .hbm, ⟨4, _⟩ => ⟨S4x4096x1536, .bf16⟩
  | .hbm, ⟨5, _⟩ => ⟨S4x4096x1536, .bf16⟩
  | .hbm, ⟨6, _⟩ => ⟨S4x1536x4096, .bf16⟩
  | .hbm, ⟨7, _⟩ => ⟨S4x4096x4x384, .bf16⟩
  | .hbm, ⟨8, _⟩ => ⟨S4x4x4096x384, .bf16⟩
  | .hbm, ⟨9, _⟩ => ⟨S16x4096x384, .bf16⟩
  | .hbm, ⟨10, _⟩ => ⟨S4x4096x4x384, .bf16⟩
  | .hbm, ⟨11, _⟩ => ⟨S4x4x4096x384, .bf16⟩
  | .hbm, ⟨12, _⟩ => ⟨S16x4096x384, .bf16⟩
  | .hbm, ⟨13, _⟩ => ⟨S16x384x4096, .bf16⟩
  | .hbm, ⟨14, _⟩ => ⟨S21x512, .i32⟩
  | .hbm, ⟨15, _⟩ => ⟨S10752, .i32⟩
  | .hbm, ⟨16, _⟩ => ⟨S21x512, .i32⟩
  | .hbm, ⟨17, _⟩ => ⟨S10752, .i32⟩
  | .hbm, ⟨18, _⟩ => ⟨S16, .i32⟩
  | .hbm, ⟨19, _⟩ => ⟨S10752x1, .i32⟩
  | .hbm, ⟨20, _⟩ => ⟨S1x16, .i32⟩
  | .hbm, ⟨21, _⟩ => ⟨S_, .i32⟩
  | .hbm, ⟨22, _⟩ => ⟨S_, .i32⟩
  | .hbm, ⟨23, _⟩ => ⟨S1x16, .i32⟩
  | .hbm, ⟨24, _⟩ => ⟨S1x16, .i32⟩
  | .hbm, ⟨25, _⟩ => ⟨S1x16, .i32⟩
  | .hbm, ⟨26, _⟩ => ⟨S_, .i32⟩
  | .hbm, ⟨27, _⟩ => ⟨S1x16, .i32⟩
  | .hbm, ⟨28, _⟩ => ⟨S1x16, .i1⟩
  | .hbm, ⟨29, _⟩ => ⟨S1x16, .i32⟩
  | .hbm, ⟨30, _⟩ => ⟨S1x16, .i32⟩
  | .hbm, ⟨31, _⟩ => ⟨S_, .i32⟩
  | .hbm, ⟨32, _⟩ => ⟨S1x16, .i32⟩
  | .hbm, ⟨33, _⟩ => ⟨S1x16, .i1⟩
  | .hbm, ⟨34, _⟩ => ⟨S1x16, .i1⟩
  | .hbm, ⟨35, _⟩ => ⟨S_, .i32⟩
  | .hbm, ⟨36, _⟩ => ⟨S1x16, .i32⟩
  | .hbm, ⟨37, _⟩ => ⟨S1x16, .i32⟩
  | .hbm, ⟨38, _⟩ => ⟨S1x16, .i32⟩
  | .hbm, ⟨39, _⟩ => ⟨S10752x16, .i32⟩
  | .hbm, ⟨40, _⟩ => ⟨S10752x16, .i32⟩
  | .hbm, ⟨41, _⟩ => ⟨S10752x16, .i1⟩
  | .hbm, ⟨42, _⟩ => ⟨S10752x1, .i32⟩
  | .hbm, ⟨43, _⟩ => ⟨S_, .i32⟩
  | .hbm, ⟨44, _⟩ => ⟨S10752x1, .i32⟩
  | .hbm, ⟨45, _⟩ => ⟨S10752x1, .i1⟩
  | .hbm, ⟨46, _⟩ => ⟨S10752x16, .i1⟩
  | .hbm, ⟨47, _⟩ => ⟨S10752x16, .i1⟩
  | .hbm, ⟨48, _⟩ => ⟨S10752x4, .f32⟩
  | .hbm, ⟨49, _⟩ => ⟨S1x10752x1x4, .f32⟩
  | .hbm, ⟨50, _⟩ => ⟨S1x10752x4x4, .f32⟩
  | .hbm, ⟨51, _⟩ => ⟨S10752x16, .f32⟩
  | .hbm, ⟨52, _⟩ => ⟨S_, .f32⟩
  | .hbm, ⟨53, _⟩ => ⟨S_, .f32⟩
  | .hbm, ⟨54, _⟩ => ⟨S10752x16, .f32⟩
  | .hbm, ⟨55, _⟩ => ⟨S10752x16, .f32⟩
  | .hbm, ⟨56, _⟩ => ⟨S10752x16x384, .f32⟩
  | .hbm, ⟨57, _⟩ => ⟨S10752x16x384, .f32⟩
  | .hbm, ⟨58, _⟩ => ⟨S10752x16x384, .f32⟩
  | .hbm, ⟨59, _⟩ => ⟨S10752x16x384, .f32⟩
  | .hbm, ⟨60, _⟩ => ⟨S_, .f32⟩
  | .hbm, ⟨61, _⟩ => ⟨S10752x16x384, .f32⟩
  | .hbm, ⟨62, _⟩ => ⟨S10752x16x384, .f32⟩
  | .hbm, ⟨63, _⟩ => ⟨S_, .f32⟩
  | .hbm, ⟨64, _⟩ => ⟨S10752x16x384, .f32⟩
  | .hbm, ⟨65, _⟩ => ⟨S10752x16x384, .f32⟩
  | .hbm, ⟨66, _⟩ => ⟨S10752x16x384, .f32⟩
  | .hbm, ⟨67, _⟩ => ⟨S10752x16x384, .f32⟩
  | .hbm, ⟨68, _⟩ => ⟨S10752x16x1, .f32⟩
  | .hbm, ⟨69, _⟩ => ⟨S10752x16x384, .f32⟩
  | .hbm, ⟨70, _⟩ => ⟨S10752x16x384, .f32⟩
  | .hbm, ⟨71, _⟩ => ⟨S10752x4096, .f32⟩
  | _, _ => ⟨S21, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_c : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_0 : Ref sig .tc := ⟨.hbm, 35, rfl⟩
abbrev main_call0_v12 : Ref sig .tc := ⟨.hbm, 36, rfl⟩
abbrev main_call0_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_c_0 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_cst : Ref sig .tc := ⟨.hbm, 52, rfl⟩
abbrev main_call1_v0 : Ref sig .tc := ⟨.hbm, 53, rfl⟩
abbrev main_call1_v1 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_call2_v0 : Ref sig .tc := ⟨.hbm, 58, rfl⟩
abbrev main_call2_v1 : Ref sig .tc := ⟨.hbm, 59, rfl⟩
abbrev main_call2_cst : Ref sig .tc := ⟨.hbm, 60, rfl⟩
abbrev main_call2_v2 : Ref sig .tc := ⟨.hbm, 61, rfl⟩
abbrev main_call2_v3 : Ref sig .tc := ⟨.hbm, 62, rfl⟩
abbrev main_call2_cst_0 : Ref sig .tc := ⟨.hbm, 63, rfl⟩
abbrev main_call2_v4 : Ref sig .tc := ⟨.hbm, 64, rfl⟩
abbrev main_call2_v5 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩

abbrev nD : Nat := 1
abbrev τ : Topo := Topo.v7x

variable {F : FTy → Type} [FloatOps F]
-- ==== QProj.lean ====
abbrev S8704x5120 : Shape := ⟨2, ![8704, 5120]⟩
abbrev S1024 : Shape := ⟨1, ![1024]⟩
abbrev S1024x3072 : Shape := ⟨2, ![1024, 3072]⟩
abbrev S8704x128 : Shape := ⟨2, ![8704, 128]⟩
abbrev S1x1024x3072 : Shape := ⟨3, ![1, 1024, 3072]⟩
abbrev S1x1024x16x192 : Shape := ⟨4, ![1, 1024, 16, 192]⟩
abbrev S1x1024x16x64 : Shape := ⟨4, ![1, 1024, 16, 64]⟩
abbrev S1x1024x16x128 : Shape := ⟨4, ![1, 1024, 16, 128]⟩
abbrev S1x1024x16x16 : Shape := ⟨4, ![1, 1024, 16, 16]⟩
abbrev S1x1024x16x256 : Shape := ⟨4, ![1, 1024, 16, 256]⟩
abbrev S1x1024x4096 : Shape := ⟨3, ![1, 1024, 4096]⟩
abbrev S1024x4096 : Shape := ⟨2, ![1024, 4096]⟩
abbrev S1x1024 : Shape := ⟨2, ![1, 1024]⟩
abbrev S8704x4096 : Shape := ⟨2, ![8704, 4096]⟩
abbrev S512x1024 : Shape := ⟨2, ![512, 1024]⟩
abbrev S1024x1024 : Shape := ⟨2, ![1024, 1024]⟩
abbrev S512x128 : Shape := ⟨2, ![512, 128]⟩
abbrev S512 : Shape := ⟨1, ![512]⟩
abbrev S512x1 : Shape := ⟨2, ![512, 1]⟩

abbrev nBuf : Space → Nat
  | .hbm => 21
  | .vmem => 9
  | .smem => 0
  | _ => 0

abbrev bufTy : (tb : Table) → Fin (tcTables nBuf tb) → BufTy
  | .hbm, ⟨0, _⟩ => ⟨S8704x5120, .f32⟩
  | .hbm, ⟨1, _⟩ => ⟨S1024, .f32⟩
  | .hbm, ⟨2, _⟩ => ⟨S1024x3072, .f32⟩
  | .hbm, ⟨3, _⟩ => ⟨S8704x128, .f32⟩
  | .hbm, ⟨4, _⟩ => ⟨S1x1024x3072, .f32⟩
  | .hbm, ⟨5, _⟩ => ⟨S1x1024x16x192, .f32⟩
  | .hbm, ⟨6, _⟩ => ⟨S1x1024x16x64, .f32⟩
  | .hbm, ⟨7, _⟩ => ⟨S1x1024x16x128, .f32⟩
  | .hbm, ⟨8, _⟩ => ⟨S1x1024x16x16, .f32⟩
  | .hbm, ⟨9, _⟩ => ⟨S1x1024x16x16, .f32⟩
  | .hbm, ⟨10, _⟩ => ⟨S1x1024x16x16, .f32⟩
  | .hbm, ⟨11, _⟩ => ⟨S1x1024x16x16, .f32⟩
  | .hbm, ⟨12, _⟩ => ⟨S1x1024x16x16, .f32⟩
  | .hbm, ⟨13, _⟩ => ⟨S1x1024x16x16, .f32⟩
  | .hbm, ⟨14, _⟩ => ⟨S1x1024x16x64, .f32⟩
  | .hbm, ⟨15, _⟩ => ⟨S1x1024x16x256, .f32⟩
  | .hbm, ⟨16, _⟩ => ⟨S1x1024x4096, .f32⟩
  | .hbm, ⟨17, _⟩ => ⟨S1x1024x4096, .bf16⟩
  | .hbm, ⟨18, _⟩ => ⟨S1024x4096, .bf16⟩
  | .hbm, ⟨19, _⟩ => ⟨S1x1024, .f32⟩
  | .hbm, ⟨20, _⟩ => ⟨S8704x4096, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S512x128, .f32⟩
  | .local _ .vmem, ⟨6, _⟩ => ⟨S512x128, .f32⟩
  | .local _ .vmem, ⟨7, _⟩ => ⟨S512x1024, .bf16⟩
  | .local _ .vmem, ⟨8, _⟩ => ⟨S512x1024, .bf16⟩
  | _, _ => ⟨S8704x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![17, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== QProjReferenceIdeal.lean ====
abbrev S8704x5120 : Shape := ⟨2, ![8704, 5120]⟩
abbrev S1024 : Shape := ⟨1, ![1024]⟩
abbrev S1024x3072 : Shape := ⟨2, ![1024, 3072]⟩
abbrev S8704x128 : Shape := ⟨2, ![8704, 128]⟩
abbrev S8704x64 : Shape := ⟨2, ![8704, 64]⟩
abbrev S8704x1x64 : Shape := ⟨3, ![8704, 1, 64]⟩
abbrev S8704x1024 : Shape := ⟨2, ![8704, 1024]⟩
abbrev S_ : Shape := ⟨0, ![]⟩
abbrev S8704 : Shape := ⟨1, ![8704]⟩
abbrev S8704x1 : Shape := ⟨2, ![8704, 1]⟩
abbrev S1x1024 : Shape := ⟨2, ![1, 1024]⟩
abbrev S8704x3072 : Shape := ⟨2, ![8704, 3072]⟩
abbrev S8704x16x192 : Shape := ⟨3, ![8704, 16, 192]⟩
abbrev S8704x16x128 : Shape := ⟨3, ![8704, 16, 128]⟩
abbrev S8704x16x64 : Shape := ⟨3, ![8704, 16, 64]⟩
abbrev S8704x16x32 : Shape := ⟨3, ![8704, 16, 32]⟩
abbrev S8704x16x16 : Shape := ⟨3, ![8704, 16, 16]⟩
abbrev S8704x16x256 : Shape := ⟨3, ![8704, 16, 256]⟩
abbrev S8704x4096 : Shape := ⟨2, ![8704, 4096]⟩

abbrev nBuf : Space → Nat
  | .hbm => 51
  | .vmem => 0
  | .smem => 0
  | _ => 0

abbrev bufTy : (tb : Table) → Fin (tcTables nBuf tb) → BufTy
  | .hbm, ⟨0, _⟩ => ⟨S8704x5120, .f32⟩
  | .hbm, ⟨1, _⟩ => ⟨S1024, .f32⟩
  | .hbm, ⟨2, _⟩ => ⟨S1024x3072, .f32⟩
  | .hbm, ⟨3, _⟩ => ⟨S8704x128, .f32⟩
  | .hbm, ⟨4, _⟩ => ⟨S8704x64, .f32⟩
  | .hbm, ⟨5, _⟩ => ⟨S8704x1x64, .f32⟩
  | .hbm, ⟨6, _⟩ => ⟨S8704x64, .f32⟩
  | .hbm, ⟨7, _⟩ => ⟨S8704x1x64, .f32⟩
  | .hbm, ⟨8, _⟩ => ⟨S8704x1024, .f32⟩
  | .hbm, ⟨9, _⟩ => ⟨S8704x1024, .f32⟩
  | .hbm, ⟨10, _⟩ => ⟨S_, .f32⟩
  | .hbm, ⟨11, _⟩ => ⟨S8704, .f32⟩
  | .hbm, ⟨12, _⟩ => ⟨S8704x1, .f32⟩
  | .hbm, ⟨13, _⟩ => ⟨S_, .f32⟩
  | .hbm, ⟨14, _⟩ => ⟨S8704x1, .f32⟩
  | .hbm, ⟨15, _⟩ => ⟨S8704x1, .f32⟩
  | .hbm, ⟨16, _⟩ => ⟨S_, .f32⟩
  | .hbm, ⟨17, _⟩ => ⟨S8704x1, .f32⟩
  | .hbm, ⟨18, _⟩ => ⟨S8704x1, .f32⟩
  | .hbm, ⟨19, _⟩ => ⟨S8704x1, .f32⟩
  | .hbm, ⟨20, _⟩ => ⟨S8704x1024, .f32⟩
  | .hbm, ⟨21, _⟩ => ⟨S8704x1024, .f32⟩
  | .hbm, ⟨22, _⟩ => ⟨S1x1024, .f32⟩
  | .hbm, ⟨23, _⟩ => ⟨S8704x1024, .f32⟩
  | .hbm, ⟨24, _⟩ => ⟨S8704x1024, .f32⟩
  | .hbm, ⟨25, _⟩ => ⟨S8704x3072, .f32⟩
  | .hbm, ⟨26, _⟩ => ⟨S8704x16x192, .f32⟩
  | .hbm, ⟨27, _⟩ => ⟨S8704x16x128, .f32⟩
  | .hbm, ⟨28, _⟩ => ⟨S8704x16x64, .f32⟩
  | .hbm, ⟨29, _⟩ => ⟨S8704x16x32, .f32⟩
  | .hbm, ⟨30, _⟩ => ⟨S8704x16x32, .f32⟩
  | .hbm, ⟨31, _⟩ => ⟨S8704x16x64, .f32⟩
  | .hbm, ⟨32, _⟩ => ⟨S8704x16x64, .f32⟩
  | .hbm, ⟨33, _⟩ => ⟨S8704x16x16, .f32⟩
  | .hbm, ⟨34, _⟩ => ⟨S8704x16x16, .f32⟩
  | .hbm, ⟨35, _⟩ => ⟨S8704x16x16, .f32⟩
  | .hbm, ⟨36, _⟩ => ⟨S8704x16x32, .f32⟩
  | .hbm, ⟨37, _⟩ => ⟨S8704x16x16, .f32⟩
  | .hbm, ⟨38, _⟩ => ⟨S8704x16x16, .f32⟩
  | .hbm, ⟨39, _⟩ => ⟨S8704x16x16, .f32⟩
  | .hbm, ⟨40, _⟩ => ⟨S8704x16x32, .f32⟩
  | .hbm, ⟨41, _⟩ => ⟨S8704x16x64, .f32⟩
  | .hbm, ⟨42, _⟩ => ⟨S8704x16x64, .f32⟩
  | .hbm, ⟨43, _⟩ => ⟨S8704x16x64, .f32⟩
  | .hbm, ⟨44, _⟩ => ⟨S8704x16x64, .f32⟩
  | .hbm, ⟨45, _⟩ => ⟨S8704x16x256, .f32⟩
  | .hbm, ⟨46, _⟩ => ⟨S_, .f32⟩
  | .hbm, ⟨47, _⟩ => ⟨S8704x16x256, .f32⟩
  | .hbm, ⟨48, _⟩ => ⟨S8704x16x256, .f32⟩
  | .hbm, ⟨49, _⟩ => ⟨S8704x4096, .f32⟩
  | .hbm, ⟨50, _⟩ => ⟨S8704x4096, .bf16⟩
  | _, _ => ⟨S8704x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_cst_2 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩

abbrev nD : Nat := 1
abbrev τ : Topo := Topo.v7x

variable {F : FTy → Type} [FloatOps F]
-- ==== KvProj.lean ====
abbrev S8704x5120 : Shape := ⟨2, ![8704, 5120]⟩
abbrev S512 : Shape := ⟨1, ![512]⟩
abbrev S512x4096 : Shape := ⟨2, ![512, 4096]⟩
abbrev S8704x128 : Shape := ⟨2, ![8704, 128]⟩
abbrev S1x512x4096 : Shape := ⟨3, ![1, 512, 4096]⟩
abbrev S1x512x16x256 : Shape := ⟨4, ![1, 512, 16, 256]⟩
abbrev S1x512x16x128 : Shape := ⟨4, ![1, 512, 16, 128]⟩
abbrev S1x512x2048 : Shape := ⟨3, ![1, 512, 2048]⟩
abbrev S1x512 : Shape := ⟨2, ![1, 512]⟩
abbrev S8704x4096 : Shape := ⟨2, ![8704, 4096]⟩
abbrev S8704x2048 : Shape := ⟨2, ![8704, 2048]⟩
abbrev S512x512 : Shape := ⟨2, ![512, 512]⟩
abbrev S512x128 : Shape := ⟨2, ![512, 128]⟩
abbrev S512x1024 : Shape := ⟨2, ![512, 1024]⟩
abbrev S512x1 : Shape := ⟨2, ![512, 1]⟩

abbrev nBuf : Space → Nat
  | .hbm => 16
  | .vmem => 15
  | .smem => 0
  | _ => 0

abbrev bufTy : (tb : Table) → Fin (tcTables nBuf tb) → BufTy
  | .hbm, ⟨0, _⟩ => ⟨S8704x5120, .f32⟩
  | .hbm, ⟨1, _⟩ => ⟨S512, .f32⟩
  | .hbm, ⟨2, _⟩ => ⟨S512x4096, .f32⟩
  | .hbm, ⟨3, _⟩ => ⟨S8704x128, .f32⟩
  | .hbm, ⟨4, _⟩ => ⟨S1x512x4096, .f32⟩
  | .hbm, ⟨5, _⟩ => ⟨S1x512x16x256, .f32⟩
  | .hbm, ⟨6, _⟩ => ⟨S1x512x16x128, .f32⟩
  | .hbm, ⟨7, _⟩ => ⟨S1x512x2048, .f32⟩
  | .hbm, ⟨8, _⟩ => ⟨S1x512x16x128, .f32⟩
  | .hbm, ⟨9, _⟩ => ⟨S1x512x2048, .f32⟩
  | .hbm, ⟨10, _⟩ => ⟨S1x512x4096, .f32⟩
  | .hbm, ⟨11, _⟩ => ⟨S1x512x4096, .bf16⟩
  | .hbm, ⟨12, _⟩ => ⟨S512x4096, .bf16⟩
  | .hbm, ⟨13, _⟩ => ⟨S1x512, .f32⟩
  | .hbm, ⟨14, _⟩ => ⟨S8704x4096, .bf16⟩
  | .hbm, ⟨15, _⟩ => ⟨S8704x2048, .bf16⟩
  | .local _ .vmem, ⟨0, _⟩ => ⟨S512x512, .f32⟩
  | .local _ .vmem, ⟨1, _⟩ => ⟨S512x512, .f32⟩
  | .local _ .vmem, ⟨2, _⟩ => ⟨S1x512, .f32⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x1024, .bf16⟩
  | .local _ .vmem, ⟨12, _⟩ => ⟨S512x1024, .bf16⟩
  | .local _ .vmem, ⟨13, _⟩ => ⟨S512x512, .bf16⟩
  | .local _ .vmem, ⟨14, _⟩ => ⟨S512x512, .bf16⟩
  | _, _ => ⟨S8704x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10_0 : Ref sig .tc := ⟨.hbm, 14, rfl⟩
abbrev main_v10_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![17, 4], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, c8_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c36_i32 : BitVec 32 := 36#32
  let c0_i32 : BitVec 32 := 0#32
  ![arg0.toNat, c36_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KvProjReferenceIdeal.lean ====
abbrev S8704x5120 : Shape := ⟨2, ![8704, 5120]⟩
abbrev S512 : Shape := ⟨1, ![512]⟩
abbrev S512x4096 : Shape := ⟨2, ![512, 4096]⟩
abbrev S8704x128 : Shape := ⟨2, ![8704, 128]⟩
abbrev S8704x64 : Shape := ⟨2, ![8704, 64]⟩
abbrev S8704x512 : Shape := ⟨2, ![8704, 512]⟩
abbrev S_ : Shape := ⟨0, ![]⟩
abbrev S8704 : Shape := ⟨1, ![8704]⟩
abbrev S8704x1 : Shape := ⟨2, ![8704, 1]⟩
abbrev S1x512 : Shape := ⟨2, ![1, 512]⟩
abbrev S8704x4096 : Shape := ⟨2, ![8704, 4096]⟩
abbrev S8704x16x256 : Shape := ⟨3, ![8704, 16, 256]⟩
abbrev S8704x1x64 : Shape := ⟨3, ![8704, 1, 64]⟩
abbrev S8704x16x64 : Shape := ⟨3, ![8704, 16, 64]⟩
abbrev S8704x16x128 : Shape := ⟨3, ![8704, 16, 128]⟩
abbrev S8704x2048 : Shape := ⟨2, ![8704, 2048]⟩

abbrev nBuf : Space → Nat
  | .hbm => 41
  | .vmem => 0
  | .smem => 0
  | _ => 0

abbrev bufTy : (tb : Table) → Fin (tcTables nBuf tb) → BufTy
  | .hbm, ⟨0, _⟩ => ⟨S8704x5120, .f32⟩
  | .hbm, ⟨1, _⟩ => ⟨S512, .f32⟩
  | .hbm, ⟨2, _⟩ => ⟨S512x4096, .f32⟩
  | .hbm, ⟨3, _⟩ => ⟨S8704x128, .f32⟩
  | .hbm, ⟨4, _⟩ => ⟨S8704x64, .f32⟩
  | .hbm, ⟨5, _⟩ => ⟨S8704x64, .f32⟩
  | .hbm, ⟨6, _⟩ => ⟨S8704x512, .f32⟩
  | .hbm, ⟨7, _⟩ => ⟨S8704x512, .f32⟩
  | .hbm, ⟨8, _⟩ => ⟨S_, .f32⟩
  | .hbm, ⟨9, _⟩ => ⟨S8704, .f32⟩
  | .hbm, ⟨10, _⟩ => ⟨S8704x1, .f32⟩
  | .hbm, ⟨11, _⟩ => ⟨S_, .f32⟩
  | .hbm, ⟨12, _⟩ => ⟨S8704x1, .f32⟩
  | .hbm, ⟨13, _⟩ => ⟨S8704x1, .f32⟩
  | .hbm, ⟨14, _⟩ => ⟨S_, .f32⟩
  | .hbm, ⟨15, _⟩ => ⟨S8704x1, .f32⟩
  | .hbm, ⟨16, _⟩ => ⟨S8704x1, .f32⟩
  | .hbm, ⟨17, _⟩ => ⟨S8704x1, .f32⟩
  | .hbm, ⟨18, _⟩ => ⟨S8704x512, .f32⟩
  | .hbm, ⟨19, _⟩ => ⟨S8704x512, .f32⟩
  | .hbm, ⟨20, _⟩ => ⟨S1x512, .f32⟩
  | .hbm, ⟨21, _⟩ => ⟨S8704x512, .f32⟩
  | .hbm, ⟨22, _⟩ => ⟨S8704x512, .f32⟩
  | .hbm, ⟨23, _⟩ => ⟨S8704x4096, .f32⟩
  | .hbm, ⟨24, _⟩ => ⟨S8704x16x256, .f32⟩
  | .hbm, ⟨25, _⟩ => ⟨S8704x64, .f32⟩
  | .hbm, ⟨26, _⟩ => ⟨S8704x64, .f32⟩
  | .hbm, ⟨27, _⟩ => ⟨S8704x64, .f32⟩
  | .hbm, ⟨28, _⟩ => ⟨S8704x64, .f32⟩
  | .hbm, ⟨29, _⟩ => ⟨S8704x64, .f32⟩
  | .hbm, ⟨30, _⟩ => ⟨S8704x1x64, .f32⟩
  | .hbm, ⟨31, _⟩ => ⟨S8704x16x64, .f32⟩
  | .hbm, ⟨32, _⟩ => ⟨S8704x16x128, .f32⟩
  | .hbm, ⟨33, _⟩ => ⟨S_, .f32⟩
  | .hbm, ⟨34, _⟩ => ⟨S8704x16x64, .f32⟩
  | .hbm, ⟨35, _⟩ => ⟨S8704x16x256, .f32⟩
  | .hbm, ⟨36, _⟩ => ⟨S8704x4096, .f32⟩
  | .hbm, ⟨37, _⟩ => ⟨S8704x4096, .bf16⟩
  | .hbm, ⟨38, _⟩ => ⟨S8704x16x128, .f32⟩
  | .hbm, ⟨39, _⟩ => ⟨S8704x2048, .f32⟩
  | .hbm, ⟨40, _⟩ => ⟨S8704x2048, .bf16⟩
  | _, _ => ⟨S8704x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_2 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩

abbrev nD : Nat := 1
abbrev τ : Topo := Topo.v7x

variable {F : FTy → Type} [FloatOps F]
-- ==== ChunkMix.lean ====
abbrev S8704x5120 : Shape := ⟨2, ![8704, 5120]⟩
abbrev S4x128x128 : Shape := ⟨3, ![4, 128, 128]⟩
abbrev S4x128 : Shape := ⟨2, ![4, 128]⟩
abbrev S4x128x1 : Shape := ⟨3, ![4, 128, 1]⟩
abbrev S8704x1024 : Shape := ⟨2, ![8704, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S1x128x128 : Shape := ⟨3, ![1, 128, 128]⟩
abbrev S128x128 : Shape := ⟨2, ![128, 128]⟩
abbrev S1x128x1 : Shape := ⟨3, ![1, 128, 1]⟩
abbrev S128x1 : Shape := ⟨2, ![128, 1]⟩
abbrev S128x256 : Shape := ⟨2, ![128, 256]⟩

abbrev nBuf : Space → Nat
  | .hbm => 6
  | .vmem => 8
  | .smem => 0
  | _ => 0

abbrev bufTy : (tb : Table) → Fin (tcTables nBuf tb) → BufTy
  | .hbm, ⟨0, _⟩ => ⟨S8704x5120, .f32⟩
  | .hbm, ⟨1, _⟩ => ⟨S4x128x128, .f32⟩
  | .hbm, ⟨2, _⟩ => ⟨S4x128, .f32⟩
  | .hbm, ⟨3, _⟩ => ⟨S4x128x128, .bf16⟩
  | .hbm, ⟨4, _⟩ => ⟨S4x128x1, .f32⟩
  | .hbm, ⟨5, _⟩ => ⟨S8704x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S4x128x128, .bf16⟩
  | .local _ .vmem, ⟨5, _⟩ => ⟨S4x128x1, .f32⟩
  | .local _ .vmem, ⟨6, _⟩ => ⟨S512x1024, .bf16⟩
  | .local _ .vmem, ⟨7, _⟩ => ⟨S512x1024, .bf16⟩
  | _, _ => ⟨S8704x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ChunkMixReferenceIdeal.lean ====
abbrev S8704x5120 : Shape := ⟨2, ![8704, 5120]⟩
abbrev S4x128x128 : Shape := ⟨3, ![4, 128, 128]⟩
abbrev S4x128 : Shape := ⟨2, ![4, 128]⟩
abbrev S8704x2048 : Shape := ⟨2, ![8704, 2048]⟩
abbrev S_ : Shape := ⟨0, ![]⟩
abbrev S8704x1024 : Shape := ⟨2, ![8704, 1024]⟩
abbrev S68x128x4x256 : Shape := ⟨4, ![68, 128, 4, 256]⟩
abbrev S68x128x4 : Shape := ⟨3, ![68, 128, 4]⟩
abbrev S68x128x4x1 : Shape := ⟨4, ![68, 128, 4, 1]⟩
abbrev S4x68x256x128 : Shape := ⟨4, ![4, 68, 256, 128]⟩
abbrev S128x4 : Shape := ⟨2, ![128, 4]⟩
abbrev S128x4x1 : Shape := ⟨3, ![128, 4, 1]⟩
abbrev S1x128x4x1 : Shape := ⟨4, ![1, 128, 4, 1]⟩

abbrev nBuf : Space → Nat
  | .hbm => 58
  | .vmem => 0
  | .smem => 0
  | _ => 0

abbrev bufTy : (tb : Table) → Fin (tcTables nBuf tb) → BufTy
  | .hbm, ⟨0, _⟩ => ⟨S8704x5120, .f32⟩
  | .hbm, ⟨1, _⟩ => ⟨S4x128x128, .f32⟩
  | .hbm, ⟨2, _⟩ => ⟨S4x128, .f32⟩
  | .hbm, ⟨3, _⟩ => ⟨S8704x2048, .f32⟩
  | .hbm, ⟨4, _⟩ => ⟨S8704x2048, .f32⟩
  | .hbm, ⟨5, _⟩ => ⟨S8704x2048, .f32⟩
  | .hbm, ⟨6, _⟩ => ⟨S_, .f32⟩
  | .hbm, ⟨7, _⟩ => ⟨S8704x2048, .f32⟩
  | .hbm, ⟨8, _⟩ => ⟨S8704x2048, .f32⟩
  | .hbm, ⟨9, _⟩ => ⟨S8704x2048, .f32⟩
  | .hbm, ⟨10, _⟩ => ⟨S_, .f32⟩
  | .hbm, ⟨11, _⟩ => ⟨S8704x2048, .f32⟩
  | .hbm, ⟨12, _⟩ => ⟨S8704x2048, .f32⟩
  | .hbm, ⟨13, _⟩ => ⟨S8704x2048, .f32⟩
  | .hbm, ⟨14, _⟩ => ⟨S_, .f32⟩
  | .hbm, ⟨15, _⟩ => ⟨S8704x2048, .f32⟩
  | .hbm, ⟨16, _⟩ => ⟨S8704x2048, .f32⟩
  | .hbm, ⟨17, _⟩ => ⟨S_, .f32⟩
  | .hbm, ⟨18, _⟩ => ⟨S8704x2048, .f32⟩
  | .hbm, ⟨19, _⟩ => ⟨S8704x2048, .f32⟩
  | .hbm, ⟨20, _⟩ => ⟨S8704x2048, .f32⟩
  | .hbm, ⟨21, _⟩ => ⟨S8704x1024, .f32⟩
  | .hbm, ⟨22, _⟩ => ⟨S8704x1024, .f32⟩
  | .hbm, ⟨23, _⟩ => ⟨S68x128x4x256, .f32⟩
  | .hbm, ⟨24, _⟩ => ⟨S68x128x4x256, .f32⟩
  | .hbm, ⟨25, _⟩ => ⟨S_, .f32⟩
  | .hbm, ⟨26, _⟩ => ⟨S68x128x4, .f32⟩
  | .hbm, ⟨27, _⟩ => ⟨S68x128x4x1, .f32⟩
  | .hbm, ⟨28, _⟩ => ⟨S_, .f32⟩
  | .hbm, ⟨29, _⟩ => ⟨S68x128x4x1, .f32⟩
  | .hbm, ⟨30, _⟩ => ⟨S68x128x4x1, .f32⟩
  | .hbm, ⟨31, _⟩ => ⟨S68x128x4x256, .f32⟩
  | .hbm, ⟨32, _⟩ => ⟨S68x128x4x256, .f32⟩
  | .hbm, ⟨33, _⟩ => ⟨S68x128x4x256, .f32⟩
  | .hbm, ⟨34, _⟩ => ⟨S_, .f32⟩
  | .hbm, ⟨35, _⟩ => ⟨S68x128x4, .f32⟩
  | .hbm, ⟨36, _⟩ => ⟨S68x128x4x1, .f32⟩
  | .hbm, ⟨37, _⟩ => ⟨S_, .f32⟩
  | .hbm, ⟨38, _⟩ => ⟨S68x128x4x1, .f32⟩
  | .hbm, ⟨39, _⟩ => ⟨S68x128x4x1, .f32⟩
  | .hbm, ⟨40, _⟩ => ⟨S68x128x4x256, .f32⟩
  | .hbm, ⟨41, _⟩ => ⟨S68x128x4x256, .f32⟩
  | .hbm, ⟨42, _⟩ => ⟨S_, .f32⟩
  | .hbm, ⟨43, _⟩ => ⟨S68x128x4x1, .f32⟩
  | .hbm, ⟨44, _⟩ => ⟨S68x128x4x1, .f32⟩
  | .hbm, ⟨45, _⟩ => ⟨S68x128x4x1, .f32⟩
  | .hbm, ⟨46, _⟩ => ⟨S68x128x4x256, .f32⟩
  | .hbm, ⟨47, _⟩ => ⟨S68x128x4x256, .f32⟩
  | .hbm, ⟨48, _⟩ => ⟨S4x68x256x128, .f32⟩
  | .hbm, ⟨49, _⟩ => ⟨S68x128x4x256, .f32⟩
  | .hbm, ⟨50, _⟩ => ⟨S128x4, .f32⟩
  | .hbm, ⟨51, _⟩ => ⟨S128x4x1, .f32⟩
  | .hbm, ⟨52, _⟩ => ⟨S1x128x4x1, .f32⟩
  | .hbm, ⟨53, _⟩ => ⟨S68x128x4x256, .f32⟩
  | .hbm, ⟨54, _⟩ => ⟨S68x128x4x256, .f32⟩
  | .hbm, ⟨55, _⟩ => ⟨S68x128x4x256, .f32⟩
  | .hbm, ⟨56, _⟩ => ⟨S8704x1024, .f32⟩
  | .hbm, ⟨57, _⟩ => ⟨S8704x1024, .bf16⟩
  | _, _ => ⟨S8704x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_v26 : Ref sig .tc := ⟨.hbm, 36, rfl⟩
abbrev main_cst_6 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_7 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩

abbrev nD : Nat := 1
abbrev τ : Topo := Topo.v7x

variable {F : FTy → Type} [FloatOps F]
-- ==== Adaln.lean ====
abbrev S8x4096 : Shape := ⟨2, ![8, 4096]⟩
abbrev S4x4096x24576 : Shape := ⟨3, ![4, 4096, 24576]⟩
abbrev S4x24576 : Shape := ⟨2, ![4, 24576]⟩
abbrev S4x1x24576 : Shape := ⟨3, ![4, 1, 24576]⟩
abbrev S4x8x24576 : Shape := ⟨3, ![4, 8, 24576]⟩
abbrev S1x4096x512 : Shape := ⟨3, ![1, 4096, 512]⟩
abbrev S1x1x512 : Shape := ⟨3, ![1, 1, 512]⟩
abbrev S1x8x512 : Shape := ⟨3, ![1, 8, 512]⟩
abbrev S4096x512 : Shape := ⟨2, ![4096, 512]⟩
abbrev S8x512 : Shape := ⟨2, ![8, 512]⟩
abbrev S1x512 : Shape := ⟨2, ![1, 512]⟩

abbrev nBuf : Space → Nat
  | .hbm => 5
  | .vmem => 7
  | .smem => 0
  | _ => 0

abbrev bufTy : (tb : Table) → Fin (tcTables nBuf tb) → BufTy
  | .hbm, ⟨0, _⟩ => ⟨S8x4096, .f32⟩
  | .hbm, ⟨1, _⟩ => ⟨S4x4096x24576, .f32⟩
  | .hbm, ⟨2, _⟩ => ⟨S4x24576, .f32⟩
  | .hbm, ⟨3, _⟩ => ⟨S4x1x24576, .f32⟩
  | .hbm, ⟨4, _⟩ => ⟨S4x8x24576, .f32⟩
  | .local _ .vmem, ⟨0, _⟩ => ⟨S8x4096, .f32⟩
  | .local _ .vmem, ⟨1, _⟩ => ⟨S1x4096x512, .f32⟩
  | .local _ .vmem, ⟨2, _⟩ => ⟨S1x4096x512, .f32⟩
  | .local _ .vmem, ⟨3, _⟩ => ⟨S1x1x512, .f32⟩
  | .local _ .vmem, ⟨4, _⟩ => ⟨S1x1x512, .f32⟩
  | .local _ .vmem, ⟨5, _⟩ => ⟨S1x8x512, .f32⟩
  | .local _ .vmem, ⟨6, _⟩ => ⟨S1x8x512, .f32⟩
  | _, _ => ⟨S8x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 48], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdalnReferenceIdeal.lean ====
abbrev S8x4096 : Shape := ⟨2, ![8, 4096]⟩
abbrev S4x4096x24576 : Shape := ⟨3, ![4, 4096, 24576]⟩
abbrev S4x24576 : Shape := ⟨2, ![4, 24576]⟩
abbrev S_ : Shape := ⟨0, ![]⟩
abbrev S8x4x24576 : Shape := ⟨3, ![8, 4, 24576]⟩
abbrev S4x8x24576 : Shape := ⟨3, ![4, 8, 24576]⟩
abbrev S4x1x24576 : Shape := ⟨3, ![4, 1, 24576]⟩

abbrev nBuf : Space → Nat
  | .hbm => 17
  | .vmem => 0
  | .smem => 0
  | _ => 0

abbrev bufTy : (tb : Table) → Fin (tcTables nBuf tb) → BufTy
  | .hbm, ⟨0, _⟩ => ⟨S8x4096, .f32⟩
  | .hbm, ⟨1, _⟩ => ⟨S4x4096x24576, .f32⟩
  | .hbm, ⟨2, _⟩ => ⟨S4x24576, .f32⟩
  | .hbm, ⟨3, _⟩ => ⟨S8x4096, .f32⟩
  | .hbm, ⟨4, _⟩ => ⟨S8x4096, .f32⟩
  | .hbm, ⟨5, _⟩ => ⟨S_, .f32⟩
  | .hbm, ⟨6, _⟩ => ⟨S8x4096, .f32⟩
  | .hbm, ⟨7, _⟩ => ⟨S8x4096, .f32⟩
  | .hbm, ⟨8, _⟩ => ⟨S_, .f32⟩
  | .hbm, ⟨9, _⟩ => ⟨S8x4096, .f32⟩
  | .hbm, ⟨10, _⟩ => ⟨S8x4096, .f32⟩
  | .hbm, ⟨11, _⟩ => ⟨S8x4096, .f32⟩
  | .hbm, ⟨12, _⟩ => ⟨S8x4x24576, .f32⟩
  | .hbm, ⟨13, _⟩ => ⟨S4x8x24576, .f32⟩
  | .hbm, ⟨14, _⟩ => ⟨S4x1x24576, .f32⟩
  | .hbm, ⟨15, _⟩ => ⟨S4x8x24576, .f32⟩
  | .hbm, ⟨16, _⟩ => ⟨S4x8x24576, .f32⟩
  | _, _ => ⟨S8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== DftCh.lean ====
abbrev S8704x5120 : Shape := ⟨2, ![8704, 5120]⟩
abbrev S256x512 : Shape := ⟨2, ![256, 512]⟩
abbrev S8704x1024 : Shape := ⟨2, ![8704, 1024]⟩
abbrev S512x256 : Shape := ⟨2, ![512, 256]⟩
abbrev S512x512 : Shape := ⟨2, ![512, 512]⟩

abbrev nBuf : Space → Nat
  | .hbm => 4
  | .vmem => 7
  | .smem => 0
  | _ => 0

abbrev bufTy : (tb : Table) → Fin (tcTables nBuf tb) → BufTy
  | .hbm, ⟨0, _⟩ => ⟨S8704x5120, .f32⟩
  | .hbm, ⟨1, _⟩ => ⟨S256x512, .bf16⟩
  | .hbm, ⟨2, _⟩ => ⟨S8704x1024, .bf16⟩
  | .hbm, ⟨3, _⟩ => ⟨S8704x1024, .bf16⟩
  | .local _ .vmem, ⟨0, _⟩ => ⟨S512x256, .f32⟩
  | .local _ .vmem, ⟨1, _⟩ => ⟨S512x256, .f32⟩
  | .local _ .vmem, ⟨2, _⟩ => ⟨S256x512, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | _, _ => ⟨S8704x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![17, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DftChReferenceIdeal.lean ====
abbrev S8704x5120 : Shape := ⟨2, ![8704, 5120]⟩
abbrev S256x512 : Shape := ⟨2, ![256, 512]⟩
abbrev S8704x1024 : Shape := ⟨2, ![8704, 1024]⟩
abbrev S8704x4x256 : Shape := ⟨3, ![8704, 4, 256]⟩
abbrev S256x256 : Shape := ⟨2, ![256, 256]⟩

abbrev nBuf : Space → Nat
  | .hbm => 14
  | .vmem => 0
  | .smem => 0
  | _ => 0

abbrev bufTy : (tb : Table) → Fin (tcTables nBuf tb) → BufTy
  | .hbm, ⟨0, _⟩ => ⟨S8704x5120, .f32⟩
  | .hbm, ⟨1, _⟩ => ⟨S256x512, .bf16⟩
  | .hbm, ⟨2, _⟩ => ⟨S8704x1024, .f32⟩
  | .hbm, ⟨3, _⟩ => ⟨S8704x4x256, .f32⟩
  | .hbm, ⟨4, _⟩ => ⟨S256x256, .bf16⟩
  | .hbm, ⟨5, _⟩ => ⟨S256x256, .f32⟩
  | .hbm, ⟨6, _⟩ => ⟨S8704x4x256, .f32⟩
  | .hbm, ⟨7, _⟩ => ⟨S256x256, .bf16⟩
  | .hbm, ⟨8, _⟩ => ⟨S256x256, .f32⟩
  | .hbm, ⟨9, _⟩ => ⟨S8704x4x256, .f32⟩
  | .hbm, ⟨10, _⟩ => ⟨S8704x1024, .f32⟩
  | .hbm, ⟨11, _⟩ => ⟨S8704x1024, .bf16⟩
  | .hbm, ⟨12, _⟩ => ⟨S8704x1024, .f32⟩
  | .hbm, ⟨13, _⟩ => ⟨S8704x1024, .bf16⟩
  | _, _ => ⟨S8704x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩

abbrev nD : Nat := 1
abbrev τ : Topo := Topo.v7x

variable {F : FTy → Type} [FloatOps F]
-- ==== DftPos.lean ====
abbrev S8704x1024 : Shape := ⟨2, ![8704, 1024]⟩
abbrev S4096x4096 : Shape := ⟨2, ![4096, 4096]⟩
abbrev S4x256x256 : Shape := ⟨3, ![4, 256, 256]⟩
abbrev S8192x1024 : Shape := ⟨2, ![8192, 1024]⟩
abbrev S512x4096 : Shape := ⟨2, ![512, 4096]⟩
abbrev S4096x512 : Shape := ⟨2, ![4096, 512]⟩
abbrev S2x256x256 : Shape := ⟨3, ![2, 256, 256]⟩
abbrev S512x512 : Shape := ⟨2, ![512, 512]⟩
abbrev S512x256 : Shape := ⟨2, ![512, 256]⟩
abbrev S1x256x256 : Shape := ⟨3, ![1, 256, 256]⟩
abbrev S256x256 : Shape := ⟨2, ![256, 256]⟩

abbrev nBuf : Space → Nat
  | .hbm => 7
  | .vmem => 12
  | .smem => 0
  | _ => 0

abbrev bufTy : (tb : Table) → Fin (tcTables nBuf tb) → BufTy
  | .hbm, ⟨0, _⟩ => ⟨S8704x1024, .bf16⟩
  | .hbm, ⟨1, _⟩ => ⟨S8704x1024, .bf16⟩
  | .hbm, ⟨2, _⟩ => ⟨S4096x4096, .bf16⟩
  | .hbm, ⟨3, _⟩ => ⟨S4096x4096, .bf16⟩
  | .hbm, ⟨4, _⟩ => ⟨S4x256x256, .f32⟩
  | .hbm, ⟨5, _⟩ => ⟨S4x256x256, .bf16⟩
  | .hbm, ⟨6, _⟩ => ⟨S8192x1024, .bf16⟩
  | .local _ .vmem, ⟨0, _⟩ => ⟨S512x4096, .bf16⟩
  | .local _ .vmem, ⟨1, _⟩ => ⟨S512x4096, .bf16⟩
  | .local _ .vmem, ⟨2, _⟩ => ⟨S512x4096, .bf16⟩
  | .local _ .vmem, ⟨3, _⟩ => ⟨S512x4096, .bf16⟩
  | .local _ .vmem, ⟨4, _⟩ => ⟨S4096x512, .bf16⟩
  | .local _ .vmem, ⟨5, _⟩ => ⟨S4096x512, .bf16⟩
  | .local _ .vmem, ⟨6, _⟩ => ⟨S4096x512, .bf16⟩
  | .local _ .vmem, ⟨7, _⟩ => ⟨S4096x512, .bf16⟩
  | .local _ .vmem, ⟨8, _⟩ => ⟨S2x256x256, .bf16⟩
  | .local _ .vmem, ⟨9, _⟩ => ⟨S2x256x256, .bf16⟩
  | .local _ .vmem, ⟨10, _⟩ => ⟨S512x512, .bf16⟩
  | .local _ .vmem, ⟨11, _⟩ => ⟨S512x512, .bf16⟩
  | _, _ => ⟨S8704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 2, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S2x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== DftPosReferenceIdeal.lean ====
abbrev S8704x1024 : Shape := ⟨2, ![8704, 1024]⟩
abbrev S4096x4096 : Shape := ⟨2, ![4096, 4096]⟩
abbrev S4x256x256 : Shape := ⟨3, ![4, 256, 256]⟩
abbrev S8192x1024 : Shape := ⟨2, ![8192, 1024]⟩
abbrev S2x4096x4x256 : Shape := ⟨4, ![2, 4096, 4, 256]⟩
abbrev S2x4x256x4096 : Shape := ⟨4, ![2, 4, 256, 4096]⟩
abbrev S_ : Shape := ⟨0, ![]⟩
abbrev S4x256x2x4096 : Shape := ⟨4, ![4, 256, 2, 4096]⟩

abbrev nBuf : Space → Nat
  | .hbm => 25
  | .vmem => 0
  | .smem => 0
  | _ => 0

abbrev bufTy : (tb : Table) → Fin (tcTables nBuf tb) → BufTy
  | .hbm, ⟨0, _⟩ => ⟨S8704x1024, .bf16⟩
  | .hbm, ⟨1, _⟩ => ⟨S8704x1024, .bf16⟩
  | .hbm, ⟨2, _⟩ => ⟨S4096x4096, .bf16⟩
  | .hbm, ⟨3, _⟩ => ⟨S4096x4096, .bf16⟩
  | .hbm, ⟨4, _⟩ => ⟨S4x256x256, .f32⟩
  | .hbm, ⟨5, _⟩ => ⟨S8192x1024, .bf16⟩
  | .hbm, ⟨6, _⟩ => ⟨S8192x1024, .bf16⟩
  | .hbm, ⟨7, _⟩ => ⟨S2x4096x4x256, .bf16⟩
  | .hbm, ⟨8, _⟩ => ⟨S2x4096x4x256, .f32⟩
  | .hbm, ⟨9, _⟩ => ⟨S2x4096x4x256, .bf16⟩
  | .hbm, ⟨10, _⟩ => ⟨S2x4096x4x256, .f32⟩
  | .hbm, ⟨11, _⟩ => ⟨S4096x4096, .f32⟩
  | .hbm, ⟨12, _⟩ => ⟨S2x4x256x4096, .f32⟩
  | .hbm, ⟨13, _⟩ => ⟨S2x4096x4x256, .f32⟩
  | .hbm, ⟨14, _⟩ => ⟨S4096x4096, .f32⟩
  | .hbm, ⟨15, _⟩ => ⟨S2x4x256x4096, .f32⟩
  | .hbm, ⟨16, _⟩ => ⟨S2x4096x4x256, .f32⟩
  | .hbm, ⟨17, _⟩ => ⟨S2x4096x4x256, .f32⟩
  | .hbm, ⟨18, _⟩ => ⟨S_, .f32⟩
  | .hbm, ⟨19, _⟩ => ⟨S2x4096x4x256, .f32⟩
  | .hbm, ⟨20, _⟩ => ⟨S2x4096x4x256, .f32⟩
  | .hbm, ⟨21, _⟩ => ⟨S4x256x2x4096, .f32⟩
  | .hbm, ⟨22, _⟩ => ⟨S2x4096x4x256, .f32⟩
  | .hbm, ⟨23, _⟩ => ⟨S8192x1024, .f32⟩
  | .hbm, ⟨24, _⟩ => ⟨S8192x1024, .bf16⟩
  | _, _ => ⟨S8704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== DftCtx.lean ====
abbrev S8704x1024 : Shape := ⟨2, ![8704, 1024]⟩
abbrev S256x256 : Shape := ⟨2, ![256, 256]⟩
abbrev S4x256x256 : Shape := ⟨3, ![4, 256, 256]⟩
abbrev S512x1024 : Shape := ⟨2, ![512, 1024]⟩
abbrev S256x512 : Shape := ⟨2, ![256, 512]⟩
abbrev S2x256x256 : Shape := ⟨3, ![2, 256, 256]⟩
abbrev S1x256x256 : Shape := ⟨3, ![1, 256, 256]⟩

abbrev nBuf : Space → Nat
  | .hbm => 7
  | .vmem => 10
  | .smem => 0
  | _ => 0

abbrev bufTy : (tb : Table) → Fin (tcTables nBuf tb) → BufTy
  | .hbm, ⟨0, _⟩ => ⟨S8704x1024, .bf16⟩
  | .hbm, ⟨1, _⟩ => ⟨S8704x1024, .bf16⟩
  | .hbm, ⟨2, _⟩ => ⟨S256x256, .bf16⟩
  | .hbm, ⟨3, _⟩ => ⟨S256x256, .bf16⟩
  | .hbm, ⟨4, _⟩ => ⟨S4x256x256, .f32⟩
  | .hbm, ⟨5, _⟩ => ⟨S4x256x256, .bf16⟩
  | .hbm, ⟨6, _⟩ => ⟨S512x1024, .bf16⟩
  | .local _ .vmem, ⟨0, _⟩ => ⟨S256x256, .bf16⟩
  | .local _ .vmem, ⟨1, _⟩ => ⟨S256x256, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S2x256x256, .bf16⟩
  | .local _ .vmem, ⟨7, _⟩ => ⟨S2x256x256, .bf16⟩
  | .local _ .vmem, ⟨8, _⟩ => ⟨S256x512, .bf16⟩
  | .local _ .vmem, ⟨9, _⟩ => ⟨S256x512, .bf16⟩
  | _, _ => ⟨S8704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg0
  let c0_i32 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg0
  let c0_i32 : BitVec 32 := 0#32
  ![v0.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

abbrev stage0_0 : Fin 1 → Memref sig .tc .vmem S256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S2x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== DftCtxReferenceIdeal.lean ====
abbrev S8704x1024 : Shape := ⟨2, ![8704, 1024]⟩
abbrev S256x256 : Shape := ⟨2, ![256, 256]⟩
abbrev S4x256x256 : Shape := ⟨3, ![4, 256, 256]⟩
abbrev S512x1024 : Shape := ⟨2, ![512, 1024]⟩
abbrev S2x256x4x256 : Shape := ⟨4, ![2, 256, 4, 256]⟩
abbrev S2x4x256x256 : Shape := ⟨4, ![2, 4, 256, 256]⟩
abbrev S_ : Shape := ⟨0, ![]⟩
abbrev S4x256x2x256 : Shape := ⟨4, ![4, 256, 2, 256]⟩

abbrev nBuf : Space → Nat
  | .hbm => 25
  | .vmem => 0
  | .smem => 0
  | _ => 0

abbrev bufTy : (tb : Table) → Fin (tcTables nBuf tb) → BufTy
  | .hbm, ⟨0, _⟩ => ⟨S8704x1024, .bf16⟩
  | .hbm, ⟨1, _⟩ => ⟨S8704x1024, .bf16⟩
  | .hbm, ⟨2, _⟩ => ⟨S256x256, .bf16⟩
  | .hbm, ⟨3, _⟩ => ⟨S256x256, .bf16⟩
  | .hbm, ⟨4, _⟩ => ⟨S4x256x256, .f32⟩
  | .hbm, ⟨5, _⟩ => ⟨S512x1024, .bf16⟩
  | .hbm, ⟨6, _⟩ => ⟨S512x1024, .bf16⟩
  | .hbm, ⟨7, _⟩ => ⟨S2x256x4x256, .bf16⟩
  | .hbm, ⟨8, _⟩ => ⟨S2x256x4x256, .f32⟩
  | .hbm, ⟨9, _⟩ => ⟨S2x256x4x256, .bf16⟩
  | .hbm, ⟨10, _⟩ => ⟨S2x256x4x256, .f32⟩
  | .hbm, ⟨11, _⟩ => ⟨S256x256, .f32⟩
  | .hbm, ⟨12, _⟩ => ⟨S2x4x256x256, .f32⟩
  | .hbm, ⟨13, _⟩ => ⟨S2x256x4x256, .f32⟩
  | .hbm, ⟨14, _⟩ => ⟨S256x256, .f32⟩
  | .hbm, ⟨15, _⟩ => ⟨S2x4x256x256, .f32⟩
  | .hbm, ⟨16, _⟩ => ⟨S2x256x4x256, .f32⟩
  | .hbm, ⟨17, _⟩ => ⟨S2x256x4x256, .f32⟩
  | .hbm, ⟨18, _⟩ => ⟨S_, .f32⟩
  | .hbm, ⟨19, _⟩ => ⟨S2x256x4x256, .f32⟩
  | .hbm, ⟨20, _⟩ => ⟨S2x256x4x256, .f32⟩
  | .hbm, ⟨21, _⟩ => ⟨S4x256x2x256, .f32⟩
  | .hbm, ⟨22, _⟩ => ⟨S2x256x4x256, .f32⟩
  | .hbm, ⟨23, _⟩ => ⟨S512x1024, .f32⟩
  | .hbm, ⟨24, _⟩ => ⟨S512x1024, .bf16⟩
  | _, _ => ⟨S8704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Modulate.lean ====
abbrev S8704x4096 : Shape := ⟨2, ![8704, 4096]⟩
abbrev S8x24576 : Shape := ⟨2, ![8, 24576]⟩
abbrev S48x1x4096 : Shape := ⟨3, ![48, 1, 4096]⟩
abbrev S256x4096 : Shape := ⟨2, ![256, 4096]⟩
abbrev S1x1x4096 : Shape := ⟨3, ![1, 1, 4096]⟩
abbrev S1x4096 : Shape := ⟨2, ![1, 4096]⟩

abbrev nBuf : Space → Nat
  | .hbm => 4
  | .vmem => 8
  | .smem => 0
  | _ => 0

abbrev bufTy : (tb : Table) → Fin (tcTables nBuf tb) → BufTy
  | .hbm, ⟨0, _⟩ => ⟨S8704x4096, .f32⟩
  | .hbm, ⟨1, _⟩ => ⟨S8x24576, .f32⟩
  | .hbm, ⟨2, _⟩ => ⟨S48x1x4096, .f32⟩
  | .hbm, ⟨3, _⟩ => ⟨S8704x4096, .bf16⟩
  | .local _ .vmem, ⟨0, _⟩ => ⟨S256x4096, .f32⟩
  | .local _ .vmem, ⟨1, _⟩ => ⟨S256x4096, .f32⟩
  | .local _ .vmem, ⟨2, _⟩ => ⟨S1x1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S256x4096, .bf16⟩
  | .local _ .vmem, ⟨7, _⟩ => ⟨S256x4096, .bf16⟩
  | _, _ => ⟨S8704x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.minsi v16 c2_i32
  let c6_i32 : BitVec 32 := 6#32
  let v18 : BitVec 32 := Scalar.muli v17 c6_i32
  let c1_i32_4 : BitVec 32 := 1#32
  let v19 : BitVec 32 := Scalar.addi v18 c1_i32_4
  let c0_i32_5 : BitVec 32 := 0#32
  let c0_i32_6 : BitVec 32 := 0#32
  let c0_i32_7 : BitVec 32 := 0#32
  ![v19.toNat, c0_i32_5.toNat, c0_i32_6.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.minsi v16 c2_i32
  let c6_i32 : BitVec 32 := 6#32
  let v18 : BitVec 32 := Scalar.muli v17 c6_i32
  let c0_i32_4 : BitVec 32 := 0#32
  let v19 : BitVec 32 := Scalar.addi v18 c0_i32_4
  let c0_i32_5 : BitVec 32 := 0#32
  let c0_i32_6 : BitVec 32 := 0#32
  let c0_i32_7 : BitVec 32 := 0#32
  ![v19.toNat, c0_i32_5.toNat, c0_i32_6.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModulateReferenceIdeal.lean ====
abbrev S8704x4096 : Shape := ⟨2, ![8704, 4096]⟩
abbrev S8x24576 : Shape := ⟨2, ![8, 24576]⟩
abbrev S8x4096 : Shape := ⟨2, ![8, 4096]⟩
abbrev S2x4096 : Shape := ⟨2, ![2, 4096]⟩
abbrev S2x1x4096 : Shape := ⟨3, ![2, 1, 4096]⟩
abbrev S2x4096x4096 : Shape := ⟨3, ![2, 4096, 4096]⟩
abbrev S8192x4096 : Shape := ⟨2, ![8192, 4096]⟩
abbrev S1x4096 : Shape := ⟨2, ![1, 4096]⟩
abbrev S512x4096 : Shape := ⟨2, ![512, 4096]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S8704x4096, .f32⟩
  | .hbm, ⟨1, _⟩ => ⟨S8x24576, .f32⟩
  | .hbm, ⟨2, _⟩ => ⟨S8x4096, .f32⟩
  | .hbm, ⟨3, _⟩ => ⟨S2x4096, .f32⟩
  | .hbm, ⟨4, _⟩ => ⟨S2x1x4096, .f32⟩
  | .hbm, ⟨5, _⟩ => ⟨S2x4096x4096, .f32⟩
  | .hbm, ⟨6, _⟩ => ⟨S8192x4096, .f32⟩
  | .hbm, ⟨7, _⟩ => ⟨S1x4096, .f32⟩
  | .hbm, ⟨8, _⟩ => ⟨S512x4096, .f32⟩
  | .hbm, ⟨9, _⟩ => ⟨S8704x4096, .f32⟩
  | .hbm, ⟨10, _⟩ => ⟨S8x4096, .f32⟩
  | .hbm, ⟨11, _⟩ => ⟨S2x4096, .f32⟩
  | .hbm, ⟨12, _⟩ => ⟨S2x1x4096, .f32⟩
  | .hbm, ⟨13, _⟩ => ⟨S2x4096x4096, .f32⟩
  | .hbm, ⟨14, _⟩ => ⟨S8192x4096, .f32⟩
  | .hbm, ⟨15, _⟩ => ⟨S1x4096, .f32⟩
  | .hbm, ⟨16, _⟩ => ⟨S512x4096, .f32⟩
  | .hbm, ⟨17, _⟩ => ⟨S8704x4096, .f32⟩
  | .hbm, ⟨18, _⟩ => ⟨S_, .f32⟩
  | .hbm, ⟨19, _⟩ => ⟨S8704x4096, .f32⟩
  | .hbm, ⟨20, _⟩ => ⟨S8704x4096, .f32⟩
  | .hbm, ⟨21, _⟩ => ⟨S8704x4096, .f32⟩
  | .hbm, ⟨22, _⟩ => ⟨S8704x4096, .f32⟩
  | .hbm, ⟨23, _⟩ => ⟨S8704x4096, .bf16⟩
  | _, _ => ⟨S8704x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_cst : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩

abbrev nD : Nat := 1
abbrev τ : Topo := Topo.v7x

variable {F : FTy → Type} [FloatOps F]
-- ==== ResidLn.lean ====
abbrev S8704x4096 : Shape := ⟨2, ![8704, 4096]⟩
abbrev S8x24576 : Shape := ⟨2, ![8, 24576]⟩
abbrev S4096 : Shape := ⟨1, ![4096]⟩
abbrev S48x1x4096 : Shape := ⟨3, ![48, 1, 4096]⟩
abbrev S1x4096 : Shape := ⟨2, ![1, 4096]⟩
abbrev S256x4096 : Shape := ⟨2, ![256, 4096]⟩
abbrev S1x1x4096 : Shape := ⟨3, ![1, 1, 4096]⟩
abbrev S256 : Shape := ⟨1, ![256]⟩
abbrev S256x1 : Shape := ⟨2, ![256, 1]⟩

abbrev nBuf : Space → Nat
  | .hbm => 10
  | .vmem => 16
  | .smem => 0
  | _ => 0

abbrev bufTy : (tb : Table) → Fin (tcTables nBuf tb) → BufTy
  | .hbm, ⟨0, _⟩ => ⟨S8704x4096, .f32⟩
  | .hbm, ⟨1, _⟩ => ⟨S8704x4096, .f32⟩
  | .hbm, ⟨2, _⟩ => ⟨S8x24576, .f32⟩
  | .hbm, ⟨3, _⟩ => ⟨S4096, .f32⟩
  | .hbm, ⟨4, _⟩ => ⟨S4096, .f32⟩
  | .hbm, ⟨5, _⟩ => ⟨S48x1x4096, .f32⟩
  | .hbm, ⟨6, _⟩ => ⟨S1x4096, .f32⟩
  | .hbm, ⟨7, _⟩ => ⟨S1x4096, .f32⟩
  | .hbm, ⟨8, _⟩ => ⟨S8704x4096, .f32⟩
  | .hbm, ⟨9, _⟩ => ⟨S8704x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x4096, .f32⟩
  | .local _ .vmem, ⟨7, _⟩ => ⟨S1x4096, .f32⟩
  | .local _ .vmem, ⟨8, _⟩ => ⟨S1x1x4096, .f32⟩
  | .local _ .vmem, ⟨9, _⟩ => ⟨S1x1x4096, .f32⟩
  | .local _ .vmem, ⟨10, _⟩ => ⟨S1x1x4096, .f32⟩
  | .local _ .vmem, ⟨11, _⟩ => ⟨S1x1x4096, .f32⟩
  | .local _ .vmem, ⟨12, _⟩ => ⟨S256x4096, .f32⟩
  | .local _ .vmem, ⟨13, _⟩ => ⟨S256x4096, .f32⟩
  | .local _ .vmem, ⟨14, _⟩ => ⟨S256x4096, .bf16⟩
  | .local _ .vmem, ⟨15, _⟩ => ⟨S256x4096, .bf16⟩
  | _, _ => ⟨S8704x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.minsi v16 c2_i32
  let c6_i32 : BitVec 32 := 6#32
  let v18 : BitVec 32 := Scalar.muli v17 c6_i32
  let c2_i32_4 : BitVec 32 := 2#32
  let v19 : BitVec 32 := Scalar.addi v18 c2_i32_4
  let c0_i32_5 : BitVec 32 := 0#32
  let c0_i32_6 : BitVec 32 := 0#32
  let c0_i32_7 : BitVec 32 := 0#32
  ![v19.toNat, c0_i32_5.toNat, c0_i32_6.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.minsi v16 c2_i32
  let c6_i32 : BitVec 32 := 6#32
  let v18 : BitVec 32 := Scalar.muli v17 c6_i32
  let c4_i32 : BitVec 32 := 4#32
  let v19 : BitVec 32 := Scalar.addi v18 c4_i32
  let c0_i32_4 : BitVec 32 := 0#32
  let c0_i32_5 : BitVec 32 := 0#32
  let c0_i32_6 : BitVec 32 := 0#32
  ![v19.toNat, c0_i32_4.toNat, c0_i32_5.toNat]

def cc0_transform_6 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.minsi v16 c2_i32
  let c6_i32 : BitVec 32 := 6#32
  let v18 : BitVec 32 := Scalar.muli v17 c6_i32
  let c3_i32 : BitVec 32 := 3#32
  let v19 : BitVec 32 := Scalar.addi v18 c3_i32
  let c0_i32_4 : BitVec 32 := 0#32
  let c0_i32_5 : BitVec 32 := 0#32
  let c0_i32_6 : BitVec 32 := 0#32
  ![v19.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ResidLnReferenceIdeal.lean ====
abbrev S8704x4096 : Shape := ⟨2, ![8704, 4096]⟩
abbrev S8x24576 : Shape := ⟨2, ![8, 24576]⟩
abbrev S4096 : Shape := ⟨1, ![4096]⟩
abbrev S8x4096 : Shape := ⟨2, ![8, 4096]⟩
abbrev S2x4096 : Shape := ⟨2, ![2, 4096]⟩
abbrev S2x1x4096 : Shape := ⟨3, ![2, 1, 4096]⟩
abbrev S2x4096x4096 : Shape := ⟨3, ![2, 4096, 4096]⟩
abbrev S8192x4096 : Shape := ⟨2, ![8192, 4096]⟩
abbrev S1x4096 : Shape := ⟨2, ![1, 4096]⟩
abbrev S512x4096 : Shape := ⟨2, ![512, 4096]⟩
abbrev S_ : Shape := ⟨0, ![]⟩
abbrev S8704 : Shape := ⟨1, ![8704]⟩
abbrev S8704x1 : Shape := ⟨2, ![8704, 1]⟩

abbrev nBuf : Space → Nat
  | .hbm => 69
  | .vmem => 0
  | .smem => 0
  | _ => 0

abbrev bufTy : (tb : Table) → Fin (tcTables nBuf tb) → BufTy
  | .hbm, ⟨0, _⟩ => ⟨S8704x4096, .f32⟩
  | .hbm, ⟨1, _⟩ => ⟨S8704x4096, .f32⟩
  | .hbm, ⟨2, _⟩ => ⟨S8x24576, .f32⟩
  | .hbm, ⟨3, _⟩ => ⟨S4096, .f32⟩
  | .hbm, ⟨4, _⟩ => ⟨S4096, .f32⟩
  | .hbm, ⟨5, _⟩ => ⟨S8x4096, .f32⟩
  | .hbm, ⟨6, _⟩ => ⟨S2x4096, .f32⟩
  | .hbm, ⟨7, _⟩ => ⟨S2x1x4096, .f32⟩
  | .hbm, ⟨8, _⟩ => ⟨S2x4096x4096, .f32⟩
  | .hbm, ⟨9, _⟩ => ⟨S8192x4096, .f32⟩
  | .hbm, ⟨10, _⟩ => ⟨S1x4096, .f32⟩
  | .hbm, ⟨11, _⟩ => ⟨S512x4096, .f32⟩
  | .hbm, ⟨12, _⟩ => ⟨S8704x4096, .f32⟩
  | .hbm, ⟨13, _⟩ => ⟨S8x4096, .f32⟩
  | .hbm, ⟨14, _⟩ => ⟨S2x4096, .f32⟩
  | .hbm, ⟨15, _⟩ => ⟨S2x1x4096, .f32⟩
  | .hbm, ⟨16, _⟩ => ⟨S2x4096x4096, .f32⟩
  | .hbm, ⟨17, _⟩ => ⟨S8192x4096, .f32⟩
  | .hbm, ⟨18, _⟩ => ⟨S1x4096, .f32⟩
  | .hbm, ⟨19, _⟩ => ⟨S512x4096, .f32⟩
  | .hbm, ⟨20, _⟩ => ⟨S8704x4096, .f32⟩
  | .hbm, ⟨21, _⟩ => ⟨S8x4096, .f32⟩
  | .hbm, ⟨22, _⟩ => ⟨S2x4096, .f32⟩
  | .hbm, ⟨23, _⟩ => ⟨S2x1x4096, .f32⟩
  | .hbm, ⟨24, _⟩ => ⟨S2x4096x4096, .f32⟩
  | .hbm, ⟨25, _⟩ => ⟨S8192x4096, .f32⟩
  | .hbm, ⟨26, _⟩ => ⟨S1x4096, .f32⟩
  | .hbm, ⟨27, _⟩ => ⟨S512x4096, .f32⟩
  | .hbm, ⟨28, _⟩ => ⟨S8704x4096, .f32⟩
  | .hbm, ⟨29, _⟩ => ⟨S_, .f32⟩
  | .hbm, ⟨30, _⟩ => ⟨S8704x4096, .f32⟩
  | .hbm, ⟨31, _⟩ => ⟨S8704x4096, .f32⟩
  | .hbm, ⟨32, _⟩ => ⟨S8704x4096, .f32⟩
  | .hbm, ⟨33, _⟩ => ⟨S8704x4096, .f32⟩
  | .hbm, ⟨34, _⟩ => ⟨S_, .f32⟩
  | .hbm, ⟨35, _⟩ => ⟨S8704, .f32⟩
  | .hbm, ⟨36, _⟩ => ⟨S8704x1, .f32⟩
  | .hbm, ⟨37, _⟩ => ⟨S_, .f32⟩
  | .hbm, ⟨38, _⟩ => ⟨S8704x1, .f32⟩
  | .hbm, ⟨39, _⟩ => ⟨S8704x1, .f32⟩
  | .hbm, ⟨40, _⟩ => ⟨S8704x4096, .f32⟩
  | .hbm, ⟨41, _⟩ => ⟨S8704x4096, .f32⟩
  | .hbm, ⟨42, _⟩ => ⟨S8704x4096, .f32⟩
  | .hbm, ⟨43, _⟩ => ⟨S_, .f32⟩
  | .hbm, ⟨44, _⟩ => ⟨S8704, .f32⟩
  | .hbm, ⟨45, _⟩ => ⟨S8704x1, .f32⟩
  | .hbm, ⟨46, _⟩ => ⟨S_, .f32⟩
  | .hbm, ⟨47, _⟩ => ⟨S8704x1, .f32⟩
  | .hbm, ⟨48, _⟩ => ⟨S8704x1, .f32⟩
  | .hbm, ⟨49, _⟩ => ⟨S8704x4096, .f32⟩
  | .hbm, ⟨50, _⟩ => ⟨S8704x4096, .f32⟩
  | .hbm, ⟨51, _⟩ => ⟨S_, .f32⟩
  | .hbm, ⟨52, _⟩ => ⟨S8704x1, .f32⟩
  | .hbm, ⟨53, _⟩ => ⟨S8704x1, .f32⟩
  | .hbm, ⟨54, _⟩ => ⟨S8704x1, .f32⟩
  | .hbm, ⟨55, _⟩ => ⟨S8704x4096, .f32⟩
  | .hbm, ⟨56, _⟩ => ⟨S8704x4096, .f32⟩
  | .hbm, ⟨57, _⟩ => ⟨S1x4096, .f32⟩
  | .hbm, ⟨58, _⟩ => ⟨S8704x4096, .f32⟩
  | .hbm, ⟨59, _⟩ => ⟨S8704x4096, .f32⟩
  | .hbm, ⟨60, _⟩ => ⟨S1x4096, .f32⟩
  | .hbm, ⟨61, _⟩ => ⟨S8704x4096, .f32⟩
  | .hbm, ⟨62, _⟩ => ⟨S8704x4096, .f32⟩
  | .hbm, ⟨63, _⟩ => ⟨S_, .f32⟩
  | .hbm, ⟨64, _⟩ => ⟨S8704x4096, .f32⟩
  | .hbm, ⟨65, _⟩ => ⟨S8704x4096, .f32⟩
  | .hbm, ⟨66, _⟩ => ⟨S8704x4096, .f32⟩
  | .hbm, ⟨67, _⟩ => ⟨S8704x4096, .f32⟩
  | .hbm, ⟨68, _⟩ => ⟨S8704x4096, .bf16⟩
  | _, _ => ⟨S8704x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_0 : Ref sig .tc := ⟨.hbm, 34, rfl⟩
abbrev main_v28 : Ref sig .tc := ⟨.hbm, 35, rfl⟩
abbrev main_v29 : Ref sig .tc := ⟨.hbm, 36, rfl⟩
abbrev main_cst_1 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_2 : Ref sig .tc := ⟨.hbm, 43, rfl⟩
abbrev main_v35 : Ref sig .tc := ⟨.hbm, 44, rfl⟩
abbrev main_v36 : Ref sig .tc := ⟨.hbm, 45, rfl⟩
abbrev main_cst_3 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_4 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_cst_5 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩

abbrev nD : Nat := 1
abbrev τ : Topo := Topo.v7x

variable {F : FTy → Type} [FloatOps F]
-- ==== Proof.Softmax.lean ====
/- The mathematics of a softmax row over the extended reals, as the attention's two texts spell it. -/
module

public import Idealize.ShloMosaic.Lib.Pointwise

@[expose] public section

set_option maxRecDepth 16384

noncomputable section

namespace Cert.Softmax

open Idealize.ShloMosaic

/-- A sequence of extended reals none of which is infinite. -/
def Fin' {n : Nat} (s : Fin n → EReal) : Prop := ∀ j, ∃ r : ℝ, s j = (r : EReal)

/-- The greatest of a row of scores. -/
def top {n : Nat} (s : Fin n → EReal) : EReal := Finset.univ.sup s

/-- The softmax of the scores `s` applied to the values `v`: each value weighted by its own quotient. -/
def soft {n : Nat} (s v : Fin n → EReal) : EReal :=
  ∑ j, v j * Ideal.div (Ideal.exp (s j - top s)) (∑ k, Ideal.exp (s k - top s))

/-- The all-ones exponent with a sign is minus infinity. -/
theorem negInf : Ideal.ofBits FTy.f32 4286578688#32 = (⊥ : EReal) := by
  show Ideal.ieee 8 23 (4286578688#32) = ⊥
  have hn : ((4286578688#32).extractLsb' (8 + 23) 1 == 1#1) = true := by decide
  have he : ((4286578688#32).extractLsb' 23 8).toNat = 2 ^ 8 - 1 := by decide
  have hf : ((4286578688#32).extractLsb' 0 23).toNat = 0 := by decide
  unfold Ideal.ieee
  simp only [hn, he, hf, if_true]

/-- A fold of the maximum from minus infinity is the greatest of the row. -/
theorem fold_top {n : Nat} (s : Fin n → EReal) :
    Finset.univ.fold max (Ideal.ofBits FTy.f32 4286578688#32 : EReal) s = top s := by
  rw [negInf]; rfl

/-- The sum of finitely many reals is the real sum. -/
theorem coe_sum {n : Nat} (f : Fin n → ℝ) : (∑ j, (f j : EReal)) = ((∑ j, f j : ℝ) : EReal) := by
  induction (Finset.univ : Finset (Fin n)) using Finset.induction_on with
  | empty => simp
  | insert a s ha ih => rw [Finset.sum_insert ha, Finset.sum_insert ha, ih, EReal.coe_add]

/-- A nonnegative real factor passes into a sum of any extended reals. -/
theorem sum_mul {n : Nat} (f : Fin n → EReal) (c : ℝ) (hc : 0 ≤ c) :
    (∑ j, f j) * (c : EReal) = ∑ j, f j * (c : EReal) := by
  induction (Finset.univ : Finset (Fin n)) using Finset.induction_on with
  | empty => simp
  | insert a s ha ih =>
    rw [Finset.sum_insert ha, Finset.sum_insert ha,
      EReal.right_distrib_of_nonneg_of_ne_top (EReal.coe_nonneg.mpr hc) (EReal.coe_ne_top c), ih]

/-- The inner product of two finite rows is finite. -/
theorem finite_dot {n : Nat} (x y : Fin n → EReal) (hx : Fin' x) (hy : Fin' y) :
    ∃ r : ℝ, (∑ d, x d * y d) = (r : EReal) := by
  choose a ha using hx
  choose b hb using hy
  refine ⟨∑ d, a d * b d, ?_⟩
  rw [← coe_sum]
  exact Finset.sum_congr rfl fun d _ => by rw [ha, hb, EReal.coe_mul]

/-- The greatest of a nonempty row of finite scores is finite. -/
theorem finite_top {n : Nat} (s : Fin n → EReal) (hs : Fin' s) (hn : 0 < n) : ∃ r : ℝ, top s = (r : EReal) := by
  obtain ⟨j, -, hj⟩ := Finset.exists_max_image Finset.univ s ⟨⟨0, hn⟩, Finset.mem_univ _⟩
  obtain ⟨r, hr⟩ := hs j
  refine ⟨r, ?_⟩
  rw [← hr]
  exact le_antisymm (Finset.sup_le fun k hk => hj k hk) (Finset.le_sup (Finset.mem_univ j))

/-- For finite scores the one quotient of the two sums is the softmax with a quotient on each weight, whatever the values. -/
theorem soft_eq {n : Nat} (s v : Fin n → EReal) (hs : Fin' s) (hn : 0 < n) :
    Ideal.div (∑ j, Ideal.exp (s j - top s) * v j) (∑ j, Ideal.exp (s j - top s)) = soft s v := by
  obtain ⟨M, hM⟩ := finite_top s hs hn
  choose r hr using hs
  have hp : ∀ j, Ideal.exp (s j - top s) = ((Real.exp (r j - M) : ℝ) : EReal) := fun j => by
    rw [hM, hr, ← EReal.coe_sub, Ideal.exp_coe]
  have hD : (∑ j, Ideal.exp (s j - top s)) = ((∑ j, Real.exp (r j - M) : ℝ) : EReal) := by
    rw [← coe_sum]; exact Finset.sum_congr rfl fun j _ => hp j
  have hpos : 0 < ∑ j, Real.exp (r j - M) :=
    Finset.sum_pos (fun j _ => Real.exp_pos _) ⟨⟨0, hn⟩, Finset.mem_univ _⟩
  unfold soft
  rw [hD]
  generalize (∑ j, Real.exp (r j - M)) = D at hpos
  have hdiv : ∀ x : EReal, Ideal.div x (D : EReal) = x * ((D⁻¹ : ℝ) : EReal) := fun x => by
    unfold Ideal.div
    rw [if_neg (by exact_mod_cast hpos.ne'), EReal.coe_inv]
  rw [hdiv, sum_mul _ _ (inv_nonneg.mpr hpos.le)]
  refine Finset.sum_congr rfl fun j _ => ?_
  rw [hdiv, mul_comm _ (v j), mul_assoc]

/-- Two rows laid end to end. -/
def row (x : Fin 256 → EReal) (y : Fin 4096 → EReal) (j : Fin 4352) : EReal :=
  if h : j.val < 256 then x ⟨j.val, h⟩ else y ⟨j.val - 256, by omega⟩

/-- The first part of a row laid end to end. -/
theorem row_left (x : Fin 256 → EReal) (y : Fin 4096 → EReal) (j : Fin 256) :
    row x y ⟨j.val, by omega⟩ = x j := by unfold row; exact dif_pos j.isLt

/-- The second part of a row laid end to end. -/
theorem row_right (x : Fin 256 → EReal) (y : Fin 4096 → EReal) (j : Fin 4096) :
    row x y ⟨256 + j.val, by omega⟩ = y j := by
  unfold row
  rw [dif_neg (by simp)]
  congr 1; apply Fin.ext; simp

/-- A sum over the laid row is the sum over its two parts. -/
theorem sum_row (f : Fin 4352 → EReal) :
    (∑ j, f j) = (∑ j : Fin 256, f ⟨j.val, by omega⟩) + ∑ j : Fin 4096, f ⟨256 + j.val, by omega⟩ :=
  Fin.sum_univ_add (a := 256) (b := 4096) f

/-- The greatest of a laid row is the greater of the two parts' greatest. -/
theorem top_row (x : Fin 256 → EReal) (y : Fin 4096 → EReal) : top (row x y) = max (top x) (top y) := by
  refine le_antisymm (Finset.sup_le fun j _ => ?_) (max_le (Finset.sup_le fun j _ => ?_) (Finset.sup_le fun j _ => ?_))
  · unfold row
    split
    · exact le_max_of_le_left (Finset.le_sup (f := x) (Finset.mem_univ _))
    · exact le_max_of_le_right (Finset.le_sup (f := y) (Finset.mem_univ _))
  · rw [← row_left x y j]; exact Finset.le_sup (f := row x y) (Finset.mem_univ _)
  · rw [← row_right x y j]; exact Finset.le_sup (f := row x y) (Finset.mem_univ _)

/-- A laid row of finite scores is finite. -/
theorem finite_row (x : Fin 256 → EReal) (y : Fin 4096 → EReal) (hx : Fin' x) (hy : Fin' y) : Fin' (row x y) := by
  intro j; unfold row; split
  · exact hx _
  · exact hy _

/-- The softmax over two parts with one common maximum and one quotient is the softmax over the laid row. -/
theorem soft_two (x v : Fin 256 → EReal) (y w : Fin 4096 → EReal) (hx : Fin' x) (hy : Fin' y) :
    Ideal.div
        ((∑ j, Ideal.exp (x j - max (top x) (top y)) * v j) + ∑ j, Ideal.exp (y j - max (top x) (top y)) * w j)
        ((∑ j, Ideal.exp (x j - max (top x) (top y))) + ∑ j, Ideal.exp (y j - max (top x) (top y)))
      = soft (row x y) (row v w) := by
  rw [← soft_eq (row x y) (row v w) (finite_row x y hx hy) (by norm_num), top_row, sum_row, sum_row]
  simp only [row_left, row_right]

end Cert.Softmax

end
-- ==== Proof.AttnRef.lean ====
/- The attention's reference read at an index: every query row's softmax over its own scores. -/
module

public import proofs.«01_k».proof.Defs
public import proofs.«01_k».proof.Proof.Gen.ReferenceIdeal.Run
public import proofs.«01_k».proof.Proof.Gen.ReferenceIdeal.Read
public import proofs.«01_k».proof.Proof.Softmax
public import Idealize.ShloMosaic.Lib.Pointwise

@[expose] public section

set_option maxRecDepth 16384

noncomputable section

namespace Cert.ReferenceIdeal.Rows

open Cert.ReferenceIdeal Cert.ReferenceIdeal.Gen Cert.ReferenceIdeal.Read Idealize.ShloMosaic Cert.Softmax

/-- The queries' and the keys' array. -/
abbrev Wide := Vec Ideal S8704x4096 .bf16

/-- The values' and the result's array. -/
abbrev Half := Vec Ideal S8704x2048 .bf16

/-- The score of query row `R` against key row `K` at head `h`. -/
def score (q k : Wide) (h : Fin 16) (R K : Fin 8704) : EReal :=
  ∑ d : Fin 256, (q (ix2 R ⟨h.val * 256 + d.val, by omega⟩) : EReal) * k (ix2 K ⟨h.val * 256 + d.val, by omega⟩)

/-- The array row of a latent token of one sequence. -/
abbrev lat (b : Fin 2) (i : Fin 4096) : Fin 8704 := ⟨b.val * 4096 + i.val, by omega⟩

/-- The array row of a context token of one sequence. -/
abbrev ctx (b : Fin 2) (i : Fin 256) : Fin 8704 := ⟨8192 + b.val * 256 + i.val, by omega⟩

/-- The column of a value's lane at one head. -/
abbrev col (h : Fin 16) (d : Fin 128) : Fin 2048 := ⟨h.val * 128 + d.val, by omega⟩

/-- The scores of a query row against the context's and then the latents' keys. -/
def scores (q k : Wide) (b : Fin 2) (h : Fin 16) (R : Fin 8704) : Fin 4352 → EReal :=
  row (fun j => score q k h R (ctx b j)) (fun j => score q k h R (lat b j))

/-- One lane of the context's and then the latents' values. -/
def lanes (v : Half) (b : Fin 2) (h : Fin 16) (d : Fin 128) : Fin 4352 → EReal :=
  row (fun j => v (ix2 (ctx b j) (col h d))) (fun j => v (ix2 (lat b j) (col h d)))

/-- The latent queries by sequence, token, head and lane. -/
theorem q_lat (x : Wide) (b : Fin 2) (i : Fin 4096) (h : Fin 16) (d : Fin 256) :
    val_main_v1 (F := Ideal) x (ix4 b i h d) = x (ix2 (lat b i) ⟨h.val * 256 + d.val, by omega⟩) := by
  rw [val_main_v1_apply, val_main_v0_apply]
  refine congrArg x (funext fun a => Fin.ext ?_)
  have hb := b.isLt
  have hi := i.isLt
  have hh := h.isLt
  have hd := d.isLt
  match a with
  | ⟨0, _⟩ =>
    show (((b.val * 4096 + i.val) * 16 + h.val) * 256 + d.val) / 4096 = b.val * 4096 + i.val
    omega
  | ⟨1, _⟩ =>
    show (((b.val * 4096 + i.val) * 16 + h.val) * 256 + d.val) % 4096 = h.val * 256 + d.val
    omega

/-- The context keys by sequence, token, head and lane. -/
theorem k_ctx (x : Wide) (b : Fin 2) (i : Fin 256) (h : Fin 16) (d : Fin 256) :
    val_main_v3 (F := Ideal) x (ix4 b i h d) = x (ix2 (ctx b i) ⟨h.val * 256 + d.val, by omega⟩) := by
  rw [val_main_v3_apply, val_main_v2_apply]
  refine congrArg x (funext fun a => Fin.ext ?_)
  have hb := b.isLt
  have hi := i.isLt
  have hh := h.isLt
  have hd := d.isLt
  match a with
  | ⟨0, _⟩ =>
    show 8192 + (((b.val * 256 + i.val) * 16 + h.val) * 256 + d.val) / 4096 = 8192 + b.val * 256 + i.val
    omega
  | ⟨1, _⟩ =>
    show (((b.val * 256 + i.val) * 16 + h.val) * 256 + d.val) % 4096 = h.val * 256 + d.val
    omega

/-- The latent keys by sequence, token, head and lane. -/
theorem k_lat (x : Wide) (b : Fin 2) (i : Fin 4096) (h : Fin 16) (d : Fin 256) :
    val_main_v5 (F := Ideal) x (ix4 b i h d) = x (ix2 (lat b i) ⟨h.val * 256 + d.val, by omega⟩) := by
  rw [val_main_v5_apply, val_main_v4_apply]
  refine congrArg x (funext fun a => Fin.ext ?_)
  have hb := b.isLt
  have hi := i.isLt
  have hh := h.isLt
  have hd := d.isLt
  match a with
  | ⟨0, _⟩ =>
    show (((b.val * 4096 + i.val) * 16 + h.val) * 256 + d.val) / 4096 = b.val * 4096 + i.val
    omega
  | ⟨1, _⟩ =>
    show (((b.val * 4096 + i.val) * 16 + h.val) * 256 + d.val) % 4096 = h.val * 256 + d.val
    omega

/-- The context values by sequence, token, head and lane. -/
theorem v_ctx (x : Half) (b : Fin 2) (i : Fin 256) (h : Fin 16) (d : Fin 128) :
    val_main_v8 (F := Ideal) x (ix4 b i h d) = x (ix2 (ctx b i) ⟨h.val * 128 + d.val, by omega⟩) := by
  rw [val_main_v8_apply, val_main_v7_apply]
  refine congrArg x (funext fun a => Fin.ext ?_)
  have hb := b.isLt
  have hi := i.isLt
  have hh := h.isLt
  have hd := d.isLt
  match a with
  | ⟨0, _⟩ =>
    show 8192 + (((b.val * 256 + i.val) * 16 + h.val) * 128 + d.val) / 2048 = 8192 + b.val * 256 + i.val
    omega
  | ⟨1, _⟩ =>
    show (((b.val * 256 + i.val) * 16 + h.val) * 128 + d.val) % 2048 = h.val * 128 + d.val
    omega

/-- The latent values by sequence, token, head and lane. -/
theorem v_lat (x : Half) (b : Fin 2) (i : Fin 4096) (h : Fin 16) (d : Fin 128) :
    val_main_v10 (F := Ideal) x (ix4 b i h d) = x (ix2 (lat b i) ⟨h.val * 128 + d.val, by omega⟩) := by
  rw [val_main_v10_apply, val_main_v9_apply]
  refine congrArg x (funext fun a => Fin.ext ?_)
  have hb := b.isLt
  have hi := i.isLt
  have hh := h.isLt
  have hd := d.isLt
  match a with
  | ⟨0, _⟩ =>
    show (((b.val * 4096 + i.val) * 16 + h.val) * 128 + d.val) / 2048 = b.val * 4096 + i.val
    omega
  | ⟨1, _⟩ =>
    show (((b.val * 4096 + i.val) * 16 + h.val) * 128 + d.val) % 2048 = h.val * 128 + d.val
    omega

/-- The context queries by sequence, token, head and lane. -/
theorem q_ctx (x : Wide) (b : Fin 2) (i : Fin 256) (h : Fin 16) (d : Fin 256) :
    val_main_v30 (F := Ideal) x (ix4 b i h d) = x (ix2 (ctx b i) ⟨h.val * 256 + d.val, by omega⟩) := by
  rw [val_main_v30_apply, val_main_v29_apply]
  refine congrArg x (funext fun a => Fin.ext ?_)
  have hb := b.isLt
  have hi := i.isLt
  have hh := h.isLt
  have hd := d.isLt
  match a with
  | ⟨0, _⟩ =>
    show 8192 + (((b.val * 256 + i.val) * 16 + h.val) * 256 + d.val) / 4096 = 8192 + b.val * 256 + i.val
    omega
  | ⟨1, _⟩ =>
    show (((b.val * 256 + i.val) * 16 + h.val) * 256 + d.val) % 4096 = h.val * 256 + d.val
    omega

/-- The context keys once more, for the context's own queries. -/
theorem k_ctx' (x : Wide) (b : Fin 2) (i : Fin 256) (h : Fin 16) (d : Fin 256) :
    val_main_v32 (F := Ideal) x (ix4 b i h d) = x (ix2 (ctx b i) ⟨h.val * 256 + d.val, by omega⟩) := by
  rw [val_main_v32_apply, val_main_v31_apply]
  refine congrArg x (funext fun a => Fin.ext ?_)
  have hb := b.isLt
  have hi := i.isLt
  have hh := h.isLt
  have hd := d.isLt
  match a with
  | ⟨0, _⟩ =>
    show 8192 + (((b.val * 256 + i.val) * 16 + h.val) * 256 + d.val) / 4096 = 8192 + b.val * 256 + i.val
    omega
  | ⟨1, _⟩ =>
    show (((b.val * 256 + i.val) * 16 + h.val) * 256 + d.val) % 4096 = h.val * 256 + d.val
    omega

/-- The context values once more, for the context's own queries. -/
theorem v_ctx' (x : Half) (b : Fin 2) (i : Fin 256) (h : Fin 16) (d : Fin 128) :
    val_main_v34 (F := Ideal) x (ix4 b i h d) = x (ix2 (ctx b i) ⟨h.val * 128 + d.val, by omega⟩) := by
  rw [val_main_v34_apply, val_main_v33_apply]
  refine congrArg x (funext fun a => Fin.ext ?_)
  have hb := b.isLt
  have hi := i.isLt
  have hh := h.isLt
  have hd := d.isLt
  match a with
  | ⟨0, _⟩ =>
    show 8192 + (((b.val * 256 + i.val) * 16 + h.val) * 128 + d.val) / 2048 = 8192 + b.val * 256 + i.val
    omega
  | ⟨1, _⟩ =>
    show (((b.val * 256 + i.val) * 16 + h.val) * 128 + d.val) % 2048 = h.val * 128 + d.val
    omega

/-- The keys of one sequence: the context's, then the latents'. -/
theorem keys (x : Wide) (b : Fin 2) (j : Fin 4352) (h : Fin 16) (d : Fin 256) :
    val_main_v6 (F := Ideal) x (ix4 b j h d)
      = row (fun j => x (ix2 (ctx b j) ⟨h.val * 256 + d.val, by omega⟩)) (fun j => x (ix2 (lat b j) ⟨h.val * 256 + d.val, by omega⟩)) j := by
  have hc := fun i => k_ctx x b i h d
  have hl := fun i => k_lat x b i h d
  unfold val_main_v6 row
  generalize val_main_v3 (F := Ideal) x = y at hc
  generalize val_main_v5 (F := Ideal) x = z at hl
  pointwise
  split
  · exact hc _
  · exact hl _

/-- The values of one sequence: the context's, then the latents'. -/
theorem values (x : Half) (b : Fin 2) (j : Fin 4352) (h : Fin 16) (d : Fin 128) :
    val_main_v11 (F := Ideal) x (ix4 b j h d)
      = row (fun j => x (ix2 (ctx b j) ⟨h.val * 128 + d.val, by omega⟩)) (fun j => x (ix2 (lat b j) ⟨h.val * 128 + d.val, by omega⟩)) j := by
  have hc := fun i => v_ctx x b i h d
  have hl := fun i => v_lat x b i h d
  unfold val_main_v11 row
  generalize val_main_v8 (F := Ideal) x = y at hc
  generalize val_main_v10 (F := Ideal) x = z at hl
  pointwise
  split
  · exact hc _
  · exact hl _

/-- The scores of the latent queries. -/
theorem scores_lat (q k : Wide) (b : Fin 2) (h : Fin 16) (i : Fin 4096) (j : Fin 4352) :
    val_main_v12 (F := Ideal) q k (ix4 b h i j) = (scores q k b h (lat b i)) j := by
  rw [val_main_v12_apply]
  have e1 : ∀ d : Fin 256, lidx_main_v12 (ix4 b h i j) d = ix4 b i h d := fun d => funext fun a => by
    match a with | ⟨0, _⟩ => rfl | ⟨1, _⟩ => rfl | ⟨2, _⟩ => rfl | ⟨3, _⟩ => rfl
  have e2 : ∀ d : Fin 256, ridx_main_v12 (ix4 b h i j) d = ix4 b j h d := fun d => funext fun a => by
    match a with | ⟨0, _⟩ => rfl | ⟨1, _⟩ => rfl | ⟨2, _⟩ => rfl | ⟨3, _⟩ => rfl
  simp only [e1, e2, q_lat, keys]
  unfold scores score row
  split <;> rfl

/-- The greatest score of a latent query. -/
theorem top_lat (q k : Wide) (b : Fin 2) (h : Fin 16) (i : Fin 4096) :
    val_main_v15 (F := Ideal) q k (ix3 b h i) = top (scores q k b h (lat b i)) := by
  have hs := scores_lat q k b h i
  have hr : val_main_v13 (F := Ideal) q k (ix3 b h i) = top (scores q k b h (lat b i)) := by
    unfold val_main_v13
    generalize val_main_v12 (F := Ideal) q k = y at hs
    refine (Host.reduce_eq_fold_single (a := 3) (max : EReal → EReal → EReal) y (val_main_cst (F := Ideal))
      reducesTo_S2x16x4096x4352_S2x16x4096_d3 (by decide) h_S_ (ix3 b h i)).trans ?_
    refine Eq.trans ?_ (fold_top _)
    refine congrArg₂ (fun a f => Finset.univ.fold max a f) rfl (funext fun j => ?_)
    refine Eq.trans (congrArg y (funext fun a => ?_)) (hs j)
    match a with | ⟨0, _⟩ => rfl | ⟨1, _⟩ => rfl | ⟨2, _⟩ => rfl | ⟨3, _⟩ => rfl
  rw [val_main_v15_apply, hr, val_main_v14_apply, val_main_cst_0_apply]
  show max (Ideal.ofBits FTy.f32 4286578688#32) _ = _
  rw [negInf]
  exact bot_sup_eq _

/-- The weight of a latent query's score, before the quotient. -/
theorem exp_lat (q k : Wide) (b : Fin 2) (h : Fin 16) (i : Fin 4096) (j : Fin 4352) :
    val_main_v19 (F := Ideal) q k (ix4 b h i j)
      = Ideal.exp ((scores q k b h (lat b i)) j - top (scores q k b h (lat b i))) := by
  have e1 : idx_main_v16 (idx_main_v17 (ix4 b h i j)) = ix3 b h i := funext fun a => by
    match a with | ⟨0, _⟩ => rfl | ⟨1, _⟩ => rfl | ⟨2, _⟩ => rfl
  rw [val_main_v19_apply, val_main_v18_apply, val_main_v17_apply, val_main_v16_apply, e1, top_lat, scores_lat]
  rfl

/-- The sum of a latent query's weights. -/
theorem sum_lat (q k : Wide) (b : Fin 2) (h : Fin 16) (i : Fin 4096) :
    val_main_v20 (F := Ideal) q k (ix3 b h i)
      = ∑ j, Ideal.exp ((scores q k b h (lat b i)) j - top (scores q k b h (lat b i))) := by
  have e1 : ∀ j : Fin 4352, idx_main_v20 (ix3 b h i) j = ix4 b h i j := fun j => funext fun a => by
    match a with | ⟨0, _⟩ => rfl | ⟨1, _⟩ => rfl | ⟨2, _⟩ => rfl | ⟨3, _⟩ => rfl
  rw [val_main_v20_apply, val_main_cst_1_apply]
  simp only [e1, exp_lat]
  exact (congrArg (· + _) Ideal.ofBits_zero_f32).trans (zero_add _)

/-- The weight of a latent query's score. -/
theorem weight_lat (q k : Wide) (b : Fin 2) (h : Fin 16) (i : Fin 4096) (j : Fin 4352) :
    val_main_v24 (F := Ideal) q k (ix4 b h i j)
      = Ideal.div (Ideal.exp ((scores q k b h (lat b i)) j - top (scores q k b h (lat b i)))) (∑ j, Ideal.exp ((scores q k b h (lat b i)) j - top (scores q k b h (lat b i)))) := by
  have e1 : idx_main_v21 (idx_main_v22 (ix4 b h i j)) = ix3 b h i := funext fun a => by
    match a with | ⟨0, _⟩ => rfl | ⟨1, _⟩ => rfl | ⟨2, _⟩ => rfl
  rw [val_main_v24_apply, val_main_v23_apply, val_main_v22_apply, val_main_v21_apply, e1, sum_lat, exp_lat]
  rfl

/-- The result at a latent query: the softmax of its scores applied to the values. -/
theorem out_lat (q k : Wide) (v : Half) (b : Fin 2) (h : Fin 16) (i : Fin 4096) (d : Fin 128) :
    val_main_v27 (F := Ideal) q k v (ix4 b i h d) = soft (scores q k b h (lat b i)) (lanes v b h d) := by
  have e0 : idx_main_v26 (ix4 b i h d) = ix4 b h d i := funext fun a => by
    match a with | ⟨0, _⟩ => rfl | ⟨1, _⟩ => rfl | ⟨2, _⟩ => rfl | ⟨3, _⟩ => rfl
  have e1 : ∀ j : Fin 4352, lidx_main_v25 (ix4 b h d i) j = ix4 b j h d := fun j => funext fun a => by
    match a with | ⟨0, _⟩ => rfl | ⟨1, _⟩ => rfl | ⟨2, _⟩ => rfl | ⟨3, _⟩ => rfl
  have e2 : ∀ j : Fin 4352, ridx_main_v25 (ix4 b h d i) j = ix4 b h i j := fun j => funext fun a => by
    match a with | ⟨0, _⟩ => rfl | ⟨1, _⟩ => rfl | ⟨2, _⟩ => rfl | ⟨3, _⟩ => rfl
  rw [val_main_v27_apply, val_main_v26_apply, e0, val_main_v25_apply]
  simp only [e1, e2, weight_lat, values]
  rfl

/-- The scores of the context queries. -/
theorem scores_ctx (q k : Wide) (b : Fin 2) (h : Fin 16) (i : Fin 256) (j : Fin 256) :
    val_main_v35 (F := Ideal) q k (ix4 b h i j) = (fun j => score q k h (ctx b i) (ctx b j)) j := by
  rw [val_main_v35_apply]
  have e1 : ∀ d : Fin 256, lidx_main_v35 (ix4 b h i j) d = ix4 b i h d := fun d => funext fun a => by
    match a with | ⟨0, _⟩ => rfl | ⟨1, _⟩ => rfl | ⟨2, _⟩ => rfl | ⟨3, _⟩ => rfl
  have e2 : ∀ d : Fin 256, ridx_main_v35 (ix4 b h i j) d = ix4 b j h d := fun d => funext fun a => by
    match a with | ⟨0, _⟩ => rfl | ⟨1, _⟩ => rfl | ⟨2, _⟩ => rfl | ⟨3, _⟩ => rfl
  simp only [e1, e2, q_ctx, k_ctx']
  rfl

/-- The greatest score of a context query. -/
theorem top_ctx (q k : Wide) (b : Fin 2) (h : Fin 16) (i : Fin 256) :
    val_main_v38 (F := Ideal) q k (ix3 b h i) = top (fun j => score q k h (ctx b i) (ctx b j)) := by
  have hs := scores_ctx q k b h i
  have hr : val_main_v36 (F := Ideal) q k (ix3 b h i) = top (fun j => score q k h (ctx b i) (ctx b j)) := by
    unfold val_main_v36
    generalize val_main_v35 (F := Ideal) q k = y at hs
    refine (Host.reduce_eq_fold_single (a := 3) (max : EReal → EReal → EReal) y (val_main_cst_2 (F := Ideal))
      reducesTo_S2x16x256x256_S2x16x256_d3 (by decide) h_S_ (ix3 b h i)).trans ?_
    refine Eq.trans ?_ (fold_top _)
    refine congrArg₂ (fun a f => Finset.univ.fold max a f) rfl (funext fun j => ?_)
    refine Eq.trans (congrArg y (funext fun a => ?_)) (hs j)
    match a with | ⟨0, _⟩ => rfl | ⟨1, _⟩ => rfl | ⟨2, _⟩ => rfl | ⟨3, _⟩ => rfl
  rw [val_main_v38_apply, hr, val_main_v37_apply, val_main_cst_3_apply]
  show max (Ideal.ofBits FTy.f32 4286578688#32) _ = _
  rw [negInf]
  exact bot_sup_eq _

/-- The weight of a context query's score, before the quotient. -/
theorem exp_ctx (q k : Wide) (b : Fin 2) (h : Fin 16) (i : Fin 256) (j : Fin 256) :
    val_main_v42 (F := Ideal) q k (ix4 b h i j)
      = Ideal.exp ((fun j => score q k h (ctx b i) (ctx b j)) j - top (fun j => score q k h (ctx b i) (ctx b j))) := by
  have e1 : idx_main_v39 (idx_main_v40 (ix4 b h i j)) = ix3 b h i := funext fun a => by
    match a with | ⟨0, _⟩ => rfl | ⟨1, _⟩ => rfl | ⟨2, _⟩ => rfl
  rw [val_main_v42_apply, val_main_v41_apply, val_main_v40_apply, val_main_v39_apply, e1, top_ctx, scores_ctx]
  rfl

/-- The sum of a context query's weights. -/
theorem sum_ctx (q k : Wide) (b : Fin 2) (h : Fin 16) (i : Fin 256) :
    val_main_v43 (F := Ideal) q k (ix3 b h i)
      = ∑ j, Ideal.exp ((fun j => score q k h (ctx b i) (ctx b j)) j - top (fun j => score q k h (ctx b i) (ctx b j))) := by
  have e1 : ∀ j : Fin 256, idx_main_v43 (ix3 b h i) j = ix4 b h i j := fun j => funext fun a => by
    match a with | ⟨0, _⟩ => rfl | ⟨1, _⟩ => rfl | ⟨2, _⟩ => rfl | ⟨3, _⟩ => rfl
  rw [val_main_v43_apply, val_main_cst_4_apply]
  simp only [e1, exp_ctx]
  exact (congrArg (· + _) Ideal.ofBits_zero_f32).trans (zero_add _)

/-- The weight of a context query's score. -/
theorem weight_ctx (q k : Wide) (b : Fin 2) (h : Fin 16) (i : Fin 256) (j : Fin 256) :
    val_main_v47 (F := Ideal) q k (ix4 b h i j)
      = Ideal.div (Ideal.exp ((fun j => score q k h (ctx b i) (ctx b j)) j - top (fun j => score q k h (ctx b i) (ctx b j)))) (∑ j, Ideal.exp ((fun j => score q k h (ctx b i) (ctx b j)) j - top (fun j => score q k h (ctx b i) (ctx b j)))) := by
  have e1 : idx_main_v44 (idx_main_v45 (ix4 b h i j)) = ix3 b h i := funext fun a => by
    match a with | ⟨0, _⟩ => rfl | ⟨1, _⟩ => rfl | ⟨2, _⟩ => rfl
  rw [val_main_v47_apply, val_main_v46_apply, val_main_v45_apply, val_main_v44_apply, e1, sum_ctx, exp_ctx]
  rfl

/-- The result at a context query: the softmax of its scores applied to the values. -/
theorem out_ctx (q k : Wide) (v : Half) (b : Fin 2) (h : Fin 16) (i : Fin 256) (d : Fin 128) :
    val_main_v50 (F := Ideal) q k v (ix4 b i h d) = soft (fun j => score q k h (ctx b i) (ctx b j)) (fun j => v (ix2 (ctx b j) (col h d))) := by
  have e0 : idx_main_v49 (ix4 b i h d) = ix4 b h d i := funext fun a => by
    match a with | ⟨0, _⟩ => rfl | ⟨1, _⟩ => rfl | ⟨2, _⟩ => rfl | ⟨3, _⟩ => rfl
  have e1 : ∀ j : Fin 256, lidx_main_v48 (ix4 b h d i) j = ix4 b j h d := fun j => funext fun a => by
    match a with | ⟨0, _⟩ => rfl | ⟨1, _⟩ => rfl | ⟨2, _⟩ => rfl | ⟨3, _⟩ => rfl
  have e2 : ∀ j : Fin 256, ridx_main_v48 (ix4 b h d i) j = ix4 b h i j := fun j => funext fun a => by
    match a with | ⟨0, _⟩ => rfl | ⟨1, _⟩ => rfl | ⟨2, _⟩ => rfl | ⟨3, _⟩ => rfl
  rw [val_main_v50_apply, val_main_v49_apply, e0, val_main_v48_apply]
  simp only [e1, e2, weight_ctx, v_ctx']
  rfl

/-- The reference's result at a row of the lat tokens. -/
theorem result_lat (q k : Wide) (v : Half) (b : Fin 2) (h : Fin 16) (i : Fin 4096) (d : Fin 128) :
    val_main_v52 (F := Ideal) q k v (ix2 (lat b i) (col h d)) = soft (scores q k b h (lat b i)) (lanes v b h d) := by
  have hr : val_main_v28 (F := Ideal) q k v (ix2 (⟨b.val * 4096 + i.val, by omega⟩ : Fin 8192) (col h d)) = soft (scores q k b h (lat b i)) (lanes v b h d) := by
    rw [val_main_v28_apply, ← out_lat q k v b h i d]
    refine congrArg (val_main_v27 (F := Ideal) q k v) (funext fun a => Fin.ext ?_)
    have hb := b.isLt
    have hi := i.isLt
    have hh := h.isLt
    have hd := d.isLt
    match a with
    | ⟨0, _⟩ => show ((b.val * 4096 + i.val) * 2048 + (h.val * 128 + d.val)) / 8388608 = b.val; omega
    | ⟨1, _⟩ => show ((b.val * 4096 + i.val) * 2048 + (h.val * 128 + d.val)) / 2048 % 4096 = i.val; omega
    | ⟨2, _⟩ => show ((b.val * 4096 + i.val) * 2048 + (h.val * 128 + d.val)) / 128 % 16 = h.val; omega
    | ⟨3, _⟩ => show ((b.val * 4096 + i.val) * 2048 + (h.val * 128 + d.val)) % 128 = d.val; omega
  rw [← hr]
  unfold val_main_v52
  generalize val_main_v28 (F := Ideal) q k v = y
  generalize val_main_v51 (F := Ideal) q k v = z
  pointwise
  have hb := b.isLt
  have hi := i.isLt
  rw [dif_pos (by show b.val * 4096 + i.val < 8192; omega)]

/-- The reference's result at a row of the ctx tokens. -/
theorem result_ctx (q k : Wide) (v : Half) (b : Fin 2) (h : Fin 16) (i : Fin 256) (d : Fin 128) :
    val_main_v52 (F := Ideal) q k v (ix2 (ctx b i) (col h d)) = soft (fun j => score q k h (ctx b i) (ctx b j)) (fun j => v (ix2 (ctx b j) (col h d))) := by
  have hr : val_main_v51 (F := Ideal) q k v (ix2 (⟨b.val * 256 + i.val, by omega⟩ : Fin 512) (col h d)) = soft (fun j => score q k h (ctx b i) (ctx b j)) (fun j => v (ix2 (ctx b j) (col h d))) := by
    rw [val_main_v51_apply, ← out_ctx q k v b h i d]
    refine congrArg (val_main_v50 (F := Ideal) q k v) (funext fun a => Fin.ext ?_)
    have hb := b.isLt
    have hi := i.isLt
    have hh := h.isLt
    have hd := d.isLt
    match a with
    | ⟨0, _⟩ => show ((b.val * 256 + i.val) * 2048 + (h.val * 128 + d.val)) / 524288 = b.val; omega
    | ⟨1, _⟩ => show ((b.val * 256 + i.val) * 2048 + (h.val * 128 + d.val)) / 2048 % 256 = i.val; omega
    | ⟨2, _⟩ => show ((b.val * 256 + i.val) * 2048 + (h.val * 128 + d.val)) / 128 % 16 = h.val; omega
    | ⟨3, _⟩ => show ((b.val * 256 + i.val) * 2048 + (h.val * 128 + d.val)) % 128 = d.val; omega
  rw [← hr]
  unfold val_main_v52
  generalize val_main_v28 (F := Ideal) q k v = y
  generalize val_main_v51 (F := Ideal) q k v = z
  pointwise
  have hb := b.isLt
  have hi := i.isLt
  rw [dif_neg (by show ¬ (8192 + b.val * 256 + i.val < 8192); omega)]
  have e : (ctx b i).val - 8192 = b.val * 256 + i.val := by
    simp only [ctx]
    omega
  refine congrArg z (congrArg₂ ix2 (Fin.ext ?_) rfl)
  exact e

end Cert.ReferenceIdeal.Rows

end
-- ==== Proof.AttnValue.lean ====
/- The value of the attention's call: every block the grid writes back is its block of the plain softmax's result. -/
module

public import proofs.«01_k».proof.Defs
public import proofs.«01_k».proof.Proof.Gen.KernelIdeal.Value
public import proofs.«01_k».proof.Proof.Gen.ReferenceIdeal.Run
public import proofs.«01_k».proof.Proof.AttnRef
public import Idealize.ShloMosaic.Lib.ReduceAll

@[expose] public section

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.Pipeline (Dat)
open Cert.Softmax Cert.ReferenceIdeal.Rows

variable (m : (ℓ : Loc nD τ sig) → Buf (Elt Ideal) ℓ) (ρ : Dev nD → PrngReg)

/-- The zero offsets of a whole-block access. -/
theorem hz : (![0, 0] : Fin 2 → Nat) = fun _ => 0 := funext fun a => by fin_cases a <;> rfl

/-- The row block of a point: one of a sequence's sixteen latent blocks, or its context block. -/
def rowBlock (t : Nat) : Nat := if t % 17 < 16 then t / 272 * 16 + t % 17 else 32 + t / 272

/-- The block of the queries at a point. -/
theorem idx0 : ∀ t : Fin cfg0.N, win0_0.index t 0 = rowBlock t.val ∧ win0_0.index t 1 = t.val / 17 % 16 :=
  (by decide +kernel : ∀ t : Fin grid0.N, win0_0.index t 0 = rowBlock t.val ∧ win0_0.index t 1 = t.val / 17 % 16)

/-- The block of the latent keys at a point. -/
theorem idx1 : ∀ t : Fin cfg0.N, win0_1.index t 0 = t.val / 272 ∧ win0_1.index t 1 = t.val / 17 % 16 :=
  (by decide +kernel : ∀ t : Fin grid0.N, win0_1.index t 0 = t.val / 272 ∧ win0_1.index t 1 = t.val / 17 % 16)

/-- The block of the latent values at a point. -/
theorem idx2 : ∀ t : Fin cfg0.N, win0_2.index t 0 = t.val / 272 ∧ win0_2.index t 1 = t.val / 17 % 16 :=
  (by decide +kernel : ∀ t : Fin grid0.N, win0_2.index t 0 = t.val / 272 ∧ win0_2.index t 1 = t.val / 17 % 16)

/-- The block of the context keys at a point. -/
theorem idx3 : ∀ t : Fin cfg0.N, win0_3.index t 0 = 32 + t.val / 272 ∧ win0_3.index t 1 = t.val / 17 % 16 :=
  (by decide +kernel : ∀ t : Fin grid0.N, win0_3.index t 0 = 32 + t.val / 272 ∧ win0_3.index t 1 = t.val / 17 % 16)

/-- The block of the context values at a point. -/
theorem idx4 : ∀ t : Fin cfg0.N, win0_4.index t 0 = 32 + t.val / 272 ∧ win0_4.index t 1 = t.val / 17 % 16 :=
  (by decide +kernel : ∀ t : Fin grid0.N, win0_4.index t 0 = 32 + t.val / 272 ∧ win0_4.index t 1 = t.val / 17 % 16)

/-- The block of the result at a point. -/
theorem idx5 : ∀ t : Fin cfg0.N, win0_5.index t 0 = rowBlock t.val ∧ win0_5.index t 1 = t.val / 17 % 16 :=
  (by decide +kernel : ∀ t : Fin grid0.N, win0_5.index t 0 = rowBlock t.val ∧ win0_5.index t 1 = t.val / 17 % 16)

/-- No transfer of the result is cut short. -/
theorem size5 : ∀ t : Fin cfg0.N, win0_5.xsize (grid0.coords t) 0 = 256 ∧ win0_5.xsize (grid0.coords t) 1 = 128 :=
  (by decide +kernel : ∀ t : Fin grid0.N, win0_5.xsize (grid0.coords t) 0 = 256 ∧ win0_5.xsize (grid0.coords t) 1 = 128)

/-- Every point writes its block back. -/
theorem flush5 : ∀ t : Fin cfg0.N, (cfg0.win 5).flush t = true :=
  (by decide +kernel : ∀ t : Fin grid0.N, win0_5.flush t = true)

/-- The queries, as launched. -/
abbrev Q (c : Dev nD) : Wide := m ((c : Thread nD τ).loc main_arg0)

/-- The keys, as launched. -/
abbrev K (c : Dev nD) : Wide := m ((c : Thread nD τ).loc main_arg1)

/-- The values, as launched. -/
abbrev W (c : Dev nD) : Half := m ((c : Thread nD τ).loc main_arg2)

/-- The plain attention of the three arrays. -/
def plain (q k : Wide) (v : Half) : Half := Cert.ReferenceIdeal.Read.val_main_v52 (F := Ideal) q k v

/-- What the result array ends holding: the plain attention. -/
abbrev G (c : Dev nD) : Buf (Elt Ideal) ((c : Thread nD τ).loc main_v0) := plain (Q m c) (K m c) (W m c)

/-! ### The two cases of the body -/

/-- The score of one query row against one key row, inside a block. -/
def dot {n : Nat} (q : Vec Ideal S256x256 .bf16) (k : Vec Ideal ⟨2, ![n, 256]⟩ .bf16) (r : Fin 256) (j : Fin n) : EReal :=
  ∑ d : Fin 256, (q (ix2 r d) : EReal) * k (ix2 j d)

/-- What the body leaves at a point of latent queries. -/
theorem out_A (c : Dev nD) (i : grid0.Coords) (arg3 : Memref sig .tc .vmem S256x256 .bf16) (harg3 : arg3.IsWhole) (arg4 : Memref sig .tc .vmem S4096x256 .bf16) (harg4 : arg4.IsWhole) (arg5 : Memref sig .tc .vmem S4096x128 .bf16) (harg5 : arg5.IsWhole) (arg6 : Memref sig .tc .vmem S256x256 .bf16) (harg6 : arg6.IsWhole) (arg7 : Memref sig .tc .vmem S256x128 .bf16) (harg7 : arg7.IsWhole) (arg8 : Memref sig .tc .vmem S256x128 .bf16) (harg8 : arg8.IsWhole) (hc0 : cond0_0 i) (hc1 : ¬cond0_1 i)
    (x0 : Vec Ideal S256x256 .bf16) (x1 : Vec Ideal S4096x256 .bf16) (x2 : Vec Ideal S4096x128 .bf16) (x3 : Vec Ideal S256x256 .bf16) (x4 : Vec Ideal S256x128 .bf16) :
    out0_A_5 (F := Ideal) c i arg3 harg3 arg4 harg4 arg5 harg5 arg6 harg6 arg7 harg7 arg8 harg8 hc0 hc1 x0 x1 x2 x3 x4 = k0_pay3 x0 x3 x1 x4 x2 := by
  unfold out0_A_5
  rw [View.read_writes_eq_canon _ _ _ (cover0_A_5 c i arg3 harg3 arg4 harg4 arg5 harg5 arg6 harg6 arg7 harg7 arg8 harg8 hc0 hc1 x0 x1 x2 x3 x4)]
  unfold kernelRun0_A
  dsimp only
  rw [View.canon_unit_zero hz]
  simp only [View.readAt_eq_ld, harg3.read_unread, harg4.read_unread, harg5.read_unread, harg6.read_unread, harg7.read_unread, View.ld_unit_zero (S := S256x256) hz, View.ld_unit_zero (S := S4096x256) hz, View.ld_unit_zero (S := S4096x128) hz, View.ld_unit_zero (S := S256x128) hz]

/-- What the body leaves at a point of context queries. -/
theorem out_B (c : Dev nD) (i : grid0.Coords) (arg3 : Memref sig .tc .vmem S256x256 .bf16) (harg3 : arg3.IsWhole) (arg4 : Memref sig .tc .vmem S4096x256 .bf16) (harg4 : arg4.IsWhole) (arg5 : Memref sig .tc .vmem S4096x128 .bf16) (harg5 : arg5.IsWhole) (arg6 : Memref sig .tc .vmem S256x256 .bf16) (harg6 : arg6.IsWhole) (arg7 : Memref sig .tc .vmem S256x128 .bf16) (harg7 : arg7.IsWhole) (arg8 : Memref sig .tc .vmem S256x128 .bf16) (harg8 : arg8.IsWhole) (hc0 : ¬cond0_0 i) (hc1 : cond0_1 i)
    (x0 : Vec Ideal S256x256 .bf16) (x1 : Vec Ideal S4096x256 .bf16) (x2 : Vec Ideal S4096x128 .bf16) (x3 : Vec Ideal S256x256 .bf16) (x4 : Vec Ideal S256x128 .bf16) :
    out0_B_5 (F := Ideal) c i arg3 harg3 arg4 harg4 arg5 harg5 arg6 harg6 arg7 harg7 arg8 harg8 hc0 hc1 x0 x1 x2 x3 x4 = k0_pay4 x0 x3 x4 := by
  unfold out0_B_5
  rw [View.read_writes_eq_canon _ _ _ (cover0_B_5 c i arg3 harg3 arg4 harg4 arg5 harg5 arg6 harg6 arg7 harg7 arg8 harg8 hc0 hc1 x0 x1 x2 x3 x4)]
  unfold kernelRun0_B
  dsimp only
  rw [View.canon_unit_zero hz]
  simp only [View.readAt_eq_ld, harg3.read_unread, harg4.read_unread, harg5.read_unread, harg6.read_unread, harg7.read_unread, View.ld_unit_zero (S := S256x256) hz, View.ld_unit_zero (S := S4096x256) hz, View.ld_unit_zero (S := S4096x128) hz, View.ld_unit_zero (S := S256x128) hz]

/-- The body's result at a latent query: one quotient over both parts. -/
theorem pay3_apply (q : Vec Ideal S256x256 .bf16) (kc : Vec Ideal S256x256 .bf16) (kl : Vec Ideal S4096x256 .bf16) (vc : Vec Ideal S256x128 .bf16) (vl : Vec Ideal S4096x128 .bf16)
    (r : Fin 256) (l : Fin 128) (hc : Fin' (dot q kc r)) (hl : Fin' (dot q kl r)) :
    k0_pay3 (F := Ideal) q kc kl vc vl (ix2 r l)
      = soft (row (dot q kc r) (dot q kl r)) (row (fun j => vc (ix2 j l)) (fun j => vl (ix2 j l))) := by
  rw [← soft_two _ _ _ _ hc hl]
  unfold dot
  simp only [← fold_top]
  pointwise [k0_pay3, k0_pay2, k0_pay1]

/-- The body's result at a context query. -/
theorem pay4_apply (q : Vec Ideal S256x256 .bf16) (kc : Vec Ideal S256x256 .bf16) (vc : Vec Ideal S256x128 .bf16)
    (r : Fin 256) (l : Fin 128) (hc : Fin' (dot q kc r)) :
    k0_pay4 (F := Ideal) q kc vc (ix2 r l) = soft (dot q kc r) (fun j => vc (ix2 j l)) := by
  rw [← soft_eq _ _ hc (by norm_num)]
  unfold dot
  simp only [← fold_top]
  pointwise [k0_pay4, k0_pay2, k0_pay1]

/-! ### The blocks, by their rows and columns in the whole arrays -/

/-- The block of the queries at a point. -/
theorem blk0 (c : Dev nD) (t : Fin cfg0.N) (r : Fin 256) (l : Fin 256) (R : Fin 8704) (L : Fin 4096)
    (hR : R.val = (rowBlock t.val) * 256 + r.val) (hL : L.val = t.val / 17 % 16 * 256 + l.val) :
    (iblk m c 0 t : Vec Ideal S256x256 .bf16) (ix2 r l) = Q m c (ix2 R L) := by
  obtain ⟨a0, a1⟩ := idx0 t
  unfold iblk
  rw [View.read_apply]
  show Q m c _ = _
  congr 1
  funext a
  apply Fin.ext
  match a with
  | ⟨0, _⟩ => show win0_0.index t 0 * 256 + 1 * r.val = R.val; rw [a0, hR]; omega
  | ⟨1, _⟩ => show win0_0.index t 1 * 256 + 1 * l.val = L.val; rw [a1, hL]; omega

/-- The block of the latent keys at a point. -/
theorem blk1 (c : Dev nD) (t : Fin cfg0.N) (r : Fin 4096) (l : Fin 256) (R : Fin 8704) (L : Fin 4096)
    (hR : R.val = (t.val / 272) * 4096 + r.val) (hL : L.val = t.val / 17 % 16 * 256 + l.val) :
    (X0_1 m c t : Vec Ideal S4096x256 .bf16) (ix2 r l) = K m c (ix2 R L) := by
  obtain ⟨a0, a1⟩ := idx1 t
  unfold X0_1 Pipeline.Window.fill
  refine (dif_pos (moved0_1 t (ix2 r l))).trans ?_
  unfold iblk
  rw [View.read_apply]
  show K m c _ = _
  congr 1
  funext a
  apply Fin.ext
  match a with
  | ⟨0, _⟩ => show win0_1.index t 0 * 4096 + 1 * r.val = R.val; rw [a0, hR]; omega
  | ⟨1, _⟩ => show win0_1.index t 1 * 256 + 1 * l.val = L.val; rw [a1, hL]; omega

/-- The block of the latent values at a point. -/
theorem blk2 (c : Dev nD) (t : Fin cfg0.N) (r : Fin 4096) (l : Fin 128) (R : Fin 8704) (L : Fin 2048)
    (hR : R.val = (t.val / 272) * 4096 + r.val) (hL : L.val = t.val / 17 % 16 * 128 + l.val) :
    (X0_2 m c t : Vec Ideal S4096x128 .bf16) (ix2 r l) = W m c (ix2 R L) := by
  obtain ⟨a0, a1⟩ := idx2 t
  unfold X0_2 Pipeline.Window.fill
  refine (dif_pos (moved0_2 t (ix2 r l))).trans ?_
  unfold iblk
  rw [View.read_apply]
  show W m c _ = _
  congr 1
  funext a
  apply Fin.ext
  match a with
  | ⟨0, _⟩ => show win0_2.index t 0 * 4096 + 1 * r.val = R.val; rw [a0, hR]; omega
  | ⟨1, _⟩ => show win0_2.index t 1 * 128 + 1 * l.val = L.val; rw [a1, hL]; omega

/-- The block of the context keys at a point. -/
theorem blk3 (c : Dev nD) (t : Fin cfg0.N) (r : Fin 256) (l : Fin 256) (R : Fin 8704) (L : Fin 4096)
    (hR : R.val = (32 + t.val / 272) * 256 + r.val) (hL : L.val = t.val / 17 % 16 * 256 + l.val) :
    (iblk m c 3 t : Vec Ideal S256x256 .bf16) (ix2 r l) = K m c (ix2 R L) := by
  obtain ⟨a0, a1⟩ := idx3 t
  unfold iblk
  rw [View.read_apply]
  show K m c _ = _
  congr 1
  funext a
  apply Fin.ext
  match a with
  | ⟨0, _⟩ => show win0_3.index t 0 * 256 + 1 * r.val = R.val; rw [a0, hR]; omega
  | ⟨1, _⟩ => show win0_3.index t 1 * 256 + 1 * l.val = L.val; rw [a1, hL]; omega

/-- The block of the context values at a point. -/
theorem blk4 (c : Dev nD) (t : Fin cfg0.N) (r : Fin 256) (l : Fin 128) (R : Fin 8704) (L : Fin 2048)
    (hR : R.val = (32 + t.val / 272) * 256 + r.val) (hL : L.val = t.val / 17 % 16 * 128 + l.val) :
    (iblk m c 4 t : Vec Ideal S256x128 .bf16) (ix2 r l) = W m c (ix2 R L) := by
  obtain ⟨a0, a1⟩ := idx4 t
  unfold iblk
  rw [View.read_apply]
  show W m c _ = _
  congr 1
  funext a
  apply Fin.ext
  match a with
  | ⟨0, _⟩ => show win0_4.index t 0 * 256 + 1 * r.val = R.val; rw [a0, hR]; omega
  | ⟨1, _⟩ => show win0_4.index t 1 * 128 + 1 * l.val = L.val; rw [a1, hL]; omega

/-! ### What a point writes back -/

/-- Neither array holds an infinity. -/
def Finite (q k : Wide) : Prop := (∀ i, ∃ r : ℝ, q i = (r : EReal)) ∧ ∀ i, ∃ r : ℝ, k i = (r : EReal)

/-- The scores of finite queries and keys are finite. -/
theorem finite_score (q k : Wide) (hf : Finite q k) (h : Fin 16) (R K : Fin 8704) : ∃ r : ℝ, score q k h R K = (r : EReal) :=
  finite_dot _ _ (fun _ => hf.1 _) (fun _ => hf.2 _)

/-- What a point writes back is its block of the plain attention. -/
theorem flushed_eq (c : Dev nD) (hf : Finite (Q m c) (K m c)) (t : Fin cfg0.N) (_ : (cfg0.win 5).flush t = true) :
    (dats m 0 c).flushed 5 t = ((cfg0.win 5).blk t).view.read (Elt Ideal) (G m c) := by
  obtain ⟨d0, d1⟩ := idx5 t
  have hN : cfg0.N = 544 := N_0
  have ht : t.val < 544 := hN ▸ t.isLt
  have hb : t.val / 272 < 2 := by omega
  have hh : t.val / 17 % 16 < 16 := by omega
  funext j
  obtain ⟨r, l, rfl⟩ : ∃ (r : Fin 256) (l : Fin 128), j = ix2 r l := ⟨j 0, j 1, eq_ix2 j⟩
  have hr := r.isLt
  have hl := l.isLt
  have hctx : ∀ j : Fin 256, dot (iblk m c 0 t) (iblk m c 3 t) r j
      = score (Q m c) (K m c) ⟨t.val / 17 % 16, hh⟩ ⟨rowBlock t.val * 256 + r.val, by unfold rowBlock; split <;> omega⟩ (ctx ⟨t.val / 272, hb⟩ j) := fun j =>
    Finset.sum_congr rfl fun d _ => congrArg₂ (fun x y : EReal => x * y)
      (blk0 m c t r d _ _ rfl rfl)
      (blk3 m c t j d _ _ (by show 8192 + t.val / 272 * 256 + j.val = (32 + t.val / 272) * 256 + j.val; omega) rfl)
  have hlat : ∀ j : Fin 4096, dot (iblk m c 0 t) (X0_1 m c t) r j
      = score (Q m c) (K m c) ⟨t.val / 17 % 16, hh⟩ ⟨rowBlock t.val * 256 + r.val, by unfold rowBlock; split <;> omega⟩ (lat ⟨t.val / 272, hb⟩ j) := fun j =>
    Finset.sum_congr rfl fun d _ => congrArg₂ (fun x y : EReal => x * y)
      (blk0 m c t r d _ _ rfl rfl)
      (blk1 m c t j d _ _ rfl rfl)
  have he : ((cfg0.win 5).blk t).view.emb (ix2 r l)
      = ix2 (⟨rowBlock t.val * 256 + r.val, by unfold rowBlock; split <;> omega⟩ : Fin 8704) (col ⟨t.val / 17 % 16, hh⟩ l) := by
    funext a
    apply Fin.ext
    match a with
    | ⟨0, _⟩ => show win0_5.index t 0 * 256 + 1 * r.val = rowBlock t.val * 256 + r.val; rw [d0]; omega
    | ⟨1, _⟩ => show win0_5.index t 1 * 128 + 1 * l.val = t.val / 17 % 16 * 128 + l.val; rw [d1]; omega
  have hvc : ∀ j : Fin 256, (iblk m c 4 t : Vec Ideal S256x128 .bf16) (ix2 j l) = W m c (ix2 (ctx ⟨t.val / 272, hb⟩ j) (col ⟨t.val / 17 % 16, hh⟩ l)) := fun j =>
    blk4 m c t j l _ _ (by show 8192 + t.val / 272 * 256 + j.val = (32 + t.val / 272) * 256 + j.val; omega) rfl
  have hvl : ∀ j : Fin 4096, (X0_2 m c t : Vec Ideal S4096x128 .bf16) (ix2 j l) = W m c (ix2 (lat ⟨t.val / 272, hb⟩ j) (col ⟨t.val / 17 % 16, hh⟩ l)) := fun j =>
    blk2 m c t j l _ _ rfl rfl
  rw [View.read_apply, he]
  show (dats m 0 c).flushed 5 t (ix2 r l) = plain (Q m c) (K m c) (W m c) _
  unfold plain
  have fc : Fin' (dot (iblk m c 0 t) (iblk m c 3 t) r) := fun j => by rw [hctx]; exact finite_score _ _ hf _ _ _
  have fl : Fin' (dot (iblk m c 0 t) (X0_1 m c t) r) := fun j => by rw [hlat]; exact finite_score _ _ hf _ _ _
  by_cases hA : t.val % 17 ≤ 15
  · have hB : ¬ t.val % 17 = 16 := by omega
    have hR : (⟨rowBlock t.val * 256 + r.val, by unfold rowBlock; split <;> omega⟩ : Fin 8704)
        = lat ⟨t.val / 272, hb⟩ ⟨t.val % 17 * 256 + r.val, by omega⟩ := Fin.ext (by
      show rowBlock t.val * 256 + r.val = t.val / 272 * 4096 + (t.val % 17 * 256 + r.val)
      unfold rowBlock; rw [if_pos (by omega)]; omega)
    rw [hR, result_lat, Value.flushed5_A m c t hA hB, out_A]
    refine (pay3_apply _ _ _ _ _ r l fc fl).trans ?_
    rw [funext hctx, funext hlat, funext hvc, funext hvl, hR]
    rfl
  · have hB : t.val % 17 = 16 := by omega
    have hR : (⟨rowBlock t.val * 256 + r.val, by unfold rowBlock; split <;> omega⟩ : Fin 8704)
        = ctx ⟨t.val / 272, hb⟩ r := Fin.ext (by
      show rowBlock t.val * 256 + r.val = 8192 + t.val / 272 * 256 + r.val
      unfold rowBlock; rw [if_neg (by omega)]; omega)
    rw [hR, result_ctx, Value.flushed5_B m c t hA hB, out_B]
    refine (pay4_apply _ _ _ r l fc).trans ?_
    rw [funext hctx, funext hvc, hR]

/-- Every index of the result lies in the block of some point. -/
theorem cover (i : S8704x2048.Idx) : ∃ t : Fin cfg0.N, (cfg0.win 5).flush t = true ∧ i ∈ ((cfg0.win 5).blk t).view.set := by
  have h0 : (i 0 : Nat) < 8704 := (i 0).isLt
  have h1 : (i 1 : Nat) < 2048 := (i 1).isLt
  have hN : cfg0.N = 544 := N_0
  have key : ∀ t : Fin cfg0.N, rowBlock t.val = (i 0 : Nat) / 256 → t.val / 17 % 16 = (i 1 : Nat) / 128 →
      i ∈ ((cfg0.win 5).blk t).view.set := fun t e0 e1 => by
    obtain ⟨d0, d1⟩ := idx5 t
    obtain ⟨s0, s1⟩ := size5 t
    show i ∈ ((View.whole main_v0).slice (win0_5.rect t)).set
    rw [View.set_slice_whole, Rect.mem_set_unit]
    intro a
    match a with
    | ⟨0, _⟩ => show win0_5.index t 0 * 256 ≤ (i 0 : Nat) ∧ (i 0 : Nat) < win0_5.index t 0 * 256 + win0_5.xsize (grid0.coords t) 0
                rw [d0, s0, e0]; omega
    | ⟨1, _⟩ => show win0_5.index t 1 * 128 ≤ (i 1 : Nat) ∧ (i 1 : Nat) < win0_5.index t 1 * 128 + win0_5.xsize (grid0.coords t) 1
                rw [d1, s1, e1]; omega
  by_cases hl : (i 0 : Nat) < 8192
  · refine ⟨⟨(i 0 : Nat) / 4096 * 272 + (i 1 : Nat) / 128 * 17 + (i 0 : Nat) / 256 % 16, by omega⟩, flush5 _, key _ ?_ ?_⟩
    · show rowBlock ((i 0 : Nat) / 4096 * 272 + (i 1 : Nat) / 128 * 17 + (i 0 : Nat) / 256 % 16) = _
      unfold rowBlock; rw [if_pos (by omega)]; omega
    · show ((i 0 : Nat) / 4096 * 272 + (i 1 : Nat) / 128 * 17 + (i 0 : Nat) / 256 % 16) / 17 % 16 = _
      omega
  · refine ⟨⟨((i 0 : Nat) / 256 - 32) * 272 + (i 1 : Nat) / 128 * 17 + 16, by omega⟩, flush5 _, key _ ?_ ?_⟩
    · show rowBlock (((i 0 : Nat) / 256 - 32) * 272 + (i 1 : Nat) / 128 * 17 + 16) = _
      unfold rowBlock; rw [if_neg (by omega)]; omega
    · show (((i 0 : Nat) / 256 - 32) * 272 + (i 1 : Nat) / 128 * 17 + 16) / 17 % 16 = _
      omega

/-- The result array ends holding the plain attention. -/
theorem final (c : Dev nD) (hf : Finite (Q m c) (K m c)) : (dats m 0 c).arrAt 5 cfg0.N = G m c :=
  (dats m 0 c).arrAt_eq_of_cover 5 (G m c) (flushed_eq m c hf) cover

end Cert.KernelIdeal.Blocks

namespace Cert.Proof

open Idealize.ShloMosaic Idealize.ShloMosaic.TcCoe Idealize.SL.Sem

/-- The side conditions of the predicate's operations. -/
theorem pre_facts : Cert.Pre_finite.Facts where
  bcast_S_S8704x4096 := by decide
  reducesTo_S8704x4096_S_d0_1 := by decide
  h_S_ := by decide

/-- A magnitude below plus infinity belongs to a real. -/
theorem real_of_abs (x : EReal) (h : Ideal.cmp .olt (max x (-x)) (Ideal.ofBits .bf16 0x7F80#16) = 1#1) : ∃ r : ℝ, x = (r : EReal) := by
  have hlt : max x (-x) < Ideal.ofBits .bf16 0x7F80#16 := by
    unfold Ideal.cmp at h
    by_contra hn
    simp [hn] at h
  induction x using EReal.rec with
  | bot => exact absurd (lt_of_le_of_lt (le_max_right _ _) hlt) (by simp)
  | coe r => exact ⟨r, rfl⟩
  | top => exact absurd (lt_of_le_of_lt (le_max_left _ _) hlt) (by simp)

/-- Under the precondition no query and no key is infinite. -/
theorem finite_of_pre (m : (ℓ : Loc Cert.KernelIdeal.nD Cert.KernelIdeal.τ Cert.KernelIdeal.sig) → Buf (Elt Ideal) ℓ)
    (h : Cert.Pre_KernelIdeal_finite (hPre_finite := pre_facts) m) (c : Dev Cert.KernelIdeal.nD) :
    Cert.KernelIdeal.Blocks.Finite (Cert.KernelIdeal.Blocks.Q m c) (Cert.KernelIdeal.Blocks.K m c) := by
  have hj := congrFun (h c) (Shape.Idx.first pre_facts.h_S_)
  have : Subsingleton Cert.Pre_finite.S_.Idx := ⟨fun a b => funext fun x => x.elim0⟩
  unfold Cert.Pre_finite.fn at hj
  dsimp only at hj
  obtain ⟨ha, hb⟩ := IntOp.andi_eq_one.1 hj
  exact ⟨fun i => real_of_abs _ (Host.reduce_andi_all _ _ _ _ _ ha i), fun i => real_of_abs _ (Host.reduce_andi_all _ _ _ _ _ hb i)⟩

/-- The attention's call computes, on the extended reals and for finite queries and keys, the plain attention. -/
theorem attention_algebraic : Cert.algebraic_KernelIdeal_ReferenceIdeal_pre_finite
    (hKernelIdeal := Cert.KernelIdeal.Gen.facts) (hReferenceIdeal := Cert.ReferenceIdeal.Gen.facts) (hPre_finite := pre_facts) := by
  intro m g m' g' hpre hargs
  refine ⟨fun c => Cert.KernelIdeal.Blocks.G m c, ?_, ?_⟩
  · refine (θ_run _ _ _).mono (fun r h c => ?_) (Cert.KernelIdeal.Value.run_blocks m g)
    obtain ⟨h0, h1, h2, h3⟩ := h c
    exact ⟨h0.trans (Cert.KernelIdeal.Blocks.final m c (finite_of_pre m hpre c)), h1, h2, h3⟩
  · refine (θ_run _ _ _).mono (fun r h c => ?_) (Cert.ReferenceIdeal.Value.run m' g')
    obtain ⟨h0, h1, h2, h3⟩ := h c
    refine ⟨h0.trans ?_, h1, h2, h3⟩
    obtain ⟨e0, e1, e2⟩ := hargs c
    rw [Cert.ReferenceIdeal.Read.val_main_v52_eq, e0, e1, e2]
    rfl

end Cert.Proof

end
-- ==== Proof.InProjValue.lean ====
/- The value of the input projection's call: its blocked product is the one product of the whole arrays. -/
module

public import proofs.«01_k».proof.Defs
public import proofs.«01_k».proof.Proof.Gen.InProjIdeal.Value
public import proofs.«01_k».proof.Proof.Gen.InProjReferenceIdeal.Run
public import proofs.«01_k».proof.Proof.Gen.InProjReferenceIdeal.Read
public import Idealize.ShloMosaic.Lib.Pointwise

@[expose] public section

set_option maxRecDepth 16384

noncomputable section

namespace Cert.InProjIdeal.Blocks

open Cert.InProjIdeal Cert.InProjIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The zero offsets of a whole-block access. -/
theorem hz : (![0, 0] : Fin 2 → Nat) = fun _ => 0 := funext fun a => by fin_cases a <;> rfl

/-- The row block of the input tokens at a point: the point's first coordinate. -/
theorem idx0 : ∀ t : Fin cfg0.N, win0_0.index t 0 = t.val / 10 ∧ win0_0.index t 1 = 0 :=
  (by decide +kernel : ∀ t : Fin grid0.N, win0_0.index t 0 = t.val / 10 ∧ win0_0.index t 1 = 0)

/-- The column block of the weight at a point: the point's second coordinate. -/
theorem idx1 : ∀ t : Fin cfg0.N, win0_1.index t 0 = 0 ∧ win0_1.index t 1 = t.val % 10 :=
  (by decide +kernel : ∀ t : Fin grid0.N, win0_1.index t 0 = 0 ∧ win0_1.index t 1 = t.val % 10)

/-- The block of the result at a point: both coordinates. -/
theorem idx2 : ∀ t : Fin cfg0.N, win0_2.index t 0 = t.val / 10 ∧ win0_2.index t 1 = t.val % 10 :=
  (by decide +kernel : ∀ t : Fin grid0.N, win0_2.index t 0 = t.val / 10 ∧ win0_2.index t 1 = t.val % 10)

/-- No transfer of the result is cut short. -/
theorem size2 : ∀ t : Fin cfg0.N, win0_2.xsize (grid0.coords t) 0 = 1088 ∧ win0_2.xsize (grid0.coords t) 1 = 512 :=
  (by decide +kernel : ∀ t : Fin grid0.N, win0_2.xsize (grid0.coords t) 0 = 1088 ∧ win0_2.xsize (grid0.coords t) 1 = 512)

/-- Every point writes its block back. -/
theorem flush2 : ∀ t : Fin cfg0.N, (cfg0.win 2).flush t = true :=
  (by decide +kernel : ∀ t : Fin grid0.N, win0_2.flush t = true)

/-- The block the body leaves, at a row and a column: the sum of the products along the shared axis. -/
theorem out_apply (x : Vec Ideal S1088x4096 .bf16) (w : Vec Ideal S4096x512 .bf16) (r : Fin 1088) (l : Fin 512) :
    out0_2 x w (ix2 r l) = ∑ k : Fin 4096, x (ix2 r k) * w (ix2 k l) := by
  unfold out0_2
  rw [View.canon_unit_zero hz, View.ld_unit_zero (S := S1088x4096) hz, View.ld_unit_zero (S := S4096x512) hz]
  pointwise [k0_pay1]

/-- The tokens, as launched. -/
abbrev X (c : Dev nD) : Vec Ideal S8704x4096 .bf16 := m ((c : Thread nD τ).loc main_arg0)

/-- The weight, as launched. -/
abbrev W (c : Dev nD) : Vec Ideal S4096x5120 .bf16 := m ((c : Thread nD τ).loc main_arg1)

/-- The whole product. -/
def prod (x : Vec Ideal S8704x4096 .bf16) (w : Vec Ideal S4096x5120 .bf16) : Vec Ideal S8704x5120 .f32 :=
  Cert.InProjReferenceIdeal.Read.val_main_v0 (F := Ideal) x w

/-- What the result array ends holding: the whole product. -/
abbrev G (c : Dev nD) : Buf (Elt Ideal) ((c : Thread nD τ).loc main_v0) := prod (X m c) (W m c)

/-- The whole product at a row and a column. -/
theorem prod_apply (x : Vec Ideal S8704x4096 .bf16) (w : Vec Ideal S4096x5120 .bf16) (R : Fin 8704) (L : Fin 5120) :
    prod x w (ix2 R L) = ∑ k : Fin 4096, x (ix2 R k) * w (ix2 k L) := by
  unfold prod
  pointwise [Cert.InProjReferenceIdeal.Read.val_main_v0]

/-- The block of tokens at a point, by its rows in the whole array. -/
theorem blk0 (c : Dev nD) (t : Fin cfg0.N) (r : Fin 1088) (k : Fin 4096) (R : Fin 8704) (hR : R.val = t.val / 10 * 1088 + r.val) :
    (iblk m c 0 t : Vec Ideal S1088x4096 .bf16) (ix2 r k) = X m c (ix2 R k) := by
  obtain ⟨a0, a1⟩ := idx0 t
  unfold iblk
  rw [View.read_apply]
  show X m c _ = _
  congr 1
  funext a
  apply Fin.ext
  match a with
  | ⟨0, _⟩ => show win0_0.index t 0 * 1088 + 1 * r.val = R.val; rw [a0]; omega
  | ⟨1, _⟩ => show win0_0.index t 1 * 4096 + 1 * k.val = k.val; rw [a1]; omega

/-- The block of the weight at a point, by its columns in the whole array. -/
theorem blk1 (c : Dev nD) (t : Fin cfg0.N) (k : Fin 4096) (l : Fin 512) (L : Fin 5120) (hL : L.val = t.val % 10 * 512 + l.val) :
    (iblk m c 1 t : Vec Ideal S4096x512 .bf16) (ix2 k l) = W m c (ix2 k L) := by
  obtain ⟨b0, b1⟩ := idx1 t
  unfold iblk
  rw [View.read_apply]
  show W m c _ = _
  congr 1
  funext a
  apply Fin.ext
  match a with
  | ⟨0, _⟩ => show win0_1.index t 0 * 4096 + 1 * k.val = k.val; rw [b0]; omega
  | ⟨1, _⟩ => show win0_1.index t 1 * 512 + 1 * l.val = L.val; rw [b1]; omega

/-- What a point writes back is its block of the whole product. -/
theorem flushed_eq (c : Dev nD) (t : Fin cfg0.N) (_ : (cfg0.win 2).flush t = true) :
    (dats m 0 c).flushed 2 t = ((cfg0.win 2).blk t).view.read (Elt Ideal) (G m c) := by
  rw [Value.flushed2]
  obtain ⟨d0, d1⟩ := idx2 t
  have hN : cfg0.N = 80 := N_0
  have ht := t.isLt
  funext j
  obtain ⟨r, l, rfl⟩ : ∃ (r : Fin 1088) (l : Fin 512), j = ix2 r l := ⟨j 0, j 1, eq_ix2 j⟩
  have hr := r.isLt
  have hl := l.isLt
  have he : ((cfg0.win 2).blk t).view.emb (ix2 r l) = ix2 (⟨t.val / 10 * 1088 + r.val, by omega⟩ : Fin 8704) (⟨t.val % 10 * 512 + l.val, by omega⟩ : Fin 5120) := by
    funext a
    apply Fin.ext
    match a with
    | ⟨0, _⟩ => show win0_2.index t 0 * 1088 + 1 * r.val = t.val / 10 * 1088 + r.val; rw [d0]; omega
    | ⟨1, _⟩ => show win0_2.index t 1 * 512 + 1 * l.val = t.val % 10 * 512 + l.val; rw [d1]; omega
  rw [View.read_apply, he]
  show out0_2 (iblk m c 0 t) (iblk m c 1 t) (ix2 r l) = prod (X m c) (W m c) _
  rw [out_apply, prod_apply]
  exact Finset.sum_congr rfl fun k _ => congrArg₂ (· * ·) (blk0 m c t r k _ rfl) (blk1 m c t k l _ rfl)

/-- Every index of the result lies in the block of some point. -/
theorem cover (i : S8704x5120.Idx) : ∃ t : Fin cfg0.N, (cfg0.win 2).flush t = true ∧ i ∈ ((cfg0.win 2).blk t).view.set := by
  have h0 : (i 0 : Nat) < 8704 := (i 0).isLt
  have h1 : (i 1 : Nat) < 5120 := (i 1).isLt
  have hN : cfg0.N = 80 := N_0
  refine ⟨⟨(i 0 : Nat) / 1088 * 10 + (i 1 : Nat) / 512, by omega⟩, flush2 _, ?_⟩
  generalize ht : (⟨(i 0 : Nat) / 1088 * 10 + (i 1 : Nat) / 512, by omega⟩ : Fin cfg0.N) = t
  have hv : t.val = (i 0 : Nat) / 1088 * 10 + (i 1 : Nat) / 512 := by rw [← ht]
  obtain ⟨d0, d1⟩ := idx2 t
  obtain ⟨s0, s1⟩ := size2 t
  show i ∈ ((View.whole main_v0).slice (win0_2.rect t)).set
  rw [View.set_slice_whole, Rect.mem_set_unit]
  intro a
  match a with
  | ⟨0, _⟩ => show win0_2.index t 0 * 1088 ≤ (i 0 : Nat) ∧ (i 0 : Nat) < win0_2.index t 0 * 1088 + win0_2.xsize (grid0.coords t) 0
              rw [d0, s0]; omega
  | ⟨1, _⟩ => show win0_2.index t 1 * 512 ≤ (i 1 : Nat) ∧ (i 1 : Nat) < win0_2.index t 1 * 512 + win0_2.xsize (grid0.coords t) 1
              rw [d1, s1]; omega

/-- The result array ends holding the whole product. -/
theorem final (c : Dev nD) : (dats m 0 c).arrAt 2 cfg0.N = G m c :=
  (dats m 0 c).arrAt_eq_of_cover 2 (G m c) (flushed_eq m c) cover

end Cert.InProjIdeal.Blocks

namespace Cert.Proof

open Idealize.ShloMosaic Idealize.ShloMosaic.TcCoe Idealize.SL.Sem

/-- The input projection's call computes, on the extended reals, the product of the tokens and the weight. -/
theorem inProj_algebraic : Cert.algebraic_InProjIdeal_InProjReferenceIdeal
    (hInProjIdeal := Cert.InProjIdeal.Gen.facts) (hInProjReferenceIdeal := Cert.InProjReferenceIdeal.Gen.facts) := by
  intro m g m' g' _ hargs
  refine ⟨fun c => Cert.InProjIdeal.Blocks.G m c, ?_, ?_⟩
  · refine (θ_run _ _ _).mono (fun r h c => ?_) (Cert.InProjIdeal.Value.run_blocks m g)
    obtain ⟨h0, h1, h2⟩ := h c
    exact ⟨h0.trans (Cert.InProjIdeal.Blocks.final m c), h1, h2⟩
  · refine (θ_run _ _ _).mono (fun r h c => ?_) (Cert.InProjReferenceIdeal.Value.run m' g')
    obtain ⟨h0, h1, h2⟩ := h c
    refine ⟨h0.trans ?_, h1, h2⟩
    obtain ⟨e0, e1⟩ := hargs c
    rw [e0, e1]
    rfl

end Cert.Proof

end
-- ==== Proof.OutProjValue.lean ====
/- The value of the output projection's call: the three products of the three inputs by their rows of the weight,
added, are the one product of the inputs side by side by the whole weight. -/
module

public import proofs.«01_k».proof.Defs
public import proofs.«01_k».proof.Proof.Gen.OutProjIdeal.Value
public import proofs.«01_k».proof.Proof.Gen.OutProjReferenceIdeal.Run
public import proofs.«01_k».proof.Proof.Gen.OutProjReferenceIdeal.Read
public import Idealize.ShloMosaic.Lib.Pointwise

@[expose] public section

set_option maxRecDepth 16384

noncomputable section

namespace Cert.OutProjIdeal.Blocks

open Cert.OutProjIdeal Cert.OutProjIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The zero offsets of a whole-block access. -/
theorem hz : (![0, 0] : Fin 2 → Nat) = fun _ => 0 := funext fun a => by fin_cases a <;> rfl

/-- The row block of the attention's result at a point. -/
theorem idx0 : ∀ t : Fin cfg0.N, win0_0.index t 0 = t.val / 8 ∧ win0_0.index t 1 = 0 :=
  (by decide +kernel : ∀ t : Fin grid0.N, win0_0.index t 0 = t.val / 8 ∧ win0_0.index t 1 = 0)

/-- The row block of the second input at a point. -/
theorem idx1 : ∀ t : Fin cfg0.N, win0_1.index t 0 = t.val / 8 ∧ win0_1.index t 1 = 0 :=
  (by decide +kernel : ∀ t : Fin grid0.N, win0_1.index t 0 = t.val / 8 ∧ win0_1.index t 1 = 0)

/-- The row block of the third input at a point. -/
theorem idx2 : ∀ t : Fin cfg0.N, win0_2.index t 0 = t.val / 8 ∧ win0_2.index t 1 = 0 :=
  (by decide +kernel : ∀ t : Fin grid0.N, win0_2.index t 0 = t.val / 8 ∧ win0_2.index t 1 = 0)

/-- The first 2048 rows of the weight, at the point's columns. -/
theorem idx3 : ∀ t : Fin cfg0.N, win0_3.index t 0 = 0 ∧ win0_3.index t 1 = t.val % 8 :=
  (by decide +kernel : ∀ t : Fin grid0.N, win0_3.index t 0 = 0 ∧ win0_3.index t 1 = t.val % 8)

/-- The weight's rows from 2048, at the point's columns. -/
theorem idx4 : ∀ t : Fin cfg0.N, win0_4.index t 0 = 2 ∧ win0_4.index t 1 = t.val % 8 :=
  (by decide +kernel : ∀ t : Fin grid0.N, win0_4.index t 0 = 2 ∧ win0_4.index t 1 = t.val % 8)

/-- The weight's rows from 3072, at the point's columns. -/
theorem idx5 : ∀ t : Fin cfg0.N, win0_5.index t 0 = 3 ∧ win0_5.index t 1 = t.val % 8 :=
  (by decide +kernel : ∀ t : Fin grid0.N, win0_5.index t 0 = 3 ∧ win0_5.index t 1 = t.val % 8)

/-- The block of the result at a point. -/
theorem idx6 : ∀ t : Fin cfg0.N, win0_6.index t 0 = t.val / 8 ∧ win0_6.index t 1 = t.val % 8 :=
  (by decide +kernel : ∀ t : Fin grid0.N, win0_6.index t 0 = t.val / 8 ∧ win0_6.index t 1 = t.val % 8)

/-- No transfer of the result is cut short. -/
theorem size6 : ∀ t : Fin cfg0.N, win0_6.xsize (grid0.coords t) 0 = 1088 ∧ win0_6.xsize (grid0.coords t) 1 = 512 :=
  (by decide +kernel : ∀ t : Fin grid0.N, win0_6.xsize (grid0.coords t) 0 = 1088 ∧ win0_6.xsize (grid0.coords t) 1 = 512)

/-- Every point writes its block back. -/
theorem flush6 : ∀ t : Fin cfg0.N, (cfg0.win 6).flush t = true :=
  (by decide +kernel : ∀ t : Fin grid0.N, win0_6.flush t = true)

/-- The block the body leaves, at a row and a column: the three sums of products. -/
theorem out_apply (x : Vec Ideal S1088x2048 .bf16) (y z : Vec Ideal S1088x1024 .bf16) (u : Vec Ideal S2048x512 .bf16)
    (v w : Vec Ideal S1024x512 .bf16) (r : Fin 1088) (l : Fin 512) :
    out0_6 x y z u v w (ix2 r l) = ∑ k : Fin 2048, x (ix2 r k) * u (ix2 k l) + ∑ k : Fin 1024, y (ix2 r k) * v (ix2 k l)
      + ∑ k : Fin 1024, z (ix2 r k) * w (ix2 k l) := by
  unfold out0_6
  rw [View.canon_unit_zero hz, View.ld_unit_zero (S := S1088x2048) hz, View.ld_unit_zero (S := S1088x1024) hz,
    View.ld_unit_zero (S := S1088x1024) hz, View.ld_unit_zero (S := S2048x512) hz, View.ld_unit_zero (S := S1024x512) hz,
    View.ld_unit_zero (S := S1024x512) hz]
  pointwise [k0_pay1]

/-- The attention's result, as launched. -/
abbrev X (c : Dev nD) : Vec Ideal S8704x2048 .bf16 := m ((c : Thread nD τ).loc main_arg0)

/-- The second input, as launched. -/
abbrev Y (c : Dev nD) : Vec Ideal S8704x1024 .bf16 := m ((c : Thread nD τ).loc main_arg1)

/-- The third input, as launched. -/
abbrev Z (c : Dev nD) : Vec Ideal S8704x1024 .bf16 := m ((c : Thread nD τ).loc main_arg2)

/-- The weight, as launched. -/
abbrev W (c : Dev nD) : Vec Ideal S4096x4096 .f32 := m ((c : Thread nD τ).loc main_arg3)

/-- The whole product. -/
def prod (x : Vec Ideal S8704x2048 .bf16) (y z : Vec Ideal S8704x1024 .bf16) (w : Vec Ideal S4096x4096 .f32) : Vec Ideal S8704x4096 .f32 :=
  Cert.OutProjReferenceIdeal.Read.val_main_v2 (F := Ideal) x y z w

/-- What the result array ends holding: the whole product. -/
abbrev G (c : Dev nD) : Buf (Elt Ideal) ((c : Thread nD τ).loc main_v1) := prod (X m c) (Y m c) (Z m c) (W m c)

/-- A sum over 4096 positions, cut at 2048 and at 3072. -/
theorem sum_cut (f : Fin 4096 → EReal) : ∑ k, f k = ∑ k : Fin 2048, f ⟨k.val, by omega⟩
    + ∑ k : Fin 1024, f ⟨2048 + k.val, by omega⟩ + ∑ k : Fin 1024, f ⟨3072 + k.val, by omega⟩ := by
  have h1 := Fin.sum_univ_add (a := 2048) (b := 2048) f
  have h2 := Fin.sum_univ_add (a := 1024) (b := 1024) fun k => f (Fin.natAdd 2048 k)
  refine h1.trans ?_
  rw [h2, ← add_assoc]
  refine congrArg₂ (· + ·) rfl (Finset.sum_congr rfl fun k _ => congrArg f (Fin.ext ?_))
  show 2048 + (1024 + k.val) = 3072 + k.val
  omega

/-- The whole product at a row and a column, its shared axis cut where the three inputs meet. -/
theorem prod_apply (x : Vec Ideal S8704x2048 .bf16) (y z : Vec Ideal S8704x1024 .bf16) (w : Vec Ideal S4096x4096 .f32)
    (R : Fin 8704) (L : Fin 4096) :
    prod x y z w (ix2 R L) = ∑ k : Fin 2048, x (ix2 R k) * w (ix2 (⟨k.val, by omega⟩ : Fin 4096) L)
      + ∑ k : Fin 1024, y (ix2 R k) * w (ix2 (⟨2048 + k.val, by omega⟩ : Fin 4096) L)
      + ∑ k : Fin 1024, z (ix2 R k) * w (ix2 (⟨3072 + k.val, by omega⟩ : Fin 4096) L) := by
  unfold prod
  pointwise [Cert.OutProjReferenceIdeal.Read.val_main_v2, Cert.OutProjReferenceIdeal.Read.val_main_v1, Cert.OutProjReferenceIdeal.Read.val_main_v0]
  rw [sum_cut]
  refine congrArg₂ (· + ·) (congrArg₂ (· + ·) ?_ ?_) ?_
  · refine Finset.sum_congr rfl fun k _ => ?_
    have hk := k.isLt
    rw [dif_pos (show k.val < 2048 from hk)]
  · refine Finset.sum_congr rfl fun k _ => ?_
    have hk := k.isLt
    rw [dif_neg (show ¬2048 + k.val < 2048 by omega), dif_pos (show 2048 + k.val - 2048 < 1024 by omega)]
    simp only [Nat.add_sub_cancel_left]
  · refine Finset.sum_congr rfl fun k _ => ?_
    have hk := k.isLt
    rw [dif_neg (show ¬3072 + k.val < 2048 by omega), dif_neg (show ¬3072 + k.val - 2048 < 1024 by omega)]
    congr 3
    exact Fin.ext (by show 3072 + k.val - 2048 - 1024 = k.val; omega)

/-- The weight as the call finds it: the launched weight, its format narrowed. -/
theorem weight (c : Dev nD) : V m c main_v0 = (truncf .bf16 (show FVec Ideal S4096x4096 .f32 from W m c) bitsLt_bf16_f32 : Vec Ideal S4096x4096 .bf16) := by
  unfold V
  after_results

/-- The attention's block at a point, by its rows in the whole array. -/
theorem blk0 (c : Dev nD) (t : Fin cfg0.N) (r : Fin 1088) (k : Fin 2048) (R : Fin 8704) (hR : R.val = t.val / 8 * 1088 + r.val) :
    (iblk m c 0 t : Vec Ideal S1088x2048 .bf16) (ix2 r k) = X m c (ix2 R k) := by
  obtain ⟨a0, a1⟩ := idx0 t
  unfold iblk
  rw [View.read_apply]
  show V m c main_arg0 _ = _
  rw [V_main_arg0 m c]
  show X m c _ = _
  congr 1
  funext a
  apply Fin.ext
  match a with
  | ⟨0, _⟩ => show win0_0.index t 0 * 1088 + 1 * r.val = R.val; rw [a0]; omega
  | ⟨1, _⟩ => show win0_0.index t 1 * 2048 + 1 * k.val = k.val; rw [a1]; omega

/-- The second input's block at a point, by its rows in the whole array. -/
theorem blk1 (c : Dev nD) (t : Fin cfg0.N) (r : Fin 1088) (k : Fin 1024) (R : Fin 8704) (hR : R.val = t.val / 8 * 1088 + r.val) :
    (iblk m c 1 t : Vec Ideal S1088x1024 .bf16) (ix2 r k) = Y m c (ix2 R k) := by
  obtain ⟨a0, a1⟩ := idx1 t
  unfold iblk
  rw [View.read_apply]
  show V m c main_arg1 _ = _
  rw [V_main_arg1 m c]
  show Y m c _ = _
  congr 1
  funext a
  apply Fin.ext
  match a with
  | ⟨0, _⟩ => show win0_1.index t 0 * 1088 + 1 * r.val = R.val; rw [a0]; omega
  | ⟨1, _⟩ => show win0_1.index t 1 * 1024 + 1 * k.val = k.val; rw [a1]; omega

/-- The third input's block at a point, by its rows in the whole array. -/
theorem blk2 (c : Dev nD) (t : Fin cfg0.N) (r : Fin 1088) (k : Fin 1024) (R : Fin 8704) (hR : R.val = t.val / 8 * 1088 + r.val) :
    (iblk m c 2 t : Vec Ideal S1088x1024 .bf16) (ix2 r k) = Z m c (ix2 R k) := by
  obtain ⟨a0, a1⟩ := idx2 t
  unfold iblk
  rw [View.read_apply]
  show V m c main_arg2 _ = _
  rw [V_main_arg2 m c]
  show Z m c _ = _
  congr 1
  funext a
  apply Fin.ext
  match a with
  | ⟨0, _⟩ => show win0_2.index t 0 * 1088 + 1 * r.val = R.val; rw [a0]; omega
  | ⟨1, _⟩ => show win0_2.index t 1 * 1024 + 1 * k.val = k.val; rw [a1]; omega

/-- The weight's first block of rows at a point. -/
theorem blk3 (c : Dev nD) (t : Fin cfg0.N) (k : Fin 2048) (l : Fin 512) (K L : Fin 4096) (hK : K.val = 0 + k.val) (hL : L.val = t.val % 8 * 512 + l.val) :
    (iblk m c 3 t : Vec Ideal S2048x512 .bf16) (ix2 k l) = W m c (ix2 K L) := by
  obtain ⟨b0, b1⟩ := idx3 t
  unfold iblk
  rw [View.read_apply]
  show V m c main_v0 _ = _
  rw [weight m c]
  show W m c _ = _
  congr 1
  funext a
  apply Fin.ext
  match a with
  | ⟨0, _⟩ => show win0_3.index t 0 * 2048 + 1 * k.val = K.val; rw [b0]; omega
  | ⟨1, _⟩ => show win0_3.index t 1 * 512 + 1 * l.val = L.val; rw [b1]; omega

/-- The weight's second block of rows at a point. -/
theorem blk4 (c : Dev nD) (t : Fin cfg0.N) (k : Fin 1024) (l : Fin 512) (K L : Fin 4096) (hK : K.val = 2048 + k.val) (hL : L.val = t.val % 8 * 512 + l.val) :
    (iblk m c 4 t : Vec Ideal S1024x512 .bf16) (ix2 k l) = W m c (ix2 K L) := by
  obtain ⟨b0, b1⟩ := idx4 t
  unfold iblk
  rw [View.read_apply]
  show V m c main_v0 _ = _
  rw [weight m c]
  show W m c _ = _
  congr 1
  funext a
  apply Fin.ext
  match a with
  | ⟨0, _⟩ => show win0_4.index t 0 * 1024 + 1 * k.val = K.val; rw [b0]; omega
  | ⟨1, _⟩ => show win0_4.index t 1 * 512 + 1 * l.val = L.val; rw [b1]; omega

/-- The weight's third block of rows at a point. -/
theorem blk5 (c : Dev nD) (t : Fin cfg0.N) (k : Fin 1024) (l : Fin 512) (K L : Fin 4096) (hK : K.val = 3072 + k.val) (hL : L.val = t.val % 8 * 512 + l.val) :
    (iblk m c 5 t : Vec Ideal S1024x512 .bf16) (ix2 k l) = W m c (ix2 K L) := by
  obtain ⟨b0, b1⟩ := idx5 t
  unfold iblk
  rw [View.read_apply]
  show V m c main_v0 _ = _
  rw [weight m c]
  show W m c _ = _
  congr 1
  funext a
  apply Fin.ext
  match a with
  | ⟨0, _⟩ => show win0_5.index t 0 * 1024 + 1 * k.val = K.val; rw [b0]; omega
  | ⟨1, _⟩ => show win0_5.index t 1 * 512 + 1 * l.val = L.val; rw [b1]; omega

/-- What a point writes back is its block of the whole product. -/
theorem flushed_eq (c : Dev nD) (t : Fin cfg0.N) (_ : (cfg0.win 6).flush t = true) :
    (dats m 0 c).flushed 6 t = ((cfg0.win 6).blk t).view.read (Elt Ideal) (G m c) := by
  rw [Value.flushed6]
  obtain ⟨d0, d1⟩ := idx6 t
  have hN : cfg0.N = 64 := N_0
  have ht := t.isLt
  funext j
  obtain ⟨r, l, rfl⟩ : ∃ (r : Fin 1088) (l : Fin 512), j = ix2 r l := ⟨j 0, j 1, eq_ix2 j⟩
  have hr := r.isLt
  have hl := l.isLt
  have he : ((cfg0.win 6).blk t).view.emb (ix2 r l) = ix2 (⟨t.val / 8 * 1088 + r.val, by omega⟩ : Fin 8704) (⟨t.val % 8 * 512 + l.val, by omega⟩ : Fin 4096) := by
    funext a
    apply Fin.ext
    match a with
    | ⟨0, _⟩ => show win0_6.index t 0 * 1088 + 1 * r.val = t.val / 8 * 1088 + r.val; rw [d0]; omega
    | ⟨1, _⟩ => show win0_6.index t 1 * 512 + 1 * l.val = t.val % 8 * 512 + l.val; rw [d1]; omega
  rw [View.read_apply, he]
  show out0_6 (iblk m c 0 t) (iblk m c 1 t) (iblk m c 2 t) (iblk m c 3 t) (iblk m c 4 t) (iblk m c 5 t) (ix2 r l) = prod (X m c) (Y m c) (Z m c) (W m c) _
  rw [out_apply, prod_apply]
  refine congrArg₂ (· + ·) (congrArg₂ (· + ·) ?_ ?_) ?_
  · exact Finset.sum_congr rfl fun k _ => congrArg₂ (· * ·) (blk0 m c t r k _ rfl) (blk3 m c t k l _ _ (Nat.zero_add _).symm rfl)
  · exact Finset.sum_congr rfl fun k _ => congrArg₂ (· * ·) (blk1 m c t r k _ rfl) (blk4 m c t k l _ _ rfl rfl)
  · exact Finset.sum_congr rfl fun k _ => congrArg₂ (· * ·) (blk2 m c t r k _ rfl) (blk5 m c t k l _ _ rfl rfl)

/-- Every index of the result lies in the block of some point. -/
theorem cover (i : S8704x4096.Idx) : ∃ t : Fin cfg0.N, (cfg0.win 6).flush t = true ∧ i ∈ ((cfg0.win 6).blk t).view.set := by
  have h0 : (i 0 : Nat) < 8704 := (i 0).isLt
  have h1 : (i 1 : Nat) < 4096 := (i 1).isLt
  have hN : cfg0.N = 64 := N_0
  refine ⟨⟨(i 0 : Nat) / 1088 * 8 + (i 1 : Nat) / 512, by omega⟩, flush6 _, ?_⟩
  generalize ht : (⟨(i 0 : Nat) / 1088 * 8 + (i 1 : Nat) / 512, by omega⟩ : Fin cfg0.N) = t
  have hv : t.val = (i 0 : Nat) / 1088 * 8 + (i 1 : Nat) / 512 := by rw [← ht]
  obtain ⟨d0, d1⟩ := idx6 t
  obtain ⟨s0, s1⟩ := size6 t
  show i ∈ ((View.whole main_v1).slice (win0_6.rect t)).set
  rw [View.set_slice_whole, Rect.mem_set_unit]
  intro a
  match a with
  | ⟨0, _⟩ => show win0_6.index t 0 * 1088 ≤ (i 0 : Nat) ∧ (i 0 : Nat) < win0_6.index t 0 * 1088 + win0_6.xsize (grid0.coords t) 0
              rw [d0, s0]; omega
  | ⟨1, _⟩ => show win0_6.index t 1 * 512 ≤ (i 1 : Nat) ∧ (i 1 : Nat) < win0_6.index t 1 * 512 + win0_6.xsize (grid0.coords t) 1
              rw [d1, s1]; omega

/-- The result array ends holding the whole product. -/
theorem final (c : Dev nD) : (dats m 0 c).arrAt 6 cfg0.N = G m c :=
  (dats m 0 c).arrAt_eq_of_cover 6 (G m c) (flushed_eq m c) cover

end Cert.OutProjIdeal.Blocks

namespace Cert.Proof

open Idealize.ShloMosaic Idealize.ShloMosaic.TcCoe Idealize.SL.Sem

/-- The output projection's call computes, on the extended reals, the product of the three inputs side by side and the weight. -/
theorem outProj_algebraic : Cert.algebraic_OutProjIdeal_OutProjReferenceIdeal
    (hOutProjIdeal := Cert.OutProjIdeal.Gen.facts) (hOutProjReferenceIdeal := Cert.OutProjReferenceIdeal.Gen.facts) := by
  intro m g m' g' _ hargs
  refine ⟨fun c => Cert.OutProjIdeal.Blocks.G m c, ?_, ?_⟩
  · refine (θ_run _ _ _).mono (fun r h c => ?_) (Cert.OutProjIdeal.Value.run_blocks m g)
    obtain ⟨h0, h1, h2, h3, h4⟩ := h c
    exact ⟨h0.trans (Cert.OutProjIdeal.Blocks.final m c), h1, h2, h3, h4⟩
  · refine (θ_run _ _ _).mono (fun r h c => ?_) (Cert.OutProjReferenceIdeal.Value.run m' g')
    obtain ⟨h0, h1, h2, h3, h4⟩ := h c
    refine ⟨h0.trans ?_, h1, h2, h3, h4⟩
    obtain ⟨e0, e1, e2, e3⟩ := hargs c
    rw [e0, e1, e2, e3]
    rfl

end Cert.Proof

end
-- ==== Proof.ExpertsTables.lean ====
/- The expert call's tables: any group numbers below four and any use flags that are zero or one. The pipeline at such
   tables, its blocks, and what every grid point's flag word decides. -/
module

public import proofs.«01_k».proof.Proof.Gen.Experts
public import proofs.«01_k».proof.Proof.Gen.Experts.Flash.Runs
public import Idealize.ShloMosaic.Lib.Pipeline.Kit
public import Idealize.ShloMosaic.Lib.Pipeline.TableIdle
public import Idealize.ShloMosaic.Lib.Pipeline.FrameBody
public import Idealize.ShloMosaic.Lib.Affine
public import Idealize.ShloMosaic.Lib.Decide

@[expose] public section

set_option maxRecDepth 16384

noncomputable section

namespace Cert.Experts.Tables

open Cert.Experts Cert.Experts.Gen
open Idealize.ShloMosaic
open Idealize.ShloMosaic.TcCoe
open Idealize.SL.Sem
open Idealize.ShloMosaic.Pipeline (Cfg Window)

/-- A pair of tables in range: the group of every tile, and whether the tile is used. -/
structure Tab where
  /-- the group of each tile -/
  tg : S21.Idx → BitVec 32
  /-- whether each tile is used -/
  tv : S21.Idx → BitVec 32
  tg_lt : ∀ x, (tg x).toNat < 4
  tv_01 : ∀ x, tv x = 0#32 ∨ tv x = 1#32

/-- The tables as the call is handed them. -/
def pf (T : Tab) : pre0.Contents (Elt Bits) := fun | ⟨0, _⟩ => T.tg | ⟨1, _⟩ => T.tv | ⟨_ + 2, h⟩ => absurd h (by simp)

/-- The tile a grid point works on, as an index of the tables. -/
def tile (i : grid0.Coords) : S21.Idx := fun a => match a with | ⟨0, _⟩ => ⟨(i 0).val, (i 0).isLt⟩

/-- The word the weight windows' index maps read: the tile's group. -/
theorem at_tg (T : Tab) (i : grid0.Coords) (h) (h1) : (pf T).at 0 (Rect.unit (s := S21) (k0_off1 i) S1.size h) h1 = T.tg (tile i) := by
  show T.tg _ = T.tg _
  congr 1
  funext a
  match a with
  | ⟨0, _⟩ => apply Fin.ext; show k0_off1 i 0 + 1 * 0 = (i 0).val; rw [congrFun (k0_off1_eq i) 0]; rfl

/-- The first read of the flag table by the body: the tile's flag. -/
theorem read_tv1 (T : Tab) (i : grid0.Coords) (h) : View.readAt (Elt Bits) (tbM0_1).view (Rect.unit (s := S21) (k0_off1 i) S1.size h).toLoadRect T.tv (Shape.Idx.first (numel1_S1.symm ▸ Nat.one_pos)) = T.tv (tile i) := by
  rw [View.readAt_apply]
  show T.tv _ = T.tv _
  congr 1
  funext a
  match a with
  | ⟨0, _⟩ => apply Fin.ext; show k0_off1 i 0 + 1 * 0 = (i 0).val; rw [congrFun (k0_off1_eq i) 0]; rfl

/-- The second read of the flag table by the body: the same flag. -/
theorem read_tv2 (T : Tab) (i : grid0.Coords) (h) : View.readAt (Elt Bits) (tbM0_1).view (Rect.unit (s := S21) (k0_off2 i) S1.size h).toLoadRect T.tv (Shape.Idx.first (numel1_S1.symm ▸ Nat.one_pos)) = T.tv (tile i) :=
  read_tv1 T i h

/-- The flag word as the idle table reads it. -/
theorem atD_tv (T : Tab) (i : grid0.Coords) : (pf T).atD 1 (k0_off1 i) = T.tv (tile i) := by
  have hb : ∀ a, k0_off1 i a + 1 ≤ S21.size a := fun a => match a with | ⟨0, _⟩ => k0_off1_inb i 0
  show (if h : ∀ a, k0_off1 i a + 1 ≤ S21.size a then T.tv (fun a => ⟨k0_off1 i a, h a⟩) else default) = _
  rw [dif_pos hb]
  congr 1
  funext a
  match a with
  | ⟨0, _⟩ => apply Fin.ext; show k0_off1 i 0 = (i 0).val; rw [congrFun (k0_off1_eq i) 0]; rfl

/-- Window 2's block at a grid point: the tile's group and the column chunk. -/
theorem map2 (T : Tab) (i : grid0.Coords) : cc0_transform_2 k0_off1_inb numel1_S1 (pf T) i = ![(T.tg (tile i)).toNat, 0, (BitVec.ofNat 32 (i 1).val).toNat] :=
  congrArg (fun z : BitVec 32 => (![z.toNat, 0, (BitVec.ofNat 32 (i 1).val).toNat] : Fin 3 → ℕ)) (at_tg T i (k0_off1_inb i) numel1_S1)

/-- Window 3's block at a grid point: the tile's group and the column chunk. -/
theorem map3 (T : Tab) (i : grid0.Coords) : cc0_transform_3 k0_off1_inb numel1_S1 (pf T) i = ![(T.tg (tile i)).toNat, 0, (BitVec.ofNat 32 (i 1).val).toNat] :=
  congrArg (fun z : BitVec 32 => (![z.toNat, 0, (BitVec.ofNat 32 (i 1).val).toNat] : Fin 3 → ℕ)) (at_tg T i (k0_off1_inb i) numel1_S1)

/-- Window 4's block at a grid point: the tile's group and the column chunk. -/
theorem map4 (T : Tab) (i : grid0.Coords) : cc0_transform_4 k0_off1_inb numel1_S1 (pf T) i = ![(T.tg (tile i)).toNat, (BitVec.ofNat 32 (i 1).val).toNat, 0] :=
  congrArg (fun z : BitVec 32 => (![z.toNat, (BitVec.ofNat 32 (i 1).val).toNat, 0] : Fin 3 → ℕ)) (at_tg T i (k0_off1_inb i) numel1_S1)

/-- The blocks of weight window 2 lie inside the array: the group is below four, the chunk below six. -/
theorem block2_in (T : Tab) (i : grid0.Coords) : ∀ a, (cc0_transform_2 k0_off1_inb numel1_S1 (pf T) i a + 1) * S1x4096x256.size a ≤ S4x4096x1536.size a := by
  have hc : (BitVec.ofNat 32 (i 1).val).toNat < 6 := by
    have h1 : (i 1).val < 6 := (i 1).isLt
    rw [BitVec.toNat_ofNat]; omega
  have hg := T.tg_lt (tile i)
  intro a
  rw [map2]
  match a with
  | ⟨0, _⟩ => show ((T.tg (tile i)).toNat + 1) * 1 ≤ 4; omega
  | ⟨1, _⟩ => show (0 + 1) * 4096 ≤ 4096; omega
  | ⟨2, _⟩ => show ((BitVec.ofNat 32 (i 1).val).toNat + 1) * 256 ≤ 1536; omega

/-- The blocks of weight window 3 lie inside the array: the group is below four, the chunk below six. -/
theorem block3_in (T : Tab) (i : grid0.Coords) : ∀ a, (cc0_transform_3 k0_off1_inb numel1_S1 (pf T) i a + 1) * S1x4096x256.size a ≤ S4x4096x1536.size a := by
  have hc : (BitVec.ofNat 32 (i 1).val).toNat < 6 := by
    have h1 : (i 1).val < 6 := (i 1).isLt
    rw [BitVec.toNat_ofNat]; omega
  have hg := T.tg_lt (tile i)
  intro a
  rw [map3]
  match a with
  | ⟨0, _⟩ => show ((T.tg (tile i)).toNat + 1) * 1 ≤ 4; omega
  | ⟨1, _⟩ => show (0 + 1) * 4096 ≤ 4096; omega
  | ⟨2, _⟩ => show ((BitVec.ofNat 32 (i 1).val).toNat + 1) * 256 ≤ 1536; omega

/-- The blocks of weight window 4 lie inside the array: the group is below four, the chunk below six. -/
theorem block4_in (T : Tab) (i : grid0.Coords) : ∀ a, (cc0_transform_4 k0_off1_inb numel1_S1 (pf T) i a + 1) * S1x256x4096.size a ≤ S4x1536x4096.size a := by
  have hc : (BitVec.ofNat 32 (i 1).val).toNat < 6 := by
    have h1 : (i 1).val < 6 := (i 1).isLt
    rw [BitVec.toNat_ofNat]; omega
  have hg := T.tg_lt (tile i)
  intro a
  rw [map4]
  match a with
  | ⟨0, _⟩ => show ((T.tg (tile i)).toNat + 1) * 1 ≤ 4; omega
  | ⟨1, _⟩ => show ((BitVec.ofNat 32 (i 1).val).toNat + 1) * 256 ≤ 1536; omega
  | ⟨2, _⟩ => show (0 + 1) * 4096 ≤ 4096; omega

/-- Tables in range are admissible: every weight block is inside its array, at whole words. -/
theorem ok (T : Tab) : ok0 (F := Bits) (pf T) :=
  ⟨fun i => ⟨block2_in T i, .inr (Affine.block_words_dvd (s := S4x4096x1536) (p := EltTy.packing .bf16) (by decide) (by decide))⟩,
   fun i => ⟨block3_in T i, .inr (Affine.block_words_dvd (s := S4x4096x1536) (p := EltTy.packing .bf16) (by decide) (by decide))⟩,
   fun i => ⟨block4_in T i, .inr (Affine.block_words_dvd (s := S4x1536x4096) (p := EltTy.packing .bf16) (by decide) (by decide))⟩⟩

/-- The tables as contents the pipeline admits. -/
def adm (T : Tab) : (pcfg0 (F := Bits)).Adm := ⟨pf T, ok T⟩

/-- The pipeline at the tables. -/
abbrev cfgA (T : Tab) : Pipeline.Cfg sig Λ₀ := cfg0 (F := Bits) (adm T)

/-- A point's coordinates. -/
abbrev crd (T : Tab) (t : Fin (cfgA T).N) : (cfgA T).grid.Coords := (cfgA T).grid.coords t

/-- What a point's position alone decides: the body's conditions on the column chunk, the kept-tile condition at a flag
    of zero and of one, and where the output block is written back (the last chunk of a tile). -/
theorem closed : ∀ t : Fin grid0.N,
    (k0_cond2 (grid0.coords t) = 1#1 ↔ t.val % 6 = 0) ∧ (k0_cond3 (grid0.coords t) = 1#1 ↔ ¬ t.val % 6 = 0)
    ∧ (k0_cond4 (grid0.coords t) 0#32 = 1#1 ↔ t.val % 6 = 0) ∧ ¬ k0_cond4 (grid0.coords t) 1#32 = 1#1
    ∧ Window.flushOf grid0 true cc0_transform_5 t = decide (t.val % 6 = 5)
    ∧ (grid0.coords t 0).val = t.val / 6 ∧ (grid0.coords t 1).val = t.val % 6 := by decide +kernel

/-- The tile of a point is in use. -/
abbrev Used (T : Tab) (i : grid0.Coords) : Prop := T.tv (tile i) = 1#32

theorem unused (T : Tab) (i : grid0.Coords) (h : ¬ Used T i) : T.tv (tile i) = 0#32 := (T.tv_01 _).resolve_right h

/-- In a used tile the body takes the computing branch, -/
theorem cond1_used (T : Tab) (i : grid0.Coords) (h : Used T i) : k0_cond1 (View.readAt (Elt Bits) (tbM0_1).view (Rect.unit (s := S21) (k0_off1 i) S1.size (k0_off1_inb i)).toLoadRect T.tv (Shape.Idx.first (numel1_S1.symm ▸ Nat.one_pos))) = 1#1 := by
  rw [read_tv1, h]; decide

/-- and in an unused one it does not. -/
theorem cond1_unused (T : Tab) (i : grid0.Coords) (h : ¬ Used T i) : ¬ k0_cond1 (View.readAt (Elt Bits) (tbM0_1).view (Rect.unit (s := S21) (k0_off1 i) S1.size (k0_off1_inb i)).toLoadRect T.tv (Shape.Idx.first (numel1_S1.symm ▸ Nat.one_pos))) = 1#1 := by
  rw [read_tv1, unused T i h]; decide

/-- A used tile is never zeroed. -/
theorem cond4_used (T : Tab) (t : Fin grid0.N) (i : grid0.Coords) (hi : i = grid0.coords t) (h : Used T i) : ¬ k0_cond4 i (View.readAt (Elt Bits) (tbM0_1).view (Rect.unit (s := S21) (k0_off2 i) S1.size (k0_off2_inb i)).toLoadRect T.tv (Shape.Idx.first (numel1_S1.symm ▸ Nat.one_pos))) = 1#1 := by
  rw [read_tv2, h, hi]; exact (closed t).2.2.2.1

/-- An unused tile is zeroed at its first chunk only. -/
theorem cond4_unused (T : Tab) (t : Fin grid0.N) (i : grid0.Coords) (hi : i = grid0.coords t) (h : ¬ Used T i) : k0_cond4 i (View.readAt (Elt Bits) (tbM0_1).view (Rect.unit (s := S21) (k0_off2 i) S1.size (k0_off2_inb i)).toLoadRect T.tv (Shape.Idx.first (numel1_S1.symm ▸ Nat.one_pos))) = 1#1 ↔ t.val % 6 = 0 := by
  rw [read_tv2, unused T i h, hi]; exact (closed t).2.2.1

/-- The output block is written back at a tile's last chunk. -/
theorem flush5 (T : Tab) (t : Fin (cfgA T).N) : ((cfgA T).win (5 : Fin 6)).flush t = decide (t.val % 6 = 5) :=
  (Window.flush_eq_flushOf _ t).trans (closed t).2.2.2.2.1

/-- The body stores nothing exactly at an unused tile past its first chunk. -/
theorem idle5 (T : Tab) (t : Fin (cfgA T).N) : (cfgA T).idle (5 : Fin 6) (crd T t) = decide (¬ Used T (crd T t) ∧ ¬ t.val % 6 = 0) := by
  have hi : (cfgA T).idle (5 : Fin 6) (crd T t) = (!(k0_cond1 (T.tv (tile (crd T t))) == 1#1 && k0_cond2 (crd T t) == 1#1) && !(k0_cond1 (T.tv (tile (crd T t))) == 1#1 && k0_cond3 (crd T t) == 1#1) && !(k0_cond4 (crd T t) (T.tv (tile (crd T t))) == 1#1)) := by
    conv_rhs => rw [← atD_tv T (crd T t)]
    rfl
  rw [hi]
  have hc := closed t
  have hw := T.tv_01 (tile (crd T t))
  show _ = decide (¬ T.tv (tile (crd T t)) = 1#32 ∧ ¬ t.val % 6 = 0)
  generalize T.tv (tile (crd T t)) = w at hw ⊢
  have e0 : k0_cond1 0#32 = 0#1 := by decide
  have e1 : k0_cond1 1#32 = 1#1 := by decide
  rcases hw with rfl | rfl
  · rw [e0]
    by_cases hz : t.val % 6 = 0
    · rw [show k0_cond4 (crd T t) 0#32 = 1#1 from hc.2.2.1.2 hz]; simp [hz]
    · have h4 : ¬ k0_cond4 (crd T t) 0#32 = 1#1 := fun q => hz (hc.2.2.1.1 q)
      simp [hz, h4]
  · rw [e1]
    by_cases hz : t.val % 6 = 0
    · rw [show k0_cond2 (crd T t) = 1#1 from hc.1.2 hz]; simp [hz]
    · rw [show k0_cond3 (crd T t) = 1#1 from hc.2.1.2 hz]; simp [hz]

/-- Nothing has been stored since the last write-back exactly before a tile's first chunk. -/
theorem fresh5 (T : Tab) (t : Fin (cfgA T).N) : (cfgA T).fresh (5 : Fin 6) t.val = decide (t.val % 6 = 0) := by
  refine Pipeline.Cfg.fresh_tab (cfgA T) (5 : Fin 6) (fun n => decide (n % 6 = 0)) rfl (fun t => ?_) t.val (Nat.le_of_lt t.isLt)
  rw [flush5, idle5]
  by_cases h : Used T (crd T t)
  · rw [Bool.eq_iff_iff]; simp [h]; omega
  · rw [Bool.eq_iff_iff]; simp [h]; omega

end Cert.Experts.Tables

end
-- ==== Proof.ExpertsFrame.lean ====
/- The expert call at any tables in range: what its output buffer holds point by point, the body's obligation, and the
   frame. -/
module

public import proofs.«01_k».proof.Proof.ExpertsTables
public import proofs.«01_k».proof.Proof.Gen.Experts.Launch
public import Idealize.ShloMosaic.Lib.Pipeline.Quiescent
public import Idealize.ShloMosaic.Lib.Claim
public import Idealize.ShloMosaic.Lib.Writes
public import Idealize.ShloMosaic.Lib.Ring
public import Idealize.ShloMosaic.Lib.Exec
public import Idealize.ShloMosaic.Lib.Tactic
public import Idealize.ShloMosaic.PureOps.BitExact
public import Idealize.ShloMosaic.Adequacy
public import Idealize.ShloMosaic.Init

@[expose] public section

set_option maxRecDepth 16384
set_option Elab.async false

noncomputable section

namespace Cert.Experts.Tables

open Cert.Experts Cert.Experts.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The kind of assertion the proof is written in. -/
local notation "𝕄" => MT nD τ sig Unit (Elt Bits) ℕ (UR sig nD τ) ℕ

/-- The resource algebra of the pipeline's staging cells. -/
abbrev EP : Emb (UR sig nD τ) 𝕄 := emb₁

variable (T : Tab)

/-- @main's one pipeline at the tables. -/
abbrev pipes : Fin 1 → Pipeline.Cfg sig Λ₀ := Pipeline.pin (pcfgs (F := Bits)) fun _ => adm T

variable (m : (ℓ : Loc nD τ sig) → Buf (Elt Bits) ℓ) (ρ : Dev nD → PrngReg)

/-- Window 0's staging buffer at a point, -/
abbrev stg0 (t : Fin (cfgA T).N) : Memref sig .tc .vmem S512x4096 .bf16 := spec0_0.stage ((cfgA T).slots t (0 : Fin 6))
/-- and that it is a whole buffer. -/
abbrev whole0 (t : Fin (cfgA T).N) : (stg0 T t).IsWhole := hstage0_0 (((cfgA T).slots t (0 : Fin 6)).cast nbuf0_0)
/-- Window 1's staging buffer at a point, -/
abbrev stg1 (t : Fin (cfgA T).N) : Memref sig .tc .vmem S512x128 .f32 := spec0_1.stage ((cfgA T).slots t (1 : Fin 6))
/-- and that it is a whole buffer. -/
abbrev whole1 (t : Fin (cfgA T).N) : (stg1 T t).IsWhole := hstage0_1 (((cfgA T).slots t (1 : Fin 6)).cast nbuf0_1)
/-- Window 2's staging buffer at a point, -/
abbrev stg2 (t : Fin (cfgA T).N) : Memref sig .tc .vmem S1x4096x256 .bf16 := spec0_2.stage ((cfgA T).slots t (2 : Fin 6))
/-- and that it is a whole buffer. -/
abbrev whole2 (t : Fin (cfgA T).N) : (stg2 T t).IsWhole := hstage0_2 (((cfgA T).slots t (2 : Fin 6)).cast nbuf0_2)
/-- Window 3's staging buffer at a point, -/
abbrev stg3 (t : Fin (cfgA T).N) : Memref sig .tc .vmem S1x4096x256 .bf16 := spec0_3.stage ((cfgA T).slots t (3 : Fin 6))
/-- and that it is a whole buffer. -/
abbrev whole3 (t : Fin (cfgA T).N) : (stg3 T t).IsWhole := hstage0_3 (((cfgA T).slots t (3 : Fin 6)).cast nbuf0_3)
/-- Window 4's staging buffer at a point, -/
abbrev stg4 (t : Fin (cfgA T).N) : Memref sig .tc .vmem S1x256x4096 .bf16 := spec0_4.stage ((cfgA T).slots t (4 : Fin 6))
/-- and that it is a whole buffer. -/
abbrev whole4 (t : Fin (cfgA T).N) : (stg4 T t).IsWhole := hstage0_4 (((cfgA T).slots t (4 : Fin 6)).cast nbuf0_4)
/-- Window 5's staging buffer at a point, -/
abbrev stg5 (t : Fin (cfgA T).N) : Memref sig .tc .vmem S512x4096 .f32 := spec0_5.stage ((cfgA T).slots t (5 : Fin 6))
/-- and that it is a whole buffer. -/
abbrev whole5 (t : Fin (cfgA T).N) : (stg5 T t).IsWhole := hstage0_5 (((cfgA T).slots t (5 : Fin 6)).cast nbuf0_5)

/-- A window's block at a point, as launched. -/
def blkAt (c : Dev nD) (w : Fin (cfgA T).W) (t : Fin (cfgA T).N) : (((cfgA T).win w).xblock (crd T t)).Idx → Elt Bits ((cfgA T).win w).elt :=
  (((cfgA T).win w).blk t).view.read (Elt Bits) ((s₀ m ρ).mem (((cfgA T).win w).arr.view.loc (c : Thread nD τ)))

/-- The launch memory holds the tables. -/
def Holds (m : (ℓ : Loc nD τ sig) → Buf (Elt Bits) ℓ) : Prop :=
  (∀ c : Dev nD, m ((c : Thread nD τ).loc main_arg0) = T.tg) ∧ (∀ c : Dev nD, m ((c : Thread nD τ).loc main_arg1) = T.tv)

/-- A point at a tile's first chunk. -/
abbrev First (t : Fin (cfgA T).N) : Prop := t.val % 6 = 0

/-- The body's conditions at the first chunk of a used tile, -/
theorem pathA (t : Fin (cfgA T).N) (q0 : Used T (crd T t)) (q1 : First T t) :
    (k0_cond1 (View.readAt (Elt Bits) (tbM0_1).view (Rect.unit (s := S21) (k0_off1 (crd T t)) S1.size (k0_off1_inb (crd T t))).toLoadRect T.tv (Shape.Idx.first (numel1_S1.symm ▸ Nat.one_pos))) = 1#1) ∧ (k0_cond2 (crd T t) = 1#1) ∧ (¬(k0_cond3 (crd T t) = 1#1)) ∧ (¬(k0_cond4 (crd T t) (View.readAt (Elt Bits) (tbM0_1).view (Rect.unit (s := S21) (k0_off2 (crd T t)) S1.size (k0_off2_inb (crd T t))).toLoadRect T.tv (Shape.Idx.first (numel1_S1.symm ▸ Nat.one_pos))) = 1#1)) :=
  ⟨cond1_used T _ q0, (closed t).1.2 q1, fun h => (closed t).2.1.1 h q1, cond4_used T t _ rfl q0⟩

/-- at a later chunk of a used tile, -/
theorem pathB (t : Fin (cfgA T).N) (q0 : Used T (crd T t)) (q1 : ¬First T t) :
    (k0_cond1 (View.readAt (Elt Bits) (tbM0_1).view (Rect.unit (s := S21) (k0_off1 (crd T t)) S1.size (k0_off1_inb (crd T t))).toLoadRect T.tv (Shape.Idx.first (numel1_S1.symm ▸ Nat.one_pos))) = 1#1) ∧ (¬(k0_cond2 (crd T t) = 1#1)) ∧ (k0_cond3 (crd T t) = 1#1) ∧ (¬(k0_cond4 (crd T t) (View.readAt (Elt Bits) (tbM0_1).view (Rect.unit (s := S21) (k0_off2 (crd T t)) S1.size (k0_off2_inb (crd T t))).toLoadRect T.tv (Shape.Idx.first (numel1_S1.symm ▸ Nat.one_pos))) = 1#1)) :=
  ⟨cond1_used T _ q0, fun h => q1 ((closed t).1.1 h), (closed t).2.1.2 q1, cond4_used T t _ rfl q0⟩

/-- at the first chunk of an unused tile, -/
theorem pathC (t : Fin (cfgA T).N) (q0 : ¬Used T (crd T t)) (q1 : First T t) :
    (¬(k0_cond1 (View.readAt (Elt Bits) (tbM0_1).view (Rect.unit (s := S21) (k0_off1 (crd T t)) S1.size (k0_off1_inb (crd T t))).toLoadRect T.tv (Shape.Idx.first (numel1_S1.symm ▸ Nat.one_pos))) = 1#1)) ∧ (k0_cond4 (crd T t) (View.readAt (Elt Bits) (tbM0_1).view (Rect.unit (s := S21) (k0_off2 (crd T t)) S1.size (k0_off2_inb (crd T t))).toLoadRect T.tv (Shape.Idx.first (numel1_S1.symm ▸ Nat.one_pos))) = 1#1) :=
  ⟨cond1_unused T _ q0, (cond4_unused T t _ rfl q0).2 q1⟩

/-- and at a later chunk of an unused tile. -/
theorem pathD (t : Fin (cfgA T).N) (q0 : ¬Used T (crd T t)) (q1 : ¬First T t) :
    (¬(k0_cond1 (View.readAt (Elt Bits) (tbM0_1).view (Rect.unit (s := S21) (k0_off1 (crd T t)) S1.size (k0_off1_inb (crd T t))).toLoadRect T.tv (Shape.Idx.first (numel1_S1.symm ▸ Nat.one_pos))) = 1#1)) ∧ (¬(k0_cond4 (crd T t) (View.readAt (Elt Bits) (tbM0_1).view (Rect.unit (s := S21) (k0_off2 (crd T t)) S1.size (k0_off2_inb (crd T t))).toLoadRect T.tv (Shape.Idx.first (numel1_S1.symm ▸ Nat.one_pos))) = 1#1)) :=
  ⟨cond1_unused T _ q0, fun h => q1 ((cond4_unused T t _ rfl q0).1 h)⟩

/-- A first chunk is not written back. -/
theorem keep_first (t : Fin (cfgA T).N) (q1 : First T t) : ((cfgA T).win (5 : Fin 6)).flush t = false := by
  rw [flush5]; exact decide_eq_false (by have h : t.val % 6 = 0 := q1; omega)

/-- The schedule at the first chunk of a used tile, -/
theorem schedA (t : Fin (cfgA T).N) (q0 : Used T (crd T t)) (q1 : First T t) :
    (cfgA T).idle (5 : Fin 6) ((cfgA T).grid.coords t) = false ∧ ((cfgA T).win (5 : Fin 6)).flush t = false ∧ (cfgA T).fresh (5 : Fin 6) t.val = true :=
  ⟨(idle5 T t).trans (decide_eq_false fun h => h.1 q0), keep_first T t q1, (fresh5 T t).trans (decide_eq_true q1)⟩

/-- at a later chunk of a used tile, -/
theorem schedB (t : Fin (cfgA T).N) (q0 : Used T (crd T t)) (q1 : ¬First T t) :
    (cfgA T).idle (5 : Fin 6) ((cfgA T).grid.coords t) = false ∧ (cfgA T).fresh (5 : Fin 6) t.val = false :=
  ⟨(idle5 T t).trans (decide_eq_false fun h => h.1 q0), (fresh5 T t).trans (decide_eq_false q1)⟩

/-- at the first chunk of an unused tile, -/
theorem schedC (t : Fin (cfgA T).N) (q0 : ¬Used T (crd T t)) (q1 : First T t) :
    (cfgA T).idle (5 : Fin 6) ((cfgA T).grid.coords t) = false ∧ ((cfgA T).win (5 : Fin 6)).flush t = false ∧ (cfgA T).fresh (5 : Fin 6) t.val = true :=
  ⟨(idle5 T t).trans (decide_eq_false fun h => h.2 q1), keep_first T t q1, (fresh5 T t).trans (decide_eq_true q1)⟩

/-- and at a later chunk of an unused tile. -/
theorem schedD (t : Fin (cfgA T).N) (q0 : ¬Used T (crd T t)) (q1 : ¬First T t) :
    (cfgA T).idle (5 : Fin 6) ((cfgA T).grid.coords t) = true ∧ (cfgA T).fresh (5 : Fin 6) t.val = false :=
  ⟨(idle5 T t).trans (decide_eq_true ⟨q0, q1⟩), (fresh5 T t).trans (decide_eq_false q1)⟩

/-- What the output buffer holds after a point, from what it held before: the first chunk of a used tile stores its product, a later one adds, the first chunk of an unused tile stores zeros, and a later one leaves the buffer alone. -/
def stepOut (c : Dev nD) (t : Fin (cfgA T).N) (prev : (S512x4096.Idx → Elt Bits .f32)) : (S512x4096.Idx → Elt Bits .f32) :=
  if q0 : Used T (crd T t) then
    if q1 : First T t then
      out0_A_5 c (crd T t) (stg0 T t) (whole0 T t) (stg1 T t) (whole1 T t) (stg2 T t) (whole2 T t) (stg3 T t) (whole3 T t) (stg4 T t) (whole4 T t) (stg5 T t) (whole5 T t) T.tg T.tv (blkAt T m ρ c (0 : Fin 6) t) (blkAt T m ρ c (1 : Fin 6) t) (blkAt T m ρ c (2 : Fin 6) t) (blkAt T m ρ c (3 : Fin 6) t) (blkAt T m ρ c (4 : Fin 6) t) (pathA T t q0 q1).1 (pathA T t q0 q1).2.1 (pathA T t q0 q1).2.2.1 (pathA T t q0 q1).2.2.2
    else
      out0_B_5 c (crd T t) (stg0 T t) (whole0 T t) (stg1 T t) (whole1 T t) (stg2 T t) (whole2 T t) (stg3 T t) (whole3 T t) (stg4 T t) (whole4 T t) (stg5 T t) (whole5 T t) T.tg T.tv (blkAt T m ρ c (0 : Fin 6) t) (blkAt T m ρ c (1 : Fin 6) t) (blkAt T m ρ c (2 : Fin 6) t) (blkAt T m ρ c (3 : Fin 6) t) (blkAt T m ρ c (4 : Fin 6) t) prev (pathB T t q0 q1).1 (pathB T t q0 q1).2.1 (pathB T t q0 q1).2.2.1 (pathB T t q0 q1).2.2.2
  else
    if q1 : First T t then
      out0_C_5 c (crd T t) (stg0 T t) (whole0 T t) (stg1 T t) (whole1 T t) (stg2 T t) (whole2 T t) (stg3 T t) (whole3 T t) (stg4 T t) (whole4 T t) (stg5 T t) (whole5 T t) T.tg T.tv (blkAt T m ρ c (0 : Fin 6) t) (blkAt T m ρ c (1 : Fin 6) t) (blkAt T m ρ c (2 : Fin 6) t) (blkAt T m ρ c (3 : Fin 6) t) (blkAt T m ρ c (4 : Fin 6) t) (pathC T t q0 q1).1 (pathC T t q0 q1).2
    else
      (if (cfgA T).fresh (5 : Fin 6) t.val then default else prev)

/-- What the output buffer holds after each position. -/
def held (c : Dev nD) : (n : ℕ) → n < (cfgA T).N → (S512x4096.Idx → Elt Bits .f32)
  | 0, h => stepOut T m ρ c ⟨0, h⟩ default
  | n + 1, h => stepOut T m ρ c ⟨n + 1, h⟩ (held c n (Nat.lt_of_succ_lt h))

/-- What it held before a point. -/
def heldBefore (c : Dev nD) (t : Fin (cfgA T).N) : (S512x4096.Idx → Elt Bits .f32) :=
  if h : t.val = 0 then default else held T m ρ c (t.val - 1) (by omega)

/-- One step of the recursion. -/
theorem held_eq (c : Dev nD) (t : Fin (cfgA T).N) : held T m ρ c t.val t.isLt = stepOut T m ρ c t (heldBefore T m ρ c t) := by
  obtain ⟨n, hn⟩ := t
  cases n with
  | zero => rfl
  | succ n => unfold heldBefore; simp only [Nat.add_one_ne_zero, dif_neg, not_false_eq_true]; rfl

/-- The step at the first chunk of a used tile. -/
theorem stepOutA (c : Dev nD) (t : Fin (cfgA T).N) (prev : (S512x4096.Idx → Elt Bits .f32)) (q0 : Used T (crd T t)) (q1 : First T t) :
    stepOut T m ρ c t prev = out0_A_5 c (crd T t) (stg0 T t) (whole0 T t) (stg1 T t) (whole1 T t) (stg2 T t) (whole2 T t) (stg3 T t) (whole3 T t) (stg4 T t) (whole4 T t) (stg5 T t) (whole5 T t) T.tg T.tv (blkAt T m ρ c (0 : Fin 6) t) (blkAt T m ρ c (1 : Fin 6) t) (blkAt T m ρ c (2 : Fin 6) t) (blkAt T m ρ c (3 : Fin 6) t) (blkAt T m ρ c (4 : Fin 6) t) (pathA T t q0 q1).1 (pathA T t q0 q1).2.1 (pathA T t q0 q1).2.2.1 (pathA T t q0 q1).2.2.2 := by
  unfold stepOut; simp only [dif_pos q0, dif_pos q1]

/-- The step at a later chunk of a used tile. -/
theorem stepOutB (c : Dev nD) (t : Fin (cfgA T).N) (prev : (S512x4096.Idx → Elt Bits .f32)) (q0 : Used T (crd T t)) (q1 : ¬First T t) :
    stepOut T m ρ c t prev = out0_B_5 c (crd T t) (stg0 T t) (whole0 T t) (stg1 T t) (whole1 T t) (stg2 T t) (whole2 T t) (stg3 T t) (whole3 T t) (stg4 T t) (whole4 T t) (stg5 T t) (whole5 T t) T.tg T.tv (blkAt T m ρ c (0 : Fin 6) t) (blkAt T m ρ c (1 : Fin 6) t) (blkAt T m ρ c (2 : Fin 6) t) (blkAt T m ρ c (3 : Fin 6) t) (blkAt T m ρ c (4 : Fin 6) t) prev (pathB T t q0 q1).1 (pathB T t q0 q1).2.1 (pathB T t q0 q1).2.2.1 (pathB T t q0 q1).2.2.2 := by
  unfold stepOut; simp only [dif_pos q0, dif_neg q1]

/-- The step at the first chunk of an unused tile. -/
theorem stepOutC (c : Dev nD) (t : Fin (cfgA T).N) (prev : (S512x4096.Idx → Elt Bits .f32)) (q0 : ¬Used T (crd T t)) (q1 : First T t) :
    stepOut T m ρ c t prev = out0_C_5 c (crd T t) (stg0 T t) (whole0 T t) (stg1 T t) (whole1 T t) (stg2 T t) (whole2 T t) (stg3 T t) (whole3 T t) (stg4 T t) (whole4 T t) (stg5 T t) (whole5 T t) T.tg T.tv (blkAt T m ρ c (0 : Fin 6) t) (blkAt T m ρ c (1 : Fin 6) t) (blkAt T m ρ c (2 : Fin 6) t) (blkAt T m ρ c (3 : Fin 6) t) (blkAt T m ρ c (4 : Fin 6) t) (pathC T t q0 q1).1 (pathC T t q0 q1).2 := by
  unfold stepOut; simp only [dif_neg q0, dif_pos q1]

/-- The step at a later chunk of an unused tile. -/
theorem stepOutD (c : Dev nD) (t : Fin (cfgA T).N) (prev : (S512x4096.Idx → Elt Bits .f32)) (q0 : ¬Used T (crd T t)) (q1 : ¬First T t) :
    stepOut T m ρ c t prev = (if (cfgA T).fresh (5 : Fin 6) t.val then default else prev) := by
  unfold stepOut; simp only [dif_neg q0, dif_neg q1]

/-- What the buffer held before a position, the end included. -/
def heldAt (c : Dev nD) (t : Fin ((cfgA T).N + 1)) : (S512x4096.Idx → Elt Bits .f32) :=
  if h : t.val = 0 then default else held T m ρ c (t.val - 1) (by omega)

theorem heldAt_castSucc (c : Dev nD) (t : Fin (cfgA T).N) : heldAt T m ρ c t.castSucc = heldBefore T m ρ c t := by
  unfold heldAt heldBefore; simp only [Fin.val_castSucc]
theorem heldAt_succ (c : Dev nD) (t : Fin (cfgA T).N) : heldAt T m ρ c t.succ = held T m ρ c t.val t.isLt := by
  unfold heldAt; simp only [Fin.val_succ, Nat.add_one_ne_zero, ↓reduceDIte, Nat.add_one_sub_one]

/-- Between the points the body keeps its half of both tables. -/
def inv (m : (ℓ : Loc nD τ sig) → Buf (Elt Bits) ℓ) (ρ : Dev nD → PrngReg) (c : Dev nD) (t : Fin ((cfgA T).N + 1)) : sProp 𝕄 :=
  iprop((tbM0_0.view.loc (c : Thread nD τ) ↦{fullShare.right} T.tg) ∗ (tbM0_1.view.loc (c : Thread nD τ) ↦{fullShare.right} T.tv))

/-- The pipeline's proof data: every input block as launched, the output buffer as computed. -/
def data (_ : Fin 1) (c : Dev nD) : Dat τ (Elt Bits) Unit ℕ (UR sig nD τ) ℕ (cfgA T) c where
  A w := (s₀ m ρ).mem (((cfgA T).win w).arr.view.loc (c : Thread nD τ))
  after w t := match w with
    | ⟨0, _⟩ => blkAt T m ρ c (0 : Fin 6) t
    | ⟨1, _⟩ => blkAt T m ρ c (1 : Fin 6) t
    | ⟨2, _⟩ => blkAt T m ρ c (2 : Fin 6) t
    | ⟨3, _⟩ => blkAt T m ρ c (3 : Fin 6) t
    | ⟨4, _⟩ => blkAt T m ρ c (4 : Fin 6) t
    | ⟨5, _⟩ => (held T m ρ c t.val t.isLt)
  Φ t := inv T m ρ c t
  q _ := fullShare
  owed _ := 0

theorem after0 (c : Dev nD) (t : Fin (cfgA T).N) : (data T m ρ 0 c).after (0 : Fin 6) t = blkAt T m ρ c (0 : Fin 6) t := rfl
theorem after1 (c : Dev nD) (t : Fin (cfgA T).N) : (data T m ρ 0 c).after (1 : Fin 6) t = blkAt T m ρ c (1 : Fin 6) t := rfl
theorem after2 (c : Dev nD) (t : Fin (cfgA T).N) : (data T m ρ 0 c).after (2 : Fin 6) t = blkAt T m ρ c (2 : Fin 6) t := rfl
theorem after3 (c : Dev nD) (t : Fin (cfgA T).N) : (data T m ρ 0 c).after (3 : Fin 6) t = blkAt T m ρ c (3 : Fin 6) t := rfl
theorem after4 (c : Dev nD) (t : Fin (cfgA T).N) : (data T m ρ 0 c).after (4 : Fin 6) t = blkAt T m ρ c (4 : Fin 6) t := rfl
theorem after5 (c : Dev nD) (t : Fin (cfgA T).N) : (data T m ρ 0 c).after (5 : Fin 6) t = (held T m ρ c t.val t.isLt) := rfl

/-- Input window 0's buffer holds its block. -/
theorem before0 (c : Dev nD) (t : Fin (cfgA T).N) (d) : (data T m ρ 0 c).before (0 : Fin 6) t d = blkAt T m ρ c (0 : Fin 6) t :=
  ((data T m ρ 0 c).before_in_eq_fetched (0 : Fin 6) rfl (fun _ => rfl) (fun _ _ _ => rfl) (fun t => by rw [after0]; unfold Dat.blockOf blkAt; rfl) t d).trans
    (by unfold Dat.fetched Dat.blockOf blkAt; rfl)

/-- Input window 1's buffer holds its block. -/
theorem before1 (c : Dev nD) (t : Fin (cfgA T).N) (d) : (data T m ρ 0 c).before (1 : Fin 6) t d = blkAt T m ρ c (1 : Fin 6) t :=
  ((data T m ρ 0 c).before_in_eq_fetched (1 : Fin 6) rfl (fun _ => rfl) (fun _ _ _ => rfl) (fun t => by rw [after1]; unfold Dat.blockOf blkAt; rfl) t d).trans
    (by unfold Dat.fetched Dat.blockOf blkAt; rfl)

/-- Input window 2's buffer holds its block. -/
theorem before2 (c : Dev nD) (t : Fin (cfgA T).N) (d) : (data T m ρ 0 c).before (2 : Fin 6) t d = blkAt T m ρ c (2 : Fin 6) t :=
  ((data T m ρ 0 c).before_in_eq_fetched (2 : Fin 6) rfl (fun _ => rfl) (fun _ _ _ => rfl) (fun t => by rw [after2]; unfold Dat.blockOf blkAt; rfl) t d).trans
    (by unfold Dat.fetched Dat.blockOf blkAt; rfl)

/-- Input window 3's buffer holds its block. -/
theorem before3 (c : Dev nD) (t : Fin (cfgA T).N) (d) : (data T m ρ 0 c).before (3 : Fin 6) t d = blkAt T m ρ c (3 : Fin 6) t :=
  ((data T m ρ 0 c).before_in_eq_fetched (3 : Fin 6) rfl (fun _ => rfl) (fun _ _ _ => rfl) (fun t => by rw [after3]; unfold Dat.blockOf blkAt; rfl) t d).trans
    (by unfold Dat.fetched Dat.blockOf blkAt; rfl)

/-- Input window 4's buffer holds its block. -/
theorem before4 (c : Dev nD) (t : Fin (cfgA T).N) (d) : (data T m ρ 0 c).before (4 : Fin 6) t d = blkAt T m ρ c (4 : Fin 6) t :=
  ((data T m ρ 0 c).before_in_eq_fetched (4 : Fin 6) rfl (fun _ => rfl) (fun _ _ _ => rfl) (fun t => by rw [after4]; unfold Dat.blockOf blkAt; rfl) t d).trans
    (by unfold Dat.fetched Dat.blockOf blkAt; rfl)

/-- An idle point leaves the output buffer as the point before did. -/
theorem carry (c : Dev nD) : ∀ (t : Fin (cfgA T).N) (ht : t.val ≠ 0), (cfgA T).idle (5 : Fin 6) ((cfgA T).grid.coords t) = true → (cfgA T).fresh (5 : Fin 6) t.val = false →
    (data T m ρ 0 c).after (5 : Fin 6) t = (data T m ρ 0 c).after (5 : Fin 6) ⟨t.val - 1, by omega⟩ := by
  intro t ht hi hf
  rw [after5, after5, held_eq]
  by_cases q0 : Used T (crd T t)
  · by_cases q1 : First T t
    · obtain ⟨i5, -, -⟩ := schedA T t q0 q1
      rw [i5] at hi; exact absurd hi (by decide)
    · obtain ⟨i5, -⟩ := schedB T t q0 q1
      rw [i5] at hi; exact absurd hi (by decide)
  · by_cases q1 : First T t
    · obtain ⟨i5, -, -⟩ := schedC T t q0 q1
      rw [i5] at hi; exact absurd hi (by decide)
    · rw [stepOutD T m ρ c t _ q0 q1]
      simp only [hf, Bool.false_eq_true, ↓reduceIte]
      unfold heldBefore; rw [dif_neg ht]

/-- What the output buffer holds when the body starts. -/
theorem before5 (c : Dev nD) (t : Fin (cfgA T).N) (d) :
    (data T m ρ 0 c).before (5 : Fin 6) t d = if (cfgA T).fresh (5 : Fin 6) t.val then d else (heldBefore T m ρ c t) := by
  rw [(data T m ρ 0 c).before_out_traj (5 : Fin 6) rfl (fun _ _ => rfl) (carry T m ρ c) t.val t rfl d]
  by_cases hf : (cfgA T).fresh (5 : Fin 6) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after5]; unfold heldBefore; rw [dif_neg h0]

/-- The body at a point. -/
abbrev bodyAt (t : Fin (cfgA T).N) : Prog (TpuEff nD τ sig (Elt Bits) Λ₀ .tc) PUnit :=
  cc0_experts (crd T t) (Memref.whole main_arg0) (Memref.isWhole_whole _) (Memref.whole main_arg1) (Memref.isWhole_whole _) (stg0 T t) (whole0 T t) (stg1 T t) (whole1 T t) (stg2 T t) (whole2 T t) (stg3 T t) (whole3 T t) (stg4 T t) (whole4 T t) (stg5 T t) (whole5 T t)

set_option maxHeartbeats 4000000 in
/-- The body at every point, path by path: it leaves the inputs and puts in the output buffer what the recursion says. -/
theorem body_ok (hp : Holds T m) (c : Dev nD) (t : Fin (cfgA T).N) :
    iprop((data T m ρ 0 c).Φ t.castSucc ∗ (data T m ρ 0 c).owesAt () t.castSucc
        ∗ (∃ d, owns (c : Thread nD τ) (stg0 T t) fullShare ((data T m ρ 0 c).before (0 : Fin 6) t d))
        ∗ (∃ d, owns (c : Thread nD τ) (stg1 T t) fullShare ((data T m ρ 0 c).before (1 : Fin 6) t d))
        ∗ (∃ d, owns (c : Thread nD τ) (stg2 T t) fullShare ((data T m ρ 0 c).before (2 : Fin 6) t d))
        ∗ (∃ d, owns (c : Thread nD τ) (stg3 T t) fullShare ((data T m ρ 0 c).before (3 : Fin 6) t d))
        ∗ (∃ d, owns (c : Thread nD τ) (stg4 T t) fullShare ((data T m ρ 0 c).before (4 : Fin 6) t d))
        ∗ (∃ d, owns (c : Thread nD τ) (stg5 T t) fullShare ((data T m ρ 0 c).before (5 : Fin 6) t d)))
      ⊢ wp frame (wpE (defs₀ (F := Bits)) Variants.none c none) Set.univ (bodyAt T t) fun _ =>
          iprop((data T m ρ 0 c).Φ t.succ ∗ (data T m ρ 0 c).owesAt () t.succ
            ∗ bigSep Finset.univ fun w : Fin (cfgA T).W =>
                match (cfgA T).idle w ((cfgA T).grid.coords t) with
                | true =>
                  match ((cfgA T).win w).flush t with
                  | false => iprop(∃ d, owns (c : Thread nD τ) (((cfgA T).win w).stage ((cfgA T).slots t w)) fullShare ((data T m ρ 0 c).before w t d))
                  | true => owns (c : Thread nD τ) (((cfgA T).win w).stage ((cfgA T).slots t w)) fullShare ((data T m ρ 0 c).after w t)
                | false => owns (c : Thread nD τ) (((cfgA T).win w).stage ((cfgA T).slots t w)) fullShare ((data T m ρ 0 c).after w t)) := by
  rw [bigSep_W0]
  by_cases q0 : Used T (crd T t)
  · by_cases q1 : First T t
    · obtain ⟨i5, f5, fr5⟩ := schedA T t q0 q1
      have F0 := pathA T t q0 q1
      have k0_h1 := F0.1; have F1 := F0.2
      have k0_h2 := F1.1; have F2 := F1.2
      have k0_h3 := F2.1; have F3 := F2.2
      have k0_h4 := F3
      clear F0 F1 F2 F3
      rewrite [i5]
      simp only [before0, before1, before2, before3, before4, before5, after0, after1, after2, after3, after4, after5, f5]
      simp only [fr5, Bool.false_eq_true, ↓reduceIte]
      rewrite [show (data T m ρ 0 c).Φ t.succ = inv T m ρ c t.succ from rfl, show (data T m ρ 0 c).Φ t.castSucc = inv T m ρ c t.castSucc from rfl,
        show (data T m ρ 0 c).owesAt () t.succ = (data T m ρ 0 c).owesAt () t.castSucc from rfl]
      try rewrite [held_eq, stepOutA T m ρ c t _ q0 q1]
      unfold inv; simp only [heldAt_castSucc, heldAt_succ, held_eq, stepOutA T m ρ c t _ q0 q1, Fin.val_castSucc, Fin.val_succ]
      iintro ⟨⟨HT0, HT1⟩, Ho, ⟨%d0, H0⟩, ⟨%d1, H1⟩, ⟨%d2, H2⟩, ⟨%d3, H3⟩, ⟨%d4, H4⟩, ⟨%d5, H5⟩⟩
      iapply ((kernelRun0_A c (crd T t) (stg0 T t) (whole0 T t) (stg1 T t) (whole1 T t) (stg2 T t) (whole2 T t) (stg3 T t) (whole3 T t) (stg4 T t) (whole4 T t) (stg5 T t) (whole5 T t) T.tg T.tv (blkAt T m ρ c (0 : Fin 6) t) (blkAt T m ρ c (1 : Fin 6) t) (blkAt T m ρ c (2 : Fin 6) t) (blkAt T m ρ c (3 : Fin 6) t) (blkAt T m ρ c (4 : Fin 6) t) k0_h1 k0_h2 k0_h3 k0_h4).2 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexists _; iexact H5
      iintro ⟨H0, H1, H2, H3, H4, HT0, HT1, ⟨%e5, H5⟩⟩
      isplitl [HT0 HT1]
      · isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      unfold owns; iexists _; isplitr; swap
      · iexact H5
      · ipureintro; exact View.read_writes_of_cover _ _ _ _ _ (cover0_A_5 c _ _ _ _ _ _ _ _ _ _ _ _ _ _ _ _ _ _ _ _ _ _ _ _)
    · obtain ⟨i5, fr5⟩ := schedB T t q0 q1
      have F0 := pathB T t q0 q1
      have k0_h1 := F0.1; have F1 := F0.2
      have k0_h2 := F1.1; have F2 := F1.2
      have k0_h3 := F2.1; have F3 := F2.2
      have k0_h4 := F3
      clear F0 F1 F2 F3
      rewrite [i5]
      simp only [before0, before1, before2, before3, before4, before5, after0, after1, after2, after3, after4, after5]
      simp only [fr5, Bool.false_eq_true, ↓reduceIte]
      rewrite [show (data T m ρ 0 c).Φ t.succ = inv T m ρ c t.succ from rfl, show (data T m ρ 0 c).Φ t.castSucc = inv T m ρ c t.castSucc from rfl,
        show (data T m ρ 0 c).owesAt () t.succ = (data T m ρ 0 c).owesAt () t.castSucc from rfl]
      try rewrite [held_eq, stepOutB T m ρ c t _ q0 q1]
      unfold inv; simp only [heldAt_castSucc, heldAt_succ, held_eq, stepOutB T m ρ c t _ q0 q1, Fin.val_castSucc, Fin.val_succ]
      iintro ⟨⟨HT0, HT1⟩, Ho, ⟨%d0, H0⟩, ⟨%d1, H1⟩, ⟨%d2, H2⟩, ⟨%d3, H3⟩, ⟨%d4, H4⟩, ⟨%d5, H5⟩⟩
      iapply ((kernelRun0_B c (crd T t) (stg0 T t) (whole0 T t) (stg1 T t) (whole1 T t) (stg2 T t) (whole2 T t) (stg3 T t) (whole3 T t) (stg4 T t) (whole4 T t) (stg5 T t) (whole5 T t) T.tg T.tv (blkAt T m ρ c (0 : Fin 6) t) (blkAt T m ρ c (1 : Fin 6) t) (blkAt T m ρ c (2 : Fin 6) t) (blkAt T m ρ c (3 : Fin 6) t) (blkAt T m ρ c (4 : Fin 6) t) _ k0_h1 k0_h2 k0_h3 k0_h4).2 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexact H5
      iintro ⟨H0, H1, H2, H3, H4, HT0, HT1, ⟨%e5, H5⟩⟩
      isplitl [HT0 HT1]
      · isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      unfold owns; iexists _; isplitr; swap
      · iexact H5
      · ipureintro; exact View.read_writes_of_cover _ _ _ _ _ (cover0_B_5 c _ _ _ _ _ _ _ _ _ _ _ _ _ _ _ _ _ _ _ _ _ _ _ _ _)
  · by_cases q1 : First T t
    · obtain ⟨i5, f5, fr5⟩ := schedC T t q0 q1
      have F0 := pathC T t q0 q1
      have k0_h1 := F0.1; have F1 := F0.2
      have k0_h4 := F1
      clear F0 F1
      rewrite [i5]
      simp only [before0, before1, before2, before3, before4, before5, after0, after1, after2, after3, after4, after5, f5]
      simp only [fr5, Bool.false_eq_true, ↓reduceIte]
      rewrite [show (data T m ρ 0 c).Φ t.succ = inv T m ρ c t.succ from rfl, show (data T m ρ 0 c).Φ t.castSucc = inv T m ρ c t.castSucc from rfl,
        show (data T m ρ 0 c).owesAt () t.succ = (data T m ρ 0 c).owesAt () t.castSucc from rfl]
      try rewrite [held_eq, stepOutC T m ρ c t _ q0 q1]
      unfold inv; simp only [heldAt_castSucc, heldAt_succ, held_eq, stepOutC T m ρ c t _ q0 q1, Fin.val_castSucc, Fin.val_succ]
      iintro ⟨⟨HT0, HT1⟩, Ho, ⟨%d0, H0⟩, ⟨%d1, H1⟩, ⟨%d2, H2⟩, ⟨%d3, H3⟩, ⟨%d4, H4⟩, ⟨%d5, H5⟩⟩
      iapply ((kernelRun0_C c (crd T t) (stg0 T t) (whole0 T t) (stg1 T t) (whole1 T t) (stg2 T t) (whole2 T t) (stg3 T t) (whole3 T t) (stg4 T t) (whole4 T t) (stg5 T t) (whole5 T t) T.tg T.tv (blkAt T m ρ c (0 : Fin 6) t) (blkAt T m ρ c (1 : Fin 6) t) (blkAt T m ρ c (2 : Fin 6) t) (blkAt T m ρ c (3 : Fin 6) t) (blkAt T m ρ c (4 : Fin 6) t) k0_h1 k0_h4).2 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexists _; iexact H5
      iintro ⟨H0, H1, H2, H3, H4, HT0, HT1, ⟨%e5, H5⟩⟩
      isplitl [HT0 HT1]
      · isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      unfold owns; iexists _; isplitr; swap
      · iexact H5
      · ipureintro; exact View.read_writes_of_cover _ _ _ _ _ (cover0_C_5 c _ _ _ _ _ _ _ _ _ _ _ _ _ _ _ _ _ _ _ _ _ _)
    · obtain ⟨i5, fr5⟩ := schedD T t q0 q1
      have F0 := pathD T t q0 q1
      have k0_h1 := F0.1; have F1 := F0.2
      have k0_h4 := F1
      clear F0 F1
      cases f5 : ((cfgA T).win (5 : Fin 6)).flush t
      · rewrite [i5]
        simp only [before0, before1, before2, before3, before4, before5, after0, after1, after2, after3, after4, after5, f5]
        simp only [fr5, Bool.false_eq_true, ↓reduceIte]
        rewrite [show (data T m ρ 0 c).Φ t.succ = inv T m ρ c t.succ from rfl, show (data T m ρ 0 c).Φ t.castSucc = inv T m ρ c t.castSucc from rfl,
          show (data T m ρ 0 c).owesAt () t.succ = (data T m ρ 0 c).owesAt () t.castSucc from rfl]
        try rewrite [held_eq, stepOutD T m ρ c t _ q0 q1]
        unfold inv; simp only [heldAt_castSucc, heldAt_succ, held_eq, stepOutD T m ρ c t _ q0 q1, Fin.val_castSucc, Fin.val_succ]
        iintro ⟨⟨HT0, HT1⟩, Ho, ⟨%d0, H0⟩, ⟨%d1, H1⟩, ⟨%d2, H2⟩, ⟨%d3, H3⟩, ⟨%d4, H4⟩, ⟨%d5, H5⟩⟩
        iapply ((kernelRun0_D c (crd T t) (stg0 T t) (whole0 T t) (stg1 T t) (whole1 T t) (stg2 T t) (whole2 T t) (stg3 T t) (whole3 T t) (stg4 T t) (whole4 T t) (stg5 T t) (whole5 T t) T.tg T.tv (blkAt T m ρ c (0 : Fin 6) t) (blkAt T m ρ c (1 : Fin 6) t) (blkAt T m ρ c (2 : Fin 6) t) (blkAt T m ρ c (3 : Fin 6) t) (blkAt T m ρ c (4 : Fin 6) t) k0_h1 k0_h4).2 _ _)
        isplitl [H0]; · iapply rep_of_owns; iexact H0
        isplitl [H1]; · iapply rep_of_owns; iexact H1
        isplitl [H2]; · iapply rep_of_owns; iexact H2
        isplitl [H3]; · iapply rep_of_owns; iexact H3
        isplitl [H4]; · iapply rep_of_owns; iexact H4
        isplitl [HT0]; · iexact HT0
        isplitl [HT1]; · iexact HT1
        isplitl [H5]; · iexact H5
        iintro ⟨H0, H1, H2, H3, H4, HT0, HT1, H5⟩
        isplitl [HT0 HT1]
        · isplitl [HT0]
          · iexact HT0
          iexact HT1
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        isplitl [H4]
        · iapply owns_of_rep; iexact H4
        first | (iexists d5; iexact H5) | iexact H5
      · rewrite [i5]
        simp only [before0, before1, before2, before3, before4, before5, after0, after1, after2, after3, after4, after5, f5]
        simp only [fr5, Bool.false_eq_true, ↓reduceIte]
        rewrite [show (data T m ρ 0 c).Φ t.succ = inv T m ρ c t.succ from rfl, show (data T m ρ 0 c).Φ t.castSucc = inv T m ρ c t.castSucc from rfl,
          show (data T m ρ 0 c).owesAt () t.succ = (data T m ρ 0 c).owesAt () t.castSucc from rfl]
        try rewrite [held_eq, stepOutD T m ρ c t _ q0 q1]
        unfold inv; simp only [heldAt_castSucc, heldAt_succ, held_eq, stepOutD T m ρ c t _ q0 q1, Fin.val_castSucc, Fin.val_succ, fr5, Bool.false_eq_true, ↓reduceIte]
        iintro ⟨⟨HT0, HT1⟩, Ho, ⟨%d0, H0⟩, ⟨%d1, H1⟩, ⟨%d2, H2⟩, ⟨%d3, H3⟩, ⟨%d4, H4⟩, ⟨%d5, H5⟩⟩
        iapply ((kernelRun0_D c (crd T t) (stg0 T t) (whole0 T t) (stg1 T t) (whole1 T t) (stg2 T t) (whole2 T t) (stg3 T t) (whole3 T t) (stg4 T t) (whole4 T t) (stg5 T t) (whole5 T t) T.tg T.tv (blkAt T m ρ c (0 : Fin 6) t) (blkAt T m ρ c (1 : Fin 6) t) (blkAt T m ρ c (2 : Fin 6) t) (blkAt T m ρ c (3 : Fin 6) t) (blkAt T m ρ c (4 : Fin 6) t) k0_h1 k0_h4).2 _ _)
        isplitl [H0]; · iapply rep_of_owns; iexact H0
        isplitl [H1]; · iapply rep_of_owns; iexact H1
        isplitl [H2]; · iapply rep_of_owns; iexact H2
        isplitl [H3]; · iapply rep_of_owns; iexact H3
        isplitl [H4]; · iapply rep_of_owns; iexact H4
        isplitl [HT0]; · iexact HT0
        isplitl [HT1]; · iexact HT1
        isplitl [H5]; · iexact H5
        iintro ⟨H0, H1, H2, H3, H4, HT0, HT1, H5⟩
        isplitl [HT0 HT1]
        · isplitl [HT0]
          · iexact HT0
          iexact HT1
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        isplitl [H4]
        · iapply owns_of_rep; iexact H4
        first | (iexists d5; iexact H5) | iexact H5

/-- The body at every point, as the pipeline asks. -/
theorem body_all (hp : Holds T m) (c : Dev nD) : BodyObligation (data T m ρ 0 c) (defs₀ (F := Bits)) Variants.none () Set.univ := fun t => by
  rw [bigSep_W0]
  exact body_ok T m ρ hp c t

/-- The launch element. -/
def u₀ : UR sig nD τ :=
  initOf (Pipeline.cells (pipes T) ((launch0 (F := Bits)).cellOf_inj fun _ => adm T))
    (Pipeline.launchToks (pipes T) ((launch0 (F := Bits)).cellOf_inj fun _ => adm T))

/-- Every array is held whole. -/
theorem share_full (c : Dev nD) (w : Fin (cfgA T).W) : (data T m ρ 0 c).share w = fullShare := by unfold Dat.share; split <;> rfl

/-- The two tables as the launch hands them over. -/
theorem tables_held (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The tables give the first invariant. -/
theorem inv_start (c : Dev nD) :
    iprop(BI.emp ∗ Pipeline.prefHeld pre0 c (fun _ => fullShare.right) (adm T).1 ∗ Pipeline.scopedRest spec0 c) ⊢ (data T m ρ 0 c).Φ 0 := by
  rw [tables_held, scopedRest0_eq, show (data T m ρ 0 c).Φ 0 = inv T m ρ c 0 from rfl]
  unfold inv
  iintro ⟨-, ⟨HT0, HT1⟩, -⟩
  isplitl [HT0]
  · iexact HT0
  iexact HT1

/-- The last invariant is let go. -/
theorem inv_end (c : Dev nD) : (data T m ρ 0 c).Φ (Fin.last (cfgA T).N) ⊢ iprop(BI.emp ∗ Pipeline.scopedRest spec0 c) := by
  rw [scopedRest0_eq, show (data T m ρ 0 c).Φ (Fin.last (cfgA T).N) = inv T m ρ c (Fin.last _) from rfl]
  unfold inv
  iintro ⟨-, -⟩
  isplitr; · iempintro
  iempintro

/-- The state at the end: every array as the pipeline computes it, the tables as launched. -/
def Final : PUnit × MemSt nD τ sig (Elt Bits) → Prop := fun r =>
  ∀ c : Dev nD, (∀ w : Fin (cfgA T).W, r.2.mem (((cfgA T).win w).arr.view.loc (c : Thread nD τ)) = (data T m ρ 0 c).arrAt w (cfgA T).N)
    ∧ ∀ j, r.2.mem ((c : Thread nD τ).loc (pre0.ref j)) = (adm T).1 j

/-- The tables at launch are the ones the pipeline runs at. -/
theorem tables_kept (hp : Holds T m) (c : Dev nD) (j : Fin 2) : m ((c : Thread nD τ).loc (pre0.ref j)) = (adm T).1 j := by
  fin_cases j
  · exact hp.1 c
  · exact hp.2 c

set_option backward.isDefEq.respectTransparency.types false in
set_option maxHeartbeats 4000000 in
/-- Every fair execution ends with the arrays computed and every counter at zero. -/
theorem run_zero (hp : Holds T m) : θ_run (defs (F := Bits)) (onTc (τ := τ) (main (F := Bits))) (s₀ m ρ) (fun r => Final T m ρ r ∧ r.2.sem = fun _ => 0) :=
  Pipeline.θ_run_region_noSem_pf_quiescent pcfgs (fun _ => adm T) (data T m ρ) () ((launch0 (F := Bits)).cellOf_inj fun _ => adm T) (0 : Fin 1)
    (launch0 (F := Bits)).win.to₀ (launch0 (F := Bits)).pre EP defs₀ Variants.none m ρ main
    (hbody := fun c => (body_all T m ρ hp c).loose) (hne := (launch0 (F := Bits)).block_pos)
    (harr := (launch0 (F := Bits)).arr_whole) (hstage := (launch0 (F := Bits)).stage_whole) (howed := fun _ _ => rfl)
    (u₀ := u₀ T) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pipes T) (data T m ρ) 0 (launch0 (F := Bits)).win.arr_inj c (launch0 (F := Bits)).arr_whole
      (share_full T m ρ c) _ _ fun _ => rfl)
    (hpf := tables_kept T m hp)
    (X := fun _ => iprop(emp)) (Y := fun _ => iprop(emp)) (Z := fun _ => iprop(emp))
    (hX := fun c => by rw [unscopedRestP0_eq]; iintro -; isplitr <;> iempintro)
    (hin := inv_start T m ρ)
    (hout := inv_end T m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The same without the counters. -/
theorem run (hp : Holds T m) : θ_run (defs (F := Bits)) (onTc (τ := τ) (main (F := Bits))) (s₀ m ρ) (Final T m ρ) :=
  (θ_run defs _ _).mono (fun _ h => h.1) (run_zero T m ρ hp)

/-- Every argument ends unchanged. -/
theorem args_kept (hp : Holds T m) :
    θ_run (defs (F := Bits)) (onTc (τ := τ) (main (F := Bits))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 0).trans (hp.1 c).symm, ((h c).2 1).trans (hp.2 c).symm, ((h c).1 (0 : Fin 6)).trans ((data T m ρ 0 c).arrAt_in (0 : Fin 6) rfl _), ((h c).1 (1 : Fin 6)).trans ((data T m ρ 0 c).arrAt_in (1 : Fin 6) rfl _), ((h c).1 (2 : Fin 6)).trans ((data T m ρ 0 c).arrAt_in (2 : Fin 6) rfl _), ((h c).1 (3 : Fin 6)).trans ((data T m ρ 0 c).arrAt_in (3 : Fin 6) rfl _), ((h c).1 (4 : Fin 6)).trans ((data T m ρ 0 c).arrAt_in (4 : Fin 6) rfl _)⟩) (run T m ρ hp)

/-- The frame: every fair execution ends, with the arguments unchanged and every counter at zero. -/
theorem frame (hp : Holds T m) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (args_kept T m ρ hp) ((θ_run defs _ _).mono (fun _ h => h.2) (run_zero T m ρ hp))

end Cert.Experts.Tables

end
-- ==== Proof.ExpertsIdealTables.lean ====
/- The expert call's tables: any group numbers below four and any use flags that are zero or one. The pipeline at such
   tables, its blocks, and what every grid point's flag word decides. -/
module

public import proofs.«01_k».proof.Proof.Gen.ExpertsIdeal
public import proofs.«01_k».proof.Proof.Gen.ExpertsIdeal.Flash.Runs
public import Idealize.ShloMosaic.Lib.Pipeline.Kit
public import Idealize.ShloMosaic.Lib.Pipeline.TableIdle
public import Idealize.ShloMosaic.Lib.Pipeline.FrameBody
public import Idealize.ShloMosaic.Lib.Affine
public import Idealize.ShloMosaic.Lib.Decide

@[expose] public section

set_option maxRecDepth 16384

noncomputable section

namespace Cert.ExpertsIdeal.Tables

open Cert.ExpertsIdeal Cert.ExpertsIdeal.Gen
open Idealize.ShloMosaic
open Idealize.ShloMosaic.TcCoe
open Idealize.SL.Sem
open Idealize.ShloMosaic.Pipeline (Cfg Window)

/-- A pair of tables in range: the group of every tile, and whether the tile is used. -/
structure Tab where
  /-- the group of each tile -/
  tg : S21.Idx → BitVec 32
  /-- whether each tile is used -/
  tv : S21.Idx → BitVec 32
  tg_lt : ∀ x, (tg x).toNat < 4
  tv_01 : ∀ x, tv x = 0#32 ∨ tv x = 1#32

/-- The tables as the call is handed them. -/
def pf (T : Tab) : pre0.Contents (Elt Ideal) := fun | ⟨0, _⟩ => T.tg | ⟨1, _⟩ => T.tv | ⟨_ + 2, h⟩ => absurd h (by simp)

/-- The tile a grid point works on, as an index of the tables. -/
def tile (i : grid0.Coords) : S21.Idx := fun a => match a with | ⟨0, _⟩ => ⟨(i 0).val, (i 0).isLt⟩

/-- The word the weight windows' index maps read: the tile's group. -/
theorem at_tg (T : Tab) (i : grid0.Coords) (h) (h1) : (pf T).at 0 (Rect.unit (s := S21) (k0_off1 i) S1.size h) h1 = T.tg (tile i) := by
  show T.tg _ = T.tg _
  congr 1
  funext a
  match a with
  | ⟨0, _⟩ => apply Fin.ext; show k0_off1 i 0 + 1 * 0 = (i 0).val; rw [congrFun (k0_off1_eq i) 0]; rfl

/-- The first read of the flag table by the body: the tile's flag. -/
theorem read_tv1 (T : Tab) (i : grid0.Coords) (h) : View.readAt (Elt Ideal) (tbM0_1).view (Rect.unit (s := S21) (k0_off1 i) S1.size h).toLoadRect T.tv (Shape.Idx.first (numel1_S1.symm ▸ Nat.one_pos)) = T.tv (tile i) := by
  rw [View.readAt_apply]
  show T.tv _ = T.tv _
  congr 1
  funext a
  match a with
  | ⟨0, _⟩ => apply Fin.ext; show k0_off1 i 0 + 1 * 0 = (i 0).val; rw [congrFun (k0_off1_eq i) 0]; rfl

/-- The second read of the flag table by the body: the same flag. -/
theorem read_tv2 (T : Tab) (i : grid0.Coords) (h) : View.readAt (Elt Ideal) (tbM0_1).view (Rect.unit (s := S21) (k0_off2 i) S1.size h).toLoadRect T.tv (Shape.Idx.first (numel1_S1.symm ▸ Nat.one_pos)) = T.tv (tile i) :=
  read_tv1 T i h

/-- The flag word as the idle table reads it. -/
theorem atD_tv (T : Tab) (i : grid0.Coords) : (pf T).atD 1 (k0_off1 i) = T.tv (tile i) := by
  have hb : ∀ a, k0_off1 i a + 1 ≤ S21.size a := fun a => match a with | ⟨0, _⟩ => k0_off1_inb i 0
  show (if h : ∀ a, k0_off1 i a + 1 ≤ S21.size a then T.tv (fun a => ⟨k0_off1 i a, h a⟩) else default) = _
  rw [dif_pos hb]
  congr 1
  funext a
  match a with
  | ⟨0, _⟩ => apply Fin.ext; show k0_off1 i 0 = (i 0).val; rw [congrFun (k0_off1_eq i) 0]; rfl

/-- Window 2's block at a grid point: the tile's group and the column chunk. -/
theorem map2 (T : Tab) (i : grid0.Coords) : cc0_transform_2 k0_off1_inb numel1_S1 (pf T) i = ![(T.tg (tile i)).toNat, 0, (BitVec.ofNat 32 (i 1).val).toNat] :=
  congrArg (fun z : BitVec 32 => (![z.toNat, 0, (BitVec.ofNat 32 (i 1).val).toNat] : Fin 3 → ℕ)) (at_tg T i (k0_off1_inb i) numel1_S1)

/-- Window 3's block at a grid point: the tile's group and the column chunk. -/
theorem map3 (T : Tab) (i : grid0.Coords) : cc0_transform_3 k0_off1_inb numel1_S1 (pf T) i = ![(T.tg (tile i)).toNat, 0, (BitVec.ofNat 32 (i 1).val).toNat] :=
  congrArg (fun z : BitVec 32 => (![z.toNat, 0, (BitVec.ofNat 32 (i 1).val).toNat] : Fin 3 → ℕ)) (at_tg T i (k0_off1_inb i) numel1_S1)

/-- Window 4's block at a grid point: the tile's group and the column chunk. -/
theorem map4 (T : Tab) (i : grid0.Coords) : cc0_transform_4 k0_off1_inb numel1_S1 (pf T) i = ![(T.tg (tile i)).toNat, (BitVec.ofNat 32 (i 1).val).toNat, 0] :=
  congrArg (fun z : BitVec 32 => (![z.toNat, (BitVec.ofNat 32 (i 1).val).toNat, 0] : Fin 3 → ℕ)) (at_tg T i (k0_off1_inb i) numel1_S1)

/-- The blocks of weight window 2 lie inside the array: the group is below four, the chunk below six. -/
theorem block2_in (T : Tab) (i : grid0.Coords) : ∀ a, (cc0_transform_2 k0_off1_inb numel1_S1 (pf T) i a + 1) * S1x4096x256.size a ≤ S4x4096x1536.size a := by
  have hc : (BitVec.ofNat 32 (i 1).val).toNat < 6 := by
    have h1 : (i 1).val < 6 := (i 1).isLt
    rw [BitVec.toNat_ofNat]; omega
  have hg := T.tg_lt (tile i)
  intro a
  rw [map2]
  match a with
  | ⟨0, _⟩ => show ((T.tg (tile i)).toNat + 1) * 1 ≤ 4; omega
  | ⟨1, _⟩ => show (0 + 1) * 4096 ≤ 4096; omega
  | ⟨2, _⟩ => show ((BitVec.ofNat 32 (i 1).val).toNat + 1) * 256 ≤ 1536; omega

/-- The blocks of weight window 3 lie inside the array: the group is below four, the chunk below six. -/
theorem block3_in (T : Tab) (i : grid0.Coords) : ∀ a, (cc0_transform_3 k0_off1_inb numel1_S1 (pf T) i a + 1) * S1x4096x256.size a ≤ S4x4096x1536.size a := by
  have hc : (BitVec.ofNat 32 (i 1).val).toNat < 6 := by
    have h1 : (i 1).val < 6 := (i 1).isLt
    rw [BitVec.toNat_ofNat]; omega
  have hg := T.tg_lt (tile i)
  intro a
  rw [map3]
  match a with
  | ⟨0, _⟩ => show ((T.tg (tile i)).toNat + 1) * 1 ≤ 4; omega
  | ⟨1, _⟩ => show (0 + 1) * 4096 ≤ 4096; omega
  | ⟨2, _⟩ => show ((BitVec.ofNat 32 (i 1).val).toNat + 1) * 256 ≤ 1536; omega

/-- The blocks of weight window 4 lie inside the array: the group is below four, the chunk below six. -/
theorem block4_in (T : Tab) (i : grid0.Coords) : ∀ a, (cc0_transform_4 k0_off1_inb numel1_S1 (pf T) i a + 1) * S1x256x4096.size a ≤ S4x1536x4096.size a := by
  have hc : (BitVec.ofNat 32 (i 1).val).toNat < 6 := by
    have h1 : (i 1).val < 6 := (i 1).isLt
    rw [BitVec.toNat_ofNat]; omega
  have hg := T.tg_lt (tile i)
  intro a
  rw [map4]
  match a with
  | ⟨0, _⟩ => show ((T.tg (tile i)).toNat + 1) * 1 ≤ 4; omega
  | ⟨1, _⟩ => show ((BitVec.ofNat 32 (i 1).val).toNat + 1) * 256 ≤ 1536; omega
  | ⟨2, _⟩ => show (0 + 1) * 4096 ≤ 4096; omega

/-- Tables in range are admissible: every weight block is inside its array, at whole words. -/
theorem ok (T : Tab) : ok0 (F := Ideal) (pf T) :=
  ⟨fun i => ⟨block2_in T i, .inr (Affine.block_words_dvd (s := S4x4096x1536) (p := EltTy.packing .bf16) (by decide) (by decide))⟩,
   fun i => ⟨block3_in T i, .inr (Affine.block_words_dvd (s := S4x4096x1536) (p := EltTy.packing .bf16) (by decide) (by decide))⟩,
   fun i => ⟨block4_in T i, .inr (Affine.block_words_dvd (s := S4x1536x4096) (p := EltTy.packing .bf16) (by decide) (by decide))⟩⟩

/-- The tables as contents the pipeline admits. -/
def adm (T : Tab) : (pcfg0 (F := Ideal)).Adm := ⟨pf T, ok T⟩

/-- The pipeline at the tables. -/
abbrev cfgA (T : Tab) : Pipeline.Cfg sig Λ₀ := cfg0 (F := Ideal) (adm T)

/-- A point's coordinates. -/
abbrev crd (T : Tab) (t : Fin (cfgA T).N) : (cfgA T).grid.Coords := (cfgA T).grid.coords t

/-- What a point's position alone decides: the body's conditions on the column chunk, the kept-tile condition at a flag
    of zero and of one, and where the output block is written back (the last chunk of a tile). -/
theorem closed : ∀ t : Fin grid0.N,
    (k0_cond2 (grid0.coords t) = 1#1 ↔ t.val % 6 = 0) ∧ (k0_cond3 (grid0.coords t) = 1#1 ↔ ¬ t.val % 6 = 0)
    ∧ (k0_cond4 (grid0.coords t) 0#32 = 1#1 ↔ t.val % 6 = 0) ∧ ¬ k0_cond4 (grid0.coords t) 1#32 = 1#1
    ∧ Window.flushOf grid0 true cc0_transform_5 t = decide (t.val % 6 = 5)
    ∧ (grid0.coords t 0).val = t.val / 6 ∧ (grid0.coords t 1).val = t.val % 6 := by decide +kernel

/-- The tile of a point is in use. -/
abbrev Used (T : Tab) (i : grid0.Coords) : Prop := T.tv (tile i) = 1#32

theorem unused (T : Tab) (i : grid0.Coords) (h : ¬ Used T i) : T.tv (tile i) = 0#32 := (T.tv_01 _).resolve_right h

/-- In a used tile the body takes the computing branch, -/
theorem cond1_used (T : Tab) (i : grid0.Coords) (h : Used T i) : k0_cond1 (View.readAt (Elt Ideal) (tbM0_1).view (Rect.unit (s := S21) (k0_off1 i) S1.size (k0_off1_inb i)).toLoadRect T.tv (Shape.Idx.first (numel1_S1.symm ▸ Nat.one_pos))) = 1#1 := by
  rw [read_tv1, h]; decide

/-- and in an unused one it does not. -/
theorem cond1_unused (T : Tab) (i : grid0.Coords) (h : ¬ Used T i) : ¬ k0_cond1 (View.readAt (Elt Ideal) (tbM0_1).view (Rect.unit (s := S21) (k0_off1 i) S1.size (k0_off1_inb i)).toLoadRect T.tv (Shape.Idx.first (numel1_S1.symm ▸ Nat.one_pos))) = 1#1 := by
  rw [read_tv1, unused T i h]; decide

/-- A used tile is never zeroed. -/
theorem cond4_used (T : Tab) (t : Fin grid0.N) (i : grid0.Coords) (hi : i = grid0.coords t) (h : Used T i) : ¬ k0_cond4 i (View.readAt (Elt Ideal) (tbM0_1).view (Rect.unit (s := S21) (k0_off2 i) S1.size (k0_off2_inb i)).toLoadRect T.tv (Shape.Idx.first (numel1_S1.symm ▸ Nat.one_pos))) = 1#1 := by
  rw [read_tv2, h, hi]; exact (closed t).2.2.2.1

/-- An unused tile is zeroed at its first chunk only. -/
theorem cond4_unused (T : Tab) (t : Fin grid0.N) (i : grid0.Coords) (hi : i = grid0.coords t) (h : ¬ Used T i) : k0_cond4 i (View.readAt (Elt Ideal) (tbM0_1).view (Rect.unit (s := S21) (k0_off2 i) S1.size (k0_off2_inb i)).toLoadRect T.tv (Shape.Idx.first (numel1_S1.symm ▸ Nat.one_pos))) = 1#1 ↔ t.val % 6 = 0 := by
  rw [read_tv2, unused T i h, hi]; exact (closed t).2.2.1

/-- The output block is written back at a tile's last chunk. -/
theorem flush5 (T : Tab) (t : Fin (cfgA T).N) : ((cfgA T).win (5 : Fin 6)).flush t = decide (t.val % 6 = 5) :=
  (Window.flush_eq_flushOf _ t).trans (closed t).2.2.2.2.1

/-- The body stores nothing exactly at an unused tile past its first chunk. -/
theorem idle5 (T : Tab) (t : Fin (cfgA T).N) : (cfgA T).idle (5 : Fin 6) (crd T t) = decide (¬ Used T (crd T t) ∧ ¬ t.val % 6 = 0) := by
  have hi : (cfgA T).idle (5 : Fin 6) (crd T t) = (!(k0_cond1 (T.tv (tile (crd T t))) == 1#1 && k0_cond2 (crd T t) == 1#1) && !(k0_cond1 (T.tv (tile (crd T t))) == 1#1 && k0_cond3 (crd T t) == 1#1) && !(k0_cond4 (crd T t) (T.tv (tile (crd T t))) == 1#1)) := by
    conv_rhs => rw [← atD_tv T (crd T t)]
    rfl
  rw [hi]
  have hc := closed t
  have hw := T.tv_01 (tile (crd T t))
  show _ = decide (¬ T.tv (tile (crd T t)) = 1#32 ∧ ¬ t.val % 6 = 0)
  generalize T.tv (tile (crd T t)) = w at hw ⊢
  have e0 : k0_cond1 0#32 = 0#1 := by decide
  have e1 : k0_cond1 1#32 = 1#1 := by decide
  rcases hw with rfl | rfl
  · rw [e0]
    by_cases hz : t.val % 6 = 0
    · rw [show k0_cond4 (crd T t) 0#32 = 1#1 from hc.2.2.1.2 hz]; simp [hz]
    · have h4 : ¬ k0_cond4 (crd T t) 0#32 = 1#1 := fun q => hz (hc.2.2.1.1 q)
      simp [hz, h4]
  · rw [e1]
    by_cases hz : t.val % 6 = 0
    · rw [show k0_cond2 (crd T t) = 1#1 from hc.1.2 hz]; simp [hz]
    · rw [show k0_cond3 (crd T t) = 1#1 from hc.2.1.2 hz]; simp [hz]

/-- Nothing has been stored since the last write-back exactly before a tile's first chunk. -/
theorem fresh5 (T : Tab) (t : Fin (cfgA T).N) : (cfgA T).fresh (5 : Fin 6) t.val = decide (t.val % 6 = 0) := by
  refine Pipeline.Cfg.fresh_tab (cfgA T) (5 : Fin 6) (fun n => decide (n % 6 = 0)) rfl (fun t => ?_) t.val (Nat.le_of_lt t.isLt)
  rw [flush5, idle5]
  by_cases h : Used T (crd T t)
  · rw [Bool.eq_iff_iff]; simp [h]; omega
  · rw [Bool.eq_iff_iff]; simp [h]; omega

end Cert.ExpertsIdeal.Tables

end
-- ==== Proof.ExpertsIdealFrame.lean ====
/- The expert call at any tables in range: what its output buffer holds point by point, the body's obligation, and the
   frame. -/
module

public import proofs.«01_k».proof.Proof.ExpertsIdealTables
public import proofs.«01_k».proof.Proof.Gen.ExpertsIdeal.Launch
public import Idealize.ShloMosaic.Lib.Pipeline.Quiescent
public import Idealize.ShloMosaic.Lib.Claim
public import Idealize.ShloMosaic.Lib.Writes
public import Idealize.ShloMosaic.Lib.Ring
public import Idealize.ShloMosaic.Lib.Exec
public import Idealize.ShloMosaic.Lib.Tactic
public import Idealize.ShloMosaic.PureOps.BitExact
public import Idealize.ShloMosaic.Adequacy
public import Idealize.ShloMosaic.Init

@[expose] public section

set_option maxRecDepth 16384
set_option Elab.async false

noncomputable section

namespace Cert.ExpertsIdeal.Tables

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The kind of assertion the proof is written in. -/
local notation "𝕄" => MT nD τ sig Unit (Elt Ideal) ℕ (UR sig nD τ) ℕ

/-- The resource algebra of the pipeline's staging cells. -/
abbrev EP : Emb (UR sig nD τ) 𝕄 := emb₁

variable (T : Tab)

/-- @main's one pipeline at the tables. -/
abbrev pipes : Fin 1 → Pipeline.Cfg sig Λ₀ := Pipeline.pin (pcfgs (F := Ideal)) fun _ => adm T

variable (m : (ℓ : Loc nD τ sig) → Buf (Elt Ideal) ℓ) (ρ : Dev nD → PrngReg)

/-- Window 0's staging buffer at a point, -/
abbrev stg0 (t : Fin (cfgA T).N) : Memref sig .tc .vmem S512x4096 .bf16 := spec0_0.stage ((cfgA T).slots t (0 : Fin 6))
/-- and that it is a whole buffer. -/
abbrev whole0 (t : Fin (cfgA T).N) : (stg0 T t).IsWhole := hstage0_0 (((cfgA T).slots t (0 : Fin 6)).cast nbuf0_0)
/-- Window 1's staging buffer at a point, -/
abbrev stg1 (t : Fin (cfgA T).N) : Memref sig .tc .vmem S512x128 .f32 := spec0_1.stage ((cfgA T).slots t (1 : Fin 6))
/-- and that it is a whole buffer. -/
abbrev whole1 (t : Fin (cfgA T).N) : (stg1 T t).IsWhole := hstage0_1 (((cfgA T).slots t (1 : Fin 6)).cast nbuf0_1)
/-- Window 2's staging buffer at a point, -/
abbrev stg2 (t : Fin (cfgA T).N) : Memref sig .tc .vmem S1x4096x256 .bf16 := spec0_2.stage ((cfgA T).slots t (2 : Fin 6))
/-- and that it is a whole buffer. -/
abbrev whole2 (t : Fin (cfgA T).N) : (stg2 T t).IsWhole := hstage0_2 (((cfgA T).slots t (2 : Fin 6)).cast nbuf0_2)
/-- Window 3's staging buffer at a point, -/
abbrev stg3 (t : Fin (cfgA T).N) : Memref sig .tc .vmem S1x4096x256 .bf16 := spec0_3.stage ((cfgA T).slots t (3 : Fin 6))
/-- and that it is a whole buffer. -/
abbrev whole3 (t : Fin (cfgA T).N) : (stg3 T t).IsWhole := hstage0_3 (((cfgA T).slots t (3 : Fin 6)).cast nbuf0_3)
/-- Window 4's staging buffer at a point, -/
abbrev stg4 (t : Fin (cfgA T).N) : Memref sig .tc .vmem S1x256x4096 .bf16 := spec0_4.stage ((cfgA T).slots t (4 : Fin 6))
/-- and that it is a whole buffer. -/
abbrev whole4 (t : Fin (cfgA T).N) : (stg4 T t).IsWhole := hstage0_4 (((cfgA T).slots t (4 : Fin 6)).cast nbuf0_4)
/-- Window 5's staging buffer at a point, -/
abbrev stg5 (t : Fin (cfgA T).N) : Memref sig .tc .vmem S512x4096 .f32 := spec0_5.stage ((cfgA T).slots t (5 : Fin 6))
/-- and that it is a whole buffer. -/
abbrev whole5 (t : Fin (cfgA T).N) : (stg5 T t).IsWhole := hstage0_5 (((cfgA T).slots t (5 : Fin 6)).cast nbuf0_5)

/-- A window's block at a point, as launched. -/
def blkAt (c : Dev nD) (w : Fin (cfgA T).W) (t : Fin (cfgA T).N) : (((cfgA T).win w).xblock (crd T t)).Idx → Elt Ideal ((cfgA T).win w).elt :=
  (((cfgA T).win w).blk t).view.read (Elt Ideal) ((s₀ m ρ).mem (((cfgA T).win w).arr.view.loc (c : Thread nD τ)))

/-- The launch memory holds the tables. -/
def Holds (m : (ℓ : Loc nD τ sig) → Buf (Elt Ideal) ℓ) : Prop :=
  (∀ c : Dev nD, m ((c : Thread nD τ).loc main_arg0) = T.tg) ∧ (∀ c : Dev nD, m ((c : Thread nD τ).loc main_arg1) = T.tv)

/-- A point at a tile's first chunk. -/
abbrev First (t : Fin (cfgA T).N) : Prop := t.val % 6 = 0

/-- The body's conditions at the first chunk of a used tile, -/
theorem pathA (t : Fin (cfgA T).N) (q0 : Used T (crd T t)) (q1 : First T t) :
    (k0_cond1 (View.readAt (Elt Ideal) (tbM0_1).view (Rect.unit (s := S21) (k0_off1 (crd T t)) S1.size (k0_off1_inb (crd T t))).toLoadRect T.tv (Shape.Idx.first (numel1_S1.symm ▸ Nat.one_pos))) = 1#1) ∧ (k0_cond2 (crd T t) = 1#1) ∧ (¬(k0_cond3 (crd T t) = 1#1)) ∧ (¬(k0_cond4 (crd T t) (View.readAt (Elt Ideal) (tbM0_1).view (Rect.unit (s := S21) (k0_off2 (crd T t)) S1.size (k0_off2_inb (crd T t))).toLoadRect T.tv (Shape.Idx.first (numel1_S1.symm ▸ Nat.one_pos))) = 1#1)) :=
  ⟨cond1_used T _ q0, (closed t).1.2 q1, fun h => (closed t).2.1.1 h q1, cond4_used T t _ rfl q0⟩

/-- at a later chunk of a used tile, -/
theorem pathB (t : Fin (cfgA T).N) (q0 : Used T (crd T t)) (q1 : ¬First T t) :
    (k0_cond1 (View.readAt (Elt Ideal) (tbM0_1).view (Rect.unit (s := S21) (k0_off1 (crd T t)) S1.size (k0_off1_inb (crd T t))).toLoadRect T.tv (Shape.Idx.first (numel1_S1.symm ▸ Nat.one_pos))) = 1#1) ∧ (¬(k0_cond2 (crd T t) = 1#1)) ∧ (k0_cond3 (crd T t) = 1#1) ∧ (¬(k0_cond4 (crd T t) (View.readAt (Elt Ideal) (tbM0_1).view (Rect.unit (s := S21) (k0_off2 (crd T t)) S1.size (k0_off2_inb (crd T t))).toLoadRect T.tv (Shape.Idx.first (numel1_S1.symm ▸ Nat.one_pos))) = 1#1)) :=
  ⟨cond1_used T _ q0, fun h => q1 ((closed t).1.1 h), (closed t).2.1.2 q1, cond4_used T t _ rfl q0⟩

/-- at the first chunk of an unused tile, -/
theorem pathC (t : Fin (cfgA T).N) (q0 : ¬Used T (crd T t)) (q1 : First T t) :
    (¬(k0_cond1 (View.readAt (Elt Ideal) (tbM0_1).view (Rect.unit (s := S21) (k0_off1 (crd T t)) S1.size (k0_off1_inb (crd T t))).toLoadRect T.tv (Shape.Idx.first (numel1_S1.symm ▸ Nat.one_pos))) = 1#1)) ∧ (k0_cond4 (crd T t) (View.readAt (Elt Ideal) (tbM0_1).view (Rect.unit (s := S21) (k0_off2 (crd T t)) S1.size (k0_off2_inb (crd T t))).toLoadRect T.tv (Shape.Idx.first (numel1_S1.symm ▸ Nat.one_pos))) = 1#1) :=
  ⟨cond1_unused T _ q0, (cond4_unused T t _ rfl q0).2 q1⟩

/-- and at a later chunk of an unused tile. -/
theorem pathD (t : Fin (cfgA T).N) (q0 : ¬Used T (crd T t)) (q1 : ¬First T t) :
    (¬(k0_cond1 (View.readAt (Elt Ideal) (tbM0_1).view (Rect.unit (s := S21) (k0_off1 (crd T t)) S1.size (k0_off1_inb (crd T t))).toLoadRect T.tv (Shape.Idx.first (numel1_S1.symm ▸ Nat.one_pos))) = 1#1)) ∧ (¬(k0_cond4 (crd T t) (View.readAt (Elt Ideal) (tbM0_1).view (Rect.unit (s := S21) (k0_off2 (crd T t)) S1.size (k0_off2_inb (crd T t))).toLoadRect T.tv (Shape.Idx.first (numel1_S1.symm ▸ Nat.one_pos))) = 1#1)) :=
  ⟨cond1_unused T _ q0, fun h => q1 ((cond4_unused T t _ rfl q0).1 h)⟩

/-- A first chunk is not written back. -/
theorem keep_first (t : Fin (cfgA T).N) (q1 : First T t) : ((cfgA T).win (5 : Fin 6)).flush t = false := by
  rw [flush5]; exact decide_eq_false (by have h : t.val % 6 = 0 := q1; omega)

/-- The schedule at the first chunk of a used tile, -/
theorem schedA (t : Fin (cfgA T).N) (q0 : Used T (crd T t)) (q1 : First T t) :
    (cfgA T).idle (5 : Fin 6) ((cfgA T).grid.coords t) = false ∧ ((cfgA T).win (5 : Fin 6)).flush t = false ∧ (cfgA T).fresh (5 : Fin 6) t.val = true :=
  ⟨(idle5 T t).trans (decide_eq_false fun h => h.1 q0), keep_first T t q1, (fresh5 T t).trans (decide_eq_true q1)⟩

/-- at a later chunk of a used tile, -/
theorem schedB (t : Fin (cfgA T).N) (q0 : Used T (crd T t)) (q1 : ¬First T t) :
    (cfgA T).idle (5 : Fin 6) ((cfgA T).grid.coords t) = false ∧ (cfgA T).fresh (5 : Fin 6) t.val = false :=
  ⟨(idle5 T t).trans (decide_eq_false fun h => h.1 q0), (fresh5 T t).trans (decide_eq_false q1)⟩

/-- at the first chunk of an unused tile, -/
theorem schedC (t : Fin (cfgA T).N) (q0 : ¬Used T (crd T t)) (q1 : First T t) :
    (cfgA T).idle (5 : Fin 6) ((cfgA T).grid.coords t) = false ∧ ((cfgA T).win (5 : Fin 6)).flush t = false ∧ (cfgA T).fresh (5 : Fin 6) t.val = true :=
  ⟨(idle5 T t).trans (decide_eq_false fun h => h.2 q1), keep_first T t q1, (fresh5 T t).trans (decide_eq_true q1)⟩

/-- and at a later chunk of an unused tile. -/
theorem schedD (t : Fin (cfgA T).N) (q0 : ¬Used T (crd T t)) (q1 : ¬First T t) :
    (cfgA T).idle (5 : Fin 6) ((cfgA T).grid.coords t) = true ∧ (cfgA T).fresh (5 : Fin 6) t.val = false :=
  ⟨(idle5 T t).trans (decide_eq_true ⟨q0, q1⟩), (fresh5 T t).trans (decide_eq_false q1)⟩

/-- What the output buffer holds after a point, from what it held before: the first chunk of a used tile stores its product, a later one adds, the first chunk of an unused tile stores zeros, and a later one leaves the buffer alone. -/
def stepOut (c : Dev nD) (t : Fin (cfgA T).N) (prev : (S512x4096.Idx → Elt Ideal .f32)) : (S512x4096.Idx → Elt Ideal .f32) :=
  if q0 : Used T (crd T t) then
    if q1 : First T t then
      out0_A_5 c (crd T t) (stg0 T t) (whole0 T t) (stg1 T t) (whole1 T t) (stg2 T t) (whole2 T t) (stg3 T t) (whole3 T t) (stg4 T t) (whole4 T t) (stg5 T t) (whole5 T t) T.tg T.tv (blkAt T m ρ c (0 : Fin 6) t) (blkAt T m ρ c (1 : Fin 6) t) (blkAt T m ρ c (2 : Fin 6) t) (blkAt T m ρ c (3 : Fin 6) t) (blkAt T m ρ c (4 : Fin 6) t) (pathA T t q0 q1).1 (pathA T t q0 q1).2.1 (pathA T t q0 q1).2.2.1 (pathA T t q0 q1).2.2.2
    else
      out0_B_5 c (crd T t) (stg0 T t) (whole0 T t) (stg1 T t) (whole1 T t) (stg2 T t) (whole2 T t) (stg3 T t) (whole3 T t) (stg4 T t) (whole4 T t) (stg5 T t) (whole5 T t) T.tg T.tv (blkAt T m ρ c (0 : Fin 6) t) (blkAt T m ρ c (1 : Fin 6) t) (blkAt T m ρ c (2 : Fin 6) t) (blkAt T m ρ c (3 : Fin 6) t) (blkAt T m ρ c (4 : Fin 6) t) prev (pathB T t q0 q1).1 (pathB T t q0 q1).2.1 (pathB T t q0 q1).2.2.1 (pathB T t q0 q1).2.2.2
  else
    if q1 : First T t then
      out0_C_5 c (crd T t) (stg0 T t) (whole0 T t) (stg1 T t) (whole1 T t) (stg2 T t) (whole2 T t) (stg3 T t) (whole3 T t) (stg4 T t) (whole4 T t) (stg5 T t) (whole5 T t) T.tg T.tv (blkAt T m ρ c (0 : Fin 6) t) (blkAt T m ρ c (1 : Fin 6) t) (blkAt T m ρ c (2 : Fin 6) t) (blkAt T m ρ c (3 : Fin 6) t) (blkAt T m ρ c (4 : Fin 6) t) (pathC T t q0 q1).1 (pathC T t q0 q1).2
    else
      (if (cfgA T).fresh (5 : Fin 6) t.val then default else prev)

/-- What the output buffer holds after each position. -/
def held (c : Dev nD) : (n : ℕ) → n < (cfgA T).N → (S512x4096.Idx → Elt Ideal .f32)
  | 0, h => stepOut T m ρ c ⟨0, h⟩ default
  | n + 1, h => stepOut T m ρ c ⟨n + 1, h⟩ (held c n (Nat.lt_of_succ_lt h))

/-- What it held before a point. -/
def heldBefore (c : Dev nD) (t : Fin (cfgA T).N) : (S512x4096.Idx → Elt Ideal .f32) :=
  if h : t.val = 0 then default else held T m ρ c (t.val - 1) (by omega)

/-- One step of the recursion. -/
theorem held_eq (c : Dev nD) (t : Fin (cfgA T).N) : held T m ρ c t.val t.isLt = stepOut T m ρ c t (heldBefore T m ρ c t) := by
  obtain ⟨n, hn⟩ := t
  cases n with
  | zero => rfl
  | succ n => unfold heldBefore; simp only [Nat.add_one_ne_zero, dif_neg, not_false_eq_true]; rfl

/-- The step at the first chunk of a used tile. -/
theorem stepOutA (c : Dev nD) (t : Fin (cfgA T).N) (prev : (S512x4096.Idx → Elt Ideal .f32)) (q0 : Used T (crd T t)) (q1 : First T t) :
    stepOut T m ρ c t prev = out0_A_5 c (crd T t) (stg0 T t) (whole0 T t) (stg1 T t) (whole1 T t) (stg2 T t) (whole2 T t) (stg3 T t) (whole3 T t) (stg4 T t) (whole4 T t) (stg5 T t) (whole5 T t) T.tg T.tv (blkAt T m ρ c (0 : Fin 6) t) (blkAt T m ρ c (1 : Fin 6) t) (blkAt T m ρ c (2 : Fin 6) t) (blkAt T m ρ c (3 : Fin 6) t) (blkAt T m ρ c (4 : Fin 6) t) (pathA T t q0 q1).1 (pathA T t q0 q1).2.1 (pathA T t q0 q1).2.2.1 (pathA T t q0 q1).2.2.2 := by
  unfold stepOut; simp only [dif_pos q0, dif_pos q1]

/-- The step at a later chunk of a used tile. -/
theorem stepOutB (c : Dev nD) (t : Fin (cfgA T).N) (prev : (S512x4096.Idx → Elt Ideal .f32)) (q0 : Used T (crd T t)) (q1 : ¬First T t) :
    stepOut T m ρ c t prev = out0_B_5 c (crd T t) (stg0 T t) (whole0 T t) (stg1 T t) (whole1 T t) (stg2 T t) (whole2 T t) (stg3 T t) (whole3 T t) (stg4 T t) (whole4 T t) (stg5 T t) (whole5 T t) T.tg T.tv (blkAt T m ρ c (0 : Fin 6) t) (blkAt T m ρ c (1 : Fin 6) t) (blkAt T m ρ c (2 : Fin 6) t) (blkAt T m ρ c (3 : Fin 6) t) (blkAt T m ρ c (4 : Fin 6) t) prev (pathB T t q0 q1).1 (pathB T t q0 q1).2.1 (pathB T t q0 q1).2.2.1 (pathB T t q0 q1).2.2.2 := by
  unfold stepOut; simp only [dif_pos q0, dif_neg q1]

/-- The step at the first chunk of an unused tile. -/
theorem stepOutC (c : Dev nD) (t : Fin (cfgA T).N) (prev : (S512x4096.Idx → Elt Ideal .f32)) (q0 : ¬Used T (crd T t)) (q1 : First T t) :
    stepOut T m ρ c t prev = out0_C_5 c (crd T t) (stg0 T t) (whole0 T t) (stg1 T t) (whole1 T t) (stg2 T t) (whole2 T t) (stg3 T t) (whole3 T t) (stg4 T t) (whole4 T t) (stg5 T t) (whole5 T t) T.tg T.tv (blkAt T m ρ c (0 : Fin 6) t) (blkAt T m ρ c (1 : Fin 6) t) (blkAt T m ρ c (2 : Fin 6) t) (blkAt T m ρ c (3 : Fin 6) t) (blkAt T m ρ c (4 : Fin 6) t) (pathC T t q0 q1).1 (pathC T t q0 q1).2 := by
  unfold stepOut; simp only [dif_neg q0, dif_pos q1]

/-- The step at a later chunk of an unused tile. -/
theorem stepOutD (c : Dev nD) (t : Fin (cfgA T).N) (prev : (S512x4096.Idx → Elt Ideal .f32)) (q0 : ¬Used T (crd T t)) (q1 : ¬First T t) :
    stepOut T m ρ c t prev = (if (cfgA T).fresh (5 : Fin 6) t.val then default else prev) := by
  unfold stepOut; simp only [dif_neg q0, dif_neg q1]

/-- What the buffer held before a position, the end included. -/
def heldAt (c : Dev nD) (t : Fin ((cfgA T).N + 1)) : (S512x4096.Idx → Elt Ideal .f32) :=
  if h : t.val = 0 then default else held T m ρ c (t.val - 1) (by omega)

theorem heldAt_castSucc (c : Dev nD) (t : Fin (cfgA T).N) : heldAt T m ρ c t.castSucc = heldBefore T m ρ c t := by
  unfold heldAt heldBefore; simp only [Fin.val_castSucc]
theorem heldAt_succ (c : Dev nD) (t : Fin (cfgA T).N) : heldAt T m ρ c t.succ = held T m ρ c t.val t.isLt := by
  unfold heldAt; simp only [Fin.val_succ, Nat.add_one_ne_zero, ↓reduceDIte, Nat.add_one_sub_one]

/-- Between the points the body keeps its half of both tables. -/
def inv (m : (ℓ : Loc nD τ sig) → Buf (Elt Ideal) ℓ) (ρ : Dev nD → PrngReg) (c : Dev nD) (t : Fin ((cfgA T).N + 1)) : sProp 𝕄 :=
  iprop((tbM0_0.view.loc (c : Thread nD τ) ↦{fullShare.right} T.tg) ∗ (tbM0_1.view.loc (c : Thread nD τ) ↦{fullShare.right} T.tv))

/-- The pipeline's proof data: every input block as launched, the output buffer as computed. -/
def data (_ : Fin 1) (c : Dev nD) : Dat τ (Elt Ideal) Unit ℕ (UR sig nD τ) ℕ (cfgA T) c where
  A w := (s₀ m ρ).mem (((cfgA T).win w).arr.view.loc (c : Thread nD τ))
  after w t := match w with
    | ⟨0, _⟩ => blkAt T m ρ c (0 : Fin 6) t
    | ⟨1, _⟩ => blkAt T m ρ c (1 : Fin 6) t
    | ⟨2, _⟩ => blkAt T m ρ c (2 : Fin 6) t
    | ⟨3, _⟩ => blkAt T m ρ c (3 : Fin 6) t
    | ⟨4, _⟩ => blkAt T m ρ c (4 : Fin 6) t
    | ⟨5, _⟩ => (held T m ρ c t.val t.isLt)
  Φ t := inv T m ρ c t
  q _ := fullShare
  owed _ := 0

theorem after0 (c : Dev nD) (t : Fin (cfgA T).N) : (data T m ρ 0 c).after (0 : Fin 6) t = blkAt T m ρ c (0 : Fin 6) t := rfl
theorem after1 (c : Dev nD) (t : Fin (cfgA T).N) : (data T m ρ 0 c).after (1 : Fin 6) t = blkAt T m ρ c (1 : Fin 6) t := rfl
theorem after2 (c : Dev nD) (t : Fin (cfgA T).N) : (data T m ρ 0 c).after (2 : Fin 6) t = blkAt T m ρ c (2 : Fin 6) t := rfl
theorem after3 (c : Dev nD) (t : Fin (cfgA T).N) : (data T m ρ 0 c).after (3 : Fin 6) t = blkAt T m ρ c (3 : Fin 6) t := rfl
theorem after4 (c : Dev nD) (t : Fin (cfgA T).N) : (data T m ρ 0 c).after (4 : Fin 6) t = blkAt T m ρ c (4 : Fin 6) t := rfl
theorem after5 (c : Dev nD) (t : Fin (cfgA T).N) : (data T m ρ 0 c).after (5 : Fin 6) t = (held T m ρ c t.val t.isLt) := rfl

/-- Input window 0's buffer holds its block. -/
theorem before0 (c : Dev nD) (t : Fin (cfgA T).N) (d) : (data T m ρ 0 c).before (0 : Fin 6) t d = blkAt T m ρ c (0 : Fin 6) t :=
  ((data T m ρ 0 c).before_in_eq_fetched (0 : Fin 6) rfl (fun _ => rfl) (fun _ _ _ => rfl) (fun t => by rw [after0]; unfold Dat.blockOf blkAt; rfl) t d).trans
    (by unfold Dat.fetched Dat.blockOf blkAt; rfl)

/-- Input window 1's buffer holds its block. -/
theorem before1 (c : Dev nD) (t : Fin (cfgA T).N) (d) : (data T m ρ 0 c).before (1 : Fin 6) t d = blkAt T m ρ c (1 : Fin 6) t :=
  ((data T m ρ 0 c).before_in_eq_fetched (1 : Fin 6) rfl (fun _ => rfl) (fun _ _ _ => rfl) (fun t => by rw [after1]; unfold Dat.blockOf blkAt; rfl) t d).trans
    (by unfold Dat.fetched Dat.blockOf blkAt; rfl)

/-- Input window 2's buffer holds its block. -/
theorem before2 (c : Dev nD) (t : Fin (cfgA T).N) (d) : (data T m ρ 0 c).before (2 : Fin 6) t d = blkAt T m ρ c (2 : Fin 6) t :=
  ((data T m ρ 0 c).before_in_eq_fetched (2 : Fin 6) rfl (fun _ => rfl) (fun _ _ _ => rfl) (fun t => by rw [after2]; unfold Dat.blockOf blkAt; rfl) t d).trans
    (by unfold Dat.fetched Dat.blockOf blkAt; rfl)

/-- Input window 3's buffer holds its block. -/
theorem before3 (c : Dev nD) (t : Fin (cfgA T).N) (d) : (data T m ρ 0 c).before (3 : Fin 6) t d = blkAt T m ρ c (3 : Fin 6) t :=
  ((data T m ρ 0 c).before_in_eq_fetched (3 : Fin 6) rfl (fun _ => rfl) (fun _ _ _ => rfl) (fun t => by rw [after3]; unfold Dat.blockOf blkAt; rfl) t d).trans
    (by unfold Dat.fetched Dat.blockOf blkAt; rfl)

/-- Input window 4's buffer holds its block. -/
theorem before4 (c : Dev nD) (t : Fin (cfgA T).N) (d) : (data T m ρ 0 c).before (4 : Fin 6) t d = blkAt T m ρ c (4 : Fin 6) t :=
  ((data T m ρ 0 c).before_in_eq_fetched (4 : Fin 6) rfl (fun _ => rfl) (fun _ _ _ => rfl) (fun t => by rw [after4]; unfold Dat.blockOf blkAt; rfl) t d).trans
    (by unfold Dat.fetched Dat.blockOf blkAt; rfl)

/-- An idle point leaves the output buffer as the point before did. -/
theorem carry (c : Dev nD) : ∀ (t : Fin (cfgA T).N) (ht : t.val ≠ 0), (cfgA T).idle (5 : Fin 6) ((cfgA T).grid.coords t) = true → (cfgA T).fresh (5 : Fin 6) t.val = false →
    (data T m ρ 0 c).after (5 : Fin 6) t = (data T m ρ 0 c).after (5 : Fin 6) ⟨t.val - 1, by omega⟩ := by
  intro t ht hi hf
  rw [after5, after5, held_eq]
  by_cases q0 : Used T (crd T t)
  · by_cases q1 : First T t
    · obtain ⟨i5, -, -⟩ := schedA T t q0 q1
      rw [i5] at hi; exact absurd hi (by decide)
    · obtain ⟨i5, -⟩ := schedB T t q0 q1
      rw [i5] at hi; exact absurd hi (by decide)
  · by_cases q1 : First T t
    · obtain ⟨i5, -, -⟩ := schedC T t q0 q1
      rw [i5] at hi; exact absurd hi (by decide)
    · rw [stepOutD T m ρ c t _ q0 q1]
      simp only [hf, Bool.false_eq_true, ↓reduceIte]
      unfold heldBefore; rw [dif_neg ht]

/-- What the output buffer holds when the body starts. -/
theorem before5 (c : Dev nD) (t : Fin (cfgA T).N) (d) :
    (data T m ρ 0 c).before (5 : Fin 6) t d = if (cfgA T).fresh (5 : Fin 6) t.val then d else (heldBefore T m ρ c t) := by
  rw [(data T m ρ 0 c).before_out_traj (5 : Fin 6) rfl (fun _ _ => rfl) (carry T m ρ c) t.val t rfl d]
  by_cases hf : (cfgA T).fresh (5 : Fin 6) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after5]; unfold heldBefore; rw [dif_neg h0]

/-- The body at a point. -/
abbrev bodyAt (t : Fin (cfgA T).N) : Prog (TpuEff nD τ sig (Elt Ideal) Λ₀ .tc) PUnit :=
  cc0_experts (crd T t) (Memref.whole main_arg0) (Memref.isWhole_whole _) (Memref.whole main_arg1) (Memref.isWhole_whole _) (stg0 T t) (whole0 T t) (stg1 T t) (whole1 T t) (stg2 T t) (whole2 T t) (stg3 T t) (whole3 T t) (stg4 T t) (whole4 T t) (stg5 T t) (whole5 T t)

set_option maxHeartbeats 4000000 in
/-- The body at every point, path by path: it leaves the inputs and puts in the output buffer what the recursion says. -/
theorem body_ok (hp : Holds T m) (c : Dev nD) (t : Fin (cfgA T).N) :
    iprop((data T m ρ 0 c).Φ t.castSucc ∗ (data T m ρ 0 c).owesAt () t.castSucc
        ∗ (∃ d, owns (c : Thread nD τ) (stg0 T t) fullShare ((data T m ρ 0 c).before (0 : Fin 6) t d))
        ∗ (∃ d, owns (c : Thread nD τ) (stg1 T t) fullShare ((data T m ρ 0 c).before (1 : Fin 6) t d))
        ∗ (∃ d, owns (c : Thread nD τ) (stg2 T t) fullShare ((data T m ρ 0 c).before (2 : Fin 6) t d))
        ∗ (∃ d, owns (c : Thread nD τ) (stg3 T t) fullShare ((data T m ρ 0 c).before (3 : Fin 6) t d))
        ∗ (∃ d, owns (c : Thread nD τ) (stg4 T t) fullShare ((data T m ρ 0 c).before (4 : Fin 6) t d))
        ∗ (∃ d, owns (c : Thread nD τ) (stg5 T t) fullShare ((data T m ρ 0 c).before (5 : Fin 6) t d)))
      ⊢ wp frame (wpE (defs₀ (F := Ideal)) Variants.none c none) Set.univ (bodyAt T t) fun _ =>
          iprop((data T m ρ 0 c).Φ t.succ ∗ (data T m ρ 0 c).owesAt () t.succ
            ∗ bigSep Finset.univ fun w : Fin (cfgA T).W =>
                match (cfgA T).idle w ((cfgA T).grid.coords t) with
                | true =>
                  match ((cfgA T).win w).flush t with
                  | false => iprop(∃ d, owns (c : Thread nD τ) (((cfgA T).win w).stage ((cfgA T).slots t w)) fullShare ((data T m ρ 0 c).before w t d))
                  | true => owns (c : Thread nD τ) (((cfgA T).win w).stage ((cfgA T).slots t w)) fullShare ((data T m ρ 0 c).after w t)
                | false => owns (c : Thread nD τ) (((cfgA T).win w).stage ((cfgA T).slots t w)) fullShare ((data T m ρ 0 c).after w t)) := by
  rw [bigSep_W0]
  by_cases q0 : Used T (crd T t)
  · by_cases q1 : First T t
    · obtain ⟨i5, f5, fr5⟩ := schedA T t q0 q1
      have F0 := pathA T t q0 q1
      have k0_h1 := F0.1; have F1 := F0.2
      have k0_h2 := F1.1; have F2 := F1.2
      have k0_h3 := F2.1; have F3 := F2.2
      have k0_h4 := F3
      clear F0 F1 F2 F3
      rewrite [i5]
      simp only [before0, before1, before2, before3, before4, before5, after0, after1, after2, after3, after4, after5, f5]
      simp only [fr5, Bool.false_eq_true, ↓reduceIte]
      rewrite [show (data T m ρ 0 c).Φ t.succ = inv T m ρ c t.succ from rfl, show (data T m ρ 0 c).Φ t.castSucc = inv T m ρ c t.castSucc from rfl,
        show (data T m ρ 0 c).owesAt () t.succ = (data T m ρ 0 c).owesAt () t.castSucc from rfl]
      try rewrite [held_eq, stepOutA T m ρ c t _ q0 q1]
      unfold inv; simp only [heldAt_castSucc, heldAt_succ, held_eq, stepOutA T m ρ c t _ q0 q1, Fin.val_castSucc, Fin.val_succ]
      iintro ⟨⟨HT0, HT1⟩, Ho, ⟨%d0, H0⟩, ⟨%d1, H1⟩, ⟨%d2, H2⟩, ⟨%d3, H3⟩, ⟨%d4, H4⟩, ⟨%d5, H5⟩⟩
      iapply ((kernelRun0_A c (crd T t) (stg0 T t) (whole0 T t) (stg1 T t) (whole1 T t) (stg2 T t) (whole2 T t) (stg3 T t) (whole3 T t) (stg4 T t) (whole4 T t) (stg5 T t) (whole5 T t) T.tg T.tv (blkAt T m ρ c (0 : Fin 6) t) (blkAt T m ρ c (1 : Fin 6) t) (blkAt T m ρ c (2 : Fin 6) t) (blkAt T m ρ c (3 : Fin 6) t) (blkAt T m ρ c (4 : Fin 6) t) k0_h1 k0_h2 k0_h3 k0_h4).2 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexists _; iexact H5
      iintro ⟨H0, H1, H2, H3, H4, HT0, HT1, ⟨%e5, H5⟩⟩
      isplitl [HT0 HT1]
      · isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      unfold owns; iexists _; isplitr; swap
      · iexact H5
      · ipureintro; exact View.read_writes_of_cover _ _ _ _ _ (cover0_A_5 c _ _ _ _ _ _ _ _ _ _ _ _ _ _ _ _ _ _ _ _ _ _ _ _)
    · obtain ⟨i5, fr5⟩ := schedB T t q0 q1
      have F0 := pathB T t q0 q1
      have k0_h1 := F0.1; have F1 := F0.2
      have k0_h2 := F1.1; have F2 := F1.2
      have k0_h3 := F2.1; have F3 := F2.2
      have k0_h4 := F3
      clear F0 F1 F2 F3
      rewrite [i5]
      simp only [before0, before1, before2, before3, before4, before5, after0, after1, after2, after3, after4, after5]
      simp only [fr5, Bool.false_eq_true, ↓reduceIte]
      rewrite [show (data T m ρ 0 c).Φ t.succ = inv T m ρ c t.succ from rfl, show (data T m ρ 0 c).Φ t.castSucc = inv T m ρ c t.castSucc from rfl,
        show (data T m ρ 0 c).owesAt () t.succ = (data T m ρ 0 c).owesAt () t.castSucc from rfl]
      try rewrite [held_eq, stepOutB T m ρ c t _ q0 q1]
      unfold inv; simp only [heldAt_castSucc, heldAt_succ, held_eq, stepOutB T m ρ c t _ q0 q1, Fin.val_castSucc, Fin.val_succ]
      iintro ⟨⟨HT0, HT1⟩, Ho, ⟨%d0, H0⟩, ⟨%d1, H1⟩, ⟨%d2, H2⟩, ⟨%d3, H3⟩, ⟨%d4, H4⟩, ⟨%d5, H5⟩⟩
      iapply ((kernelRun0_B c (crd T t) (stg0 T t) (whole0 T t) (stg1 T t) (whole1 T t) (stg2 T t) (whole2 T t) (stg3 T t) (whole3 T t) (stg4 T t) (whole4 T t) (stg5 T t) (whole5 T t) T.tg T.tv (blkAt T m ρ c (0 : Fin 6) t) (blkAt T m ρ c (1 : Fin 6) t) (blkAt T m ρ c (2 : Fin 6) t) (blkAt T m ρ c (3 : Fin 6) t) (blkAt T m ρ c (4 : Fin 6) t) _ k0_h1 k0_h2 k0_h3 k0_h4).2 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexact H5
      iintro ⟨H0, H1, H2, H3, H4, HT0, HT1, ⟨%e5, H5⟩⟩
      isplitl [HT0 HT1]
      · isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      unfold owns; iexists _; isplitr; swap
      · iexact H5
      · ipureintro; exact View.read_writes_of_cover _ _ _ _ _ (cover0_B_5 c _ _ _ _ _ _ _ _ _ _ _ _ _ _ _ _ _ _ _ _ _ _ _ _ _)
  · by_cases q1 : First T t
    · obtain ⟨i5, f5, fr5⟩ := schedC T t q0 q1
      have F0 := pathC T t q0 q1
      have k0_h1 := F0.1; have F1 := F0.2
      have k0_h4 := F1
      clear F0 F1
      rewrite [i5]
      simp only [before0, before1, before2, before3, before4, before5, after0, after1, after2, after3, after4, after5, f5]
      simp only [fr5, Bool.false_eq_true, ↓reduceIte]
      rewrite [show (data T m ρ 0 c).Φ t.succ = inv T m ρ c t.succ from rfl, show (data T m ρ 0 c).Φ t.castSucc = inv T m ρ c t.castSucc from rfl,
        show (data T m ρ 0 c).owesAt () t.succ = (data T m ρ 0 c).owesAt () t.castSucc from rfl]
      try rewrite [held_eq, stepOutC T m ρ c t _ q0 q1]
      unfold inv; simp only [heldAt_castSucc, heldAt_succ, held_eq, stepOutC T m ρ c t _ q0 q1, Fin.val_castSucc, Fin.val_succ]
      iintro ⟨⟨HT0, HT1⟩, Ho, ⟨%d0, H0⟩, ⟨%d1, H1⟩, ⟨%d2, H2⟩, ⟨%d3, H3⟩, ⟨%d4, H4⟩, ⟨%d5, H5⟩⟩
      iapply ((kernelRun0_C c (crd T t) (stg0 T t) (whole0 T t) (stg1 T t) (whole1 T t) (stg2 T t) (whole2 T t) (stg3 T t) (whole3 T t) (stg4 T t) (whole4 T t) (stg5 T t) (whole5 T t) T.tg T.tv (blkAt T m ρ c (0 : Fin 6) t) (blkAt T m ρ c (1 : Fin 6) t) (blkAt T m ρ c (2 : Fin 6) t) (blkAt T m ρ c (3 : Fin 6) t) (blkAt T m ρ c (4 : Fin 6) t) k0_h1 k0_h4).2 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexists _; iexact H5
      iintro ⟨H0, H1, H2, H3, H4, HT0, HT1, ⟨%e5, H5⟩⟩
      isplitl [HT0 HT1]
      · isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      unfold owns; iexists _; isplitr; swap
      · iexact H5
      · ipureintro; exact View.read_writes_of_cover _ _ _ _ _ (cover0_C_5 c _ _ _ _ _ _ _ _ _ _ _ _ _ _ _ _ _ _ _ _ _ _)
    · obtain ⟨i5, fr5⟩ := schedD T t q0 q1
      have F0 := pathD T t q0 q1
      have k0_h1 := F0.1; have F1 := F0.2
      have k0_h4 := F1
      clear F0 F1
      cases f5 : ((cfgA T).win (5 : Fin 6)).flush t
      · rewrite [i5]
        simp only [before0, before1, before2, before3, before4, before5, after0, after1, after2, after3, after4, after5, f5]
        simp only [fr5, Bool.false_eq_true, ↓reduceIte]
        rewrite [show (data T m ρ 0 c).Φ t.succ = inv T m ρ c t.succ from rfl, show (data T m ρ 0 c).Φ t.castSucc = inv T m ρ c t.castSucc from rfl,
          show (data T m ρ 0 c).owesAt () t.succ = (data T m ρ 0 c).owesAt () t.castSucc from rfl]
        try rewrite [held_eq, stepOutD T m ρ c t _ q0 q1]
        unfold inv; simp only [heldAt_castSucc, heldAt_succ, held_eq, stepOutD T m ρ c t _ q0 q1, Fin.val_castSucc, Fin.val_succ]
        iintro ⟨⟨HT0, HT1⟩, Ho, ⟨%d0, H0⟩, ⟨%d1, H1⟩, ⟨%d2, H2⟩, ⟨%d3, H3⟩, ⟨%d4, H4⟩, ⟨%d5, H5⟩⟩
        iapply ((kernelRun0_D c (crd T t) (stg0 T t) (whole0 T t) (stg1 T t) (whole1 T t) (stg2 T t) (whole2 T t) (stg3 T t) (whole3 T t) (stg4 T t) (whole4 T t) (stg5 T t) (whole5 T t) T.tg T.tv (blkAt T m ρ c (0 : Fin 6) t) (blkAt T m ρ c (1 : Fin 6) t) (blkAt T m ρ c (2 : Fin 6) t) (blkAt T m ρ c (3 : Fin 6) t) (blkAt T m ρ c (4 : Fin 6) t) k0_h1 k0_h4).2 _ _)
        isplitl [H0]; · iapply rep_of_owns; iexact H0
        isplitl [H1]; · iapply rep_of_owns; iexact H1
        isplitl [H2]; · iapply rep_of_owns; iexact H2
        isplitl [H3]; · iapply rep_of_owns; iexact H3
        isplitl [H4]; · iapply rep_of_owns; iexact H4
        isplitl [HT0]; · iexact HT0
        isplitl [HT1]; · iexact HT1
        isplitl [H5]; · iexact H5
        iintro ⟨H0, H1, H2, H3, H4, HT0, HT1, H5⟩
        isplitl [HT0 HT1]
        · isplitl [HT0]
          · iexact HT0
          iexact HT1
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        isplitl [H4]
        · iapply owns_of_rep; iexact H4
        first | (iexists d5; iexact H5) | iexact H5
      · rewrite [i5]
        simp only [before0, before1, before2, before3, before4, before5, after0, after1, after2, after3, after4, after5, f5]
        simp only [fr5, Bool.false_eq_true, ↓reduceIte]
        rewrite [show (data T m ρ 0 c).Φ t.succ = inv T m ρ c t.succ from rfl, show (data T m ρ 0 c).Φ t.castSucc = inv T m ρ c t.castSucc from rfl,
          show (data T m ρ 0 c).owesAt () t.succ = (data T m ρ 0 c).owesAt () t.castSucc from rfl]
        try rewrite [held_eq, stepOutD T m ρ c t _ q0 q1]
        unfold inv; simp only [heldAt_castSucc, heldAt_succ, held_eq, stepOutD T m ρ c t _ q0 q1, Fin.val_castSucc, Fin.val_succ, fr5, Bool.false_eq_true, ↓reduceIte]
        iintro ⟨⟨HT0, HT1⟩, Ho, ⟨%d0, H0⟩, ⟨%d1, H1⟩, ⟨%d2, H2⟩, ⟨%d3, H3⟩, ⟨%d4, H4⟩, ⟨%d5, H5⟩⟩
        iapply ((kernelRun0_D c (crd T t) (stg0 T t) (whole0 T t) (stg1 T t) (whole1 T t) (stg2 T t) (whole2 T t) (stg3 T t) (whole3 T t) (stg4 T t) (whole4 T t) (stg5 T t) (whole5 T t) T.tg T.tv (blkAt T m ρ c (0 : Fin 6) t) (blkAt T m ρ c (1 : Fin 6) t) (blkAt T m ρ c (2 : Fin 6) t) (blkAt T m ρ c (3 : Fin 6) t) (blkAt T m ρ c (4 : Fin 6) t) k0_h1 k0_h4).2 _ _)
        isplitl [H0]; · iapply rep_of_owns; iexact H0
        isplitl [H1]; · iapply rep_of_owns; iexact H1
        isplitl [H2]; · iapply rep_of_owns; iexact H2
        isplitl [H3]; · iapply rep_of_owns; iexact H3
        isplitl [H4]; · iapply rep_of_owns; iexact H4
        isplitl [HT0]; · iexact HT0
        isplitl [HT1]; · iexact HT1
        isplitl [H5]; · iexact H5
        iintro ⟨H0, H1, H2, H3, H4, HT0, HT1, H5⟩
        isplitl [HT0 HT1]
        · isplitl [HT0]
          · iexact HT0
          iexact HT1
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        isplitl [H4]
        · iapply owns_of_rep; iexact H4
        first | (iexists d5; iexact H5) | iexact H5

/-- The body at every point, as the pipeline asks. -/
theorem body_all (hp : Holds T m) (c : Dev nD) : BodyObligation (data T m ρ 0 c) (defs₀ (F := Ideal)) Variants.none () Set.univ := fun t => by
  rw [bigSep_W0]
  exact body_ok T m ρ hp c t

/-- The launch element. -/
def u₀ : UR sig nD τ :=
  initOf (Pipeline.cells (pipes T) ((launch0 (F := Ideal)).cellOf_inj fun _ => adm T))
    (Pipeline.launchToks (pipes T) ((launch0 (F := Ideal)).cellOf_inj fun _ => adm T))

/-- Every array is held whole. -/
theorem share_full (c : Dev nD) (w : Fin (cfgA T).W) : (data T m ρ 0 c).share w = fullShare := by unfold Dat.share; split <;> rfl

/-- The two tables as the launch hands them over. -/
theorem tables_held (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The tables give the first invariant. -/
theorem inv_start (c : Dev nD) :
    iprop(BI.emp ∗ Pipeline.prefHeld pre0 c (fun _ => fullShare.right) (adm T).1 ∗ Pipeline.scopedRest spec0 c) ⊢ (data T m ρ 0 c).Φ 0 := by
  rw [tables_held, scopedRest0_eq, show (data T m ρ 0 c).Φ 0 = inv T m ρ c 0 from rfl]
  unfold inv
  iintro ⟨-, ⟨HT0, HT1⟩, -⟩
  isplitl [HT0]
  · iexact HT0
  iexact HT1

/-- The last invariant is let go. -/
theorem inv_end (c : Dev nD) : (data T m ρ 0 c).Φ (Fin.last (cfgA T).N) ⊢ iprop(BI.emp ∗ Pipeline.scopedRest spec0 c) := by
  rw [scopedRest0_eq, show (data T m ρ 0 c).Φ (Fin.last (cfgA T).N) = inv T m ρ c (Fin.last _) from rfl]
  unfold inv
  iintro ⟨-, -⟩
  isplitr; · iempintro
  iempintro

/-- The state at the end: every array as the pipeline computes it, the tables as launched. -/
def Final : PUnit × MemSt nD τ sig (Elt Ideal) → Prop := fun r =>
  ∀ c : Dev nD, (∀ w : Fin (cfgA T).W, r.2.mem (((cfgA T).win w).arr.view.loc (c : Thread nD τ)) = (data T m ρ 0 c).arrAt w (cfgA T).N)
    ∧ ∀ j, r.2.mem ((c : Thread nD τ).loc (pre0.ref j)) = (adm T).1 j

/-- The tables at launch are the ones the pipeline runs at. -/
theorem tables_kept (hp : Holds T m) (c : Dev nD) (j : Fin 2) : m ((c : Thread nD τ).loc (pre0.ref j)) = (adm T).1 j := by
  fin_cases j
  · exact hp.1 c
  · exact hp.2 c

set_option backward.isDefEq.respectTransparency.types false in
set_option maxHeartbeats 4000000 in
/-- Every fair execution ends with the arrays computed and every counter at zero. -/
theorem run_zero (hp : Holds T m) : θ_run (defs (F := Ideal)) (onTc (τ := τ) (main (F := Ideal))) (s₀ m ρ) (fun r => Final T m ρ r ∧ r.2.sem = fun _ => 0) :=
  Pipeline.θ_run_region_noSem_pf_quiescent pcfgs (fun _ => adm T) (data T m ρ) () ((launch0 (F := Ideal)).cellOf_inj fun _ => adm T) (0 : Fin 1)
    (launch0 (F := Ideal)).win.to₀ (launch0 (F := Ideal)).pre EP defs₀ Variants.none m ρ main
    (hbody := fun c => (body_all T m ρ hp c).loose) (hne := (launch0 (F := Ideal)).block_pos)
    (harr := (launch0 (F := Ideal)).arr_whole) (hstage := (launch0 (F := Ideal)).stage_whole) (howed := fun _ _ => rfl)
    (u₀ := u₀ T) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pipes T) (data T m ρ) 0 (launch0 (F := Ideal)).win.arr_inj c (launch0 (F := Ideal)).arr_whole
      (share_full T m ρ c) _ _ fun _ => rfl)
    (hpf := tables_kept T m hp)
    (X := fun _ => iprop(emp)) (Y := fun _ => iprop(emp)) (Z := fun _ => iprop(emp))
    (hX := fun c => by rw [unscopedRestP0_eq]; iintro -; isplitr <;> iempintro)
    (hin := inv_start T m ρ)
    (hout := inv_end T m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The same without the counters. -/
theorem run (hp : Holds T m) : θ_run (defs (F := Ideal)) (onTc (τ := τ) (main (F := Ideal))) (s₀ m ρ) (Final T m ρ) :=
  (θ_run defs _ _).mono (fun _ h => h.1) (run_zero T m ρ hp)

/-- Every argument ends unchanged. -/
theorem args_kept (hp : Holds T m) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 0).trans (hp.1 c).symm, ((h c).2 1).trans (hp.2 c).symm, ((h c).1 (0 : Fin 6)).trans ((data T m ρ 0 c).arrAt_in (0 : Fin 6) rfl _), ((h c).1 (1 : Fin 6)).trans ((data T m ρ 0 c).arrAt_in (1 : Fin 6) rfl _), ((h c).1 (2 : Fin 6)).trans ((data T m ρ 0 c).arrAt_in (2 : Fin 6) rfl _), ((h c).1 (3 : Fin 6)).trans ((data T m ρ 0 c).arrAt_in (3 : Fin 6) rfl _), ((h c).1 (4 : Fin 6)).trans ((data T m ρ 0 c).arrAt_in (4 : Fin 6) rfl _)⟩) (run T m ρ hp)

/-- The frame: every fair execution ends, with the arguments unchanged and every counter at zero. -/
theorem frame (hp : Holds T m) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (args_kept T m ρ hp) ((θ_run defs _ _).mono (fun _ h => h.2) (run_zero T m ρ hp))

end Cert.ExpertsIdeal.Tables

end
-- ==== Proof.ExpertsRef.lean ====
/- The experts' plain text read at an index: sixteen experts on every row, all but the row's own group weighted zero,
   come to the one group of the row's tile. -/
module

public import proofs.«01_k».proof.Defs
public import proofs.«01_k».proof.Proof.Gen.ExpertsReferenceIdeal.Run
public import proofs.«01_k».proof.Proof.Gen.ExpertsReferenceIdeal.Read
public import Idealize.ShloMosaic.Lib.Pointwise
public import Idealize.ShloMosaic.Lib.TwoAxisContraction
public import Idealize.ShloMosaic.Lib.Pipeline.ValueKit.Acc

@[expose] public section

set_option maxRecDepth 16384

noncomputable section

namespace Cert.ExpertsReferenceIdeal.Rows

open Cert.ExpertsReferenceIdeal Cert.ExpertsReferenceIdeal.Gen Cert.ExpertsReferenceIdeal.Read Idealize.ShloMosaic

/-- A table of one word per tile. -/
abbrev Words := Vec Ideal S21 .i32

/-- The rows' array. -/
abbrev RowsT := Vec Ideal S10752x4096 .bf16

/-- The routing weights' array. -/
abbrev Recs := Vec Ideal S10752x128 .f32

/-- The gate's or the up weight's array, by group. -/
abbrev Wide := Vec Ideal S4x4096x1536 .bf16

/-- The down weight's array, by group. -/
abbrev Down := Vec Ideal S4x1536x4096 .bf16

/-- One entry of a row against one column of a group's weight. -/
def proj (x : RowsT) (w : Wide) (n : Fin 10752) (g : Fin 4) (l : Fin 1536) : EReal :=
  ∑ k : Fin 4096, (x (ix2 n k) : EReal) * w (ix3 g k l)

/-- The gated hidden entry of a row, before its routing weight. -/
def gated (x : RowsT) (wg wu : Wide) (n : Fin 10752) (g : Fin 4) (l : Fin 1536) : EReal :=
  proj x wg n g l * Ideal.logistic (proj x wg n g l) * proj x wu n g l

/-- The routing weight of a row for a column of its group: the one of the column's expert. -/
def weight (r : Recs) (n : Fin 10752) (l : Fin 1536) : EReal :=
  r (ix2 n ⟨l.val / 384, by omega⟩)

/-- A row's output in one group. -/
def groupOut (x : RowsT) (r : Recs) (wg wu : Wide) (wd : Down) (n : Fin 10752) (g : Fin 4) (d : Fin 4096) : EReal :=
  ∑ l : Fin 1536, gated x wg wu n g l * weight r n l * wd (ix3 g l d)

/-- The tile of a row. -/
abbrev tileOf (n : Fin 10752) : S21.Idx := ix1 ⟨n.val / 512, by omega⟩

/-- The group of an expert, and its first column there. -/
abbrev grp (e : Fin 16) : Fin 4 := ⟨e.val / 4, by omega⟩
/-- The column of an expert's lane in its group. -/
abbrev lane (e : Fin 16) (f : Fin 384) : Fin 1536 := ⟨e.val % 4 * 384 + f.val, by omega⟩

/-- The experts' gate weights by expert, row and lane. -/
theorem gate_w (w : Wide) (e : Fin 16) (k : Fin 4096) (f : Fin 384) :
    val_main_v2 (F := Ideal) w (ix3 e k f) = w (ix3 (grp e) k (lane e f)) := by
  have he := e.isLt
  have hk := k.isLt
  have hf := f.isLt
  have h2 : idx_main_v2 (ix3 e k f) = ix4 (grp e) (⟨e.val % 4, by omega⟩ : Fin 4) k f := by
    funext a
    apply Fin.ext
    match a with
    | ⟨0, _⟩ => simp only [idx_main_v2, ix3, ix4]; omega
    | ⟨1, _⟩ => simp only [idx_main_v2, ix3, ix4]; omega
    | ⟨2, _⟩ => simp only [idx_main_v2, ix3, ix4]; omega
    | ⟨3, _⟩ => simp only [idx_main_v2, ix3, ix4]; omega
  have h1 : idx_main_v1 (ix4 (grp e) (⟨e.val % 4, by omega⟩ : Fin 4) k f) = ix4 (grp e) k (⟨e.val % 4, by omega⟩ : Fin 4) f := by
    funext a
    match a with
    | ⟨0, _⟩ => rfl
    | ⟨1, _⟩ => rfl
    | ⟨2, _⟩ => rfl
    | ⟨3, _⟩ => rfl
  have h0 : idx_main_v0 (ix4 (grp e) k (⟨e.val % 4, by omega⟩ : Fin 4) f) = ix3 (grp e) k (lane e f) := by
    funext a
    apply Fin.ext
    match a with
    | ⟨0, _⟩ => simp only [idx_main_v0, ix3, ix4]; omega
    | ⟨1, _⟩ => simp only [idx_main_v0, ix3, ix4]; omega
    | ⟨2, _⟩ => simp only [idx_main_v0, ix3, ix4]; omega
  rw [val_main_v2_apply, h2, val_main_v1_apply, h1, val_main_v0_apply, h0]

/-- The experts' up weights by expert, row and lane. -/
theorem up_w (w : Wide) (e : Fin 16) (k : Fin 4096) (f : Fin 384) :
    val_main_v5 (F := Ideal) w (ix3 e k f) = w (ix3 (grp e) k (lane e f)) := gate_w w e k f

/-- The experts' down weights by expert, lane and column. -/
theorem down_w (w : Down) (e : Fin 16) (f : Fin 384) (d : Fin 4096) :
    val_main_v6 (F := Ideal) w (ix3 e f d) = w (ix3 (grp e) (lane e f) d) := by
  rw [val_main_v6_apply]
  refine congrArg w (funext fun a => Fin.ext ?_)
  have he := e.isLt
  have hd := d.isLt
  have hf := f.isLt
  match a with
  | ⟨0, _⟩ => simp only [idx_main_v6, ix3]; omega
  | ⟨1, _⟩ => simp only [idx_main_v6, ix3]; omega
  | ⟨2, _⟩ => simp only [idx_main_v6, ix3]; omega

/-- The gate's products. -/
theorem gate_dot (x : RowsT) (w : Wide) (n : Fin 10752) (e : Fin 16) (f : Fin 384) :
    val_main_v28 (F := Ideal) x w (ix3 n e f) = proj x w n (grp e) (lane e f) := by
  rw [val_main_v28_apply]
  refine Finset.sum_congr rfl fun k _ => congrArg₂ (· * ·) (congrArg x (funext fun a => ?_)) ((congrArg (val_main_v2 (F := Ideal) w) (funext fun a => ?_)).trans (gate_w w e k f))
  · match a with
    | ⟨0, _⟩ => rfl
    | ⟨1, _⟩ => rfl
  · match a with
    | ⟨0, _⟩ => rfl
    | ⟨1, _⟩ => rfl
    | ⟨2, _⟩ => rfl

/-- The up products. -/
theorem up_dot (x : RowsT) (w : Wide) (n : Fin 10752) (e : Fin 16) (f : Fin 384) :
    val_main_v29 (F := Ideal) x w (ix3 n e f) = proj x w n (grp e) (lane e f) := gate_dot x w n e f

/-- The gated hidden entries. -/
theorem hidden (x : RowsT) (wg wu : Wide) (n : Fin 10752) (e : Fin 16) (f : Fin 384) :
    val_main_v31 (F := Ideal) x wg wu (ix3 n e f) = gated x wg wu n (grp e) (lane e f) := by
  rw [val_main_v31_apply, val_main_v30_apply, val_main_call2_v5_apply, val_main_call2_v4_apply, val_main_call2_v3_apply,
    val_main_call2_v2_apply, val_main_call2_v1_apply, val_main_call2_v0_apply, up_dot, gate_dot, val_main_call2_cst_apply, val_main_call2_cst_0_apply]
  unfold gated Ideal.logistic
  pointwise

/-- The group of every expert, as the text divides it out. -/
theorem expert_group : ∀ e : Fin 16, val_main_v14 (F := Ideal) (ix2 0 e) = BitVec.ofNat 32 (e.val / 4) := by
  decide +kernel

/-- The group word of a row. -/
theorem group_row (t : Words) (n : Fin 10752) : val_main_v8 (F := Ideal) t (ix1 n) = t (tileOf n) := by
  rw [val_main_v8_apply, val_main_v7_apply]
  refine congrArg t (funext fun a => ?_)
  match a with
  | ⟨0, _⟩ => rfl

/-- The use flag of a row. -/
theorem flag_row (t : Words) (n : Fin 10752) : val_main_v10 (F := Ideal) t (ix1 n) = t (tileOf n) := group_row t n

/-- The four routing weights of a row, repeated for every group. -/
theorem weights_row (r : Recs) (n : Fin 10752) (e : Fin 16) :
    val_main_v26 (F := Ideal) r (ix2 n e) = r (ix2 n ⟨e.val % 4, by omega⟩) := by
  rw [val_main_v26_apply, val_main_v25_apply, val_main_v24_apply, val_main_v23_apply]
  refine congrArg r (funext fun a => Fin.ext ?_)
  have hn := n.isLt
  have he := e.isLt
  match a with
  | ⟨0, _⟩ => simp only [idx_main_v23, idx_main_v24, idx_main_v25, idx_main_v26, ix2]; omega
  | ⟨1, _⟩ => simp only [idx_main_v23, idx_main_v24, idx_main_v25, idx_main_v26, ix2]; omega

/-- The combining weight of a row and an expert: zero but for the experts of the row's own group on a tile in use. -/
theorem combine_row (tg tv : Words) (r : Recs) (n : Fin 10752) (e : Fin 16) :
    val_main_v27 (F := Ideal) tg tv r (ix2 n e)
      = if tg (tileOf n) = BitVec.ofNat 32 (e.val / 4) ∧ tv (tileOf n) = 1#32 then (r (ix2 n ⟨e.val % 4, by omega⟩) : EReal) else 0 := by
  have h15 : val_main_v15 (F := Ideal) tg (ix2 n e) = tg (tileOf n) := by
    rw [val_main_v15_apply, val_main_v12_apply]
    refine Eq.trans (congrArg (val_main_v8 (F := Ideal) tg) (funext fun a => ?_)) (group_row tg n)
    match a with
    | ⟨0, _⟩ => rfl
  have h16 : val_main_v16 (F := Ideal) (ix2 n e) = BitVec.ofNat 32 (e.val / 4) := by
    rw [val_main_v16_apply]
    refine Eq.trans (congrArg (val_main_v14 (F := Ideal)) (funext fun a => ?_)) (expert_group e)
    match a with
    | ⟨0, _⟩ => rfl
    | ⟨1, _⟩ => rfl
  have h18 : val_main_v18 (F := Ideal) tv (idx_main_v21 (ix2 n e)) = tv (tileOf n) := by
    rw [val_main_v18_apply]
    refine Eq.trans (congrArg (val_main_v10 (F := Ideal) tv) (funext fun a => ?_)) (flag_row tv n)
    match a with
    | ⟨0, _⟩ => rfl
  have hz : val_main_call1_v1 (F := Ideal) (ix2 n e) = (0 : EReal) := by
    rw [val_main_call1_v1_apply, val_main_call1_v0_apply, val_main_cst_apply]
    exact Ideal.ofBits_zero_f32
  rw [val_main_v27_apply, val_main_v22_apply, val_main_v17_apply, val_main_v21_apply, val_main_v20_apply, h15, h16, h18, val_main_v19_apply,
    val_main_c_0_apply, weights_row, hz]
  have hc : IntOp.andi (IntOp.cmpi .eq (tg (tileOf n)) (BitVec.ofNat 32 (e.val / 4))) (IntOp.cmpi .eq (tv (tileOf n)) 1#32) = 1#1
      ↔ (tg (tileOf n) = BitVec.ofNat 32 (e.val / 4) ∧ tv (tileOf n) = 1#32) :=
    IntOp.andi_eq_one.trans (and_congr IntOp.cmpi_eq IntOp.cmpi_eq)
  unfold Scalar.select
  exact if_congr hc rfl rfl

/-- The hidden entries weighted. -/
theorem weighted (tg tv : Words) (x : RowsT) (r : Recs) (wg wu : Wide) (n : Fin 10752) (e : Fin 16) (f : Fin 384) :
    val_main_v34 (F := Ideal) tg tv x r wg wu (ix3 n e f)
      = gated x wg wu n (grp e) (lane e f)
        * (if tg (tileOf n) = BitVec.ofNat 32 (e.val / 4) ∧ tv (tileOf n) = 1#32 then (r (ix2 n ⟨e.val % 4, by omega⟩) : EReal) else 0) := by
  rw [val_main_v34_apply, hidden, val_main_v33_apply, val_main_v32_apply]
  refine congrArg (gated x wg wu n (grp e) (lane e f) * ·) (Eq.trans (congrArg (val_main_v27 (F := Ideal) tg tv r) (funext fun a => ?_)) (combine_row tg tv r n e))
  match a with
  | ⟨0, _⟩ => rfl
  | ⟨1, _⟩ => rfl

/-- The last product at an index: a sum over the experts and their lanes. -/
theorem out_sum (y : Vec Ideal S10752x16x384 .f32) (w : Vec Ideal S16x384x4096 .bf16) (n : Fin 10752) (d : Fin 4096) :
    Host.dotGeneral (F := Ideal) (φ₁ := .f32) (φ₂ := .bf16) dot_S10752x16x384_S16x384x4096_S10752x4096_12_01_0_2_n_n none y w (ix2 n d)
      = ∑ e : Fin 16, ∑ f : Fin 384, (y (ix3 n e f) : EReal) * w (ix3 e f d) := by
  simp only [Host.dotGeneral]
  rw [Ideal.dotGeneral_apply, ValueIdx.sum_contr2 dot_S10752x16x384_S16x384x4096_S10752x4096_12_01_0_2_n_n 16 384 rfl rfl rfl]
  refine Finset.sum_congr rfl fun e _ => Finset.sum_congr rfl fun f _ => ?_
  have h0 := ValueIdx.contrEquiv2_symm_val0 dot_S10752x16x384_S16x384x4096_S10752x4096_12_01_0_2_n_n 16 384 rfl rfl rfl (e, f)
  have h1 := ValueIdx.contrEquiv2_symm_val1 dot_S10752x16x384_S16x384x4096_S10752x4096_12_01_0_2_n_n 16 384 rfl rfl rfl (e, f)
  refine congrArg₂ (· * ·) (congrArg y (funext fun a => Fin.ext ?_)) (congrArg w (funext fun a => Fin.ext ?_))
  · match a with
    | ⟨0, _⟩ => rfl
    | ⟨1, _⟩ => exact h0
    | ⟨2, _⟩ => exact h1
  · match a with
    | ⟨0, _⟩ => exact h0
    | ⟨1, _⟩ => exact h1
    | ⟨2, _⟩ => rfl

/-- The reference's result at an index: the row's own group where its tile is in use, zero elsewhere. -/
theorem result (tg tv : Words) (x : RowsT) (r : Recs) (wg wu : Wide) (wd : Down) (n : Fin 10752) (d : Fin 4096)
    (ht : (tg (tileOf n)).toNat < 4) :
    val_main_v35 (F := Ideal) tg tv x r wg wu wd (ix2 n d)
      = if tv (tileOf n) = 1#32 then groupOut x r wg wu wd n ⟨(tg (tileOf n)).toNat, ht⟩ d else 0 := by
  have hs : val_main_v35 (F := Ideal) tg tv x r wg wu wd (ix2 n d)
      = ∑ g : Fin 4, ∑ l : Fin 1536, gated x wg wu n g l
          * (if tg (tileOf n) = BitVec.ofNat 32 g.val ∧ tv (tileOf n) = 1#32 then weight r n l else 0) * wd (ix3 g l d) := by
    unfold val_main_v35
    rw [out_sum]
    refine Fin.sum_points_lanes_congr 4 fun e f ha hl => ?_
    rw [weighted, down_w]
    have hw : (⟨e.val % 4, by omega⟩ : Fin 128) = ⟨(e.val % 4 * 384 + f.val) / 384, by omega⟩ := Fin.ext (by
      show e.val % 4 = (e.val % 4 * 384 + f.val) / 384
      have := f.isLt
      omega)
    rw [hw]
    rfl
  rw [hs]
  by_cases hv : tv (tileOf n) = 1#32
  · rw [if_pos hv, Finset.sum_eq_single (⟨(tg (tileOf n)).toNat, ht⟩ : Fin 4)]
    · refine Finset.sum_congr rfl fun l _ => ?_
      rw [if_pos ⟨(BitVec.ofNat_toNat 32 _ |>.trans (by simp)).symm, hv⟩]
    · intro g _ hg
      refine Finset.sum_eq_zero fun l _ => ?_
      rw [if_neg, mul_zero, zero_mul]
      rintro ⟨he, _⟩
      apply hg
      apply Fin.ext
      have := congrArg BitVec.toNat he
      rw [BitVec.toNat_ofNat] at this
      have hg4 := g.isLt
      show g.val = (tg (tileOf n)).toNat
      omega
    · intro h
      exact absurd (Finset.mem_univ _) h
  · rw [if_neg hv]
    refine Finset.sum_eq_zero fun g _ => Finset.sum_eq_zero fun l _ => ?_
    rw [if_neg (fun h => hv h.2), mul_zero, zero_mul]

end Cert.ExpertsReferenceIdeal.Rows

end
-- ==== Proof.ExpertsValue.lean ====
/- The value of the experts' call: chunk by chunk a tile's buffer gathers its group's sum, and an unused tile's stays
   zero. -/
module

public import proofs.«01_k».proof.Defs
public import proofs.«01_k».proof.Proof.ExpertsFrame
public import proofs.«01_k».proof.Proof.ExpertsIdealFrame
public import proofs.«01_k».proof.Proof.ExpertsRef
public import proofs.«01_k».proof.Proof.Gen.Pre_in_range
public import Idealize.ShloMosaic.Lib.Pointwise
public import Idealize.ShloMosaic.Lib.ReduceAll

@[expose] public section

set_option maxRecDepth 16384

noncomputable section

namespace Cert.ExpertsIdeal.Tables

open Cert.ExpertsIdeal Cert.ExpertsIdeal.Gen Idealize.ShloMosaic Idealize.ShloMosaic.TcCoe Idealize.SL.Sem
open Idealize.ShloMosaic.Pipeline (Dat)

variable (T : Tab)

/-- The zero offsets of a whole-block access of two axes. -/
theorem hz : (![0, 0] : Fin 2 → Nat) = fun _ => 0 := funext fun a => by fin_cases a <;> rfl

/-- The zero offsets of a whole-block access of three axes. -/
theorem hz3 : (![0, 0, 0] : Fin 3 → Nat) = fun _ => 0 := funext fun a => by fin_cases a <;> rfl

/-- The buffer after the first chunk of a used tile: the chunk's product. -/
theorem outA (c : Dev nD) (i : grid0.Coords) (arg4 : Memref sig .tc .vmem S512x4096 .bf16) (harg4 : arg4.IsWhole) (arg5 : Memref sig .tc .vmem S512x128 .f32) (harg5 : arg5.IsWhole) (arg6 : Memref sig .tc .vmem S1x4096x256 .bf16) (harg6 : arg6.IsWhole) (arg7 : Memref sig .tc .vmem S1x4096x256 .bf16) (harg7 : arg7.IsWhole) (arg8 : Memref sig .tc .vmem S1x256x4096 .bf16) (harg8 : arg8.IsWhole) (arg9 : Memref sig .tc .vmem S512x4096 .f32) (harg9 : arg9.IsWhole) (T0 : (S21.Idx → Elt Ideal .i32)) (T1 : (S21.Idx → Elt Ideal .i32))
     (x0 : (S512x4096.Idx → Elt Ideal .bf16)) (x1 : (S512x128.Idx → Elt Ideal .f32)) (x2 : (S1x4096x256.Idx → Elt Ideal .bf16)) (x3 : (S1x4096x256.Idx → Elt Ideal .bf16)) (x4 : (S1x256x4096.Idx → Elt Ideal .bf16)) (k0_h1 : k0_cond1 (View.readAt (Elt Ideal) (tbM0_1).view (Rect.unit (s := S21) (k0_off1 i) S1.size (k0_off1_inb i)).toLoadRect T1 (Shape.Idx.first (numel1_S1.symm ▸ Nat.one_pos))) = 1#1) (k0_h2 : k0_cond2 i = 1#1) (k0_h3 : ¬(k0_cond3 i = 1#1)) (k0_h4 : ¬(k0_cond4 i (View.readAt (Elt Ideal) (tbM0_1).view (Rect.unit (s := S21) (k0_off2 i) S1.size (k0_off2_inb i)).toLoadRect T1 (Shape.Idx.first (numel1_S1.symm ▸ Nat.one_pos))) = 1#1)) :
    out0_A_5 c i arg4 harg4 arg5 harg5 arg6 harg6 arg7 harg7 arg8 harg8 arg9 harg9 T0 T1 x0 x1 x2 x3 x4 k0_h1 k0_h2 k0_h3 k0_h4 = k0_pay1 (k0_pay4 x0 x2) (k0_pay5 x0 x3) x1 (k0_pay6 (BitVec.ofNat 32 (i 1).val)) (k0_pay7 (BitVec.ofNat 32 (i 1).val) x1) (k0_pay8 (BitVec.ofNat 32 (i 1).val)) x4 := by
  unfold out0_A_5
  rw [View.read_writes_eq_canon _ _ _ (cover0_A_5 c i arg4 harg4 arg5 harg5 arg6 harg6 arg7 harg7 arg8 harg8 arg9 harg9 T0 T1 x0 x1 x2 x3 x4 k0_h1 k0_h2 k0_h3 k0_h4)]
  unfold kernelRun0_A kernelRun0_A.sl.HO5_1 kernelRun0_A.sl.r_1 kernelRun0_A.sl.r_2 kernelRun0_A.sl.r_3 kernelRun0_A.sl.r_4 kernelRun0_A.sl.r_5 kernelRun0_A.sl.r_6
  dsimp only
  rw [View.canon_unit_zero hz]
  simp only [View.readAt_eq_ld, View.read_rep, View.ld_unit_zero (S := S512x4096) hz, View.ld_unit_zero (S := S512x128) hz, View.ld_unit_zero (S := S1x4096x256) hz3, View.ld_unit_zero (S := S1x256x4096) hz3]

/-- The buffer after a later chunk of a used tile: the chunk's product added. -/
theorem outB (c : Dev nD) (i : grid0.Coords) (arg4 : Memref sig .tc .vmem S512x4096 .bf16) (harg4 : arg4.IsWhole) (arg5 : Memref sig .tc .vmem S512x128 .f32) (harg5 : arg5.IsWhole) (arg6 : Memref sig .tc .vmem S1x4096x256 .bf16) (harg6 : arg6.IsWhole) (arg7 : Memref sig .tc .vmem S1x4096x256 .bf16) (harg7 : arg7.IsWhole) (arg8 : Memref sig .tc .vmem S1x256x4096 .bf16) (harg8 : arg8.IsWhole) (arg9 : Memref sig .tc .vmem S512x4096 .f32) (harg9 : arg9.IsWhole) (T0 : (S21.Idx → Elt Ideal .i32)) (T1 : (S21.Idx → Elt Ideal .i32))
     (x0 : (S512x4096.Idx → Elt Ideal .bf16)) (x1 : (S512x128.Idx → Elt Ideal .f32)) (x2 : (S1x4096x256.Idx → Elt Ideal .bf16)) (x3 : (S1x4096x256.Idx → Elt Ideal .bf16)) (x4 : (S1x256x4096.Idx → Elt Ideal .bf16)) (xo5 : (S512x4096.Idx → Elt Ideal .f32)) (k0_h1 : k0_cond1 (View.readAt (Elt Ideal) (tbM0_1).view (Rect.unit (s := S21) (k0_off1 i) S1.size (k0_off1_inb i)).toLoadRect T1 (Shape.Idx.first (numel1_S1.symm ▸ Nat.one_pos))) = 1#1) (k0_h2 : ¬(k0_cond2 i = 1#1)) (k0_h3 : k0_cond3 i = 1#1) (k0_h4 : ¬(k0_cond4 i (View.readAt (Elt Ideal) (tbM0_1).view (Rect.unit (s := S21) (k0_off2 i) S1.size (k0_off2_inb i)).toLoadRect T1 (Shape.Idx.first (numel1_S1.symm ▸ Nat.one_pos))) = 1#1)) :
    out0_B_5 c i arg4 harg4 arg5 harg5 arg6 harg6 arg7 harg7 arg8 harg8 arg9 harg9 T0 T1 x0 x1 x2 x3 x4 xo5 k0_h1 k0_h2 k0_h3 k0_h4 = k0_pay2 (k0_pay4 x0 x2) (k0_pay5 x0 x3) x1 (k0_pay6 (BitVec.ofNat 32 (i 1).val)) (k0_pay7 (BitVec.ofNat 32 (i 1).val) x1) (k0_pay8 (BitVec.ofNat 32 (i 1).val)) x4 xo5 := by
  unfold out0_B_5
  rw [View.read_writes_eq_canon _ _ _ (cover0_B_5 c i arg4 harg4 arg5 harg5 arg6 harg6 arg7 harg7 arg8 harg8 arg9 harg9 T0 T1 x0 x1 x2 x3 x4 xo5 k0_h1 k0_h2 k0_h3 k0_h4)]
  unfold kernelRun0_B kernelRun0_B.sl.HO5_1 kernelRun0_B.sl.r_1 kernelRun0_B.sl.r_2 kernelRun0_B.sl.r_3 kernelRun0_B.sl.r_4 kernelRun0_B.sl.r_5 kernelRun0_B.sl.r_6
  dsimp only
  rw [View.canon_unit_zero hz]
  simp only [View.readAt_eq_ld, View.read_rep, View.ld_unit_zero (S := S512x4096) hz, View.ld_unit_zero (S := S512x128) hz, View.ld_unit_zero (S := S1x4096x256) hz3, View.ld_unit_zero (S := S1x256x4096) hz3, harg9.read_unread]

/-- The buffer after the first chunk of an unused tile: zeros. -/
theorem outC (c : Dev nD) (i : grid0.Coords) (arg4 : Memref sig .tc .vmem S512x4096 .bf16) (harg4 : arg4.IsWhole) (arg5 : Memref sig .tc .vmem S512x128 .f32) (harg5 : arg5.IsWhole) (arg6 : Memref sig .tc .vmem S1x4096x256 .bf16) (harg6 : arg6.IsWhole) (arg7 : Memref sig .tc .vmem S1x4096x256 .bf16) (harg7 : arg7.IsWhole) (arg8 : Memref sig .tc .vmem S1x256x4096 .bf16) (harg8 : arg8.IsWhole) (arg9 : Memref sig .tc .vmem S512x4096 .f32) (harg9 : arg9.IsWhole) (T0 : (S21.Idx → Elt Ideal .i32)) (T1 : (S21.Idx → Elt Ideal .i32))
     (x0 : (S512x4096.Idx → Elt Ideal .bf16)) (x1 : (S512x128.Idx → Elt Ideal .f32)) (x2 : (S1x4096x256.Idx → Elt Ideal .bf16)) (x3 : (S1x4096x256.Idx → Elt Ideal .bf16)) (x4 : (S1x256x4096.Idx → Elt Ideal .bf16)) (k0_h1 : ¬(k0_cond1 (View.readAt (Elt Ideal) (tbM0_1).view (Rect.unit (s := S21) (k0_off1 i) S1.size (k0_off1_inb i)).toLoadRect T1 (Shape.Idx.first (numel1_S1.symm ▸ Nat.one_pos))) = 1#1)) (k0_h4 : k0_cond4 i (View.readAt (Elt Ideal) (tbM0_1).view (Rect.unit (s := S21) (k0_off2 i) S1.size (k0_off2_inb i)).toLoadRect T1 (Shape.Idx.first (numel1_S1.symm ▸ Nat.one_pos))) = 1#1) :
    out0_C_5 c i arg4 harg4 arg5 harg5 arg6 harg6 arg7 harg7 arg8 harg8 arg9 harg9 T0 T1 x0 x1 x2 x3 x4 k0_h1 k0_h4 = k0_pay3 (F := Ideal) := by
  unfold out0_C_5
  rw [View.read_writes_eq_canon _ _ _ (cover0_C_5 c i arg4 harg4 arg5 harg5 arg6 harg6 arg7 harg7 arg8 harg8 arg9 harg9 T0 T1 x0 x1 x2 x3 x4 k0_h1 k0_h4)]
  unfold kernelRun0_C kernelRun0_C.sl.HO5_1
  dsimp only
  rw [View.canon_unit_zero hz]

/-- The test that a column's number lies between two bounds. -/
abbrev within (lo hi w : BitVec 32) : BitVec 1 := IntOp.andi (IntOp.cmpi .sge w lo) (IntOp.cmpi .slt w hi)

/-- The tests of the four experts' columns, at every column of a group. -/
theorem within_at : ∀ l : Fin 1536,
    within 0#32 384#32 (BitVec.ofNat 32 l.val) = BitVec.ofBool (decide (l.val / 384 = 0))
    ∧ within 384#32 768#32 (BitVec.ofNat 32 l.val) = BitVec.ofBool (decide (l.val / 384 = 1))
    ∧ within 768#32 1152#32 (BitVec.ofNat 32 l.val) = BitVec.ofBool (decide (l.val / 384 = 2))
    ∧ within 1152#32 1536#32 (BitVec.ofNat 32 l.val) = BitVec.ofBool (decide (l.val / 384 = 3)) := by
  decide +kernel

/-- A column's number, as the body counts it. -/
theorem col_at (c : Fin 6) (k : Fin 256) : k0_pay6 (BitVec.ofNat 32 c.val) (ix2 0 k) = BitVec.ofNat 32 (c.val * 256 + k.val) := by
  have h : k0_pay6 (BitVec.ofNat 32 c.val) (ix2 0 k) = IntOp.addi (Scalar.muli (BitVec.ofNat 32 c.val) 256#32) (BitVec.ofNat 32 k.val) := by
    pointwise [k0_pay6]
  rw [h]
  revert c k
  decide +kernel

/-- The gate's products of a chunk. -/
theorem gate_at (x : Vec Ideal S512x4096 .bf16) (w : Vec Ideal S1x4096x256 .bf16) (r : Fin 512) (k : Fin 256) :
    k0_pay4 x w (ix2 r k) = ∑ q : Fin 4096, (x (ix2 r q) : EReal) * w (ix3 0 q k) := by
  pointwise [k0_pay4]

/-- The up products of a chunk. -/
theorem up_at (x : Vec Ideal S512x4096 .bf16) (w : Vec Ideal S1x4096x256 .bf16) (r : Fin 512) (k : Fin 256) :
    k0_pay5 x w (ix2 r k) = ∑ q : Fin 4096, (x (ix2 r q) : EReal) * w (ix3 0 q k) := by
  pointwise [k0_pay5]

/-- The weights of the first two experts' columns. -/
theorem early_at (a : BitVec 32) (v : Vec Ideal S512x128 .f32) (r : Fin 512) (k : Fin 256) :
    k0_pay7 a v (ix2 r k) = Scalar.select (within 384#32 768#32 (k0_pay6 a (ix2 0 k))) (v (ix2 r 1) : EReal)
      (Scalar.select (within 0#32 384#32 (k0_pay6 a (ix2 0 k))) (v (ix2 r 0) : EReal) (Ideal.ofBits .f32 0x00000000#32)) := by
  generalize hp : k0_pay6 a = p
  unfold k0_pay7
  simp only [hp]
  pointwise

/-- The test of the third expert's columns. -/
theorem third_at (a : BitVec 32) (k : Fin 256) : k0_pay8 a (ix2 0 k) = within 768#32 1152#32 (k0_pay6 a (ix2 0 k)) := by
  generalize hp : k0_pay6 a = p
  unfold k0_pay8
  simp only [hp]
  pointwise

/-- The chunk's product: the gated hidden entries, weighted, against the chunk's rows of the down weight. -/
theorem chunk_at (g u : FVec Ideal S512x256 .f32) (v : Vec Ideal S512x128 .f32) (p : IVec S1x256 32) (y : FVec Ideal S512x256 .f32) (b : IVec S1x256 1)
    (w : Vec Ideal S1x256x4096 .bf16) (r : Fin 512) (d : Fin 4096) :
    k0_pay1 g u v p y b w (ix2 r d) = ∑ k : Fin 256, (g (ix2 r k) : EReal) * Ideal.logistic (g (ix2 r k)) * u (ix2 r k)
      * Scalar.select (within 1152#32 1536#32 (p (ix2 0 k))) (v (ix2 r 3) : EReal) (Scalar.select (b (ix2 0 k)) (v (ix2 r 2) : EReal) (y (ix2 r k)))
      * w (ix3 0 k d) := by
  pointwise [k0_pay1]

/-- The four tests pick the weight of the column's expert. -/
theorem pick (v : Vec Ideal S512x128 .f32) (z : EReal) (r : Fin 512) (q : Nat) (hq : q < 4) :
    Scalar.select (BitVec.ofBool (decide (q = 3))) (v (ix2 r 3) : EReal) (Scalar.select (BitVec.ofBool (decide (q = 2))) (v (ix2 r 2) : EReal)
      (Scalar.select (BitVec.ofBool (decide (q = 1))) (v (ix2 r 1) : EReal) (Scalar.select (BitVec.ofBool (decide (q = 0))) (v (ix2 r 0) : EReal) z)))
      = v (ix2 r ⟨q, by omega⟩) := by
  have hq' : q = 0 ∨ q = 1 ∨ q = 2 ∨ q = 3 := by omega
  rcases hq' with rfl | rfl | rfl | rfl <;> rfl

/-- A row's weight at a column of a chunk: that of the column's expert. -/
theorem weight_at (c : Fin 6) (v : Vec Ideal S512x128 .f32) (r : Fin 512) (k : Fin 256) :
    Scalar.select (within 1152#32 1536#32 (k0_pay6 (BitVec.ofNat 32 c.val) (ix2 0 k))) (v (ix2 r 3) : EReal)
      (Scalar.select (k0_pay8 (BitVec.ofNat 32 c.val) (ix2 0 k)) (v (ix2 r 2) : EReal) (k0_pay7 (BitVec.ofNat 32 c.val) v (ix2 r k)))
      = v (ix2 r ⟨(c.val * 256 + k.val) / 384, by omega⟩) := by
  rw [third_at, early_at, col_at]
  have hl : c.val * 256 + k.val < 1536 := by omega
  obtain ⟨w0, w1, w2, w3⟩ := within_at ⟨c.val * 256 + k.val, hl⟩
  dsimp only at w0 w1 w2 w3
  rw [w0, w1, w2, w3]
  exact pick v _ r _ (by omega)

/-- The flag and the group of a point's tile sit at its position divided by six. -/
theorem tile_at (t : Fin (cfgA T).N) (ht : t.val / 6 < 21) : tile (crd T t) = ix1 ⟨t.val / 6, ht⟩ := by
  funext a
  match a with
  | ⟨0, _⟩ => exact Fin.ext (closed t).2.2.2.2.2.1

/-- The rows' blocks, by the point's position. -/
theorem idx_rows : ∀ t : Fin grid0.N, (cc0_transform_0 (grid0.coords t) 0 = t.val / 6 ∧ cc0_transform_0 (grid0.coords t) 1 = 0)
    ∧ (cc0_transform_1 (grid0.coords t) 0 = t.val / 6 ∧ cc0_transform_1 (grid0.coords t) 1 = 0)
    ∧ (cc0_transform_5 (grid0.coords t) 0 = t.val / 6 ∧ cc0_transform_5 (grid0.coords t) 1 = 0)
    ∧ (BitVec.ofNat 32 (grid0.coords t 1).val).toNat = t.val % 6 := by decide +kernel

variable (m : (ℓ : Loc nD τ sig) → Buf (Elt Ideal) ℓ) (ρ : Dev nD → PrngReg)

/-- The rows, as launched. -/
abbrev X (c : Dev nD) : Vec Ideal S10752x4096 .bf16 := m ((c : Thread nD τ).loc main_arg2)
/-- The routing weights, as launched. -/
abbrev Rw (c : Dev nD) : Vec Ideal S10752x128 .f32 := m ((c : Thread nD τ).loc main_arg3)
/-- The gate weights, as launched. -/
abbrev Wg (c : Dev nD) : Vec Ideal S4x4096x1536 .bf16 := m ((c : Thread nD τ).loc main_arg4)
/-- The up weights, as launched. -/
abbrev Wu (c : Dev nD) : Vec Ideal S4x4096x1536 .bf16 := m ((c : Thread nD τ).loc main_arg5)
/-- The down weights, as launched. -/
abbrev Wd (c : Dev nD) : Vec Ideal S4x1536x4096 .bf16 := m ((c : Thread nD τ).loc main_arg6)

/-- A point's block of rows. -/
theorem blk0 (c : Dev nD) (t : Fin (cfgA T).N) (r : Fin 512) (k : Fin 4096) (R : Fin 10752) (hR : R.val = t.val / 6 * 512 + r.val) :
    (blkAt T m ρ c (0 : Fin 6) t : Vec Ideal S512x4096 .bf16) (ix2 r k) = X m c (ix2 R k) := by
  obtain ⟨⟨a0, a1⟩, -⟩ := idx_rows t
  unfold blkAt
  rw [View.read_apply]
  show X m c _ = _
  congr 1
  funext a
  apply Fin.ext
  match a with
  | ⟨0, _⟩ => show cc0_transform_0 (grid0.coords t) 0 * 512 + 1 * r.val = R.val; rw [a0]; omega
  | ⟨1, _⟩ => show cc0_transform_0 (grid0.coords t) 1 * 4096 + 1 * k.val = k.val; rw [a1]; omega

/-- A point's block of routing weights. -/
theorem blk1 (c : Dev nD) (t : Fin (cfgA T).N) (r : Fin 512) (k : Fin 128) (R : Fin 10752) (hR : R.val = t.val / 6 * 512 + r.val) :
    (blkAt T m ρ c (1 : Fin 6) t : Vec Ideal S512x128 .f32) (ix2 r k) = Rw m c (ix2 R k) := by
  obtain ⟨-, ⟨a0, a1⟩, -⟩ := idx_rows t
  unfold blkAt
  rw [View.read_apply]
  show Rw m c _ = _
  congr 1
  funext a
  apply Fin.ext
  match a with
  | ⟨0, _⟩ => show cc0_transform_1 (grid0.coords t) 0 * 512 + 1 * r.val = R.val; rw [a0]; omega
  | ⟨1, _⟩ => show cc0_transform_1 (grid0.coords t) 1 * 128 + 1 * k.val = k.val; rw [a1]; omega

/-- The group of a point's tile. -/
abbrev grpAt (t : Fin (cfgA T).N) : Fin 4 := ⟨(T.tg (tile (crd T t))).toNat, T.tg_lt _⟩

/-- A point's block of gate weights: the tile's group and the point's columns. -/
theorem blk2 (c : Dev nD) (t : Fin (cfgA T).N) (q : Fin 4096) (k : Fin 256) (L : Fin 1536) (hL : L.val = t.val % 6 * 256 + k.val) :
    (blkAt T m ρ c (2 : Fin 6) t : Vec Ideal S1x4096x256 .bf16) (ix3 0 q k) = Wg m c (ix3 (grpAt T t) q L) := by
  obtain ⟨-, -, -, a2⟩ := idx_rows t
  have hm := map2 T (crd T t)
  have m0 := congrFun hm 0
  have m1 := congrFun hm 1
  have m2 := congrFun hm 2
  unfold blkAt
  rw [View.read_apply]
  show Wg m c _ = _
  congr 1
  funext a
  apply Fin.ext
  match a with
  | ⟨0, _⟩ => show cc0_transform_2 k0_off1_inb numel1_S1 (pf T) (crd T t) 0 * 1 + 1 * 0 = (T.tg (tile (crd T t))).toNat; rw [m0]; show (T.tg (tile (crd T t))).toNat * 1 + 1 * 0 = _; omega
  | ⟨1, _⟩ => show cc0_transform_2 k0_off1_inb numel1_S1 (pf T) (crd T t) 1 * 4096 + 1 * q.val = q.val; rw [m1]; show 0 * 4096 + 1 * q.val = q.val; omega
  | ⟨2, _⟩ => show cc0_transform_2 k0_off1_inb numel1_S1 (pf T) (crd T t) 2 * 256 + 1 * k.val = L.val; rw [m2]; show (BitVec.ofNat 32 (grid0.coords t 1).val).toNat * 256 + 1 * k.val = L.val; rw [a2]; omega

/-- A point's block of up weights: the tile's group and the point's columns. -/
theorem blk3 (c : Dev nD) (t : Fin (cfgA T).N) (q : Fin 4096) (k : Fin 256) (L : Fin 1536) (hL : L.val = t.val % 6 * 256 + k.val) :
    (blkAt T m ρ c (3 : Fin 6) t : Vec Ideal S1x4096x256 .bf16) (ix3 0 q k) = Wu m c (ix3 (grpAt T t) q L) := by
  obtain ⟨-, -, -, a2⟩ := idx_rows t
  have hm := map3 T (crd T t)
  have m0 := congrFun hm 0
  have m1 := congrFun hm 1
  have m2 := congrFun hm 2
  unfold blkAt
  rw [View.read_apply]
  show Wu m c _ = _
  congr 1
  funext a
  apply Fin.ext
  match a with
  | ⟨0, _⟩ => show cc0_transform_3 k0_off1_inb numel1_S1 (pf T) (crd T t) 0 * 1 + 1 * 0 = (T.tg (tile (crd T t))).toNat; rw [m0]; show (T.tg (tile (crd T t))).toNat * 1 + 1 * 0 = _; omega
  | ⟨1, _⟩ => show cc0_transform_3 k0_off1_inb numel1_S1 (pf T) (crd T t) 1 * 4096 + 1 * q.val = q.val; rw [m1]; show 0 * 4096 + 1 * q.val = q.val; omega
  | ⟨2, _⟩ => show cc0_transform_3 k0_off1_inb numel1_S1 (pf T) (crd T t) 2 * 256 + 1 * k.val = L.val; rw [m2]; show (BitVec.ofNat 32 (grid0.coords t 1).val).toNat * 256 + 1 * k.val = L.val; rw [a2]; omega

/-- A point's block of down weights: the tile's group and the point's rows. -/
theorem blk4 (c : Dev nD) (t : Fin (cfgA T).N) (k : Fin 256) (d : Fin 4096) (L : Fin 1536) (hL : L.val = t.val % 6 * 256 + k.val) :
    (blkAt T m ρ c (4 : Fin 6) t : Vec Ideal S1x256x4096 .bf16) (ix3 0 k d) = Wd m c (ix3 (grpAt T t) L d) := by
  obtain ⟨-, -, -, a2⟩ := idx_rows t
  have hm := map4 T (crd T t)
  have m0 := congrFun hm 0
  have m1 := congrFun hm 1
  have m2 := congrFun hm 2
  unfold blkAt
  rw [View.read_apply]
  show Wd m c _ = _
  congr 1
  funext a
  apply Fin.ext
  match a with
  | ⟨0, _⟩ => show cc0_transform_4 k0_off1_inb numel1_S1 (pf T) (crd T t) 0 * 1 + 1 * 0 = (T.tg (tile (crd T t))).toNat; rw [m0]; show (T.tg (tile (crd T t))).toNat * 1 + 1 * 0 = _; omega
  | ⟨1, _⟩ => show cc0_transform_4 k0_off1_inb numel1_S1 (pf T) (crd T t) 1 * 256 + 1 * k.val = L.val; rw [m1]; show (BitVec.ofNat 32 (grid0.coords t 1).val).toNat * 256 + 1 * k.val = L.val; rw [a2]; omega
  | ⟨2, _⟩ => show cc0_transform_4 k0_off1_inb numel1_S1 (pf T) (crd T t) 2 * 4096 + 1 * d.val = d.val; rw [m2]; show 0 * 4096 + 1 * d.val = d.val; omega

/-- One column's part of a row's output in a group. -/
def term (c : Dev nD) (R : Fin 10752) (g : Fin 4) (d : Fin 4096) (l : Fin 1536) : EReal :=
  Cert.ExpertsReferenceIdeal.Rows.gated (X m c) (Wg m c) (Wu m c) R g l * Cert.ExpertsReferenceIdeal.Rows.weight (Rw m c) R l * Wd m c (ix3 g l d)

/-- The part of one chunk of columns. -/
def chunk (c : Dev nD) (R : Fin 10752) (g : Fin 4) (d : Fin 4096) (s : ℕ) : EReal :=
  if h : s < 6 then ∑ k : Fin 256, term m c R g d ⟨s * 256 + k.val, by omega⟩ else 0

/-- The chunk's product a point computes, in the arrays' terms. -/
theorem product_at (c : Dev nD) (t : Fin (cfgA T).N) (r : Fin 512) (d : Fin 4096) (R : Fin 10752) (hR : R.val = t.val / 6 * 512 + r.val) :
    k0_pay1 (k0_pay4 (blkAt T m ρ c (0 : Fin 6) t) (blkAt T m ρ c (2 : Fin 6) t)) (k0_pay5 (blkAt T m ρ c (0 : Fin 6) t) (blkAt T m ρ c (3 : Fin 6) t))
      (blkAt T m ρ c (1 : Fin 6) t) (k0_pay6 (BitVec.ofNat 32 (crd T t 1).val)) (k0_pay7 (BitVec.ofNat 32 (crd T t 1).val) (blkAt T m ρ c (1 : Fin 6) t))
      (k0_pay8 (BitVec.ofNat 32 (crd T t 1).val)) (blkAt T m ρ c (4 : Fin 6) t) (ix2 r d) = chunk m c R (grpAt T t) d (t.val % 6) := by
  have h6 : t.val % 6 < 6 := Nat.mod_lt _ (by omega)
  have hc : (crd T t 1).val = (⟨t.val % 6, h6⟩ : Fin 6).val := (closed t).2.2.2.2.2.2
  rw [hc]
  rw [chunk_at]
  unfold chunk
  rw [dif_pos h6]
  refine Finset.sum_congr rfl fun k _ => ?_
  have hk := k.isLt
  have hg : k0_pay4 (blkAt T m ρ c (0 : Fin 6) t) (blkAt T m ρ c (2 : Fin 6) t) (ix2 r k) = Cert.ExpertsReferenceIdeal.Rows.proj (X m c) (Wg m c) R (grpAt T t) ⟨t.val % 6 * 256 + k.val, by omega⟩ :=
    (gate_at _ _ r k).trans (Finset.sum_congr rfl fun q _ => congrArg₂ (· * ·) (blk0 T m ρ c t r q R hR) (blk2 T m ρ c t q k _ rfl))
  have hu : k0_pay5 (blkAt T m ρ c (0 : Fin 6) t) (blkAt T m ρ c (3 : Fin 6) t) (ix2 r k) = Cert.ExpertsReferenceIdeal.Rows.proj (X m c) (Wu m c) R (grpAt T t) ⟨t.val % 6 * 256 + k.val, by omega⟩ :=
    (up_at _ _ r k).trans (Finset.sum_congr rfl fun q _ => congrArg₂ (· * ·) (blk0 T m ρ c t r q R hR) (blk3 T m ρ c t q k _ rfl))
  have hw := (weight_at ⟨t.val % 6, h6⟩ (blkAt T m ρ c (1 : Fin 6) t) r k).trans (blk1 T m ρ c t r _ R hR)
  have hd := blk4 T m ρ c t k d ⟨t.val % 6 * 256 + k.val, by omega⟩ rfl
  rw [hg, hu, hw, hd]
  rfl

/-- The body's zeros. -/
theorem zeros_at (i : S512x4096.Idx) : (k0_pay3 (F := Ideal) i : EReal) = 0 :=
  Ideal.ofBits_zero_f32

/-- A later chunk's step adds to what was held. -/
theorem add_at (g u : FVec Ideal S512x256 .f32) (v : Vec Ideal S512x128 .f32) (p : IVec S1x256 32) (y : FVec Ideal S512x256 .f32) (b : IVec S1x256 1)
    (w : Vec Ideal S1x256x4096 .bf16) (o : Vec Ideal S512x4096 .f32) (r : Fin 512) (d : Fin 4096) :
    k0_pay2 g u v p y b w o (ix2 r d) = (o (ix2 r d) : EReal) + k0_pay1 g u v p y b w (ix2 r d) := by
  generalize hz : k0_pay1 g u v p y b w = z
  unfold k0_pay2
  simp only [hz]
  pointwise

/-- In a used tile the buffer holds, after a point, the sum of the chunks so far. -/
theorem held_used (c : Dev nD) (r : Fin 512) (d : Fin 4096) : ∀ (n : ℕ) (h : n < (cfgA T).N) (R : Fin 10752) (_ : R.val = n / 6 * 512 + r.val)
    (_ : Used T (crd T ⟨n, h⟩)), (held T m ρ c n h (ix2 r d) : EReal) = ∑ s ∈ Finset.range (n % 6 + 1), chunk m c R (grpAt T ⟨n, h⟩) d s := by
  intro n
  induction n with
  | zero =>
    intro h R hR hu
    rw [held_eq T m ρ c ⟨0, h⟩, stepOutA T m ρ c ⟨0, h⟩ _ hu rfl, outA, product_at T m ρ c ⟨0, h⟩ r d R hR]
    simp
  | succ n ih =>
    intro h R hR hu
    by_cases q1 : First T ⟨n + 1, h⟩
    · rw [held_eq T m ρ c ⟨n + 1, h⟩, stepOutA T m ρ c ⟨n + 1, h⟩ _ hu q1, outA, product_at T m ρ c ⟨n + 1, h⟩ r d R hR]
      have q1' : (n + 1) % 6 = 0 := q1
      simp [q1']
    · have q1' : ¬ (n + 1) % 6 = 0 := q1
      have hn : n < (cfgA T).N := Nat.lt_of_succ_lt h
      have hN : (cfgA T).N = 126 := N_0
      have ht : tile (crd T ⟨n, hn⟩) = tile (crd T ⟨n + 1, h⟩) := by
        rw [tile_at T ⟨n, hn⟩ (by show n / 6 < 21; omega), tile_at T ⟨n + 1, h⟩ (by show (n + 1) / 6 < 21; omega)]
        congr 1
        exact Fin.ext (by show n / 6 = (n + 1) / 6; omega)
      have hu' : Used T (crd T ⟨n, hn⟩) := by
        show T.tv (tile _) = _
        rw [ht]; exact hu
      have hg : grpAt T ⟨n, hn⟩ = grpAt T ⟨n + 1, h⟩ := Fin.ext (by show (T.tg (tile _)).toNat = (T.tg (tile _)).toNat; rw [ht])
      have hb : heldBefore T m ρ c ⟨n + 1, h⟩ = held T m ρ c n hn := by
        unfold heldBefore
        simp only [Nat.add_one_ne_zero, dif_neg, not_false_eq_true]
        rfl
      rw [held_eq T m ρ c ⟨n + 1, h⟩, stepOutB T m ρ c ⟨n + 1, h⟩ _ hu q1, outB, add_at, product_at T m ρ c ⟨n + 1, h⟩ r d R hR, hb,
        ih hn R (by omega) hu', hg]
      have hm : (n + 1) % 6 = n % 6 + 1 := by omega
      show _ + chunk m c R _ d ((n + 1) % 6) = _
      rw [hm, Finset.sum_range_succ _ (n % 6 + 1)]

/-- In an unused tile the buffer holds zeros after every point. -/
theorem held_unused (c : Dev nD) (i : S512x4096.Idx) : ∀ (n : ℕ) (h : n < (cfgA T).N) (_ : ¬ Used T (crd T ⟨n, h⟩)),
    (held T m ρ c n h i : EReal) = 0 := by
  intro n
  induction n with
  | zero =>
    intro h hu
    rw [held_eq T m ρ c ⟨0, h⟩, stepOutC T m ρ c ⟨0, h⟩ _ hu rfl, outC, zeros_at]
  | succ n ih =>
    intro h hu
    by_cases q1 : First T ⟨n + 1, h⟩
    · rw [held_eq T m ρ c ⟨n + 1, h⟩, stepOutC T m ρ c ⟨n + 1, h⟩ _ hu q1, outC, zeros_at]
    · have q1' : ¬ (n + 1) % 6 = 0 := q1
      have hn : n < (cfgA T).N := Nat.lt_of_succ_lt h
      have hN : (cfgA T).N = 126 := N_0
      have ht : tile (crd T ⟨n, hn⟩) = tile (crd T ⟨n + 1, h⟩) := by
        rw [tile_at T ⟨n, hn⟩ (by show n / 6 < 21; omega), tile_at T ⟨n + 1, h⟩ (by show (n + 1) / 6 < 21; omega)]
        congr 1
        exact Fin.ext (by show n / 6 = (n + 1) / 6; omega)
      have hu' : ¬ Used T (crd T ⟨n, hn⟩) := by
        show ¬ T.tv (tile _) = _
        rw [ht]; exact hu
      have hb : heldBefore T m ρ c ⟨n + 1, h⟩ = held T m ρ c n hn := by
        unfold heldBefore
        simp only [Nat.add_one_ne_zero, dif_neg, not_false_eq_true]
        rfl
      rw [held_eq T m ρ c ⟨n + 1, h⟩, stepOutD T m ρ c ⟨n + 1, h⟩ _ hu q1, (schedD T ⟨n + 1, h⟩ hu q1).2]
      rw [if_neg Bool.false_ne_true, hb]
      exact ih hn hu'

/-- The six chunks make up the group's output. -/
theorem chunks_sum (c : Dev nD) (R : Fin 10752) (g : Fin 4) (d : Fin 4096) :
    ∑ s ∈ Finset.range 6, chunk m c R g d s = Cert.ExpertsReferenceIdeal.Rows.groupOut (X m c) (Rw m c) (Wg m c) (Wu m c) (Wd m c) R g d := by
  rw [Finset.sum_range]
  have hs : ∀ s : Fin 6, chunk m c R g d s.val = ∑ k : Fin 256, term m c R g d ⟨s.val * 256 + k.val, by omega⟩ := fun s => by
    unfold chunk; rw [dif_pos s.isLt]
  rw [Finset.sum_congr rfl fun s _ => hs s]
  exact Fin.sum_mul_add_fin 6 256 (term m c R g d)

/-- What the result array ends holding: the plain text's result. -/
abbrev G (c : Dev nD) : Buf (Elt Ideal) ((c : Thread nD τ).loc main_v0) :=
  Cert.ExpertsReferenceIdeal.Read.val_main_v35 (F := Ideal) (m ((c : Thread nD τ).loc main_arg0)) (m ((c : Thread nD τ).loc main_arg1))
    (X m c) (Rw m c) (Wg m c) (Wu m c) (Wd m c)

/-- What a tile's last point writes back is its block of the plain text's result. -/
theorem flushed_eq (hp : Holds T m) (c : Dev nD) (t : Fin (cfgA T).N) (hf : ((cfgA T).win (5 : Fin 6)).flush t = true) :
    (data T m ρ 0 c).flushed (5 : Fin 6) t = (((cfgA T).win (5 : Fin 6)).blk t).view.read (Elt Ideal) (G m c) := by
  have h5 : t.val % 6 = 5 := of_decide_eq_true ((flush5 T t).symm.trans hf)
  have hN : (cfgA T).N = 126 := N_0
  have ht := t.isLt
  obtain ⟨-, -, ⟨d0, d1⟩, -⟩ := idx_rows t
  funext j
  obtain ⟨r, l, rfl⟩ : ∃ (r : Fin 512) (l : Fin 4096), j = ix2 r l := ⟨j 0, j 1, eq_ix2 j⟩
  have hr := r.isLt
  have he : (((cfgA T).win (5 : Fin 6)).blk t).view.emb (ix2 r l) = ix2 (⟨t.val / 6 * 512 + r.val, by omega⟩ : Fin 10752) l := by
    funext a
    apply Fin.ext
    match a with
    | ⟨0, _⟩ => show cc0_transform_5 (grid0.coords t) 0 * 512 + 1 * r.val = t.val / 6 * 512 + r.val; rw [d0]; omega
    | ⟨1, _⟩ => show cc0_transform_5 (grid0.coords t) 1 * 4096 + 1 * l.val = l.val; rw [d1]; omega
  rw [View.read_apply, he]
  have htile : tile (crd T t) = Cert.ExpertsReferenceIdeal.Rows.tileOf (⟨t.val / 6 * 512 + r.val, by omega⟩ : Fin 10752) := by
    rw [tile_at T t (by omega)]
    congr 1
    exact Fin.ext (by show t.val / 6 = (t.val / 6 * 512 + r.val) / 512; omega)
  show (held T m ρ c t.val t.isLt (ix2 r l) : EReal) = Cert.ExpertsReferenceIdeal.Read.val_main_v35 (F := Ideal) (m ((c : Thread nD τ).loc main_arg0))
    (m ((c : Thread nD τ).loc main_arg1)) (X m c) (Rw m c) (Wg m c) (Wu m c) (Wd m c) (ix2 (⟨t.val / 6 * 512 + r.val, by omega⟩ : Fin 10752) l)
  rw [hp.1 c, hp.2 c, Cert.ExpertsReferenceIdeal.Rows.result _ _ _ _ _ _ _ _ _ (T.tg_lt _)]
  by_cases hu : Used T (crd T t)
  · have hu' : T.tv (Cert.ExpertsReferenceIdeal.Rows.tileOf (⟨t.val / 6 * 512 + r.val, by omega⟩ : Fin 10752)) = 1#32 := by rw [← htile]; exact hu
    rw [if_pos hu', held_used T m ρ c r l t.val t.isLt ⟨t.val / 6 * 512 + r.val, by omega⟩ rfl hu, h5, chunks_sum]
    congr 1
    exact Fin.ext (by show (T.tg (tile (crd T t))).toNat = _; rw [htile])
  · have hu' : ¬ T.tv (Cert.ExpertsReferenceIdeal.Rows.tileOf (⟨t.val / 6 * 512 + r.val, by omega⟩ : Fin 10752)) = 1#32 := by rw [← htile]; exact hu
    rw [if_neg hu', held_unused T m ρ c _ t.val t.isLt hu]

/-- Every index of the result lies in the block of a tile's last point. -/
theorem cover (i : S10752x4096.Idx) : ∃ t : Fin (cfgA T).N, ((cfgA T).win (5 : Fin 6)).flush t = true ∧ i ∈ (((cfgA T).win (5 : Fin 6)).blk t).view.set := by
  have h0 : (i 0 : Nat) < 10752 := (i 0).isLt
  have h1 : (i 1 : Nat) < 4096 := (i 1).isLt
  have hN : (cfgA T).N = 126 := N_0
  obtain ⟨t, hv⟩ : ∃ t : Fin (cfgA T).N, t.val = (i 0 : Nat) / 512 * 6 + 5 := ⟨⟨(i 0 : Nat) / 512 * 6 + 5, by omega⟩, rfl⟩
  refine ⟨t, (flush5 T t).trans (decide_eq_true (by omega)), ?_⟩
  obtain ⟨-, -, ⟨d0, d1⟩, -⟩ := idx_rows t
  show i ∈ ((View.whole main_v0).slice (((cfgA T).win (5 : Fin 6)).rect t)).set
  rw [View.set_slice_whole, Rect.mem_set_unit]
  intro a
  match a with
  | ⟨0, _⟩ => show cc0_transform_5 (grid0.coords t) 0 * 512 ≤ (i 0 : Nat) ∧ (i 0 : Nat) < cc0_transform_5 (grid0.coords t) 0 * 512 + 512
              rw [d0]; omega
  | ⟨1, _⟩ => show cc0_transform_5 (grid0.coords t) 1 * 4096 ≤ (i 1 : Nat) ∧ (i 1 : Nat) < cc0_transform_5 (grid0.coords t) 1 * 4096 + 4096
              rw [d1]; omega

/-- The result array ends holding the plain text's result. -/
theorem final (hp : Holds T m) (c : Dev nD) : (data T m ρ 0 c).arrAt (5 : Fin 6) (cfgA T).N = G m c :=
  (data T m ρ 0 c).arrAt_eq_of_cover (5 : Fin 6) (G m c) (flushed_eq T m ρ hp c) (cover T)

end Cert.ExpertsIdeal.Tables

namespace Cert.Proof

open Idealize.ShloMosaic Idealize.ShloMosaic.TcCoe Idealize.SL.Sem

/-- A word between zero and four, as a signed number, is below four as a natural number. -/
theorem group_lt (w : BitVec 32) (h : IntOp.andi (IntOp.cmpi .sge w 0#32) (IntOp.cmpi .slt w 4#32) = 1#1) : w.toNat < 4 := by
  obtain ⟨h0, h4⟩ := IntOp.andi_eq_one.1 h
  have h0' : (0#32 : BitVec 32).toInt ≤ w.toInt := IntOp.cmpi_sge.1 h0
  have h4' : w.toInt < (4#32 : BitVec 32).toInt := IntOp.cmpi_slt.1 h4
  have e0 : (0#32 : BitVec 32).toInt = 0 := by decide
  have e4 : (4#32 : BitVec 32).toInt = 4 := by decide
  rw [e0] at h0'
  rw [e4] at h4'
  have := BitVec.toInt_eq_toNat_cond w
  have hw := w.isLt
  split at this <;> omega

/-- A word tested to be zero or one is so. -/
theorem flag_01 (w : BitVec 32) (h : IntOp.ori (IntOp.cmpi .eq w 0#32) (IntOp.cmpi .eq w 1#32) = 1#1) : w = 0#32 ∨ w = 1#32 :=
  (IntOp.ori_eq_one.1 h).imp IntOp.cmpi_eq.1 IntOp.cmpi_eq.1

/-- The precondition's two bounds, on any arrays. -/
theorem range_of_fn {F : FTy → Type} [FloatOps F] (a b : IVec Cert.Pre_in_range.S21 32) (x2 : FVec F Cert.Pre_in_range.S10752x4096 .bf16)
    (x3 : FVec F Cert.Pre_in_range.S10752x128 .f32) (x4 x5 : FVec F Cert.Pre_in_range.S4x4096x1536 .bf16) (x6 : FVec F Cert.Pre_in_range.S4x1536x4096 .bf16)
    (h : Cert.Pre_in_range.fn (F := F) a b x2 x3 x4 x5 x6 = fun _ => 1#1) :
    (∀ i, (a i).toNat < 4) ∧ ∀ i, b i = 0#32 ∨ b i = 1#32 := by
  have hj := congrFun h (Shape.Idx.first Cert.Pre_in_range.Gen.facts.h_S_)
  have : Subsingleton Cert.Pre_in_range.S_.Idx := ⟨fun a b => funext fun x => x.elim0⟩
  unfold Cert.Pre_in_range.fn at hj
  dsimp only at hj
  obtain ⟨ha, hb⟩ := IntOp.andi_eq_one.1 hj
  exact ⟨fun i => group_lt _ (Host.reduce_andi_all _ _ _ _ _ ha i), fun i => flag_01 _ (Host.reduce_andi_all _ _ _ _ _ hb i)⟩

/-- Under the precondition the launched tables are in range. -/
theorem tables_of_pre (m : (ℓ : Loc Cert.Experts.nD Cert.Experts.τ Cert.Experts.sig) → Buf (Elt Bits) ℓ) (h : Cert.Pre_Experts m) :
    ∃ T : Cert.Experts.Tables.Tab, Cert.Experts.Tables.Holds T m := by
  obtain ⟨hg, hv⟩ := range_of_fn _ _ _ _ _ _ _ (h 0)
  exact ⟨⟨_, _, hg, hv⟩, fun c => by rw [Subsingleton.elim c 0], fun c => by rw [Subsingleton.elim c 0]⟩

/-- Under the precondition the idealized call's launched tables are in range. -/
theorem ideal_tables_of_pre (m : (ℓ : Loc Cert.ExpertsIdeal.nD Cert.ExpertsIdeal.τ Cert.ExpertsIdeal.sig) → Buf (Elt Ideal) ℓ) (h : Cert.Pre_ExpertsIdeal m) :
    ∃ T : Cert.ExpertsIdeal.Tables.Tab, Cert.ExpertsIdeal.Tables.Holds T m := by
  obtain ⟨hg, hv⟩ := range_of_fn _ _ _ _ _ _ _ (h 0)
  exact ⟨⟨_, _, hg, hv⟩, fun c => by rw [Subsingleton.elim c 0], fun c => by rw [Subsingleton.elim c 0]⟩

/-- The experts' call runs to its end with its arguments unchanged and every counter at zero, for tables in range. -/
theorem experts_frame : Cert.quiescent_Experts := fun m g hp =>
  (tables_of_pre m hp).elim fun T hT => Cert.Experts.Tables.frame T m g hT

/-- The idealized experts' call runs to its end with its arguments unchanged and every counter at zero, for tables in range. -/
theorem experts_ideal_frame : Cert.quiescent_ExpertsIdeal := fun m g hp =>
  (ideal_tables_of_pre m hp).elim fun T hT => Cert.ExpertsIdeal.Tables.frame T m g hT

/-- The experts' call computes, on the extended reals and for tables in range, the plain experts. -/
theorem experts_algebraic : Cert.algebraic_ExpertsIdeal_ExpertsReferenceIdeal := by
  intro m g m' g' hpre hargs
  obtain ⟨T, hT⟩ := ideal_tables_of_pre m hpre
  refine ⟨fun c => Cert.ExpertsIdeal.Tables.G m c, ?_, ?_⟩
  · refine (θ_run _ _ _).mono (fun r h c => ?_) (θ_run_and (Cert.ExpertsIdeal.Tables.run T m g hT) (Cert.ExpertsIdeal.Tables.args_kept T m g hT))
    exact ⟨((h.1 c).1 (5 : Fin 6)).trans (Cert.ExpertsIdeal.Tables.final T m g hT c), h.2 c⟩
  · refine (θ_run _ _ _).mono (fun r h c => ?_) (Cert.ExpertsReferenceIdeal.Value.run m' g')
    obtain ⟨h0, hr⟩ := h c
    refine ⟨h0.trans ?_, hr⟩
    obtain ⟨e0, e1, e2, e3, e4, e5, e6⟩ := hargs c
    rw [Cert.ExpertsReferenceIdeal.Read.val_main_v35_eq, e0, e1, e2, e3, e4, e5, e6]

end Cert.Proof

end
-- ==== Proof.RmsRow.lean ====
/- One row of a root-mean-square norm on the extended reals, and the sign of a sum of products of reals. -/
module

public import Idealize.ShloMosaic.PureOps.Ideal.Laws
public import proofs.«01_k».proof.Proof.Softmax
public import Idealize.ShloMosaic.Lib.IdealHost

@[expose] public section

noncomputable section

namespace Cert.RmsRow

open Idealize.ShloMosaic

/-- An entry of a row divided by the root of the row's mean square and scaled by the gain: `n` is the row's length, `e` the
small constant under the root. -/
def normed {s : Nat} (n e : EReal) (x g : Fin s → EReal) (k : Fin s) : EReal :=
  x k * Ideal.rsqrt (Ideal.div (∑ j, x j * x j) n + e) * g k

/-- Every entry is a real. -/
abbrev Real' {s : Nat} (x : Fin s → EReal) : Prop := ∀ k, ∃ r : ℝ, x k = (r : EReal)

/-- A sum of reals is the real sum. -/
theorem sum_real {s : Nat} (f : Fin s → EReal) (r : Fin s → ℝ) (h : ∀ k, f k = (r k : EReal)) : ∑ k, f k = ((∑ k, r k : ℝ) : EReal) := by
  rw [← Softmax.coe_sum]
  exact Finset.sum_congr rfl fun k _ => h k

/-- A square is not negative. -/
theorem sq_nonneg (x : EReal) : 0 ≤ x * x := by
  induction x using EReal.rec with
  | bot => simp
  | coe r => rw [← EReal.coe_mul]; exact_mod_cast mul_self_nonneg r
  | top => simp

/-- The squares of a row that is not all real add up to plus infinity. -/
theorem sum_sq_top {s : Nat} (x : Fin s → EReal) (hx : ¬Real' x) : ∑ j, x j * x j = ⊤ := by
  obtain ⟨k, hk⟩ := not_forall.1 hx
  have hk2 : x k * x k = ⊤ := by
    generalize x k = y at hk
    induction y using EReal.rec with
    | bot => simp
    | coe r => exact absurd ⟨r, rfl⟩ hk
    | top => simp
  exact top_le_iff.1 (hk2 ▸ Finset.single_le_sum (f := fun j => x j * x j) (fun j _ => sq_nonneg _) (Finset.mem_univ k))

/-- The normed row of any row by a real gain is real, the length and the constant being positive reals: a row holding an infinity
is divided by plus infinity and so zero. -/
theorem normed_real {s : Nat} (n e : ℝ) (hn : 0 < n) (he : 0 < e) (x g : Fin s → EReal) (hg : Real' g) : Real' (normed n e x g) := by
  intro k
  unfold normed
  by_cases hx : Real' x
  · choose a ha using hx
    choose b hb using hg
    have h2 : (∑ j, x j * x j) = ((∑ j, a j * a j : ℝ) : EReal) := sum_real _ _ fun j => by rw [ha, ← EReal.coe_mul]
    have hp : 0 < (∑ j, a j * a j) / n + e := add_pos_of_nonneg_of_pos (div_nonneg (Finset.sum_nonneg fun j _ => mul_self_nonneg _) hn.le) he
    have hd : Ideal.div (∑ j, x j * x j) (n : EReal) + (e : EReal) = (((∑ j, a j * a j) / n + e : ℝ) : EReal) := by
      rw [h2, Ideal.div_coe hn.ne', ← EReal.coe_mul, ← EReal.coe_add, mul_one_div]
    refine ⟨a k * (Real.sqrt ((∑ j, a j * a j) / n + e))⁻¹ * b k, ?_⟩
    rw [hd, ha k, hb k, EReal.coe_mul, EReal.coe_mul]
    congr 2
    show (if _ < 0 then (⊥ : EReal) else if _ = 0 then ⊤ else _) = _
    rw [if_neg (not_lt.2 hp.le), if_neg hp.ne']
  · refine ⟨0, ?_⟩
    rw [sum_sq_top x hx, Ideal.div_coe hn.ne', EReal.top_mul_coe_of_pos (one_div_pos.2 hn), EReal.top_add_coe]
    show x k * 0 * g k = _
    rw [mul_zero, zero_mul, EReal.coe_zero]

/-- The products of a real row by the negated entries of a real column add up to the negated sum. -/
theorem sum_mul_neg {s : Nat} (x w : Fin s → EReal) (hx : Real' x) (hw : Real' w) : ∑ k, x k * -w k = -∑ k, x k * w k := by
  choose a ha using hx
  choose b hb using hw
  rw [sum_real (fun k => x k * w k) (fun k => a k * b k) fun k => by rw [ha, hb, EReal.coe_mul],
    sum_real (fun k => x k * -w k) (fun k => -(a k * b k)) fun k => by rw [ha, hb, mul_neg, EReal.coe_neg, EReal.coe_mul], Finset.sum_neg_distrib, EReal.coe_neg]

/-- The constant 1024. -/
theorem ofBits_1024 : Ideal.ofBits .f32 0x44800000#32 = ((1024 : ℝ) : EReal) := by
  simp [Ideal.ofBits, Ideal.ieee, -EReal.coe_mul]; norm_num

/-- The small constant under the root is a positive real. -/
theorem ofBits_eps : ∃ e : ℝ, 0 < e ∧ Ideal.ofBits .f32 0x358637BD#32 = (e : EReal) := by
  refine ⟨8796093 / 8796093022208, by norm_num, ?_⟩
  simp [Ideal.ofBits, Ideal.ieee, -EReal.coe_mul]; norm_num

end Cert.RmsRow

end
-- ==== Proof.QProjBody.lean ====
/- The block the queries' projection leaves at a grid point: four heads, each its products and its rotary lanes. -/
module

public import proofs.«01_k».proof.Defs
public import proofs.«01_k».proof.Proof.Gen.QProjIdeal.Value
public import proofs.«01_k».proof.Proof.RmsRow
public import Idealize.ShloMosaic.Lib.Pointwise

@[expose] public section

set_option maxRecDepth 16384

noncomputable section

namespace Cert.QProjIdeal.Blocks

open Cert.QProjIdeal Cert.QProjIdeal.Gen Idealize.ShloMosaic Idealize.ShloMosaic.TcCoe Idealize.SL.Sem

/-- The zero offsets of a whole-block access. -/
theorem hz : (![0, 0] : Fin 2 → Nat) = fun _ => 0 := funext fun a => by fin_cases a <;> rfl

/-- The rows' length. -/
abbrev len : EReal := Ideal.ofBits .f32 0x44800000#32

/-- The small constant under the root. -/
abbrev eps : EReal := Ideal.ofBits .f32 0x358637BD#32

/-- The scale of the scores. -/
abbrev sc : EReal := Ideal.ofBits .f32 0x3D93CD3A#32

/-- A normed row against a column of the weight's block. -/
theorem lin_apply (x : Vec Ideal S512x1024 .f32) (g : Vec Ideal S1x1024 .f32) (w : Vec Ideal S1024x1024 .bf16) (r : Fin 512) (l : Fin 1024) :
    k0_pay1 x g w (ix2 r l) = ∑ k : Fin 1024, RmsRow.normed len eps (fun k : Fin 1024 => x (ix2 r k)) (fun k => g (ix2 0 k)) k * w (ix2 k l) := by
  pointwise [k0_pay1]
  rfl

/-- A lane of a head's rotary half-block: its product with the cosine or the sine, and the other half's. -/
def roped (y : Vec Ideal S512x1024 .f32) (cs : Vec Ideal S512x128 .f32) (r : Fin 512) (o : Nat) (l : Fin 128) (ho : o ≤ 896) : EReal :=
  (y (ix2 r ⟨o + l.val, by omega⟩) * cs (ix2 r l)
    + y (ix2 r ⟨o + (l.val + 64) % 128, by omega⟩) * cs (ix2 r (⟨(l.val + 64) % 128, by omega⟩ : Fin 128))) * sc

/-- An entry of the block a point leaves: in each 256 columns, the first 128 are the products scaled, the others the rotary lanes. -/
def entry (y : Vec Ideal S512x1024 .f32) (cs : Vec Ideal S512x128 .f32) (r : Fin 512) (l : Fin 1024) : EReal :=
  if l.val % 256 < 128 then y (ix2 r l) * sc
  else roped y cs r (l.val / 256 * 256 + 128) ⟨l.val % 256 - 128, by omega⟩ (by omega)

/-- The entry of a column in a head's first half, which begins at `o`. -/
theorem entry_nope (y : Vec Ideal S512x1024 .f32) (cs : Vec Ideal S512x128 .f32) (r : Fin 512) (l : Fin 1024) (o : Nat) (j : Fin 128)
    (ho : o ≤ 896) (h1 : o % 256 = 0) (hl : l.val = o + j.val) : entry y cs r l = y (ix2 r ⟨o + j.val, by omega⟩) * sc := by
  unfold entry
  have hj := j.isLt
  rw [if_pos (by omega)]
  exact congrArg (fun l => y (ix2 r l) * sc) (Fin.ext hl)

/-- The entry of a column in a head's second half, which begins at `o`. -/
theorem entry_rope (y : Vec Ideal S512x1024 .f32) (cs : Vec Ideal S512x128 .f32) (r : Fin 512) (l : Fin 1024) (o : Nat) (j : Fin 128)
    (ho : o ≤ 896) (h1 : o % 256 = 128) (hl : l.val = o + j.val) : entry y cs r l = roped y cs r o j ho := by
  unfold entry
  have hj := j.isLt
  rw [if_neg (by omega)]
  have e1 : l.val / 256 * 256 + 128 = o := by omega
  have e2 : (⟨l.val % 256 - 128, by omega⟩ : Fin 128) = j := Fin.ext (by show l.val % 256 - 128 = j.val; omega)
  rw [e2]
  congr 1

/-- The piece at column 0: the products, scaled. -/
theorem piece0 (x : Vec Ideal S512x1024 .f32) (g : Vec Ideal S1x1024 .f32) (w : Vec Ideal S1024x1024 .bf16) (r : Fin 512) (l : Fin 128) :
    k0_pay2 x g w (ix2 r l) = (k0_pay1 x g w) (ix2 r (⟨0 + l.val, by omega⟩ : Fin 1024)) * sc := by
  unfold k0_pay2
  generalize k0_pay1 x g w = y
  pointwise

/-- The piece at column 256: the products, scaled. -/
theorem piece256 (x : Vec Ideal S512x1024 .f32) (g : Vec Ideal S1x1024 .f32) (w : Vec Ideal S1024x1024 .bf16) (r : Fin 512) (l : Fin 128) :
    k0_pay5 (k0_pay4 x g w) (ix2 r l) = (k0_pay1 x g w) (ix2 r (⟨256 + l.val, by omega⟩ : Fin 1024)) * sc := by
  unfold k0_pay4 k0_pay5
  generalize k0_pay1 x g w = y
  pointwise

/-- The piece at column 512: the products, scaled. -/
theorem piece512 (y : FVec Ideal S512x1024 .f32) (r : Fin 512) (l : Fin 128) :
    k0_pay7 y (ix2 r l) = y (ix2 r (⟨512 + l.val, by omega⟩ : Fin 1024)) * sc := by
  unfold k0_pay7
  pointwise

/-- The piece at column 768: the products, scaled. -/
theorem piece768 (y : FVec Ideal S512x1024 .f32) (r : Fin 512) (l : Fin 128) :
    k0_pay9 y (ix2 r l) = y (ix2 r (⟨768 + l.val, by omega⟩ : Fin 1024)) * sc := by
  unfold k0_pay9
  pointwise

/-- The piece at column 128: the rotary lanes. -/
theorem piece128 (x : Vec Ideal S512x1024 .f32) (g : Vec Ideal S1x1024 .f32) (w : Vec Ideal S1024x1024 .bf16) (cs : Vec Ideal S512x128 .f32) (r : Fin 512) (l : Fin 128) :
    k0_pay3 x g w cs (ix2 r l) = roped (k0_pay1 x g w) cs r 128 l (by omega) := by
  unfold k0_pay3 roped
  generalize k0_pay1 x g w = y
  pointwise
  have e : ∀ n : Nat, n + 128 - 64 = n + 64 := fun n => by omega
  simp only [e]

/-- The piece at column 384: the rotary lanes. -/
theorem piece384 (y : FVec Ideal S512x1024 .f32) (cs : Vec Ideal S512x128 .f32) (r : Fin 512) (l : Fin 128) :
    k0_pay6 y cs (ix2 r l) = roped y cs r 384 l (by omega) := by
  unfold k0_pay6 roped
  pointwise
  have e : ∀ n : Nat, n + 128 - 64 = n + 64 := fun n => by omega
  simp only [e]

/-- The piece at column 640: the rotary lanes. -/
theorem piece640 (y : FVec Ideal S512x1024 .f32) (cs : Vec Ideal S512x128 .f32) (r : Fin 512) (l : Fin 128) :
    k0_pay8 y cs (ix2 r l) = roped y cs r 640 l (by omega) := by
  unfold k0_pay8 roped
  pointwise
  have e : ∀ n : Nat, n + 128 - 64 = n + 64 := fun n => by omega
  simp only [e]

/-- The piece at column 896: the rotary lanes. -/
theorem piece896 (y : FVec Ideal S512x1024 .f32) (cs : Vec Ideal S512x128 .f32) (r : Fin 512) (l : Fin 128) :
    k0_pay10 y cs (ix2 r l) = roped y cs r 896 l (by omega) := by
  unfold k0_pay10 roped
  pointwise
  have e : ∀ n : Nat, n + 128 - 64 = n + 64 := fun n => by omega
  simp only [e]

/-- The block the body leaves, at a row and a column. -/
theorem out_apply (x : Vec Ideal S512x1024 .f32) (g : Vec Ideal S1x1024 .f32) (w : Vec Ideal S1024x1024 .bf16) (cs : Vec Ideal S512x128 .f32)
    (r : Fin 512) (l : Fin 1024) : out0_4 x g w cs (ix2 r l) = entry (k0_pay1 x g w) cs r l := by
  unfold out0_4 k0_pay11
  simp only [View.ld_unit_zero (S := S512x1024) hz, View.ld_unit_zero (S := S1x1024) hz, View.ld_unit_zero (S := S1024x1024) hz, View.ld_unit_zero (S := S512x128) hz]
  refine View.canon_apply_of_pieces (Val := Elt Ideal) (e := .bf16) (S := S512x1024) (fun i => entry (k0_pay1 x g w) cs (i 0) (i 1)) _ ?_ (ix2 r l) (cover0_4 _ _ _ _ _ _ _ _ _)
  intro p hp
  simp only [List.mem_cons, List.not_mem_nil, or_false] at hp
  have e1 : ∀ (s : S512x128.Idx), s = ix2 (s 0) (s 1) := fun s => eq_ix2 s
  rcases hp with rfl | rfl | rfl | rfl | rfl | rfl | rfl | rfl <;> intro i <;>
    obtain ⟨a, b, rfl⟩ : ∃ (a : Fin 512) (b : Fin 128), i = ix2 a b := ⟨i 0, i 1, eq_ix2 i⟩
  · refine (piece896 _ cs a b).trans (Eq.symm ?_)
    have hv : (r0_11.emb (ix2 a b) 1 : Fin 1024).val = 896 + b.val := by show 896 + 1 * b.val = _; omega
    have hr : (r0_11.emb (ix2 a b) 0 : Fin 512) = a := Fin.ext (by show 0 + 1 * a.val = _; omega)
    show entry _ cs (r0_11.emb (ix2 a b) 0) (r0_11.emb (ix2 a b) 1) = _
    rw [hr]
    exact entry_rope _ cs a _ 896 b (by omega) (by omega) hv
  · refine (piece768 _ a b).trans (Eq.symm ?_)
    have hv : (r0_10.emb (ix2 a b) 1 : Fin 1024).val = 768 + b.val := by show 768 + 1 * b.val = _; omega
    have hr : (r0_10.emb (ix2 a b) 0 : Fin 512) = a := Fin.ext (by show 0 + 1 * a.val = _; omega)
    show entry _ cs (r0_10.emb (ix2 a b) 0) (r0_10.emb (ix2 a b) 1) = _
    rw [hr]
    exact entry_nope _ cs a _ 768 b (by omega) (by omega) hv
  · refine (piece640 _ cs a b).trans (Eq.symm ?_)
    have hv : (r0_9.emb (ix2 a b) 1 : Fin 1024).val = 640 + b.val := by show 640 + 1 * b.val = _; omega
    have hr : (r0_9.emb (ix2 a b) 0 : Fin 512) = a := Fin.ext (by show 0 + 1 * a.val = _; omega)
    show entry _ cs (r0_9.emb (ix2 a b) 0) (r0_9.emb (ix2 a b) 1) = _
    rw [hr]
    exact entry_rope _ cs a _ 640 b (by omega) (by omega) hv
  · refine (piece512 _ a b).trans (Eq.symm ?_)
    have hv : (r0_8.emb (ix2 a b) 1 : Fin 1024).val = 512 + b.val := by show 512 + 1 * b.val = _; omega
    have hr : (r0_8.emb (ix2 a b) 0 : Fin 512) = a := Fin.ext (by show 0 + 1 * a.val = _; omega)
    show entry _ cs (r0_8.emb (ix2 a b) 0) (r0_8.emb (ix2 a b) 1) = _
    rw [hr]
    exact entry_nope _ cs a _ 512 b (by omega) (by omega) hv
  · refine (piece384 _ cs a b).trans (Eq.symm ?_)
    have hv : (r0_7.emb (ix2 a b) 1 : Fin 1024).val = 384 + b.val := by show 384 + 1 * b.val = _; omega
    have hr : (r0_7.emb (ix2 a b) 0 : Fin 512) = a := Fin.ext (by show 0 + 1 * a.val = _; omega)
    show entry _ cs (r0_7.emb (ix2 a b) 0) (r0_7.emb (ix2 a b) 1) = _
    rw [hr]
    exact entry_rope _ cs a _ 384 b (by omega) (by omega) hv
  · refine (piece256 x g w a b).trans (Eq.symm ?_)
    have hv : (r0_6.emb (ix2 a b) 1 : Fin 1024).val = 256 + b.val := by show 256 + 1 * b.val = _; omega
    have hr : (r0_6.emb (ix2 a b) 0 : Fin 512) = a := Fin.ext (by show 0 + 1 * a.val = _; omega)
    show entry _ cs (r0_6.emb (ix2 a b) 0) (r0_6.emb (ix2 a b) 1) = _
    rw [hr]
    exact entry_nope _ cs a _ 256 b (by omega) (by omega) hv
  · refine (piece128 x g w cs a b).trans (Eq.symm ?_)
    have hv : (r0_5.emb (ix2 a b) 1 : Fin 1024).val = 128 + b.val := by show 128 + 1 * b.val = _; omega
    have hr : (r0_5.emb (ix2 a b) 0 : Fin 512) = a := Fin.ext (by show 0 + 1 * a.val = _; omega)
    show entry _ cs (r0_5.emb (ix2 a b) 0) (r0_5.emb (ix2 a b) 1) = _
    rw [hr]
    exact entry_rope _ cs a _ 128 b (by omega) (by omega) hv
  · refine (piece0 x g w a b).trans (Eq.symm ?_)
    have hv : (r0_4.emb (ix2 a b) 1 : Fin 1024).val = 0 + b.val := by show 0 + 1 * b.val = _; omega
    have hr : (r0_4.emb (ix2 a b) 0 : Fin 512) = a := Fin.ext (by show 0 + 1 * a.val = _; omega)
    show entry _ cs (r0_4.emb (ix2 a b) 0) (r0_4.emb (ix2 a b) 1) = _
    rw [hr]
    exact entry_nope _ cs a _ 0 b (by omega) (by omega) hv

end Cert.QProjIdeal.Blocks

end
-- ==== Proof.QProjRef.lean ====
/- The queries' plain text read at an index: a head's products, and its rotary lanes turned. -/
module

public import proofs.«01_k».proof.Defs
public import proofs.«01_k».proof.Proof.Gen.QProjReferenceIdeal.Run
public import proofs.«01_k».proof.Proof.Gen.QProjReferenceIdeal.Read
public import proofs.«01_k».proof.Proof.RmsRow
public import Idealize.ShloMosaic.Lib.Pointwise

@[expose] public section

set_option maxRecDepth 16384

noncomputable section

namespace Cert.QProjReferenceIdeal.Rows

open Cert.QProjReferenceIdeal Cert.QProjReferenceIdeal.Gen Cert.QProjReferenceIdeal.Read Idealize.ShloMosaic

/-- The rows' array. -/
abbrev RowsT := Vec Ideal S8704x5120 .f32

/-- The gain's array. -/
abbrev Gain := Vec Ideal S1024 .f32

/-- The weight's array. -/
abbrev Weight := Vec Ideal S1024x3072 .f32

/-- The rotary array: cosines, then sines. -/
abbrev Rot := Vec Ideal S8704x128 .f32

/-- A row normed, at one of its first 1024 positions. -/
def nrow (x : RowsT) (g : Gain) (R : Fin 8704) (k : Fin 1024) : EReal :=
  RmsRow.normed (Ideal.ofBits .f32 0x44800000#32) (Ideal.ofBits .f32 0x358637BD#32) (fun k : Fin 1024 => x (ix2 R (⟨k.val, by omega⟩ : Fin 5120))) (fun k => g (ix1 k)) k

/-- A normed row against a column of the weight. -/
def lin (x : RowsT) (g : Gain) (w : Weight) (R : Fin 8704) (n : Nat) (hn : n < 3072) : EReal :=
  ∑ k : Fin 1024, nrow x g R k * w (ix2 k ⟨n, hn⟩)

/-- The rotary lanes' products turned: the second quarter of each half negated in place of the first. -/
def turned (x : RowsT) (g : Gain) (w : Weight) (R : Fin 8704) (h : Fin 16) (j : Fin 64) : EReal :=
  if _ : j.val % 32 < 16 then -lin x g w R (h.val * 192 + 128 + j.val + 16) (by omega) else lin x g w R (h.val * 192 + 128 + j.val - 16) (by omega)

/-- A rotary lane: its product by the cosine and the turned one by the sine. -/
def rope (x : RowsT) (g : Gain) (w : Weight) (cs : Rot) (R : Fin 8704) (h : Fin 16) (j : Fin 64) : EReal :=
  lin x g w R (h.val * 192 + 128 + j.val) (by omega) * cs (ix2 R (⟨j.val, by omega⟩ : Fin 128)) + turned x g w R h j * cs (ix2 R (⟨64 + j.val, by omega⟩ : Fin 128))

/-- The scale of the scores. -/
abbrev sc : EReal := Ideal.ofBits .f32 0x3D93CD3A#32

/-- The normed rows. -/
theorem norm_row (x : RowsT) (g : Gain) (R : Fin 8704) (k : Fin 1024) : val_main_v17 (F := Ideal) x g (ix2 R k) = nrow x g R k := by
  pointwise [val_main_v17, val_main_v16, val_main_v15, val_main_v14, val_main_v13, val_main_v12, val_main_v11, val_main_v10, val_main_v9,
    val_main_v8, val_main_v7, val_main_v6, val_main_v5, val_main_v4, val_main_cst, val_main_cst_0, val_main_cst_1]
  unfold nrow RmsRow.normed
  with_reducible rfl

/-- The same column, however its number is spelt. -/
theorem lin_congr (x : RowsT) (g : Gain) (w : Weight) (R : Fin 8704) {n n' : Nat} (hn : n < 3072) (hn' : n' < 3072) (e : n = n') :
    lin x g w R n hn = lin x g w R n' hn' := by
  subst e
  rfl

/-- The products of a head. -/
theorem head (x : RowsT) (g : Gain) (w : Weight) (R : Fin 8704) (h : Fin 16) (n : Fin 192) :
    val_main_v19 (F := Ideal) x g w (ix3 R h n) = lin x g w R (h.val * 192 + n.val) (by omega) := by
  have hR := R.isLt
  have hh := h.isLt
  have hn := n.isLt
  have e : idx_main_v19 (ix3 R h n) = ix2 R (⟨h.val * 192 + n.val, by omega⟩ : Fin 3072) := by
    funext a
    apply Fin.ext
    match a with
    | ⟨0, _⟩ => simp only [idx_main_v19, ix2, ix3]; omega
    | ⟨1, _⟩ => simp only [idx_main_v19, ix2, ix3]; omega
  rw [val_main_v19_apply, e, val_main_v18_apply]
  refine Finset.sum_congr rfl fun k _ => congrArg₂ (· * ·) ((congrArg (val_main_v17 (F := Ideal) x g) (funext fun a => ?_)).trans (norm_row x g R k)) (congrArg w (funext fun a => ?_))
  · match a with
    | ⟨0, _⟩ => rfl
    | ⟨1, _⟩ => rfl
  · match a with
    | ⟨0, _⟩ => rfl
    | ⟨1, _⟩ => rfl

/-- The cosines. -/
theorem cosine (cs : Rot) (R : Fin 8704) (h : Fin 16) (j : Fin 64) :
    val_main_v24 (F := Ideal) cs (ix3 R h j) = cs (ix2 R (⟨j.val, by omega⟩ : Fin 128)) := by
  pointwise [val_main_v24, val_main_v1, val_main_v0]

/-- The sines. -/
theorem sine (cs : Rot) (R : Fin 8704) (h : Fin 16) (j : Fin 64) :
    val_main_v35 (F := Ideal) cs (ix3 R h j) = cs (ix2 R (⟨64 + j.val, by omega⟩ : Fin 128)) := by
  pointwise [val_main_v35, val_main_v3, val_main_v2]

/-- The turned products. -/
theorem turned_apply (x : RowsT) (g : Gain) (w : Weight) (R : Fin 8704) (h : Fin 16) (j : Fin 64) :
    val_main_v34 (F := Ideal) x g w (ix3 R h j) = turned x g w R h j := by
  have hy : ∀ n : Fin 192, val_main_v19 (F := Ideal) x g w (ix3 R h n) = lin x g w R (h.val * 192 + n.val) (by omega) := head x g w R h
  unfold val_main_v34 val_main_v33 val_main_v32 val_main_v31 val_main_v30 val_main_v29 val_main_v28 val_main_v27 val_main_v26 val_main_v23 val_main_v22 val_main_v21 turned
  generalize val_main_v19 (F := Ideal) x g w = y at hy ⊢
  pointwise
  have hj := j.isLt
  by_cases a : j.val < 32
  · rw [dif_pos a]
    by_cases b : j.val < 16
    · rw [dif_pos b, dif_pos (show j.val % 32 < 16 by omega)]
      exact congrArg (fun v : EReal => -v) ((hy _).trans (lin_congr x g w R _ _ (by show h.val * 192 + (128 + (16 + j.val)) = _; omega)))
    · rw [dif_neg b, dif_neg (show ¬j.val % 32 < 16 by omega)]
      exact (hy _).trans (lin_congr x g w R _ _ (by show h.val * 192 + (128 + (j.val - 16)) = _; omega))
  · rw [dif_neg a]
    by_cases b : j.val - 32 < 16
    · rw [dif_pos b, dif_pos (show j.val % 32 < 16 by omega)]
      exact congrArg (fun v : EReal => -v) ((hy _).trans (lin_congr x g w R _ _ (by show h.val * 192 + (128 + (32 + (16 + (j.val - 32)))) = _; omega)))
    · rw [dif_neg b, dif_neg (show ¬j.val % 32 < 16 by omega)]
      exact (hy _).trans (lin_congr x g w R _ _ (by show h.val * 192 + (128 + (32 + (j.val - 32 - 16))) = _; omega))

/-- A head's rotary lanes. -/
theorem rope_apply (x : RowsT) (g : Gain) (w : Weight) (cs : Rot) (R : Fin 8704) (h : Fin 16) (j : Fin 64) :
    val_main_v37 (F := Ideal) x g w cs (ix3 R h j) = rope x g w cs R h j := by
  have h21 : val_main_v21 (F := Ideal) x g w (ix3 R h j) = lin x g w R (h.val * 192 + 128 + j.val) (by omega) := by
    have hy : ∀ n : Fin 192, val_main_v19 (F := Ideal) x g w (ix3 R h n) = lin x g w R (h.val * 192 + n.val) (by omega) := head x g w R h
    unfold val_main_v21
    generalize val_main_v19 (F := Ideal) x g w = y at hy ⊢
    pointwise
    exact (hy _).trans (lin_congr x g w R _ _ (by dsimp only; omega))
  rw [val_main_v37_apply, val_main_v36_apply, val_main_v25_apply, h21, turned_apply, cosine, sine]
  rfl

/-- A result entry in a head's first 128 columns. -/
theorem result_nope (x : RowsT) (g : Gain) (w : Weight) (cs : Rot) (R : Fin 8704) (L : Fin 4096) (h : Fin 16) (l : Fin 128)
    (hL : L.val = h.val * 256 + l.val) :
    val_main_v42 (F := Ideal) x g w cs (ix2 R L) = lin x g w R (h.val * 192 + l.val) (by omega) * sc := by
  have hl := l.isLt
  have hR := R.isLt
  have hh := h.isLt
  have e : idx_main_v41 (ix2 R L) = ix3 R h (⟨l.val, by omega⟩ : Fin 256) := by
    funext a
    apply Fin.ext
    match a with
    | ⟨0, _⟩ => simp only [idx_main_v41, ix2, ix3]; omega
    | ⟨1, _⟩ => simp only [idx_main_v41, ix2, ix3]; omega
    | ⟨2, _⟩ => simp only [idx_main_v41, ix2, ix3]; omega
  have h38 : val_main_v38 (F := Ideal) x g w cs (ix3 R h (⟨l.val, by omega⟩ : Fin 256)) = lin x g w R (h.val * 192 + l.val) (by omega) := by
    have hy : ∀ n : Fin 192, val_main_v19 (F := Ideal) x g w (ix3 R h n) = lin x g w R (h.val * 192 + n.val) (by omega) := head x g w R h
    unfold val_main_v38 val_main_v20
    generalize val_main_v19 (F := Ideal) x g w = y at hy ⊢
    generalize val_main_v37 (F := Ideal) x g w cs = z
    pointwise
    exact hy _
  rw [val_main_v42_apply, val_main_v41_apply, e, val_main_v40_apply, h38, val_main_v39_apply, val_main_cst_2_apply]
  rfl

/-- A result entry in a head's last 128 columns, where the 64 rotary lanes stand twice. -/
theorem result_rope (x : RowsT) (g : Gain) (w : Weight) (cs : Rot) (R : Fin 8704) (L : Fin 4096) (h : Fin 16) (b : Fin 2) (j : Fin 64)
    (hL : L.val = h.val * 256 + 128 + b.val * 64 + j.val) :
    val_main_v42 (F := Ideal) x g w cs (ix2 R L) = rope x g w cs R h j * sc := by
  have hj := j.isLt
  have hb := b.isLt
  have hR := R.isLt
  have hh := h.isLt
  have e : idx_main_v41 (ix2 R L) = ix3 R h (⟨128 + b.val * 64 + j.val, by omega⟩ : Fin 256) := by
    funext a
    apply Fin.ext
    match a with
    | ⟨0, _⟩ => simp only [idx_main_v41, ix2, ix3]; omega
    | ⟨1, _⟩ => simp only [idx_main_v41, ix2, ix3]; omega
    | ⟨2, _⟩ => simp only [idx_main_v41, ix2, ix3]; omega
  have h38 : val_main_v38 (F := Ideal) x g w cs (ix3 R h (⟨128 + b.val * 64 + j.val, by omega⟩ : Fin 256)) = rope x g w cs R h j := by
    have hy := fun j => rope_apply x g w cs R h j
    unfold val_main_v38
    generalize val_main_v37 (F := Ideal) x g w cs = z at hy ⊢
    generalize val_main_v20 (F := Ideal) x g w = y
    pointwise
    rw [dif_neg (show ¬128 + b.val * 64 + j.val < 128 by omega)]
    by_cases h0 : b.val = 0
    · rw [dif_pos (show 128 + b.val * 64 + j.val - 128 < 64 by omega)]
      exact (hy _).trans (congrArg (rope x g w cs R h) (Fin.ext (by dsimp only; omega)))
    · rw [dif_neg (show ¬128 + b.val * 64 + j.val - 128 < 64 by omega)]
      exact (hy _).trans (congrArg (rope x g w cs R h) (Fin.ext (by dsimp only; omega)))
  rw [val_main_v42_apply, val_main_v41_apply, e, val_main_v40_apply, h38, val_main_v39_apply, val_main_cst_2_apply]
  rfl

end Cert.QProjReferenceIdeal.Rows

end
-- ==== Proof.QProjHost.lean ====
/- What a grid point of the queries' projection is given: its blocks of the rows, the gain, the prepared weight and the rotary array. -/
module

public import proofs.«01_k».proof.Defs
public import proofs.«01_k».proof.Proof.Gen.QProjIdeal.Value
public import proofs.«01_k».proof.Proof.Gen.QProjReferenceIdeal.Run
public import proofs.«01_k».proof.Proof.Gen.QProjReferenceIdeal.Read
public import proofs.«01_k».proof.Proof.Gen.QProjIdeal.Frame
public import proofs.«01_k».proof.Proof.Gen.QProj.Frame
public import proofs.«01_k».proof.Proof.QProjBody
public import proofs.«01_k».proof.Proof.QProjRef
public import Idealize.ShloMosaic.Lib.Pointwise
public import Idealize.ShloMosaic.Lib.StableHlo.ReadAt

@[expose] public section

set_option maxRecDepth 16384

noncomputable section

namespace Cert.QProjIdeal.Blocks

open Cert.QProjIdeal Cert.QProjIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The row block of the rows at a point. -/
theorem idx0 : ∀ t : Fin cfg0.N, win0_0.index t 0 = t.val / 4 ∧ win0_0.index t 1 = 0 :=
  (by decide +kernel : ∀ t : Fin grid0.N, win0_0.index t 0 = t.val / 4 ∧ win0_0.index t 1 = 0)

/-- The gain is whole at every point. -/
theorem idx1 : ∀ t : Fin cfg0.N, win0_1.index t 0 = 0 ∧ win0_1.index t 1 = 0 :=
  (by decide +kernel : ∀ t : Fin grid0.N, win0_1.index t 0 = 0 ∧ win0_1.index t 1 = 0)

/-- The column block of the weight at a point. -/
theorem idx2 : ∀ t : Fin cfg0.N, win0_2.index t 0 = 0 ∧ win0_2.index t 1 = t.val % 4 :=
  (by decide +kernel : ∀ t : Fin grid0.N, win0_2.index t 0 = 0 ∧ win0_2.index t 1 = t.val % 4)

/-- The row block of the rotary array at a point. -/
theorem idx3 : ∀ t : Fin cfg0.N, win0_3.index t 0 = t.val / 4 ∧ win0_3.index t 1 = 0 :=
  (by decide +kernel : ∀ t : Fin grid0.N, win0_3.index t 0 = t.val / 4 ∧ win0_3.index t 1 = 0)

/-- The block of the result at a point. -/
theorem idx4 : ∀ t : Fin cfg0.N, win0_4.index t 0 = t.val / 4 ∧ win0_4.index t 1 = t.val % 4 :=
  (by decide +kernel : ∀ t : Fin grid0.N, win0_4.index t 0 = t.val / 4 ∧ win0_4.index t 1 = t.val % 4)

/-- No transfer of the result is cut short. -/
theorem size4 : ∀ t : Fin cfg0.N, win0_4.xsize (grid0.coords t) 0 = 512 ∧ win0_4.xsize (grid0.coords t) 1 = 1024 :=
  (by decide +kernel : ∀ t : Fin grid0.N, win0_4.xsize (grid0.coords t) 0 = 512 ∧ win0_4.xsize (grid0.coords t) 1 = 1024)

/-- Every point writes its block back. -/
theorem flush4 : ∀ t : Fin cfg0.N, (cfg0.win 4).flush t = true :=
  (by decide +kernel : ∀ t : Fin grid0.N, win0_4.flush t = true)

/-- The rows, as launched. -/
abbrev X (c : Dev nD) : Vec Ideal S8704x5120 .f32 := m ((c : Thread nD τ).loc main_arg0)

/-- The gain, as launched. -/
abbrev Gn (c : Dev nD) : Vec Ideal S1024 .f32 := m ((c : Thread nD τ).loc main_arg1)

/-- The weight, as launched. -/
abbrev W (c : Dev nD) : Vec Ideal S1024x3072 .f32 := m ((c : Thread nD τ).loc main_arg2)

/-- The rotary array, as launched. -/
abbrev CS (c : Dev nD) : Vec Ideal S8704x128 .f32 := m ((c : Thread nD τ).loc main_arg3)

/-- The plain queries. -/
def prod (x : Vec Ideal S8704x5120 .f32) (g : Vec Ideal S1024 .f32) (w : Vec Ideal S1024x3072 .f32) (cs : Vec Ideal S8704x128 .f32) : Vec Ideal S8704x4096 .bf16 :=
  Cert.QProjReferenceIdeal.Read.val_main_v42 (F := Ideal) x g w cs

/-- What the result array ends holding: the plain queries. -/
abbrev G (c : Dev nD) : Buf (Elt Ideal) ((c : Thread nD τ).loc main_v16) := prod (X m c) (Gn m c) (W m c) (CS m c)

/-- The gain and the rotary columns of the weight, the last 64 of a head's 192, hold no infinity. -/
structure Finite (g : Vec Ideal S1024 .f32) (w : Vec Ideal S1024x3072 .f32) : Prop where
  /-- The gain holds none. -/
  gain : ∀ k : Fin 1024, ∃ r : ℝ, (g (ix1 k) : EReal) = r
  /-- The weight's rotary columns hold none. -/
  weight : ∀ (k : Fin 1024) (n : Fin 3072), 128 ≤ n.val % 192 → ∃ r : ℝ, (w (ix2 k n) : EReal) = r

/-- The gain as the call finds it: one row. -/
theorem gain (c : Dev nD) (k : Fin 1024) : (V m c main_v15 : Vec Ideal S1x1024 .f32) (ix2 0 k) = Gn m c (ix1 k) := by
  unfold V
  after_results
  pointwise

/-- The products' weight in a head's first 192 columns: the head's own columns. -/
theorem weight_own (c : Dev nD) (k : Fin 1024) (h : Fin 16) (l : Fin 192) :
    (V m c main_v14 : Vec Ideal S1024x4096 .bf16) (ix2 k ⟨h.val * 256 + l.val, by omega⟩) = W m c (ix2 k (⟨h.val * 192 + l.val, by omega⟩ : Fin 3072)) := by
  have hl := l.isLt
  unfold V
  after_reads_at
  by_cases a : (h.val * 256 + l.val) % 256 < 128
  · rw [dif_pos a]
    after_reads_at
    exact congrArg (fun n : Fin 3072 => W m c (ix2 k n)) (Fin.ext (by dsimp only; omega))
  · rw [dif_neg a, dif_pos (show (h.val * 256 + l.val) % 256 - 128 < 64 by omega)]
    after_reads_at
    exact congrArg (fun n : Fin 3072 => W m c (ix2 k n)) (Fin.ext (by dsimp only; omega))

set_option maxHeartbeats 1000000 in
/-- The products' weight in a head's last 64 columns: the rotary columns turned. -/
theorem weight_turned (c : Dev nD) (k : Fin 1024) (h : Fin 16) (j : Fin 64) :
    (V m c main_v14 : Vec Ideal S1024x4096 .bf16) (ix2 k ⟨h.val * 256 + (192 + j.val), by omega⟩)
      = if _ : j.val % 32 < 16 then -W m c (ix2 k (⟨h.val * 192 + 128 + j.val + 16, by omega⟩ : Fin 3072)) else (W m c (ix2 k (⟨h.val * 192 + 128 + j.val - 16, by omega⟩ : Fin 3072)) : EReal) := by
  have hj := j.isLt
  unfold V
  after_reads_at
  rw [dif_neg (show ¬(h.val * 256 + (192 + j.val)) % 256 < 128 by omega), dif_neg (show ¬(h.val * 256 + (192 + j.val)) % 256 - 128 < 64 by omega)]
  after_reads_at
  by_cases a : (h.val * 256 + (192 + j.val)) % 256 - 128 - 64 < 16
  · rw [dif_pos a, dif_pos (show j.val % 32 < 16 by omega)]
    after_reads_at
    exact congrArg (fun n : Fin 3072 => -(W m c (ix2 k n) : EReal)) (Fin.ext (by dsimp only; omega))
  rw [dif_neg a]
  by_cases b : (h.val * 256 + (192 + j.val)) % 256 - 128 - 64 - 16 < 16
  · rw [dif_pos b, dif_neg (show ¬j.val % 32 < 16 by omega)]
    after_reads_at
    exact congrArg (fun n : Fin 3072 => W m c (ix2 k n)) (Fin.ext (by dsimp only; omega))
  rw [dif_neg b]
  by_cases d : (h.val * 256 + (192 + j.val)) % 256 - 128 - 64 - 16 - 16 < 16
  · rw [dif_pos d, dif_pos (show j.val % 32 < 16 by omega)]
    after_reads_at
    exact congrArg (fun n : Fin 3072 => -(W m c (ix2 k n) : EReal)) (Fin.ext (by dsimp only; omega))
  · rw [dif_neg d, dif_neg (show ¬j.val % 32 < 16 by omega)]
    after_reads_at
    exact congrArg (fun n : Fin 3072 => W m c (ix2 k n)) (Fin.ext (by dsimp only; omega))

/-- The rows' block at a point, by its rows in the whole array. -/
theorem blk0 (c : Dev nD) (t : Fin cfg0.N) (r : Fin 512) (k : Fin 1024) (R : Fin 8704) (hR : R.val = t.val / 4 * 512 + r.val) :
    (iblk m c 0 t : Vec Ideal S512x1024 .f32) (ix2 r k) = X m c (ix2 R (⟨k.val, by omega⟩ : Fin 5120)) := by
  obtain ⟨a0, a1⟩ := idx0 t
  unfold iblk
  rw [View.read_apply]
  show V m c main_arg0 _ = _
  rw [V_main_arg0 m c]
  show X m c _ = _
  congr 1
  funext a
  apply Fin.ext
  match a with
  | ⟨0, _⟩ => show win0_0.index t 0 * 512 + 1 * r.val = R.val; rw [a0]; omega
  | ⟨1, _⟩ => show win0_0.index t 1 * 1024 + 1 * k.val = k.val; rw [a1]; omega

/-- The gain's block at a point. -/
theorem blk1 (c : Dev nD) (t : Fin cfg0.N) (k : Fin 1024) : (iblk m c 1 t : Vec Ideal S1x1024 .f32) (ix2 0 k) = Gn m c (ix1 k) := by
  obtain ⟨a0, a1⟩ := idx1 t
  have he : ((cfg0.win 1).blk t).view.emb (ix2 0 k) = ix2 0 k := by
    funext a
    apply Fin.ext
    match a with
    | ⟨0, _⟩ => show win0_1.index t 0 * 1 + 1 * 0 = 0; rw [a0]
    | ⟨1, _⟩ => show win0_1.index t 1 * 1024 + 1 * k.val = k.val; rw [a1]; omega
  refine Eq.trans ?_ (gain m c k)
  unfold iblk
  rw [View.read_apply, he]
  rfl

/-- The weight's block at a point, whatever the arrays hold. -/
theorem read2 (c : Dev nD) (v : (b : Ref sig .tc) → Buf (Elt Ideal) ((c : Thread nD τ).loc b)) (t : Fin cfg0.N) (k l : Fin 1024) (L : Fin 4096) (hL : L.val = t.val % 4 * 1024 + l.val) :
    (((cfg0.win 2).blk t).view.read (Elt Ideal) (v (Pipeline.arrRef spec0 2)) : Vec Ideal S1024x1024 .bf16) (ix2 k l) = (v main_v14 : Vec Ideal S1024x4096 .bf16) (ix2 k L) := by
  obtain ⟨a0, a1⟩ := idx2 t
  rw [View.read_apply]
  show v main_v14 _ = _
  congr 1
  funext a
  apply Fin.ext
  match a with
  | ⟨0, _⟩ => show win0_2.index t 0 * 1024 + 1 * k.val = k.val; rw [a0]; omega
  | ⟨1, _⟩ => show win0_2.index t 1 * 1024 + 1 * l.val = L.val; rw [a1]; omega

/-- The weight's block at a point, by its columns in the prepared array. -/
theorem blk2 (c : Dev nD) (t : Fin cfg0.N) (k l : Fin 1024) (L : Fin 4096) (hL : L.val = t.val % 4 * 1024 + l.val) :
    (iblk m c 2 t : Vec Ideal S1024x1024 .bf16) (ix2 k l) = (V m c main_v14 : Vec Ideal S1024x4096 .bf16) (ix2 k L) := by
  unfold iblk
  exact read2 c (V m c) t k l L hL

/-- The rotary array's block at a point, by its rows in the whole array. -/
theorem blk3 (c : Dev nD) (t : Fin cfg0.N) (r : Fin 512) (l : Fin 128) (R : Fin 8704) (hR : R.val = t.val / 4 * 512 + r.val) :
    (iblk m c 3 t : Vec Ideal S512x128 .f32) (ix2 r l) = CS m c (ix2 R l) := by
  obtain ⟨a0, a1⟩ := idx3 t
  unfold iblk
  rw [View.read_apply]
  show V m c main_arg3 _ = _
  rw [V_main_arg3 m c]
  show CS m c _ = _
  congr 1
  funext a
  apply Fin.ext
  match a with
  | ⟨0, _⟩ => show win0_3.index t 0 * 512 + 1 * r.val = R.val; rw [a0]; omega
  | ⟨1, _⟩ => show win0_3.index t 1 * 128 + 1 * l.val = l.val; rw [a1]; omega

end Cert.QProjIdeal.Blocks

end
-- ==== Proof.QProjValue.lean ====
/- The value of the queries' projection: the rows normed, times a weight whose rotary columns stand beside their turned ones, the
rotary lanes added up by a rotation, are the normed rows times the plain weight, each head's rotary lanes turned afterwards. -/
module

public import proofs.«01_k».proof.Defs
public import proofs.«01_k».proof.Proof.Gen.QProjIdeal.Value
public import proofs.«01_k».proof.Proof.Gen.QProjReferenceIdeal.Run
public import proofs.«01_k».proof.Proof.Gen.QProjReferenceIdeal.Read
public import proofs.«01_k».proof.Proof.Gen.QProjIdeal.Frame
public import proofs.«01_k».proof.Proof.Gen.QProj.Frame
public import proofs.«01_k».proof.Proof.QProjHost
public import proofs.«01_k».proof.Proof.QProjRef
public import Idealize.ShloMosaic.Lib.Pointwise
public import Idealize.ShloMosaic.Lib.ReduceAll

@[expose] public section

set_option maxRecDepth 16384

noncomputable section

namespace Cert.QProjIdeal.Blocks

open Cert.QProjIdeal Cert.QProjIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- A point's products: a normed row against a column of the prepared weight. -/
theorem lin_blk (c : Dev nD) (t : Fin cfg0.N) (r : Fin 512) (l : Fin 1024) (R : Fin 8704) (hR : R.val = t.val / 4 * 512 + r.val)
    (L : Fin 4096) (hL : L.val = t.val % 4 * 1024 + l.val) :
    k0_pay1 (iblk m c 0 t) (iblk m c 1 t) (iblk m c 2 t) (ix2 r l)
      = ∑ k : Fin 1024, Cert.QProjReferenceIdeal.Rows.nrow (X m c) (Gn m c) R k * (V m c main_v14 : Vec Ideal S1024x4096 .bf16) (ix2 k L) := by
  rw [lin_apply]
  have hx : (fun k : Fin 1024 => (iblk m c 0 t : Vec Ideal S512x1024 .f32) (ix2 r k)) = fun k : Fin 1024 => X m c (ix2 R (⟨k.val, by omega⟩ : Fin 5120)) :=
    funext fun k => blk0 m c t r k R hR
  have hg : (fun k : Fin 1024 => (iblk m c 1 t : Vec Ideal S1x1024 .f32) (ix2 0 k)) = fun k : Fin 1024 => Gn m c (ix1 k) := funext fun k => blk1 m c t k
  refine Finset.sum_congr rfl fun k _ => congrArg₂ (· * ·) ?_ (blk2 m c t k l L hL)
  unfold Cert.QProjReferenceIdeal.Rows.nrow
  exact congrArg₂ (fun x g => RmsRow.normed len eps x g k) hx hg

/-- A point's products in a head's first 192 columns. -/
theorem lin_own (c : Dev nD) (t : Fin cfg0.N) (r : Fin 512) (l : Fin 1024) (R : Fin 8704) (hR : R.val = t.val / 4 * 512 + r.val)
    (h : Fin 16) (n : Fin 192) (hL : h.val * 256 + n.val = t.val % 4 * 1024 + l.val) (N : Nat) (hN : N < 3072) (e : N = h.val * 192 + n.val) :
    k0_pay1 (iblk m c 0 t) (iblk m c 1 t) (iblk m c 2 t) (ix2 r l) = Cert.QProjReferenceIdeal.Rows.lin (X m c) (Gn m c) (W m c) R N hN := by
  subst e
  rw [lin_blk m c t r l R hR ⟨h.val * 256 + n.val, by omega⟩ hL]
  unfold Cert.QProjReferenceIdeal.Rows.lin
  exact Finset.sum_congr rfl fun k _ => congrArg (Cert.QProjReferenceIdeal.Rows.nrow (X m c) (Gn m c) R k * ·) (weight_own m c k h n)

/-- A row, normed by a finite gain, is finite. -/
theorem nrow_real (x : Vec Ideal S8704x5120 .f32) (g : Vec Ideal S1024 .f32) (w : Vec Ideal S1024x3072 .f32) (hf : Finite g w) (R : Fin 8704) :
    RmsRow.Real' (Cert.QProjReferenceIdeal.Rows.nrow x g R) := by
  obtain ⟨e, he, hb⟩ := RmsRow.ofBits_eps
  intro k
  unfold Cert.QProjReferenceIdeal.Rows.nrow
  rw [RmsRow.ofBits_1024, hb]
  exact RmsRow.normed_real 1024 e (by norm_num) he _ _ hf.gain k

/-- A point's products in a head's last 64 columns: the turned products, the sums of finite products changing sign as one. -/
theorem lin_turned (c : Dev nD) (hf : Finite (Gn m c) (W m c)) (t : Fin cfg0.N) (r : Fin 512) (l : Fin 1024) (R : Fin 8704) (hR : R.val = t.val / 4 * 512 + r.val)
    (h : Fin 16) (j : Fin 64) (hL : h.val * 256 + (192 + j.val) = t.val % 4 * 1024 + l.val) :
    k0_pay1 (iblk m c 0 t) (iblk m c 1 t) (iblk m c 2 t) (ix2 r l) = Cert.QProjReferenceIdeal.Rows.turned (X m c) (Gn m c) (W m c) R h j := by
  rw [lin_blk m c t r l R hR ⟨h.val * 256 + (192 + j.val), by omega⟩ hL]
  refine (Finset.sum_congr rfl fun k _ => congrArg (Cert.QProjReferenceIdeal.Rows.nrow (X m c) (Gn m c) R k * ·) (weight_turned m c k h j)).trans ?_
  unfold Cert.QProjReferenceIdeal.Rows.turned Cert.QProjReferenceIdeal.Rows.lin
  by_cases a : j.val % 32 < 16
  · rw [dif_pos a]
    refine Eq.trans (Finset.sum_congr rfl fun k _ => by rw [dif_pos a]) (RmsRow.sum_mul_neg _ _ (nrow_real _ _ _ hf R) fun k => hf.weight k _ (by dsimp only; omega))
  · rw [dif_neg a]
    exact Finset.sum_congr rfl fun k _ => by rw [dif_neg a]

/-- The two products of a rotary lane, the sine's lane first or second, are the lane turned. -/
theorem roped_blk (c : Dev nD) (hf : Finite (Gn m c) (W m c)) (t : Fin cfg0.N) (r : Fin 512) (R : Fin 8704) (hR : R.val = t.val / 4 * 512 + r.val)
    (h : Fin 16) (o : Nat) (ho : o ≤ 896) (hL : h.val * 256 + 128 = t.val % 4 * 1024 + o) (b : Fin 2) (j : Fin 64) :
    roped (k0_pay1 (iblk m c 0 t) (iblk m c 1 t) (iblk m c 2 t)) (iblk m c 3 t) r o ⟨b.val * 64 + j.val, by omega⟩ ho
      = Cert.QProjReferenceIdeal.Rows.rope (X m c) (Gn m c) (W m c) (CS m c) R h j * sc := by
  have hj := j.isLt
  have h1 := lin_own m c t r (⟨o + j.val, by omega⟩ : Fin 1024) R hR h (⟨128 + j.val, by omega⟩ : Fin 192) (by dsimp only; omega) (h.val * 192 + 128 + j.val) (by omega) (by dsimp only; omega)
  have h2 := lin_turned m c hf t r (⟨o + (64 + j.val), by omega⟩ : Fin 1024) R hR h j (by dsimp only; omega)
  have h3 := blk3 m c t r (⟨j.val, by omega⟩ : Fin 128) R hR
  have h4 := blk3 m c t r (⟨64 + j.val, by omega⟩ : Fin 128) R hR
  unfold roped Cert.QProjReferenceIdeal.Rows.rope
  refine congrArg (· * sc) ?_
  rw [← h1, ← h2, ← h3, ← h4]
  match b with
  | ⟨0, _⟩ =>
    have e1 : (⟨0 * 64 + j.val, by omega⟩ : Fin 128) = ⟨j.val, by omega⟩ := Fin.ext (by dsimp only; omega)
    have e2 : (⟨(0 * 64 + j.val + 64) % 128, by omega⟩ : Fin 128) = ⟨64 + j.val, by omega⟩ := Fin.ext (by dsimp only; omega)
    have e3 : (⟨o + (0 * 64 + j.val), by omega⟩ : Fin 1024) = ⟨o + j.val, by omega⟩ := Fin.ext (by dsimp only; omega)
    have e4 : (⟨o + (0 * 64 + j.val + 64) % 128, by omega⟩ : Fin 1024) = ⟨o + (64 + j.val), by omega⟩ := Fin.ext (by dsimp only; omega)
    simp only [e1, e2, e3, e4]
  | ⟨1, _⟩ =>
    have e1 : (⟨1 * 64 + j.val, by omega⟩ : Fin 128) = ⟨64 + j.val, by omega⟩ := rfl
    have e2 : (⟨(1 * 64 + j.val + 64) % 128, by omega⟩ : Fin 128) = ⟨j.val, by omega⟩ := Fin.ext (by dsimp only; omega)
    have e3 : (⟨o + (1 * 64 + j.val), by omega⟩ : Fin 1024) = ⟨o + (64 + j.val), by omega⟩ := rfl
    have e4 : (⟨o + (1 * 64 + j.val + 64) % 128, by omega⟩ : Fin 1024) = ⟨o + j.val, by omega⟩ := Fin.ext (by dsimp only; omega)
    simp only [e1, e2, e3, e4]
    exact add_comm _ _

/-- What a point writes back is its block of the plain queries. -/
theorem flushed_eq (c : Dev nD) (hf : Finite (Gn m c) (W m c)) (t : Fin cfg0.N) (_ : (cfg0.win 4).flush t = true) :
    (dats m 0 c).flushed 4 t = ((cfg0.win 4).blk t).view.read (Elt Ideal) (G m c) := by
  rw [Value.flushed4]
  obtain ⟨d0, d1⟩ := idx4 t
  have hN : cfg0.N = 68 := N_0
  have ht := t.isLt
  funext j
  obtain ⟨r, l, rfl⟩ : ∃ (r : Fin 512) (l : Fin 1024), j = ix2 r l := ⟨j 0, j 1, eq_ix2 j⟩
  have hr := r.isLt
  have hl := l.isLt
  have he : ((cfg0.win 4).blk t).view.emb (ix2 r l) = ix2 (⟨t.val / 4 * 512 + r.val, by omega⟩ : Fin 8704) (⟨t.val % 4 * 1024 + l.val, by omega⟩ : Fin 4096) := by
    funext a
    apply Fin.ext
    match a with
    | ⟨0, _⟩ => show win0_4.index t 0 * 512 + 1 * r.val = t.val / 4 * 512 + r.val; rw [d0]; omega
    | ⟨1, _⟩ => show win0_4.index t 1 * 1024 + 1 * l.val = t.val % 4 * 1024 + l.val; rw [d1]; omega
  rw [View.read_apply, he]
  show out0_4 (iblk m c 0 t) (iblk m c 1 t) (iblk m c 2 t) (iblk m c 3 t) (ix2 r l) = prod (X m c) (Gn m c) (W m c) (CS m c) _
  rw [out_apply]
  unfold prod
  by_cases h : l.val % 256 < 128
  · rw [entry_nope _ _ r l (l.val / 256 * 256) (⟨l.val % 256, h⟩ : Fin 128) (by omega) (by omega) (by dsimp only; omega)]
    refine Eq.trans (congrArg (· * sc) ?_) (Cert.QProjReferenceIdeal.Rows.result_nope (X m c) (Gn m c) (W m c) (CS m c) _ _ (⟨t.val % 4 * 4 + l.val / 256, by omega⟩ : Fin 16) (⟨l.val % 256, h⟩ : Fin 128) (by dsimp only; omega)).symm
    exact lin_own m c t r _ _ rfl (⟨t.val % 4 * 4 + l.val / 256, by omega⟩ : Fin 16) (⟨l.val % 256, by omega⟩ : Fin 192) (by dsimp only; omega) _ _ rfl
  · rw [entry_rope _ _ r l (l.val / 256 * 256 + 128) (⟨(⟨(l.val % 256 - 128) / 64, by omega⟩ : Fin 2).val * 64 + (⟨l.val % 64, by omega⟩ : Fin 64).val, by dsimp only; omega⟩ : Fin 128) (by omega) (by omega) (by dsimp only; omega)]
    refine Eq.trans (roped_blk m c hf t r _ rfl (⟨t.val % 4 * 4 + l.val / 256, by omega⟩ : Fin 16) _ (by omega) (by dsimp only; omega) _ _)
      (Cert.QProjReferenceIdeal.Rows.result_rope (X m c) (Gn m c) (W m c) (CS m c) _ _ _ (⟨(l.val % 256 - 128) / 64, by omega⟩ : Fin 2) _ (by dsimp only; omega)).symm

/-- Every index of the result lies in the block of some point. -/
theorem cover (i : S8704x4096.Idx) : ∃ t : Fin cfg0.N, (cfg0.win 4).flush t = true ∧ i ∈ ((cfg0.win 4).blk t).view.set := by
  have h0 : (i 0 : Nat) < 8704 := (i 0).isLt
  have h1 : (i 1 : Nat) < 4096 := (i 1).isLt
  have hN : cfg0.N = 68 := N_0
  refine ⟨⟨(i 0 : Nat) / 512 * 4 + (i 1 : Nat) / 1024, by omega⟩, flush4 _, ?_⟩
  generalize ht : (⟨(i 0 : Nat) / 512 * 4 + (i 1 : Nat) / 1024, by omega⟩ : Fin cfg0.N) = t
  have hv : t.val = (i 0 : Nat) / 512 * 4 + (i 1 : Nat) / 1024 := by rw [← ht]
  obtain ⟨d0, d1⟩ := idx4 t
  obtain ⟨s0, s1⟩ := size4 t
  show i ∈ ((View.whole main_v16).slice (win0_4.rect t)).set
  rw [View.set_slice_whole, Rect.mem_set_unit]
  intro a
  match a with
  | ⟨0, _⟩ => show win0_4.index t 0 * 512 ≤ (i 0 : Nat) ∧ (i 0 : Nat) < win0_4.index t 0 * 512 + win0_4.xsize (grid0.coords t) 0
              rw [d0, s0]; omega
  | ⟨1, _⟩ => show win0_4.index t 1 * 1024 ≤ (i 1 : Nat) ∧ (i 1 : Nat) < win0_4.index t 1 * 1024 + win0_4.xsize (grid0.coords t) 1
              rw [d1, s1]; omega

/-- The result array ends holding the plain queries. -/
theorem final (c : Dev nD) (hf : Finite (Gn m c) (W m c)) : (dats m 0 c).arrAt 4 cfg0.N = G m c :=
  (dats m 0 c).arrAt_eq_of_cover 4 (G m c) (flushed_eq m c hf) cover

end Cert.QProjIdeal.Blocks

namespace Cert.Proof

open Idealize.ShloMosaic Idealize.ShloMosaic.TcCoe Idealize.SL.Sem

/-- The side conditions of the queries' predicate. -/
theorem queries_facts : Cert.Pre_finite_queries.Facts where
  shapeCasts_S1024x3072_S1024x16x192 := by decide
  slices_S1024x16x192_S1024x16x64_0_0_128 := by decide
  bcast_S_S1024 := by decide
  reducesTo_S1024_S_d0 := by decide
  h_S_ := by decide
  bcast_S_S1024x16x64 := by decide
  reducesTo_S1024x16x64_S_d0_1_2 := by decide

/-- A magnitude below plus infinity belongs to a real. -/
theorem real_of_abs_f32 (x : EReal) (h : Ideal.cmp .olt (max x (-x)) (Ideal.ofBits .f32 0x7F800000#32) = 1#1) : ∃ r : ℝ, x = (r : EReal) := by
  have hlt : max x (-x) < Ideal.ofBits .f32 0x7F800000#32 := by
    unfold Ideal.cmp at h
    by_contra hn
    simp [hn] at h
  induction x using EReal.rec with
  | bot => exact absurd (lt_of_le_of_lt (le_max_right _ _) hlt) (by simp)
  | coe r => exact ⟨r, rfl⟩
  | top => exact absurd (lt_of_le_of_lt (le_max_left _ _) hlt) (by simp)

/-- Under the precondition the gain and the weight's rotary columns hold no infinity. -/
theorem queries_finite (m : (ℓ : Loc Cert.QProjIdeal.nD Cert.QProjIdeal.τ Cert.QProjIdeal.sig) → Buf (Elt Ideal) ℓ)
    (h : Cert.Pre_QProjIdeal_finite_queries (hPre_finite_queries := queries_facts) m) (c : Dev Cert.QProjIdeal.nD) :
    Cert.QProjIdeal.Blocks.Finite (Cert.QProjIdeal.Blocks.Gn m c) (Cert.QProjIdeal.Blocks.W m c) := by
  have hj := congrFun (h c) (Shape.Idx.first queries_facts.h_S_)
  have : Subsingleton Cert.Pre_finite_queries.S_.Idx := ⟨fun a b => funext fun x => x.elim0⟩
  unfold Cert.Pre_finite_queries.fn at hj
  dsimp only at hj
  obtain ⟨hg, hw⟩ := IntOp.andi_eq_one.1 hj
  refine ⟨fun k => real_of_abs_f32 _ (Host.reduce_andi_all _ _ _ _ _ hg (ix1 k)), fun k n hn => ?_⟩
  obtain ⟨r, e⟩ := real_of_abs_f32 _ (Host.reduce_andi_all _ _ _ _ _ hw (ix3 k (⟨n.val / 192, by omega⟩ : Fin 16) (⟨n.val % 192 - 128, by omega⟩ : Fin 64)))
  refine ⟨r, Eq.trans ?_ e⟩
  rw [extractStridedSlice_apply _ _ _ _ (ix3 k (⟨n.val / 192, by omega⟩ : Fin 16) (⟨n.val % 192, by omega⟩ : Fin 192)) (fun a => match a with
    | ⟨0, _⟩ => by show k.val = 0 + k.val; omega
    | ⟨1, _⟩ => by show n.val / 192 = 0 + n.val / 192; omega
    | ⟨2, _⟩ => by show n.val % 192 = 128 + (n.val % 192 - 128); omega)]
  pointwise

/-- The queries' projection computes, on the extended reals and for a finite gain and finite rotary columns of the weight, the plain queries. -/
theorem qProj_algebraic : Cert.algebraic_QProjIdeal_QProjReferenceIdeal_pre_finite_queries
    (hQProjIdeal := Cert.QProjIdeal.Gen.facts) (hQProjReferenceIdeal := Cert.QProjReferenceIdeal.Gen.facts) (hPre_finite_queries := queries_facts) := by
  intro m g m' g' hpre hargs
  refine ⟨fun c => Cert.QProjIdeal.Blocks.G m c, ?_, ?_⟩
  · refine (θ_run _ _ _).mono (fun r h c => ?_) (Cert.QProjIdeal.Value.run_blocks m g)
    obtain ⟨h0, h1, h2, h3, h4⟩ := h c
    exact ⟨h0.trans (Cert.QProjIdeal.Blocks.final m c (queries_finite m hpre c)), h1, h2, h3, h4⟩
  · refine (θ_run _ _ _).mono (fun r h c => ?_) (Cert.QProjReferenceIdeal.Value.run m' g')
    obtain ⟨h0, h1, h2, h3, h4⟩ := h c
    refine ⟨h0.trans ?_, h1, h2, h3, h4⟩
    obtain ⟨e0, e1, e2, e3⟩ := hargs c
    rw [Cert.QProjReferenceIdeal.Read.val_main_v42_eq, e0, e1, e2, e3]
    rfl

end Cert.Proof

end
-- ==== Proof.KvProjBody.lean ====
/- The blocks the keys' and values' projection leaves at a grid point: four heads' keys, each its products and the shared rotary
lanes, and four heads' values. -/
module

public import proofs.«01_k».proof.Defs
public import proofs.«01_k».proof.Proof.Gen.KvProjIdeal.Value
public import proofs.«01_k».proof.Proof.RmsRow
public import Idealize.ShloMosaic.Lib.Pointwise

@[expose] public section

set_option maxRecDepth 16384

noncomputable section

namespace Cert.KvProjIdeal.Blocks

open Cert.KvProjIdeal Cert.KvProjIdeal.Gen Idealize.ShloMosaic Idealize.ShloMosaic.TcCoe Idealize.SL.Sem

/-- The zero offsets of a whole-block access. -/
theorem hz : (![0, 0] : Fin 2 → Nat) = fun _ => 0 := funext fun a => by fin_cases a <;> rfl

/-- A normed row against a column of the keys' weight block. -/
theorem lin_apply (x : Vec Ideal S512x512 .f32) (g : Vec Ideal S1x512 .f32) (w : Vec Ideal S512x512 .bf16) (r l : Fin 512) :
    k0_pay6 x g w (ix2 r l) = ∑ k : Fin 512, RmsRow.normed (Ideal.ofBits .f32 0x44000000#32) (Ideal.ofBits .f32 0x358637BD#32)
      (fun k : Fin 512 => x (ix2 r k)) (fun k => g (ix2 0 k)) k * w (ix2 k l) := by
  pointwise [k0_pay6, k0_pay5]
  rfl

/-- The values: a normed row against a column of the values' weight block. -/
theorem values_apply (x : Vec Ideal S512x512 .f32) (g : Vec Ideal S1x512 .f32) (w : Vec Ideal S512x512 .bf16) (r l : Fin 512) :
    k0_pay7 x g w (ix2 r l) = ∑ k : Fin 512, RmsRow.normed (Ideal.ofBits .f32 0x44000000#32) (Ideal.ofBits .f32 0x358637BD#32)
      (fun k : Fin 512 => x (ix2 r k)) (fun k => g (ix2 0 k)) k * w (ix2 k l) := by
  pointwise [k0_pay7, k0_pay5]
  rfl

/-- A lane of the shared rotary half-block: the rotary key by its cosine and the half turned by its sine, the last 64 lanes zero. -/
def shared (y cs : Vec Ideal S512x128 .f32) (r : Fin 512) (l : Fin 128) : EReal :=
  if _ : l.val < 64 then y (ix2 r l) * cs (ix2 r l) + y (ix2 r (⟨64 + l.val, by omega⟩ : Fin 128)) * cs (ix2 r (⟨64 + l.val, by omega⟩ : Fin 128)) else 0

/-- The comparison of a lane's number with 64. -/
theorem lane_bit : ∀ l : Fin 128, IntOp.cmpi .slt (BitVec.ofNat 32 l.val) 64#32 = if l.val < 64 then 1#1 else 0#1 := by
  decide +kernel

/-- The rotary piece. -/
theorem shared_apply (y cs : Vec Ideal S512x128 .f32) (r : Fin 512) (l : Fin 128) : k0_pay8 y cs (ix2 r l) = shared y cs r l := by
  unfold k0_pay8 shared
  pointwise
  rw [lane_bit l]
  by_cases h : l.val < 64
  · rw [if_pos h, dif_pos h]
    have e : (⟨(l.val + 128 - 64) % 128, by omega⟩ : Fin 128) = ⟨64 + l.val, by omega⟩ := Fin.ext (by dsimp only; omega)
    simp only [e]
    rfl
  · rw [if_neg h, dif_neg h]
    rfl

/-- An entry of the keys' block a point leaves: in each 256 columns, the first 128 are the products, the others the rotary lanes. -/
def entry (y : Vec Ideal S512x512 .f32) (z : Fin 512 → Fin 128 → EReal) (r : Fin 512) (l : Fin 1024) : EReal :=
  if _ : l.val % 256 < 128 then y (ix2 r (⟨l.val / 256 * 128 + l.val % 256, by omega⟩ : Fin 512)) else z r ⟨l.val % 256 - 128, by omega⟩

/-- The entry of a column in a head's first half, which begins at `o`. -/
theorem entry_own (y : Vec Ideal S512x512 .f32) (z : Fin 512 → Fin 128 → EReal) (r : Fin 512) (l : Fin 1024) (o : Nat) (j : Fin 128)
    (ho : o ≤ 896) (h1 : o % 256 = 0) (hl : l.val = o + j.val) : entry y z r l = y (ix2 r (⟨o / 2 + j.val, by omega⟩ : Fin 512)) := by
  unfold entry
  have hj := j.isLt
  rw [dif_pos (by omega)]
  exact congrArg (fun l : Fin 512 => y (ix2 r l)) (Fin.ext (by dsimp only; omega))

/-- The entry of a column in a head's second half, which begins at `o`. -/
theorem entry_rope (y : Vec Ideal S512x512 .f32) (z : Fin 512 → Fin 128 → EReal) (r : Fin 512) (l : Fin 1024) (o : Nat) (j : Fin 128)
    (ho : o ≤ 896) (h1 : o % 256 = 128) (hl : l.val = o + j.val) : entry y z r l = z r j := by
  unfold entry
  have hj := j.isLt
  rw [dif_neg (by omega)]
  exact congrArg (z r) (Fin.ext (by dsimp only; omega))

/-- The keys' piece at column 0: the products of a head. -/
theorem piece0 (y : FVec Ideal S512x512 .f32) (r : Fin 512) (l : Fin 128) :
    k0_pay1 y (ix2 r l) = y (ix2 r (⟨0 / 2 + l.val, by omega⟩ : Fin 512)) := by
  unfold k0_pay1
  pointwise

/-- The keys' piece at column 256: the products of a head. -/
theorem piece256 (y : FVec Ideal S512x512 .f32) (r : Fin 512) (l : Fin 128) :
    k0_pay2 y (ix2 r l) = y (ix2 r (⟨256 / 2 + l.val, by omega⟩ : Fin 512)) := by
  unfold k0_pay2
  pointwise

/-- The keys' piece at column 512: the products of a head. -/
theorem piece512 (y : FVec Ideal S512x512 .f32) (r : Fin 512) (l : Fin 128) :
    k0_pay3 y (ix2 r l) = y (ix2 r (⟨512 / 2 + l.val, by omega⟩ : Fin 512)) := by
  unfold k0_pay3
  pointwise

/-- The keys' piece at column 768: the products of a head. -/
theorem piece768 (y : FVec Ideal S512x512 .f32) (r : Fin 512) (l : Fin 128) :
    k0_pay4 y (ix2 r l) = y (ix2 r (⟨768 / 2 + l.val, by omega⟩ : Fin 512)) := by
  unfold k0_pay4
  pointwise

/-- The keys' block the body leaves, at a row and a column. -/
theorem keys_apply (x : Vec Ideal S512x512 .f32) (g : Vec Ideal S1x512 .f32) (u v : Vec Ideal S512x512 .bf16) (y cs : Vec Ideal S512x128 .f32)
    (r : Fin 512) (l : Fin 1024) : out0_6 x g u v y cs (ix2 r l) = entry (k0_pay6 x g u) (shared y cs) r l := by
  unfold out0_6 k0_pay9 k0_pay10
  simp only [View.ld_unit_zero (S := S512x512) hz, View.ld_unit_zero (S := S1x512) hz, View.ld_unit_zero (S := S512x128) hz]
  refine View.canon_apply_of_pieces (Val := Elt Ideal) (e := .bf16) (S := S512x1024) (fun i => entry (k0_pay6 x g u) (shared y cs) (i 0) (i 1)) _ ?_ (ix2 r l) (cover0_6 _ _ _ _ _ _ _ _ _)
  intro p hp
  simp only [List.mem_cons, List.not_mem_nil, or_false] at hp
  rcases hp with rfl | rfl | rfl | rfl | rfl | rfl | rfl | rfl <;> intro i <;>
    obtain ⟨a, b, rfl⟩ : ∃ (a : Fin 512) (b : Fin 128), i = ix2 a b := ⟨i 0, i 1, eq_ix2 i⟩
  · refine (shared_apply y cs a b).trans (Eq.symm ?_)
    have hv : (r0_10.emb (ix2 a b) 1 : Fin 1024).val = 896 + b.val := by show 896 + 1 * b.val = _; omega
    have hr : (r0_10.emb (ix2 a b) 0 : Fin 512) = a := Fin.ext (by show 0 + 1 * a.val = _; omega)
    show entry _ _ (r0_10.emb (ix2 a b) 0) (r0_10.emb (ix2 a b) 1) = _
    rw [hr]
    exact entry_rope _ _ a _ 896 b (by omega) (by omega) hv
  · refine (piece768 _ a b).trans (Eq.symm ?_)
    have hv : (r0_9.emb (ix2 a b) 1 : Fin 1024).val = 768 + b.val := by show 768 + 1 * b.val = _; omega
    have hr : (r0_9.emb (ix2 a b) 0 : Fin 512) = a := Fin.ext (by show 0 + 1 * a.val = _; omega)
    show entry _ _ (r0_9.emb (ix2 a b) 0) (r0_9.emb (ix2 a b) 1) = _
    rw [hr]
    exact entry_own _ _ a _ 768 b (by omega) (by omega) hv
  · refine (shared_apply y cs a b).trans (Eq.symm ?_)
    have hv : (r0_8.emb (ix2 a b) 1 : Fin 1024).val = 640 + b.val := by show 640 + 1 * b.val = _; omega
    have hr : (r0_8.emb (ix2 a b) 0 : Fin 512) = a := Fin.ext (by show 0 + 1 * a.val = _; omega)
    show entry _ _ (r0_8.emb (ix2 a b) 0) (r0_8.emb (ix2 a b) 1) = _
    rw [hr]
    exact entry_rope _ _ a _ 640 b (by omega) (by omega) hv
  · refine (piece512 _ a b).trans (Eq.symm ?_)
    have hv : (r0_7.emb (ix2 a b) 1 : Fin 1024).val = 512 + b.val := by show 512 + 1 * b.val = _; omega
    have hr : (r0_7.emb (ix2 a b) 0 : Fin 512) = a := Fin.ext (by show 0 + 1 * a.val = _; omega)
    show entry _ _ (r0_7.emb (ix2 a b) 0) (r0_7.emb (ix2 a b) 1) = _
    rw [hr]
    exact entry_own _ _ a _ 512 b (by omega) (by omega) hv
  · refine (shared_apply y cs a b).trans (Eq.symm ?_)
    have hv : (r0_6.emb (ix2 a b) 1 : Fin 1024).val = 384 + b.val := by show 384 + 1 * b.val = _; omega
    have hr : (r0_6.emb (ix2 a b) 0 : Fin 512) = a := Fin.ext (by show 0 + 1 * a.val = _; omega)
    show entry _ _ (r0_6.emb (ix2 a b) 0) (r0_6.emb (ix2 a b) 1) = _
    rw [hr]
    exact entry_rope _ _ a _ 384 b (by omega) (by omega) hv
  · refine (piece256 _ a b).trans (Eq.symm ?_)
    have hv : (r0_5.emb (ix2 a b) 1 : Fin 1024).val = 256 + b.val := by show 256 + 1 * b.val = _; omega
    have hr : (r0_5.emb (ix2 a b) 0 : Fin 512) = a := Fin.ext (by show 0 + 1 * a.val = _; omega)
    show entry _ _ (r0_5.emb (ix2 a b) 0) (r0_5.emb (ix2 a b) 1) = _
    rw [hr]
    exact entry_own _ _ a _ 256 b (by omega) (by omega) hv
  · refine (shared_apply y cs a b).trans (Eq.symm ?_)
    have hv : (r0_4.emb (ix2 a b) 1 : Fin 1024).val = 128 + b.val := by show 128 + 1 * b.val = _; omega
    have hr : (r0_4.emb (ix2 a b) 0 : Fin 512) = a := Fin.ext (by show 0 + 1 * a.val = _; omega)
    show entry _ _ (r0_4.emb (ix2 a b) 0) (r0_4.emb (ix2 a b) 1) = _
    rw [hr]
    exact entry_rope _ _ a _ 128 b (by omega) (by omega) hv
  · refine (piece0 _ a b).trans (Eq.symm ?_)
    have hv : (r0_3.emb (ix2 a b) 1 : Fin 1024).val = 0 + b.val := by show 0 + 1 * b.val = _; omega
    have hr : (r0_3.emb (ix2 a b) 0 : Fin 512) = a := Fin.ext (by show 0 + 1 * a.val = _; omega)
    show entry _ _ (r0_3.emb (ix2 a b) 0) (r0_3.emb (ix2 a b) 1) = _
    rw [hr]
    exact entry_own _ _ a _ 0 b (by omega) (by omega) hv

/-- The values' block the body leaves. -/
theorem vals_apply (x : Vec Ideal S512x512 .f32) (g : Vec Ideal S1x512 .f32) (u v : Vec Ideal S512x512 .bf16) (y cs : Vec Ideal S512x128 .f32)
    (r l : Fin 512) : out0_7 x g u v y cs (ix2 r l) = k0_pay7 x g v (ix2 r l) := by
  unfold out0_7
  rw [View.canon_unit_zero hz, View.ld_unit_zero (S := S512x512) hz, View.ld_unit_zero (S := S1x512) hz, View.ld_unit_zero (S := S512x512) hz]

end Cert.KvProjIdeal.Blocks

end
-- ==== Proof.KvProjHost.lean ====
/- What a grid point of the keys' and values' projection is given: its blocks of the rows, the gain, the weight split into keys and
values, the rotary key and the rotary array. -/
module

public import proofs.«01_k».proof.Defs
public import proofs.«01_k».proof.Proof.Gen.KvProjIdeal.Value
public import proofs.«01_k».proof.Proof.Gen.KvProjReferenceIdeal.Run
public import proofs.«01_k».proof.Proof.Gen.KvProjReferenceIdeal.Read
public import proofs.«01_k».proof.Proof.Gen.KvProjIdeal.Frame
public import proofs.«01_k».proof.Proof.Gen.KvProj.Frame
public import proofs.«01_k».proof.Proof.KvProjBody
public import Idealize.ShloMosaic.Lib.Pointwise
public import Idealize.ShloMosaic.Lib.StableHlo.ReadAt

@[expose] public section

set_option maxRecDepth 16384

noncomputable section

namespace Cert.KvProjIdeal.Blocks

open Cert.KvProjIdeal Cert.KvProjIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The row block of the rows' 512 columns from 4096 at a point. -/
theorem idx0 : ∀ t : Fin cfg0.N, win0_0.index t 0 = t.val / 4 ∧ win0_0.index t 1 = 8 :=
  (by decide +kernel : ∀ t : Fin grid0.N, win0_0.index t 0 = t.val / 4 ∧ win0_0.index t 1 = 8)

/-- The gain, whole, at a point. -/
theorem idx1 : ∀ t : Fin cfg0.N, win0_1.index t 0 = 0 ∧ win0_1.index t 1 = 0 :=
  (by decide +kernel : ∀ t : Fin grid0.N, win0_1.index t 0 = 0 ∧ win0_1.index t 1 = 0)

/-- The column block of the keys' weight at a point. -/
theorem idx2 : ∀ t : Fin cfg0.N, win0_2.index t 0 = 0 ∧ win0_2.index t 1 = t.val % 4 :=
  (by decide +kernel : ∀ t : Fin grid0.N, win0_2.index t 0 = 0 ∧ win0_2.index t 1 = t.val % 4)

/-- The column block of the values' weight at a point. -/
theorem idx3 : ∀ t : Fin cfg0.N, win0_3.index t 0 = 0 ∧ win0_3.index t 1 = 4 + t.val % 4 :=
  (by decide +kernel : ∀ t : Fin grid0.N, win0_3.index t 0 = 0 ∧ win0_3.index t 1 = 4 + t.val % 4)

/-- The row block of the rotary key and its turned half at a point. -/
theorem idx4 : ∀ t : Fin cfg0.N, win0_4.index t 0 = t.val / 4 ∧ win0_4.index t 1 = 36 :=
  (by decide +kernel : ∀ t : Fin grid0.N, win0_4.index t 0 = t.val / 4 ∧ win0_4.index t 1 = 36)

/-- The row block of the rotary array at a point. -/
theorem idx5 : ∀ t : Fin cfg0.N, win0_5.index t 0 = t.val / 4 ∧ win0_5.index t 1 = 0 :=
  (by decide +kernel : ∀ t : Fin grid0.N, win0_5.index t 0 = t.val / 4 ∧ win0_5.index t 1 = 0)

/-- The block of the keys at a point. -/
theorem idx6 : ∀ t : Fin cfg0.N, win0_6.index t 0 = t.val / 4 ∧ win0_6.index t 1 = t.val % 4 :=
  (by decide +kernel : ∀ t : Fin grid0.N, win0_6.index t 0 = t.val / 4 ∧ win0_6.index t 1 = t.val % 4)

/-- The block of the values at a point. -/
theorem idx7 : ∀ t : Fin cfg0.N, win0_7.index t 0 = t.val / 4 ∧ win0_7.index t 1 = t.val % 4 :=
  (by decide +kernel : ∀ t : Fin grid0.N, win0_7.index t 0 = t.val / 4 ∧ win0_7.index t 1 = t.val % 4)

/-- No transfer of the keys is cut short. -/
theorem size6 : ∀ t : Fin cfg0.N, win0_6.xsize (grid0.coords t) 0 = 512 ∧ win0_6.xsize (grid0.coords t) 1 = 1024 :=
  (by decide +kernel : ∀ t : Fin grid0.N, win0_6.xsize (grid0.coords t) 0 = 512 ∧ win0_6.xsize (grid0.coords t) 1 = 1024)

/-- Every point writes its block of the keys back. -/
theorem flush6 : ∀ t : Fin cfg0.N, (cfg0.win 6).flush t = true :=
  (by decide +kernel : ∀ t : Fin grid0.N, win0_6.flush t = true)

/-- No transfer of the values is cut short. -/
theorem size7 : ∀ t : Fin cfg0.N, win0_7.xsize (grid0.coords t) 0 = 512 ∧ win0_7.xsize (grid0.coords t) 1 = 512 :=
  (by decide +kernel : ∀ t : Fin grid0.N, win0_7.xsize (grid0.coords t) 0 = 512 ∧ win0_7.xsize (grid0.coords t) 1 = 512)

/-- Every point writes its block of the values back. -/
theorem flush7 : ∀ t : Fin cfg0.N, (cfg0.win 7).flush t = true :=
  (by decide +kernel : ∀ t : Fin grid0.N, win0_7.flush t = true)

/-- The rows, as launched. -/
abbrev X (c : Dev nD) : Vec Ideal S8704x5120 .f32 := m ((c : Thread nD τ).loc main_arg0)

/-- The gain, as launched. -/
abbrev Gn (c : Dev nD) : Vec Ideal S512 .f32 := m ((c : Thread nD τ).loc main_arg1)

/-- The weight, as launched. -/
abbrev W (c : Dev nD) : Vec Ideal S512x4096 .f32 := m ((c : Thread nD τ).loc main_arg2)

/-- The rotary array, as launched. -/
abbrev CS (c : Dev nD) : Vec Ideal S8704x128 .f32 := m ((c : Thread nD τ).loc main_arg3)

/-- The gain as the call finds it: one row. -/
theorem gain (c : Dev nD) (k : Fin 512) : (V m c main_v9 : Vec Ideal S1x512 .f32) (ix2 0 k) = Gn m c (ix1 k) := by
  unfold V
  after_results
  pointwise

/-- The first 2048 columns of the prepared weight: the heads' first 128 columns. -/
theorem weight_keys (c : Dev nD) (k : Fin 512) (h : Fin 16) (l : Fin 128) :
    (V m c main_v8 : Vec Ideal S512x4096 .bf16) (ix2 k (⟨h.val * 128 + l.val, by omega⟩ : Fin 4096)) = W m c (ix2 k (⟨h.val * 256 + l.val, by omega⟩ : Fin 4096)) := by
  have hl := l.isLt
  unfold V
  after_reads_at
  rw [dif_pos (show h.val * 128 + l.val < 2048 by omega)]
  after_reads_at

/-- The last 2048 columns of the prepared weight: the heads' last 128 columns. -/
theorem weight_values (c : Dev nD) (k : Fin 512) (h : Fin 16) (l : Fin 128) :
    (V m c main_v8 : Vec Ideal S512x4096 .bf16) (ix2 k (⟨2048 + (h.val * 128 + l.val), by omega⟩ : Fin 4096)) = W m c (ix2 k (⟨h.val * 256 + (128 + l.val), by omega⟩ : Fin 4096)) := by
  have hl := l.isLt
  unfold V
  after_reads_at
  after_reads_at

/-- The rows' block at a point, whatever the arrays hold. -/
theorem read0 (c : Dev nD) (v : (b : Ref sig .tc) → Buf (Elt Ideal) ((c : Thread nD τ).loc b)) (t : Fin cfg0.N) (r : Fin 512) (l : Fin 512) (R : Fin 8704) (L : Fin 5120)
    (hR : R.val = t.val / 4 * 512 + r.val) (hL : L.val = 4096 + l.val) :
    (((cfg0.win 0).blk t).view.read (Elt Ideal) (v (Pipeline.arrRef spec0 0)) : Vec Ideal S512x512 .f32) (ix2 r l) = (v main_arg0 : Vec Ideal S8704x5120 .f32) (ix2 R L) := by
  obtain ⟨a0, a1⟩ := idx0 t
  rw [View.read_apply]
  show v main_arg0 _ = _
  congr 1
  funext a
  apply Fin.ext
  match a with
  | ⟨0, _⟩ => show win0_0.index t 0 * 512 + 1 * r.val = R.val; rw [a0]; omega
  | ⟨1, _⟩ => show win0_0.index t 1 * 512 + 1 * l.val = L.val; rw [a1]; omega

/-- The gain's block at a point, whatever the arrays hold. -/
theorem read1 (c : Dev nD) (v : (b : Ref sig .tc) → Buf (Elt Ideal) ((c : Thread nD τ).loc b)) (t : Fin cfg0.N) (r : Fin 1) (l : Fin 512) (R : Fin 1) (L : Fin 512)
    (hR : R.val = 0 + r.val) (hL : L.val = 0 + l.val) :
    (((cfg0.win 1).blk t).view.read (Elt Ideal) (v (Pipeline.arrRef spec0 1)) : Vec Ideal S1x512 .f32) (ix2 r l) = (v main_v9 : Vec Ideal S1x512 .f32) (ix2 R L) := by
  obtain ⟨a0, a1⟩ := idx1 t
  rw [View.read_apply]
  show v main_v9 _ = _
  congr 1
  funext a
  apply Fin.ext
  match a with
  | ⟨0, _⟩ => show win0_1.index t 0 * 1 + 1 * r.val = R.val; rw [a0]; omega
  | ⟨1, _⟩ => show win0_1.index t 1 * 512 + 1 * l.val = L.val; rw [a1]; omega

/-- The keys' weight block at a point, whatever the arrays hold. -/
theorem read2 (c : Dev nD) (v : (b : Ref sig .tc) → Buf (Elt Ideal) ((c : Thread nD τ).loc b)) (t : Fin cfg0.N) (r : Fin 512) (l : Fin 512) (R : Fin 512) (L : Fin 4096)
    (hR : R.val = 0 + r.val) (hL : L.val = t.val % 4 * 512 + l.val) :
    (((cfg0.win 2).blk t).view.read (Elt Ideal) (v (Pipeline.arrRef spec0 2)) : Vec Ideal S512x512 .bf16) (ix2 r l) = (v main_v8 : Vec Ideal S512x4096 .bf16) (ix2 R L) := by
  obtain ⟨a0, a1⟩ := idx2 t
  rw [View.read_apply]
  show v main_v8 _ = _
  congr 1
  funext a
  apply Fin.ext
  match a with
  | ⟨0, _⟩ => show win0_2.index t 0 * 512 + 1 * r.val = R.val; rw [a0]; omega
  | ⟨1, _⟩ => show win0_2.index t 1 * 512 + 1 * l.val = L.val; rw [a1]; omega

/-- The values' weight block at a point, whatever the arrays hold. -/
theorem read3 (c : Dev nD) (v : (b : Ref sig .tc) → Buf (Elt Ideal) ((c : Thread nD τ).loc b)) (t : Fin cfg0.N) (r : Fin 512) (l : Fin 512) (R : Fin 512) (L : Fin 4096)
    (hR : R.val = 0 + r.val) (hL : L.val = 2048 + t.val % 4 * 512 + l.val) :
    (((cfg0.win 3).blk t).view.read (Elt Ideal) (v (Pipeline.arrRef spec0 3)) : Vec Ideal S512x512 .bf16) (ix2 r l) = (v main_v8 : Vec Ideal S512x4096 .bf16) (ix2 R L) := by
  obtain ⟨a0, a1⟩ := idx3 t
  rw [View.read_apply]
  show v main_v8 _ = _
  congr 1
  funext a
  apply Fin.ext
  match a with
  | ⟨0, _⟩ => show win0_3.index t 0 * 512 + 1 * r.val = R.val; rw [a0]; omega
  | ⟨1, _⟩ => show win0_3.index t 1 * 512 + 1 * l.val = L.val; rw [a1]; omega

/-- The rotary key's block at a point, whatever the arrays hold. -/
theorem read4 (c : Dev nD) (v : (b : Ref sig .tc) → Buf (Elt Ideal) ((c : Thread nD τ).loc b)) (t : Fin cfg0.N) (r : Fin 512) (l : Fin 128) (R : Fin 8704) (L : Fin 5120)
    (hR : R.val = t.val / 4 * 512 + r.val) (hL : L.val = 4608 + l.val) :
    (((cfg0.win 4).blk t).view.read (Elt Ideal) (v (Pipeline.arrRef spec0 4)) : Vec Ideal S512x128 .f32) (ix2 r l) = (v main_arg0 : Vec Ideal S8704x5120 .f32) (ix2 R L) := by
  obtain ⟨a0, a1⟩ := idx4 t
  rw [View.read_apply]
  show v main_arg0 _ = _
  congr 1
  funext a
  apply Fin.ext
  match a with
  | ⟨0, _⟩ => show win0_4.index t 0 * 512 + 1 * r.val = R.val; rw [a0]; omega
  | ⟨1, _⟩ => show win0_4.index t 1 * 128 + 1 * l.val = L.val; rw [a1]; omega

/-- The rotary array's block at a point, whatever the arrays hold. -/
theorem read5 (c : Dev nD) (v : (b : Ref sig .tc) → Buf (Elt Ideal) ((c : Thread nD τ).loc b)) (t : Fin cfg0.N) (r : Fin 512) (l : Fin 128) (R : Fin 8704) (L : Fin 128)
    (hR : R.val = t.val / 4 * 512 + r.val) (hL : L.val = 0 + l.val) :
    (((cfg0.win 5).blk t).view.read (Elt Ideal) (v (Pipeline.arrRef spec0 5)) : Vec Ideal S512x128 .f32) (ix2 r l) = (v main_arg3 : Vec Ideal S8704x128 .f32) (ix2 R L) := by
  obtain ⟨a0, a1⟩ := idx5 t
  rw [View.read_apply]
  show v main_arg3 _ = _
  congr 1
  funext a
  apply Fin.ext
  match a with
  | ⟨0, _⟩ => show win0_5.index t 0 * 512 + 1 * r.val = R.val; rw [a0]; omega
  | ⟨1, _⟩ => show win0_5.index t 1 * 128 + 1 * l.val = L.val; rw [a1]; omega

/-- The rows' block at a point, by its rows in the whole array. -/
theorem blk0 (c : Dev nD) (t : Fin cfg0.N) (r k : Fin 512) (R : Fin 8704) (hR : R.val = t.val / 4 * 512 + r.val) :
    (iblk m c 0 t : Vec Ideal S512x512 .f32) (ix2 r k) = X m c (ix2 R (⟨4096 + k.val, by omega⟩ : Fin 5120)) := by
  unfold iblk
  refine (read0 c (V m c) t r k R (⟨4096 + k.val, by omega⟩ : Fin 5120) hR rfl).trans ?_
  rw [V_main_arg0 m c]

/-- The gain's block at a point. -/
theorem blk1 (c : Dev nD) (t : Fin cfg0.N) (k : Fin 512) : (iblk m c 1 t : Vec Ideal S1x512 .f32) (ix2 0 k) = Gn m c (ix1 k) := by
  unfold iblk
  exact (read1 c (V m c) t 0 k 0 k rfl (Nat.zero_add _).symm).trans (gain m c k)

/-- The keys' weight block at a point, by a head's columns. -/
theorem blk2 (c : Dev nD) (t : Fin cfg0.N) (k l : Fin 512) (h : Fin 16) (j : Fin 128) (hL : h.val * 128 + j.val = t.val % 4 * 512 + l.val) :
    (iblk m c 2 t : Vec Ideal S512x512 .bf16) (ix2 k l) = W m c (ix2 k (⟨h.val * 256 + j.val, by omega⟩ : Fin 4096)) := by
  unfold iblk
  exact (read2 c (V m c) t k l k ⟨h.val * 128 + j.val, by omega⟩ (Nat.zero_add _).symm hL).trans (weight_keys m c k h j)

/-- The values' weight block at a point, by a head's columns. -/
theorem blk3 (c : Dev nD) (t : Fin cfg0.N) (k l : Fin 512) (h : Fin 16) (j : Fin 128) (hL : h.val * 128 + j.val = t.val % 4 * 512 + l.val) :
    (iblk m c 3 t : Vec Ideal S512x512 .bf16) (ix2 k l) = W m c (ix2 k (⟨h.val * 256 + (128 + j.val), by omega⟩ : Fin 4096)) := by
  unfold iblk
  exact (read3 c (V m c) t k l k ⟨2048 + (h.val * 128 + j.val), by omega⟩ (Nat.zero_add _).symm (by dsimp only; omega)).trans (weight_values m c k h j)

/-- The rotary key's block at a point, by its rows in the whole array. -/
theorem blk4 (c : Dev nD) (t : Fin cfg0.N) (r : Fin 512) (l : Fin 128) (R : Fin 8704) (hR : R.val = t.val / 4 * 512 + r.val) (L : Fin 5120) (hL : L.val = 4608 + l.val) :
    (iblk m c 4 t : Vec Ideal S512x128 .f32) (ix2 r l) = X m c (ix2 R L) := by
  unfold iblk
  refine (read4 c (V m c) t r l R L hR hL).trans ?_
  rw [V_main_arg0 m c]

/-- The rotary array's block at a point, by its rows in the whole array. -/
theorem blk5 (c : Dev nD) (t : Fin cfg0.N) (r : Fin 512) (l : Fin 128) (R : Fin 8704) (hR : R.val = t.val / 4 * 512 + r.val) (L : Fin 128) (hL : L.val = l.val) :
    (iblk m c 5 t : Vec Ideal S512x128 .f32) (ix2 r l) = CS m c (ix2 R L) := by
  unfold iblk
  refine (read5 c (V m c) t r l R L hR (by omega)).trans ?_
  rw [V_main_arg3 m c]

end Cert.KvProjIdeal.Blocks

end
-- ==== Proof.KvProjRef.lean ====
/- The keys' and values' plain text read at an index. -/
module

public import proofs.«01_k».proof.Defs
public import proofs.«01_k».proof.Proof.Gen.KvProjReferenceIdeal.Run
public import proofs.«01_k».proof.Proof.Gen.KvProjReferenceIdeal.Read
public import proofs.«01_k».proof.Proof.RmsRow
public import Idealize.ShloMosaic.Lib.Pointwise

@[expose] public section

set_option maxRecDepth 16384

noncomputable section

namespace Cert.KvProjReferenceIdeal.Rows

open Cert.KvProjReferenceIdeal Cert.KvProjReferenceIdeal.Gen Cert.KvProjReferenceIdeal.Read Idealize.ShloMosaic

/-- The rows' array. -/
abbrev RowsT := Vec Ideal S8704x5120 .f32

/-- The gain's array. -/
abbrev Gain := Vec Ideal S512 .f32

/-- The weight's array. -/
abbrev Weight := Vec Ideal S512x4096 .f32

/-- The rotary array: cosines, then sines. -/
abbrev Rot := Vec Ideal S8704x128 .f32

/-- A row normed over its 512 positions from 4096. -/
def nrow (x : RowsT) (g : Gain) (R : Fin 8704) (k : Fin 512) : EReal :=
  RmsRow.normed (Ideal.ofBits .f32 0x44000000#32) (Ideal.ofBits .f32 0x358637BD#32) (fun k : Fin 512 => x (ix2 R (⟨4096 + k.val, by omega⟩ : Fin 5120))) (fun k => g (ix1 k)) k

/-- A normed row against a column of the weight. -/
def lin (x : RowsT) (g : Gain) (w : Weight) (R : Fin 8704) (n : Fin 4096) : EReal :=
  ∑ k : Fin 512, nrow x g R k * w (ix2 k n)

/-- A lane of the shared rotary key: the key by its cosine and the half turned by its sine. -/
def rope (x : RowsT) (cs : Rot) (R : Fin 8704) (j : Fin 64) : EReal :=
  x (ix2 R (⟨4608 + j.val, by omega⟩ : Fin 5120)) * cs (ix2 R (⟨j.val, by omega⟩ : Fin 128))
    + x (ix2 R (⟨4672 + j.val, by omega⟩ : Fin 5120)) * cs (ix2 R (⟨64 + j.val, by omega⟩ : Fin 128))

/-- The normed rows. -/
theorem norm_row (x : RowsT) (g : Gain) (R : Fin 8704) (k : Fin 512) : val_main_v15 (F := Ideal) x g (ix2 R k) = nrow x g R k := by
  pointwise [val_main_v15, val_main_v14, val_main_v13, val_main_v12, val_main_v11, val_main_v10, val_main_v9,
    val_main_v8, val_main_v7, val_main_v6, val_main_v5, val_main_v4, val_main_v3, val_main_v2, val_main_cst, val_main_cst_0, val_main_cst_1]
  unfold nrow RmsRow.normed
  with_reducible rfl

/-- The products of a head. -/
theorem head (x : RowsT) (g : Gain) (w : Weight) (R : Fin 8704) (h : Fin 16) (n : Fin 256) :
    val_main_v17 (F := Ideal) x g w (ix3 R h n) = lin x g w R ⟨h.val * 256 + n.val, by omega⟩ := by
  have hR := R.isLt
  have hh := h.isLt
  have hn := n.isLt
  have e : idx_main_v17 (ix3 R h n) = ix2 R (⟨h.val * 256 + n.val, by omega⟩ : Fin 4096) := by
    funext a
    apply Fin.ext
    match a with
    | ⟨0, _⟩ => simp only [idx_main_v17, ix2, ix3]; omega
    | ⟨1, _⟩ => simp only [idx_main_v17, ix2, ix3]; omega
  rw [val_main_v17_apply, e, val_main_v16_apply]
  refine Finset.sum_congr rfl fun k _ => congrArg₂ (· * ·) ((congrArg (val_main_v15 (F := Ideal) x g) (funext fun a => ?_)).trans (norm_row x g R k)) (congrArg w (funext fun a => ?_))
  · match a with
    | ⟨0, _⟩ => rfl
    | ⟨1, _⟩ => rfl
  · match a with
    | ⟨0, _⟩ => rfl
    | ⟨1, _⟩ => rfl

/-- Every head's rotary lanes: the shared ones. -/
theorem rope_apply (x : RowsT) (cs : Rot) (R : Fin 8704) (h : Fin 16) (j : Fin 64) :
    val_main_v24 (F := Ideal) x cs (ix3 R h j) = rope x cs R j := by
  pointwise [val_main_v24, val_main_v23, val_main_v22, val_main_v21, val_main_v20, val_main_v19, val_main_v18, val_main_v1, val_main_v0]
  unfold rope
  with_reducible rfl

/-- The zero lanes. -/
theorem zero_apply (R : Fin 8704) (h : Fin 16) (j : Fin 64) : val_main_v26 (F := Ideal) (ix3 R h j) = (0 : EReal) := by
  pointwise [val_main_v26, val_main_cst_2]

/-- A column of a head, as the keys are split by heads. -/
theorem key_idx (R : Fin 8704) (L : Fin 4096) (h : Fin 16) (l : Fin 256) (hL : L.val = h.val * 256 + l.val) : idx_main_v28 (ix2 R L) = ix3 R h l := by
  have hR := R.isLt
  have hh := h.isLt
  have hl := l.isLt
  funext a
  apply Fin.ext
  match a with
  | ⟨0, _⟩ => simp only [idx_main_v28, ix2, ix3]; omega
  | ⟨1, _⟩ => simp only [idx_main_v28, ix2, ix3]; omega
  | ⟨2, _⟩ => simp only [idx_main_v28, ix2, ix3]; omega

/-- A key's entry in a head's first 128 columns. -/
theorem key_own (x : RowsT) (g : Gain) (w : Weight) (cs : Rot) (R : Fin 8704) (L : Fin 4096) (h : Fin 16) (l : Fin 128)
    (hL : L.val = h.val * 256 + l.val) :
    val_main_v29 (F := Ideal) x g w cs (ix2 R L) = lin x g w R ⟨h.val * 256 + l.val, by omega⟩ := by
  have h27 : val_main_v27 (F := Ideal) x g w cs (ix3 R h (⟨l.val, by omega⟩ : Fin 256)) = lin x g w R ⟨h.val * 256 + l.val, by omega⟩ := by
    have hy := head x g w R h
    unfold val_main_v27 val_main_v25
    generalize val_main_v17 (F := Ideal) x g w = y at hy ⊢
    generalize val_main_v24 (F := Ideal) x cs = z
    generalize val_main_v26 (F := Ideal) = u
    pointwise
    exact hy _
  rw [val_main_v29_apply, val_main_v28_apply, key_idx R L h (⟨l.val, by omega⟩ : Fin 256) hL, h27]
  rfl

/-- A key's entry in a head's next 64 columns: the rotary lanes. -/
theorem key_rope (x : RowsT) (g : Gain) (w : Weight) (cs : Rot) (R : Fin 8704) (L : Fin 4096) (h : Fin 16) (j : Fin 64)
    (hL : L.val = h.val * 256 + (128 + j.val)) :
    val_main_v29 (F := Ideal) x g w cs (ix2 R L) = rope x cs R j := by
  have hj := j.isLt
  have h27 : val_main_v27 (F := Ideal) x g w cs (ix3 R h (⟨128 + j.val, by omega⟩ : Fin 256)) = rope x cs R j := by
    have hy := fun j => rope_apply x cs R h j
    unfold val_main_v27
    generalize val_main_v25 (F := Ideal) x g w = y
    generalize val_main_v24 (F := Ideal) x cs = z at hy ⊢
    generalize val_main_v26 (F := Ideal) = u
    pointwise
    exact hy _
  rw [val_main_v29_apply, val_main_v28_apply, key_idx R L h (⟨128 + j.val, by omega⟩ : Fin 256) hL, h27]
  rfl

/-- A key's entry in a head's last 64 columns is zero. -/
theorem key_zero (x : RowsT) (g : Gain) (w : Weight) (cs : Rot) (R : Fin 8704) (L : Fin 4096) (h : Fin 16) (j : Fin 64)
    (hL : L.val = h.val * 256 + (192 + j.val)) :
    val_main_v29 (F := Ideal) x g w cs (ix2 R L) = (0 : EReal) := by
  have hj := j.isLt
  have h27 : val_main_v27 (F := Ideal) x g w cs (ix3 R h (⟨192 + j.val, by omega⟩ : Fin 256)) = (0 : EReal) := by
    have hy := fun j => zero_apply R h j
    unfold val_main_v27
    generalize val_main_v25 (F := Ideal) x g w = y
    generalize val_main_v24 (F := Ideal) x cs = z
    generalize val_main_v26 (F := Ideal) = u at hy ⊢
    pointwise
    rw [dif_neg (show ¬192 + j.val < 128 by omega), dif_neg (show ¬192 + j.val - 128 < 64 by omega)]
    exact hy _
  rw [val_main_v29_apply, val_main_v28_apply, key_idx R L h (⟨192 + j.val, by omega⟩ : Fin 256) hL, h27]
  rfl

/-- A value's entry. -/
theorem value_own (x : RowsT) (g : Gain) (w : Weight) (R : Fin 8704) (L : Fin 2048) (h : Fin 16) (l : Fin 128)
    (hL : L.val = h.val * 128 + l.val) :
    val_main_v32 (F := Ideal) x g w (ix2 R L) = lin x g w R ⟨h.val * 256 + (128 + l.val), by omega⟩ := by
  have hR := R.isLt
  have hh := h.isLt
  have hl := l.isLt
  have e : idx_main_v31 (ix2 R L) = ix3 R h l := by
    funext a
    apply Fin.ext
    match a with
    | ⟨0, _⟩ => simp only [idx_main_v31, ix2, ix3]; omega
    | ⟨1, _⟩ => simp only [idx_main_v31, ix2, ix3]; omega
    | ⟨2, _⟩ => simp only [idx_main_v31, ix2, ix3]; omega
  have h30 : val_main_v30 (F := Ideal) x g w (ix3 R h l) = lin x g w R ⟨h.val * 256 + (128 + l.val), by omega⟩ := by
    have hy := head x g w R h
    unfold val_main_v30
    generalize val_main_v17 (F := Ideal) x g w = y at hy ⊢
    pointwise
    exact hy _
  rw [val_main_v32_apply, val_main_v31_apply, e, h30]
  rfl

end Cert.KvProjReferenceIdeal.Rows

end
-- ==== Proof.KvProjValue.lean ====
/- The value of the keys' and values' projection: the rows normed, times the weight split into keys and values, with the shared rotary
lanes added up by a rotation, are the normed rows times the plain weight split by heads, and the rotary key turned. -/
module

public import proofs.«01_k».proof.Defs
public import proofs.«01_k».proof.Proof.Gen.KvProjIdeal.Value
public import proofs.«01_k».proof.Proof.Gen.KvProjReferenceIdeal.Run
public import proofs.«01_k».proof.Proof.Gen.KvProjReferenceIdeal.Read
public import proofs.«01_k».proof.Proof.Gen.KvProjIdeal.Frame
public import proofs.«01_k».proof.Proof.Gen.KvProj.Frame
public import proofs.«01_k».proof.Proof.KvProjHost
public import proofs.«01_k».proof.Proof.KvProjRef
public import Idealize.ShloMosaic.Lib.Pointwise

@[expose] public section

set_option maxRecDepth 16384

noncomputable section

namespace Cert.KvProjIdeal.Blocks

open Cert.KvProjIdeal Cert.KvProjIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The plain keys. -/
def keys (x : Vec Ideal S8704x5120 .f32) (g : Vec Ideal S512 .f32) (w : Vec Ideal S512x4096 .f32) (cs : Vec Ideal S8704x128 .f32) : Vec Ideal S8704x4096 .bf16 :=
  Cert.KvProjReferenceIdeal.Read.val_main_v29 (F := Ideal) x g w cs

/-- The plain values. -/
def values (x : Vec Ideal S8704x5120 .f32) (g : Vec Ideal S512 .f32) (w : Vec Ideal S512x4096 .f32) : Vec Ideal S8704x2048 .bf16 :=
  Cert.KvProjReferenceIdeal.Read.val_main_v32 (F := Ideal) x g w

/-- What the keys' array ends holding. -/
abbrev GK (c : Dev nD) : Buf (Elt Ideal) ((c : Thread nD τ).loc main_v10_0) := keys (X m c) (Gn m c) (W m c) (CS m c)

/-- What the values' array ends holding. -/
abbrev GV (c : Dev nD) : Buf (Elt Ideal) ((c : Thread nD τ).loc main_v10_1) := values (X m c) (Gn m c) (W m c)

/-- A point's normed rows. -/
theorem nrow_blk (c : Dev nD) (t : Fin cfg0.N) (r k : Fin 512) (R : Fin 8704) (hR : R.val = t.val / 4 * 512 + r.val) :
    RmsRow.normed (Ideal.ofBits .f32 0x44000000#32) (Ideal.ofBits .f32 0x358637BD#32) (fun k : Fin 512 => (iblk m c 0 t : Vec Ideal S512x512 .f32) (ix2 r k))
      (fun k : Fin 512 => (iblk m c 1 t : Vec Ideal S1x512 .f32) (ix2 0 k)) k = Cert.KvProjReferenceIdeal.Rows.nrow (X m c) (Gn m c) R k := by
  have hx : (fun k : Fin 512 => (iblk m c 0 t : Vec Ideal S512x512 .f32) (ix2 r k)) = fun k : Fin 512 => X m c (ix2 R (⟨4096 + k.val, by omega⟩ : Fin 5120)) :=
    funext fun k => blk0 m c t r k R hR
  have hg : (fun k : Fin 512 => (iblk m c 1 t : Vec Ideal S1x512 .f32) (ix2 0 k)) = fun k : Fin 512 => Gn m c (ix1 k) := funext fun k => blk1 m c t k
  unfold Cert.KvProjReferenceIdeal.Rows.nrow
  exact congrArg₂ (fun x g => RmsRow.normed _ _ x g k) hx hg

/-- A point's keys before the rotary lanes: the products of a head. -/
theorem keys_blk (c : Dev nD) (t : Fin cfg0.N) (r l : Fin 512) (R : Fin 8704) (hR : R.val = t.val / 4 * 512 + r.val)
    (h : Fin 16) (j : Fin 128) (hL : h.val * 128 + j.val = t.val % 4 * 512 + l.val) :
    k0_pay6 (iblk m c 0 t) (iblk m c 1 t) (iblk m c 2 t) (ix2 r l) = Cert.KvProjReferenceIdeal.Rows.lin (X m c) (Gn m c) (W m c) R ⟨h.val * 256 + j.val, by omega⟩ := by
  rw [lin_apply]
  exact Finset.sum_congr rfl fun k _ => congrArg₂ (· * ·) (nrow_blk m c t r k R hR) (blk2 m c t k l h j hL)

/-- A point's values: the products of a head. -/
theorem values_blk (c : Dev nD) (t : Fin cfg0.N) (r l : Fin 512) (R : Fin 8704) (hR : R.val = t.val / 4 * 512 + r.val)
    (h : Fin 16) (j : Fin 128) (hL : h.val * 128 + j.val = t.val % 4 * 512 + l.val) :
    k0_pay7 (iblk m c 0 t) (iblk m c 1 t) (iblk m c 3 t) (ix2 r l) = Cert.KvProjReferenceIdeal.Rows.lin (X m c) (Gn m c) (W m c) R ⟨h.val * 256 + (128 + j.val), by omega⟩ := by
  rw [values_apply]
  exact Finset.sum_congr rfl fun k _ => congrArg₂ (· * ·) (nrow_blk m c t r k R hR) (blk3 m c t k l h j hL)

/-- A point's rotary lanes. -/
theorem shared_blk (c : Dev nD) (t : Fin cfg0.N) (r : Fin 512) (R : Fin 8704) (hR : R.val = t.val / 4 * 512 + r.val) (j : Fin 64) :
    shared (iblk m c 4 t) (iblk m c 5 t) r ⟨j.val, by omega⟩ = Cert.KvProjReferenceIdeal.Rows.rope (X m c) (CS m c) R j := by
  unfold shared Cert.KvProjReferenceIdeal.Rows.rope
  rw [dif_pos j.isLt]
  exact congrArg₂ (· + ·) (congrArg₂ (· * ·) (blk4 m c t r _ R hR _ rfl) (blk5 m c t r _ R hR _ rfl))
    (congrArg₂ (· * ·) (blk4 m c t r _ R hR _ (by dsimp only; omega)) (blk5 m c t r _ R hR _ rfl))

/-- What a point writes back to the keys is its block of the plain keys. -/
theorem flushed_keys (c : Dev nD) (t : Fin cfg0.N) (_ : (cfg0.win 6).flush t = true) :
    (dats m 0 c).flushed 6 t = ((cfg0.win 6).blk t).view.read (Elt Ideal) (GK m c) := by
  rw [Value.flushed6]
  obtain ⟨d0, d1⟩ := idx6 t
  have hN : cfg0.N = 68 := N_0
  have ht := t.isLt
  funext j
  obtain ⟨r, l, rfl⟩ : ∃ (r : Fin 512) (l : Fin 1024), j = ix2 r l := ⟨j 0, j 1, eq_ix2 j⟩
  have hr := r.isLt
  have hl := l.isLt
  have he : ((cfg0.win 6).blk t).view.emb (ix2 r l) = ix2 (⟨t.val / 4 * 512 + r.val, by omega⟩ : Fin 8704) (⟨t.val % 4 * 1024 + l.val, by omega⟩ : Fin 4096) := by
    funext a
    apply Fin.ext
    match a with
    | ⟨0, _⟩ => show win0_6.index t 0 * 512 + 1 * r.val = t.val / 4 * 512 + r.val; rw [d0]; omega
    | ⟨1, _⟩ => show win0_6.index t 1 * 1024 + 1 * l.val = t.val % 4 * 1024 + l.val; rw [d1]; omega
  rw [View.read_apply, he]
  show out0_6 (iblk m c 0 t) (iblk m c 1 t) (iblk m c 2 t) (iblk m c 3 t) (iblk m c 4 t) (iblk m c 5 t) (ix2 r l) = keys (X m c) (Gn m c) (W m c) (CS m c) _
  rw [keys_apply]
  unfold keys
  by_cases h : l.val % 256 < 128
  · rw [entry_own _ _ r l (l.val / 256 * 256) (⟨l.val % 256, h⟩ : Fin 128) (by omega) (by omega) (by dsimp only; omega)]
    refine Eq.trans ?_ (Cert.KvProjReferenceIdeal.Rows.key_own (X m c) (Gn m c) (W m c) (CS m c) _ _ (⟨t.val % 4 * 4 + l.val / 256, by omega⟩ : Fin 16) (⟨l.val % 256, h⟩ : Fin 128) (by dsimp only; omega)).symm
    exact keys_blk m c t r _ _ rfl (⟨t.val % 4 * 4 + l.val / 256, by omega⟩ : Fin 16) (⟨l.val % 256, h⟩ : Fin 128) (by dsimp only; omega)
  by_cases h' : l.val % 256 < 192
  · rw [entry_rope _ _ r l (l.val / 256 * 256 + 128) (⟨(⟨l.val % 256 - 128, by omega⟩ : Fin 64).val, by dsimp only; omega⟩ : Fin 128) (by omega) (by omega) (by dsimp only; omega)]
    refine (shared_blk m c t r (⟨t.val / 4 * 512 + r.val, by omega⟩ : Fin 8704) rfl (⟨l.val % 256 - 128, by omega⟩ : Fin 64)).trans ?_
    exact (Cert.KvProjReferenceIdeal.Rows.key_rope (X m c) (Gn m c) (W m c) (CS m c) _ _ (⟨t.val % 4 * 4 + l.val / 256, by omega⟩ : Fin 16) (⟨l.val % 256 - 128, by omega⟩ : Fin 64) (by dsimp only; omega)).symm
  · rw [entry_rope _ _ r l (l.val / 256 * 256 + 128) (⟨l.val % 256 - 128, by omega⟩ : Fin 128) (by omega) (by omega) (by dsimp only; omega)]
    refine Eq.trans ?_ (Cert.KvProjReferenceIdeal.Rows.key_zero (X m c) (Gn m c) (W m c) (CS m c) _ _ (⟨t.val % 4 * 4 + l.val / 256, by omega⟩ : Fin 16) (⟨l.val % 256 - 192, by omega⟩ : Fin 64) (by dsimp only; omega)).symm
    unfold shared
    exact dif_neg (show ¬l.val % 256 - 128 < 64 by omega)

/-- What a point writes back to the values is its block of the plain values. -/
theorem flushed_values (c : Dev nD) (t : Fin cfg0.N) (_ : (cfg0.win 7).flush t = true) :
    (dats m 0 c).flushed 7 t = ((cfg0.win 7).blk t).view.read (Elt Ideal) (GV m c) := by
  rw [Value.flushed7]
  obtain ⟨d0, d1⟩ := idx7 t
  have hN : cfg0.N = 68 := N_0
  have ht := t.isLt
  funext j
  obtain ⟨r, l, rfl⟩ : ∃ (r l : Fin 512), j = ix2 r l := ⟨j 0, j 1, eq_ix2 j⟩
  have hr := r.isLt
  have hl := l.isLt
  have he : ((cfg0.win 7).blk t).view.emb (ix2 r l) = ix2 (⟨t.val / 4 * 512 + r.val, by omega⟩ : Fin 8704) (⟨t.val % 4 * 512 + l.val, by omega⟩ : Fin 2048) := by
    funext a
    apply Fin.ext
    match a with
    | ⟨0, _⟩ => show win0_7.index t 0 * 512 + 1 * r.val = t.val / 4 * 512 + r.val; rw [d0]; omega
    | ⟨1, _⟩ => show win0_7.index t 1 * 512 + 1 * l.val = t.val % 4 * 512 + l.val; rw [d1]; omega
  rw [View.read_apply, he]
  show out0_7 (iblk m c 0 t) (iblk m c 1 t) (iblk m c 2 t) (iblk m c 3 t) (iblk m c 4 t) (iblk m c 5 t) (ix2 r l) = values (X m c) (Gn m c) (W m c) _
  rw [vals_apply]
  unfold values
  refine Eq.trans ?_ (Cert.KvProjReferenceIdeal.Rows.value_own (X m c) (Gn m c) (W m c) _ _ (⟨t.val % 4 * 4 + l.val / 128, by omega⟩ : Fin 16) (⟨l.val % 128, by omega⟩ : Fin 128) (by dsimp only; omega)).symm
  exact values_blk m c t r l _ rfl (⟨t.val % 4 * 4 + l.val / 128, by omega⟩ : Fin 16) (⟨l.val % 128, by omega⟩ : Fin 128) (by dsimp only; omega)

/-- Every index of the keys lies in the block of some point. -/
theorem cover_keys (i : S8704x4096.Idx) : ∃ t : Fin cfg0.N, (cfg0.win 6).flush t = true ∧ i ∈ ((cfg0.win 6).blk t).view.set := by
  have h0 : (i 0 : Nat) < 8704 := (i 0).isLt
  have h1 : (i 1 : Nat) < 4096 := (i 1).isLt
  have hN : cfg0.N = 68 := N_0
  refine ⟨⟨(i 0 : Nat) / 512 * 4 + (i 1 : Nat) / 1024, by omega⟩, flush6 _, ?_⟩
  generalize ht : (⟨(i 0 : Nat) / 512 * 4 + (i 1 : Nat) / 1024, by omega⟩ : Fin cfg0.N) = t
  have hv : t.val = (i 0 : Nat) / 512 * 4 + (i 1 : Nat) / 1024 := by rw [← ht]
  obtain ⟨d0, d1⟩ := idx6 t
  obtain ⟨s0, s1⟩ := size6 t
  show i ∈ ((View.whole main_v10_0).slice (win0_6.rect t)).set
  rw [View.set_slice_whole, Rect.mem_set_unit]
  intro a
  match a with
  | ⟨0, _⟩ => show win0_6.index t 0 * 512 ≤ (i 0 : Nat) ∧ (i 0 : Nat) < win0_6.index t 0 * 512 + win0_6.xsize (grid0.coords t) 0
              rw [d0, s0]; omega
  | ⟨1, _⟩ => show win0_6.index t 1 * 1024 ≤ (i 1 : Nat) ∧ (i 1 : Nat) < win0_6.index t 1 * 1024 + win0_6.xsize (grid0.coords t) 1
              rw [d1, s1]; omega

/-- The keys' array ends holding the plain keys. -/
theorem final_keys (c : Dev nD) : (dats m 0 c).arrAt 6 cfg0.N = GK m c :=
  (dats m 0 c).arrAt_eq_of_cover 6 (GK m c) (flushed_keys m c) cover_keys

/-- Every index of the values lies in the block of some point. -/
theorem cover_values (i : S8704x2048.Idx) : ∃ t : Fin cfg0.N, (cfg0.win 7).flush t = true ∧ i ∈ ((cfg0.win 7).blk t).view.set := by
  have h0 : (i 0 : Nat) < 8704 := (i 0).isLt
  have h1 : (i 1 : Nat) < 2048 := (i 1).isLt
  have hN : cfg0.N = 68 := N_0
  refine ⟨⟨(i 0 : Nat) / 512 * 4 + (i 1 : Nat) / 512, by omega⟩, flush7 _, ?_⟩
  generalize ht : (⟨(i 0 : Nat) / 512 * 4 + (i 1 : Nat) / 512, by omega⟩ : Fin cfg0.N) = t
  have hv : t.val = (i 0 : Nat) / 512 * 4 + (i 1 : Nat) / 512 := by rw [← ht]
  obtain ⟨d0, d1⟩ := idx7 t
  obtain ⟨s0, s1⟩ := size7 t
  show i ∈ ((View.whole main_v10_1).slice (win0_7.rect t)).set
  rw [View.set_slice_whole, Rect.mem_set_unit]
  intro a
  match a with
  | ⟨0, _⟩ => show win0_7.index t 0 * 512 ≤ (i 0 : Nat) ∧ (i 0 : Nat) < win0_7.index t 0 * 512 + win0_7.xsize (grid0.coords t) 0
              rw [d0, s0]; omega
  | ⟨1, _⟩ => show win0_7.index t 1 * 512 ≤ (i 1 : Nat) ∧ (i 1 : Nat) < win0_7.index t 1 * 512 + win0_7.xsize (grid0.coords t) 1
              rw [d1, s1]; omega

/-- The values' array ends holding the plain values. -/
theorem final_values (c : Dev nD) : (dats m 0 c).arrAt 7 cfg0.N = GV m c :=
  (dats m 0 c).arrAt_eq_of_cover 7 (GV m c) (flushed_values m c) cover_values

end Cert.KvProjIdeal.Blocks

namespace Cert.Proof

open Idealize.ShloMosaic Idealize.ShloMosaic.TcCoe Idealize.SL.Sem

/-- The keys' and values' projection computes, on the extended reals, the plain keys and values. -/
theorem kvProj_algebraic : Cert.algebraic_KvProjIdeal_KvProjReferenceIdeal
    (hKvProjIdeal := Cert.KvProjIdeal.Gen.facts) (hKvProjReferenceIdeal := Cert.KvProjReferenceIdeal.Gen.facts) := by
  intro m g m' g' _ hargs
  refine ⟨fun c => Cert.KvProjIdeal.Blocks.GK m c, fun c => Cert.KvProjIdeal.Blocks.GV m c, ?_, ?_⟩
  · refine (θ_run _ _ _).mono (fun r h c => ?_) (Cert.KvProjIdeal.Value.run_blocks m g)
    obtain ⟨h0, h1, h2, h3, h4, h5⟩ := h c
    exact ⟨h0.trans (Cert.KvProjIdeal.Blocks.final_keys m c), h1.trans (Cert.KvProjIdeal.Blocks.final_values m c), h2, h3, h4, h5⟩
  · refine (θ_run _ _ _).mono (fun r h c => ?_) (Cert.KvProjReferenceIdeal.Value.run m' g')
    obtain ⟨h0, h1, h2, h3, h4, h5⟩ := h c
    obtain ⟨e0, e1, e2, e3⟩ := hargs c
    refine ⟨h0.trans ?_, h1.trans ?_, h2, h3, h4, h5⟩
    · rw [Cert.KvProjReferenceIdeal.Read.val_main_v29_eq, e0, e1, e2, e3]
      rfl
    · rw [Cert.KvProjReferenceIdeal.Read.val_main_v32_eq, e0, e1, e2]
      rfl

end Cert.Proof

end
-- ==== Proof.MixRow.lean ====
/- The tanh form of the Gaussian unit, and a row less its mean over the root of its variance, on the extended reals. -/
module

public import Idealize.ShloMosaic.PureOps.Ideal.Laws
public import Idealize.ShloMosaic.Lib.IdealHost

@[expose] public section

noncomputable section

namespace Cert.MixRow

open Idealize.ShloMosaic

/-- The Gaussian unit in its tanh form: half of `x` times one plus the tanh of a cubic of `x`. -/
def gelu (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * (x * (x * x))))))

/-- An entry of a row of 256 less the row's mean. -/
def centred (f : Fin 256 → EReal) (k : Fin 256) : EReal := f k - Ideal.div (∑ j, f j) (Ideal.ofBits .f32 0x43800000#32)

/-- An entry of a row of 256 less its mean, over the root of the row's variance and a small constant. -/
def std (f : Fin 256 → EReal) (k : Fin 256) : EReal :=
  centred f k * Ideal.rsqrt (Ideal.div (∑ j, centred f j * centred f j) (Ideal.ofBits .f32 0x43800000#32) + Ideal.ofBits .f32 0x358637BD#32)

end Cert.MixRow
-- ==== Proof.ChunkMixBody.lean ====
/- The block the mixing call leaves at a grid point: a gated half times four heads' mixed chunks, entry by entry. -/
module

public import proofs.«01_k».proof.Defs
public import proofs.«01_k».proof.Proof.Gen.ChunkMixIdeal.Value
public import proofs.«01_k».proof.Proof.MixRow
public import Idealize.ShloMosaic.Lib.Pointwise

@[expose] public section

set_option maxRecDepth 16384

noncomputable section

namespace Cert.ChunkMixIdeal.Blocks

open Cert.ChunkMixIdeal Cert.ChunkMixIdeal.Gen Idealize.ShloMosaic Idealize.ShloMosaic.TcCoe Idealize.SL.Sem

open Cert.MixRow (gelu centred std)

/-- The zero offsets of a whole-block access. -/
theorem hz : (![0, 0] : Fin 2 → Nat) = fun _ => 0 := funext fun a => by fin_cases a <;> rfl

/-- The gating half's unit at an entry. -/
theorem gate_apply (x : Vec Ideal S512x1024 .f32) (r : Fin 512) (l : Fin 1024) : k0_pay2 x (ix2 r l) = gelu (x (ix2 r l)) := by
  unfold k0_pay2 gelu
  pointwise

/-- The mixed half's unit at an entry. -/
theorem unit_apply (x : Vec Ideal S512x1024 .f32) (r : Fin 512) (l : Fin 1024) : k0_pay3 x (ix2 r l) = gelu (x (ix2 r l)) := by
  unfold k0_pay3 gelu
  pointwise

/-- Head 0's centred rows. -/
theorem centred0 (x : Vec Ideal S512x1024 .f32) (r : Fin 512) (k : Fin 256) :
    k0_pay4 x (ix2 r k) = centred (fun k : Fin 256 => k0_pay3 x (ix2 r (⟨k.val, by omega⟩ : Fin 1024))) k := by
  unfold k0_pay4 centred
  pointwise

/-- Head 0's rows, standardized. -/
theorem std0 (x : Vec Ideal S512x1024 .f32) (r : Fin 512) (k : Fin 256) :
    k0_pay6 (k0_pay4 x) (k0_pay5 x) (ix2 r k) = std (fun k : Fin 256 => k0_pay3 x (ix2 r (⟨k.val, by omega⟩ : Fin 1024))) k := by
  unfold k0_pay6 k0_pay5 std
  pointwise
  simp only [centred0]

/-- Head 3's centred rows. -/
theorem centred3 (y : FVec Ideal S512x1024 .f32) (r : Fin 512) (k : Fin 256) :
    k0_pay30 y (ix2 r k) = centred (fun k : Fin 256 => y (ix2 r (⟨768 + k.val, by omega⟩ : Fin 1024))) k := by
  unfold k0_pay30 centred
  pointwise

/-- Head 3's rows, standardized. -/
theorem std3 (y : FVec Ideal S512x1024 .f32) (r : Fin 512) (k : Fin 256) :
    k0_pay32 (k0_pay30 y) (k0_pay31 y) (ix2 r k) = std (fun k : Fin 256 => y (ix2 r (⟨768 + k.val, by omega⟩ : Fin 1024))) k := by
  unfold k0_pay32 k0_pay31 std
  pointwise
  simp only [centred3]

/-- Head 1's rows, standardized. -/
theorem std1 (y : FVec Ideal S512x1024 .f32) (r : Fin 512) (k : Fin 256) :
    k0_pay13 y (ix2 r k) = std (fun k : Fin 256 => y (ix2 r (⟨256 + k.val, by omega⟩ : Fin 1024))) k := by
  unfold k0_pay13 std centred
  pointwise

/-- Head 2's rows, standardized. -/
theorem std2 (y : FVec Ideal S512x1024 .f32) (r : Fin 512) (k : Fin 256) :
    k0_pay21 y (ix2 r k) = std (fun k : Fin 256 => y (ix2 r (⟨512 + k.val, by omega⟩ : Fin 1024))) k := by
  unfold k0_pay21 std centred
  pointwise

/-- The piece of head 0 at chunk 0: the gate times the mixed chunk. -/
theorem piece00 (u : FVec Ideal S512x1024 .f32) (v : FVec Ideal S512x256 .f32) (z : FVec Ideal S512x1 .f32) (w : Vec Ideal S1x128x128 .bf16) (b : Vec Ideal S1x128x1 .f32) (a : Fin 128) (d : Fin 256) :
    k0_pay9 u v z w b (ix2 a d) = u (ix2 (⟨a.val, by omega⟩ : Fin 512) (⟨d.val, by omega⟩ : Fin 1024))
      * (∑ q : Fin 128, w (ix3 0 a q) * k0_pay6 v z (ix2 (⟨q.val, by omega⟩ : Fin 512) d) + b (ix3 0 a 0)) := by
  unfold k0_pay9 k0_pay7 k0_pay8
  pointwise

/-- The piece of head 0 at chunk 1: the gate times the mixed chunk. -/
theorem piece01 (u : FVec Ideal S512x1024 .f32) (v : FVec Ideal S512x256 .f32) (z : FVec Ideal S512x1 .f32) (w : Vec Ideal S1x128x128 .bf16) (b : Vec Ideal S1x128x1 .f32) (a : Fin 128) (d : Fin 256) :
    k0_pay10 u v z w b (ix2 a d) = u (ix2 (⟨128 + a.val, by omega⟩ : Fin 512) (⟨d.val, by omega⟩ : Fin 1024))
      * (∑ q : Fin 128, w (ix3 0 a q) * k0_pay6 v z (ix2 (⟨128 + q.val, by omega⟩ : Fin 512) d) + b (ix3 0 a 0)) := by
  unfold k0_pay10 k0_pay7 k0_pay8
  pointwise

/-- The piece of head 0 at chunk 2: the gate times the mixed chunk. -/
theorem piece02 (u : FVec Ideal S512x1024 .f32) (v : FVec Ideal S512x256 .f32) (z : FVec Ideal S512x1 .f32) (w : Vec Ideal S1x128x128 .bf16) (b : Vec Ideal S1x128x1 .f32) (a : Fin 128) (d : Fin 256) :
    k0_pay11 u v z w b (ix2 a d) = u (ix2 (⟨256 + a.val, by omega⟩ : Fin 512) (⟨d.val, by omega⟩ : Fin 1024))
      * (∑ q : Fin 128, w (ix3 0 a q) * k0_pay6 v z (ix2 (⟨256 + q.val, by omega⟩ : Fin 512) d) + b (ix3 0 a 0)) := by
  unfold k0_pay11 k0_pay7 k0_pay8
  pointwise

/-- The piece of head 0 at chunk 3: the gate times the mixed chunk. -/
theorem piece03 (u : FVec Ideal S512x1024 .f32) (v : FVec Ideal S512x256 .f32) (z : FVec Ideal S512x1 .f32) (w : Vec Ideal S1x128x128 .bf16) (b : Vec Ideal S1x128x1 .f32) (a : Fin 128) (d : Fin 256) :
    k0_pay12 u v z w b (ix2 a d) = u (ix2 (⟨384 + a.val, by omega⟩ : Fin 512) (⟨d.val, by omega⟩ : Fin 1024))
      * (∑ q : Fin 128, w (ix3 0 a q) * k0_pay6 v z (ix2 (⟨384 + q.val, by omega⟩ : Fin 512) d) + b (ix3 0 a 0)) := by
  unfold k0_pay12 k0_pay7 k0_pay8
  pointwise

/-- The piece of head 1 at chunk 0: the gate times the mixed chunk. -/
theorem piece10 (u : FVec Ideal S512x1024 .f32) (y : FVec Ideal S512x1024 .f32) (w : Vec Ideal S1x128x128 .bf16) (b : Vec Ideal S1x128x1 .f32) (a : Fin 128) (d : Fin 256) :
    k0_pay16 u y w b (ix2 a d) = u (ix2 (⟨a.val, by omega⟩ : Fin 512) (⟨256 + d.val, by omega⟩ : Fin 1024))
      * (∑ q : Fin 128, w (ix3 0 a q) * k0_pay13 y (ix2 (⟨q.val, by omega⟩ : Fin 512) d) + b (ix3 0 a 0)) := by
  unfold k0_pay16 k0_pay14 k0_pay15
  pointwise

/-- The piece of head 1 at chunk 1: the gate times the mixed chunk. -/
theorem piece11 (u : FVec Ideal S512x1024 .f32) (y : FVec Ideal S512x1024 .f32) (w : Vec Ideal S1x128x128 .bf16) (b : Vec Ideal S1x128x1 .f32) (a : Fin 128) (d : Fin 256) :
    k0_pay17 u y w b (ix2 a d) = u (ix2 (⟨128 + a.val, by omega⟩ : Fin 512) (⟨256 + d.val, by omega⟩ : Fin 1024))
      * (∑ q : Fin 128, w (ix3 0 a q) * k0_pay13 y (ix2 (⟨128 + q.val, by omega⟩ : Fin 512) d) + b (ix3 0 a 0)) := by
  unfold k0_pay17 k0_pay14 k0_pay15
  pointwise

/-- The piece of head 1 at chunk 2: the gate times the mixed chunk. -/
theorem piece12 (u : FVec Ideal S512x1024 .f32) (y : FVec Ideal S512x1024 .f32) (w : Vec Ideal S1x128x128 .bf16) (b : Vec Ideal S1x128x1 .f32) (a : Fin 128) (d : Fin 256) :
    k0_pay19 u (k0_pay14 w) (k0_pay15 b) (k0_pay18 y) (ix2 a d) = u (ix2 (⟨256 + a.val, by omega⟩ : Fin 512) (⟨256 + d.val, by omega⟩ : Fin 1024))
      * (∑ q : Fin 128, w (ix3 0 a q) * k0_pay13 y (ix2 (⟨256 + q.val, by omega⟩ : Fin 512) d) + b (ix3 0 a 0)) := by
  unfold k0_pay19 k0_pay14 k0_pay15 k0_pay18
  pointwise

/-- The piece of head 1 at chunk 3: the gate times the mixed chunk. -/
theorem piece13 (u : FVec Ideal S512x1024 .f32) (y : FVec Ideal S512x1024 .f32) (w : Vec Ideal S1x128x128 .bf16) (b : Vec Ideal S1x128x1 .f32) (a : Fin 128) (d : Fin 256) :
    k0_pay20 u (k0_pay13 y) (k0_pay14 w) (k0_pay15 b) (ix2 a d) = u (ix2 (⟨384 + a.val, by omega⟩ : Fin 512) (⟨256 + d.val, by omega⟩ : Fin 1024))
      * (∑ q : Fin 128, w (ix3 0 a q) * k0_pay13 y (ix2 (⟨384 + q.val, by omega⟩ : Fin 512) d) + b (ix3 0 a 0)) := by
  unfold k0_pay20 k0_pay14 k0_pay15
  pointwise

/-- The piece of head 2 at chunk 0: the gate times the mixed chunk. -/
theorem piece20 (u : FVec Ideal S512x1024 .f32) (y : FVec Ideal S512x1024 .f32) (w : Vec Ideal S1x128x128 .bf16) (b : Vec Ideal S1x128x1 .f32) (a : Fin 128) (d : Fin 256) :
    k0_pay26 u (k0_pay24 y w) (k0_pay25 b) (ix2 a d) = u (ix2 (⟨a.val, by omega⟩ : Fin 512) (⟨512 + d.val, by omega⟩ : Fin 1024))
      * (∑ q : Fin 128, w (ix3 0 a q) * k0_pay21 y (ix2 (⟨q.val, by omega⟩ : Fin 512) d) + b (ix3 0 a 0)) := by
  unfold k0_pay26 k0_pay24 k0_pay25 k0_pay22 k0_pay23
  pointwise

/-- The piece of head 2 at chunk 1: the gate times the mixed chunk. -/
theorem piece21 (u : FVec Ideal S512x1024 .f32) (y : FVec Ideal S512x1024 .f32) (w : Vec Ideal S1x128x128 .bf16) (b : Vec Ideal S1x128x1 .f32) (a : Fin 128) (d : Fin 256) :
    k0_pay27 u (k0_pay21 y) (k0_pay22 w) (k0_pay23 b) (ix2 a d) = u (ix2 (⟨128 + a.val, by omega⟩ : Fin 512) (⟨512 + d.val, by omega⟩ : Fin 1024))
      * (∑ q : Fin 128, w (ix3 0 a q) * k0_pay21 y (ix2 (⟨128 + q.val, by omega⟩ : Fin 512) d) + b (ix3 0 a 0)) := by
  unfold k0_pay27 k0_pay22 k0_pay23
  pointwise

/-- The piece of head 2 at chunk 2: the gate times the mixed chunk. -/
theorem piece22 (u : FVec Ideal S512x1024 .f32) (y : FVec Ideal S512x1024 .f32) (w : Vec Ideal S1x128x128 .bf16) (b : Vec Ideal S1x128x1 .f32) (a : Fin 128) (d : Fin 256) :
    k0_pay28 u (k0_pay21 y) (k0_pay22 w) (k0_pay23 b) (ix2 a d) = u (ix2 (⟨256 + a.val, by omega⟩ : Fin 512) (⟨512 + d.val, by omega⟩ : Fin 1024))
      * (∑ q : Fin 128, w (ix3 0 a q) * k0_pay21 y (ix2 (⟨256 + q.val, by omega⟩ : Fin 512) d) + b (ix3 0 a 0)) := by
  unfold k0_pay28 k0_pay22 k0_pay23
  pointwise

/-- The piece of head 2 at chunk 3: the gate times the mixed chunk. -/
theorem piece23 (u : FVec Ideal S512x1024 .f32) (y : FVec Ideal S512x1024 .f32) (w : Vec Ideal S1x128x128 .bf16) (b : Vec Ideal S1x128x1 .f32) (a : Fin 128) (d : Fin 256) :
    k0_pay29 u (k0_pay21 y) (k0_pay22 w) (k0_pay23 b) (ix2 a d) = u (ix2 (⟨384 + a.val, by omega⟩ : Fin 512) (⟨512 + d.val, by omega⟩ : Fin 1024))
      * (∑ q : Fin 128, w (ix3 0 a q) * k0_pay21 y (ix2 (⟨384 + q.val, by omega⟩ : Fin 512) d) + b (ix3 0 a 0)) := by
  unfold k0_pay29 k0_pay22 k0_pay23
  pointwise

/-- The piece of head 3 at chunk 0: the gate times the mixed chunk. -/
theorem piece30 (u : FVec Ideal S512x1024 .f32) (v : FVec Ideal S512x256 .f32) (z : FVec Ideal S512x1 .f32) (w : Vec Ideal S1x128x128 .bf16) (b : Vec Ideal S1x128x1 .f32) (a : Fin 128) (d : Fin 256) :
    k0_pay35 u v z w b (ix2 a d) = u (ix2 (⟨a.val, by omega⟩ : Fin 512) (⟨768 + d.val, by omega⟩ : Fin 1024))
      * (∑ q : Fin 128, w (ix3 0 a q) * k0_pay32 v z (ix2 (⟨q.val, by omega⟩ : Fin 512) d) + b (ix3 0 a 0)) := by
  unfold k0_pay35 k0_pay33 k0_pay34
  pointwise

/-- The piece of head 3 at chunk 1: the gate times the mixed chunk. -/
theorem piece31 (u : FVec Ideal S512x1024 .f32) (v : FVec Ideal S512x256 .f32) (z : FVec Ideal S512x1 .f32) (w : Vec Ideal S1x128x128 .bf16) (b : Vec Ideal S1x128x1 .f32) (a : Fin 128) (d : Fin 256) :
    k0_pay36 u v z w b (ix2 a d) = u (ix2 (⟨128 + a.val, by omega⟩ : Fin 512) (⟨768 + d.val, by omega⟩ : Fin 1024))
      * (∑ q : Fin 128, w (ix3 0 a q) * k0_pay32 v z (ix2 (⟨128 + q.val, by omega⟩ : Fin 512) d) + b (ix3 0 a 0)) := by
  unfold k0_pay36 k0_pay33 k0_pay34
  pointwise

/-- The piece of head 3 at chunk 2: the gate times the mixed chunk. -/
theorem piece32 (u : FVec Ideal S512x1024 .f32) (v : FVec Ideal S512x256 .f32) (z : FVec Ideal S512x1 .f32) (w : Vec Ideal S1x128x128 .bf16) (b : Vec Ideal S1x128x1 .f32) (a : Fin 128) (d : Fin 256) :
    k0_pay37 u v z w b (ix2 a d) = u (ix2 (⟨256 + a.val, by omega⟩ : Fin 512) (⟨768 + d.val, by omega⟩ : Fin 1024))
      * (∑ q : Fin 128, w (ix3 0 a q) * k0_pay32 v z (ix2 (⟨256 + q.val, by omega⟩ : Fin 512) d) + b (ix3 0 a 0)) := by
  unfold k0_pay37 k0_pay33 k0_pay34
  pointwise

/-- The piece of head 3 at chunk 3: the gate times the mixed chunk. -/
theorem piece33 (u : FVec Ideal S512x1024 .f32) (v : FVec Ideal S512x256 .f32) (z : FVec Ideal S512x1 .f32) (w : Vec Ideal S1x128x128 .bf16) (b : Vec Ideal S1x128x1 .f32) (a : Fin 128) (d : Fin 256) :
    k0_pay1 (k0_pay38 u v z w b) (ix2 a d) = u (ix2 (⟨384 + a.val, by omega⟩ : Fin 512) (⟨768 + d.val, by omega⟩ : Fin 1024))
      * (∑ q : Fin 128, w (ix3 0 a q) * k0_pay32 v z (ix2 (⟨384 + q.val, by omega⟩ : Fin 512) d) + b (ix3 0 a 0)) := by
  unfold k0_pay1 k0_pay38 k0_pay33 k0_pay34
  pointwise

/-- The standardized row of head `h` that a block of the mixed half holds. -/
def row (x : Vec Ideal S512x1024 .f32) (h : Fin 4) (r : Fin 512) (k : Fin 256) : EReal :=
  std (fun k : Fin 256 => gelu (x (ix2 r (⟨h.val * 256 + k.val, by omega⟩ : Fin 1024)))) k

/-- An entry of the block a point leaves: the gate's unit times the mixed chunk of the column's head and its bias. -/
def entry (x0 x1 : Vec Ideal S512x1024 .f32) (w : Vec Ideal S4x128x128 .bf16) (b : Vec Ideal S4x128x1 .f32) (r : Fin 512) (l : Fin 1024) : EReal :=
  gelu (x0 (ix2 r l)) * (∑ q : Fin 128, w (ix3 (⟨l.val / 256, by omega⟩ : Fin 4) (⟨r.val % 128, by omega⟩ : Fin 128) q)
    * row x1 (⟨l.val / 256, by omega⟩ : Fin 4) (⟨r.val / 128 * 128 + q.val, by omega⟩ : Fin 512) (⟨l.val % 256, by omega⟩ : Fin 256)
    + b (ix3 (⟨l.val / 256, by omega⟩ : Fin 4) (⟨r.val % 128, by omega⟩ : Fin 128) 0))

/-- The entry at a chunk's row and a head's column, from the head's weights and bias loaded. -/
theorem entry_at (x0 x1 : Vec Ideal S512x1024 .f32) (w : Vec Ideal S4x128x128 .bf16) (b : Vec Ideal S4x128x1 .f32) (r : Fin 512) (l : Fin 1024)
    (c : Nat) (h : Fin 4) (a : Fin 128) (d : Fin 256) (w' : Vec Ideal S1x128x128 .bf16) (b' : Vec Ideal S1x128x1 .f32)
    (hw : ∀ a q, w' (ix3 0 a q) = w (ix3 h a q)) (hb : ∀ a, b' (ix3 0 a 0) = b (ix3 h a 0)) (i : Fin 512) (n : Fin 1024) (iq : Fin 128 → Fin 512)
    (ck : Fin 256 → Fin 1024) (hr : r.val = c * 128 + a.val) (hl : l.val = h.val * 256 + d.val) (hi : i.val = c * 128 + a.val)
    (hn : n.val = h.val * 256 + d.val) (hq : ∀ q, (iq q).val = c * 128 + q.val) (hk : ∀ k, (ck k).val = h.val * 256 + k.val) :
    entry x0 x1 w b r l = gelu (x0 (ix2 i n))
      * (∑ q : Fin 128, w' (ix3 0 a q) * std (fun k => gelu (x1 (ix2 (iq q) (ck k)))) d + b' (ix3 0 a 0)) := by
  have e1 : (⟨l.val / 256, by omega⟩ : Fin 4) = h := Fin.ext (by dsimp only; omega)
  have e2 : (⟨r.val % 128, by omega⟩ : Fin 128) = a := Fin.ext (by dsimp only; omega)
  have e3 : (⟨l.val % 256, by omega⟩ : Fin 256) = d := Fin.ext (by dsimp only; omega)
  have e4 : ∀ q : Fin 128, (⟨r.val / 128 * 128 + q.val, by omega⟩ : Fin 512) = iq q := fun q => Fin.ext (by have := hq q; dsimp only; omega)
  have e5 : r = i := Fin.ext (hr.trans hi.symm)
  have e6 : l = n := Fin.ext (hl.trans hn.symm)
  have e7 : ∀ k : Fin 256, (⟨l.val / 256 * 256 + k.val, by omega⟩ : Fin 1024) = ck k :=
    fun k => Fin.ext (by have := hk k; dsimp only; omega)
  unfold entry row
  simp only [e1, e2, e3, e4, e7, hw, hb]
  rw [e5, e6]

/-- Head 0's weights, loaded. -/
theorem weight0 (w : Vec Ideal S4x128x128 .bf16) (a q : Fin 128) : View.ld w r0_1 (ix3 0 a q) = w (ix3 0 a q) :=
  congrArg w (funext fun i => Fin.ext (by fin_cases i <;> simp [Rect.emb, Rect.unit]))

/-- Head 0's bias, loaded. -/
theorem bias0 (b : Vec Ideal S4x128x1 .f32) (a : Fin 128) : View.ld b r0_2 (ix3 0 a 0) = b (ix3 0 a 0) :=
  congrArg b (funext fun i => Fin.ext (by fin_cases i <;> simp [Rect.emb, Rect.unit]))

/-- Head 1's weights, loaded. -/
theorem weight1 (w : Vec Ideal S4x128x128 .bf16) (a q : Fin 128) : View.ld w r0_7 (ix3 0 a q) = w (ix3 1 a q) :=
  congrArg w (funext fun i => Fin.ext (by fin_cases i <;> simp [Rect.emb, Rect.unit]))

/-- Head 1's bias, loaded. -/
theorem bias1 (b : Vec Ideal S4x128x1 .f32) (a : Fin 128) : View.ld b r0_8 (ix3 0 a 0) = b (ix3 1 a 0) :=
  congrArg b (funext fun i => Fin.ext (by fin_cases i <;> simp [Rect.emb, Rect.unit]))

/-- Head 2's weights, loaded. -/
theorem weight2 (w : Vec Ideal S4x128x128 .bf16) (a q : Fin 128) : View.ld w r0_13 (ix3 0 a q) = w (ix3 2 a q) :=
  congrArg w (funext fun i => Fin.ext (by fin_cases i <;> simp [Rect.emb, Rect.unit]))

/-- Head 2's bias, loaded. -/
theorem bias2 (b : Vec Ideal S4x128x1 .f32) (a : Fin 128) : View.ld b r0_14 (ix3 0 a 0) = b (ix3 2 a 0) :=
  congrArg b (funext fun i => Fin.ext (by fin_cases i <;> simp [Rect.emb, Rect.unit]))

/-- Head 3's weights, loaded. -/
theorem weight3 (w : Vec Ideal S4x128x128 .bf16) (a q : Fin 128) : View.ld w r0_19 (ix3 0 a q) = w (ix3 3 a q) :=
  congrArg w (funext fun i => Fin.ext (by fin_cases i <;> simp [Rect.emb, Rect.unit]))

/-- Head 3's bias, loaded. -/
theorem bias3 (b : Vec Ideal S4x128x1 .f32) (a : Fin 128) : View.ld b r0_20 (ix3 0 a 0) = b (ix3 3 a 0) :=
  congrArg b (funext fun i => Fin.ext (by fin_cases i <;> simp [Rect.emb, Rect.unit]))

set_option maxHeartbeats 2000000 in
/-- The block the body leaves, at a row and a column. -/
theorem out_apply (x0 x1 : Vec Ideal S512x1024 .f32) (w : Vec Ideal S4x128x128 .bf16) (b : Vec Ideal S4x128x1 .f32) (r : Fin 512) (l : Fin 1024) :
    out0_4 x0 x1 w b (ix2 r l) = entry x0 x1 w b r l := by
  unfold out0_4 k0_pay49 k0_pay48 k0_pay47 k0_pay46 k0_pay45 k0_pay44 k0_pay43 k0_pay42 k0_pay41 k0_pay40 k0_pay39
  simp only [View.ld_unit_zero (S := S512x1024) hz]
  refine View.canon_apply_of_pieces (Val := Elt Ideal) (e := .bf16) (S := S512x1024) (fun i => entry x0 x1 w b (i 0) (i 1)) _ ?_ (ix2 r l)
    (cover0_4 _ _ _ _ _ _ _ _ _ _ _ _ _ _ _ _ _)
  intro p hp
  simp only [List.mem_cons, List.not_mem_nil, or_false] at hp
  rcases hp with rfl | rfl | rfl | rfl | rfl | rfl | rfl | rfl | rfl | rfl | rfl | rfl | rfl | rfl | rfl | rfl <;> intro i <;>
    obtain ⟨a, d, rfl⟩ : ∃ (a : Fin 128) (d : Fin 256), i = ix2 a d := ⟨i 0, i 1, eq_ix2 i⟩
  · refine (piece33 _ _ _ _ _ a d).trans (Eq.symm ?_)
    simp only [gate_apply, std3, unit_apply]
    exact entry_at x0 x1 w b _ _ 3 3 a d _ _ (weight3 w) (bias3 b) _ _ _ _ (by show 384 + 1 * a.val = 3 * 128 + a.val; omega)
      (by show 768 + 1 * d.val = 3 * 256 + d.val; omega) (by show 384 + a.val = 3 * 128 + a.val; omega)
      (by show 768 + d.val = 3 * 256 + d.val; omega) (fun q => by show 384 + q.val = 3 * 128 + q.val; omega)
      (fun k => by show 768 + k.val = 3 * 256 + k.val; omega)
  · refine (piece32 _ _ _ _ _ a d).trans (Eq.symm ?_)
    simp only [gate_apply, std3, unit_apply]
    exact entry_at x0 x1 w b _ _ 2 3 a d _ _ (weight3 w) (bias3 b) _ _ _ _ (by show 256 + 1 * a.val = 2 * 128 + a.val; omega)
      (by show 768 + 1 * d.val = 3 * 256 + d.val; omega) (by show 256 + a.val = 2 * 128 + a.val; omega)
      (by show 768 + d.val = 3 * 256 + d.val; omega) (fun q => by show 256 + q.val = 2 * 128 + q.val; omega)
      (fun k => by show 768 + k.val = 3 * 256 + k.val; omega)
  · refine (piece31 _ _ _ _ _ a d).trans (Eq.symm ?_)
    simp only [gate_apply, std3, unit_apply]
    exact entry_at x0 x1 w b _ _ 1 3 a d _ _ (weight3 w) (bias3 b) _ _ _ _ (by show 128 + 1 * a.val = 1 * 128 + a.val; omega)
      (by show 768 + 1 * d.val = 3 * 256 + d.val; omega) (by show 128 + a.val = 1 * 128 + a.val; omega)
      (by show 768 + d.val = 3 * 256 + d.val; omega) (fun q => by show 128 + q.val = 1 * 128 + q.val; omega)
      (fun k => by show 768 + k.val = 3 * 256 + k.val; omega)
  · refine (piece30 _ _ _ _ _ a d).trans (Eq.symm ?_)
    simp only [gate_apply, std3, unit_apply]
    exact entry_at x0 x1 w b _ _ 0 3 a d _ _ (weight3 w) (bias3 b) _ _ _ _ (by show 0 + 1 * a.val = 0 * 128 + a.val; omega)
      (by show 768 + 1 * d.val = 3 * 256 + d.val; omega) (by show a.val = 0 * 128 + a.val; omega)
      (by show 768 + d.val = 3 * 256 + d.val; omega) (fun q => by show q.val = 0 * 128 + q.val; omega)
      (fun k => by show 768 + k.val = 3 * 256 + k.val; omega)
  · refine (piece23 _ _ _ _ a d).trans (Eq.symm ?_)
    simp only [gate_apply, std2, unit_apply]
    exact entry_at x0 x1 w b _ _ 3 2 a d _ _ (weight2 w) (bias2 b) _ _ _ _ (by show 384 + 1 * a.val = 3 * 128 + a.val; omega)
      (by show 512 + 1 * d.val = 2 * 256 + d.val; omega) (by show 384 + a.val = 3 * 128 + a.val; omega)
      (by show 512 + d.val = 2 * 256 + d.val; omega) (fun q => by show 384 + q.val = 3 * 128 + q.val; omega)
      (fun k => by show 512 + k.val = 2 * 256 + k.val; omega)
  · refine (piece22 _ _ _ _ a d).trans (Eq.symm ?_)
    simp only [gate_apply, std2, unit_apply]
    exact entry_at x0 x1 w b _ _ 2 2 a d _ _ (weight2 w) (bias2 b) _ _ _ _ (by show 256 + 1 * a.val = 2 * 128 + a.val; omega)
      (by show 512 + 1 * d.val = 2 * 256 + d.val; omega) (by show 256 + a.val = 2 * 128 + a.val; omega)
      (by show 512 + d.val = 2 * 256 + d.val; omega) (fun q => by show 256 + q.val = 2 * 128 + q.val; omega)
      (fun k => by show 512 + k.val = 2 * 256 + k.val; omega)
  · refine (piece21 _ _ _ _ a d).trans (Eq.symm ?_)
    simp only [gate_apply, std2, unit_apply]
    exact entry_at x0 x1 w b _ _ 1 2 a d _ _ (weight2 w) (bias2 b) _ _ _ _ (by show 128 + 1 * a.val = 1 * 128 + a.val; omega)
      (by show 512 + 1 * d.val = 2 * 256 + d.val; omega) (by show 128 + a.val = 1 * 128 + a.val; omega)
      (by show 512 + d.val = 2 * 256 + d.val; omega) (fun q => by show 128 + q.val = 1 * 128 + q.val; omega)
      (fun k => by show 512 + k.val = 2 * 256 + k.val; omega)
  · refine (piece20 _ _ _ _ a d).trans (Eq.symm ?_)
    simp only [gate_apply, std2, unit_apply]
    exact entry_at x0 x1 w b _ _ 0 2 a d _ _ (weight2 w) (bias2 b) _ _ _ _ (by show 0 + 1 * a.val = 0 * 128 + a.val; omega)
      (by show 512 + 1 * d.val = 2 * 256 + d.val; omega) (by show a.val = 0 * 128 + a.val; omega)
      (by show 512 + d.val = 2 * 256 + d.val; omega) (fun q => by show q.val = 0 * 128 + q.val; omega)
      (fun k => by show 512 + k.val = 2 * 256 + k.val; omega)
  · refine (piece13 _ _ _ _ a d).trans (Eq.symm ?_)
    simp only [gate_apply, std1, unit_apply]
    exact entry_at x0 x1 w b _ _ 3 1 a d _ _ (weight1 w) (bias1 b) _ _ _ _ (by show 384 + 1 * a.val = 3 * 128 + a.val; omega)
      (by show 256 + 1 * d.val = 1 * 256 + d.val; omega) (by show 384 + a.val = 3 * 128 + a.val; omega)
      (by show 256 + d.val = 1 * 256 + d.val; omega) (fun q => by show 384 + q.val = 3 * 128 + q.val; omega)
      (fun k => by show 256 + k.val = 1 * 256 + k.val; omega)
  · refine (piece12 _ _ _ _ a d).trans (Eq.symm ?_)
    simp only [gate_apply, std1, unit_apply]
    exact entry_at x0 x1 w b _ _ 2 1 a d _ _ (weight1 w) (bias1 b) _ _ _ _ (by show 256 + 1 * a.val = 2 * 128 + a.val; omega)
      (by show 256 + 1 * d.val = 1 * 256 + d.val; omega) (by show 256 + a.val = 2 * 128 + a.val; omega)
      (by show 256 + d.val = 1 * 256 + d.val; omega) (fun q => by show 256 + q.val = 2 * 128 + q.val; omega)
      (fun k => by show 256 + k.val = 1 * 256 + k.val; omega)
  · refine (piece11 _ _ _ _ a d).trans (Eq.symm ?_)
    simp only [gate_apply, std1, unit_apply]
    exact entry_at x0 x1 w b _ _ 1 1 a d _ _ (weight1 w) (bias1 b) _ _ _ _ (by show 128 + 1 * a.val = 1 * 128 + a.val; omega)
      (by show 256 + 1 * d.val = 1 * 256 + d.val; omega) (by show 128 + a.val = 1 * 128 + a.val; omega)
      (by show 256 + d.val = 1 * 256 + d.val; omega) (fun q => by show 128 + q.val = 1 * 128 + q.val; omega)
      (fun k => by show 256 + k.val = 1 * 256 + k.val; omega)
  · refine (piece10 _ _ _ _ a d).trans (Eq.symm ?_)
    simp only [gate_apply, std1, unit_apply]
    exact entry_at x0 x1 w b _ _ 0 1 a d _ _ (weight1 w) (bias1 b) _ _ _ _ (by show 0 + 1 * a.val = 0 * 128 + a.val; omega)
      (by show 256 + 1 * d.val = 1 * 256 + d.val; omega) (by show a.val = 0 * 128 + a.val; omega)
      (by show 256 + d.val = 1 * 256 + d.val; omega) (fun q => by show q.val = 0 * 128 + q.val; omega)
      (fun k => by show 256 + k.val = 1 * 256 + k.val; omega)
  · refine (piece03 _ _ _ _ _ a d).trans (Eq.symm ?_)
    simp only [gate_apply, std0, unit_apply]
    exact entry_at x0 x1 w b _ _ 3 0 a d _ _ (weight0 w) (bias0 b) _ _ _ _ (by show 384 + 1 * a.val = 3 * 128 + a.val; omega)
      (by show 0 + 1 * d.val = 0 * 256 + d.val; omega) (by show 384 + a.val = 3 * 128 + a.val; omega)
      (by show d.val = 0 * 256 + d.val; omega) (fun q => by show 384 + q.val = 3 * 128 + q.val; omega)
      (fun k => by show k.val = 0 * 256 + k.val; omega)
  · refine (piece02 _ _ _ _ _ a d).trans (Eq.symm ?_)
    simp only [gate_apply, std0, unit_apply]
    exact entry_at x0 x1 w b _ _ 2 0 a d _ _ (weight0 w) (bias0 b) _ _ _ _ (by show 256 + 1 * a.val = 2 * 128 + a.val; omega)
      (by show 0 + 1 * d.val = 0 * 256 + d.val; omega) (by show 256 + a.val = 2 * 128 + a.val; omega)
      (by show d.val = 0 * 256 + d.val; omega) (fun q => by show 256 + q.val = 2 * 128 + q.val; omega)
      (fun k => by show k.val = 0 * 256 + k.val; omega)
  · refine (piece01 _ _ _ _ _ a d).trans (Eq.symm ?_)
    simp only [gate_apply, std0, unit_apply]
    exact entry_at x0 x1 w b _ _ 1 0 a d _ _ (weight0 w) (bias0 b) _ _ _ _ (by show 128 + 1 * a.val = 1 * 128 + a.val; omega)
      (by show 0 + 1 * d.val = 0 * 256 + d.val; omega) (by show 128 + a.val = 1 * 128 + a.val; omega)
      (by show d.val = 0 * 256 + d.val; omega) (fun q => by show 128 + q.val = 1 * 128 + q.val; omega)
      (fun k => by show k.val = 0 * 256 + k.val; omega)
  · refine (piece00 _ _ _ _ _ a d).trans (Eq.symm ?_)
    simp only [gate_apply, std0, unit_apply]
    exact entry_at x0 x1 w b _ _ 0 0 a d _ _ (weight0 w) (bias0 b) _ _ _ _ (by show 0 + 1 * a.val = 0 * 128 + a.val; omega)
      (by show 0 + 1 * d.val = 0 * 256 + d.val; omega) (by show a.val = 0 * 128 + a.val; omega)
      (by show d.val = 0 * 256 + d.val; omega) (fun q => by show q.val = 0 * 128 + q.val; omega)
      (fun k => by show k.val = 0 * 256 + k.val; omega)

end Cert.ChunkMixIdeal.Blocks
-- ==== Proof.ChunkMixRef.lean ====
/- The mixing's plain text read at an index. -/
module

public import proofs.«01_k».proof.Defs
public import proofs.«01_k».proof.Proof.Gen.ChunkMixReferenceIdeal.Run
public import proofs.«01_k».proof.Proof.Gen.ChunkMixReferenceIdeal.Read
public import proofs.«01_k».proof.Proof.MixRow
public import Idealize.ShloMosaic.Lib.Pointwise

@[expose] public section

set_option maxRecDepth 16384

noncomputable section

namespace Cert.ChunkMixReferenceIdeal.Rows

open Cert.ChunkMixReferenceIdeal Cert.ChunkMixReferenceIdeal.Gen Cert.ChunkMixReferenceIdeal.Read Idealize.ShloMosaic

open Cert.MixRow (gelu centred std)

/-- The projected rows' array. -/
abbrev RowsT := Vec Ideal S8704x5120 .f32

/-- The heads' weights. -/
abbrev Weight := Vec Ideal S4x128x128 .f32

/-- The heads' biases. -/
abbrev Bias := Vec Ideal S4x128 .f32

/-- The unit of the columns from 2048. -/
theorem unit_apply (x : RowsT) (R : Fin 8704) (j : Fin 2048) :
    val_main_v13 (F := Ideal) x (ix2 R j) = gelu (x (ix2 R (⟨2048 + j.val, by omega⟩ : Fin 5120))) := by
  unfold gelu
  pointwise [val_main_v13, val_main_v12, val_main_v11, val_main_cst_2, val_main_v10, val_main_v9, val_main_cst_1, val_main_v8, val_main_v7,
    val_main_v6, val_main_cst_0, val_main_v5, val_main_v4, val_main_v3, val_main_cst, val_main_v2, val_main_v1, val_main_v0]
  simp only [mul_comm (_ * _ : EReal) (x _)]

/-- The gating half, by chunks and heads. -/
theorem gate_apply (x : RowsT) (C : Fin 68) (p : Fin 128) (h : Fin 4) (d : Fin 256) (R : Fin 8704) (hR : R.val = C.val * 128 + p.val) :
    val_main_v16 (F := Ideal) x (ix4 C p h d) = gelu (x (ix2 R (⟨2048 + (h.val * 256 + d.val), by omega⟩ : Fin 5120))) := by
  have hC := C.isLt
  have hp := p.isLt
  have hh := h.isLt
  have hd := d.isLt
  have e : idx_main_v14 (idx_main_v16 (ix4 C p h d)) = ix2 R (⟨h.val * 256 + d.val, by omega⟩ : Fin 2048) := by
    funext a
    apply Fin.ext
    match a with
    | ⟨0, _⟩ => simp only [idx_main_v14, idx_main_v16, ix2, ix4]; omega
    | ⟨1, _⟩ => simp only [idx_main_v14, idx_main_v16, ix2, ix4]; omega
  rw [val_main_v16_apply, val_main_v14_apply, e, unit_apply]

/-- The mixed half, by chunks and heads. -/
theorem mixed_apply (x : RowsT) (C : Fin 68) (p : Fin 128) (h : Fin 4) (d : Fin 256) (R : Fin 8704) (hR : R.val = C.val * 128 + p.val) :
    val_main_v17 (F := Ideal) x (ix4 C p h d) = gelu (x (ix2 R (⟨3072 + (h.val * 256 + d.val), by omega⟩ : Fin 5120))) := by
  have hC := C.isLt
  have hp := p.isLt
  have hh := h.isLt
  have hd := d.isLt
  have e : idx_main_v15 (idx_main_v17 (ix4 C p h d)) = ix2 R (⟨1024 + (h.val * 256 + d.val), by omega⟩ : Fin 2048) := by
    funext a
    apply Fin.ext
    match a with
    | ⟨0, _⟩ => simp only [idx_main_v15, idx_main_v17, ix2, ix4]; omega
    | ⟨1, _⟩ => simp only [idx_main_v15, idx_main_v17, ix2, ix4]; omega
  rw [val_main_v17_apply, val_main_v15_apply, e, unit_apply]
  exact congrArg (fun n : Fin 5120 => gelu (x (ix2 R n))) (Fin.ext (by show 2048 + (1024 + (h.val * 256 + d.val)) = 3072 + (h.val * 256 + d.val); omega))

/-- The standardized rows, by chunks and heads. -/
theorem std_apply (x : RowsT) (C : Fin 68) (p : Fin 128) (h : Fin 4) (d : Fin 256) :
    val_main_v35 (F := Ideal) x (ix4 C p h d) = std (fun d => val_main_v17 (F := Ideal) x (ix4 C p h d)) d := by
  unfold std centred
  unfold val_main_v35 val_main_v34 val_main_v33 val_main_v32 val_main_v31 val_main_cst_7 val_main_v30 val_main_v29 val_main_v28 val_main_v27 val_main_cst_6
    val_main_v26 val_main_v25 val_main_cst_5 val_main_v24 val_main_v23 val_main_v22 val_main_v21 val_main_v20 val_main_cst_4 val_main_v19 val_main_v18 val_main_cst_3
  generalize val_main_v17 (F := Ideal) x = y
  pointwise

/-- The mixed chunk of a head, with its bias. -/
theorem mix_apply (x : RowsT) (w : Weight) (b : Bias) (C : Fin 68) (p : Fin 128) (h : Fin 4) (d : Fin 256) :
    val_main_v42 (F := Ideal) x w b (ix4 C p h d) = ∑ q : Fin 128, w (ix3 h p q) * val_main_v35 (F := Ideal) x (ix4 C q h d) + b (ix2 h p) := by
  have hw : val_main_v37 (F := Ideal) x w (ix4 C p h d) = ∑ q : Fin 128, w (ix3 h p q) * val_main_v35 (F := Ideal) x (ix4 C q h d) := by
    rw [val_main_v37_apply, val_main_v36_apply]
    refine Finset.sum_congr rfl fun q _ => (mul_comm _ _).trans (congrArg₂ (· * ·) (congrArg w (funext fun a => ?_)) (congrArg (val_main_v35 (F := Ideal) x) (funext fun a => ?_)))
    · match a with
      | ⟨0, _⟩ => rfl
      | ⟨1, _⟩ => rfl
      | ⟨2, _⟩ => rfl
    · match a with
      | ⟨0, _⟩ => rfl
      | ⟨1, _⟩ => rfl
      | ⟨2, _⟩ => rfl
      | ⟨3, _⟩ => rfl
  have hb : val_main_v41 (F := Ideal) b (ix4 C p h d) = b (ix2 h p) := by
    pointwise [val_main_v41, val_main_v40, val_main_v39, val_main_v38]
  rw [val_main_v42_apply, hw, hb]
  rfl

/-- An entry of the result: the gate's unit times the mixed chunk of the column's head and its bias. -/
theorem out_apply (x : RowsT) (w : Weight) (b : Bias) (R : Fin 8704) (L : Fin 1024) (C : Fin 68) (p : Fin 128) (h : Fin 4) (d : Fin 256)
    (hR : R.val = C.val * 128 + p.val) (hL : L.val = h.val * 256 + d.val) :
    val_main_v45 (F := Ideal) x w b (ix2 R L) = gelu (x (ix2 R (⟨2048 + (h.val * 256 + d.val), by omega⟩ : Fin 5120)))
      * (∑ q : Fin 128, w (ix3 h p q) * std (fun d : Fin 256 => gelu (x (ix2 (⟨C.val * 128 + q.val, by omega⟩ : Fin 8704)
        (⟨3072 + (h.val * 256 + d.val), by omega⟩ : Fin 5120)))) d + b (ix2 h p)) := by
  have hC := C.isLt
  have hp := p.isLt
  have hh := h.isLt
  have hd := d.isLt
  have e : idx_main_v44 (ix2 R L) = ix4 C p h d := by
    funext a
    apply Fin.ext
    match a with
    | ⟨0, _⟩ => simp only [idx_main_v44, ix2, ix4]; omega
    | ⟨1, _⟩ => simp only [idx_main_v44, ix2, ix4]; omega
    | ⟨2, _⟩ => simp only [idx_main_v44, ix2, ix4]; omega
    | ⟨3, _⟩ => simp only [idx_main_v44, ix2, ix4]; omega
  have hs : ∀ q : Fin 128, val_main_v35 (F := Ideal) x (ix4 C q h d) = std (fun d : Fin 256 => gelu (x (ix2 (⟨C.val * 128 + q.val, by omega⟩ : Fin 8704)
      (⟨3072 + (h.val * 256 + d.val), by omega⟩ : Fin 5120)))) d := fun q =>
    (std_apply x C q h d).trans (congrArg (fun f => std f d) (funext fun d => mixed_apply x C q h d (⟨C.val * 128 + q.val, by omega⟩ : Fin 8704) rfl))
  rw [val_main_v45_apply, val_main_v44_apply, e, val_main_v43_apply, gate_apply x C p h d R hR, mix_apply]
  simp only [hs]
  rfl

end Cert.ChunkMixReferenceIdeal.Rows
-- ==== Proof.ChunkMixValue.lean ====
/- The value of the mixing call: the gated half times the heads' mixed chunks, in every block of 512 rows. -/
module

public import proofs.«01_k».proof.Defs
public import proofs.«01_k».proof.Proof.Gen.ChunkMixIdeal.Value
public import proofs.«01_k».proof.Proof.Gen.ChunkMixReferenceIdeal.Run
public import proofs.«01_k».proof.Proof.Gen.ChunkMixReferenceIdeal.Read
public import proofs.«01_k».proof.Proof.Gen.ChunkMixIdeal.Frame
public import proofs.«01_k».proof.Proof.Gen.ChunkMix.Frame
public import proofs.«01_k».proof.Proof.ChunkMixBody
public import proofs.«01_k».proof.Proof.ChunkMixRef
public import Idealize.ShloMosaic.Lib.Pointwise

@[expose] public section

set_option maxRecDepth 16384

noncomputable section

namespace Cert.ChunkMixIdeal.Blocks

open Cert.ChunkMixIdeal Cert.ChunkMixIdeal.Gen Idealize.ShloMosaic Idealize.ShloMosaic.TcCoe Idealize.SL.Sem
open Idealize.ShloMosaic.Pipeline (Dat)
open Cert.MixRow (gelu std)

variable (m : (ℓ : Loc nD τ sig) → Buf (Elt Ideal) ℓ) (ρ : Dev nD → PrngReg)

/-- The gating half's block at a point: the point's rows, the columns from 2048. -/
theorem idx0 : ∀ t : Fin cfg0.N, win0_0.index t 0 = t.val ∧ win0_0.index t 1 = 2 :=
  (by decide +kernel : ∀ t : Fin grid0.N, win0_0.index t 0 = t.val ∧ win0_0.index t 1 = 2)

/-- The mixed half's block at a point: the point's rows, the columns from 3072. -/
theorem idx1 : ∀ t : Fin cfg0.N, win0_1.index t 0 = t.val ∧ win0_1.index t 1 = 3 :=
  (by decide +kernel : ∀ t : Fin grid0.N, win0_1.index t 0 = t.val ∧ win0_1.index t 1 = 3)

/-- The weights' block is the weights, whole, at every point. -/
theorem idx2 : ∀ t : Fin cfg0.N, win0_2.index t 0 = 0 ∧ win0_2.index t 1 = 0 ∧ win0_2.index t 2 = 0 :=
  (by decide +kernel : ∀ t : Fin grid0.N, win0_2.index t 0 = 0 ∧ win0_2.index t 1 = 0 ∧ win0_2.index t 2 = 0)

/-- The biases' block is the biases, whole, at every point. -/
theorem idx3 : ∀ t : Fin cfg0.N, win0_3.index t 0 = 0 ∧ win0_3.index t 1 = 0 ∧ win0_3.index t 2 = 0 :=
  (by decide +kernel : ∀ t : Fin grid0.N, win0_3.index t 0 = 0 ∧ win0_3.index t 1 = 0 ∧ win0_3.index t 2 = 0)

/-- The block of the result at a point. -/
theorem idx4 : ∀ t : Fin cfg0.N, win0_4.index t 0 = t.val ∧ win0_4.index t 1 = 0 :=
  (by decide +kernel : ∀ t : Fin grid0.N, win0_4.index t 0 = t.val ∧ win0_4.index t 1 = 0)

/-- No transfer of the result is cut short. -/
theorem size4 : ∀ t : Fin cfg0.N, win0_4.xsize (grid0.coords t) 0 = 512 ∧ win0_4.xsize (grid0.coords t) 1 = 1024 :=
  (by decide +kernel : ∀ t : Fin grid0.N, win0_4.xsize (grid0.coords t) 0 = 512 ∧ win0_4.xsize (grid0.coords t) 1 = 1024)

/-- Every point writes its block back. -/
theorem flush4 : ∀ t : Fin cfg0.N, (cfg0.win 4).flush t = true :=
  (by decide +kernel : ∀ t : Fin grid0.N, win0_4.flush t = true)

/-- The projected rows, as launched. -/
abbrev X (c : Dev nD) : Vec Ideal S8704x5120 .f32 := m ((c : Thread nD τ).loc main_arg0)

/-- The heads' weights, as launched. -/
abbrev W (c : Dev nD) : Vec Ideal S4x128x128 .f32 := m ((c : Thread nD τ).loc main_arg1)

/-- The heads' biases, as launched. -/
abbrev B (c : Dev nD) : Vec Ideal S4x128 .f32 := m ((c : Thread nD τ).loc main_arg2)

/-- The plain mixing. -/
def mixed (x : Vec Ideal S8704x5120 .f32) (w : Vec Ideal S4x128x128 .f32) (b : Vec Ideal S4x128 .f32) : Vec Ideal S8704x1024 .bf16 :=
  Cert.ChunkMixReferenceIdeal.Read.val_main_v45 (F := Ideal) x w b

/-- What the result array ends holding: the plain mixing. -/
abbrev G (c : Dev nD) : Buf (Elt Ideal) ((c : Thread nD τ).loc main_v2) := mixed (X m c) (W m c) (B m c)

/-- The weights as the call finds them. -/
theorem weights (c : Dev nD) (h : Fin 4) (p q : Fin 128) : (V m c main_v0 : Vec Ideal S4x128x128 .bf16) (ix3 h p q) = W m c (ix3 h p q) := by
  unfold V
  after_results
  pointwise

/-- The biases as the call finds them: a column for a head. -/
theorem biases (c : Dev nD) (h : Fin 4) (p : Fin 128) : (V m c main_v1 : Vec Ideal S4x128x1 .f32) (ix3 h p 0) = B m c (ix2 h p) := by
  unfold V
  after_results
  pointwise

/-- The gating half's block at a point, by its row and column in the whole array. -/
theorem blk0 (c : Dev nD) (t : Fin cfg0.N) (r : Fin 512) (l : Fin 1024) (R : Fin 8704) (L : Fin 5120) (hR : R.val = t.val * 512 + r.val) (hL : L.val = 2048 + l.val) :
    (iblk m c 0 t : Vec Ideal S512x1024 .f32) (ix2 r l) = X m c (ix2 R L) := by
  obtain ⟨a0, a1⟩ := idx0 t
  unfold iblk
  rw [View.read_apply]
  show V m c main_arg0 _ = _
  rw [V_main_arg0 m c]
  show X m c _ = _
  congr 1
  funext a
  apply Fin.ext
  match a with
  | ⟨0, _⟩ => show win0_0.index t 0 * 512 + 1 * r.val = R.val; rw [a0]; omega
  | ⟨1, _⟩ => show win0_0.index t 1 * 1024 + 1 * l.val = L.val; rw [a1]; omega

/-- The mixed half's block at a point, by its row and column in the whole array. -/
theorem blk1 (c : Dev nD) (t : Fin cfg0.N) (r : Fin 512) (l : Fin 1024) (R : Fin 8704) (L : Fin 5120) (hR : R.val = t.val * 512 + r.val) (hL : L.val = 3072 + l.val) :
    (iblk m c 1 t : Vec Ideal S512x1024 .f32) (ix2 r l) = X m c (ix2 R L) := by
  obtain ⟨a0, a1⟩ := idx1 t
  unfold iblk
  rw [View.read_apply]
  show V m c main_arg0 _ = _
  rw [V_main_arg0 m c]
  show X m c _ = _
  congr 1
  funext a
  apply Fin.ext
  match a with
  | ⟨0, _⟩ => show win0_1.index t 0 * 512 + 1 * r.val = R.val; rw [a0]; omega
  | ⟨1, _⟩ => show win0_1.index t 1 * 1024 + 1 * l.val = L.val; rw [a1]; omega

/-- The weights' block at a point, whatever the arrays hold. -/
theorem read2 (c : Dev nD) (v : (b : Ref sig .tc) → Buf (Elt Ideal) ((c : Thread nD τ).loc b)) (t : Fin cfg0.N) (h : Fin 4) (p q : Fin 128) :
    (((cfg0.win 2).blk t).view.read (Elt Ideal) (v (Pipeline.arrRef spec0 2)) : Vec Ideal S4x128x128 .bf16) (ix3 h p q) = (v main_v0 : Vec Ideal S4x128x128 .bf16) (ix3 h p q) := by
  obtain ⟨a0, a1, a2⟩ := idx2 t
  rw [View.read_apply]
  show v main_v0 _ = _
  congr 1
  funext a
  apply Fin.ext
  match a with
  | ⟨0, _⟩ => show win0_2.index t 0 * 4 + 1 * h.val = h.val; rw [a0]; omega
  | ⟨1, _⟩ => show win0_2.index t 1 * 128 + 1 * p.val = p.val; rw [a1]; omega
  | ⟨2, _⟩ => show win0_2.index t 2 * 128 + 1 * q.val = q.val; rw [a2]; omega

/-- The biases' block at a point, whatever the arrays hold. -/
theorem read3 (c : Dev nD) (v : (b : Ref sig .tc) → Buf (Elt Ideal) ((c : Thread nD τ).loc b)) (t : Fin cfg0.N) (h : Fin 4) (p : Fin 128) :
    (((cfg0.win 3).blk t).view.read (Elt Ideal) (v (Pipeline.arrRef spec0 3)) : Vec Ideal S4x128x1 .f32) (ix3 h p 0) = (v main_v1 : Vec Ideal S4x128x1 .f32) (ix3 h p 0) := by
  obtain ⟨a0, a1, a2⟩ := idx3 t
  rw [View.read_apply]
  show v main_v1 _ = _
  congr 1
  funext a
  apply Fin.ext
  match a with
  | ⟨0, _⟩ => show win0_3.index t 0 * 4 + 1 * h.val = h.val; rw [a0]; omega
  | ⟨1, _⟩ => show win0_3.index t 1 * 128 + 1 * p.val = p.val; rw [a1]; omega
  | ⟨2, _⟩ => show win0_3.index t 2 * 1 + 1 * 0 = 0; rw [a2]

/-- The weights' block at a point. -/
theorem blk2 (c : Dev nD) (t : Fin cfg0.N) (h : Fin 4) (p q : Fin 128) : (iblk m c 2 t : Vec Ideal S4x128x128 .bf16) (ix3 h p q) = W m c (ix3 h p q) := by
  unfold iblk
  exact (read2 c (V m c) t h p q).trans (weights m c h p q)

/-- The biases' block at a point. -/
theorem blk3 (c : Dev nD) (t : Fin cfg0.N) (h : Fin 4) (p : Fin 128) : (iblk m c 3 t : Vec Ideal S4x128x1 .f32) (ix3 h p 0) = B m c (ix2 h p) := by
  unfold iblk
  exact (read3 c (V m c) t h p).trans (biases m c h p)

/-- What a point writes back is its block of the plain mixing. -/
theorem flushed_eq (c : Dev nD) (t : Fin cfg0.N) (_ : (cfg0.win 4).flush t = true) :
    (dats m 0 c).flushed 4 t = ((cfg0.win 4).blk t).view.read (Elt Ideal) (G m c) := by
  rw [Value.flushed4]
  obtain ⟨d0, d1⟩ := idx4 t
  have hN : cfg0.N = 17 := N_0
  have ht := t.isLt
  funext j
  obtain ⟨r, l, rfl⟩ : ∃ (r : Fin 512) (l : Fin 1024), j = ix2 r l := ⟨j 0, j 1, eq_ix2 j⟩
  have hr := r.isLt
  have hl := l.isLt
  have he : ((cfg0.win 4).blk t).view.emb (ix2 r l) = ix2 (⟨t.val * 512 + r.val, by omega⟩ : Fin 8704) l := by
    funext a
    apply Fin.ext
    match a with
    | ⟨0, _⟩ => show win0_4.index t 0 * 512 + 1 * r.val = t.val * 512 + r.val; rw [d0]; omega
    | ⟨1, _⟩ => show win0_4.index t 1 * 1024 + 1 * l.val = l.val; rw [d1]; omega
  rw [View.read_apply, he]
  show out0_4 (iblk m c 0 t) (iblk m c 1 t) (iblk m c 2 t) (iblk m c 3 t) (ix2 r l) = mixed (X m c) (W m c) (B m c) _
  rw [out_apply]
  unfold mixed
  refine Eq.trans ?_ (Cert.ChunkMixReferenceIdeal.Rows.out_apply (X m c) (W m c) (B m c) _ l (⟨t.val * 4 + r.val / 128, by omega⟩ : Fin 68)
    (⟨r.val % 128, by omega⟩ : Fin 128) (⟨l.val / 256, by omega⟩ : Fin 4) (⟨l.val % 256, by omega⟩ : Fin 256)
    (by show t.val * 512 + r.val = (t.val * 4 + r.val / 128) * 128 + r.val % 128; omega) (by show l.val = l.val / 256 * 256 + l.val % 256; omega)).symm
  unfold entry row
  refine congrArg₂ (· * ·) (congrArg gelu (blk0 m c t r l _ _ rfl (by show 2048 + (l.val / 256 * 256 + l.val % 256) = 2048 + l.val; omega)))
    (congrArg₂ (· + ·) (Finset.sum_congr rfl fun q _ => congrArg₂ (· * ·) (blk2 m c t _ _ q) (congrArg (fun f => std f _) (funext fun k => congrArg gelu ?_))) (blk3 m c t _ _))
  exact blk1 m c t _ _ _ _ (by show (t.val * 4 + r.val / 128) * 128 + q.val = t.val * 512 + (r.val / 128 * 128 + q.val); omega)
    (by show 3072 + (l.val / 256 * 256 + k.val) = 3072 + (l.val / 256 * 256 + k.val); rfl)

/-- Every index of the result lies in the block of some point. -/
theorem cover (i : S8704x1024.Idx) : ∃ t : Fin cfg0.N, (cfg0.win 4).flush t = true ∧ i ∈ ((cfg0.win 4).blk t).view.set := by
  have h0 : (i 0 : Nat) < 8704 := (i 0).isLt
  have h1 : (i 1 : Nat) < 1024 := (i 1).isLt
  have hN : cfg0.N = 17 := N_0
  refine ⟨⟨(i 0 : Nat) / 512, by omega⟩, flush4 _, ?_⟩
  generalize ht : (⟨(i 0 : Nat) / 512, by omega⟩ : Fin cfg0.N) = t
  have hv : t.val = (i 0 : Nat) / 512 := by rw [← ht]
  obtain ⟨d0, d1⟩ := idx4 t
  obtain ⟨s0, s1⟩ := size4 t
  show i ∈ ((View.whole main_v2).slice (win0_4.rect t)).set
  rw [View.set_slice_whole, Rect.mem_set_unit]
  intro a
  match a with
  | ⟨0, _⟩ => show win0_4.index t 0 * 512 ≤ (i 0 : Nat) ∧ (i 0 : Nat) < win0_4.index t 0 * 512 + win0_4.xsize (grid0.coords t) 0
              rw [d0, s0]; omega
  | ⟨1, _⟩ => show win0_4.index t 1 * 1024 ≤ (i 1 : Nat) ∧ (i 1 : Nat) < win0_4.index t 1 * 1024 + win0_4.xsize (grid0.coords t) 1
              rw [d1, s1]; omega

/-- The result array ends holding the plain mixing. -/
theorem final (c : Dev nD) : (dats m 0 c).arrAt 4 cfg0.N = G m c :=
  (dats m 0 c).arrAt_eq_of_cover 4 (G m c) (flushed_eq m c) cover

end Cert.ChunkMixIdeal.Blocks

namespace Cert.Proof

open Idealize.ShloMosaic Idealize.ShloMosaic.TcCoe Idealize.SL.Sem

/-- The mixing call computes, on the extended reals, the plain mixing of its rows. -/
theorem chunkMix_algebraic : Cert.algebraic_ChunkMixIdeal_ChunkMixReferenceIdeal
    (hChunkMixIdeal := Cert.ChunkMixIdeal.Gen.facts) (hChunkMixReferenceIdeal := Cert.ChunkMixReferenceIdeal.Gen.facts) := by
  intro m g m' g' _ hargs
  refine ⟨fun c => Cert.ChunkMixIdeal.Blocks.G m c, ?_, ?_⟩
  · refine (θ_run _ _ _).mono (fun r h c => ?_) (Cert.ChunkMixIdeal.Value.run_blocks m g)
    obtain ⟨h0, h1, h2, h3⟩ := h c
    exact ⟨h0.trans (Cert.ChunkMixIdeal.Blocks.final m c), h1, h2, h3⟩
  · refine (θ_run _ _ _).mono (fun r h c => ?_) (Cert.ChunkMixReferenceIdeal.Value.run m' g')
    obtain ⟨h0, h1, h2, h3⟩ := h c
    obtain ⟨e0, e1, e2⟩ := hargs c
    refine ⟨h0.trans ?_, h1, h2, h3⟩
    rw [Cert.ChunkMixReferenceIdeal.Read.val_main_v45_eq, e0, e1, e2]
    rfl

end Cert.Proof

end
-- ==== Proof.AdalnValue.lean ====
/- The value of the modulation's projection: the rows through the sigmoid's gate, times each layer's weight, plus its bias. -/
module

public import proofs.«01_k».proof.Defs
public import proofs.«01_k».proof.Proof.Gen.AdalnIdeal.Value
public import proofs.«01_k».proof.Proof.Gen.AdalnReferenceIdeal.Run
public import proofs.«01_k».proof.Proof.Gen.AdalnReferenceIdeal.Read
public import proofs.«01_k».proof.Proof.Gen.AdalnIdeal.Frame
public import proofs.«01_k».proof.Proof.Gen.Adaln.Frame
public import Idealize.ShloMosaic.Lib.Pointwise

@[expose] public section

set_option maxRecDepth 16384

noncomputable section

namespace Cert.AdalnIdeal.Blocks

open Cert.AdalnIdeal Cert.AdalnIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The zero offsets of a whole-block access, two axes. -/
theorem hz : (![0, 0] : Fin 2 → Nat) = fun _ => 0 := funext fun a => by fin_cases a <;> rfl

/-- The zero offsets of a whole-block access, three axes. -/
theorem hz3 : (![0, 0, 0] : Fin 3 → Nat) = fun _ => 0 := funext fun a => by fin_cases a <;> rfl

/-- The rows' block is the rows, whole, at every point. -/
theorem idx0 : ∀ t : Fin cfg0.N, win0_0.index t 0 = 0 ∧ win0_0.index t 1 = 0 :=
  (by decide +kernel : ∀ t : Fin grid0.N, win0_0.index t 0 = 0 ∧ win0_0.index t 1 = 0)

/-- The layer and the column block of the weight at a point. -/
theorem idx1 : ∀ t : Fin cfg0.N, win0_1.index t 0 = t.val / 48 ∧ win0_1.index t 1 = 0 ∧ win0_1.index t 2 = t.val % 48 :=
  (by decide +kernel : ∀ t : Fin grid0.N, win0_1.index t 0 = t.val / 48 ∧ win0_1.index t 1 = 0 ∧ win0_1.index t 2 = t.val % 48)

/-- The layer and the column block of the bias at a point. -/
theorem idx2 : ∀ t : Fin cfg0.N, win0_2.index t 0 = t.val / 48 ∧ win0_2.index t 1 = 0 ∧ win0_2.index t 2 = t.val % 48 :=
  (by decide +kernel : ∀ t : Fin grid0.N, win0_2.index t 0 = t.val / 48 ∧ win0_2.index t 1 = 0 ∧ win0_2.index t 2 = t.val % 48)

/-- The layer and the column block of the result at a point. -/
theorem idx3 : ∀ t : Fin cfg0.N, win0_3.index t 0 = t.val / 48 ∧ win0_3.index t 1 = 0 ∧ win0_3.index t 2 = t.val % 48 :=
  (by decide +kernel : ∀ t : Fin grid0.N, win0_3.index t 0 = t.val / 48 ∧ win0_3.index t 1 = 0 ∧ win0_3.index t 2 = t.val % 48)

/-- No transfer of the result is cut short. -/
theorem size3 : ∀ t : Fin cfg0.N, win0_3.xsize (grid0.coords t) 0 = 1 ∧ win0_3.xsize (grid0.coords t) 1 = 8 ∧ win0_3.xsize (grid0.coords t) 2 = 512 :=
  (by decide +kernel : ∀ t : Fin grid0.N, win0_3.xsize (grid0.coords t) 0 = 1 ∧ win0_3.xsize (grid0.coords t) 1 = 8 ∧ win0_3.xsize (grid0.coords t) 2 = 512)

/-- Every point writes its block back. -/
theorem flush3 : ∀ t : Fin cfg0.N, (cfg0.win 3).flush t = true :=
  (by decide +kernel : ∀ t : Fin grid0.N, win0_3.flush t = true)

/-- An entry times its sigmoid. -/
def gated (x : EReal) : EReal := x * Ideal.logistic x

/-- The block the body leaves, at a row and a column. -/
theorem out_apply (x : Vec Ideal S8x4096 .f32) (w : Vec Ideal S1x4096x512 .f32) (b : Vec Ideal S1x1x512 .f32) (r : Fin 8) (l : Fin 512) :
    out0_3 x w b (ix3 0 r l) = ∑ k : Fin 4096, gated (x (ix2 r k)) * w (ix3 0 k l) + b (ix3 0 0 l) := by
  unfold out0_3 gated
  rw [View.canon_unit_zero hz3, View.ld_unit_zero (S := S8x4096) hz, View.ld_unit_zero (S := S1x4096x512) hz3, View.ld_unit_zero (S := S1x1x512) hz3]
  pointwise [k0_pay1]

/-- The rows, as launched. -/
abbrev X (c : Dev nD) : Vec Ideal S8x4096 .f32 := m ((c : Thread nD τ).loc main_arg0)

/-- The layers' weights, as launched. -/
abbrev W (c : Dev nD) : Vec Ideal S4x4096x24576 .f32 := m ((c : Thread nD τ).loc main_arg1)

/-- The layers' biases, as launched. -/
abbrev B (c : Dev nD) : Vec Ideal S4x24576 .f32 := m ((c : Thread nD τ).loc main_arg2)

/-- The plain projection. -/
def prod (x : Vec Ideal S8x4096 .f32) (w : Vec Ideal S4x4096x24576 .f32) (b : Vec Ideal S4x24576 .f32) : Vec Ideal S4x8x24576 .f32 :=
  Cert.AdalnReferenceIdeal.Read.val_main_v5 (F := Ideal) x w b

/-- What the result array ends holding: the plain projection. -/
abbrev G (c : Dev nD) : Buf (Elt Ideal) ((c : Thread nD τ).loc main_v1) := prod (X m c) (W m c) (B m c)

/-- The plain projection at a layer, a row and a column. -/
theorem prod_apply (x : Vec Ideal S8x4096 .f32) (w : Vec Ideal S4x4096x24576 .f32) (b : Vec Ideal S4x24576 .f32) (n : Fin 4) (r : Fin 8) (L : Fin 24576) :
    prod x w b (ix3 n r L) = ∑ k : Fin 4096, gated (x (ix2 r k)) * w (ix3 n k L) + b (ix2 n L) := by
  unfold prod gated
  pointwise [Cert.AdalnReferenceIdeal.Read.val_main_v5, Cert.AdalnReferenceIdeal.Read.val_main_v4, Cert.AdalnReferenceIdeal.Read.val_main_v3, Cert.AdalnReferenceIdeal.Read.val_main_v2, Cert.AdalnReferenceIdeal.Read.val_main_v1, Cert.AdalnReferenceIdeal.Read.val_main_v0, Cert.AdalnReferenceIdeal.Read.val_main_call0_v5, Cert.AdalnReferenceIdeal.Read.val_main_call0_v4, Cert.AdalnReferenceIdeal.Read.val_main_call0_cst_0, Cert.AdalnReferenceIdeal.Read.val_main_call0_v3, Cert.AdalnReferenceIdeal.Read.val_main_call0_v2, Cert.AdalnReferenceIdeal.Read.val_main_call0_cst, Cert.AdalnReferenceIdeal.Read.val_main_call0_v1, Cert.AdalnReferenceIdeal.Read.val_main_call0_v0]
  rfl

/-- The bias as the call finds it: one row for a layer. -/
theorem bias (c : Dev nD) (n : Fin 4) (L : Fin 24576) : (V m c main_v0 : Vec Ideal S4x1x24576 .f32) (ix3 n 0 L) = B m c (ix2 n L) := by
  unfold V
  after_results
  pointwise

/-- The rows' block at a point. -/
theorem blk0 (c : Dev nD) (t : Fin cfg0.N) (r : Fin 8) (k : Fin 4096) : (iblk m c 0 t : Vec Ideal S8x4096 .f32) (ix2 r k) = X m c (ix2 r k) := by
  obtain ⟨a0, a1⟩ := idx0 t
  unfold iblk
  rw [View.read_apply]
  show V m c main_arg0 _ = _
  rw [V_main_arg0 m c]
  show X m c _ = _
  congr 1
  funext a
  apply Fin.ext
  match a with
  | ⟨0, _⟩ => show win0_0.index t 0 * 8 + 1 * r.val = r.val; rw [a0]; omega
  | ⟨1, _⟩ => show win0_0.index t 1 * 4096 + 1 * k.val = k.val; rw [a1]; omega

/-- The weight's block at a point, by its layer and column in the whole array. -/
theorem blk1 (c : Dev nD) (t : Fin cfg0.N) (k : Fin 4096) (l : Fin 512) (n : Fin 4) (L : Fin 24576) (hn : n.val = t.val / 48) (hL : L.val = t.val % 48 * 512 + l.val) :
    (iblk m c 1 t : Vec Ideal S1x4096x512 .f32) (ix3 0 k l) = W m c (ix3 n k L) := by
  obtain ⟨a0, a1, a2⟩ := idx1 t
  unfold iblk
  rw [View.read_apply]
  show V m c main_arg1 _ = _
  rw [V_main_arg1 m c]
  show W m c _ = _
  congr 1
  funext a
  apply Fin.ext
  match a with
  | ⟨0, _⟩ => show win0_1.index t 0 * 1 + 1 * 0 = n.val; rw [a0]; omega
  | ⟨1, _⟩ => show win0_1.index t 1 * 4096 + 1 * k.val = k.val; rw [a1]; omega
  | ⟨2, _⟩ => show win0_1.index t 2 * 512 + 1 * l.val = L.val; rw [a2]; omega

/-- The bias's block at a point, whatever the arrays hold. -/
theorem read2 (c : Dev nD) (v : (b : Ref sig .tc) → Buf (Elt Ideal) ((c : Thread nD τ).loc b)) (t : Fin cfg0.N) (l : Fin 512) (n : Fin 4) (L : Fin 24576)
    (hn : n.val = t.val / 48) (hL : L.val = t.val % 48 * 512 + l.val) :
    (((cfg0.win 2).blk t).view.read (Elt Ideal) (v (Pipeline.arrRef spec0 2)) : Vec Ideal S1x1x512 .f32) (ix3 0 0 l) = (v main_v0 : Vec Ideal S4x1x24576 .f32) (ix3 n 0 L) := by
  obtain ⟨a0, a1, a2⟩ := idx2 t
  rw [View.read_apply]
  show v main_v0 _ = _
  congr 1
  funext a
  apply Fin.ext
  match a with
  | ⟨0, _⟩ => show win0_2.index t 0 * 1 + 1 * 0 = n.val; rw [a0]; omega
  | ⟨1, _⟩ => show win0_2.index t 1 * 1 + 1 * 0 = 0; rw [a1]
  | ⟨2, _⟩ => show win0_2.index t 2 * 512 + 1 * l.val = L.val; rw [a2]; omega

/-- The bias's block at a point, by its layer and column in the whole array. -/
theorem blk2 (c : Dev nD) (t : Fin cfg0.N) (l : Fin 512) (n : Fin 4) (L : Fin 24576) (hn : n.val = t.val / 48) (hL : L.val = t.val % 48 * 512 + l.val) :
    (iblk m c 2 t : Vec Ideal S1x1x512 .f32) (ix3 0 0 l) = B m c (ix2 n L) := by
  unfold iblk
  exact (read2 c (V m c) t l n L hn hL).trans (bias m c n L)

/-- What a point writes back is its block of the plain projection. -/
theorem flushed_eq (c : Dev nD) (t : Fin cfg0.N) (_ : (cfg0.win 3).flush t = true) :
    (dats m 0 c).flushed 3 t = ((cfg0.win 3).blk t).view.read (Elt Ideal) (G m c) := by
  rw [Value.flushed3]
  obtain ⟨d0, d1, d2⟩ := idx3 t
  have hN : cfg0.N = 192 := N_0
  have ht := t.isLt
  funext j
  obtain ⟨z, r, l, rfl⟩ : ∃ (z : Fin 1) (r : Fin 8) (l : Fin 512), j = ix3 z r l := ⟨j 0, j 1, j 2, eq_ix3 j⟩
  obtain rfl : z = 0 := Subsingleton.elim _ _
  have hl := l.isLt
  have he : ((cfg0.win 3).blk t).view.emb (ix3 0 r l) = ix3 (⟨t.val / 48, by omega⟩ : Fin 4) r (⟨t.val % 48 * 512 + l.val, by omega⟩ : Fin 24576) := by
    funext a
    apply Fin.ext
    match a with
    | ⟨0, _⟩ => show win0_3.index t 0 * 1 + 1 * 0 = t.val / 48; rw [d0]; omega
    | ⟨1, _⟩ => show win0_3.index t 1 * 8 + 1 * r.val = r.val; rw [d1]; omega
    | ⟨2, _⟩ => show win0_3.index t 2 * 512 + 1 * l.val = t.val % 48 * 512 + l.val; rw [d2]; omega
  rw [View.read_apply, he]
  show out0_3 (iblk m c 0 t) (iblk m c 1 t) (iblk m c 2 t) (ix3 0 r l) = prod (X m c) (W m c) (B m c) _
  rw [out_apply, prod_apply]
  exact congrArg₂ (· + ·) (Finset.sum_congr rfl fun k _ => congrArg₂ (· * ·) (congrArg gated (blk0 m c t r k)) (blk1 m c t k l _ _ rfl rfl)) (blk2 m c t l _ _ rfl rfl)

/-- Every index of the result lies in the block of some point. -/
theorem cover (i : S4x8x24576.Idx) : ∃ t : Fin cfg0.N, (cfg0.win 3).flush t = true ∧ i ∈ ((cfg0.win 3).blk t).view.set := by
  have h0 : (i 0 : Nat) < 4 := (i 0).isLt
  have h1 : (i 1 : Nat) < 8 := (i 1).isLt
  have h2 : (i 2 : Nat) < 24576 := (i 2).isLt
  have hN : cfg0.N = 192 := N_0
  refine ⟨⟨(i 0 : Nat) * 48 + (i 2 : Nat) / 512, by omega⟩, flush3 _, ?_⟩
  generalize ht : (⟨(i 0 : Nat) * 48 + (i 2 : Nat) / 512, by omega⟩ : Fin cfg0.N) = t
  have hv : t.val = (i 0 : Nat) * 48 + (i 2 : Nat) / 512 := by rw [← ht]
  obtain ⟨d0, d1, d2⟩ := idx3 t
  obtain ⟨s0, s1, s2⟩ := size3 t
  show i ∈ ((View.whole main_v1).slice (win0_3.rect t)).set
  rw [View.set_slice_whole, Rect.mem_set_unit]
  intro a
  match a with
  | ⟨0, _⟩ => show win0_3.index t 0 * 1 ≤ (i 0 : Nat) ∧ (i 0 : Nat) < win0_3.index t 0 * 1 + win0_3.xsize (grid0.coords t) 0
              rw [d0, s0]; omega
  | ⟨1, _⟩ => show win0_3.index t 1 * 8 ≤ (i 1 : Nat) ∧ (i 1 : Nat) < win0_3.index t 1 * 8 + win0_3.xsize (grid0.coords t) 1
              rw [d1, s1]; omega
  | ⟨2, _⟩ => show win0_3.index t 2 * 512 ≤ (i 2 : Nat) ∧ (i 2 : Nat) < win0_3.index t 2 * 512 + win0_3.xsize (grid0.coords t) 2
              rw [d2, s2]; omega

/-- The result array ends holding the plain projection. -/
theorem final (c : Dev nD) : (dats m 0 c).arrAt 3 cfg0.N = G m c :=
  (dats m 0 c).arrAt_eq_of_cover 3 (G m c) (flushed_eq m c) cover

end Cert.AdalnIdeal.Blocks

namespace Cert.Proof

open Idealize.ShloMosaic Idealize.ShloMosaic.TcCoe Idealize.SL.Sem

/-- The modulation's projection computes, on the extended reals, the plain projection of every layer. -/
theorem adaln_algebraic : Cert.algebraic_AdalnIdeal_AdalnReferenceIdeal
    (hAdalnIdeal := Cert.AdalnIdeal.Gen.facts) (hAdalnReferenceIdeal := Cert.AdalnReferenceIdeal.Gen.facts) := by
  intro m g m' g' _ hargs
  refine ⟨fun c => Cert.AdalnIdeal.Blocks.G m c, ?_, ?_⟩
  · refine (θ_run _ _ _).mono (fun r h c => ?_) (Cert.AdalnIdeal.Value.run_blocks m g)
    obtain ⟨h0, h1, h2, h3⟩ := h c
    exact ⟨h0.trans (Cert.AdalnIdeal.Blocks.final m c), h1, h2, h3⟩
  · refine (θ_run _ _ _).mono (fun r h c => ?_) (Cert.AdalnReferenceIdeal.Value.run m' g')
    obtain ⟨h0, h1, h2, h3⟩ := h c
    obtain ⟨e0, e1, e2⟩ := hargs c
    refine ⟨h0.trans ?_, h1, h2, h3⟩
    rw [Cert.AdalnReferenceIdeal.Read.val_main_v5_eq, e0, e1, e2]
    rfl

end Cert.Proof

end
-- ==== Proof.DftChValue.lean ====
/- The value of the Fourier mixer's first step: each group of channels times the cosines and times the sines. -/
module

public import proofs.«01_k».proof.Defs
public import proofs.«01_k».proof.Proof.Gen.DftChIdeal.Value
public import proofs.«01_k».proof.Proof.Gen.DftChReferenceIdeal.Run
public import proofs.«01_k».proof.Proof.Gen.DftChReferenceIdeal.Read
public import proofs.«01_k».proof.Proof.Gen.DftChIdeal.Frame
public import proofs.«01_k».proof.Proof.Gen.DftCh.Frame
public import Idealize.ShloMosaic.Lib.Pointwise

@[expose] public section

set_option maxRecDepth 16384

noncomputable section

namespace Cert.DftChIdeal.Blocks

open Cert.DftChIdeal Cert.DftChIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The zero offsets of a whole-block access, two axes. -/
theorem hz : (![0, 0] : Fin 2 → Nat) = fun _ => 0 := funext fun a => by fin_cases a <;> rfl

/-- The zero offsets of a whole-block access, three axes. -/
theorem hz3 : (![0, 0, 0] : Fin 3 → Nat) = fun _ => 0 := funext fun a => by fin_cases a <;> rfl

/-- The block of the rows at a point. -/
theorem idx0 : ∀ t : Fin cfg0.N, win0_0.index t 0 = t.val / 4 ∧ win0_0.index t 1 = 4 + t.val % 4 :=
  (by decide +kernel : ∀ t : Fin grid0.N, win0_0.index t 0 = t.val / 4 ∧ win0_0.index t 1 = 4 + t.val % 4)

/-- The matrix of cosines and sines, whole, at a point. -/
theorem idx1 : ∀ t : Fin cfg0.N, win0_1.index t 0 = 0 ∧ win0_1.index t 1 = 0 :=
  (by decide +kernel : ∀ t : Fin grid0.N, win0_1.index t 0 = 0 ∧ win0_1.index t 1 = 0)

/-- The block of the cosine parts at a point. -/
theorem idx2 : ∀ t : Fin cfg0.N, win0_2.index t 0 = t.val / 4 ∧ win0_2.index t 1 = t.val % 4 :=
  (by decide +kernel : ∀ t : Fin grid0.N, win0_2.index t 0 = t.val / 4 ∧ win0_2.index t 1 = t.val % 4)

/-- The block of the sine parts at a point. -/
theorem idx3 : ∀ t : Fin cfg0.N, win0_3.index t 0 = t.val / 4 ∧ win0_3.index t 1 = t.val % 4 :=
  (by decide +kernel : ∀ t : Fin grid0.N, win0_3.index t 0 = t.val / 4 ∧ win0_3.index t 1 = t.val % 4)

/-- No transfer of the cosine parts is cut short. -/
theorem size2 : ∀ t : Fin cfg0.N, win0_2.xsize (grid0.coords t) 0 = 512 ∧ win0_2.xsize (grid0.coords t) 1 = 256 :=
  (by decide +kernel : ∀ t : Fin grid0.N, win0_2.xsize (grid0.coords t) 0 = 512 ∧ win0_2.xsize (grid0.coords t) 1 = 256)

/-- Every point writes its block of the cosine parts back. -/
theorem flush2 : ∀ t : Fin cfg0.N, (cfg0.win 2).flush t = true :=
  (by decide +kernel : ∀ t : Fin grid0.N, win0_2.flush t = true)

/-- No transfer of the sine parts is cut short. -/
theorem size3 : ∀ t : Fin cfg0.N, win0_3.xsize (grid0.coords t) 0 = 512 ∧ win0_3.xsize (grid0.coords t) 1 = 256 :=
  (by decide +kernel : ∀ t : Fin grid0.N, win0_3.xsize (grid0.coords t) 0 = 512 ∧ win0_3.xsize (grid0.coords t) 1 = 256)

/-- Every point writes its block of the sine parts back. -/
theorem flush3 : ∀ t : Fin cfg0.N, (cfg0.win 3).flush t = true :=
  (by decide +kernel : ∀ t : Fin grid0.N, win0_3.flush t = true)

/-- The block of cosine parts the body leaves, at a row and a column. -/
theorem out_cosine (x : Vec Ideal S512x256 .f32) (w : Vec Ideal S256x512 .bf16) (r : Fin 512) (l : Fin 256) :
    out0_2 x w (ix2 r l) = ∑ k : Fin 256, x (ix2 r k) * w (ix2 k (⟨0 + l.val, by omega⟩ : Fin 512)) := by
  unfold out0_2
  rw [View.canon_unit_zero hz, View.ld_unit_zero (S := S512x256) hz, View.ld_unit_zero (S := S256x512) hz]
  pointwise [k0_pay2, k0_pay1]

/-- The block of sine parts the body leaves, at a row and a column. -/
theorem out_sine (x : Vec Ideal S512x256 .f32) (w : Vec Ideal S256x512 .bf16) (r : Fin 512) (l : Fin 256) :
    out0_3 x w (ix2 r l) = ∑ k : Fin 256, x (ix2 r k) * w (ix2 k (⟨256 + l.val, by omega⟩ : Fin 512)) := by
  unfold out0_3
  rw [View.canon_unit_zero hz, View.ld_unit_zero (S := S512x256) hz, View.ld_unit_zero (S := S256x512) hz]
  pointwise [k0_pay3, k0_pay1]

/-- The rows, as launched. -/
abbrev X (c : Dev nD) : Vec Ideal S8704x5120 .f32 := m ((c : Thread nD τ).loc main_arg0)

/-- The cosines and sines, as launched. -/
abbrev W (c : Dev nD) : Vec Ideal S256x512 .bf16 := m ((c : Thread nD τ).loc main_arg1)

/-- The plain cosine parts. -/
def cosines (x : Vec Ideal S8704x5120 .f32) (w : Vec Ideal S256x512 .bf16) : Vec Ideal S8704x1024 .bf16 :=
  Cert.DftChReferenceIdeal.Read.val_main_v9 (F := Ideal) x w

/-- What the array of the cosine parts ends holding. -/
abbrev GC (c : Dev nD) : Buf (Elt Ideal) ((c : Thread nD τ).loc main_v0_0) := cosines (X m c) (W m c)

/-- The plain cosine parts at a row and a column. -/
theorem cosines_apply (x : Vec Ideal S8704x5120 .f32) (w : Vec Ideal S256x512 .bf16) (R : Fin 8704) (L : Fin 1024) :
    cosines x w (ix2 R L) = ∑ k : Fin 256, x (ix2 R (⟨1024 + (L.val / 256 * 256 + k.val), by omega⟩ : Fin 5120)) * w (ix2 k (⟨0 + L.val % 256, by omega⟩ : Fin 512)) := by
  unfold cosines
  pointwise [Cert.DftChReferenceIdeal.Read.val_main_v9, Cert.DftChReferenceIdeal.Read.val_main_v8, Cert.DftChReferenceIdeal.Read.val_main_v4, Cert.DftChReferenceIdeal.Read.val_main_v3, Cert.DftChReferenceIdeal.Read.val_main_v2, Cert.DftChReferenceIdeal.Read.val_main_v1, Cert.DftChReferenceIdeal.Read.val_main_v0]

/-- The plain sine parts. -/
def sines (x : Vec Ideal S8704x5120 .f32) (w : Vec Ideal S256x512 .bf16) : Vec Ideal S8704x1024 .bf16 :=
  Cert.DftChReferenceIdeal.Read.val_main_v11 (F := Ideal) x w

/-- What the array of the sine parts ends holding. -/
abbrev GS (c : Dev nD) : Buf (Elt Ideal) ((c : Thread nD τ).loc main_v0_1) := sines (X m c) (W m c)

/-- The plain sine parts at a row and a column. -/
theorem sines_apply (x : Vec Ideal S8704x5120 .f32) (w : Vec Ideal S256x512 .bf16) (R : Fin 8704) (L : Fin 1024) :
    sines x w (ix2 R L) = ∑ k : Fin 256, x (ix2 R (⟨1024 + (L.val / 256 * 256 + k.val), by omega⟩ : Fin 5120)) * w (ix2 k (⟨256 + L.val % 256, by omega⟩ : Fin 512)) := by
  unfold sines
  pointwise [Cert.DftChReferenceIdeal.Read.val_main_v11, Cert.DftChReferenceIdeal.Read.val_main_v10, Cert.DftChReferenceIdeal.Read.val_main_v7, Cert.DftChReferenceIdeal.Read.val_main_v6, Cert.DftChReferenceIdeal.Read.val_main_v5, Cert.DftChReferenceIdeal.Read.val_main_v1, Cert.DftChReferenceIdeal.Read.val_main_v0]

/-- The rows's block at a point. -/
theorem blk0 (c : Dev nD) (t : Fin cfg0.N) (r : Fin 512) (R : Fin 8704) (k : Fin 256) (K : Fin 5120) (hR : R.val = t.val / 4 * 512 + r.val) (hK : K.val = (4 + t.val % 4) * 256 + k.val) :
    (iblk m c 0 t : Vec Ideal S512x256 .f32) (ix2 r k) = X m c (ix2 R K) := by
  obtain ⟨a0, a1⟩ := idx0 t
  unfold iblk
  rw [View.read_apply]
  show V m c main_arg0 _ = _
  rw [V_main_arg0 m c]
  show X m c _ = _
  congr 1
  funext a
  apply Fin.ext
  match a with
  | ⟨0, _⟩ => show win0_0.index t 0 * 512 + 1 * r.val = R.val; rw [a0]; omega
  | ⟨1, _⟩ => show win0_0.index t 1 * 256 + 1 * k.val = K.val; rw [a1]; omega

/-- The cosines and sines's block at a point. -/
theorem blk1 (c : Dev nD) (t : Fin cfg0.N) (k : Fin 256) (l : Fin 512)  :
    (iblk m c 1 t : Vec Ideal S256x512 .bf16) (ix2 k l) = W m c (ix2 k l) := by
  obtain ⟨a0, a1⟩ := idx1 t
  unfold iblk
  rw [View.read_apply]
  show V m c main_arg1 _ = _
  rw [V_main_arg1 m c]
  show W m c _ = _
  congr 1
  funext a
  apply Fin.ext
  match a with
  | ⟨0, _⟩ => show win0_1.index t 0 * 256 + 1 * k.val = k.val; rw [a0]; omega
  | ⟨1, _⟩ => show win0_1.index t 1 * 512 + 1 * l.val = l.val; rw [a1]; omega

/-- What a point writes back is its block of the plain cosine parts. -/
theorem flushed_eq_cosines (c : Dev nD) (t : Fin cfg0.N) (_ : (cfg0.win 2).flush t = true) :
    (dats m 0 c).flushed 2 t = ((cfg0.win 2).blk t).view.read (Elt Ideal) (GC m c) := by
  rw [Value.flushed2]
  obtain ⟨d0, d1⟩ := idx2 t
  have hN : cfg0.N = 68 := N_0
  have ht := t.isLt
  funext j
  obtain ⟨r, l, rfl⟩ : ∃ (r : Fin 512) (l : Fin 256), j = ix2 r l := ⟨j 0, j 1, eq_ix2 j⟩
  have hr := r.isLt
  have hl := l.isLt
  have he : ((cfg0.win 2).blk t).view.emb (ix2 r l) = ix2 (⟨t.val / 4 * 512 + r.val, by omega⟩ : Fin 8704) (⟨t.val % 4 * 256 + l.val, by omega⟩ : Fin 1024) := by
    funext a
    apply Fin.ext
    match a with
    | ⟨0, _⟩ => show win0_2.index t 0 * 512 + 1 * r.val = t.val / 4 * 512 + r.val; rw [d0]; omega
    | ⟨1, _⟩ => show win0_2.index t 1 * 256 + 1 * l.val = t.val % 4 * 256 + l.val; rw [d1]; omega
  rw [View.read_apply, he]
  show out0_2 (iblk m c 0 t) (iblk m c 1 t) (ix2 r l) = cosines (X m c) (W m c) (ix2 (⟨t.val / 4 * 512 + r.val, by omega⟩ : Fin 8704) (⟨t.val % 4 * 256 + l.val, by omega⟩ : Fin 1024))
  rw [out_cosine, cosines_apply]
  refine Finset.sum_congr rfl fun k _ => congrArg₂ (· * ·) (blk0 m c t r _ k _ rfl (by dsimp only; omega)) ((blk1 m c t k _).trans ?_)
  exact congrArg (W m c) (congrArg (ix2 k) (Fin.ext (by dsimp only; omega)))

/-- Every index of the cosine parts lies in the block of some point. -/
theorem cover_cosines (i : S8704x1024.Idx) : ∃ t : Fin cfg0.N, (cfg0.win 2).flush t = true ∧ i ∈ ((cfg0.win 2).blk t).view.set := by
  have h0 : (i 0 : Nat) < 8704 := (i 0).isLt
  have h1 : (i 1 : Nat) < 1024 := (i 1).isLt
  have hN : cfg0.N = 68 := N_0
  refine ⟨⟨(i 0 : Nat) / 512 * 4 + (i 1 : Nat) / 256, by omega⟩, flush2 _, ?_⟩
  generalize ht : (⟨(i 0 : Nat) / 512 * 4 + (i 1 : Nat) / 256, by omega⟩ : Fin cfg0.N) = t
  have hv : t.val = (i 0 : Nat) / 512 * 4 + (i 1 : Nat) / 256 := by rw [← ht]
  obtain ⟨d0, d1⟩ := idx2 t
  obtain ⟨s0, s1⟩ := size2 t
  show i ∈ ((View.whole main_v0_0).slice (win0_2.rect t)).set
  rw [View.set_slice_whole, Rect.mem_set_unit]
  intro a
  match a with
  | ⟨0, _⟩ => show win0_2.index t 0 * 512 ≤ (i 0 : Nat) ∧ (i 0 : Nat) < win0_2.index t 0 * 512 + win0_2.xsize (grid0.coords t) 0
              rw [d0, s0]; omega
  | ⟨1, _⟩ => show win0_2.index t 1 * 256 ≤ (i 1 : Nat) ∧ (i 1 : Nat) < win0_2.index t 1 * 256 + win0_2.xsize (grid0.coords t) 1
              rw [d1, s1]; omega

/-- The array of the cosine parts ends holding the plain one. -/
theorem final_cosines (c : Dev nD) : (dats m 0 c).arrAt 2 cfg0.N = GC m c :=
  (dats m 0 c).arrAt_eq_of_cover 2 (GC m c) (flushed_eq_cosines m c) cover_cosines

/-- What a point writes back is its block of the plain sine parts. -/
theorem flushed_eq_sines (c : Dev nD) (t : Fin cfg0.N) (_ : (cfg0.win 3).flush t = true) :
    (dats m 0 c).flushed 3 t = ((cfg0.win 3).blk t).view.read (Elt Ideal) (GS m c) := by
  rw [Value.flushed3]
  obtain ⟨d0, d1⟩ := idx3 t
  have hN : cfg0.N = 68 := N_0
  have ht := t.isLt
  funext j
  obtain ⟨r, l, rfl⟩ : ∃ (r : Fin 512) (l : Fin 256), j = ix2 r l := ⟨j 0, j 1, eq_ix2 j⟩
  have hr := r.isLt
  have hl := l.isLt
  have he : ((cfg0.win 3).blk t).view.emb (ix2 r l) = ix2 (⟨t.val / 4 * 512 + r.val, by omega⟩ : Fin 8704) (⟨t.val % 4 * 256 + l.val, by omega⟩ : Fin 1024) := by
    funext a
    apply Fin.ext
    match a with
    | ⟨0, _⟩ => show win0_3.index t 0 * 512 + 1 * r.val = t.val / 4 * 512 + r.val; rw [d0]; omega
    | ⟨1, _⟩ => show win0_3.index t 1 * 256 + 1 * l.val = t.val % 4 * 256 + l.val; rw [d1]; omega
  rw [View.read_apply, he]
  show out0_3 (iblk m c 0 t) (iblk m c 1 t) (ix2 r l) = sines (X m c) (W m c) (ix2 (⟨t.val / 4 * 512 + r.val, by omega⟩ : Fin 8704) (⟨t.val % 4 * 256 + l.val, by omega⟩ : Fin 1024))
  rw [out_sine, sines_apply]
  refine Finset.sum_congr rfl fun k _ => congrArg₂ (· * ·) (blk0 m c t r _ k _ rfl (by dsimp only; omega)) ((blk1 m c t k _).trans ?_)
  exact congrArg (W m c) (congrArg (ix2 k) (Fin.ext (by dsimp only; omega)))

/-- Every index of the sine parts lies in the block of some point. -/
theorem cover_sines (i : S8704x1024.Idx) : ∃ t : Fin cfg0.N, (cfg0.win 3).flush t = true ∧ i ∈ ((cfg0.win 3).blk t).view.set := by
  have h0 : (i 0 : Nat) < 8704 := (i 0).isLt
  have h1 : (i 1 : Nat) < 1024 := (i 1).isLt
  have hN : cfg0.N = 68 := N_0
  refine ⟨⟨(i 0 : Nat) / 512 * 4 + (i 1 : Nat) / 256, by omega⟩, flush3 _, ?_⟩
  generalize ht : (⟨(i 0 : Nat) / 512 * 4 + (i 1 : Nat) / 256, by omega⟩ : Fin cfg0.N) = t
  have hv : t.val = (i 0 : Nat) / 512 * 4 + (i 1 : Nat) / 256 := by rw [← ht]
  obtain ⟨d0, d1⟩ := idx3 t
  obtain ⟨s0, s1⟩ := size3 t
  show i ∈ ((View.whole main_v0_1).slice (win0_3.rect t)).set
  rw [View.set_slice_whole, Rect.mem_set_unit]
  intro a
  match a with
  | ⟨0, _⟩ => show win0_3.index t 0 * 512 ≤ (i 0 : Nat) ∧ (i 0 : Nat) < win0_3.index t 0 * 512 + win0_3.xsize (grid0.coords t) 0
              rw [d0, s0]; omega
  | ⟨1, _⟩ => show win0_3.index t 1 * 256 ≤ (i 1 : Nat) ∧ (i 1 : Nat) < win0_3.index t 1 * 256 + win0_3.xsize (grid0.coords t) 1
              rw [d1, s1]; omega

/-- The array of the sine parts ends holding the plain one. -/
theorem final_sines (c : Dev nD) : (dats m 0 c).arrAt 3 cfg0.N = GS m c :=
  (dats m 0 c).arrAt_eq_of_cover 3 (GS m c) (flushed_eq_sines m c) cover_sines

end Cert.DftChIdeal.Blocks

namespace Cert.Proof

open Idealize.ShloMosaic Idealize.ShloMosaic.TcCoe Idealize.SL.Sem

/-- The Fourier mixer's first step computes, on the extended reals, the plain cosine and sine parts. -/
theorem dftCh_algebraic : Cert.algebraic_DftChIdeal_DftChReferenceIdeal
    (hDftChIdeal := Cert.DftChIdeal.Gen.facts) (hDftChReferenceIdeal := Cert.DftChReferenceIdeal.Gen.facts) := by
  intro m g m' g' _ hargs
  refine ⟨fun c => Cert.DftChIdeal.Blocks.GC m c, fun c => Cert.DftChIdeal.Blocks.GS m c, ?_, ?_⟩
  · refine (θ_run _ _ _).mono (fun r h c => ?_) (Cert.DftChIdeal.Value.run_blocks m g)
    obtain ⟨h0, h1, h2, h3⟩ := h c
    exact ⟨h0.trans (Cert.DftChIdeal.Blocks.final_cosines m c), h1.trans (Cert.DftChIdeal.Blocks.final_sines m c), h2, h3⟩
  · refine (θ_run _ _ _).mono (fun r h c => ?_) (Cert.DftChReferenceIdeal.Value.run m' g')
    obtain ⟨h0, h1, h2, h3⟩ := h c
    obtain ⟨e0, e1⟩ := hargs c
    refine ⟨h0.trans ?_, h1.trans ?_, h2, h3⟩
    · rw [Cert.DftChReferenceIdeal.Read.val_main_v9_eq, e0, e1]
      rfl
    · rw [Cert.DftChReferenceIdeal.Read.val_main_v11_eq, e0, e1]
      rfl

end Cert.Proof

end
-- ==== Proof.DftPosValue.lean ====
/- The value of the Fourier mixer over the latent positions: the cosine and sine parts summed over the positions, scaled, then each group times its weight. -/
module

public import proofs.«01_k».proof.Defs
public import proofs.«01_k».proof.Proof.Gen.DftPosIdeal.Value
public import proofs.«01_k».proof.Proof.Gen.DftPosReferenceIdeal.Run
public import proofs.«01_k».proof.Proof.Gen.DftPosReferenceIdeal.Read
public import proofs.«01_k».proof.Proof.Gen.DftPosIdeal.Frame
public import proofs.«01_k».proof.Proof.Gen.DftPos.Frame
public import Idealize.ShloMosaic.Lib.Pointwise

@[expose] public section

set_option maxRecDepth 16384

noncomputable section

namespace Cert.DftPosIdeal.Blocks

open Cert.DftPosIdeal Cert.DftPosIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The zero offsets of a whole-block access, two axes. -/
theorem hz : (![0, 0] : Fin 2 → Nat) = fun _ => 0 := funext fun a => by fin_cases a <;> rfl

/-- The zero offsets of a whole-block access, three axes. -/
theorem hz3 : (![0, 0, 0] : Fin 3 → Nat) = fun _ => 0 := funext fun a => by fin_cases a <;> rfl

/-- The rows of the cosines at a point. -/
theorem idx0 : ∀ t : Fin cfg0.N, win0_0.index t 0 = t.val % 8 ∧ win0_0.index t 1 = 0 :=
  (by decide +kernel : ∀ t : Fin grid0.N, win0_0.index t 0 = t.val % 8 ∧ win0_0.index t 1 = 0)

/-- The rows of the sines at a point. -/
theorem idx1 : ∀ t : Fin cfg0.N, win0_1.index t 0 = t.val % 8 ∧ win0_1.index t 1 = 0 :=
  (by decide +kernel : ∀ t : Fin grid0.N, win0_1.index t 0 = t.val % 8 ∧ win0_1.index t 1 = 0)

/-- The block of the cosine parts at a point. -/
theorem idx2 : ∀ t : Fin cfg0.N, win0_2.index t 0 = t.val / 16 ∧ win0_2.index t 1 = t.val / 8 % 2 :=
  (by decide +kernel : ∀ t : Fin grid0.N, win0_2.index t 0 = t.val / 16 ∧ win0_2.index t 1 = t.val / 8 % 2)

/-- The block of the sine parts at a point. -/
theorem idx3 : ∀ t : Fin cfg0.N, win0_3.index t 0 = t.val / 16 ∧ win0_3.index t 1 = t.val / 8 % 2 :=
  (by decide +kernel : ∀ t : Fin grid0.N, win0_3.index t 0 = t.val / 16 ∧ win0_3.index t 1 = t.val / 8 % 2)

/-- The groups' weights at a point. -/
theorem idx4 : ∀ t : Fin cfg0.N, win0_4.index t 0 = t.val / 8 % 2 ∧ win0_4.index t 1 = 0 ∧ win0_4.index t 2 = 0 :=
  (by decide +kernel : ∀ t : Fin grid0.N, win0_4.index t 0 = t.val / 8 % 2 ∧ win0_4.index t 1 = 0 ∧ win0_4.index t 2 = 0)

/-- The block of the result at a point. -/
theorem idx5 : ∀ t : Fin cfg0.N, win0_5.index t 0 = t.val / 16 * 8 + t.val % 8 ∧ win0_5.index t 1 = t.val / 8 % 2 :=
  (by decide +kernel : ∀ t : Fin grid0.N, win0_5.index t 0 = t.val / 16 * 8 + t.val % 8 ∧ win0_5.index t 1 = t.val / 8 % 2)

/-- No transfer of the result is cut short. -/
theorem size5 : ∀ t : Fin cfg0.N, win0_5.xsize (grid0.coords t) 0 = 512 ∧ win0_5.xsize (grid0.coords t) 1 = 512 :=
  (by decide +kernel : ∀ t : Fin grid0.N, win0_5.xsize (grid0.coords t) 0 = 512 ∧ win0_5.xsize (grid0.coords t) 1 = 512)

/-- Every point writes its block of the result back. -/
theorem flush5 : ∀ t : Fin cfg0.N, (cfg0.win 5).flush t = true :=
  (by decide +kernel : ∀ t : Fin grid0.N, win0_5.flush t = true)

/-- The scaled difference of the cosine and sine sums, at a row and a column of a block. -/
def wave (x0 x1 : Vec Ideal S512x4096 .bf16) (x2 x3 : Vec Ideal S4096x512 .bf16) (r : Fin 512) (l : Fin 512) : EReal :=
  (∑ k : Fin 4096, x0 (ix2 r k) * x2 (ix2 k l) - ∑ k : Fin 4096, x1 (ix2 r k) * x3 (ix2 k l)) * Ideal.ofBits .f32 0x3A800000#32

/-- The body's scaled difference. -/
theorem wave_apply (x0 x1 : Vec Ideal S512x4096 .bf16) (x2 x3 : Vec Ideal S4096x512 .bf16) (r : Fin 512) (l : Fin 512) :
    k0_pay1 x0 x2 x1 x3 (ix2 r l) = wave x0 x1 x2 x3 r l := by
  unfold wave
  pointwise [k0_pay1]

/-- An entry of the block: the scaled differences of its group, times the group's weight. -/
def entry (x0 x1 : Vec Ideal S512x4096 .bf16) (x2 x3 : Vec Ideal S4096x512 .bf16) (w : Vec Ideal S2x256x256 .bf16) (r : Fin 512) (l : Fin 512) : EReal :=
  ∑ k : Fin 256, wave x0 x1 x2 x3 r (⟨l.val / 256 * 256 + k.val, by omega⟩ : Fin 512) * w (ix3 (⟨l.val / 256, by omega⟩ : Fin 2) k (⟨l.val % 256, by omega⟩ : Fin 256))

/-- The piece of the block for its group 0. -/
theorem piece0 (x0 x1 : Vec Ideal S512x4096 .bf16) (x2 x3 : Vec Ideal S4096x512 .bf16) (w : Vec Ideal S1x256x256 .bf16) (a : Fin 512) (d : Fin 256) :
    k0_pay2 x0 x2 x1 x3 w (ix2 a d) = ∑ k : Fin 256, wave x0 x1 x2 x3 a (⟨0 + k.val, by omega⟩ : Fin 512) * w (ix3 0 k d) := by
  simp only [← wave_apply]
  pointwise [k0_pay2]

/-- The weight of group 0, loaded. -/
theorem weight0 (w : Vec Ideal S2x256x256 .bf16) (a d : Fin 256) : View.ld w (Rect.unit (s := S2x256x256) ![0, 0, 0] S1x256x256.size inb_S2x256x256_S1x256x256_0_0_0) (ix3 0 a d) = w (ix3 0 a d) := by
  refine congrArg w (funext fun i => Fin.ext ?_)
  match i with
  | ⟨0, _⟩ => rfl
  | ⟨1, _⟩ => show 0 + 1 * a.val = a.val; omega
  | ⟨2, _⟩ => show 0 + 1 * d.val = d.val; omega

/-- The piece of the block for its group 1. -/
theorem piece1 (x0 x1 : Vec Ideal S512x4096 .bf16) (x2 x3 : Vec Ideal S4096x512 .bf16) (w : Vec Ideal S1x256x256 .bf16) (a : Fin 512) (d : Fin 256) :
    k0_pay3 x0 x2 x1 x3 w (ix2 a d) = ∑ k : Fin 256, wave x0 x1 x2 x3 a (⟨256 + k.val, by omega⟩ : Fin 512) * w (ix3 0 k d) := by
  simp only [← wave_apply]
  pointwise [k0_pay3]

/-- The weight of group 1, loaded. -/
theorem weight1 (w : Vec Ideal S2x256x256 .bf16) (a d : Fin 256) : View.ld w (Rect.unit (s := S2x256x256) ![1, 0, 0] S1x256x256.size inb_S2x256x256_S1x256x256_1_0_0) (ix3 0 a d) = w (ix3 1 a d) := by
  refine congrArg w (funext fun i => Fin.ext ?_)
  match i with
  | ⟨0, _⟩ => rfl
  | ⟨1, _⟩ => show 0 + 1 * a.val = a.val; omega
  | ⟨2, _⟩ => show 0 + 1 * d.val = d.val; omega

/-- An entry in a group's columns. -/
theorem entry_at (x0 x1 : Vec Ideal S512x4096 .bf16) (x2 x3 : Vec Ideal S4096x512 .bf16) (w : Vec Ideal S2x256x256 .bf16) (w' : Vec Ideal S1x256x256 .bf16) (g : Fin 2) (hw : ∀ a d, w' (ix3 0 a d) = w (ix3 g a d))
    (r a : Fin 512) (l : Fin 512) (d : Fin 256) (f : Fin 256 → Fin 512) (hr : r.val = a.val) (hl : l.val = g.val * 256 + d.val) (hf : ∀ k, (f k).val = g.val * 256 + k.val) :
    ∑ k : Fin 256, wave x0 x1 x2 x3 a (f k) * w' (ix3 0 k d) = entry x0 x1 x2 x3 w r l := by
  obtain rfl : r = a := Fin.ext hr
  have e1 : (⟨l.val / 256, by omega⟩ : Fin 2) = g := Fin.ext (by dsimp only; omega)
  have e2 : (⟨l.val % 256, by omega⟩ : Fin 256) = d := Fin.ext (by dsimp only; omega)
  unfold entry
  rw [e1, e2]
  refine Finset.sum_congr rfl fun k _ => congrArg₂ (· * ·) (congrArg (wave x0 x1 x2 x3 r) (Fin.ext ?_)) (hw k d)
  rw [hf k]
  dsimp only
  omega

/-- The block the body leaves, at a row and a column. -/
theorem out_apply (c : Dev nD) (i : grid0.Coords) (arg3 : Memref sig .tc .vmem S512x4096 .bf16) (harg3 : arg3.IsWhole) (arg4 : Memref sig .tc .vmem S512x4096 .bf16) (harg4 : arg4.IsWhole) (arg5 : Memref sig .tc .vmem S4096x512 .bf16) (harg5 : arg5.IsWhole) (arg6 : Memref sig .tc .vmem S4096x512 .bf16) (harg6 : arg6.IsWhole) (arg7 : Memref sig .tc .vmem S2x256x256 .bf16) (harg7 : arg7.IsWhole) (arg8 : Memref sig .tc .vmem S512x512 .bf16) (harg8 : arg8.IsWhole)
    (x0 x1 : Vec Ideal S512x4096 .bf16) (x2 x3 : Vec Ideal S4096x512 .bf16) (w : Vec Ideal S2x256x256 .bf16) (r : Fin 512) (l : Fin 512) :
    out0_A_5 (F := Ideal) c i arg3 harg3 arg4 harg4 arg5 harg5 arg6 harg6 arg7 harg7 arg8 harg8 x0 x1 x2 x3 w (ix2 r l) = entry x0 x1 x2 x3 w r l := by
  have hc := cover0_A_5 (F := Ideal) c i arg3 harg3 arg4 harg4 arg5 harg5 arg6 harg6 arg7 harg7 arg8 harg8 x0 x1 x2 x3 w
  unfold out0_A_5
  rw [View.read_writes_eq_canon _ _ _ hc]
  refine View.canon_apply_of_pieces (Val := Elt Ideal) (e := .bf16) (S := S512x512) (fun i => entry x0 x1 x2 x3 w (i 0) (i 1)) _ ?_ (ix2 r l) (hc (ix2 r l))
  clear hc
  unfold kernelRun0_A
  dsimp only
  simp only [View.readAt_eq_ld, harg3.read_unread, harg4.read_unread, harg5.read_unread, harg6.read_unread, harg7.read_unread, View.ld_unit_zero (S := S512x4096) hz, View.ld_unit_zero (S := S4096x512) hz]
  intro p hp
  simp only [List.mem_cons, List.not_mem_nil, or_false] at hp
  rcases hp with rfl | rfl <;> intro i <;>
    obtain ⟨a, d, rfl⟩ : ∃ (a : Fin 512) (d : Fin 256), i = ix2 a d := ⟨i 0, i 1, eq_ix2 i⟩
  · refine (piece1 _ _ _ _ _ a d).trans ?_
    exact entry_at x0 x1 x2 x3 w _ 1 (weight1 w) _ a _ d _ (by show 0 + 1 * a.val = a.val; omega) (by show 256 + 1 * d.val = 1 * 256 + d.val; omega) (fun k => by show 256 + k.val = 1 * 256 + k.val; omega)
  · refine (piece0 _ _ _ _ _ a d).trans ?_
    exact entry_at x0 x1 x2 x3 w _ 0 (weight0 w) _ a _ d _ (by show 0 + 1 * a.val = a.val; omega) (by show 0 + 1 * d.val = 0 * 256 + d.val; omega) (fun k => by show 0 + k.val = 0 * 256 + k.val; omega)

/-- The cosine parts, as launched. -/
abbrev PC (c : Dev nD) : Vec Ideal S8704x1024 .bf16 := m ((c : Thread nD τ).loc main_arg0)

/-- The sine parts, as launched. -/
abbrev PS (c : Dev nD) : Vec Ideal S8704x1024 .bf16 := m ((c : Thread nD τ).loc main_arg1)

/-- The cosines, as launched. -/
abbrev C (c : Dev nD) : Vec Ideal S4096x4096 .bf16 := m ((c : Thread nD τ).loc main_arg2)

/-- The sines, as launched. -/
abbrev D (c : Dev nD) : Vec Ideal S4096x4096 .bf16 := m ((c : Thread nD τ).loc main_arg3)

/-- The groups' weights, as launched. -/
abbrev W (c : Dev nD) : Vec Ideal S4x256x256 .f32 := m ((c : Thread nD τ).loc main_arg4)

/-- The plain mixed positions. -/
def plain (pc ps : Vec Ideal S8704x1024 .bf16) (cm sm : Vec Ideal S4096x4096 .bf16) (w : Vec Ideal S4x256x256 .f32) : Vec Ideal S8192x1024 .bf16 :=
  Cert.DftPosReferenceIdeal.Read.val_main_v18 (F := Ideal) pc ps cm sm w

/-- What the result array ends holding: the plain mixed positions. -/
abbrev G (c : Dev nD) : Buf (Elt Ideal) ((c : Thread nD τ).loc main_v1) := plain (PC m c) (PS m c) (C m c) (D m c) (W m c)

/-- The reference's sums over the positions, scaled, at a sample, a position, a group and a channel. -/
theorem sums_apply (pc ps : Vec Ideal S8704x1024 .bf16) (cm sm : Vec Ideal S4096x4096 .bf16) (b : Fin 2) (p : Fin 4096) (g : Fin 4) (k : Fin 256) :
    Cert.DftPosReferenceIdeal.Read.val_main_v14 (F := Ideal) pc ps cm sm (ix4 b p g k)
      = (∑ n : Fin 4096, pc (ix2 (⟨(b.val * 4096 + n.val), by omega⟩ : Fin 8704) (⟨g.val * 256 + k.val, by omega⟩ : Fin 1024)) * cm (ix2 p n)
        - ∑ n : Fin 4096, ps (ix2 (⟨(b.val * 4096 + n.val), by omega⟩ : Fin 8704) (⟨g.val * 256 + k.val, by omega⟩ : Fin 1024)) * sm (ix2 p n)) * Ideal.ofBits .f32 0x3A800000#32 := by
  pointwise [Cert.DftPosReferenceIdeal.Read.val_main_v14, Cert.DftPosReferenceIdeal.Read.val_main_v13, Cert.DftPosReferenceIdeal.Read.val_main_v12, Cert.DftPosReferenceIdeal.Read.val_main_v11, Cert.DftPosReferenceIdeal.Read.val_main_v10, Cert.DftPosReferenceIdeal.Read.val_main_v9, Cert.DftPosReferenceIdeal.Read.val_main_v8, Cert.DftPosReferenceIdeal.Read.val_main_v7, Cert.DftPosReferenceIdeal.Read.val_main_v6, Cert.DftPosReferenceIdeal.Read.val_main_v5, Cert.DftPosReferenceIdeal.Read.val_main_v4, Cert.DftPosReferenceIdeal.Read.val_main_v3, Cert.DftPosReferenceIdeal.Read.val_main_v2, Cert.DftPosReferenceIdeal.Read.val_main_v1, Cert.DftPosReferenceIdeal.Read.val_main_v0, Cert.DftPosReferenceIdeal.Read.val_main_cst]

/-- The plain mixed positions at a row and a column, by the scaled sums. -/
theorem plain_apply (pc ps : Vec Ideal S8704x1024 .bf16) (cm sm : Vec Ideal S4096x4096 .bf16) (w : Vec Ideal S4x256x256 .f32) (R : Fin 8192) (L : Fin 1024) :
    plain pc ps cm sm w (ix2 R L) = ∑ k : Fin 256, w (ix3 (⟨L.val / 256, by omega⟩ : Fin 4) k (⟨L.val % 256, by omega⟩ : Fin 256))
      * Cert.DftPosReferenceIdeal.Read.val_main_v14 (F := Ideal) pc ps cm sm (ix4 (⟨R.val / 4096, by omega⟩ : Fin 2) (⟨R.val % 4096, by omega⟩ : Fin 4096) (⟨L.val / 256, by omega⟩ : Fin 4) k) := by
  unfold plain
  pointwise [Cert.DftPosReferenceIdeal.Read.val_main_v18, Cert.DftPosReferenceIdeal.Read.val_main_v17, Cert.DftPosReferenceIdeal.Read.val_main_v16, Cert.DftPosReferenceIdeal.Read.val_main_v15]

/-- The weights as the call finds them. -/
theorem weights (c : Dev nD) (g : Fin 4) (k d : Fin 256) : (V m c main_v0 : Vec Ideal S4x256x256 .bf16) (ix3 g k d) = W m c (ix3 g k d) := by
  unfold V
  after_results
  pointwise

/-- The cosines's block at a point. -/
theorem blk0 (c : Dev nD) (t : Fin cfg0.N) (r : Fin 512) (p : Fin 4096) (n : Fin 4096) (hp : p.val = t.val % 8 * 512 + r.val) :
    (iblk m c 0 t : Vec Ideal S512x4096 .bf16) (ix2 r n) = C m c (ix2 p n) := by
  obtain ⟨a0, a1⟩ := idx0 t
  unfold iblk
  rw [View.read_apply]
  show V m c main_arg2 _ = _
  rw [V_main_arg2 m c]
  show C m c _ = _
  congr 1
  funext a
  apply Fin.ext
  match a with
  | ⟨0, _⟩ => show win0_0.index t 0 * 512 + 1 * r.val = p.val; rw [a0]; omega
  | ⟨1, _⟩ => show win0_0.index t 1 * 4096 + 1 * n.val = n.val; rw [a1]; omega

/-- The sines's block at a point. -/
theorem blk1 (c : Dev nD) (t : Fin cfg0.N) (r : Fin 512) (p : Fin 4096) (n : Fin 4096) (hp : p.val = t.val % 8 * 512 + r.val) :
    (iblk m c 1 t : Vec Ideal S512x4096 .bf16) (ix2 r n) = D m c (ix2 p n) := by
  obtain ⟨a0, a1⟩ := idx1 t
  unfold iblk
  rw [View.read_apply]
  show V m c main_arg3 _ = _
  rw [V_main_arg3 m c]
  show D m c _ = _
  congr 1
  funext a
  apply Fin.ext
  match a with
  | ⟨0, _⟩ => show win0_1.index t 0 * 512 + 1 * r.val = p.val; rw [a0]; omega
  | ⟨1, _⟩ => show win0_1.index t 1 * 4096 + 1 * n.val = n.val; rw [a1]; omega

/-- The cosine parts's block at a point. -/
theorem blk2 (c : Dev nD) (t : Fin cfg0.N) (n : Fin 4096) (R : Fin 8704) (l : Fin 512) (L : Fin 1024) (hR : R.val = t.val / 16 * 4096 + n.val) (hL : L.val = t.val / 8 % 2 * 512 + l.val) :
    (X0_2 m c t : Vec Ideal S4096x512 .bf16) (ix2 n l) = PC m c (ix2 R L) := by
  obtain ⟨a0, a1⟩ := idx2 t
  unfold X0_2 Pipeline.Window.fill
  refine (dif_pos (moved0_2 t (ix2 n l))).trans ?_
  unfold iblk
  rw [View.read_apply]
  show V m c main_arg0 _ = _
  rw [V_main_arg0 m c]
  show PC m c _ = _
  congr 1
  funext a
  apply Fin.ext
  match a with
  | ⟨0, _⟩ => show win0_2.index t 0 * 4096 + 1 * n.val = R.val; rw [a0]; omega
  | ⟨1, _⟩ => show win0_2.index t 1 * 512 + 1 * l.val = L.val; rw [a1]; omega

/-- The sine parts's block at a point. -/
theorem blk3 (c : Dev nD) (t : Fin cfg0.N) (n : Fin 4096) (R : Fin 8704) (l : Fin 512) (L : Fin 1024) (hR : R.val = t.val / 16 * 4096 + n.val) (hL : L.val = t.val / 8 % 2 * 512 + l.val) :
    (X0_3 m c t : Vec Ideal S4096x512 .bf16) (ix2 n l) = PS m c (ix2 R L) := by
  obtain ⟨a0, a1⟩ := idx3 t
  unfold X0_3 Pipeline.Window.fill
  refine (dif_pos (moved0_3 t (ix2 n l))).trans ?_
  unfold iblk
  rw [View.read_apply]
  show V m c main_arg1 _ = _
  rw [V_main_arg1 m c]
  show PS m c _ = _
  congr 1
  funext a
  apply Fin.ext
  match a with
  | ⟨0, _⟩ => show win0_3.index t 0 * 4096 + 1 * n.val = R.val; rw [a0]; omega
  | ⟨1, _⟩ => show win0_3.index t 1 * 512 + 1 * l.val = L.val; rw [a1]; omega

/-- The groups' weights's block at a point, whatever the arrays hold. -/
theorem read4 (c : Dev nD) (v : (b : Ref sig .tc) → Buf (Elt Ideal) ((c : Thread nD τ).loc b)) (t : Fin cfg0.N) (h : Fin 2) (g : Fin 4) (k : Fin 256) (d : Fin 256) (hg : g.val = t.val / 8 % 2 * 2 + h.val) :
    (((cfg0.win 4).blk t).view.read (Elt Ideal) (v (Pipeline.arrRef spec0 4)) : Vec Ideal S2x256x256 .bf16) (ix3 h k d) = (v main_v0 : Vec Ideal S4x256x256 .bf16) (ix3 g k d) := by
  obtain ⟨a0, a1, a2⟩ := idx4 t
  rw [View.read_apply]
  show v main_v0 _ = _
  congr 1
  funext a
  apply Fin.ext
  match a with
  | ⟨0, _⟩ => show win0_4.index t 0 * 2 + 1 * h.val = g.val; rw [a0]; omega
  | ⟨1, _⟩ => show win0_4.index t 1 * 256 + 1 * k.val = k.val; rw [a1]; omega
  | ⟨2, _⟩ => show win0_4.index t 2 * 256 + 1 * d.val = d.val; rw [a2]; omega

/-- The groups' weights at a point, by the group in the whole array. -/
theorem blk4 (c : Dev nD) (t : Fin cfg0.N) (h : Fin 2) (g : Fin 4) (k d : Fin 256) (hg : g.val = t.val / 8 % 2 * 2 + h.val) :
    (iblk m c 4 t : Vec Ideal S2x256x256 .bf16) (ix3 h k d) = W m c (ix3 g k d) := by
  unfold iblk
  exact (read4 c (V m c) t h g k d hg).trans (weights m c g k d)

/-- Two equal factors, turned about. -/
theorem turn {a b x y : EReal} (h : a = x) (h' : b = y) : a * b = y * x := by rw [h, h', mul_comm]

/-- A point's scaled difference is the reference's scaled sum. -/
theorem wave_blk (c : Dev nD) (t : Fin cfg0.N) (r : Fin 512) (l : Fin 512) (b : Fin 2) (g : Fin 4) (k : Fin 256) (p : Fin 4096) (hp : p.val = t.val % 8 * 512 + r.val) (hb : b.val = t.val / 16)
    (hl : g.val * 256 + k.val = t.val / 8 % 2 * 512 + l.val) :
    wave (iblk m c 0 t) (iblk m c 1 t) (X0_2 m c t) (X0_3 m c t) r l
      = Cert.DftPosReferenceIdeal.Read.val_main_v14 (F := Ideal) (PC m c) (PS m c) (C m c) (D m c) (ix4 b p g k) := by
  rw [sums_apply]
  unfold wave
  refine congrArg (· * Ideal.ofBits .f32 0x3A800000#32) (congrArg₂ (· - ·) ?_ ?_)
  · exact Finset.sum_congr rfl fun n _ => turn (blk0 m c t r p n hp) (blk2 m c t n _ l _ (by dsimp only; omega) hl)
  · exact Finset.sum_congr rfl fun n _ => turn (blk1 m c t r p n hp) (blk3 m c t n _ l _ (by dsimp only; omega) hl)

/-- What a point writes back is its block of the plain mixed positions. -/
theorem flushed_eq (c : Dev nD) (t : Fin cfg0.N) (_ : (cfg0.win 5).flush t = true) :
    (dats m 0 c).flushed 5 t = ((cfg0.win 5).blk t).view.read (Elt Ideal) (G m c) := by
  rw [Value.flushed5_A]
  obtain ⟨d0, d1⟩ := idx5 t
  have hN : cfg0.N = 32 := N_0
  have ht := t.isLt
  funext j
  obtain ⟨r, l, rfl⟩ : ∃ (r l : Fin 512), j = ix2 r l := ⟨j 0, j 1, eq_ix2 j⟩
  have hr := r.isLt
  have hl := l.isLt
  have he : ((cfg0.win 5).blk t).view.emb (ix2 r l) = ix2 (⟨(t.val / 16 * 8 + t.val % 8) * 512 + r.val, by omega⟩ : Fin 8192) (⟨t.val / 8 % 2 * 512 + l.val, by omega⟩ : Fin 1024) := by
    funext a
    apply Fin.ext
    match a with
    | ⟨0, _⟩ => show win0_5.index t 0 * 512 + 1 * r.val = (t.val / 16 * 8 + t.val % 8) * 512 + r.val; rw [d0]; omega
    | ⟨1, _⟩ => show win0_5.index t 1 * 512 + 1 * l.val = t.val / 8 % 2 * 512 + l.val; rw [d1]; omega
  rw [View.read_apply, he]
  show out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (X0_2 m c t) (X0_3 m c t) (iblk m c 4 t) (ix2 r l) = plain (PC m c) (PS m c) (C m c) (D m c) (W m c) (ix2 (⟨(t.val / 16 * 8 + t.val % 8) * 512 + r.val, by omega⟩ : Fin 8192) (⟨t.val / 8 % 2 * 512 + l.val, by omega⟩ : Fin 1024))
  rw [out_apply, plain_apply]
  unfold entry
  refine Finset.sum_congr rfl fun k _ => (mul_comm _ _).trans (congrArg₂ (· * ·) ?_ ?_)
  · refine (blk4 m c t _ (⟨(t.val / 8 % 2 * 512 + l.val) / 256, by omega⟩ : Fin 4) k _ (by dsimp only; omega)).trans ?_
    exact congrArg (fun d => W m c (ix3 _ k d)) (Fin.ext (by dsimp only; omega))
  · exact wave_blk m c t r _ _ _ _ _ (by dsimp only; omega) (by dsimp only; omega) (by dsimp only; omega)

/-- Every index of the result lies in the block of some point. -/
theorem cover (i : S8192x1024.Idx) : ∃ t : Fin cfg0.N, (cfg0.win 5).flush t = true ∧ i ∈ ((cfg0.win 5).blk t).view.set := by
  have h0 : (i 0 : Nat) < 8192 := (i 0).isLt
  have h1 : (i 1 : Nat) < 1024 := (i 1).isLt
  have hN : cfg0.N = 32 := N_0
  refine ⟨⟨(i 0 : Nat) / 4096 * 16 + (i 1 : Nat) / 512 * 8 + (i 0 : Nat) % 4096 / 512, by omega⟩, flush5 _, ?_⟩
  generalize ht : (⟨(i 0 : Nat) / 4096 * 16 + (i 1 : Nat) / 512 * 8 + (i 0 : Nat) % 4096 / 512, by omega⟩ : Fin cfg0.N) = t
  have hv : t.val = (i 0 : Nat) / 4096 * 16 + (i 1 : Nat) / 512 * 8 + (i 0 : Nat) % 4096 / 512 := by rw [← ht]
  obtain ⟨d0, d1⟩ := idx5 t
  obtain ⟨s0, s1⟩ := size5 t
  show i ∈ ((View.whole main_v1).slice (win0_5.rect t)).set
  rw [View.set_slice_whole, Rect.mem_set_unit]
  intro a
  match a with
  | ⟨0, _⟩ => show win0_5.index t 0 * 512 ≤ (i 0 : Nat) ∧ (i 0 : Nat) < win0_5.index t 0 * 512 + win0_5.xsize (grid0.coords t) 0
              rw [d0, s0]; omega
  | ⟨1, _⟩ => show win0_5.index t 1 * 512 ≤ (i 1 : Nat) ∧ (i 1 : Nat) < win0_5.index t 1 * 512 + win0_5.xsize (grid0.coords t) 1
              rw [d1, s1]; omega

/-- The result's array ends holding the plain one. -/
theorem final (c : Dev nD) : (dats m 0 c).arrAt 5 cfg0.N = G m c :=
  (dats m 0 c).arrAt_eq_of_cover 5 (G m c) (flushed_eq m c) cover

end Cert.DftPosIdeal.Blocks

namespace Cert.Proof

open Idealize.ShloMosaic Idealize.ShloMosaic.TcCoe Idealize.SL.Sem

/-- The Fourier mixer over the latent positions computes, on the extended reals, the plain mixed positions. -/
theorem dftPos_algebraic : Cert.algebraic_DftPosIdeal_DftPosReferenceIdeal
    (hDftPosIdeal := Cert.DftPosIdeal.Gen.facts) (hDftPosReferenceIdeal := Cert.DftPosReferenceIdeal.Gen.facts) := by
  intro m g m' g' _ hargs
  refine ⟨fun c => Cert.DftPosIdeal.Blocks.G m c, ?_, ?_⟩
  · refine (θ_run _ _ _).mono (fun r h c => ?_) (Cert.DftPosIdeal.Value.run_blocks m g)
    obtain ⟨h0, h1, h2, h3, h4, h5⟩ := h c
    exact ⟨h0.trans (Cert.DftPosIdeal.Blocks.final m c), h1, h2, h3, h4, h5⟩
  · refine (θ_run _ _ _).mono (fun r h c => ?_) (Cert.DftPosReferenceIdeal.Value.run m' g')
    obtain ⟨h0, h1, h2, h3, h4, h5⟩ := h c
    obtain ⟨e0, e1, e2, e3, e4⟩ := hargs c
    refine ⟨h0.trans ?_, h1, h2, h3, h4, h5⟩
    rw [Cert.DftPosReferenceIdeal.Read.val_main_v18_eq, e0, e1, e2, e3, e4]
    rfl

end Cert.Proof

end
-- ==== Proof.DftCtxValue.lean ====
/- The value of the Fourier mixer over the context positions: the cosine and sine parts summed over the positions, scaled, then each group times its weight. -/
module

public import proofs.«01_k».proof.Defs
public import proofs.«01_k».proof.Proof.Gen.DftCtxIdeal.Value
public import proofs.«01_k».proof.Proof.Gen.DftCtxReferenceIdeal.Run
public import proofs.«01_k».proof.Proof.Gen.DftCtxReferenceIdeal.Read
public import proofs.«01_k».proof.Proof.Gen.DftCtxIdeal.Frame
public import proofs.«01_k».proof.Proof.Gen.DftCtx.Frame
public import Idealize.ShloMosaic.Lib.Pointwise

@[expose] public section

set_option maxRecDepth 16384

noncomputable section

namespace Cert.DftCtxIdeal.Blocks

open Cert.DftCtxIdeal Cert.DftCtxIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The zero offsets of a whole-block access, two axes. -/
theorem hz : (![0, 0] : Fin 2 → Nat) = fun _ => 0 := funext fun a => by fin_cases a <;> rfl

/-- The zero offsets of a whole-block access, three axes. -/
theorem hz3 : (![0, 0, 0] : Fin 3 → Nat) = fun _ => 0 := funext fun a => by fin_cases a <;> rfl

/-- The rows of the cosines at a point. -/
theorem idx0 : ∀ t : Fin cfg0.N, win0_0.index t 0 = 0 ∧ win0_0.index t 1 = 0 :=
  (by decide +kernel : ∀ t : Fin grid0.N, win0_0.index t 0 = 0 ∧ win0_0.index t 1 = 0)

/-- The rows of the sines at a point. -/
theorem idx1 : ∀ t : Fin cfg0.N, win0_1.index t 0 = 0 ∧ win0_1.index t 1 = 0 :=
  (by decide +kernel : ∀ t : Fin grid0.N, win0_1.index t 0 = 0 ∧ win0_1.index t 1 = 0)

/-- The block of the cosine parts at a point. -/
theorem idx2 : ∀ t : Fin cfg0.N, win0_2.index t 0 = 32 + t.val / 2 ∧ win0_2.index t 1 = t.val % 2 :=
  (by decide +kernel : ∀ t : Fin grid0.N, win0_2.index t 0 = 32 + t.val / 2 ∧ win0_2.index t 1 = t.val % 2)

/-- The block of the sine parts at a point. -/
theorem idx3 : ∀ t : Fin cfg0.N, win0_3.index t 0 = 32 + t.val / 2 ∧ win0_3.index t 1 = t.val % 2 :=
  (by decide +kernel : ∀ t : Fin grid0.N, win0_3.index t 0 = 32 + t.val / 2 ∧ win0_3.index t 1 = t.val % 2)

/-- The groups' weights at a point. -/
theorem idx4 : ∀ t : Fin cfg0.N, win0_4.index t 0 = t.val % 2 ∧ win0_4.index t 1 = 0 ∧ win0_4.index t 2 = 0 :=
  (by decide +kernel : ∀ t : Fin grid0.N, win0_4.index t 0 = t.val % 2 ∧ win0_4.index t 1 = 0 ∧ win0_4.index t 2 = 0)

/-- The block of the result at a point. -/
theorem idx5 : ∀ t : Fin cfg0.N, win0_5.index t 0 = t.val / 2 ∧ win0_5.index t 1 = t.val % 2 :=
  (by decide +kernel : ∀ t : Fin grid0.N, win0_5.index t 0 = t.val / 2 ∧ win0_5.index t 1 = t.val % 2)

/-- No transfer of the result is cut short. -/
theorem size5 : ∀ t : Fin cfg0.N, win0_5.xsize (grid0.coords t) 0 = 256 ∧ win0_5.xsize (grid0.coords t) 1 = 512 :=
  (by decide +kernel : ∀ t : Fin grid0.N, win0_5.xsize (grid0.coords t) 0 = 256 ∧ win0_5.xsize (grid0.coords t) 1 = 512)

/-- Every point writes its block of the result back. -/
theorem flush5 : ∀ t : Fin cfg0.N, (cfg0.win 5).flush t = true :=
  (by decide +kernel : ∀ t : Fin grid0.N, win0_5.flush t = true)

/-- The scaled difference of the cosine and sine sums, at a row and a column of a block. -/
def wave (x0 x1 : Vec Ideal S256x256 .bf16) (x2 x3 : Vec Ideal S256x512 .bf16) (r : Fin 256) (l : Fin 512) : EReal :=
  (∑ k : Fin 256, x0 (ix2 r k) * x2 (ix2 k l) - ∑ k : Fin 256, x1 (ix2 r k) * x3 (ix2 k l)) * Ideal.ofBits .f32 0x3B800000#32

/-- The body's scaled difference. -/
theorem wave_apply (x0 x1 : Vec Ideal S256x256 .bf16) (x2 x3 : Vec Ideal S256x512 .bf16) (r : Fin 256) (l : Fin 512) :
    k0_pay1 x0 x2 x1 x3 (ix2 r l) = wave x0 x1 x2 x3 r l := by
  unfold wave
  pointwise [k0_pay1]

/-- An entry of the block: the scaled differences of its group, times the group's weight. -/
def entry (x0 x1 : Vec Ideal S256x256 .bf16) (x2 x3 : Vec Ideal S256x512 .bf16) (w : Vec Ideal S2x256x256 .bf16) (r : Fin 256) (l : Fin 512) : EReal :=
  ∑ k : Fin 256, wave x0 x1 x2 x3 r (⟨l.val / 256 * 256 + k.val, by omega⟩ : Fin 512) * w (ix3 (⟨l.val / 256, by omega⟩ : Fin 2) k (⟨l.val % 256, by omega⟩ : Fin 256))

/-- The piece of the block for its group 0. -/
theorem piece0 (x0 x1 : Vec Ideal S256x256 .bf16) (x2 x3 : Vec Ideal S256x512 .bf16) (w : Vec Ideal S1x256x256 .bf16) (a : Fin 256) (d : Fin 256) :
    k0_pay2 x0 x2 x1 x3 w (ix2 a d) = ∑ k : Fin 256, wave x0 x1 x2 x3 a (⟨0 + k.val, by omega⟩ : Fin 512) * w (ix3 0 k d) := by
  simp only [← wave_apply]
  pointwise [k0_pay2]

/-- The weight of group 0, loaded. -/
theorem weight0 (w : Vec Ideal S2x256x256 .bf16) (a d : Fin 256) : View.ld w (Rect.unit (s := S2x256x256) ![0, 0, 0] S1x256x256.size inb_S2x256x256_S1x256x256_0_0_0) (ix3 0 a d) = w (ix3 0 a d) := by
  refine congrArg w (funext fun i => Fin.ext ?_)
  match i with
  | ⟨0, _⟩ => rfl
  | ⟨1, _⟩ => show 0 + 1 * a.val = a.val; omega
  | ⟨2, _⟩ => show 0 + 1 * d.val = d.val; omega

/-- The piece of the block for its group 1. -/
theorem piece1 (x0 x1 : Vec Ideal S256x256 .bf16) (x2 x3 : Vec Ideal S256x512 .bf16) (w : Vec Ideal S1x256x256 .bf16) (a : Fin 256) (d : Fin 256) :
    k0_pay3 x0 x2 x1 x3 w (ix2 a d) = ∑ k : Fin 256, wave x0 x1 x2 x3 a (⟨256 + k.val, by omega⟩ : Fin 512) * w (ix3 0 k d) := by
  simp only [← wave_apply]
  pointwise [k0_pay3]

/-- The weight of group 1, loaded. -/
theorem weight1 (w : Vec Ideal S2x256x256 .bf16) (a d : Fin 256) : View.ld w (Rect.unit (s := S2x256x256) ![1, 0, 0] S1x256x256.size inb_S2x256x256_S1x256x256_1_0_0) (ix3 0 a d) = w (ix3 1 a d) := by
  refine congrArg w (funext fun i => Fin.ext ?_)
  match i with
  | ⟨0, _⟩ => rfl
  | ⟨1, _⟩ => show 0 + 1 * a.val = a.val; omega
  | ⟨2, _⟩ => show 0 + 1 * d.val = d.val; omega

/-- An entry in a group's columns. -/
theorem entry_at (x0 x1 : Vec Ideal S256x256 .bf16) (x2 x3 : Vec Ideal S256x512 .bf16) (w : Vec Ideal S2x256x256 .bf16) (w' : Vec Ideal S1x256x256 .bf16) (g : Fin 2) (hw : ∀ a d, w' (ix3 0 a d) = w (ix3 g a d))
    (r a : Fin 256) (l : Fin 512) (d : Fin 256) (f : Fin 256 → Fin 512) (hr : r.val = a.val) (hl : l.val = g.val * 256 + d.val) (hf : ∀ k, (f k).val = g.val * 256 + k.val) :
    ∑ k : Fin 256, wave x0 x1 x2 x3 a (f k) * w' (ix3 0 k d) = entry x0 x1 x2 x3 w r l := by
  obtain rfl : r = a := Fin.ext hr
  have e1 : (⟨l.val / 256, by omega⟩ : Fin 2) = g := Fin.ext (by dsimp only; omega)
  have e2 : (⟨l.val % 256, by omega⟩ : Fin 256) = d := Fin.ext (by dsimp only; omega)
  unfold entry
  rw [e1, e2]
  refine Finset.sum_congr rfl fun k _ => congrArg₂ (· * ·) (congrArg (wave x0 x1 x2 x3 r) (Fin.ext ?_)) (hw k d)
  rw [hf k]
  dsimp only
  omega

/-- The block the body leaves, at a row and a column. -/
theorem out_apply (x0 x1 : Vec Ideal S256x256 .bf16) (x2 x3 : Vec Ideal S256x512 .bf16) (w : Vec Ideal S2x256x256 .bf16) (r : Fin 256) (l : Fin 512) :
    out0_5 x0 x1 x2 x3 w (ix2 r l) = entry x0 x1 x2 x3 w r l := by
  unfold out0_5
  simp only [View.ld_unit_zero (S := S256x256) hz, View.ld_unit_zero (S := S256x512) hz]
  refine View.canon_apply_of_pieces (Val := Elt Ideal) (e := .bf16) (S := S256x512) (fun i => entry x0 x1 x2 x3 w (i 0) (i 1)) _ ?_ (ix2 r l) (cover0_5 _ _ _)
  intro p hp
  simp only [List.mem_cons, List.not_mem_nil, or_false] at hp
  rcases hp with rfl | rfl <;> intro i <;>
    obtain ⟨a, d, rfl⟩ : ∃ (a : Fin 256) (d : Fin 256), i = ix2 a d := ⟨i 0, i 1, eq_ix2 i⟩
  · refine (piece1 _ _ _ _ _ a d).trans ?_
    exact entry_at x0 x1 x2 x3 w _ 1 (weight1 w) _ a _ d _ (by show 0 + 1 * a.val = a.val; omega) (by show 256 + 1 * d.val = 1 * 256 + d.val; omega) (fun k => by show 256 + k.val = 1 * 256 + k.val; omega)
  · refine (piece0 _ _ _ _ _ a d).trans ?_
    exact entry_at x0 x1 x2 x3 w _ 0 (weight0 w) _ a _ d _ (by show 0 + 1 * a.val = a.val; omega) (by show 0 + 1 * d.val = 0 * 256 + d.val; omega) (fun k => by show 0 + k.val = 0 * 256 + k.val; omega)

/-- The cosine parts, as launched. -/
abbrev PC (c : Dev nD) : Vec Ideal S8704x1024 .bf16 := m ((c : Thread nD τ).loc main_arg0)

/-- The sine parts, as launched. -/
abbrev PS (c : Dev nD) : Vec Ideal S8704x1024 .bf16 := m ((c : Thread nD τ).loc main_arg1)

/-- The cosines, as launched. -/
abbrev C (c : Dev nD) : Vec Ideal S256x256 .bf16 := m ((c : Thread nD τ).loc main_arg2)

/-- The sines, as launched. -/
abbrev D (c : Dev nD) : Vec Ideal S256x256 .bf16 := m ((c : Thread nD τ).loc main_arg3)

/-- The groups' weights, as launched. -/
abbrev W (c : Dev nD) : Vec Ideal S4x256x256 .f32 := m ((c : Thread nD τ).loc main_arg4)

/-- The plain mixed positions. -/
def plain (pc ps : Vec Ideal S8704x1024 .bf16) (cm sm : Vec Ideal S256x256 .bf16) (w : Vec Ideal S4x256x256 .f32) : Vec Ideal S512x1024 .bf16 :=
  Cert.DftCtxReferenceIdeal.Read.val_main_v18 (F := Ideal) pc ps cm sm w

/-- What the result array ends holding: the plain mixed positions. -/
abbrev G (c : Dev nD) : Buf (Elt Ideal) ((c : Thread nD τ).loc main_v1) := plain (PC m c) (PS m c) (C m c) (D m c) (W m c)

/-- The reference's sums over the positions, scaled, at a sample, a position, a group and a channel. -/
theorem sums_apply (pc ps : Vec Ideal S8704x1024 .bf16) (cm sm : Vec Ideal S256x256 .bf16) (b : Fin 2) (p : Fin 256) (g : Fin 4) (k : Fin 256) :
    Cert.DftCtxReferenceIdeal.Read.val_main_v14 (F := Ideal) pc ps cm sm (ix4 b p g k)
      = (∑ n : Fin 256, pc (ix2 (⟨8192 + (b.val * 256 + n.val), by omega⟩ : Fin 8704) (⟨g.val * 256 + k.val, by omega⟩ : Fin 1024)) * cm (ix2 p n)
        - ∑ n : Fin 256, ps (ix2 (⟨8192 + (b.val * 256 + n.val), by omega⟩ : Fin 8704) (⟨g.val * 256 + k.val, by omega⟩ : Fin 1024)) * sm (ix2 p n)) * Ideal.ofBits .f32 0x3B800000#32 := by
  pointwise [Cert.DftCtxReferenceIdeal.Read.val_main_v14, Cert.DftCtxReferenceIdeal.Read.val_main_v13, Cert.DftCtxReferenceIdeal.Read.val_main_v12, Cert.DftCtxReferenceIdeal.Read.val_main_v11, Cert.DftCtxReferenceIdeal.Read.val_main_v10, Cert.DftCtxReferenceIdeal.Read.val_main_v9, Cert.DftCtxReferenceIdeal.Read.val_main_v8, Cert.DftCtxReferenceIdeal.Read.val_main_v7, Cert.DftCtxReferenceIdeal.Read.val_main_v6, Cert.DftCtxReferenceIdeal.Read.val_main_v5, Cert.DftCtxReferenceIdeal.Read.val_main_v4, Cert.DftCtxReferenceIdeal.Read.val_main_v3, Cert.DftCtxReferenceIdeal.Read.val_main_v2, Cert.DftCtxReferenceIdeal.Read.val_main_v1, Cert.DftCtxReferenceIdeal.Read.val_main_v0, Cert.DftCtxReferenceIdeal.Read.val_main_cst]

/-- The plain mixed positions at a row and a column, by the scaled sums. -/
theorem plain_apply (pc ps : Vec Ideal S8704x1024 .bf16) (cm sm : Vec Ideal S256x256 .bf16) (w : Vec Ideal S4x256x256 .f32) (R : Fin 512) (L : Fin 1024) :
    plain pc ps cm sm w (ix2 R L) = ∑ k : Fin 256, w (ix3 (⟨L.val / 256, by omega⟩ : Fin 4) k (⟨L.val % 256, by omega⟩ : Fin 256))
      * Cert.DftCtxReferenceIdeal.Read.val_main_v14 (F := Ideal) pc ps cm sm (ix4 (⟨R.val / 256, by omega⟩ : Fin 2) (⟨R.val % 256, by omega⟩ : Fin 256) (⟨L.val / 256, by omega⟩ : Fin 4) k) := by
  unfold plain
  pointwise [Cert.DftCtxReferenceIdeal.Read.val_main_v18, Cert.DftCtxReferenceIdeal.Read.val_main_v17, Cert.DftCtxReferenceIdeal.Read.val_main_v16, Cert.DftCtxReferenceIdeal.Read.val_main_v15]

/-- The weights as the call finds them. -/
theorem weights (c : Dev nD) (g : Fin 4) (k d : Fin 256) : (V m c main_v0 : Vec Ideal S4x256x256 .bf16) (ix3 g k d) = W m c (ix3 g k d) := by
  unfold V
  after_results
  pointwise

/-- The cosines's block at a point. -/
theorem blk0 (c : Dev nD) (t : Fin cfg0.N) (r : Fin 256) (n : Fin 256)  :
    (iblk m c 0 t : Vec Ideal S256x256 .bf16) (ix2 r n) = C m c (ix2 r n) := by
  obtain ⟨a0, a1⟩ := idx0 t
  unfold iblk
  rw [View.read_apply]
  show V m c main_arg2 _ = _
  rw [V_main_arg2 m c]
  show C m c _ = _
  congr 1
  funext a
  apply Fin.ext
  match a with
  | ⟨0, _⟩ => show win0_0.index t 0 * 256 + 1 * r.val = r.val; rw [a0]; omega
  | ⟨1, _⟩ => show win0_0.index t 1 * 256 + 1 * n.val = n.val; rw [a1]; omega

/-- The sines's block at a point. -/
theorem blk1 (c : Dev nD) (t : Fin cfg0.N) (r : Fin 256) (n : Fin 256)  :
    (iblk m c 1 t : Vec Ideal S256x256 .bf16) (ix2 r n) = D m c (ix2 r n) := by
  obtain ⟨a0, a1⟩ := idx1 t
  unfold iblk
  rw [View.read_apply]
  show V m c main_arg3 _ = _
  rw [V_main_arg3 m c]
  show D m c _ = _
  congr 1
  funext a
  apply Fin.ext
  match a with
  | ⟨0, _⟩ => show win0_1.index t 0 * 256 + 1 * r.val = r.val; rw [a0]; omega
  | ⟨1, _⟩ => show win0_1.index t 1 * 256 + 1 * n.val = n.val; rw [a1]; omega

/-- The cosine parts's block at a point. -/
theorem blk2 (c : Dev nD) (t : Fin cfg0.N) (n : Fin 256) (R : Fin 8704) (l : Fin 512) (L : Fin 1024) (hR : R.val = (32 + t.val / 2) * 256 + n.val) (hL : L.val = t.val % 2 * 512 + l.val) :
    (iblk m c 2 t : Vec Ideal S256x512 .bf16) (ix2 n l) = PC m c (ix2 R L) := by
  obtain ⟨a0, a1⟩ := idx2 t
  unfold iblk
  rw [View.read_apply]
  show V m c main_arg0 _ = _
  rw [V_main_arg0 m c]
  show PC m c _ = _
  congr 1
  funext a
  apply Fin.ext
  match a with
  | ⟨0, _⟩ => show win0_2.index t 0 * 256 + 1 * n.val = R.val; rw [a0]; omega
  | ⟨1, _⟩ => show win0_2.index t 1 * 512 + 1 * l.val = L.val; rw [a1]; omega

/-- The sine parts's block at a point. -/
theorem blk3 (c : Dev nD) (t : Fin cfg0.N) (n : Fin 256) (R : Fin 8704) (l : Fin 512) (L : Fin 1024) (hR : R.val = (32 + t.val / 2) * 256 + n.val) (hL : L.val = t.val % 2 * 512 + l.val) :
    (iblk m c 3 t : Vec Ideal S256x512 .bf16) (ix2 n l) = PS m c (ix2 R L) := by
  obtain ⟨a0, a1⟩ := idx3 t
  unfold iblk
  rw [View.read_apply]
  show V m c main_arg1 _ = _
  rw [V_main_arg1 m c]
  show PS m c _ = _
  congr 1
  funext a
  apply Fin.ext
  match a with
  | ⟨0, _⟩ => show win0_3.index t 0 * 256 + 1 * n.val = R.val; rw [a0]; omega
  | ⟨1, _⟩ => show win0_3.index t 1 * 512 + 1 * l.val = L.val; rw [a1]; omega

/-- The groups' weights's block at a point, whatever the arrays hold. -/
theorem read4 (c : Dev nD) (v : (b : Ref sig .tc) → Buf (Elt Ideal) ((c : Thread nD τ).loc b)) (t : Fin cfg0.N) (h : Fin 2) (g : Fin 4) (k : Fin 256) (d : Fin 256) (hg : g.val = t.val % 2 * 2 + h.val) :
    (((cfg0.win 4).blk t).view.read (Elt Ideal) (v (Pipeline.arrRef spec0 4)) : Vec Ideal S2x256x256 .bf16) (ix3 h k d) = (v main_v0 : Vec Ideal S4x256x256 .bf16) (ix3 g k d) := by
  obtain ⟨a0, a1, a2⟩ := idx4 t
  rw [View.read_apply]
  show v main_v0 _ = _
  congr 1
  funext a
  apply Fin.ext
  match a with
  | ⟨0, _⟩ => show win0_4.index t 0 * 2 + 1 * h.val = g.val; rw [a0]; omega
  | ⟨1, _⟩ => show win0_4.index t 1 * 256 + 1 * k.val = k.val; rw [a1]; omega
  | ⟨2, _⟩ => show win0_4.index t 2 * 256 + 1 * d.val = d.val; rw [a2]; omega

/-- The groups' weights at a point, by the group in the whole array. -/
theorem blk4 (c : Dev nD) (t : Fin cfg0.N) (h : Fin 2) (g : Fin 4) (k d : Fin 256) (hg : g.val = t.val % 2 * 2 + h.val) :
    (iblk m c 4 t : Vec Ideal S2x256x256 .bf16) (ix3 h k d) = W m c (ix3 g k d) := by
  unfold iblk
  exact (read4 c (V m c) t h g k d hg).trans (weights m c g k d)

/-- Two equal factors, turned about. -/
theorem turn {a b x y : EReal} (h : a = x) (h' : b = y) : a * b = y * x := by rw [h, h', mul_comm]

/-- A point's scaled difference is the reference's scaled sum. -/
theorem wave_blk (c : Dev nD) (t : Fin cfg0.N) (r : Fin 256) (l : Fin 512) (b : Fin 2) (g : Fin 4) (k : Fin 256) (hb : b.val = t.val / 2)
    (hl : g.val * 256 + k.val = t.val % 2 * 512 + l.val) :
    wave (iblk m c 0 t) (iblk m c 1 t) (iblk m c 2 t) (iblk m c 3 t) r l
      = Cert.DftCtxReferenceIdeal.Read.val_main_v14 (F := Ideal) (PC m c) (PS m c) (C m c) (D m c) (ix4 b r g k) := by
  rw [sums_apply]
  unfold wave
  refine congrArg (· * Ideal.ofBits .f32 0x3B800000#32) (congrArg₂ (· - ·) ?_ ?_)
  · exact Finset.sum_congr rfl fun n _ => turn (blk0 m c t r n) (blk2 m c t n _ l _ (by dsimp only; omega) hl)
  · exact Finset.sum_congr rfl fun n _ => turn (blk1 m c t r n) (blk3 m c t n _ l _ (by dsimp only; omega) hl)

/-- What a point writes back is its block of the plain mixed positions. -/
theorem flushed_eq (c : Dev nD) (t : Fin cfg0.N) (_ : (cfg0.win 5).flush t = true) :
    (dats m 0 c).flushed 5 t = ((cfg0.win 5).blk t).view.read (Elt Ideal) (G m c) := by
  rw [Value.flushed5]
  obtain ⟨d0, d1⟩ := idx5 t
  have hN : cfg0.N = 4 := N_0
  have ht := t.isLt
  funext j
  obtain ⟨r, l, rfl⟩ : ∃ (r : Fin 256) (l : Fin 512), j = ix2 r l := ⟨j 0, j 1, eq_ix2 j⟩
  have hr := r.isLt
  have hl := l.isLt
  have he : ((cfg0.win 5).blk t).view.emb (ix2 r l) = ix2 (⟨t.val / 2 * 256 + r.val, by omega⟩ : Fin 512) (⟨t.val % 2 * 512 + l.val, by omega⟩ : Fin 1024) := by
    funext a
    apply Fin.ext
    match a with
    | ⟨0, _⟩ => show win0_5.index t 0 * 256 + 1 * r.val = t.val / 2 * 256 + r.val; rw [d0]; omega
    | ⟨1, _⟩ => show win0_5.index t 1 * 512 + 1 * l.val = t.val % 2 * 512 + l.val; rw [d1]; omega
  rw [View.read_apply, he]
  show out0_5 (iblk m c 0 t) (iblk m c 1 t) (iblk m c 2 t) (iblk m c 3 t) (iblk m c 4 t) (ix2 r l) = plain (PC m c) (PS m c) (C m c) (D m c) (W m c) (ix2 (⟨t.val / 2 * 256 + r.val, by omega⟩ : Fin 512) (⟨t.val % 2 * 512 + l.val, by omega⟩ : Fin 1024))
  rw [out_apply, plain_apply]
  unfold entry
  refine Finset.sum_congr rfl fun k _ => (mul_comm _ _).trans (congrArg₂ (· * ·) ?_ ?_)
  · refine (blk4 m c t _ (⟨(t.val % 2 * 512 + l.val) / 256, by omega⟩ : Fin 4) k _ (by dsimp only; omega)).trans ?_
    exact congrArg (fun d => W m c (ix3 _ k d)) (Fin.ext (by dsimp only; omega))
  · exact (wave_blk m c t r _ _ _ _ (by dsimp only; omega) (by dsimp only; omega)).trans (congrArg (fun p => Cert.DftCtxReferenceIdeal.Read.val_main_v14 (F := Ideal) (PC m c) (PS m c) (C m c) (D m c) (ix4 _ p _ k)) (Fin.ext (by dsimp only; omega)))

/-- Every index of the result lies in the block of some point. -/
theorem cover (i : S512x1024.Idx) : ∃ t : Fin cfg0.N, (cfg0.win 5).flush t = true ∧ i ∈ ((cfg0.win 5).blk t).view.set := by
  have h0 : (i 0 : Nat) < 512 := (i 0).isLt
  have h1 : (i 1 : Nat) < 1024 := (i 1).isLt
  have hN : cfg0.N = 4 := N_0
  refine ⟨⟨(i 0 : Nat) / 256 * 2 + (i 1 : Nat) / 512, by omega⟩, flush5 _, ?_⟩
  generalize ht : (⟨(i 0 : Nat) / 256 * 2 + (i 1 : Nat) / 512, by omega⟩ : Fin cfg0.N) = t
  have hv : t.val = (i 0 : Nat) / 256 * 2 + (i 1 : Nat) / 512 := by rw [← ht]
  obtain ⟨d0, d1⟩ := idx5 t
  obtain ⟨s0, s1⟩ := size5 t
  show i ∈ ((View.whole main_v1).slice (win0_5.rect t)).set
  rw [View.set_slice_whole, Rect.mem_set_unit]
  intro a
  match a with
  | ⟨0, _⟩ => show win0_5.index t 0 * 256 ≤ (i 0 : Nat) ∧ (i 0 : Nat) < win0_5.index t 0 * 256 + win0_5.xsize (grid0.coords t) 0
              rw [d0, s0]; omega
  | ⟨1, _⟩ => show win0_5.index t 1 * 512 ≤ (i 1 : Nat) ∧ (i 1 : Nat) < win0_5.index t 1 * 512 + win0_5.xsize (grid0.coords t) 1
              rw [d1, s1]; omega

/-- The result's array ends holding the plain one. -/
theorem final (c : Dev nD) : (dats m 0 c).arrAt 5 cfg0.N = G m c :=
  (dats m 0 c).arrAt_eq_of_cover 5 (G m c) (flushed_eq m c) cover

end Cert.DftCtxIdeal.Blocks

namespace Cert.Proof

open Idealize.ShloMosaic Idealize.ShloMosaic.TcCoe Idealize.SL.Sem

/-- The Fourier mixer over the context positions computes, on the extended reals, the plain mixed positions. -/
theorem dftCtx_algebraic : Cert.algebraic_DftCtxIdeal_DftCtxReferenceIdeal
    (hDftCtxIdeal := Cert.DftCtxIdeal.Gen.facts) (hDftCtxReferenceIdeal := Cert.DftCtxReferenceIdeal.Gen.facts) := by
  intro m g m' g' _ hargs
  refine ⟨fun c => Cert.DftCtxIdeal.Blocks.G m c, ?_, ?_⟩
  · refine (θ_run _ _ _).mono (fun r h c => ?_) (Cert.DftCtxIdeal.Value.run_blocks m g)
    obtain ⟨h0, h1, h2, h3, h4, h5⟩ := h c
    exact ⟨h0.trans (Cert.DftCtxIdeal.Blocks.final m c), h1, h2, h3, h4, h5⟩
  · refine (θ_run _ _ _).mono (fun r h c => ?_) (Cert.DftCtxReferenceIdeal.Value.run m' g')
    obtain ⟨h0, h1, h2, h3, h4, h5⟩ := h c
    obtain ⟨e0, e1, e2, e3, e4⟩ := hargs c
    refine ⟨h0.trans ?_, h1, h2, h3, h4, h5⟩
    rw [Cert.DftCtxReferenceIdeal.Read.val_main_v18_eq, e0, e1, e2, e3, e4]
    rfl

end Cert.Proof

end
-- ==== Proof.ModulateValue.lean ====
/- The value of the modulation: a row times one plus its sample's scale, plus its sample's shift. -/
module

public import proofs.«01_k».proof.Defs
public import proofs.«01_k».proof.Proof.Gen.ModulateIdeal.Value
public import proofs.«01_k».proof.Proof.Gen.ModulateReferenceIdeal.Run
public import proofs.«01_k».proof.Proof.Gen.ModulateReferenceIdeal.Read
public import proofs.«01_k».proof.Proof.Gen.ModulateIdeal.Frame
public import proofs.«01_k».proof.Proof.Gen.Modulate.Frame
public import Idealize.ShloMosaic.Lib.Pointwise

@[expose] public section

set_option maxRecDepth 16384

noncomputable section

namespace Cert.ModulateIdeal.Blocks

open Cert.ModulateIdeal Cert.ModulateIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The zero offsets of a whole-block access, two axes. -/
theorem hz : (![0, 0] : Fin 2 → Nat) = fun _ => 0 := funext fun a => by fin_cases a <;> rfl

/-- The zero offsets of a whole-block access, three axes. -/
theorem hz3 : (![0, 0, 0] : Fin 3 → Nat) = fun _ => 0 := funext fun a => by fin_cases a <;> rfl

/-- The tile of rows at a point. -/
theorem idx0 : ∀ t : Fin cfg0.N, win0_0.index t 0 = t.val ∧ win0_0.index t 1 = 0 :=
  (by decide +kernel : ∀ t : Fin grid0.N, win0_0.index t 0 = t.val ∧ win0_0.index t 1 = 0)

/-- The scale's row at a point. -/
theorem idx1 : ∀ t : Fin cfg0.N, win0_1.index t 0 = min (t.val / 16) 2 * 6 + 1 ∧ win0_1.index t 1 = 0 ∧ win0_1.index t 2 = 0 :=
  (by decide +kernel : ∀ t : Fin grid0.N, win0_1.index t 0 = min (t.val / 16) 2 * 6 + 1 ∧ win0_1.index t 1 = 0 ∧ win0_1.index t 2 = 0)

/-- The shift's row at a point. -/
theorem idx2 : ∀ t : Fin cfg0.N, win0_2.index t 0 = min (t.val / 16) 2 * 6 ∧ win0_2.index t 1 = 0 ∧ win0_2.index t 2 = 0 :=
  (by decide +kernel : ∀ t : Fin grid0.N, win0_2.index t 0 = min (t.val / 16) 2 * 6 ∧ win0_2.index t 1 = 0 ∧ win0_2.index t 2 = 0)

/-- The tile of the result at a point. -/
theorem idx3 : ∀ t : Fin cfg0.N, win0_3.index t 0 = t.val ∧ win0_3.index t 1 = 0 :=
  (by decide +kernel : ∀ t : Fin grid0.N, win0_3.index t 0 = t.val ∧ win0_3.index t 1 = 0)

/-- No transfer of the result is cut short. -/
theorem size3 : ∀ t : Fin cfg0.N, win0_3.xsize (grid0.coords t) 0 = 256 ∧ win0_3.xsize (grid0.coords t) 1 = 4096 :=
  (by decide +kernel : ∀ t : Fin grid0.N, win0_3.xsize (grid0.coords t) 0 = 256 ∧ win0_3.xsize (grid0.coords t) 1 = 4096)

/-- Every point writes its block of the result back. -/
theorem flush3 : ∀ t : Fin cfg0.N, (cfg0.win 3).flush t = true :=
  (by decide +kernel : ∀ t : Fin grid0.N, win0_3.flush t = true)

/-- The block the body leaves, at a row and a column. -/
theorem out_apply (x : Vec Ideal S256x4096 .f32) (sc sh : Vec Ideal S1x1x4096 .f32) (r : Fin 256) (l : Fin 4096) :
    out0_3 x sc sh (ix2 r l) = x (ix2 r l) * (Ideal.ofBits .f32 0x3F800000#32 + sc (ix3 0 0 l)) + sh (ix3 0 0 l) := by
  unfold out0_3
  rw [View.canon_unit_zero hz, View.ld_unit_zero (S := S256x4096) hz, View.ld_unit_zero (S := S1x1x4096) hz3, View.ld_unit_zero (S := S1x1x4096) hz3]
  pointwise [k0_pay1]

/-- The rows, as launched. -/
abbrev X (c : Dev nD) : Vec Ideal S8704x4096 .f32 := m ((c : Thread nD τ).loc main_arg0)

/-- The modulation's rows, as launched. -/
abbrev M (c : Dev nD) : Vec Ideal S8x24576 .f32 := m ((c : Thread nD τ).loc main_arg1)

/-- The modulation's row of a row of the layer: its sample's, or the context's. -/
def sample (R : Fin 8704) : Fin 8 := ⟨min (R.val / 4096) 2, by omega⟩

/-- The plain modulated rows. -/
def plain (x : Vec Ideal S8704x4096 .f32) (md : Vec Ideal S8x24576 .f32) : Vec Ideal S8704x4096 .bf16 :=
  Cert.ModulateReferenceIdeal.Read.val_main_v20 (F := Ideal) x md

/-- What the result array ends holding: the plain modulated rows. -/
abbrev G (c : Dev nD) : Buf (Elt Ideal) ((c : Thread nD τ).loc main_v1) := plain (X m c) (M m c)

/-- The reference's shift of a row. -/
theorem shift_apply (md : Vec Ideal S8x24576 .f32) (R : Fin 8704) (l : Fin 4096) :
    Cert.ModulateReferenceIdeal.Read.val_main_v7 (F := Ideal) md (ix2 R l) = md (ix2 (sample R) (⟨0 + l.val, by omega⟩ : Fin 24576)) := by
  unfold sample
  pointwise [Cert.ModulateReferenceIdeal.Read.val_main_v7, Cert.ModulateReferenceIdeal.Read.val_main_v6, Cert.ModulateReferenceIdeal.Read.val_main_v5, Cert.ModulateReferenceIdeal.Read.val_main_v4, Cert.ModulateReferenceIdeal.Read.val_main_v3, Cert.ModulateReferenceIdeal.Read.val_main_v2, Cert.ModulateReferenceIdeal.Read.val_main_v1, Cert.ModulateReferenceIdeal.Read.val_main_v0]
  split_ifs with h
  · exact congrArg md (congrArg (fun a => ix2 a _) (Fin.ext (show R.val / 4096 = min (R.val / 4096) 2 by omega)))
  · exact congrArg md (congrArg (fun a => ix2 a _) (Fin.ext (show 2 = min (R.val / 4096) 2 by omega)))

/-- The reference's scale of a row. -/
theorem scale_apply (md : Vec Ideal S8x24576 .f32) (R : Fin 8704) (l : Fin 4096) :
    Cert.ModulateReferenceIdeal.Read.val_main_v15 (F := Ideal) md (ix2 R l) = md (ix2 (sample R) (⟨4096 + l.val, by omega⟩ : Fin 24576)) := by
  unfold sample
  pointwise [Cert.ModulateReferenceIdeal.Read.val_main_v15, Cert.ModulateReferenceIdeal.Read.val_main_v14, Cert.ModulateReferenceIdeal.Read.val_main_v13, Cert.ModulateReferenceIdeal.Read.val_main_v12, Cert.ModulateReferenceIdeal.Read.val_main_v11, Cert.ModulateReferenceIdeal.Read.val_main_v10, Cert.ModulateReferenceIdeal.Read.val_main_v9, Cert.ModulateReferenceIdeal.Read.val_main_v8]
  split_ifs with h
  · exact congrArg md (congrArg (fun a => ix2 a _) (Fin.ext (show R.val / 4096 = min (R.val / 4096) 2 by omega)))
  · exact congrArg md (congrArg (fun a => ix2 a _) (Fin.ext (show 2 = min (R.val / 4096) 2 by omega)))

/-- The plain modulated rows at a row and a column. -/
theorem plain_apply (x : Vec Ideal S8704x4096 .f32) (md : Vec Ideal S8x24576 .f32) (R : Fin 8704) (l : Fin 4096) :
    plain x md (ix2 R l) = x (ix2 R l) * (Ideal.ofBits .f32 0x3F800000#32 + md (ix2 (sample R) (⟨4096 + l.val, by omega⟩ : Fin 24576))) + md (ix2 (sample R) (⟨0 + l.val, by omega⟩ : Fin 24576)) := by
  rw [← scale_apply md R l, ← shift_apply md R l]
  rfl

/-- The modulation's rows as the call finds them: six rows of one line for a row. -/
theorem modRows (c : Dev nD) (p : Fin 48) (l : Fin 4096) (q : Fin 8) (L : Fin 24576) (h : q.val * 24576 + L.val = p.val * 4096 + l.val) :
    (V m c main_v0 : Vec Ideal S48x1x4096 .f32) (ix3 p 0 l) = M m c (ix2 q L) := by
  have e : (V m c main_v0 : Vec Ideal S48x1x4096 .f32) (ix3 p 0 l) = M m c (ix2 (⟨p.val / 6, by omega⟩ : Fin 8) (⟨p.val % 6 * 4096 + l.val, by omega⟩ : Fin 24576)) := by
    unfold V
    after_results
    pointwise
  rw [e]
  exact congrArg₂ (fun a b => M m c (ix2 a b)) (Fin.ext (by dsimp only; omega)) (Fin.ext (by dsimp only; omega))

/-- The rows's block at a point. -/
theorem blk0 (c : Dev nD) (t : Fin cfg0.N) (r : Fin 256) (R : Fin 8704) (l : Fin 4096) (hR : R.val = t.val * 256 + r.val) :
    (iblk m c 0 t : Vec Ideal S256x4096 .f32) (ix2 r l) = X m c (ix2 R l) := by
  obtain ⟨a0, a1⟩ := idx0 t
  unfold iblk
  rw [View.read_apply]
  show V m c main_arg0 _ = _
  rw [V_main_arg0 m c]
  show X m c _ = _
  congr 1
  funext a
  apply Fin.ext
  match a with
  | ⟨0, _⟩ => show win0_0.index t 0 * 256 + 1 * r.val = R.val; rw [a0]; omega
  | ⟨1, _⟩ => show win0_0.index t 1 * 4096 + 1 * l.val = l.val; rw [a1]; omega

/-- The scale's block at a point, whatever the arrays hold. -/
theorem read1 (c : Dev nD) (v : (b : Ref sig .tc) → Buf (Elt Ideal) ((c : Thread nD τ).loc b)) (t : Fin cfg0.N) (p : Fin 48) (l : Fin 4096) (hp : p.val = min (t.val / 16) 2 * 6 + 1) :
    (((cfg0.win 1).blk t).view.read (Elt Ideal) (v (Pipeline.arrRef spec0 1)) : Vec Ideal S1x1x4096 .f32) (ix3 0 0 l) = (v main_v0 : Vec Ideal S48x1x4096 .f32) (ix3 p 0 l) := by
  obtain ⟨a0, a1, a2⟩ := idx1 t
  rw [View.read_apply]
  show v main_v0 _ = _
  congr 1
  funext a
  apply Fin.ext
  match a with
  | ⟨0, _⟩ => show win0_1.index t 0 * 1 + 1 * 0 = p.val; rw [a0]; omega
  | ⟨1, _⟩ => show win0_1.index t 1 * 1 + 1 * 0 = 0; rw [a1]
  | ⟨2, _⟩ => show win0_1.index t 2 * 4096 + 1 * l.val = l.val; rw [a2]; omega

/-- The scale's block at a point, by the row it belongs to. -/
theorem blk1 (c : Dev nD) (t : Fin cfg0.N) (l : Fin 4096) (R : Fin 8704) (r : Fin 256) (hR : R.val = t.val * 256 + r.val) :
    (iblk m c 1 t : Vec Ideal S1x1x4096 .f32) (ix3 0 0 l) = M m c (ix2 (sample R) (⟨4096 + l.val, by omega⟩ : Fin 24576)) := by
  have hN : cfg0.N = 34 := N_0
  have ht := t.isLt
  unfold iblk
  refine (read1 c (V m c) t (⟨min (t.val / 16) 2 * 6 + 1, by omega⟩ : Fin 48) l rfl).trans (modRows m c _ l (sample R) _ ?_)
  show min (R.val / 4096) 2 * 24576 + (4096 + l.val) = (min (t.val / 16) 2 * 6 + 1) * 4096 + l.val
  omega

/-- The shift's block at a point, whatever the arrays hold. -/
theorem read2 (c : Dev nD) (v : (b : Ref sig .tc) → Buf (Elt Ideal) ((c : Thread nD τ).loc b)) (t : Fin cfg0.N) (p : Fin 48) (l : Fin 4096) (hp : p.val = min (t.val / 16) 2 * 6) :
    (((cfg0.win 2).blk t).view.read (Elt Ideal) (v (Pipeline.arrRef spec0 2)) : Vec Ideal S1x1x4096 .f32) (ix3 0 0 l) = (v main_v0 : Vec Ideal S48x1x4096 .f32) (ix3 p 0 l) := by
  obtain ⟨a0, a1, a2⟩ := idx2 t
  rw [View.read_apply]
  show v main_v0 _ = _
  congr 1
  funext a
  apply Fin.ext
  match a with
  | ⟨0, _⟩ => show win0_2.index t 0 * 1 + 1 * 0 = p.val; rw [a0]; omega
  | ⟨1, _⟩ => show win0_2.index t 1 * 1 + 1 * 0 = 0; rw [a1]
  | ⟨2, _⟩ => show win0_2.index t 2 * 4096 + 1 * l.val = l.val; rw [a2]; omega

/-- The shift's block at a point, by the row it belongs to. -/
theorem blk2 (c : Dev nD) (t : Fin cfg0.N) (l : Fin 4096) (R : Fin 8704) (r : Fin 256) (hR : R.val = t.val * 256 + r.val) :
    (iblk m c 2 t : Vec Ideal S1x1x4096 .f32) (ix3 0 0 l) = M m c (ix2 (sample R) (⟨0 + l.val, by omega⟩ : Fin 24576)) := by
  have hN : cfg0.N = 34 := N_0
  have ht := t.isLt
  unfold iblk
  refine (read2 c (V m c) t (⟨min (t.val / 16) 2 * 6 + 0, by omega⟩ : Fin 48) l rfl).trans (modRows m c _ l (sample R) _ ?_)
  show min (R.val / 4096) 2 * 24576 + (0 + l.val) = (min (t.val / 16) 2 * 6 + 0) * 4096 + l.val
  omega

/-- What a point writes back is its block of the plain modulated rows. -/
theorem flushed_eq (c : Dev nD) (t : Fin cfg0.N) (_ : (cfg0.win 3).flush t = true) :
    (dats m 0 c).flushed 3 t = ((cfg0.win 3).blk t).view.read (Elt Ideal) (G m c) := by
  rw [Value.flushed3]
  obtain ⟨d0, d1⟩ := idx3 t
  have hN : cfg0.N = 34 := N_0
  have ht := t.isLt
  funext j
  obtain ⟨r, l, rfl⟩ : ∃ (r : Fin 256) (l : Fin 4096), j = ix2 r l := ⟨j 0, j 1, eq_ix2 j⟩
  have hr := r.isLt
  have hl := l.isLt
  have he : ((cfg0.win 3).blk t).view.emb (ix2 r l) = ix2 (⟨t.val * 256 + r.val, by omega⟩ : Fin 8704) l := by
    funext a
    apply Fin.ext
    match a with
    | ⟨0, _⟩ => show win0_3.index t 0 * 256 + 1 * r.val = t.val * 256 + r.val; rw [d0]; omega
    | ⟨1, _⟩ => show win0_3.index t 1 * 4096 + 1 * l.val = l.val; rw [d1]; omega
  rw [View.read_apply, he]
  show out0_3 (iblk m c 0 t) (iblk m c 1 t) (iblk m c 2 t) (ix2 r l) = plain (X m c) (M m c) (ix2 (⟨t.val * 256 + r.val, by omega⟩ : Fin 8704) l)
  rw [out_apply, plain_apply]
  exact congrArg₂ (· + ·) (congrArg₂ (· * ·) (blk0 m c t r _ l rfl) (congrArg (Ideal.ofBits .f32 0x3F800000#32 + ·) (blk1 m c t l _ r rfl))) (blk2 m c t l _ r rfl)

/-- Every index of the result lies in the block of some point. -/
theorem cover (i : S8704x4096.Idx) : ∃ t : Fin cfg0.N, (cfg0.win 3).flush t = true ∧ i ∈ ((cfg0.win 3).blk t).view.set := by
  have h0 : (i 0 : Nat) < 8704 := (i 0).isLt
  have h1 : (i 1 : Nat) < 4096 := (i 1).isLt
  have hN : cfg0.N = 34 := N_0
  refine ⟨⟨(i 0 : Nat) / 256, by omega⟩, flush3 _, ?_⟩
  generalize ht : (⟨(i 0 : Nat) / 256, by omega⟩ : Fin cfg0.N) = t
  have hv : t.val = (i 0 : Nat) / 256 := by rw [← ht]
  obtain ⟨d0, d1⟩ := idx3 t
  obtain ⟨s0, s1⟩ := size3 t
  show i ∈ ((View.whole main_v1).slice (win0_3.rect t)).set
  rw [View.set_slice_whole, Rect.mem_set_unit]
  intro a
  match a with
  | ⟨0, _⟩ => show win0_3.index t 0 * 256 ≤ (i 0 : Nat) ∧ (i 0 : Nat) < win0_3.index t 0 * 256 + win0_3.xsize (grid0.coords t) 0
              rw [d0, s0]; omega
  | ⟨1, _⟩ => show win0_3.index t 1 * 4096 ≤ (i 1 : Nat) ∧ (i 1 : Nat) < win0_3.index t 1 * 4096 + win0_3.xsize (grid0.coords t) 1
              rw [d1, s1]; omega

/-- The result's array ends holding the plain one. -/
theorem final (c : Dev nD) : (dats m 0 c).arrAt 3 cfg0.N = G m c :=
  (dats m 0 c).arrAt_eq_of_cover 3 (G m c) (flushed_eq m c) cover

end Cert.ModulateIdeal.Blocks

namespace Cert.Proof

open Idealize.ShloMosaic Idealize.ShloMosaic.TcCoe Idealize.SL.Sem

/-- The modulation computes, on the extended reals, the plain modulated rows. -/
theorem modulate_algebraic : Cert.algebraic_ModulateIdeal_ModulateReferenceIdeal
    (hModulateIdeal := Cert.ModulateIdeal.Gen.facts) (hModulateReferenceIdeal := Cert.ModulateReferenceIdeal.Gen.facts) := by
  intro m g m' g' _ hargs
  refine ⟨fun c => Cert.ModulateIdeal.Blocks.G m c, ?_, ?_⟩
  · refine (θ_run _ _ _).mono (fun r h c => ?_) (Cert.ModulateIdeal.Value.run_blocks m g)
    obtain ⟨h0, h1, h2⟩ := h c
    exact ⟨h0.trans (Cert.ModulateIdeal.Blocks.final m c), h1, h2⟩
  · refine (θ_run _ _ _).mono (fun r h c => ?_) (Cert.ModulateReferenceIdeal.Value.run m' g')
    obtain ⟨h0, h1, h2⟩ := h c
    obtain ⟨e0, e1⟩ := hargs c
    refine ⟨h0.trans ?_, h1, h2⟩
    rw [Cert.ModulateReferenceIdeal.Read.val_main_v20_eq, e0, e1]
    rfl

end Cert.Proof

end
-- ==== Proof.ResidLnValue.lean ====
/- The value of the gated residual sum and its norm: the sum's rows centred and scaled to unit variance, times the gain plus the bias, and the same rows modulated. -/
module

public import proofs.«01_k».proof.Defs
public import proofs.«01_k».proof.Proof.Gen.ResidLnIdeal.Value
public import proofs.«01_k».proof.Proof.Gen.ResidLnReferenceIdeal.Run
public import proofs.«01_k».proof.Proof.Gen.ResidLnReferenceIdeal.Read
public import proofs.«01_k».proof.Proof.Gen.ResidLnIdeal.Frame
public import proofs.«01_k».proof.Proof.Gen.ResidLn.Frame
public import Idealize.ShloMosaic.Lib.Pointwise

@[expose] public section

set_option maxRecDepth 16384

noncomputable section

namespace Cert.ResidLnIdeal.Blocks

open Cert.ResidLnIdeal Cert.ResidLnIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The zero offsets of a whole-block access, two axes. -/
theorem hz : (![0, 0] : Fin 2 → Nat) = fun _ => 0 := funext fun a => by fin_cases a <;> rfl

/-- The zero offsets of a whole-block access, three axes. -/
theorem hz3 : (![0, 0, 0] : Fin 3 → Nat) = fun _ => 0 := funext fun a => by fin_cases a <;> rfl

/-- The tile of rows at a point. -/
theorem idx0 : ∀ t : Fin cfg0.N, win0_0.index t 0 = t.val ∧ win0_0.index t 1 = 0 :=
  (by decide +kernel : ∀ t : Fin grid0.N, win0_0.index t 0 = t.val ∧ win0_0.index t 1 = 0)

/-- The tile of the branch's rows at a point. -/
theorem idx1 : ∀ t : Fin cfg0.N, win0_1.index t 0 = t.val ∧ win0_1.index t 1 = 0 :=
  (by decide +kernel : ∀ t : Fin grid0.N, win0_1.index t 0 = t.val ∧ win0_1.index t 1 = 0)

/-- The gate's row at a point. -/
theorem idx2 : ∀ t : Fin cfg0.N, win0_2.index t 0 = min (t.val / 16) 2 * 6 + 2 ∧ win0_2.index t 1 = 0 ∧ win0_2.index t 2 = 0 :=
  (by decide +kernel : ∀ t : Fin grid0.N, win0_2.index t 0 = min (t.val / 16) 2 * 6 + 2 ∧ win0_2.index t 1 = 0 ∧ win0_2.index t 2 = 0)

/-- The gain, whole, at a point. -/
theorem idx3 : ∀ t : Fin cfg0.N, win0_3.index t 0 = 0 ∧ win0_3.index t 1 = 0 :=
  (by decide +kernel : ∀ t : Fin grid0.N, win0_3.index t 0 = 0 ∧ win0_3.index t 1 = 0)

/-- The bias, whole, at a point. -/
theorem idx4 : ∀ t : Fin cfg0.N, win0_4.index t 0 = 0 ∧ win0_4.index t 1 = 0 :=
  (by decide +kernel : ∀ t : Fin grid0.N, win0_4.index t 0 = 0 ∧ win0_4.index t 1 = 0)

/-- The scale's row at a point. -/
theorem idx5 : ∀ t : Fin cfg0.N, win0_5.index t 0 = min (t.val / 16) 2 * 6 + 4 ∧ win0_5.index t 1 = 0 ∧ win0_5.index t 2 = 0 :=
  (by decide +kernel : ∀ t : Fin grid0.N, win0_5.index t 0 = min (t.val / 16) 2 * 6 + 4 ∧ win0_5.index t 1 = 0 ∧ win0_5.index t 2 = 0)

/-- The shift's row at a point. -/
theorem idx6 : ∀ t : Fin cfg0.N, win0_6.index t 0 = min (t.val / 16) 2 * 6 + 3 ∧ win0_6.index t 1 = 0 ∧ win0_6.index t 2 = 0 :=
  (by decide +kernel : ∀ t : Fin grid0.N, win0_6.index t 0 = min (t.val / 16) 2 * 6 + 3 ∧ win0_6.index t 1 = 0 ∧ win0_6.index t 2 = 0)

/-- The tile of the normed rows at a point. -/
theorem idx7 : ∀ t : Fin cfg0.N, win0_7.index t 0 = t.val ∧ win0_7.index t 1 = 0 :=
  (by decide +kernel : ∀ t : Fin grid0.N, win0_7.index t 0 = t.val ∧ win0_7.index t 1 = 0)

/-- The tile of the modulated rows at a point. -/
theorem idx8 : ∀ t : Fin cfg0.N, win0_8.index t 0 = t.val ∧ win0_8.index t 1 = 0 :=
  (by decide +kernel : ∀ t : Fin grid0.N, win0_8.index t 0 = t.val ∧ win0_8.index t 1 = 0)

/-- No transfer of the normed rows is cut short. -/
theorem size7 : ∀ t : Fin cfg0.N, win0_7.xsize (grid0.coords t) 0 = 256 ∧ win0_7.xsize (grid0.coords t) 1 = 4096 :=
  (by decide +kernel : ∀ t : Fin grid0.N, win0_7.xsize (grid0.coords t) 0 = 256 ∧ win0_7.xsize (grid0.coords t) 1 = 4096)

/-- Every point writes its block of the normed rows back. -/
theorem flush7 : ∀ t : Fin cfg0.N, (cfg0.win 7).flush t = true :=
  (by decide +kernel : ∀ t : Fin grid0.N, win0_7.flush t = true)

/-- No transfer of the modulated rows is cut short. -/
theorem size8 : ∀ t : Fin cfg0.N, win0_8.xsize (grid0.coords t) 0 = 256 ∧ win0_8.xsize (grid0.coords t) 1 = 4096 :=
  (by decide +kernel : ∀ t : Fin grid0.N, win0_8.xsize (grid0.coords t) 0 = 256 ∧ win0_8.xsize (grid0.coords t) 1 = 4096)

/-- Every point writes its block of the modulated rows back. -/
theorem flush8 : ∀ t : Fin cfg0.N, (cfg0.win 8).flush t = true :=
  (by decide +kernel : ∀ t : Fin grid0.N, win0_8.flush t = true)

/-- An entry of the gated residual sum: the row's entry scaled, plus the branch's entry gated. -/
def sum2 (x g a : EReal) : EReal := Ideal.ofBits .f32 0x3FD744FD#32 * x + g * a

/-- An entry of a row less the row's mean. -/
def centred (f : Fin 4096 → EReal) (k : Fin 4096) : EReal := f k - Ideal.div (∑ j, f j) (Ideal.ofBits .f32 0x45800000#32)

/-- An entry of a row less its mean, over the root of the row's variance and a small constant, times a gain, plus a bias. -/
def lnorm (f : Fin 4096 → EReal) (g b : EReal) (k : Fin 4096) : EReal :=
  centred f k * Ideal.rsqrt (Ideal.div (∑ j, centred f j * centred f j) (Ideal.ofBits .f32 0x45800000#32) + Ideal.ofBits .f32 0x358637BD#32) * g + b

/-- The normed tile, at a row and a column. -/
theorem norm_apply (x a : Vec Ideal S256x4096 .f32) (gt : Vec Ideal S1x1x4096 .f32) (g b : Vec Ideal S1x4096 .f32) (r : Fin 256) (l : Fin 4096) :
    k0_pay2 x gt a g b (ix2 r l) = lnorm (fun k => sum2 (x (ix2 r k)) (gt (ix3 0 0 k)) (a (ix2 r k))) (g (ix2 0 l)) (b (ix2 0 l)) l := by
  unfold lnorm centred sum2
  pointwise [k0_pay2]

/-- The modulated tile, at a row and a column, whatever the normed tile is. -/
theorem mod_apply (y : FVec Ideal S256x4096 .f32) (sc sh : Vec Ideal S1x1x4096 .f32) (r : Fin 256) (l : Fin 4096) :
    k0_pay1 y (k0_pay3 sc) sh (ix2 r l) = y (ix2 r l) * (Ideal.ofBits .f32 0x3F800000#32 + sc (ix3 0 0 l)) + sh (ix3 0 0 l) := by
  pointwise [k0_pay1, k0_pay3]

/-- The block of normed rows the body leaves. -/
theorem out_normed (x a : Vec Ideal S256x4096 .f32) (gt : Vec Ideal S1x1x4096 .f32) (g b : Vec Ideal S1x4096 .f32) (sc sh : Vec Ideal S1x1x4096 .f32) (r : Fin 256) (l : Fin 4096) :
    out0_7 x a gt g b sc sh (ix2 r l) = lnorm (fun k => sum2 (x (ix2 r k)) (gt (ix3 0 0 k)) (a (ix2 r k))) (g (ix2 0 l)) (b (ix2 0 l)) l := by
  unfold out0_7
  rw [View.canon_unit_zero hz, View.ld_unit_zero (S := S256x4096) hz, View.ld_unit_zero (S := S256x4096) hz, View.ld_unit_zero (S := S1x1x4096) hz3, View.ld_unit_zero (S := S1x4096) hz, View.ld_unit_zero (S := S1x4096) hz]
  exact norm_apply x a gt g b r l

/-- The block of modulated rows the body leaves. -/
theorem out_mod (x a : Vec Ideal S256x4096 .f32) (gt : Vec Ideal S1x1x4096 .f32) (g b : Vec Ideal S1x4096 .f32) (sc sh : Vec Ideal S1x1x4096 .f32) (r : Fin 256) (l : Fin 4096) :
    out0_8 x a gt g b sc sh (ix2 r l)
      = lnorm (fun k => sum2 (x (ix2 r k)) (gt (ix3 0 0 k)) (a (ix2 r k))) (g (ix2 0 l)) (b (ix2 0 l)) l * (Ideal.ofBits .f32 0x3F800000#32 + sc (ix3 0 0 l)) + sh (ix3 0 0 l) := by
  unfold out0_8
  rw [View.canon_unit_zero hz, View.ld_unit_zero (S := S256x4096) hz, View.ld_unit_zero (S := S256x4096) hz, View.ld_unit_zero (S := S1x1x4096) hz3, View.ld_unit_zero (S := S1x4096) hz, View.ld_unit_zero (S := S1x4096) hz,
    View.ld_unit_zero (S := S1x1x4096) hz3, View.ld_unit_zero (S := S1x1x4096) hz3, mod_apply, norm_apply]

/-- The rows, as launched. -/
abbrev X (c : Dev nD) : Vec Ideal S8704x4096 .f32 := m ((c : Thread nD τ).loc main_arg0)

/-- The branch's rows, as launched. -/
abbrev A (c : Dev nD) : Vec Ideal S8704x4096 .f32 := m ((c : Thread nD τ).loc main_arg1)

/-- The modulation's rows, as launched. -/
abbrev M (c : Dev nD) : Vec Ideal S8x24576 .f32 := m ((c : Thread nD τ).loc main_arg2)

/-- The gain, as launched. -/
abbrev Gn (c : Dev nD) : Vec Ideal S4096 .f32 := m ((c : Thread nD τ).loc main_arg3)

/-- The bias, as launched. -/
abbrev Bs (c : Dev nD) : Vec Ideal S4096 .f32 := m ((c : Thread nD τ).loc main_arg4)

/-- The modulation's row of a row of the layer: its sample's, or the context's. -/
def sample (R : Fin 8704) : Fin 8 := ⟨min (R.val / 4096) 2, by omega⟩

/-- The plain normed rows. -/
def normed (x a : Vec Ideal S8704x4096 .f32) (md : Vec Ideal S8x24576 .f32) (g b : Vec Ideal S4096 .f32) : Vec Ideal S8704x4096 .f32 :=
  Cert.ResidLnReferenceIdeal.Read.val_main_v51 (F := Ideal) x a md g b

/-- The plain modulated rows. -/
def modulated (x a : Vec Ideal S8704x4096 .f32) (md : Vec Ideal S8x24576 .f32) (g b : Vec Ideal S4096 .f32) : Vec Ideal S8704x4096 .bf16 :=
  Cert.ResidLnReferenceIdeal.Read.val_main_v56 (F := Ideal) x a md g b

/-- What the normed rows' array ends holding. -/
abbrev GN (c : Dev nD) : Buf (Elt Ideal) ((c : Thread nD τ).loc main_v3_0) := normed (X m c) (A m c) (M m c) (Gn m c) (Bs m c)

/-- What the modulated rows' array ends holding. -/
abbrev GM (c : Dev nD) : Buf (Elt Ideal) ((c : Thread nD τ).loc main_v3_1) := modulated (X m c) (A m c) (M m c) (Gn m c) (Bs m c)

/-- The reference's gate of a row. -/
theorem gate_apply (md : Vec Ideal S8x24576 .f32) (R : Fin 8704) (l : Fin 4096) :
    Cert.ResidLnReferenceIdeal.Read.val_main_v7 (F := Ideal) md (ix2 R l) = md (ix2 (sample R) (⟨8192 + l.val, by omega⟩ : Fin 24576)) := by
  unfold sample
  pointwise [Cert.ResidLnReferenceIdeal.Read.val_main_v7, Cert.ResidLnReferenceIdeal.Read.val_main_v6, Cert.ResidLnReferenceIdeal.Read.val_main_v5, Cert.ResidLnReferenceIdeal.Read.val_main_v4, Cert.ResidLnReferenceIdeal.Read.val_main_v3, Cert.ResidLnReferenceIdeal.Read.val_main_v2, Cert.ResidLnReferenceIdeal.Read.val_main_v1, Cert.ResidLnReferenceIdeal.Read.val_main_v0]
  split_ifs with h
  · exact congrArg md (congrArg (fun a => ix2 a _) (Fin.ext (show R.val / 4096 = min (R.val / 4096) 2 by omega)))
  · exact congrArg md (congrArg (fun a => ix2 a _) (Fin.ext (show 2 = min (R.val / 4096) 2 by omega)))

/-- The reference's shift of a row. -/
theorem shift_apply (md : Vec Ideal S8x24576 .f32) (R : Fin 8704) (l : Fin 4096) :
    Cert.ResidLnReferenceIdeal.Read.val_main_v15 (F := Ideal) md (ix2 R l) = md (ix2 (sample R) (⟨12288 + l.val, by omega⟩ : Fin 24576)) := by
  unfold sample
  pointwise [Cert.ResidLnReferenceIdeal.Read.val_main_v15, Cert.ResidLnReferenceIdeal.Read.val_main_v14, Cert.ResidLnReferenceIdeal.Read.val_main_v13, Cert.ResidLnReferenceIdeal.Read.val_main_v12, Cert.ResidLnReferenceIdeal.Read.val_main_v11, Cert.ResidLnReferenceIdeal.Read.val_main_v10, Cert.ResidLnReferenceIdeal.Read.val_main_v9, Cert.ResidLnReferenceIdeal.Read.val_main_v8]
  split_ifs with h
  · exact congrArg md (congrArg (fun a => ix2 a _) (Fin.ext (show R.val / 4096 = min (R.val / 4096) 2 by omega)))
  · exact congrArg md (congrArg (fun a => ix2 a _) (Fin.ext (show 2 = min (R.val / 4096) 2 by omega)))

/-- The reference's scale of a row. -/
theorem scale_apply (md : Vec Ideal S8x24576 .f32) (R : Fin 8704) (l : Fin 4096) :
    Cert.ResidLnReferenceIdeal.Read.val_main_v23 (F := Ideal) md (ix2 R l) = md (ix2 (sample R) (⟨16384 + l.val, by omega⟩ : Fin 24576)) := by
  unfold sample
  pointwise [Cert.ResidLnReferenceIdeal.Read.val_main_v23, Cert.ResidLnReferenceIdeal.Read.val_main_v22, Cert.ResidLnReferenceIdeal.Read.val_main_v21, Cert.ResidLnReferenceIdeal.Read.val_main_v20, Cert.ResidLnReferenceIdeal.Read.val_main_v19, Cert.ResidLnReferenceIdeal.Read.val_main_v18, Cert.ResidLnReferenceIdeal.Read.val_main_v17, Cert.ResidLnReferenceIdeal.Read.val_main_v16]
  split_ifs with h
  · exact congrArg md (congrArg (fun a => ix2 a _) (Fin.ext (show R.val / 4096 = min (R.val / 4096) 2 by omega)))
  · exact congrArg md (congrArg (fun a => ix2 a _) (Fin.ext (show 2 = min (R.val / 4096) 2 by omega)))

/-- The reference's gated residual sum. -/
theorem sum_apply (x a : Vec Ideal S8704x4096 .f32) (md : Vec Ideal S8x24576 .f32) (R : Fin 8704) (l : Fin 4096) :
    Cert.ResidLnReferenceIdeal.Read.val_main_v27 (F := Ideal) x a md (ix2 R l) = sum2 (x (ix2 R l)) (md (ix2 (sample R) (⟨8192 + l.val, by omega⟩ : Fin 24576))) (a (ix2 R l)) := by
  rw [← gate_apply md R l]
  rfl

/-- The plain normed rows at a row and a column. -/
theorem normed_apply (x a : Vec Ideal S8704x4096 .f32) (md : Vec Ideal S8x24576 .f32) (g b : Vec Ideal S4096 .f32) (R : Fin 8704) (l : Fin 4096) :
    normed x a md g b (ix2 R l) = lnorm (fun k => sum2 (x (ix2 R k)) (md (ix2 (sample R) (⟨8192 + k.val, by omega⟩ : Fin 24576))) (a (ix2 R k))) (g (ix1 l)) (b (ix1 l)) l := by
  simp only [← sum_apply]
  unfold normed lnorm centred
  unfold Cert.ResidLnReferenceIdeal.Read.val_main_v51 Cert.ResidLnReferenceIdeal.Read.val_main_v50 Cert.ResidLnReferenceIdeal.Read.val_main_v49 Cert.ResidLnReferenceIdeal.Read.val_main_v48 Cert.ResidLnReferenceIdeal.Read.val_main_v47 Cert.ResidLnReferenceIdeal.Read.val_main_v46 Cert.ResidLnReferenceIdeal.Read.val_main_v45 Cert.ResidLnReferenceIdeal.Read.val_main_v44 Cert.ResidLnReferenceIdeal.Read.val_main_v43 Cert.ResidLnReferenceIdeal.Read.val_main_v42 Cert.ResidLnReferenceIdeal.Read.val_main_v41 Cert.ResidLnReferenceIdeal.Read.val_main_v40 Cert.ResidLnReferenceIdeal.Read.val_main_v39 Cert.ResidLnReferenceIdeal.Read.val_main_v38 Cert.ResidLnReferenceIdeal.Read.val_main_v37 Cert.ResidLnReferenceIdeal.Read.val_main_v36 Cert.ResidLnReferenceIdeal.Read.val_main_v35 Cert.ResidLnReferenceIdeal.Read.val_main_v34 Cert.ResidLnReferenceIdeal.Read.val_main_v33 Cert.ResidLnReferenceIdeal.Read.val_main_v32 Cert.ResidLnReferenceIdeal.Read.val_main_v31 Cert.ResidLnReferenceIdeal.Read.val_main_v30 Cert.ResidLnReferenceIdeal.Read.val_main_v29 Cert.ResidLnReferenceIdeal.Read.val_main_v28 Cert.ResidLnReferenceIdeal.Read.val_main_cst_4 Cert.ResidLnReferenceIdeal.Read.val_main_cst_3 Cert.ResidLnReferenceIdeal.Read.val_main_cst_2 Cert.ResidLnReferenceIdeal.Read.val_main_cst_1 Cert.ResidLnReferenceIdeal.Read.val_main_cst_0
  generalize Cert.ResidLnReferenceIdeal.Read.val_main_v27 (F := Ideal) x a md = y
  pointwise

/-- The plain modulated rows at a row and a column. -/
theorem modulated_apply (x a : Vec Ideal S8704x4096 .f32) (md : Vec Ideal S8x24576 .f32) (g b : Vec Ideal S4096 .f32) (R : Fin 8704) (l : Fin 4096) :
    modulated x a md g b (ix2 R l) = normed x a md g b (ix2 R l) * (Ideal.ofBits .f32 0x3F800000#32 + md (ix2 (sample R) (⟨16384 + l.val, by omega⟩ : Fin 24576))) + md (ix2 (sample R) (⟨12288 + l.val, by omega⟩ : Fin 24576)) := by
  rw [← scale_apply md R l, ← shift_apply md R l]
  rfl

/-- The modulation's rows as the call finds them: six rows of one line for a row. -/
theorem modRows (c : Dev nD) (p : Fin 48) (l : Fin 4096) (q : Fin 8) (L : Fin 24576) (h : q.val * 24576 + L.val = p.val * 4096 + l.val) :
    (V m c main_v0 : Vec Ideal S48x1x4096 .f32) (ix3 p 0 l) = M m c (ix2 q L) := by
  have e : (V m c main_v0 : Vec Ideal S48x1x4096 .f32) (ix3 p 0 l) = M m c (ix2 (⟨p.val / 6, by omega⟩ : Fin 8) (⟨p.val % 6 * 4096 + l.val, by omega⟩ : Fin 24576)) := by
    unfold V
    after_results
    pointwise
  rw [e]
  exact congrArg₂ (fun a b => M m c (ix2 a b)) (Fin.ext (by dsimp only; omega)) (Fin.ext (by dsimp only; omega))

/-- The gain as the call finds it: one row. -/
theorem gain (c : Dev nD) (l : Fin 4096) : (V m c main_v1 : Vec Ideal S1x4096 .f32) (ix2 0 l) = Gn m c (ix1 l) := by
  unfold V
  after_results
  pointwise

/-- The bias as the call finds it: one row. -/
theorem bias (c : Dev nD) (l : Fin 4096) : (V m c main_v2 : Vec Ideal S1x4096 .f32) (ix2 0 l) = Bs m c (ix1 l) := by
  unfold V
  after_results
  pointwise

/-- The rows's block at a point. -/
theorem blk0 (c : Dev nD) (t : Fin cfg0.N) (r : Fin 256) (R : Fin 8704) (l : Fin 4096) (hR : R.val = t.val * 256 + r.val) :
    (iblk m c 0 t : Vec Ideal S256x4096 .f32) (ix2 r l) = X m c (ix2 R l) := by
  obtain ⟨a0, a1⟩ := idx0 t
  unfold iblk
  rw [View.read_apply]
  show V m c main_arg0 _ = _
  rw [V_main_arg0 m c]
  show X m c _ = _
  congr 1
  funext a
  apply Fin.ext
  match a with
  | ⟨0, _⟩ => show win0_0.index t 0 * 256 + 1 * r.val = R.val; rw [a0]; omega
  | ⟨1, _⟩ => show win0_0.index t 1 * 4096 + 1 * l.val = l.val; rw [a1]; omega

/-- The branch's rows's block at a point. -/
theorem blk1 (c : Dev nD) (t : Fin cfg0.N) (r : Fin 256) (R : Fin 8704) (l : Fin 4096) (hR : R.val = t.val * 256 + r.val) :
    (iblk m c 1 t : Vec Ideal S256x4096 .f32) (ix2 r l) = A m c (ix2 R l) := by
  obtain ⟨a0, a1⟩ := idx1 t
  unfold iblk
  rw [View.read_apply]
  show V m c main_arg1 _ = _
  rw [V_main_arg1 m c]
  show A m c _ = _
  congr 1
  funext a
  apply Fin.ext
  match a with
  | ⟨0, _⟩ => show win0_1.index t 0 * 256 + 1 * r.val = R.val; rw [a0]; omega
  | ⟨1, _⟩ => show win0_1.index t 1 * 4096 + 1 * l.val = l.val; rw [a1]; omega

/-- The gate's block at a point, whatever the arrays hold. -/
theorem read2 (c : Dev nD) (v : (b : Ref sig .tc) → Buf (Elt Ideal) ((c : Thread nD τ).loc b)) (t : Fin cfg0.N) (p : Fin 48) (l : Fin 4096) (hp : p.val = min (t.val / 16) 2 * 6 + 2) :
    (((cfg0.win 2).blk t).view.read (Elt Ideal) (v (Pipeline.arrRef spec0 2)) : Vec Ideal S1x1x4096 .f32) (ix3 0 0 l) = (v main_v0 : Vec Ideal S48x1x4096 .f32) (ix3 p 0 l) := by
  obtain ⟨a0, a1, a2⟩ := idx2 t
  rw [View.read_apply]
  show v main_v0 _ = _
  congr 1
  funext a
  apply Fin.ext
  match a with
  | ⟨0, _⟩ => show win0_2.index t 0 * 1 + 1 * 0 = p.val; rw [a0]; omega
  | ⟨1, _⟩ => show win0_2.index t 1 * 1 + 1 * 0 = 0; rw [a1]
  | ⟨2, _⟩ => show win0_2.index t 2 * 4096 + 1 * l.val = l.val; rw [a2]; omega

/-- The gate's block at a point, by the row it belongs to. -/
theorem blk2 (c : Dev nD) (t : Fin cfg0.N) (l : Fin 4096) (R : Fin 8704) (r : Fin 256) (hR : R.val = t.val * 256 + r.val) :
    (iblk m c 2 t : Vec Ideal S1x1x4096 .f32) (ix3 0 0 l) = M m c (ix2 (sample R) (⟨8192 + l.val, by omega⟩ : Fin 24576)) := by
  have hN : cfg0.N = 34 := N_0
  have ht := t.isLt
  unfold iblk
  refine (read2 c (V m c) t (⟨min (t.val / 16) 2 * 6 + 2, by omega⟩ : Fin 48) l rfl).trans (modRows m c _ l (sample R) _ ?_)
  show min (R.val / 4096) 2 * 24576 + (8192 + l.val) = (min (t.val / 16) 2 * 6 + 2) * 4096 + l.val
  omega

/-- The scale's block at a point, whatever the arrays hold. -/
theorem read5 (c : Dev nD) (v : (b : Ref sig .tc) → Buf (Elt Ideal) ((c : Thread nD τ).loc b)) (t : Fin cfg0.N) (p : Fin 48) (l : Fin 4096) (hp : p.val = min (t.val / 16) 2 * 6 + 4) :
    (((cfg0.win 5).blk t).view.read (Elt Ideal) (v (Pipeline.arrRef spec0 5)) : Vec Ideal S1x1x4096 .f32) (ix3 0 0 l) = (v main_v0 : Vec Ideal S48x1x4096 .f32) (ix3 p 0 l) := by
  obtain ⟨a0, a1, a2⟩ := idx5 t
  rw [View.read_apply]
  show v main_v0 _ = _
  congr 1
  funext a
  apply Fin.ext
  match a with
  | ⟨0, _⟩ => show win0_5.index t 0 * 1 + 1 * 0 = p.val; rw [a0]; omega
  | ⟨1, _⟩ => show win0_5.index t 1 * 1 + 1 * 0 = 0; rw [a1]
  | ⟨2, _⟩ => show win0_5.index t 2 * 4096 + 1 * l.val = l.val; rw [a2]; omega

/-- The scale's block at a point, by the row it belongs to. -/
theorem blk5 (c : Dev nD) (t : Fin cfg0.N) (l : Fin 4096) (R : Fin 8704) (r : Fin 256) (hR : R.val = t.val * 256 + r.val) :
    (iblk m c 5 t : Vec Ideal S1x1x4096 .f32) (ix3 0 0 l) = M m c (ix2 (sample R) (⟨16384 + l.val, by omega⟩ : Fin 24576)) := by
  have hN : cfg0.N = 34 := N_0
  have ht := t.isLt
  unfold iblk
  refine (read5 c (V m c) t (⟨min (t.val / 16) 2 * 6 + 4, by omega⟩ : Fin 48) l rfl).trans (modRows m c _ l (sample R) _ ?_)
  show min (R.val / 4096) 2 * 24576 + (16384 + l.val) = (min (t.val / 16) 2 * 6 + 4) * 4096 + l.val
  omega

/-- The shift's block at a point, whatever the arrays hold. -/
theorem read6 (c : Dev nD) (v : (b : Ref sig .tc) → Buf (Elt Ideal) ((c : Thread nD τ).loc b)) (t : Fin cfg0.N) (p : Fin 48) (l : Fin 4096) (hp : p.val = min (t.val / 16) 2 * 6 + 3) :
    (((cfg0.win 6).blk t).view.read (Elt Ideal) (v (Pipeline.arrRef spec0 6)) : Vec Ideal S1x1x4096 .f32) (ix3 0 0 l) = (v main_v0 : Vec Ideal S48x1x4096 .f32) (ix3 p 0 l) := by
  obtain ⟨a0, a1, a2⟩ := idx6 t
  rw [View.read_apply]
  show v main_v0 _ = _
  congr 1
  funext a
  apply Fin.ext
  match a with
  | ⟨0, _⟩ => show win0_6.index t 0 * 1 + 1 * 0 = p.val; rw [a0]; omega
  | ⟨1, _⟩ => show win0_6.index t 1 * 1 + 1 * 0 = 0; rw [a1]
  | ⟨2, _⟩ => show win0_6.index t 2 * 4096 + 1 * l.val = l.val; rw [a2]; omega

/-- The shift's block at a point, by the row it belongs to. -/
theorem blk6 (c : Dev nD) (t : Fin cfg0.N) (l : Fin 4096) (R : Fin 8704) (r : Fin 256) (hR : R.val = t.val * 256 + r.val) :
    (iblk m c 6 t : Vec Ideal S1x1x4096 .f32) (ix3 0 0 l) = M m c (ix2 (sample R) (⟨12288 + l.val, by omega⟩ : Fin 24576)) := by
  have hN : cfg0.N = 34 := N_0
  have ht := t.isLt
  unfold iblk
  refine (read6 c (V m c) t (⟨min (t.val / 16) 2 * 6 + 3, by omega⟩ : Fin 48) l rfl).trans (modRows m c _ l (sample R) _ ?_)
  show min (R.val / 4096) 2 * 24576 + (12288 + l.val) = (min (t.val / 16) 2 * 6 + 3) * 4096 + l.val
  omega

/-- The gain's block at a point, whatever the arrays hold. -/
theorem read3 (c : Dev nD) (v : (b : Ref sig .tc) → Buf (Elt Ideal) ((c : Thread nD τ).loc b)) (t : Fin cfg0.N) (l : Fin 4096)  :
    (((cfg0.win 3).blk t).view.read (Elt Ideal) (v (Pipeline.arrRef spec0 3)) : Vec Ideal S1x4096 .f32) (ix2 0 l) = (v main_v1 : Vec Ideal S1x4096 .f32) (ix2 0 l) := by
  obtain ⟨a0, a1⟩ := idx3 t
  rw [View.read_apply]
  show v main_v1 _ = _
  congr 1
  funext a
  apply Fin.ext
  match a with
  | ⟨0, _⟩ => show win0_3.index t 0 * 1 + 1 * 0 = 0; rw [a0]
  | ⟨1, _⟩ => show win0_3.index t 1 * 4096 + 1 * l.val = l.val; rw [a1]; omega

/-- The gain's block at a point. -/
theorem blk3 (c : Dev nD) (t : Fin cfg0.N) (l : Fin 4096) : (iblk m c 3 t : Vec Ideal S1x4096 .f32) (ix2 0 l) = Gn m c (ix1 l) := by
  unfold iblk
  exact (read3 c (V m c) t l).trans (gain m c l)

/-- The bias's block at a point, whatever the arrays hold. -/
theorem read4 (c : Dev nD) (v : (b : Ref sig .tc) → Buf (Elt Ideal) ((c : Thread nD τ).loc b)) (t : Fin cfg0.N) (l : Fin 4096)  :
    (((cfg0.win 4).blk t).view.read (Elt Ideal) (v (Pipeline.arrRef spec0 4)) : Vec Ideal S1x4096 .f32) (ix2 0 l) = (v main_v2 : Vec Ideal S1x4096 .f32) (ix2 0 l) := by
  obtain ⟨a0, a1⟩ := idx4 t
  rw [View.read_apply]
  show v main_v2 _ = _
  congr 1
  funext a
  apply Fin.ext
  match a with
  | ⟨0, _⟩ => show win0_4.index t 0 * 1 + 1 * 0 = 0; rw [a0]
  | ⟨1, _⟩ => show win0_4.index t 1 * 4096 + 1 * l.val = l.val; rw [a1]; omega

/-- The bias's block at a point. -/
theorem blk4 (c : Dev nD) (t : Fin cfg0.N) (l : Fin 4096) : (iblk m c 4 t : Vec Ideal S1x4096 .f32) (ix2 0 l) = Bs m c (ix1 l) := by
  unfold iblk
  exact (read4 c (V m c) t l).trans (bias m c l)

/-- A point's normed entry is the plain one. -/
theorem norm_blk (c : Dev nD) (t : Fin cfg0.N) (r : Fin 256) (l : Fin 4096) (R : Fin 8704) (hR : R.val = t.val * 256 + r.val) :
    lnorm (fun k => sum2 ((iblk m c 0 t : Vec Ideal S256x4096 .f32) (ix2 r k)) ((iblk m c 2 t : Vec Ideal S1x1x4096 .f32) (ix3 0 0 k)) ((iblk m c 1 t : Vec Ideal S256x4096 .f32) (ix2 r k)))
      ((iblk m c 3 t : Vec Ideal S1x4096 .f32) (ix2 0 l)) ((iblk m c 4 t : Vec Ideal S1x4096 .f32) (ix2 0 l)) l
      = normed (X m c) (A m c) (M m c) (Gn m c) (Bs m c) (ix2 R l) := by
  rw [normed_apply]
  have hs : (fun k => sum2 ((iblk m c 0 t : Vec Ideal S256x4096 .f32) (ix2 r k)) ((iblk m c 2 t : Vec Ideal S1x1x4096 .f32) (ix3 0 0 k)) ((iblk m c 1 t : Vec Ideal S256x4096 .f32) (ix2 r k)))
      = fun k => sum2 (X m c (ix2 R k)) (M m c (ix2 (sample R) (⟨8192 + k.val, by omega⟩ : Fin 24576))) (A m c (ix2 R k)) :=
    funext fun k => by rw [blk0 m c t r R k hR, blk1 m c t r R k hR, blk2 m c t k R r hR]
  rw [hs, blk3 m c t l, blk4 m c t l]

/-- What a point writes back is its block of the plain normed rows. -/
theorem flushed_eq_normed (c : Dev nD) (t : Fin cfg0.N) (_ : (cfg0.win 7).flush t = true) :
    (dats m 0 c).flushed 7 t = ((cfg0.win 7).blk t).view.read (Elt Ideal) (GN m c) := by
  rw [Value.flushed7]
  obtain ⟨d0, d1⟩ := idx7 t
  have hN : cfg0.N = 34 := N_0
  have ht := t.isLt
  funext j
  obtain ⟨r, l, rfl⟩ : ∃ (r : Fin 256) (l : Fin 4096), j = ix2 r l := ⟨j 0, j 1, eq_ix2 j⟩
  have hr := r.isLt
  have hl := l.isLt
  have he : ((cfg0.win 7).blk t).view.emb (ix2 r l) = ix2 (⟨t.val * 256 + r.val, by omega⟩ : Fin 8704) l := by
    funext a
    apply Fin.ext
    match a with
    | ⟨0, _⟩ => show win0_7.index t 0 * 256 + 1 * r.val = t.val * 256 + r.val; rw [d0]; omega
    | ⟨1, _⟩ => show win0_7.index t 1 * 4096 + 1 * l.val = l.val; rw [d1]; omega
  rw [View.read_apply, he]
  show out0_7 (iblk m c 0 t) (iblk m c 1 t) (iblk m c 2 t) (iblk m c 3 t) (iblk m c 4 t) (iblk m c 5 t) (iblk m c 6 t) (ix2 r l) = normed (X m c) (A m c) (M m c) (Gn m c) (Bs m c) (ix2 (⟨t.val * 256 + r.val, by omega⟩ : Fin 8704) l)
  rw [out_normed]
  exact norm_blk m c t r l _ rfl

/-- Every index of the normed rows lies in the block of some point. -/
theorem cover_normed (i : S8704x4096.Idx) : ∃ t : Fin cfg0.N, (cfg0.win 7).flush t = true ∧ i ∈ ((cfg0.win 7).blk t).view.set := by
  have h0 : (i 0 : Nat) < 8704 := (i 0).isLt
  have h1 : (i 1 : Nat) < 4096 := (i 1).isLt
  have hN : cfg0.N = 34 := N_0
  refine ⟨⟨(i 0 : Nat) / 256, by omega⟩, flush7 _, ?_⟩
  generalize ht : (⟨(i 0 : Nat) / 256, by omega⟩ : Fin cfg0.N) = t
  have hv : t.val = (i 0 : Nat) / 256 := by rw [← ht]
  obtain ⟨d0, d1⟩ := idx7 t
  obtain ⟨s0, s1⟩ := size7 t
  show i ∈ ((View.whole main_v3_0).slice (win0_7.rect t)).set
  rw [View.set_slice_whole, Rect.mem_set_unit]
  intro a
  match a with
  | ⟨0, _⟩ => show win0_7.index t 0 * 256 ≤ (i 0 : Nat) ∧ (i 0 : Nat) < win0_7.index t 0 * 256 + win0_7.xsize (grid0.coords t) 0
              rw [d0, s0]; omega
  | ⟨1, _⟩ => show win0_7.index t 1 * 4096 ≤ (i 1 : Nat) ∧ (i 1 : Nat) < win0_7.index t 1 * 4096 + win0_7.xsize (grid0.coords t) 1
              rw [d1, s1]; omega

/-- The normed rows' array ends holding the plain one. -/
theorem final_normed (c : Dev nD) : (dats m 0 c).arrAt 7 cfg0.N = GN m c :=
  (dats m 0 c).arrAt_eq_of_cover 7 (GN m c) (flushed_eq_normed m c) cover_normed

/-- What a point writes back is its block of the plain modulated rows. -/
theorem flushed_eq_mod (c : Dev nD) (t : Fin cfg0.N) (_ : (cfg0.win 8).flush t = true) :
    (dats m 0 c).flushed 8 t = ((cfg0.win 8).blk t).view.read (Elt Ideal) (GM m c) := by
  rw [Value.flushed8]
  obtain ⟨d0, d1⟩ := idx8 t
  have hN : cfg0.N = 34 := N_0
  have ht := t.isLt
  funext j
  obtain ⟨r, l, rfl⟩ : ∃ (r : Fin 256) (l : Fin 4096), j = ix2 r l := ⟨j 0, j 1, eq_ix2 j⟩
  have hr := r.isLt
  have hl := l.isLt
  have he : ((cfg0.win 8).blk t).view.emb (ix2 r l) = ix2 (⟨t.val * 256 + r.val, by omega⟩ : Fin 8704) l := by
    funext a
    apply Fin.ext
    match a with
    | ⟨0, _⟩ => show win0_8.index t 0 * 256 + 1 * r.val = t.val * 256 + r.val; rw [d0]; omega
    | ⟨1, _⟩ => show win0_8.index t 1 * 4096 + 1 * l.val = l.val; rw [d1]; omega
  rw [View.read_apply, he]
  show out0_8 (iblk m c 0 t) (iblk m c 1 t) (iblk m c 2 t) (iblk m c 3 t) (iblk m c 4 t) (iblk m c 5 t) (iblk m c 6 t) (ix2 r l) = modulated (X m c) (A m c) (M m c) (Gn m c) (Bs m c) (ix2 (⟨t.val * 256 + r.val, by omega⟩ : Fin 8704) l)
  rw [out_mod, modulated_apply]
  exact congrArg₂ (· + ·) (congrArg₂ (· * ·) (norm_blk m c t r l _ rfl) (congrArg (Ideal.ofBits .f32 0x3F800000#32 + ·) (blk5 m c t l _ r rfl))) (blk6 m c t l _ r rfl)

/-- Every index of the modulated rows lies in the block of some point. -/
theorem cover_mod (i : S8704x4096.Idx) : ∃ t : Fin cfg0.N, (cfg0.win 8).flush t = true ∧ i ∈ ((cfg0.win 8).blk t).view.set := by
  have h0 : (i 0 : Nat) < 8704 := (i 0).isLt
  have h1 : (i 1 : Nat) < 4096 := (i 1).isLt
  have hN : cfg0.N = 34 := N_0
  refine ⟨⟨(i 0 : Nat) / 256, by omega⟩, flush8 _, ?_⟩
  generalize ht : (⟨(i 0 : Nat) / 256, by omega⟩ : Fin cfg0.N) = t
  have hv : t.val = (i 0 : Nat) / 256 := by rw [← ht]
  obtain ⟨d0, d1⟩ := idx8 t
  obtain ⟨s0, s1⟩ := size8 t
  show i ∈ ((View.whole main_v3_1).slice (win0_8.rect t)).set
  rw [View.set_slice_whole, Rect.mem_set_unit]
  intro a
  match a with
  | ⟨0, _⟩ => show win0_8.index t 0 * 256 ≤ (i 0 : Nat) ∧ (i 0 : Nat) < win0_8.index t 0 * 256 + win0_8.xsize (grid0.coords t) 0
              rw [d0, s0]; omega
  | ⟨1, _⟩ => show win0_8.index t 1 * 4096 ≤ (i 1 : Nat) ∧ (i 1 : Nat) < win0_8.index t 1 * 4096 + win0_8.xsize (grid0.coords t) 1
              rw [d1, s1]; omega

/-- The modulated rows' array ends holding the plain one. -/
theorem final_mod (c : Dev nD) : (dats m 0 c).arrAt 8 cfg0.N = GM m c :=
  (dats m 0 c).arrAt_eq_of_cover 8 (GM m c) (flushed_eq_mod m c) cover_mod

end Cert.ResidLnIdeal.Blocks

namespace Cert.Proof

open Idealize.ShloMosaic Idealize.ShloMosaic.TcCoe Idealize.SL.Sem

/-- The gated residual sum's norm computes, on the extended reals, the plain normed rows and the plain modulated rows. -/
theorem residLn_algebraic : Cert.algebraic_ResidLnIdeal_ResidLnReferenceIdeal
    (hResidLnIdeal := Cert.ResidLnIdeal.Gen.facts) (hResidLnReferenceIdeal := Cert.ResidLnReferenceIdeal.Gen.facts) := by
  intro m g m' g' _ hargs
  refine ⟨fun c => Cert.ResidLnIdeal.Blocks.GN m c, fun c => Cert.ResidLnIdeal.Blocks.GM m c, ?_, ?_⟩
  · refine (θ_run _ _ _).mono (fun r h c => ?_) (Cert.ResidLnIdeal.Value.run_blocks m g)
    obtain ⟨h0, h1, h2⟩ := h c
    exact ⟨h0.trans (Cert.ResidLnIdeal.Blocks.final_normed m c), h1.trans (Cert.ResidLnIdeal.Blocks.final_mod m c), h2⟩
  · refine (θ_run _ _ _).mono (fun r h c => ?_) (Cert.ResidLnReferenceIdeal.Value.run m' g')
    obtain ⟨h0, h1, h2⟩ := h c
    obtain ⟨e0, e1, e2, e3, e4⟩ := hargs c
    refine ⟨h0.trans ?_, h1.trans ?_, h2⟩
    · rw [Cert.ResidLnReferenceIdeal.Read.val_main_v51_eq, e0, e1, e2, e3, e4]
      rfl
    · rw [Cert.ResidLnReferenceIdeal.Read.val_main_v56_eq, e0, e1, e2, e3, e4]
      rfl

end Cert.Proof

end
-- ==== Proof.lean ====
/- The proof of the certificate: the frames of the thirty-nine programs and the thirteen value claims. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.InProj
public import proofs.«01_k».proof.Proof.Gen.InProj.Frame
public import proofs.«01_k».proof.Proof.Gen.InProjIdeal
public import proofs.«01_k».proof.Proof.Gen.InProjIdeal.Frame
public import proofs.«01_k».proof.Proof.Gen.InProjReferenceIdeal
public import proofs.«01_k».proof.Proof.Gen.InProjReferenceIdeal.Run
public import proofs.«01_k».proof.Proof.Gen.OutProj
public import proofs.«01_k».proof.Proof.Gen.OutProj.Frame
public import proofs.«01_k».proof.Proof.Gen.OutProjIdeal
public import proofs.«01_k».proof.Proof.Gen.OutProjIdeal.Frame
public import proofs.«01_k».proof.Proof.Gen.OutProjReferenceIdeal
public import proofs.«01_k».proof.Proof.Gen.OutProjReferenceIdeal.Run
public import proofs.«01_k».proof.Proof.Gen.Experts
public import proofs.«01_k».proof.Proof.Gen.ExpertsIdeal
public import proofs.«01_k».proof.Proof.Gen.ExpertsReferenceIdeal
public import proofs.«01_k».proof.Proof.Gen.ExpertsReferenceIdeal.Run
public import proofs.«01_k».proof.Proof.Gen.QProj
public import proofs.«01_k».proof.Proof.Gen.QProj.Frame
public import proofs.«01_k».proof.Proof.Gen.QProjIdeal
public import proofs.«01_k».proof.Proof.Gen.QProjIdeal.Frame
public import proofs.«01_k».proof.Proof.Gen.QProjReferenceIdeal
public import proofs.«01_k».proof.Proof.Gen.QProjReferenceIdeal.Run
public import proofs.«01_k».proof.Proof.Gen.KvProj
public import proofs.«01_k».proof.Proof.Gen.KvProj.Frame
public import proofs.«01_k».proof.Proof.Gen.KvProjIdeal
public import proofs.«01_k».proof.Proof.Gen.KvProjIdeal.Frame
public import proofs.«01_k».proof.Proof.Gen.KvProjReferenceIdeal
public import proofs.«01_k».proof.Proof.Gen.KvProjReferenceIdeal.Run
public import proofs.«01_k».proof.Proof.Gen.ChunkMix
public import proofs.«01_k».proof.Proof.Gen.ChunkMix.Frame
public import proofs.«01_k».proof.Proof.Gen.ChunkMixIdeal
public import proofs.«01_k».proof.Proof.Gen.ChunkMixIdeal.Frame
public import proofs.«01_k».proof.Proof.Gen.ChunkMixReferenceIdeal
public import proofs.«01_k».proof.Proof.Gen.ChunkMixReferenceIdeal.Run
public import proofs.«01_k».proof.Proof.Gen.Adaln
public import proofs.«01_k».proof.Proof.Gen.Adaln.Frame
public import proofs.«01_k».proof.Proof.Gen.AdalnIdeal
public import proofs.«01_k».proof.Proof.Gen.AdalnIdeal.Frame
public import proofs.«01_k».proof.Proof.Gen.AdalnReferenceIdeal
public import proofs.«01_k».proof.Proof.Gen.AdalnReferenceIdeal.Run
public import proofs.«01_k».proof.Proof.Gen.DftCh
public import proofs.«01_k».proof.Proof.Gen.DftCh.Frame
public import proofs.«01_k».proof.Proof.Gen.DftChIdeal
public import proofs.«01_k».proof.Proof.Gen.DftChIdeal.Frame
public import proofs.«01_k».proof.Proof.Gen.DftChReferenceIdeal
public import proofs.«01_k».proof.Proof.Gen.DftChReferenceIdeal.Run
public import proofs.«01_k».proof.Proof.Gen.DftPos
public import proofs.«01_k».proof.Proof.Gen.DftPos.Frame
public import proofs.«01_k».proof.Proof.Gen.DftPosIdeal
public import proofs.«01_k».proof.Proof.Gen.DftPosIdeal.Frame
public import proofs.«01_k».proof.Proof.Gen.DftPosReferenceIdeal
public import proofs.«01_k».proof.Proof.Gen.DftPosReferenceIdeal.Run
public import proofs.«01_k».proof.Proof.Gen.DftCtx
public import proofs.«01_k».proof.Proof.Gen.DftCtx.Frame
public import proofs.«01_k».proof.Proof.Gen.DftCtxIdeal
public import proofs.«01_k».proof.Proof.Gen.DftCtxIdeal.Frame
public import proofs.«01_k».proof.Proof.Gen.DftCtxReferenceIdeal
public import proofs.«01_k».proof.Proof.Gen.DftCtxReferenceIdeal.Run
public import proofs.«01_k».proof.Proof.Gen.Modulate
public import proofs.«01_k».proof.Proof.Gen.Modulate.Frame
public import proofs.«01_k».proof.Proof.Gen.ModulateIdeal
public import proofs.«01_k».proof.Proof.Gen.ModulateIdeal.Frame
public import proofs.«01_k».proof.Proof.Gen.ModulateReferenceIdeal
public import proofs.«01_k».proof.Proof.Gen.ModulateReferenceIdeal.Run
public import proofs.«01_k».proof.Proof.Gen.ResidLn
public import proofs.«01_k».proof.Proof.Gen.ResidLn.Frame
public import proofs.«01_k».proof.Proof.Gen.ResidLnIdeal
public import proofs.«01_k».proof.Proof.Gen.ResidLnIdeal.Frame
public import proofs.«01_k».proof.Proof.Gen.ResidLnReferenceIdeal
public import proofs.«01_k».proof.Proof.Gen.ResidLnReferenceIdeal.Run
public import proofs.«01_k».proof.Proof.Gen.Pre_in_range
public import proofs.«01_k».proof.Proof.AttnValue
public import proofs.«01_k».proof.Proof.InProjValue
public import proofs.«01_k».proof.Proof.OutProjValue
public import proofs.«01_k».proof.Proof.ExpertsValue
public import proofs.«01_k».proof.Proof.QProjValue
public import proofs.«01_k».proof.Proof.KvProjValue
public import proofs.«01_k».proof.Proof.ChunkMixValue
public import proofs.«01_k».proof.Proof.AdalnValue
public import proofs.«01_k».proof.Proof.DftChValue
public import proofs.«01_k».proof.Proof.DftPosValue
public import proofs.«01_k».proof.Proof.DftCtxValue
public import proofs.«01_k».proof.Proof.ModulateValue
public import proofs.«01_k».proof.Proof.ResidLnValue

@[expose] public section

noncomputable section

namespace Cert.Proof

open Idealize.ShloMosaic Idealize.SL.Sem

/-- The reference runs to its end with its arguments kept and its counters at zero. -/
theorem referenceIdeal_frame : Cert.quiescent_ReferenceIdeal (hReferenceIdeal := Cert.ReferenceIdeal.Gen.facts) :=
  fun m g _ => (θ_run Cert.ReferenceIdeal.defs _ _).mono
    (fun r h => ⟨fun c => (h c).2, sem_eq_zero_of_no_sems (by decide) r.2⟩) (Cert.ReferenceIdeal.Value.run (F := Ideal) m g)

/-- The reference runs to its end with its arguments kept and its counters at zero. -/
theorem inProjReferenceIdeal_frame : Cert.quiescent_InProjReferenceIdeal (hInProjReferenceIdeal := Cert.InProjReferenceIdeal.Gen.facts) :=
  fun m g _ => (θ_run Cert.InProjReferenceIdeal.defs _ _).mono
    (fun r h => ⟨fun c => (h c).2, sem_eq_zero_of_no_sems (by decide) r.2⟩) (Cert.InProjReferenceIdeal.Value.run (F := Ideal) m g)

/-- The reference runs to its end with its arguments kept and its counters at zero. -/
theorem outProjReferenceIdeal_frame : Cert.quiescent_OutProjReferenceIdeal (hOutProjReferenceIdeal := Cert.OutProjReferenceIdeal.Gen.facts) :=
  fun m g _ => (θ_run Cert.OutProjReferenceIdeal.defs _ _).mono
    (fun r h => ⟨fun c => (h c).2, sem_eq_zero_of_no_sems (by decide) r.2⟩) (Cert.OutProjReferenceIdeal.Value.run (F := Ideal) m g)

/-- The reference runs to its end with its arguments kept and its counters at zero. -/
theorem expertsReferenceIdeal_frame : Cert.quiescent_ExpertsReferenceIdeal (hExpertsReferenceIdeal := Cert.ExpertsReferenceIdeal.Gen.facts) :=
  fun m g _ => (θ_run Cert.ExpertsReferenceIdeal.defs _ _).mono
    (fun r h => ⟨fun c => (h c).2, sem_eq_zero_of_no_sems (by decide) r.2⟩) (Cert.ExpertsReferenceIdeal.Value.run (F := Ideal) m g)

/-- The reference runs to its end with its arguments kept and its counters at zero. -/
theorem qProjReferenceIdeal_frame : Cert.quiescent_QProjReferenceIdeal (hQProjReferenceIdeal := Cert.QProjReferenceIdeal.Gen.facts) :=
  fun m g _ => (θ_run Cert.QProjReferenceIdeal.defs _ _).mono
    (fun r h => ⟨fun c => (h c).2, sem_eq_zero_of_no_sems (by decide) r.2⟩) (Cert.QProjReferenceIdeal.Value.run (F := Ideal) m g)

/-- The reference runs to its end with its arguments kept and its counters at zero. -/
theorem kvProjReferenceIdeal_frame : Cert.quiescent_KvProjReferenceIdeal (hKvProjReferenceIdeal := Cert.KvProjReferenceIdeal.Gen.facts) :=
  fun m g _ => (θ_run Cert.KvProjReferenceIdeal.defs _ _).mono
    (fun r h => ⟨fun c => (h c).2.2, sem_eq_zero_of_no_sems (by decide) r.2⟩) (Cert.KvProjReferenceIdeal.Value.run (F := Ideal) m g)

/-- The reference runs to its end with its arguments kept and its counters at zero. -/
theorem chunkMixReferenceIdeal_frame : Cert.quiescent_ChunkMixReferenceIdeal (hChunkMixReferenceIdeal := Cert.ChunkMixReferenceIdeal.Gen.facts) :=
  fun m g _ => (θ_run Cert.ChunkMixReferenceIdeal.defs _ _).mono
    (fun r h => ⟨fun c => (h c).2, sem_eq_zero_of_no_sems (by decide) r.2⟩) (Cert.ChunkMixReferenceIdeal.Value.run (F := Ideal) m g)

/-- The reference runs to its end with its arguments kept and its counters at zero. -/
theorem adalnReferenceIdeal_frame : Cert.quiescent_AdalnReferenceIdeal (hAdalnReferenceIdeal := Cert.AdalnReferenceIdeal.Gen.facts) :=
  fun m g _ => (θ_run Cert.AdalnReferenceIdeal.defs _ _).mono
    (fun r h => ⟨fun c => (h c).2, sem_eq_zero_of_no_sems (by decide) r.2⟩) (Cert.AdalnReferenceIdeal.Value.run (F := Ideal) m g)

/-- The reference runs to its end with its arguments kept and its counters at zero. -/
theorem dftChReferenceIdeal_frame : Cert.quiescent_DftChReferenceIdeal (hDftChReferenceIdeal := Cert.DftChReferenceIdeal.Gen.facts) :=
  fun m g _ => (θ_run Cert.DftChReferenceIdeal.defs _ _).mono
    (fun r h => ⟨fun c => (h c).2.2, sem_eq_zero_of_no_sems (by decide) r.2⟩) (Cert.DftChReferenceIdeal.Value.run (F := Ideal) m g)

/-- The reference runs to its end with its arguments kept and its counters at zero. -/
theorem dftPosReferenceIdeal_frame : Cert.quiescent_DftPosReferenceIdeal (hDftPosReferenceIdeal := Cert.DftPosReferenceIdeal.Gen.facts) :=
  fun m g _ => (θ_run Cert.DftPosReferenceIdeal.defs _ _).mono
    (fun r h => ⟨fun c => (h c).2, sem_eq_zero_of_no_sems (by decide) r.2⟩) (Cert.DftPosReferenceIdeal.Value.run (F := Ideal) m g)

/-- The reference runs to its end with its arguments kept and its counters at zero. -/
theorem dftCtxReferenceIdeal_frame : Cert.quiescent_DftCtxReferenceIdeal (hDftCtxReferenceIdeal := Cert.DftCtxReferenceIdeal.Gen.facts) :=
  fun m g _ => (θ_run Cert.DftCtxReferenceIdeal.defs _ _).mono
    (fun r h => ⟨fun c => (h c).2, sem_eq_zero_of_no_sems (by decide) r.2⟩) (Cert.DftCtxReferenceIdeal.Value.run (F := Ideal) m g)

/-- The reference runs to its end with its arguments kept and its counters at zero. -/
theorem modulateReferenceIdeal_frame : Cert.quiescent_ModulateReferenceIdeal (hModulateReferenceIdeal := Cert.ModulateReferenceIdeal.Gen.facts) :=
  fun m g _ => (θ_run Cert.ModulateReferenceIdeal.defs _ _).mono
    (fun r h => ⟨fun c => (h c).2, sem_eq_zero_of_no_sems (by decide) r.2⟩) (Cert.ModulateReferenceIdeal.Value.run (F := Ideal) m g)

/-- The reference runs to its end with its arguments kept and its counters at zero. -/
theorem residLnReferenceIdeal_frame : Cert.quiescent_ResidLnReferenceIdeal (hResidLnReferenceIdeal := Cert.ResidLnReferenceIdeal.Gen.facts) :=
  fun m g _ => (θ_run Cert.ResidLnReferenceIdeal.defs _ _).mono
    (fun r h => ⟨fun c => (h c).2.2, sem_eq_zero_of_no_sems (by decide) r.2⟩) (Cert.ResidLnReferenceIdeal.Value.run (F := Ideal) m g)

/-- Every claim of the certificate. -/
theorem claim : Cert.Claim := ⟨Cert.Kernel.Gen.facts, Cert.KernelIdeal.Gen.facts, Cert.ReferenceIdeal.Gen.facts, Cert.InProj.Gen.facts, Cert.InProjIdeal.Gen.facts, Cert.InProjReferenceIdeal.Gen.facts, Cert.OutProj.Gen.facts, Cert.OutProjIdeal.Gen.facts, Cert.OutProjReferenceIdeal.Gen.facts, Cert.Experts.Gen.facts, Cert.ExpertsIdeal.Gen.facts, Cert.ExpertsReferenceIdeal.Gen.facts, Cert.QProj.Gen.facts, Cert.QProjIdeal.Gen.facts, Cert.QProjReferenceIdeal.Gen.facts, Cert.KvProj.Gen.facts, Cert.KvProjIdeal.Gen.facts, Cert.KvProjReferenceIdeal.Gen.facts, Cert.ChunkMix.Gen.facts, Cert.ChunkMixIdeal.Gen.facts, Cert.ChunkMixReferenceIdeal.Gen.facts, Cert.Adaln.Gen.facts, Cert.AdalnIdeal.Gen.facts, Cert.AdalnReferenceIdeal.Gen.facts, Cert.DftCh.Gen.facts, Cert.DftChIdeal.Gen.facts, Cert.DftChReferenceIdeal.Gen.facts, Cert.DftPos.Gen.facts, Cert.DftPosIdeal.Gen.facts, Cert.DftPosReferenceIdeal.Gen.facts, Cert.DftCtx.Gen.facts, Cert.DftCtxIdeal.Gen.facts, Cert.DftCtxReferenceIdeal.Gen.facts, Cert.Modulate.Gen.facts, Cert.ModulateIdeal.Gen.facts, Cert.ModulateReferenceIdeal.Gen.facts, Cert.ResidLn.Gen.facts, Cert.ResidLnIdeal.Gen.facts, Cert.ResidLnReferenceIdeal.Gen.facts, pre_facts, Cert.Pre_in_range.Gen.facts, queries_facts,
  fun m g _ => Cert.Kernel.Gen.frame m g,
  fun m g _ => Cert.KernelIdeal.Gen.frame m g,
  fun m g _ => Cert.KernelIdeal.Gen.frame m g,
  referenceIdeal_frame,
  fun m g _ => referenceIdeal_frame m g trivial,
  fun m g _ => Cert.InProj.Gen.frame m g,
  fun m g _ => Cert.InProjIdeal.Gen.frame m g,
  inProjReferenceIdeal_frame,
  fun m g _ => Cert.OutProj.Gen.frame m g,
  fun m g _ => Cert.OutProjIdeal.Gen.frame m g,
  outProjReferenceIdeal_frame,
  experts_frame,
  experts_ideal_frame,
  expertsReferenceIdeal_frame,
  fun m g _ => expertsReferenceIdeal_frame m g trivial,
  fun m g _ => Cert.QProj.Gen.frame m g,
  fun m g _ => Cert.QProjIdeal.Gen.frame m g,
  fun m g _ => Cert.QProjIdeal.Gen.frame m g,
  qProjReferenceIdeal_frame,
  fun m g _ => qProjReferenceIdeal_frame m g trivial,
  fun m g _ => Cert.KvProj.Gen.frame m g,
  fun m g _ => Cert.KvProjIdeal.Gen.frame m g,
  kvProjReferenceIdeal_frame,
  fun m g _ => Cert.ChunkMix.Gen.frame m g,
  fun m g _ => Cert.ChunkMixIdeal.Gen.frame m g,
  chunkMixReferenceIdeal_frame,
  fun m g _ => Cert.Adaln.Gen.frame m g,
  fun m g _ => Cert.AdalnIdeal.Gen.frame m g,
  adalnReferenceIdeal_frame,
  fun m g _ => Cert.DftCh.Gen.frame m g,
  fun m g _ => Cert.DftChIdeal.Gen.frame m g,
  dftChReferenceIdeal_frame,
  fun m g _ => Cert.DftPos.Gen.frame m g,
  fun m g _ => Cert.DftPosIdeal.Gen.frame m g,
  dftPosReferenceIdeal_frame,
  fun m g _ => Cert.DftCtx.Gen.frame m g,
  fun m g _ => Cert.DftCtxIdeal.Gen.frame m g,
  dftCtxReferenceIdeal_frame,
  fun m g _ => Cert.Modulate.Gen.frame m g,
  fun m g _ => Cert.ModulateIdeal.Gen.frame m g,
  modulateReferenceIdeal_frame,
  fun m g _ => Cert.ResidLn.Gen.frame m g,
  fun m g _ => Cert.ResidLnIdeal.Gen.frame m g,
  residLnReferenceIdeal_frame,
  trivial,
  attention_algebraic,
  trivial,
  inProj_algebraic,
  trivial,
  outProj_algebraic,
  trivial,
  experts_algebraic,
  trivial,
  qProj_algebraic,
  trivial,
  kvProj_algebraic,
  trivial,
  chunkMix_algebraic,
  trivial,
  adaln_algebraic,
  trivial,
  dftCh_algebraic,
  trivial,
  dftPos_algebraic,
  trivial,
  dftCtx_algebraic,
  trivial,
  modulate_algebraic,
  trivial,
  residLn_algebraic⟩

end Cert.Proof

end
